-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DW2 (m : (ℓ : Loc Cert.DW2.nD Cert.DW2.τ Cert.DW2.sig) → Buf (Elt Bits) ℓ) : Prop :=
  True

def Pre_DW2Ideal (m : (ℓ : Loc Cert.DW2Ideal.nD Cert.DW2Ideal.τ Cert.DW2Ideal.sig) → Buf (Elt Ideal) ℓ) : Prop :=
  True

def Pre_DW2RefIdeal (m : (ℓ : Loc Cert.DW2RefIdeal.nD Cert.DW2RefIdeal.τ Cert.DW2RefIdeal.sig) → Buf (Elt Ideal) ℓ) : Prop :=
  True

def Pre_DW1 (m : (ℓ : Loc Cert.DW1.nD Cert.DW1.τ Cert.DW1.sig) → Buf (Elt Bits) ℓ) : Prop :=
  True

def Pre_DW1Ideal (m : (ℓ : Loc Cert.DW1Ideal.nD Cert.DW1Ideal.τ Cert.DW1Ideal.sig) → Buf (Elt Ideal) ℓ) : Prop :=
  True

def Pre_DW1RefIdeal (m : (ℓ : Loc Cert.DW1RefIdeal.nD Cert.DW1RefIdeal.τ Cert.DW1RefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OutT (m : (ℓ : Loc Cert.OutT.nD Cert.OutT.τ Cert.OutT.sig) → Buf (Elt Bits) ℓ) : Prop :=
  True

def Pre_OutTIdeal (m : (ℓ : Loc Cert.OutTIdeal.nD Cert.OutTIdeal.τ Cert.OutTIdeal.sig) → Buf (Elt Ideal) ℓ) : Prop :=
  True

def Pre_OutTRefIdeal (m : (ℓ : Loc Cert.OutTRefIdeal.nD Cert.OutTRefIdeal.τ Cert.OutTRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_EvDWIn (m : (ℓ : Loc Cert.EvDWIn.nD Cert.EvDWIn.τ Cert.EvDWIn.sig) → Buf (Elt Bits) ℓ) : Prop :=
  True

def Pre_EvDWInIdeal (m : (ℓ : Loc Cert.EvDWInIdeal.nD Cert.EvDWInIdeal.τ Cert.EvDWInIdeal.sig) → Buf (Elt Ideal) ℓ) : Prop :=
  True

def Pre_EvDWInRefIdeal (m : (ℓ : Loc Cert.EvDWInRefIdeal.nD Cert.EvDWInRefIdeal.τ Cert.EvDWInRefIdeal.sig) → Buf (Elt Ideal) ℓ) : Prop :=
  True

def Pre_OdDWIn (m : (ℓ : Loc Cert.OdDWIn.nD Cert.OdDWIn.τ Cert.OdDWIn.sig) → Buf (Elt Bits) ℓ) : Prop :=
  True

def Pre_OdDWInIdeal (m : (ℓ : Loc Cert.OdDWInIdeal.nD Cert.OdDWInIdeal.τ Cert.OdDWInIdeal.sig) → Buf (Elt Ideal) ℓ) : Prop :=
  True

def Pre_OdDWInRefIdeal (m : (ℓ : Loc Cert.OdDWInRefIdeal.nD Cert.OdDWInRefIdeal.τ Cert.OdDWInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_DNorm (m : (ℓ : Loc Cert.DNorm.nD Cert.DNorm.τ Cert.DNorm.sig) → Buf (Elt Bits) ℓ) : Prop :=
  True

def Pre_DNormIdeal (m : (ℓ : Loc Cert.DNormIdeal.nD Cert.DNormIdeal.τ Cert.DNormIdeal.sig) → Buf (Elt Ideal) ℓ) : Prop :=
  True

def Pre_DNormRefIdeal (m : (ℓ : Loc Cert.DNormRefIdeal.nD Cert.DNormRefIdeal.τ Cert.DNormRefIdeal.sig) → Buf (Elt Ideal) ℓ) : Prop :=
  True

def Pre_EvInT (m : (ℓ : Loc Cert.EvInT.nD Cert.EvInT.τ Cert.EvInT.sig) → Buf (Elt Bits) ℓ) : Prop :=
  True

def Pre_EvInTIdeal (m : (ℓ : Loc Cert.EvInTIdeal.nD Cert.EvInTIdeal.τ Cert.EvInTIdeal.sig) → Buf (Elt Ideal) ℓ) : Prop :=
  True

def Pre_EvInTRefIdeal (m : (ℓ : Loc Cert.EvInTRefIdeal.nD Cert.EvInTRefIdeal.τ Cert.EvInTRefIdeal.sig) → Buf (Elt Ideal) ℓ) : Prop :=
  True

def Pre_OdInT (m : (ℓ : Loc Cert.OdInT.nD Cert.OdInT.τ Cert.OdInT.sig) → Buf (Elt Bits) ℓ) : Prop :=
  True

def Pre_OdInTIdeal (m : (ℓ : Loc Cert.OdInTIdeal.nD Cert.OdInTIdeal.τ Cert.OdInTIdeal.sig) → Buf (Elt Ideal) ℓ) : Prop :=
  True

def Pre_OdInTRefIdeal (m : (ℓ : Loc Cert.OdInTRefIdeal.nD Cert.OdInTRefIdeal.τ Cert.OdInTRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_OdInRefIdeal (m : (ℓ : Loc Cert.OdInRefIdeal.nD Cert.OdInRefIdeal.τ Cert.OdInRefIdeal.sig) → Buf (Elt Ideal) ℓ) : Prop :=
  True

def Pre_OptOut (m : (ℓ : Loc Cert.OptOut.nD Cert.OptOut.τ Cert.OptOut.sig) → Buf (Elt Bits) ℓ) : Prop :=
  True

def Pre_OptOutIdeal (m : (ℓ : Loc Cert.OptOutIdeal.nD Cert.OptOutIdeal.τ Cert.OptOutIdeal.sig) → Buf (Elt Ideal) ℓ) : Prop :=
  True

def Pre_OptOutRefIdeal (m : (ℓ : Loc Cert.OptOutRefIdeal.nD Cert.OptOutRefIdeal.τ Cert.OptOutRefIdeal.sig) → Buf (Elt Ideal) ℓ) : Prop :=
  True

def Pre_OptEvIn (m : (ℓ : Loc Cert.OptEvIn.nD Cert.OptEvIn.τ Cert.OptEvIn.sig) → Buf (Elt Bits) ℓ) : Prop :=
  True

def Pre_OptEvInIdeal (m : (ℓ : Loc Cert.OptEvInIdeal.nD Cert.OptEvInIdeal.τ Cert.OptEvInIdeal.sig) → Buf (Elt Ideal) ℓ) : Prop :=
  True

def Pre_OptEvInRefIdeal (m : (ℓ : Loc Cert.OptEvInRefIdeal.nD Cert.OptEvInRefIdeal.τ Cert.OptEvInRefIdeal.sig) → Buf (Elt Ideal) ℓ) : Prop :=
  True

def Pre_OptOdIn (m : (ℓ : Loc Cert.OptOdIn.nD Cert.OptOdIn.τ Cert.OptOdIn.sig) → Buf (Elt Bits) ℓ) : Prop :=
  True

def Pre_OptOdInIdeal (m : (ℓ : Loc Cert.OptOdInIdeal.nD Cert.OptOdInIdeal.τ Cert.OptOdInIdeal.sig) → Buf (Elt Ideal) ℓ) : Prop :=
  True

def Pre_OptOdInRefIdeal (m : (ℓ : Loc Cert.OptOdInRefIdeal.nD Cert.OptOdInRefIdeal.τ Cert.OptOdInRefIdeal.sig) → Buf (Elt Ideal) ℓ) : Prop :=
  True

def Pre_OptW1 (m : (ℓ : Loc Cert.OptW1.nD Cert.OptW1.τ Cert.OptW1.sig) → Buf (Elt Bits) ℓ) : Prop :=
  True

def Pre_OptW1Ideal (m : (ℓ : Loc Cert.OptW1Ideal.nD Cert.OptW1Ideal.τ Cert.OptW1Ideal.sig) → Buf (Elt Ideal) ℓ) : Prop :=
  True

def Pre_OptW1RefIdeal (m : (ℓ : Loc Cert.OptW1RefIdeal.nD Cert.OptW1RefIdeal.τ Cert.OptW1RefIdeal.sig) → Buf (Elt Ideal) ℓ) : Prop :=
  True

def Pre_OptW2 (m : (ℓ : Loc Cert.OptW2.nD Cert.OptW2.τ Cert.OptW2.sig) → Buf (Elt Bits) ℓ) : Prop :=
  True

def Pre_OptW2Ideal (m : (ℓ : Loc Cert.OptW2Ideal.nD Cert.OptW2Ideal.τ Cert.OptW2Ideal.sig) → Buf (Elt Ideal) ℓ) : Prop :=
  True

def Pre_OptW2RefIdeal (m : (ℓ : Loc Cert.OptW2RefIdeal.nD Cert.OptW2RefIdeal.τ Cert.OptW2RefIdeal.sig) → Buf (Elt Ideal) ℓ) : Prop :=
  True

def Pre_OptSmall (m : (ℓ : Loc Cert.OptSmall.nD Cert.OptSmall.τ Cert.OptSmall.sig) → Buf (Elt Bits) ℓ) : Prop :=
  True

def Pre_OptSmallIdeal (m : (ℓ : Loc Cert.OptSmallIdeal.nD Cert.OptSmallIdeal.τ Cert.OptSmallIdeal.sig) → Buf (Elt Ideal) ℓ) : Prop :=
  True

def Pre_OptSmallRefIdeal (m : (ℓ : Loc Cert.OptSmallRefIdeal.nD Cert.OptSmallRefIdeal.τ Cert.OptSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_LbFwd (m : (ℓ : Loc Cert.LbFwd.nD Cert.LbFwd.τ Cert.LbFwd.sig) → Buf (Elt Bits) ℓ) : Prop :=
  True

def Pre_LbFwdIdeal (m : (ℓ : Loc Cert.LbFwdIdeal.nD Cert.LbFwdIdeal.τ Cert.LbFwdIdeal.sig) → Buf (Elt Ideal) ℓ) : Prop :=
  True

def Pre_LbFwdRefIdeal (m : (ℓ : Loc Cert.LbFwdRefIdeal.nD Cert.LbFwdRefIdeal.τ Cert.LbFwdRefIdeal.sig) → Buf (Elt Ideal) ℓ) : Prop :=
  True

def Pre_LbBwd (m : (ℓ : Loc Cert.LbBwd.nD Cert.LbBwd.τ Cert.LbBwd.sig) → Buf (Elt Bits) ℓ) : Prop :=
  True

def Pre_LbBwdIdeal (m : (ℓ : Loc Cert.LbBwdIdeal.nD Cert.LbBwdIdeal.τ Cert.LbBwdIdeal.sig) → Buf (Elt Ideal) ℓ) : Prop :=
  True

def Pre_LbBwdRefIdeal (m : (ℓ : Loc Cert.LbBwdRefIdeal.nD Cert.LbBwdRefIdeal.τ Cert.LbBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_DW2 [hDW2 : Cert.DW2.Facts] : Prop :=
  ∀ (m : (ℓ : Loc Cert.DW2.nD Cert.DW2.τ Cert.DW2.sig) → Buf (Elt Bits) ℓ) (g : Dev Cert.DW2.nD → PrngReg), Pre_DW2 m →
    θ_run (Cert.DW2.defs (F := Bits)) (onTc (τ := Cert.DW2.τ) (Cert.DW2.main (F := Bits))) ⟨m, fun _ => 0, g⟩ (fun r => (∀ c : Dev Cert.DW2.nD,
      r.2.mem ((c.tc : Thread Cert.DW2.nD Cert.DW2.τ).loc Cert.DW2.main_arg0) = m ((c.tc : Thread Cert.DW2.nD Cert.DW2.τ).loc Cert.DW2.main_arg0)
      ∧ r.2.mem ((c.tc : Thread Cert.DW2.nD Cert.DW2.τ).loc Cert.DW2.main_arg1) = m ((c.tc : Thread Cert.DW2.nD Cert.DW2.τ).loc Cert.DW2.main_arg1))
      ∧ r.2.sem = fun _ => 0)

def quiescent_DW2Ideal [hDW2Ideal : Cert.DW2Ideal.Facts] : Prop :=
  ∀ (m : (ℓ : Loc Cert.DW2Ideal.nD Cert.DW2Ideal.τ Cert.DW2Ideal.sig) → Buf (Elt Ideal) ℓ) (g : Dev Cert.DW2Ideal.nD → PrngReg), Pre_DW2Ideal m →
    θ_run (Cert.DW2Ideal.defs (F := Ideal)) (onTc (τ := Cert.DW2Ideal.τ) (Cert.DW2Ideal.main (F := Ideal))) ⟨m, fun _ => 0, g⟩ (fun r => (∀ c : Dev Cert.DW2Ideal.nD,
      r.2.mem ((c.tc : Thread Cert.DW2Ideal.nD Cert.DW2Ideal.τ).loc Cert.DW2Ideal.main_arg0) = m ((c.tc : Thread Cert.DW2Ideal.nD Cert.DW2Ideal.τ).loc Cert.DW2Ideal.main_arg0)
      ∧ r.2.mem ((c.tc : Thread Cert.DW2Ideal.nD Cert.DW2Ideal.τ).loc Cert.DW2Ideal.main_arg1) = m ((c.tc : Thread Cert.DW2Ideal.nD Cert.DW2Ideal.τ).loc Cert.DW2Ideal.main_arg1))
      ∧ r.2.sem = fun _ => 0)

def quiescent_DW2RefIdeal [hDW2RefIdeal : Cert.DW2RefIdeal.Facts] : Prop :=
  ∀ (m : (ℓ : Loc Cert.DW2RefIdeal.nD Cert.DW2RefIdeal.τ Cert.DW2RefIdeal.sig) → Buf (Elt Ideal) ℓ) (g : Dev Cert.DW2RefIdeal.nD → PrngReg), Pre_DW2RefIdeal m →
    θ_run (Cert.DW2RefIdeal.defs (F := Ideal)) (onTc (τ := Cert.DW2RefIdeal.τ) (Cert.DW2RefIdeal.main (F := Ideal))) ⟨m, fun _ => 0, g⟩ (fun r => (∀ c : Dev Cert.DW2RefIdeal.nD,
      r.2.mem ((c.tc : Thread Cert.DW2RefIdeal.nD Cert.DW2RefIdeal.τ).loc Cert.DW2RefIdeal.main_arg0) = m ((c.tc : Thread Cert.DW2RefIdeal.nD Cert.DW2RefIdeal.τ).loc Cert.DW2RefIdeal.main_arg0)
      ∧ r.2.mem ((c.tc : Thread Cert.DW2RefIdeal.nD Cert.DW2RefIdeal.τ).loc Cert.DW2RefIdeal.main_arg1) = m ((c.tc : Thread Cert.DW2RefIdeal.nD Cert.DW2RefIdeal.τ).loc Cert.DW2RefIdeal.main_arg1))
      ∧ r.2.sem = fun _ => 0)

def quiescent_DW1 [hDW1 : Cert.DW1.Facts] : Prop :=
  ∀ (m : (ℓ : Loc Cert.DW1.nD Cert.DW1.τ Cert.DW1.sig) → Buf (Elt Bits) ℓ) (g : Dev Cert.DW1.nD → PrngReg), Pre_DW1 m →
    θ_run (Cert.DW1.defs (F := Bits)) (onTc (τ := Cert.DW1.τ) (Cert.DW1.main (F := Bits))) ⟨m, fun _ => 0, g⟩ (fun r => (∀ c : Dev Cert.DW1.nD,
      r.2.mem ((c.tc : Thread Cert.DW1.nD Cert.DW1.τ).loc Cert.DW1.main_arg0) = m ((c.tc : Thread Cert.DW1.nD Cert.DW1.τ).loc Cert.DW1.main_arg0)
      ∧ r.2.mem ((c.tc : Thread Cert.DW1.nD Cert.DW1.τ).loc Cert.DW1.main_arg1) = m ((c.tc : Thread Cert.DW1.nD Cert.DW1.τ).loc Cert.DW1.main_arg1)
      ∧ r.2.mem ((c.tc : Thread Cert.DW1.nD Cert.DW1.τ).loc Cert.DW1.main_arg2) = m ((c.tc : Thread Cert.DW1.nD Cert.DW1.τ).loc Cert.DW1.main_arg2))
      ∧ r.2.sem = fun _ => 0)

def quiescent_DW1Ideal [hDW1Ideal : Cert.DW1Ideal.Facts] : Prop :=
  ∀ (m : (ℓ : Loc Cert.DW1Ideal.nD Cert.DW1Ideal.τ Cert.DW1Ideal.sig) → Buf (Elt Ideal) ℓ) (g : Dev Cert.DW1Ideal.nD → PrngReg), Pre_DW1Ideal m →
    θ_run (Cert.DW1Ideal.defs (F := Ideal)) (onTc (τ := Cert.DW1Ideal.τ) (Cert.DW1Ideal.main (F := Ideal))) ⟨m, fun _ => 0, g⟩ (fun r => (∀ c : Dev Cert.DW1Ideal.nD,
      r.2.mem ((c.tc : Thread Cert.DW1Ideal.nD Cert.DW1Ideal.τ).loc Cert.DW1Ideal.main_arg0) = m ((c.tc : Thread Cert.DW1Ideal.nD Cert.DW1Ideal.τ).loc Cert.DW1Ideal.main_arg0)
      ∧ r.2.mem ((c.tc : Thread Cert.DW1Ideal.nD Cert.DW1Ideal.τ).loc Cert.DW1Ideal.main_arg1) = m ((c.tc : Thread Cert.DW1Ideal.nD Cert.DW1Ideal.τ).loc Cert.DW1Ideal.main_arg1)
      ∧ r.2.mem ((c.tc : Thread Cert.DW1Ideal.nD Cert.DW1Ideal.τ).loc Cert.DW1Ideal.main_arg2) = m ((c.tc : Thread Cert.DW1Ideal.nD Cert.DW1Ideal.τ).loc Cert.DW1Ideal.main_arg2))
      ∧ r.2.sem = fun _ => 0)

def quiescent_DW1RefIdeal [hDW1RefIdeal : Cert.DW1RefIdeal.Facts] : Prop :=
  ∀ (m : (ℓ : Loc Cert.DW1RefIdeal.nD Cert.DW1RefIdeal.τ Cert.DW1RefIdeal.sig) → Buf (Elt Ideal) ℓ) (g : Dev Cert.DW1RefIdeal.nD → PrngReg), Pre_DW1RefIdeal m →
    θ_run (Cert.DW1RefIdeal.defs (F := Ideal)) (onTc (τ := Cert.DW1RefIdeal.τ) (Cert.DW1RefIdeal.main (F := Ideal))) ⟨m, fun _ => 0, g⟩ (fun r => (∀ c : Dev Cert.DW1RefIdeal.nD,
      r.2.mem ((c.tc : Thread Cert.DW1RefIdeal.nD Cert.DW1RefIdeal.τ).loc Cert.DW1RefIdeal.main_arg0) = m ((c.tc : Thread Cert.DW1RefIdeal.nD Cert.DW1RefIdeal.τ).loc Cert.DW1RefIdeal.main_arg0)
      ∧ r.2.mem ((c.tc : Thread Cert.DW1RefIdeal.nD Cert.DW1RefIdeal.τ).loc Cert.DW1RefIdeal.main_arg1) = m ((c.tc : Thread Cert.DW1RefIdeal.nD Cert.DW1RefIdeal.τ).loc Cert.DW1RefIdeal.main_arg1)
      ∧ r.2.mem ((c.tc : Thread Cert.DW1RefIdeal.nD Cert.DW1RefIdeal.τ).loc Cert.DW1RefIdeal.main_arg2) = m ((c.tc : Thread Cert.DW1RefIdeal.nD Cert.DW1RefIdeal.τ).loc Cert.DW1RefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_OutT [hOutT : Cert.OutT.Facts] : Prop :=
  ∀ (m : (ℓ : Loc Cert.OutT.nD Cert.OutT.τ Cert.OutT.sig) → Buf (Elt Bits) ℓ) (g : Dev Cert.OutT.nD → PrngReg), Pre_OutT m →
    θ_run (Cert.OutT.defs (F := Bits)) (onTc (τ := Cert.OutT.τ) (Cert.OutT.main (F := Bits))) ⟨m, fun _ => 0, g⟩ (fun r => (∀ c : Dev Cert.OutT.nD,
      r.2.mem ((c.tc : Thread Cert.OutT.nD Cert.OutT.τ).loc Cert.OutT.main_arg0) = m ((c.tc : Thread Cert.OutT.nD Cert.OutT.τ).loc Cert.OutT.main_arg0)
      ∧ r.2.mem ((c.tc : Thread Cert.OutT.nD Cert.OutT.τ).loc Cert.OutT.main_arg1) = m ((c.tc : Thread Cert.OutT.nD Cert.OutT.τ).loc Cert.OutT.main_arg1))
      ∧ r.2.sem = fun _ => 0)

def quiescent_OutTIdeal [hOutTIdeal : Cert.OutTIdeal.Facts] : Prop :=
  ∀ (m : (ℓ : Loc Cert.OutTIdeal.nD Cert.OutTIdeal.τ Cert.OutTIdeal.sig) → Buf (Elt Ideal) ℓ) (g : Dev Cert.OutTIdeal.nD → PrngReg), Pre_OutTIdeal m →
    θ_run (Cert.OutTIdeal.defs (F := Ideal)) (onTc (τ := Cert.OutTIdeal.τ) (Cert.OutTIdeal.main (F := Ideal))) ⟨m, fun _ => 0, g⟩ (fun r => (∀ c : Dev Cert.OutTIdeal.nD,
      r.2.mem ((c.tc : Thread Cert.OutTIdeal.nD Cert.OutTIdeal.τ).loc Cert.OutTIdeal.main_arg0) = m ((c.tc : Thread Cert.OutTIdeal.nD Cert.OutTIdeal.τ).loc Cert.OutTIdeal.main_arg0)
      ∧ r.2.mem ((c.tc : Thread Cert.OutTIdeal.nD Cert.OutTIdeal.τ).loc Cert.OutTIdeal.main_arg1) = m ((c.tc : Thread Cert.OutTIdeal.nD Cert.OutTIdeal.τ).loc Cert.OutTIdeal.main_arg1))
      ∧ r.2.sem = fun _ => 0)

def quiescent_OutTRefIdeal [hOutTRefIdeal : Cert.OutTRefIdeal.Facts] : Prop :=
  ∀ (m : (ℓ : Loc Cert.OutTRefIdeal.nD Cert.OutTRefIdeal.τ Cert.OutTRefIdeal.sig) → Buf (Elt Ideal) ℓ) (g : Dev Cert.OutTRefIdeal.nD → PrngReg), Pre_OutTRefIdeal m →
    θ_run (Cert.OutTRefIdeal.defs (F := Ideal)) (onTc (τ := Cert.OutTRefIdeal.τ) (Cert.OutTRefIdeal.main (F := Ideal))) ⟨m, fun _ => 0, g⟩ (fun r => (∀ c : Dev Cert.OutTRefIdeal.nD,
      r.2.mem ((c.tc : Thread Cert.OutTRefIdeal.nD Cert.OutTRefIdeal.τ).loc Cert.OutTRefIdeal.main_arg0) = m ((c.tc : Thread Cert.OutTRefIdeal.nD Cert.OutTRefIdeal.τ).loc Cert.OutTRefIdeal.main_arg0)
      ∧ r.2.mem ((c.tc : Thread Cert.OutTRefIdeal.nD Cert.OutTRefIdeal.τ).loc Cert.OutTRefIdeal.main_arg1) = m ((c.tc : Thread Cert.OutTRefIdeal.nD Cert.OutTRefIdeal.τ).loc Cert.OutTRefIdeal.main_arg1))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1))
      ∧ r.2.sem = fun _ => 0)

def quiescent_EvDWIn [hEvDWIn : Cert.EvDWIn.Facts] : Prop :=
  ∀ (m : (ℓ : Loc Cert.EvDWIn.nD Cert.EvDWIn.τ Cert.EvDWIn.sig) → Buf (Elt Bits) ℓ) (g : Dev Cert.EvDWIn.nD → PrngReg), Pre_EvDWIn m →
    θ_run (Cert.EvDWIn.defs (F := Bits)) (onTc (τ := Cert.EvDWIn.τ) (Cert.EvDWIn.main (F := Bits))) ⟨m, fun _ => 0, g⟩ (fun r => (∀ c : Dev Cert.EvDWIn.nD,
      r.2.mem ((c.tc : Thread Cert.EvDWIn.nD Cert.EvDWIn.τ).loc Cert.EvDWIn.main_arg0) = m ((c.tc : Thread Cert.EvDWIn.nD Cert.EvDWIn.τ).loc Cert.EvDWIn.main_arg0)
      ∧ r.2.mem ((c.tc : Thread Cert.EvDWIn.nD Cert.EvDWIn.τ).loc Cert.EvDWIn.main_arg1) = m ((c.tc : Thread Cert.EvDWIn.nD Cert.EvDWIn.τ).loc Cert.EvDWIn.main_arg1)
      ∧ r.2.mem ((c.tc : Thread Cert.EvDWIn.nD Cert.EvDWIn.τ).loc Cert.EvDWIn.main_arg2) = m ((c.tc : Thread Cert.EvDWIn.nD Cert.EvDWIn.τ).loc Cert.EvDWIn.main_arg2))
      ∧ r.2.sem = fun _ => 0)

def quiescent_EvDWInIdeal [hEvDWInIdeal : Cert.EvDWInIdeal.Facts] : Prop :=
  ∀ (m : (ℓ : Loc Cert.EvDWInIdeal.nD Cert.EvDWInIdeal.τ Cert.EvDWInIdeal.sig) → Buf (Elt Ideal) ℓ) (g : Dev Cert.EvDWInIdeal.nD → PrngReg), Pre_EvDWInIdeal m →
    θ_run (Cert.EvDWInIdeal.defs (F := Ideal)) (onTc (τ := Cert.EvDWInIdeal.τ) (Cert.EvDWInIdeal.main (F := Ideal))) ⟨m, fun _ => 0, g⟩ (fun r => (∀ c : Dev Cert.EvDWInIdeal.nD,
      r.2.mem ((c.tc : Thread Cert.EvDWInIdeal.nD Cert.EvDWInIdeal.τ).loc Cert.EvDWInIdeal.main_arg0) = m ((c.tc : Thread Cert.EvDWInIdeal.nD Cert.EvDWInIdeal.τ).loc Cert.EvDWInIdeal.main_arg0)
      ∧ r.2.mem ((c.tc : Thread Cert.EvDWInIdeal.nD Cert.EvDWInIdeal.τ).loc Cert.EvDWInIdeal.main_arg1) = m ((c.tc : Thread Cert.EvDWInIdeal.nD Cert.EvDWInIdeal.τ).loc Cert.EvDWInIdeal.main_arg1)
      ∧ r.2.mem ((c.tc : Thread Cert.EvDWInIdeal.nD Cert.EvDWInIdeal.τ).loc Cert.EvDWInIdeal.main_arg2) = m ((c.tc : Thread Cert.EvDWInIdeal.nD Cert.EvDWInIdeal.τ).loc Cert.EvDWInIdeal.main_arg2))
      ∧ r.2.sem = fun _ => 0)

def quiescent_EvDWInRefIdeal [hEvDWInRefIdeal : Cert.EvDWInRefIdeal.Facts] : Prop :=
  ∀ (m : (ℓ : Loc Cert.EvDWInRefIdeal.nD Cert.EvDWInRefIdeal.τ Cert.EvDWInRefIdeal.sig) → Buf (Elt Ideal) ℓ) (g : Dev Cert.EvDWInRefIdeal.nD → PrngReg), Pre_EvDWInRefIdeal m →
    θ_run (Cert.EvDWInRefIdeal.defs (F := Ideal)) (onTc (τ := Cert.EvDWInRefIdeal.τ) (Cert.EvDWInRefIdeal.main (F := Ideal))) ⟨m, fun _ => 0, g⟩ (fun r => (∀ c : Dev Cert.EvDWInRefIdeal.nD,
      r.2.mem ((c.tc : Thread Cert.EvDWInRefIdeal.nD Cert.EvDWInRefIdeal.τ).loc Cert.EvDWInRefIdeal.main_arg0) = m ((c.tc : Thread Cert.EvDWInRefIdeal.nD Cert.EvDWInRefIdeal.τ).loc Cert.EvDWInRefIdeal.main_arg0)
      ∧ r.2.mem ((c.tc : Thread Cert.EvDWInRefIdeal.nD Cert.EvDWInRefIdeal.τ).loc Cert.EvDWInRefIdeal.main_arg1) = m ((c.tc : Thread Cert.EvDWInRefIdeal.nD Cert.EvDWInRefIdeal.τ).loc Cert.EvDWInRefIdeal.main_arg1)
      ∧ r.2.mem ((c.tc : Thread Cert.EvDWInRefIdeal.nD Cert.EvDWInRefIdeal.τ).loc Cert.EvDWInRefIdeal.main_arg2) = m ((c.tc : Thread Cert.EvDWInRefIdeal.nD Cert.EvDWInRefIdeal.τ).loc Cert.EvDWInRefIdeal.main_arg2))
      ∧ r.2.sem = fun _ => 0)

def quiescent_OdDWIn [hOdDWIn : Cert.OdDWIn.Facts] : Prop :=
  ∀ (m : (ℓ : Loc Cert.OdDWIn.nD Cert.OdDWIn.τ Cert.OdDWIn.sig) → Buf (Elt Bits) ℓ) (g : Dev Cert.OdDWIn.nD → PrngReg), Pre_OdDWIn m →
    θ_run (Cert.OdDWIn.defs (F := Bits)) (onTc (τ := Cert.OdDWIn.τ) (Cert.OdDWIn.main (F := Bits))) ⟨m, fun _ => 0, g⟩ (fun r => (∀ c : Dev Cert.OdDWIn.nD,
      r.2.mem ((c.tc : Thread Cert.OdDWIn.nD Cert.OdDWIn.τ).loc Cert.OdDWIn.main_arg0) = m ((c.tc : Thread Cert.OdDWIn.nD Cert.OdDWIn.τ).loc Cert.OdDWIn.main_arg0)
      ∧ r.2.mem ((c.tc : Thread Cert.OdDWIn.nD Cert.OdDWIn.τ).loc Cert.OdDWIn.main_arg1) = m ((c.tc : Thread Cert.OdDWIn.nD Cert.OdDWIn.τ).loc Cert.OdDWIn.main_arg1)
      ∧ r.2.mem ((c.tc : Thread Cert.OdDWIn.nD Cert.OdDWIn.τ).loc Cert.OdDWIn.main_arg2) = m ((c.tc : Thread Cert.OdDWIn.nD Cert.OdDWIn.τ).loc Cert.OdDWIn.main_arg2))
      ∧ r.2.sem = fun _ => 0)

def quiescent_OdDWInIdeal [hOdDWInIdeal : Cert.OdDWInIdeal.Facts] : Prop :=
  ∀ (m : (ℓ : Loc Cert.OdDWInIdeal.nD Cert.OdDWInIdeal.τ Cert.OdDWInIdeal.sig) → Buf (Elt Ideal) ℓ) (g : Dev Cert.OdDWInIdeal.nD → PrngReg), Pre_OdDWInIdeal m →
    θ_run (Cert.OdDWInIdeal.defs (F := Ideal)) (onTc (τ := Cert.OdDWInIdeal.τ) (Cert.OdDWInIdeal.main (F := Ideal))) ⟨m, fun _ => 0, g⟩ (fun r => (∀ c : Dev Cert.OdDWInIdeal.nD,
      r.2.mem ((c.tc : Thread Cert.OdDWInIdeal.nD Cert.OdDWInIdeal.τ).loc Cert.OdDWInIdeal.main_arg0) = m ((c.tc : Thread Cert.OdDWInIdeal.nD Cert.OdDWInIdeal.τ).loc Cert.OdDWInIdeal.main_arg0)
      ∧ r.2.mem ((c.tc : Thread Cert.OdDWInIdeal.nD Cert.OdDWInIdeal.τ).loc Cert.OdDWInIdeal.main_arg1) = m ((c.tc : Thread Cert.OdDWInIdeal.nD Cert.OdDWInIdeal.τ).loc Cert.OdDWInIdeal.main_arg1)
      ∧ r.2.mem ((c.tc : Thread Cert.OdDWInIdeal.nD Cert.OdDWInIdeal.τ).loc Cert.OdDWInIdeal.main_arg2) = m ((c.tc : Thread Cert.OdDWInIdeal.nD Cert.OdDWInIdeal.τ).loc Cert.OdDWInIdeal.main_arg2))
      ∧ r.2.sem = fun _ => 0)

def quiescent_OdDWInRefIdeal [hOdDWInRefIdeal : Cert.OdDWInRefIdeal.Facts] : Prop :=
  ∀ (m : (ℓ : Loc Cert.OdDWInRefIdeal.nD Cert.OdDWInRefIdeal.τ Cert.OdDWInRefIdeal.sig) → Buf (Elt Ideal) ℓ) (g : Dev Cert.OdDWInRefIdeal.nD → PrngReg), Pre_OdDWInRefIdeal m →
    θ_run (Cert.OdDWInRefIdeal.defs (F := Ideal)) (onTc (τ := Cert.OdDWInRefIdeal.τ) (Cert.OdDWInRefIdeal.main (F := Ideal))) ⟨m, fun _ => 0, g⟩ (fun r => (∀ c : Dev Cert.OdDWInRefIdeal.nD,
      r.2.mem ((c.tc : Thread Cert.OdDWInRefIdeal.nD Cert.OdDWInRefIdeal.τ).loc Cert.OdDWInRefIdeal.main_arg0) = m ((c.tc : Thread Cert.OdDWInRefIdeal.nD Cert.OdDWInRefIdeal.τ).loc Cert.OdDWInRefIdeal.main_arg0)
      ∧ r.2.mem ((c.tc : Thread Cert.OdDWInRefIdeal.nD Cert.OdDWInRefIdeal.τ).loc Cert.OdDWInRefIdeal.main_arg1) = m ((c.tc : Thread Cert.OdDWInRefIdeal.nD Cert.OdDWInRefIdeal.τ).loc Cert.OdDWInRefIdeal.main_arg1)
      ∧ r.2.mem ((c.tc : Thread Cert.OdDWInRefIdeal.nD Cert.OdDWInRefIdeal.τ).loc Cert.OdDWInRefIdeal.main_arg2) = m ((c.tc : Thread Cert.OdDWInRefIdeal.nD Cert.OdDWInRefIdeal.τ).loc Cert.OdDWInRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_DNorm [hDNorm : Cert.DNorm.Facts] : Prop :=
  ∀ (m : (ℓ : Loc Cert.DNorm.nD Cert.DNorm.τ Cert.DNorm.sig) → Buf (Elt Bits) ℓ) (g : Dev Cert.DNorm.nD → PrngReg), Pre_DNorm m →
    θ_run (Cert.DNorm.defs (F := Bits)) (onTc (τ := Cert.DNorm.τ) (Cert.DNorm.main (F := Bits))) ⟨m, fun _ => 0, g⟩ (fun r => (∀ c : Dev Cert.DNorm.nD,
      r.2.mem ((c.tc : Thread Cert.DNorm.nD Cert.DNorm.τ).loc Cert.DNorm.main_arg0) = m ((c.tc : Thread Cert.DNorm.nD Cert.DNorm.τ).loc Cert.DNorm.main_arg0)
      ∧ r.2.mem ((c.tc : Thread Cert.DNorm.nD Cert.DNorm.τ).loc Cert.DNorm.main_arg1) = m ((c.tc : Thread Cert.DNorm.nD Cert.DNorm.τ).loc Cert.DNorm.main_arg1)
      ∧ r.2.mem ((c.tc : Thread Cert.DNorm.nD Cert.DNorm.τ).loc Cert.DNorm.main_arg2) = m ((c.tc : Thread Cert.DNorm.nD Cert.DNorm.τ).loc Cert.DNorm.main_arg2)
      ∧ r.2.mem ((c.tc : Thread Cert.DNorm.nD Cert.DNorm.τ).loc Cert.DNorm.main_arg3) = m ((c.tc : Thread Cert.DNorm.nD Cert.DNorm.τ).loc Cert.DNorm.main_arg3)
      ∧ r.2.mem ((c.tc : Thread Cert.DNorm.nD Cert.DNorm.τ).loc Cert.DNorm.main_arg4) = m ((c.tc : Thread Cert.DNorm.nD Cert.DNorm.τ).loc Cert.DNorm.main_arg4))
      ∧ r.2.sem = fun _ => 0)

def quiescent_DNormIdeal [hDNormIdeal : Cert.DNormIdeal.Facts] : Prop :=
  ∀ (m : (ℓ : Loc Cert.DNormIdeal.nD Cert.DNormIdeal.τ Cert.DNormIdeal.sig) → Buf (Elt Ideal) ℓ) (g : Dev Cert.DNormIdeal.nD → PrngReg), Pre_DNormIdeal m →
    θ_run (Cert.DNormIdeal.defs (F := Ideal)) (onTc (τ := Cert.DNormIdeal.τ) (Cert.DNormIdeal.main (F := Ideal))) ⟨m, fun _ => 0, g⟩ (fun r => (∀ c : Dev Cert.DNormIdeal.nD,
      r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
      ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1)
      ∧ r.2.mem ((c.tc : Thread Cert.DNormIdeal.nD Cert.DNormIdeal.τ).loc Cert.DNormIdeal.main_arg2) = m ((c.tc : Thread Cert.DNormIdeal.nD Cert.DNormIdeal.τ).loc Cert.DNormIdeal.main_arg2)
      ∧ r.2.mem ((c.tc : Thread Cert.DNormIdeal.nD Cert.DNormIdeal.τ).loc Cert.DNormIdeal.main_arg3) = m ((c.tc : Thread Cert.DNormIdeal.nD Cert.DNormIdeal.τ).loc Cert.DNormIdeal.main_arg3)
      ∧ r.2.mem ((c.tc : Thread Cert.DNormIdeal.nD Cert.DNormIdeal.τ).loc Cert.DNormIdeal.main_arg4) = m ((c.tc : Thread Cert.DNormIdeal.nD Cert.DNormIdeal.τ).loc Cert.DNormIdeal.main_arg4))
      ∧ r.2.sem = fun _ => 0)

def quiescent_DNormRefIdeal [hDNormRefIdeal : Cert.DNormRefIdeal.Facts] : Prop :=
  ∀ (m : (ℓ : Loc Cert.DNormRefIdeal.nD Cert.DNormRefIdeal.τ Cert.DNormRefIdeal.sig) → Buf (Elt Ideal) ℓ) (g : Dev Cert.DNormRefIdeal.nD → PrngReg), Pre_DNormRefIdeal m →
    θ_run (Cert.DNormRefIdeal.defs (F := Ideal)) (onTc (τ := Cert.DNormRefIdeal.τ) (Cert.DNormRefIdeal.main (F := Ideal))) ⟨m, fun _ => 0, g⟩ (fun r => (∀ c : Dev Cert.DNormRefIdeal.nD,
      r.2.mem ((c.tc : Thread Cert.DNormRefIdeal.nD Cert.DNormRefIdeal.τ).loc Cert.DNormRefIdeal.main_arg0) = m ((c.tc : Thread Cert.DNormRefIdeal.nD Cert.DNormRefIdeal.τ).loc Cert.DNormRefIdeal.main_arg0)
      ∧ r.2.mem ((c.tc : Thread Cert.DNormRefIdeal.nD Cert.DNormRefIdeal.τ).loc Cert.DNormRefIdeal.main_arg1) = m ((c.tc : Thread Cert.DNormRefIdeal.nD Cert.DNormRefIdeal.τ).loc Cert.DNormRefIdeal.main_arg1)
      ∧ r.2.mem ((c.tc : Thread Cert.DNormRefIdeal.nD Cert.DNormRefIdeal.τ).loc Cert.DNormRefIdeal.main_arg2) = m ((c.tc : Thread Cert.DNormRefIdeal.nD Cert.DNormRefIdeal.τ).loc Cert.DNormRefIdeal.main_arg2)
      ∧ r.2.mem ((c.tc : Thread Cert.DNormRefIdeal.nD Cert.DNormRefIdeal.τ).loc Cert.DNormRefIdeal.main_arg3) = m ((c.tc : Thread Cert.DNormRefIdeal.nD Cert.DNormRefIdeal.τ).loc Cert.DNormRefIdeal.main_arg3)
      ∧ r.2.mem ((c.tc : Thread Cert.DNormRefIdeal.nD Cert.DNormRefIdeal.τ).loc Cert.DNormRefIdeal.main_arg4) = m ((c.tc : Thread Cert.DNormRefIdeal.nD Cert.DNormRefIdeal.τ).loc Cert.DNormRefIdeal.main_arg4))
      ∧ r.2.sem = fun _ => 0)

def quiescent_EvInT [hEvInT : Cert.EvInT.Facts] : Prop :=
  ∀ (m : (ℓ : Loc Cert.EvInT.nD Cert.EvInT.τ Cert.EvInT.sig) → Buf (Elt Bits) ℓ) (g : Dev Cert.EvInT.nD → PrngReg), Pre_EvInT m →
    θ_run (Cert.EvInT.defs (F := Bits)) (onTc (τ := Cert.EvInT.τ) (Cert.EvInT.main (F := Bits))) ⟨m, fun _ => 0, g⟩ (fun r => (∀ c : Dev Cert.EvInT.nD,
      r.2.mem ((c.tc : Thread Cert.EvInT.nD Cert.EvInT.τ).loc Cert.EvInT.main_arg0) = m ((c.tc : Thread Cert.EvInT.nD Cert.EvInT.τ).loc Cert.EvInT.main_arg0)
      ∧ r.2.mem ((c.tc : Thread Cert.EvInT.nD Cert.EvInT.τ).loc Cert.EvInT.main_arg1) = m ((c.tc : Thread Cert.EvInT.nD Cert.EvInT.τ).loc Cert.EvInT.main_arg1)
      ∧ r.2.mem ((c.tc : Thread Cert.EvInT.nD Cert.EvInT.τ).loc Cert.EvInT.main_arg2) = m ((c.tc : Thread Cert.EvInT.nD Cert.EvInT.τ).loc Cert.EvInT.main_arg2)
      ∧ r.2.mem ((c.tc : Thread Cert.EvInT.nD Cert.EvInT.τ).loc Cert.EvInT.main_arg3) = m ((c.tc : Thread Cert.EvInT.nD Cert.EvInT.τ).loc Cert.EvInT.main_arg3)
      ∧ r.2.mem ((c.tc : Thread Cert.EvInT.nD Cert.EvInT.τ).loc Cert.EvInT.main_arg4) = m ((c.tc : Thread Cert.EvInT.nD Cert.EvInT.τ).loc Cert.EvInT.main_arg4))
      ∧ r.2.sem = fun _ => 0)

def quiescent_EvInTIdeal [hEvInTIdeal : Cert.EvInTIdeal.Facts] : Prop :=
  ∀ (m : (ℓ : Loc Cert.EvInTIdeal.nD Cert.EvInTIdeal.τ Cert.EvInTIdeal.sig) → Buf (Elt Ideal) ℓ) (g : Dev Cert.EvInTIdeal.nD → PrngReg), Pre_EvInTIdeal m →
    θ_run (Cert.EvInTIdeal.defs (F := Ideal)) (onTc (τ := Cert.EvInTIdeal.τ) (Cert.EvInTIdeal.main (F := Ideal))) ⟨m, fun _ => 0, g⟩ (fun r => (∀ c : Dev Cert.EvInTIdeal.nD,
      r.2.mem ((c.tc : Thread Cert.EvInTIdeal.nD Cert.EvInTIdeal.τ).loc Cert.EvInTIdeal.main_arg0) = m ((c.tc : Thread Cert.EvInTIdeal.nD Cert.EvInTIdeal.τ).loc Cert.EvInTIdeal.main_arg0)
      ∧ r.2.mem ((c.tc : Thread Cert.EvInTIdeal.nD Cert.EvInTIdeal.τ).loc Cert.EvInTIdeal.main_arg1) = m ((c.tc : Thread Cert.EvInTIdeal.nD Cert.EvInTIdeal.τ).loc Cert.EvInTIdeal.main_arg1)
      ∧ r.2.mem ((c.tc : Thread Cert.EvInTIdeal.nD Cert.EvInTIdeal.τ).loc Cert.EvInTIdeal.main_arg2) = m ((c.tc : Thread Cert.EvInTIdeal.nD Cert.EvInTIdeal.τ).loc Cert.EvInTIdeal.main_arg2)
      ∧ r.2.mem ((c.tc : Thread Cert.EvInTIdeal.nD Cert.EvInTIdeal.τ).loc Cert.EvInTIdeal.main_arg3) = m ((c.tc : Thread Cert.EvInTIdeal.nD Cert.EvInTIdeal.τ).loc Cert.EvInTIdeal.main_arg3)
      ∧ r.2.mem ((c.tc : Thread Cert.EvInTIdeal.nD Cert.EvInTIdeal.τ).loc Cert.EvInTIdeal.main_arg4) = m ((c.tc : Thread Cert.EvInTIdeal.nD Cert.EvInTIdeal.τ).loc Cert.EvInTIdeal.main_arg4))
      ∧ r.2.sem = fun _ => 0)

def quiescent_EvInTRefIdeal [hEvInTRefIdeal : Cert.EvInTRefIdeal.Facts] : Prop :=
  ∀ (m : (ℓ : Loc Cert.EvInTRefIdeal.nD Cert.EvInTRefIdeal.τ Cert.EvInTRefIdeal.sig) → Buf (Elt Ideal) ℓ) (g : Dev Cert.EvInTRefIdeal.nD → PrngReg), Pre_EvInTRefIdeal m →
    θ_run (Cert.EvInTRefIdeal.defs (F := Ideal)) (onTc (τ := Cert.EvInTRefIdeal.τ) (Cert.EvInTRefIdeal.main (F := Ideal))) ⟨m, fun _ => 0, g⟩ (fun r => (∀ c : Dev Cert.EvInTRefIdeal.nD,
      r.2.mem ((c.tc : Thread Cert.EvInTRefIdeal.nD Cert.EvInTRefIdeal.τ).loc Cert.EvInTRefIdeal.main_arg0) = m ((c.tc : Thread Cert.EvInTRefIdeal.nD Cert.EvInTRefIdeal.τ).loc Cert.EvInTRefIdeal.main_arg0)
      ∧ r.2.mem ((c.tc : Thread Cert.EvInTRefIdeal.nD Cert.EvInTRefIdeal.τ).loc Cert.EvInTRefIdeal.main_arg1) = m ((c.tc : Thread Cert.EvInTRefIdeal.nD Cert.EvInTRefIdeal.τ).loc Cert.EvInTRefIdeal.main_arg1)
      ∧ r.2.mem ((c.tc : Thread Cert.EvInTRefIdeal.nD Cert.EvInTRefIdeal.τ).loc Cert.EvInTRefIdeal.main_arg2) = m ((c.tc : Thread Cert.EvInTRefIdeal.nD Cert.EvInTRefIdeal.τ).loc Cert.EvInTRefIdeal.main_arg2)
      ∧ r.2.mem ((c.tc : Thread Cert.EvInTRefIdeal.nD Cert.EvInTRefIdeal.τ).loc Cert.EvInTRefIdeal.main_arg3) = m ((c.tc : Thread Cert.EvInTRefIdeal.nD Cert.EvInTRefIdeal.τ).loc Cert.EvInTRefIdeal.main_arg3)
      ∧ r.2.mem ((c.tc : Thread Cert.EvInTRefIdeal.nD Cert.EvInTRefIdeal.τ).loc Cert.EvInTRefIdeal.main_arg4) = m ((c.tc : Thread Cert.EvInTRefIdeal.nD Cert.EvInTRefIdeal.τ).loc Cert.EvInTRefIdeal.main_arg4))
      ∧ r.2.sem = fun _ => 0)

def quiescent_OdInT [hOdInT : Cert.OdInT.Facts] : Prop :=
  ∀ (m : (ℓ : Loc Cert.OdInT.nD Cert.OdInT.τ Cert.OdInT.sig) → Buf (Elt Bits) ℓ) (g : Dev Cert.OdInT.nD → PrngReg), Pre_OdInT m →
    θ_run (Cert.OdInT.defs (F := Bits)) (onTc (τ := Cert.OdInT.τ) (Cert.OdInT.main (F := Bits))) ⟨m, fun _ => 0, g⟩ (fun r => (∀ c : Dev Cert.OdInT.nD,
      r.2.mem ((c.tc : Thread Cert.OdInT.nD Cert.OdInT.τ).loc Cert.OdInT.main_arg0) = m ((c.tc : Thread Cert.OdInT.nD Cert.OdInT.τ).loc Cert.OdInT.main_arg0)
      ∧ r.2.mem ((c.tc : Thread Cert.OdInT.nD Cert.OdInT.τ).loc Cert.OdInT.main_arg1) = m ((c.tc : Thread Cert.OdInT.nD Cert.OdInT.τ).loc Cert.OdInT.main_arg1)
      ∧ r.2.mem ((c.tc : Thread Cert.OdInT.nD Cert.OdInT.τ).loc Cert.OdInT.main_arg2) = m ((c.tc : Thread Cert.OdInT.nD Cert.OdInT.τ).loc Cert.OdInT.main_arg2)
      ∧ r.2.mem ((c.tc : Thread Cert.OdInT.nD Cert.OdInT.τ).loc Cert.OdInT.main_arg3) = m ((c.tc : Thread Cert.OdInT.nD Cert.OdInT.τ).loc Cert.OdInT.main_arg3)
      ∧ r.2.mem ((c.tc : Thread Cert.OdInT.nD Cert.OdInT.τ).loc Cert.OdInT.main_arg4) = m ((c.tc : Thread Cert.OdInT.nD Cert.OdInT.τ).loc Cert.OdInT.main_arg4))
      ∧ r.2.sem = fun _ => 0)

def quiescent_OdInTIdeal [hOdInTIdeal : Cert.OdInTIdeal.Facts] : Prop :=
  ∀ (m : (ℓ : Loc Cert.OdInTIdeal.nD Cert.OdInTIdeal.τ Cert.OdInTIdeal.sig) → Buf (Elt Ideal) ℓ) (g : Dev Cert.OdInTIdeal.nD → PrngReg), Pre_OdInTIdeal m →
    θ_run (Cert.OdInTIdeal.defs (F := Ideal)) (onTc (τ := Cert.OdInTIdeal.τ) (Cert.OdInTIdeal.main (F := Ideal))) ⟨m, fun _ => 0, g⟩ (fun r => (∀ c : Dev Cert.OdInTIdeal.nD,
      r.2.mem ((c.tc : Thread Cert.OdInTIdeal.nD Cert.OdInTIdeal.τ).loc Cert.OdInTIdeal.main_arg0) = m ((c.tc : Thread Cert.OdInTIdeal.nD Cert.OdInTIdeal.τ).loc Cert.OdInTIdeal.main_arg0)
      ∧ r.2.mem ((c.tc : Thread Cert.OdInTIdeal.nD Cert.OdInTIdeal.τ).loc Cert.OdInTIdeal.main_arg1) = m ((c.tc : Thread Cert.OdInTIdeal.nD Cert.OdInTIdeal.τ).loc Cert.OdInTIdeal.main_arg1)
      ∧ r.2.mem ((c.tc : Thread Cert.OdInTIdeal.nD Cert.OdInTIdeal.τ).loc Cert.OdInTIdeal.main_arg2) = m ((c.tc : Thread Cert.OdInTIdeal.nD Cert.OdInTIdeal.τ).loc Cert.OdInTIdeal.main_arg2)
      ∧ r.2.mem ((c.tc : Thread Cert.OdInTIdeal.nD Cert.OdInTIdeal.τ).loc Cert.OdInTIdeal.main_arg3) = m ((c.tc : Thread Cert.OdInTIdeal.nD Cert.OdInTIdeal.τ).loc Cert.OdInTIdeal.main_arg3)
      ∧ r.2.mem ((c.tc : Thread Cert.OdInTIdeal.nD Cert.OdInTIdeal.τ).loc Cert.OdInTIdeal.main_arg4) = m ((c.tc : Thread Cert.OdInTIdeal.nD Cert.OdInTIdeal.τ).loc Cert.OdInTIdeal.main_arg4))
      ∧ r.2.sem = fun _ => 0)

def quiescent_OdInTRefIdeal [hOdInTRefIdeal : Cert.OdInTRefIdeal.Facts] : Prop :=
  ∀ (m : (ℓ : Loc Cert.OdInTRefIdeal.nD Cert.OdInTRefIdeal.τ Cert.OdInTRefIdeal.sig) → Buf (Elt Ideal) ℓ) (g : Dev Cert.OdInTRefIdeal.nD → PrngReg), Pre_OdInTRefIdeal m →
    θ_run (Cert.OdInTRefIdeal.defs (F := Ideal)) (onTc (τ := Cert.OdInTRefIdeal.τ) (Cert.OdInTRefIdeal.main (F := Ideal))) ⟨m, fun _ => 0, g⟩ (fun r => (∀ c : Dev Cert.OdInTRefIdeal.nD,
      r.2.mem ((c.tc : Thread Cert.OdInTRefIdeal.nD Cert.OdInTRefIdeal.τ).loc Cert.OdInTRefIdeal.main_arg0) = m ((c.tc : Thread Cert.OdInTRefIdeal.nD Cert.OdInTRefIdeal.τ).loc Cert.OdInTRefIdeal.main_arg0)
      ∧ r.2.mem ((c.tc : Thread Cert.OdInTRefIdeal.nD Cert.OdInTRefIdeal.τ).loc Cert.OdInTRefIdeal.main_arg1) = m ((c.tc : Thread Cert.OdInTRefIdeal.nD Cert.OdInTRefIdeal.τ).loc Cert.OdInTRefIdeal.main_arg1)
      ∧ r.2.mem ((c.tc : Thread Cert.OdInTRefIdeal.nD Cert.OdInTRefIdeal.τ).loc Cert.OdInTRefIdeal.main_arg2) = m ((c.tc : Thread Cert.OdInTRefIdeal.nD Cert.OdInTRefIdeal.τ).loc Cert.OdInTRefIdeal.main_arg2)
      ∧ r.2.mem ((c.tc : Thread Cert.OdInTRefIdeal.nD Cert.OdInTRefIdeal.τ).loc Cert.OdInTRefIdeal.main_arg3) = m ((c.tc : Thread Cert.OdInTRefIdeal.nD Cert.OdInTRefIdeal.τ).loc Cert.OdInTRefIdeal.main_arg3)
      ∧ r.2.mem ((c.tc : Thread Cert.OdInTRefIdeal.nD Cert.OdInTRefIdeal.τ).loc Cert.OdInTRefIdeal.main_arg4) = m ((c.tc : Thread Cert.OdInTRefIdeal.nD Cert.OdInTRefIdeal.τ).loc Cert.OdInTRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1)
      ∧ r.2.mem ((c.tc : Thread Cert.EvIn.nD Cert.EvIn.τ).loc Cert.EvIn.main_arg2) = m ((c.tc : Thread Cert.EvIn.nD Cert.EvIn.τ).loc Cert.EvIn.main_arg2))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1)
      ∧ r.2.mem ((c.tc : Thread Cert.EvInIdeal.nD Cert.EvInIdeal.τ).loc Cert.EvInIdeal.main_arg2) = m ((c.tc : Thread Cert.EvInIdeal.nD Cert.EvInIdeal.τ).loc Cert.EvInIdeal.main_arg2))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1)
      ∧ r.2.mem ((c.tc : Thread Cert.EvInRefIdeal.nD Cert.EvInRefIdeal.τ).loc Cert.EvInRefIdeal.main_arg2) = m ((c.tc : Thread Cert.EvInRefIdeal.nD Cert.EvInRefIdeal.τ).loc Cert.EvInRefIdeal.main_arg2))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1)
      ∧ r.2.mem ((c.tc : Thread Cert.OdIn.nD Cert.OdIn.τ).loc Cert.OdIn.main_arg2) = m ((c.tc : Thread Cert.OdIn.nD Cert.OdIn.τ).loc Cert.OdIn.main_arg2))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1)
      ∧ r.2.mem ((c.tc : Thread Cert.OdInIdeal.nD Cert.OdInIdeal.τ).loc Cert.OdInIdeal.main_arg2) = m ((c.tc : Thread Cert.OdInIdeal.nD Cert.OdInIdeal.τ).loc Cert.OdInIdeal.main_arg2))
      ∧ r.2.sem = fun _ => 0)

def quiescent_OdInRefIdeal [hOdInRefIdeal : Cert.OdInRefIdeal.Facts] : Prop :=
  ∀ (m : (ℓ : Loc Cert.OdInRefIdeal.nD Cert.OdInRefIdeal.τ Cert.OdInRefIdeal.sig) → Buf (Elt Ideal) ℓ) (g : Dev Cert.OdInRefIdeal.nD → PrngReg), Pre_OdInRefIdeal m →
    θ_run (Cert.OdInRefIdeal.defs (F := Ideal)) (onTc (τ := Cert.OdInRefIdeal.τ) (Cert.OdInRefIdeal.main (F := Ideal))) ⟨m, fun _ => 0, g⟩ (fun r => (∀ c : Dev Cert.OdInRefIdeal.nD,
      r.2.mem ((c.tc : Thread Cert.OdInRefIdeal.nD Cert.OdInRefIdeal.τ).loc Cert.OdInRefIdeal.main_arg0) = m ((c.tc : Thread Cert.OdInRefIdeal.nD Cert.OdInRefIdeal.τ).loc Cert.OdInRefIdeal.main_arg0)
      ∧ r.2.mem ((c.tc : Thread Cert.OdInRefIdeal.nD Cert.OdInRefIdeal.τ).loc Cert.OdInRefIdeal.main_arg1) = m ((c.tc : Thread Cert.OdInRefIdeal.nD Cert.OdInRefIdeal.τ).loc Cert.OdInRefIdeal.main_arg1)
      ∧ r.2.mem ((c.tc : Thread Cert.OdInRefIdeal.nD Cert.OdInRefIdeal.τ).loc Cert.OdInRefIdeal.main_arg2) = m ((c.tc : Thread Cert.OdInRefIdeal.nD Cert.OdInRefIdeal.τ).loc Cert.OdInRefIdeal.main_arg2))
      ∧ r.2.sem = fun _ => 0)

def quiescent_OptOut [hOptOut : Cert.OptOut.Facts] : Prop :=
  ∀ (m : (ℓ : Loc Cert.OptOut.nD Cert.OptOut.τ Cert.OptOut.sig) → Buf (Elt Bits) ℓ) (g : Dev Cert.OptOut.nD → PrngReg), Pre_OptOut m →
    θ_run (Cert.OptOut.defs (F := Bits)) (onTc (τ := Cert.OptOut.τ) (Cert.OptOut.main (F := Bits))) ⟨m, fun _ => 0, g⟩ (fun r => (∀ c : Dev Cert.OptOut.nD,
      r.2.mem ((c.tc : Thread Cert.OptOut.nD Cert.OptOut.τ).loc Cert.OptOut.main_arg0) = m ((c.tc : Thread Cert.OptOut.nD Cert.OptOut.τ).loc Cert.OptOut.main_arg0)
      ∧ r.2.mem ((c.tc : Thread Cert.OptOut.nD Cert.OptOut.τ).loc Cert.OptOut.main_arg1) = m ((c.tc : Thread Cert.OptOut.nD Cert.OptOut.τ).loc Cert.OptOut.main_arg1)
      ∧ r.2.mem ((c.tc : Thread Cert.OptOut.nD Cert.OptOut.τ).loc Cert.OptOut.main_arg2) = m ((c.tc : Thread Cert.OptOut.nD Cert.OptOut.τ).loc Cert.OptOut.main_arg2)
      ∧ r.2.mem ((c.tc : Thread Cert.OptOut.nD Cert.OptOut.τ).loc Cert.OptOut.main_arg3) = m ((c.tc : Thread Cert.OptOut.nD Cert.OptOut.τ).loc Cert.OptOut.main_arg3)
      ∧ r.2.mem ((c.tc : Thread Cert.OptOut.nD Cert.OptOut.τ).loc Cert.OptOut.main_arg4) = m ((c.tc : Thread Cert.OptOut.nD Cert.OptOut.τ).loc Cert.OptOut.main_arg4)
      ∧ r.2.mem ((c.tc : Thread Cert.OptOut.nD Cert.OptOut.τ).loc Cert.OptOut.main_arg5) = m ((c.tc : Thread Cert.OptOut.nD Cert.OptOut.τ).loc Cert.OptOut.main_arg5)
      ∧ r.2.mem ((c.tc : Thread Cert.OptOut.nD Cert.OptOut.τ).loc Cert.OptOut.main_arg6) = m ((c.tc : Thread Cert.OptOut.nD Cert.OptOut.τ).loc Cert.OptOut.main_arg6)
      ∧ r.2.mem ((c.tc : Thread Cert.OptOut.nD Cert.OptOut.τ).loc Cert.OptOut.main_arg7) = m ((c.tc : Thread Cert.OptOut.nD Cert.OptOut.τ).loc Cert.OptOut.main_arg7)
      ∧ r.2.mem ((c.tc : Thread Cert.OptOut.nD Cert.OptOut.τ).loc Cert.OptOut.main_arg8) = m ((c.tc : Thread Cert.OptOut.nD Cert.OptOut.τ).loc Cert.OptOut.main_arg8))
      ∧ r.2.sem = fun _ => 0)

def quiescent_OptOutIdeal [hOptOutIdeal : Cert.OptOutIdeal.Facts] : Prop :=
  ∀ (m : (ℓ : Loc Cert.OptOutIdeal.nD Cert.OptOutIdeal.τ Cert.OptOutIdeal.sig) → Buf (Elt Ideal) ℓ) (g : Dev Cert.OptOutIdeal.nD → PrngReg), Pre_OptOutIdeal m →
    θ_run (Cert.OptOutIdeal.defs (F := Ideal)) (onTc (τ := Cert.OptOutIdeal.τ) (Cert.OptOutIdeal.main (F := Ideal))) ⟨m, fun _ => 0, g⟩ (fun r => (∀ c : Dev Cert.OptOutIdeal.nD,
      r.2.mem ((c.tc : Thread Cert.OptOutIdeal.nD Cert.OptOutIdeal.τ).loc Cert.OptOutIdeal.main_arg0) = m ((c.tc : Thread Cert.OptOutIdeal.nD Cert.OptOutIdeal.τ).loc Cert.OptOutIdeal.main_arg0)
      ∧ r.2.mem ((c.tc : Thread Cert.OptOutIdeal.nD Cert.OptOutIdeal.τ).loc Cert.OptOutIdeal.main_arg1) = m ((c.tc : Thread Cert.OptOutIdeal.nD Cert.OptOutIdeal.τ).loc Cert.OptOutIdeal.main_arg1)
      ∧ r.2.mem ((c.tc : Thread Cert.OptOutIdeal.nD Cert.OptOutIdeal.τ).loc Cert.OptOutIdeal.main_arg2) = m ((c.tc : Thread Cert.OptOutIdeal.nD Cert.OptOutIdeal.τ).loc Cert.OptOutIdeal.main_arg2)
      ∧ r.2.mem ((c.tc : Thread Cert.OptOutIdeal.nD Cert.OptOutIdeal.τ).loc Cert.OptOutIdeal.main_arg3) = m ((c.tc : Thread Cert.OptOutIdeal.nD Cert.OptOutIdeal.τ).loc Cert.OptOutIdeal.main_arg3)
      ∧ r.2.mem ((c.tc : Thread Cert.OptOutIdeal.nD Cert.OptOutIdeal.τ).loc Cert.OptOutIdeal.main_arg4) = m ((c.tc : Thread Cert.OptOutIdeal.nD Cert.OptOutIdeal.τ).loc Cert.OptOutIdeal.main_arg4)
      ∧ r.2.mem ((c.tc : Thread Cert.OptOutIdeal.nD Cert.OptOutIdeal.τ).loc Cert.OptOutIdeal.main_arg5) = m ((c.tc : Thread Cert.OptOutIdeal.nD Cert.OptOutIdeal.τ).loc Cert.OptOutIdeal.main_arg5)
      ∧ r.2.mem ((c.tc : Thread Cert.OptOutIdeal.nD Cert.OptOutIdeal.τ).loc Cert.OptOutIdeal.main_arg6) = m ((c.tc : Thread Cert.OptOutIdeal.nD Cert.OptOutIdeal.τ).loc Cert.OptOutIdeal.main_arg6)
      ∧ r.2.mem ((c.tc : Thread Cert.OptOutIdeal.nD Cert.OptOutIdeal.τ).loc Cert.OptOutIdeal.main_arg7) = m ((c.tc : Thread Cert.OptOutIdeal.nD Cert.OptOutIdeal.τ).loc Cert.OptOutIdeal.main_arg7)
      ∧ r.2.mem ((c.tc : Thread Cert.OptOutIdeal.nD Cert.OptOutIdeal.τ).loc Cert.OptOutIdeal.main_arg8) = m ((c.tc : Thread Cert.OptOutIdeal.nD Cert.OptOutIdeal.τ).loc Cert.OptOutIdeal.main_arg8))
      ∧ r.2.sem = fun _ => 0)

def quiescent_OptOutRefIdeal [hOptOutRefIdeal : Cert.OptOutRefIdeal.Facts] : Prop :=
  ∀ (m : (ℓ : Loc Cert.OptOutRefIdeal.nD Cert.OptOutRefIdeal.τ Cert.OptOutRefIdeal.sig) → Buf (Elt Ideal) ℓ) (g : Dev Cert.OptOutRefIdeal.nD → PrngReg), Pre_OptOutRefIdeal m →
    θ_run (Cert.OptOutRefIdeal.defs (F := Ideal)) (onTc (τ := Cert.OptOutRefIdeal.τ) (Cert.OptOutRefIdeal.main (F := Ideal))) ⟨m, fun _ => 0, g⟩ (fun r => (∀ c : Dev Cert.OptOutRefIdeal.nD,
      r.2.mem ((c.tc : Thread Cert.OptOutRefIdeal.nD Cert.OptOutRefIdeal.τ).loc Cert.OptOutRefIdeal.main_arg0) = m ((c.tc : Thread Cert.OptOutRefIdeal.nD Cert.OptOutRefIdeal.τ).loc Cert.OptOutRefIdeal.main_arg0)
      ∧ r.2.mem ((c.tc : Thread Cert.OptOutRefIdeal.nD Cert.OptOutRefIdeal.τ).loc Cert.OptOutRefIdeal.main_arg1) = m ((c.tc : Thread Cert.OptOutRefIdeal.nD Cert.OptOutRefIdeal.τ).loc Cert.OptOutRefIdeal.main_arg1)
      ∧ r.2.mem ((c.tc : Thread Cert.OptOutRefIdeal.nD Cert.OptOutRefIdeal.τ).loc Cert.OptOutRefIdeal.main_arg2) = m ((c.tc : Thread Cert.OptOutRefIdeal.nD Cert.OptOutRefIdeal.τ).loc Cert.OptOutRefIdeal.main_arg2)
      ∧ r.2.mem ((c.tc : Thread Cert.OptOutRefIdeal.nD Cert.OptOutRefIdeal.τ).loc Cert.OptOutRefIdeal.main_arg3) = m ((c.tc : Thread Cert.OptOutRefIdeal.nD Cert.OptOutRefIdeal.τ).loc Cert.OptOutRefIdeal.main_arg3)
      ∧ r.2.mem ((c.tc : Thread Cert.OptOutRefIdeal.nD Cert.OptOutRefIdeal.τ).loc Cert.OptOutRefIdeal.main_arg4) = m ((c.tc : Thread Cert.OptOutRefIdeal.nD Cert.OptOutRefIdeal.τ).loc Cert.OptOutRefIdeal.main_arg4)
      ∧ r.2.mem ((c.tc : Thread Cert.OptOutRefIdeal.nD Cert.OptOutRefIdeal.τ).loc Cert.OptOutRefIdeal.main_arg5) = m ((c.tc : Thread Cert.OptOutRefIdeal.nD Cert.OptOutRefIdeal.τ).loc Cert.OptOutRefIdeal.main_arg5)
      ∧ r.2.mem ((c.tc : Thread Cert.OptOutRefIdeal.nD Cert.OptOutRefIdeal.τ).loc Cert.OptOutRefIdeal.main_arg6) = m ((c.tc : Thread Cert.OptOutRefIdeal.nD Cert.OptOutRefIdeal.τ).loc Cert.OptOutRefIdeal.main_arg6)
      ∧ r.2.mem ((c.tc : Thread Cert.OptOutRefIdeal.nD Cert.OptOutRefIdeal.τ).loc Cert.OptOutRefIdeal.main_arg7) = m ((c.tc : Thread Cert.OptOutRefIdeal.nD Cert.OptOutRefIdeal.τ).loc Cert.OptOutRefIdeal.main_arg7)
      ∧ r.2.mem ((c.tc : Thread Cert.OptOutRefIdeal.nD Cert.OptOutRefIdeal.τ).loc Cert.OptOutRefIdeal.main_arg8) = m ((c.tc : Thread Cert.OptOutRefIdeal.nD Cert.OptOutRefIdeal.τ).loc Cert.OptOutRefIdeal.main_arg8))
      ∧ r.2.sem = fun _ => 0)

def quiescent_OptEvIn [hOptEvIn : Cert.OptEvIn.Facts] : Prop :=
  ∀ (m : (ℓ : Loc Cert.OptEvIn.nD Cert.OptEvIn.τ Cert.OptEvIn.sig) → Buf (Elt Bits) ℓ) (g : Dev Cert.OptEvIn.nD → PrngReg), Pre_OptEvIn m →
    θ_run (Cert.OptEvIn.defs (F := Bits)) (onTc (τ := Cert.OptEvIn.τ) (Cert.OptEvIn.main (F := Bits))) ⟨m, fun _ => 0, g⟩ (fun r => (∀ c : Dev Cert.OptEvIn.nD,
      r.2.mem ((c.tc : Thread Cert.OptEvIn.nD Cert.OptEvIn.τ).loc Cert.OptEvIn.main_arg0) = m ((c.tc : Thread Cert.OptEvIn.nD Cert.OptEvIn.τ).loc Cert.OptEvIn.main_arg0)
      ∧ r.2.mem ((c.tc : Thread Cert.OptEvIn.nD Cert.OptEvIn.τ).loc Cert.OptEvIn.main_arg1) = m ((c.tc : Thread Cert.OptEvIn.nD Cert.OptEvIn.τ).loc Cert.OptEvIn.main_arg1)
      ∧ r.2.mem ((c.tc : Thread Cert.OptEvIn.nD Cert.OptEvIn.τ).loc Cert.OptEvIn.main_arg2) = m ((c.tc : Thread Cert.OptEvIn.nD Cert.OptEvIn.τ).loc Cert.OptEvIn.main_arg2)
      ∧ r.2.mem ((c.tc : Thread Cert.OptEvIn.nD Cert.OptEvIn.τ).loc Cert.OptEvIn.main_arg3) = m ((c.tc : Thread Cert.OptEvIn.nD Cert.OptEvIn.τ).loc Cert.OptEvIn.main_arg3)
      ∧ r.2.mem ((c.tc : Thread Cert.OptEvIn.nD Cert.OptEvIn.τ).loc Cert.OptEvIn.main_arg4) = m ((c.tc : Thread Cert.OptEvIn.nD Cert.OptEvIn.τ).loc Cert.OptEvIn.main_arg4)
      ∧ r.2.mem ((c.tc : Thread Cert.OptEvIn.nD Cert.OptEvIn.τ).loc Cert.OptEvIn.main_arg5) = m ((c.tc : Thread Cert.OptEvIn.nD Cert.OptEvIn.τ).loc Cert.OptEvIn.main_arg5)
      ∧ r.2.mem ((c.tc : Thread Cert.OptEvIn.nD Cert.OptEvIn.τ).loc Cert.OptEvIn.main_arg6) = m ((c.tc : Thread Cert.OptEvIn.nD Cert.OptEvIn.τ).loc Cert.OptEvIn.main_arg6)
      ∧ r.2.mem ((c.tc : Thread Cert.OptEvIn.nD Cert.OptEvIn.τ).loc Cert.OptEvIn.main_arg7) = m ((c.tc : Thread Cert.OptEvIn.nD Cert.OptEvIn.τ).loc Cert.OptEvIn.main_arg7)
      ∧ r.2.mem ((c.tc : Thread Cert.OptEvIn.nD Cert.OptEvIn.τ).loc Cert.OptEvIn.main_arg8) = m ((c.tc : Thread Cert.OptEvIn.nD Cert.OptEvIn.τ).loc Cert.OptEvIn.main_arg8))
      ∧ r.2.sem = fun _ => 0)

def quiescent_OptEvInIdeal [hOptEvInIdeal : Cert.OptEvInIdeal.Facts] : Prop :=
  ∀ (m : (ℓ : Loc Cert.OptEvInIdeal.nD Cert.OptEvInIdeal.τ Cert.OptEvInIdeal.sig) → Buf (Elt Ideal) ℓ) (g : Dev Cert.OptEvInIdeal.nD → PrngReg), Pre_OptEvInIdeal m →
    θ_run (Cert.OptEvInIdeal.defs (F := Ideal)) (onTc (τ := Cert.OptEvInIdeal.τ) (Cert.OptEvInIdeal.main (F := Ideal))) ⟨m, fun _ => 0, g⟩ (fun r => (∀ c : Dev Cert.OptEvInIdeal.nD,
      r.2.mem ((c.tc : Thread Cert.OptEvInIdeal.nD Cert.OptEvInIdeal.τ).loc Cert.OptEvInIdeal.main_arg0) = m ((c.tc : Thread Cert.OptEvInIdeal.nD Cert.OptEvInIdeal.τ).loc Cert.OptEvInIdeal.main_arg0)
      ∧ r.2.mem ((c.tc : Thread Cert.OptEvInIdeal.nD Cert.OptEvInIdeal.τ).loc Cert.OptEvInIdeal.main_arg1) = m ((c.tc : Thread Cert.OptEvInIdeal.nD Cert.OptEvInIdeal.τ).loc Cert.OptEvInIdeal.main_arg1)
      ∧ r.2.mem ((c.tc : Thread Cert.OptEvInIdeal.nD Cert.OptEvInIdeal.τ).loc Cert.OptEvInIdeal.main_arg2) = m ((c.tc : Thread Cert.OptEvInIdeal.nD Cert.OptEvInIdeal.τ).loc Cert.OptEvInIdeal.main_arg2)
      ∧ r.2.mem ((c.tc : Thread Cert.OptEvInIdeal.nD Cert.OptEvInIdeal.τ).loc Cert.OptEvInIdeal.main_arg3) = m ((c.tc : Thread Cert.OptEvInIdeal.nD Cert.OptEvInIdeal.τ).loc Cert.OptEvInIdeal.main_arg3)
      ∧ r.2.mem ((c.tc : Thread Cert.OptEvInIdeal.nD Cert.OptEvInIdeal.τ).loc Cert.OptEvInIdeal.main_arg4) = m ((c.tc : Thread Cert.OptEvInIdeal.nD Cert.OptEvInIdeal.τ).loc Cert.OptEvInIdeal.main_arg4)
      ∧ r.2.mem ((c.tc : Thread Cert.OptEvInIdeal.nD Cert.OptEvInIdeal.τ).loc Cert.OptEvInIdeal.main_arg5) = m ((c.tc : Thread Cert.OptEvInIdeal.nD Cert.OptEvInIdeal.τ).loc Cert.OptEvInIdeal.main_arg5)
      ∧ r.2.mem ((c.tc : Thread Cert.OptEvInIdeal.nD Cert.OptEvInIdeal.τ).loc Cert.OptEvInIdeal.main_arg6) = m ((c.tc : Thread Cert.OptEvInIdeal.nD Cert.OptEvInIdeal.τ).loc Cert.OptEvInIdeal.main_arg6)
      ∧ r.2.mem ((c.tc : Thread Cert.OptEvInIdeal.nD Cert.OptEvInIdeal.τ).loc Cert.OptEvInIdeal.main_arg7) = m ((c.tc : Thread Cert.OptEvInIdeal.nD Cert.OptEvInIdeal.τ).loc Cert.OptEvInIdeal.main_arg7)
      ∧ r.2.mem ((c.tc : Thread Cert.OptEvInIdeal.nD Cert.OptEvInIdeal.τ).loc Cert.OptEvInIdeal.main_arg8) = m ((c.tc : Thread Cert.OptEvInIdeal.nD Cert.OptEvInIdeal.τ).loc Cert.OptEvInIdeal.main_arg8))
      ∧ r.2.sem = fun _ => 0)

def quiescent_OptEvInRefIdeal [hOptEvInRefIdeal : Cert.OptEvInRefIdeal.Facts] : Prop :=
  ∀ (m : (ℓ : Loc Cert.OptEvInRefIdeal.nD Cert.OptEvInRefIdeal.τ Cert.OptEvInRefIdeal.sig) → Buf (Elt Ideal) ℓ) (g : Dev Cert.OptEvInRefIdeal.nD → PrngReg), Pre_OptEvInRefIdeal m →
    θ_run (Cert.OptEvInRefIdeal.defs (F := Ideal)) (onTc (τ := Cert.OptEvInRefIdeal.τ) (Cert.OptEvInRefIdeal.main (F := Ideal))) ⟨m, fun _ => 0, g⟩ (fun r => (∀ c : Dev Cert.OptEvInRefIdeal.nD,
      r.2.mem ((c.tc : Thread Cert.OptEvInRefIdeal.nD Cert.OptEvInRefIdeal.τ).loc Cert.OptEvInRefIdeal.main_arg0) = m ((c.tc : Thread Cert.OptEvInRefIdeal.nD Cert.OptEvInRefIdeal.τ).loc Cert.OptEvInRefIdeal.main_arg0)
      ∧ r.2.mem ((c.tc : Thread Cert.OptEvInRefIdeal.nD Cert.OptEvInRefIdeal.τ).loc Cert.OptEvInRefIdeal.main_arg1) = m ((c.tc : Thread Cert.OptEvInRefIdeal.nD Cert.OptEvInRefIdeal.τ).loc Cert.OptEvInRefIdeal.main_arg1)
      ∧ r.2.mem ((c.tc : Thread Cert.OptEvInRefIdeal.nD Cert.OptEvInRefIdeal.τ).loc Cert.OptEvInRefIdeal.main_arg2) = m ((c.tc : Thread Cert.OptEvInRefIdeal.nD Cert.OptEvInRefIdeal.τ).loc Cert.OptEvInRefIdeal.main_arg2)
      ∧ r.2.mem ((c.tc : Thread Cert.OptEvInRefIdeal.nD Cert.OptEvInRefIdeal.τ).loc Cert.OptEvInRefIdeal.main_arg3) = m ((c.tc : Thread Cert.OptEvInRefIdeal.nD Cert.OptEvInRefIdeal.τ).loc Cert.OptEvInRefIdeal.main_arg3)
      ∧ r.2.mem ((c.tc : Thread Cert.OptEvInRefIdeal.nD Cert.OptEvInRefIdeal.τ).loc Cert.OptEvInRefIdeal.main_arg4) = m ((c.tc : Thread Cert.OptEvInRefIdeal.nD Cert.OptEvInRefIdeal.τ).loc Cert.OptEvInRefIdeal.main_arg4)
      ∧ r.2.mem ((c.tc : Thread Cert.OptEvInRefIdeal.nD Cert.OptEvInRefIdeal.τ).loc Cert.OptEvInRefIdeal.main_arg5) = m ((c.tc : Thread Cert.OptEvInRefIdeal.nD Cert.OptEvInRefIdeal.τ).loc Cert.OptEvInRefIdeal.main_arg5)
      ∧ r.2.mem ((c.tc : Thread Cert.OptEvInRefIdeal.nD Cert.OptEvInRefIdeal.τ).loc Cert.OptEvInRefIdeal.main_arg6) = m ((c.tc : Thread Cert.OptEvInRefIdeal.nD Cert.OptEvInRefIdeal.τ).loc Cert.OptEvInRefIdeal.main_arg6)
      ∧ r.2.mem ((c.tc : Thread Cert.OptEvInRefIdeal.nD Cert.OptEvInRefIdeal.τ).loc Cert.OptEvInRefIdeal.main_arg7) = m ((c.tc : Thread Cert.OptEvInRefIdeal.nD Cert.OptEvInRefIdeal.τ).loc Cert.OptEvInRefIdeal.main_arg7)
      ∧ r.2.mem ((c.tc : Thread Cert.OptEvInRefIdeal.nD Cert.OptEvInRefIdeal.τ).loc Cert.OptEvInRefIdeal.main_arg8) = m ((c.tc : Thread Cert.OptEvInRefIdeal.nD Cert.OptEvInRefIdeal.τ).loc Cert.OptEvInRefIdeal.main_arg8))
      ∧ r.2.sem = fun _ => 0)

def quiescent_OptOdIn [hOptOdIn : Cert.OptOdIn.Facts] : Prop :=
  ∀ (m : (ℓ : Loc Cert.OptOdIn.nD Cert.OptOdIn.τ Cert.OptOdIn.sig) → Buf (Elt Bits) ℓ) (g : Dev Cert.OptOdIn.nD → PrngReg), Pre_OptOdIn m →
    θ_run (Cert.OptOdIn.defs (F := Bits)) (onTc (τ := Cert.OptOdIn.τ) (Cert.OptOdIn.main (F := Bits))) ⟨m, fun _ => 0, g⟩ (fun r => (∀ c : Dev Cert.OptOdIn.nD,
      r.2.mem ((c.tc : Thread Cert.OptOdIn.nD Cert.OptOdIn.τ).loc Cert.OptOdIn.main_arg0) = m ((c.tc : Thread Cert.OptOdIn.nD Cert.OptOdIn.τ).loc Cert.OptOdIn.main_arg0)
      ∧ r.2.mem ((c.tc : Thread Cert.OptOdIn.nD Cert.OptOdIn.τ).loc Cert.OptOdIn.main_arg1) = m ((c.tc : Thread Cert.OptOdIn.nD Cert.OptOdIn.τ).loc Cert.OptOdIn.main_arg1)
      ∧ r.2.mem ((c.tc : Thread Cert.OptOdIn.nD Cert.OptOdIn.τ).loc Cert.OptOdIn.main_arg2) = m ((c.tc : Thread Cert.OptOdIn.nD Cert.OptOdIn.τ).loc Cert.OptOdIn.main_arg2)
      ∧ r.2.mem ((c.tc : Thread Cert.OptOdIn.nD Cert.OptOdIn.τ).loc Cert.OptOdIn.main_arg3) = m ((c.tc : Thread Cert.OptOdIn.nD Cert.OptOdIn.τ).loc Cert.OptOdIn.main_arg3)
      ∧ r.2.mem ((c.tc : Thread Cert.OptOdIn.nD Cert.OptOdIn.τ).loc Cert.OptOdIn.main_arg4) = m ((c.tc : Thread Cert.OptOdIn.nD Cert.OptOdIn.τ).loc Cert.OptOdIn.main_arg4)
      ∧ r.2.mem ((c.tc : Thread Cert.OptOdIn.nD Cert.OptOdIn.τ).loc Cert.OptOdIn.main_arg5) = m ((c.tc : Thread Cert.OptOdIn.nD Cert.OptOdIn.τ).loc Cert.OptOdIn.main_arg5)
      ∧ r.2.mem ((c.tc : Thread Cert.OptOdIn.nD Cert.OptOdIn.τ).loc Cert.OptOdIn.main_arg6) = m ((c.tc : Thread Cert.OptOdIn.nD Cert.OptOdIn.τ).loc Cert.OptOdIn.main_arg6)
      ∧ r.2.mem ((c.tc : Thread Cert.OptOdIn.nD Cert.OptOdIn.τ).loc Cert.OptOdIn.main_arg7) = m ((c.tc : Thread Cert.OptOdIn.nD Cert.OptOdIn.τ).loc Cert.OptOdIn.main_arg7)
      ∧ r.2.mem ((c.tc : Thread Cert.OptOdIn.nD Cert.OptOdIn.τ).loc Cert.OptOdIn.main_arg8) = m ((c.tc : Thread Cert.OptOdIn.nD Cert.OptOdIn.τ).loc Cert.OptOdIn.main_arg8))
      ∧ r.2.sem = fun _ => 0)

def quiescent_OptOdInIdeal [hOptOdInIdeal : Cert.OptOdInIdeal.Facts] : Prop :=
  ∀ (m : (ℓ : Loc Cert.OptOdInIdeal.nD Cert.OptOdInIdeal.τ Cert.OptOdInIdeal.sig) → Buf (Elt Ideal) ℓ) (g : Dev Cert.OptOdInIdeal.nD → PrngReg), Pre_OptOdInIdeal m →
    θ_run (Cert.OptOdInIdeal.defs (F := Ideal)) (onTc (τ := Cert.OptOdInIdeal.τ) (Cert.OptOdInIdeal.main (F := Ideal))) ⟨m, fun _ => 0, g⟩ (fun r => (∀ c : Dev Cert.OptOdInIdeal.nD,
      r.2.mem ((c.tc : Thread Cert.OptOdInIdeal.nD Cert.OptOdInIdeal.τ).loc Cert.OptOdInIdeal.main_arg0) = m ((c.tc : Thread Cert.OptOdInIdeal.nD Cert.OptOdInIdeal.τ).loc Cert.OptOdInIdeal.main_arg0)
      ∧ r.2.mem ((c.tc : Thread Cert.OptOdInIdeal.nD Cert.OptOdInIdeal.τ).loc Cert.OptOdInIdeal.main_arg1) = m ((c.tc : Thread Cert.OptOdInIdeal.nD Cert.OptOdInIdeal.τ).loc Cert.OptOdInIdeal.main_arg1)
      ∧ r.2.mem ((c.tc : Thread Cert.OptOdInIdeal.nD Cert.OptOdInIdeal.τ).loc Cert.OptOdInIdeal.main_arg2) = m ((c.tc : Thread Cert.OptOdInIdeal.nD Cert.OptOdInIdeal.τ).loc Cert.OptOdInIdeal.main_arg2)
      ∧ r.2.mem ((c.tc : Thread Cert.OptOdInIdeal.nD Cert.OptOdInIdeal.τ).loc Cert.OptOdInIdeal.main_arg3) = m ((c.tc : Thread Cert.OptOdInIdeal.nD Cert.OptOdInIdeal.τ).loc Cert.OptOdInIdeal.main_arg3)
      ∧ r.2.mem ((c.tc : Thread Cert.OptOdInIdeal.nD Cert.OptOdInIdeal.τ).loc Cert.OptOdInIdeal.main_arg4) = m ((c.tc : Thread Cert.OptOdInIdeal.nD Cert.OptOdInIdeal.τ).loc Cert.OptOdInIdeal.main_arg4)
      ∧ r.2.mem ((c.tc : Thread Cert.OptOdInIdeal.nD Cert.OptOdInIdeal.τ).loc Cert.OptOdInIdeal.main_arg5) = m ((c.tc : Thread Cert.OptOdInIdeal.nD Cert.OptOdInIdeal.τ).loc Cert.OptOdInIdeal.main_arg5)
      ∧ r.2.mem ((c.tc : Thread Cert.OptOdInIdeal.nD Cert.OptOdInIdeal.τ).loc Cert.OptOdInIdeal.main_arg6) = m ((c.tc : Thread Cert.OptOdInIdeal.nD Cert.OptOdInIdeal.τ).loc Cert.OptOdInIdeal.main_arg6)
      ∧ r.2.mem ((c.tc : Thread Cert.OptOdInIdeal.nD Cert.OptOdInIdeal.τ).loc Cert.OptOdInIdeal.main_arg7) = m ((c.tc : Thread Cert.OptOdInIdeal.nD Cert.OptOdInIdeal.τ).loc Cert.OptOdInIdeal.main_arg7)
      ∧ r.2.mem ((c.tc : Thread Cert.OptOdInIdeal.nD Cert.OptOdInIdeal.τ).loc Cert.OptOdInIdeal.main_arg8) = m ((c.tc : Thread Cert.OptOdInIdeal.nD Cert.OptOdInIdeal.τ).loc Cert.OptOdInIdeal.main_arg8))
      ∧ r.2.sem = fun _ => 0)

def quiescent_OptOdInRefIdeal [hOptOdInRefIdeal : Cert.OptOdInRefIdeal.Facts] : Prop :=
  ∀ (m : (ℓ : Loc Cert.OptOdInRefIdeal.nD Cert.OptOdInRefIdeal.τ Cert.OptOdInRefIdeal.sig) → Buf (Elt Ideal) ℓ) (g : Dev Cert.OptOdInRefIdeal.nD → PrngReg), Pre_OptOdInRefIdeal m →
    θ_run (Cert.OptOdInRefIdeal.defs (F := Ideal)) (onTc (τ := Cert.OptOdInRefIdeal.τ) (Cert.OptOdInRefIdeal.main (F := Ideal))) ⟨m, fun _ => 0, g⟩ (fun r => (∀ c : Dev Cert.OptOdInRefIdeal.nD,
      r.2.mem ((c.tc : Thread Cert.OptOdInRefIdeal.nD Cert.OptOdInRefIdeal.τ).loc Cert.OptOdInRefIdeal.main_arg0) = m ((c.tc : Thread Cert.OptOdInRefIdeal.nD Cert.OptOdInRefIdeal.τ).loc Cert.OptOdInRefIdeal.main_arg0)
      ∧ r.2.mem ((c.tc : Thread Cert.OptOdInRefIdeal.nD Cert.OptOdInRefIdeal.τ).loc Cert.OptOdInRefIdeal.main_arg1) = m ((c.tc : Thread Cert.OptOdInRefIdeal.nD Cert.OptOdInRefIdeal.τ).loc Cert.OptOdInRefIdeal.main_arg1)
      ∧ r.2.mem ((c.tc : Thread Cert.OptOdInRefIdeal.nD Cert.OptOdInRefIdeal.τ).loc Cert.OptOdInRefIdeal.main_arg2) = m ((c.tc : Thread Cert.OptOdInRefIdeal.nD Cert.OptOdInRefIdeal.τ).loc Cert.OptOdInRefIdeal.main_arg2)
      ∧ r.2.mem ((c.tc : Thread Cert.OptOdInRefIdeal.nD Cert.OptOdInRefIdeal.τ).loc Cert.OptOdInRefIdeal.main_arg3) = m ((c.tc : Thread Cert.OptOdInRefIdeal.nD Cert.OptOdInRefIdeal.τ).loc Cert.OptOdInRefIdeal.main_arg3)
      ∧ r.2.mem ((c.tc : Thread Cert.OptOdInRefIdeal.nD Cert.OptOdInRefIdeal.τ).loc Cert.OptOdInRefIdeal.main_arg4) = m ((c.tc : Thread Cert.OptOdInRefIdeal.nD Cert.OptOdInRefIdeal.τ).loc Cert.OptOdInRefIdeal.main_arg4)
      ∧ r.2.mem ((c.tc : Thread Cert.OptOdInRefIdeal.nD Cert.OptOdInRefIdeal.τ).loc Cert.OptOdInRefIdeal.main_arg5) = m ((c.tc : Thread Cert.OptOdInRefIdeal.nD Cert.OptOdInRefIdeal.τ).loc Cert.OptOdInRefIdeal.main_arg5)
      ∧ r.2.mem ((c.tc : Thread Cert.OptOdInRefIdeal.nD Cert.OptOdInRefIdeal.τ).loc Cert.OptOdInRefIdeal.main_arg6) = m ((c.tc : Thread Cert.OptOdInRefIdeal.nD Cert.OptOdInRefIdeal.τ).loc Cert.OptOdInRefIdeal.main_arg6)
      ∧ r.2.mem ((c.tc : Thread Cert.OptOdInRefIdeal.nD Cert.OptOdInRefIdeal.τ).loc Cert.OptOdInRefIdeal.main_arg7) = m ((c.tc : Thread Cert.OptOdInRefIdeal.nD Cert.OptOdInRefIdeal.τ).loc Cert.OptOdInRefIdeal.main_arg7)
      ∧ r.2.mem ((c.tc : Thread Cert.OptOdInRefIdeal.nD Cert.OptOdInRefIdeal.τ).loc Cert.OptOdInRefIdeal.main_arg8) = m ((c.tc : Thread Cert.OptOdInRefIdeal.nD Cert.OptOdInRefIdeal.τ).loc Cert.OptOdInRefIdeal.main_arg8))
      ∧ r.2.sem = fun _ => 0)

def quiescent_OptW1 [hOptW1 : Cert.OptW1.Facts] : Prop :=
  ∀ (m : (ℓ : Loc Cert.OptW1.nD Cert.OptW1.τ Cert.OptW1.sig) → Buf (Elt Bits) ℓ) (g : Dev Cert.OptW1.nD → PrngReg), Pre_OptW1 m →
    θ_run (Cert.OptW1.defs (F := Bits)) (onTc (τ := Cert.OptW1.τ) (Cert.OptW1.main (F := Bits))) ⟨m, fun _ => 0, g⟩ (fun r => (∀ c : Dev Cert.OptW1.nD,
      r.2.mem ((c.tc : Thread Cert.OptW1.nD Cert.OptW1.τ).loc Cert.OptW1.main_arg0) = m ((c.tc : Thread Cert.OptW1.nD Cert.OptW1.τ).loc Cert.OptW1.main_arg0)
      ∧ r.2.mem ((c.tc : Thread Cert.OptW1.nD Cert.OptW1.τ).loc Cert.OptW1.main_arg1) = m ((c.tc : Thread Cert.OptW1.nD Cert.OptW1.τ).loc Cert.OptW1.main_arg1)
      ∧ r.2.mem ((c.tc : Thread Cert.OptW1.nD Cert.OptW1.τ).loc Cert.OptW1.main_arg2) = m ((c.tc : Thread Cert.OptW1.nD Cert.OptW1.τ).loc Cert.OptW1.main_arg2)
      ∧ r.2.mem ((c.tc : Thread Cert.OptW1.nD Cert.OptW1.τ).loc Cert.OptW1.main_arg3) = m ((c.tc : Thread Cert.OptW1.nD Cert.OptW1.τ).loc Cert.OptW1.main_arg3)
      ∧ r.2.mem ((c.tc : Thread Cert.OptW1.nD Cert.OptW1.τ).loc Cert.OptW1.main_arg4) = m ((c.tc : Thread Cert.OptW1.nD Cert.OptW1.τ).loc Cert.OptW1.main_arg4)
      ∧ r.2.mem ((c.tc : Thread Cert.OptW1.nD Cert.OptW1.τ).loc Cert.OptW1.main_arg5) = m ((c.tc : Thread Cert.OptW1.nD Cert.OptW1.τ).loc Cert.OptW1.main_arg5)
      ∧ r.2.mem ((c.tc : Thread Cert.OptW1.nD Cert.OptW1.τ).loc Cert.OptW1.main_arg6) = m ((c.tc : Thread Cert.OptW1.nD Cert.OptW1.τ).loc Cert.OptW1.main_arg6)
      ∧ r.2.mem ((c.tc : Thread Cert.OptW1.nD Cert.OptW1.τ).loc Cert.OptW1.main_arg7) = m ((c.tc : Thread Cert.OptW1.nD Cert.OptW1.τ).loc Cert.OptW1.main_arg7)
      ∧ r.2.mem ((c.tc : Thread Cert.OptW1.nD Cert.OptW1.τ).loc Cert.OptW1.main_arg8) = m ((c.tc : Thread Cert.OptW1.nD Cert.OptW1.τ).loc Cert.OptW1.main_arg8)
      ∧ r.2.mem ((c.tc : Thread Cert.OptW1.nD Cert.OptW1.τ).loc Cert.OptW1.main_arg9) = m ((c.tc : Thread Cert.OptW1.nD Cert.OptW1.τ).loc Cert.OptW1.main_arg9)
      ∧ r.2.mem ((c.tc : Thread Cert.OptW1.nD Cert.OptW1.τ).loc Cert.OptW1.main_arg10) = m ((c.tc : Thread Cert.OptW1.nD Cert.OptW1.τ).loc Cert.OptW1.main_arg10))
      ∧ r.2.sem = fun _ => 0)

def quiescent_OptW1Ideal [hOptW1Ideal : Cert.OptW1Ideal.Facts] : Prop :=
  ∀ (m : (ℓ : Loc Cert.OptW1Ideal.nD Cert.OptW1Ideal.τ Cert.OptW1Ideal.sig) → Buf (Elt Ideal) ℓ) (g : Dev Cert.OptW1Ideal.nD → PrngReg), Pre_OptW1Ideal m →
    θ_run (Cert.OptW1Ideal.defs (F := Ideal)) (onTc (τ := Cert.OptW1Ideal.τ) (Cert.OptW1Ideal.main (F := Ideal))) ⟨m, fun _ => 0, g⟩ (fun r => (∀ c : Dev Cert.OptW1Ideal.nD,
      r.2.mem ((c.tc : Thread Cert.OptW1Ideal.nD Cert.OptW1Ideal.τ).loc Cert.OptW1Ideal.main_arg0) = m ((c.tc : Thread Cert.OptW1Ideal.nD Cert.OptW1Ideal.τ).loc Cert.OptW1Ideal.main_arg0)
      ∧ r.2.mem ((c.tc : Thread Cert.OptW1Ideal.nD Cert.OptW1Ideal.τ).loc Cert.OptW1Ideal.main_arg1) = m ((c.tc : Thread Cert.OptW1Ideal.nD Cert.OptW1Ideal.τ).loc Cert.OptW1Ideal.main_arg1)
      ∧ r.2.mem ((c.tc : Thread Cert.OptW1Ideal.nD Cert.OptW1Ideal.τ).loc Cert.OptW1Ideal.main_arg2) = m ((c.tc : Thread Cert.OptW1Ideal.nD Cert.OptW1Ideal.τ).loc Cert.OptW1Ideal.main_arg2)
      ∧ r.2.mem ((c.tc : Thread Cert.OptW1Ideal.nD Cert.OptW1Ideal.τ).loc Cert.OptW1Ideal.main_arg3) = m ((c.tc : Thread Cert.OptW1Ideal.nD Cert.OptW1Ideal.τ).loc Cert.OptW1Ideal.main_arg3)
      ∧ r.2.mem ((c.tc : Thread Cert.OptW1Ideal.nD Cert.OptW1Ideal.τ).loc Cert.OptW1Ideal.main_arg4) = m ((c.tc : Thread Cert.OptW1Ideal.nD Cert.OptW1Ideal.τ).loc Cert.OptW1Ideal.main_arg4)
      ∧ r.2.mem ((c.tc : Thread Cert.OptW1Ideal.nD Cert.OptW1Ideal.τ).loc Cert.OptW1Ideal.main_arg5) = m ((c.tc : Thread Cert.OptW1Ideal.nD Cert.OptW1Ideal.τ).loc Cert.OptW1Ideal.main_arg5)
      ∧ r.2.mem ((c.tc : Thread Cert.OptW1Ideal.nD Cert.OptW1Ideal.τ).loc Cert.OptW1Ideal.main_arg6) = m ((c.tc : Thread Cert.OptW1Ideal.nD Cert.OptW1Ideal.τ).loc Cert.OptW1Ideal.main_arg6)
      ∧ r.2.mem ((c.tc : Thread Cert.OptW1Ideal.nD Cert.OptW1Ideal.τ).loc Cert.OptW1Ideal.main_arg7) = m ((c.tc : Thread Cert.OptW1Ideal.nD Cert.OptW1Ideal.τ).loc Cert.OptW1Ideal.main_arg7)
      ∧ r.2.mem ((c.tc : Thread Cert.OptW1Ideal.nD Cert.OptW1Ideal.τ).loc Cert.OptW1Ideal.main_arg8) = m ((c.tc : Thread Cert.OptW1Ideal.nD Cert.OptW1Ideal.τ).loc Cert.OptW1Ideal.main_arg8)
      ∧ r.2.mem ((c.tc : Thread Cert.OptW1Ideal.nD Cert.OptW1Ideal.τ).loc Cert.OptW1Ideal.main_arg9) = m ((c.tc : Thread Cert.OptW1Ideal.nD Cert.OptW1Ideal.τ).loc Cert.OptW1Ideal.main_arg9)
      ∧ r.2.mem ((c.tc : Thread Cert.OptW1Ideal.nD Cert.OptW1Ideal.τ).loc Cert.OptW1Ideal.main_arg10) = m ((c.tc : Thread Cert.OptW1Ideal.nD Cert.OptW1Ideal.τ).loc Cert.OptW1Ideal.main_arg10))
      ∧ r.2.sem = fun _ => 0)

def quiescent_OptW1RefIdeal [hOptW1RefIdeal : Cert.OptW1RefIdeal.Facts] : Prop :=
  ∀ (m : (ℓ : Loc Cert.OptW1RefIdeal.nD Cert.OptW1RefIdeal.τ Cert.OptW1RefIdeal.sig) → Buf (Elt Ideal) ℓ) (g : Dev Cert.OptW1RefIdeal.nD → PrngReg), Pre_OptW1RefIdeal m →
    θ_run (Cert.OptW1RefIdeal.defs (F := Ideal)) (onTc (τ := Cert.OptW1RefIdeal.τ) (Cert.OptW1RefIdeal.main (F := Ideal))) ⟨m, fun _ => 0, g⟩ (fun r => (∀ c : Dev Cert.OptW1RefIdeal.nD,
      r.2.mem ((c.tc : Thread Cert.OptW1RefIdeal.nD Cert.OptW1RefIdeal.τ).loc Cert.OptW1RefIdeal.main_arg0) = m ((c.tc : Thread Cert.OptW1RefIdeal.nD Cert.OptW1RefIdeal.τ).loc Cert.OptW1RefIdeal.main_arg0)
      ∧ r.2.mem ((c.tc : Thread Cert.OptW1RefIdeal.nD Cert.OptW1RefIdeal.τ).loc Cert.OptW1RefIdeal.main_arg1) = m ((c.tc : Thread Cert.OptW1RefIdeal.nD Cert.OptW1RefIdeal.τ).loc Cert.OptW1RefIdeal.main_arg1)
      ∧ r.2.mem ((c.tc : Thread Cert.OptW1RefIdeal.nD Cert.OptW1RefIdeal.τ).loc Cert.OptW1RefIdeal.main_arg2) = m ((c.tc : Thread Cert.OptW1RefIdeal.nD Cert.OptW1RefIdeal.τ).loc Cert.OptW1RefIdeal.main_arg2)
      ∧ r.2.mem ((c.tc : Thread Cert.OptW1RefIdeal.nD Cert.OptW1RefIdeal.τ).loc Cert.OptW1RefIdeal.main_arg3) = m ((c.tc : Thread Cert.OptW1RefIdeal.nD Cert.OptW1RefIdeal.τ).loc Cert.OptW1RefIdeal.main_arg3)
      ∧ r.2.mem ((c.tc : Thread Cert.OptW1RefIdeal.nD Cert.OptW1RefIdeal.τ).loc Cert.OptW1RefIdeal.main_arg4) = m ((c.tc : Thread Cert.OptW1RefIdeal.nD Cert.OptW1RefIdeal.τ).loc Cert.OptW1RefIdeal.main_arg4)
      ∧ r.2.mem ((c.tc : Thread Cert.OptW1RefIdeal.nD Cert.OptW1RefIdeal.τ).loc Cert.OptW1RefIdeal.main_arg5) = m ((c.tc : Thread Cert.OptW1RefIdeal.nD Cert.OptW1RefIdeal.τ).loc Cert.OptW1RefIdeal.main_arg5)
      ∧ r.2.mem ((c.tc : Thread Cert.OptW1RefIdeal.nD Cert.OptW1RefIdeal.τ).loc Cert.OptW1RefIdeal.main_arg6) = m ((c.tc : Thread Cert.OptW1RefIdeal.nD Cert.OptW1RefIdeal.τ).loc Cert.OptW1RefIdeal.main_arg6)
      ∧ r.2.mem ((c.tc : Thread Cert.OptW1RefIdeal.nD Cert.OptW1RefIdeal.τ).loc Cert.OptW1RefIdeal.main_arg7) = m ((c.tc : Thread Cert.OptW1RefIdeal.nD Cert.OptW1RefIdeal.τ).loc Cert.OptW1RefIdeal.main_arg7)
      ∧ r.2.mem ((c.tc : Thread Cert.OptW1RefIdeal.nD Cert.OptW1RefIdeal.τ).loc Cert.OptW1RefIdeal.main_arg8) = m ((c.tc : Thread Cert.OptW1RefIdeal.nD Cert.OptW1RefIdeal.τ).loc Cert.OptW1RefIdeal.main_arg8)
      ∧ r.2.mem ((c.tc : Thread Cert.OptW1RefIdeal.nD Cert.OptW1RefIdeal.τ).loc Cert.OptW1RefIdeal.main_arg9) = m ((c.tc : Thread Cert.OptW1RefIdeal.nD Cert.OptW1RefIdeal.τ).loc Cert.OptW1RefIdeal.main_arg9)
      ∧ r.2.mem ((c.tc : Thread Cert.OptW1RefIdeal.nD Cert.OptW1RefIdeal.τ).loc Cert.OptW1RefIdeal.main_arg10) = m ((c.tc : Thread Cert.OptW1RefIdeal.nD Cert.OptW1RefIdeal.τ).loc Cert.OptW1RefIdeal.main_arg10))
      ∧ r.2.sem = fun _ => 0)

def quiescent_OptW2 [hOptW2 : Cert.OptW2.Facts] : Prop :=
  ∀ (m : (ℓ : Loc Cert.OptW2.nD Cert.OptW2.τ Cert.OptW2.sig) → Buf (Elt Bits) ℓ) (g : Dev Cert.OptW2.nD → PrngReg), Pre_OptW2 m →
    θ_run (Cert.OptW2.defs (F := Bits)) (onTc (τ := Cert.OptW2.τ) (Cert.OptW2.main (F := Bits))) ⟨m, fun _ => 0, g⟩ (fun r => (∀ c : Dev Cert.OptW2.nD,
      r.2.mem ((c.tc : Thread Cert.OptW2.nD Cert.OptW2.τ).loc Cert.OptW2.main_arg0) = m ((c.tc : Thread Cert.OptW2.nD Cert.OptW2.τ).loc Cert.OptW2.main_arg0)
      ∧ r.2.mem ((c.tc : Thread Cert.OptW2.nD Cert.OptW2.τ).loc Cert.OptW2.main_arg1) = m ((c.tc : Thread Cert.OptW2.nD Cert.OptW2.τ).loc Cert.OptW2.main_arg1)
      ∧ r.2.mem ((c.tc : Thread Cert.OptW2.nD Cert.OptW2.τ).loc Cert.OptW2.main_arg2) = m ((c.tc : Thread Cert.OptW2.nD Cert.OptW2.τ).loc Cert.OptW2.main_arg2)
      ∧ r.2.mem ((c.tc : Thread Cert.OptW2.nD Cert.OptW2.τ).loc Cert.OptW2.main_arg3) = m ((c.tc : Thread Cert.OptW2.nD Cert.OptW2.τ).loc Cert.OptW2.main_arg3)
      ∧ r.2.mem ((c.tc : Thread Cert.OptW2.nD Cert.OptW2.τ).loc Cert.OptW2.main_arg4) = m ((c.tc : Thread Cert.OptW2.nD Cert.OptW2.τ).loc Cert.OptW2.main_arg4)
      ∧ r.2.mem ((c.tc : Thread Cert.OptW2.nD Cert.OptW2.τ).loc Cert.OptW2.main_arg5) = m ((c.tc : Thread Cert.OptW2.nD Cert.OptW2.τ).loc Cert.OptW2.main_arg5)
      ∧ r.2.mem ((c.tc : Thread Cert.OptW2.nD Cert.OptW2.τ).loc Cert.OptW2.main_arg6) = m ((c.tc : Thread Cert.OptW2.nD Cert.OptW2.τ).loc Cert.OptW2.main_arg6)
      ∧ r.2.mem ((c.tc : Thread Cert.OptW2.nD Cert.OptW2.τ).loc Cert.OptW2.main_arg7) = m ((c.tc : Thread Cert.OptW2.nD Cert.OptW2.τ).loc Cert.OptW2.main_arg7)
      ∧ r.2.mem ((c.tc : Thread Cert.OptW2.nD Cert.OptW2.τ).loc Cert.OptW2.main_arg8) = m ((c.tc : Thread Cert.OptW2.nD Cert.OptW2.τ).loc Cert.OptW2.main_arg8)
      ∧ r.2.mem ((c.tc : Thread Cert.OptW2.nD Cert.OptW2.τ).loc Cert.OptW2.main_arg9) = m ((c.tc : Thread Cert.OptW2.nD Cert.OptW2.τ).loc Cert.OptW2.main_arg9)
      ∧ r.2.mem ((c.tc : Thread Cert.OptW2.nD Cert.OptW2.τ).loc Cert.OptW2.main_arg10) = m ((c.tc : Thread Cert.OptW2.nD Cert.OptW2.τ).loc Cert.OptW2.main_arg10))
      ∧ r.2.sem = fun _ => 0)

def quiescent_OptW2Ideal [hOptW2Ideal : Cert.OptW2Ideal.Facts] : Prop :=
  ∀ (m : (ℓ : Loc Cert.OptW2Ideal.nD Cert.OptW2Ideal.τ Cert.OptW2Ideal.sig) → Buf (Elt Ideal) ℓ) (g : Dev Cert.OptW2Ideal.nD → PrngReg), Pre_OptW2Ideal m →
    θ_run (Cert.OptW2Ideal.defs (F := Ideal)) (onTc (τ := Cert.OptW2Ideal.τ) (Cert.OptW2Ideal.main (F := Ideal))) ⟨m, fun _ => 0, g⟩ (fun r => (∀ c : Dev Cert.OptW2Ideal.nD,
      r.2.mem ((c.tc : Thread Cert.OptW2Ideal.nD Cert.OptW2Ideal.τ).loc Cert.OptW2Ideal.main_arg0) = m ((c.tc : Thread Cert.OptW2Ideal.nD Cert.OptW2Ideal.τ).loc Cert.OptW2Ideal.main_arg0)
      ∧ r.2.mem ((c.tc : Thread Cert.OptW2Ideal.nD Cert.OptW2Ideal.τ).loc Cert.OptW2Ideal.main_arg1) = m ((c.tc : Thread Cert.OptW2Ideal.nD Cert.OptW2Ideal.τ).loc Cert.OptW2Ideal.main_arg1)
      ∧ r.2.mem ((c.tc : Thread Cert.OptW2Ideal.nD Cert.OptW2Ideal.τ).loc Cert.OptW2Ideal.main_arg2) = m ((c.tc : Thread Cert.OptW2Ideal.nD Cert.OptW2Ideal.τ).loc Cert.OptW2Ideal.main_arg2)
      ∧ r.2.mem ((c.tc : Thread Cert.OptW2Ideal.nD Cert.OptW2Ideal.τ).loc Cert.OptW2Ideal.main_arg3) = m ((c.tc : Thread Cert.OptW2Ideal.nD Cert.OptW2Ideal.τ).loc Cert.OptW2Ideal.main_arg3)
      ∧ r.2.mem ((c.tc : Thread Cert.OptW2Ideal.nD Cert.OptW2Ideal.τ).loc Cert.OptW2Ideal.main_arg4) = m ((c.tc : Thread Cert.OptW2Ideal.nD Cert.OptW2Ideal.τ).loc Cert.OptW2Ideal.main_arg4)
      ∧ r.2.mem ((c.tc : Thread Cert.OptW2Ideal.nD Cert.OptW2Ideal.τ).loc Cert.OptW2Ideal.main_arg5) = m ((c.tc : Thread Cert.OptW2Ideal.nD Cert.OptW2Ideal.τ).loc Cert.OptW2Ideal.main_arg5)
      ∧ r.2.mem ((c.tc : Thread Cert.OptW2Ideal.nD Cert.OptW2Ideal.τ).loc Cert.OptW2Ideal.main_arg6) = m ((c.tc : Thread Cert.OptW2Ideal.nD Cert.OptW2Ideal.τ).loc Cert.OptW2Ideal.main_arg6)
      ∧ r.2.mem ((c.tc : Thread Cert.OptW2Ideal.nD Cert.OptW2Ideal.τ).loc Cert.OptW2Ideal.main_arg7) = m ((c.tc : Thread Cert.OptW2Ideal.nD Cert.OptW2Ideal.τ).loc Cert.OptW2Ideal.main_arg7)
      ∧ r.2.mem ((c.tc : Thread Cert.OptW2Ideal.nD Cert.OptW2Ideal.τ).loc Cert.OptW2Ideal.main_arg8) = m ((c.tc : Thread Cert.OptW2Ideal.nD Cert.OptW2Ideal.τ).loc Cert.OptW2Ideal.main_arg8)
      ∧ r.2.mem ((c.tc : Thread Cert.OptW2Ideal.nD Cert.OptW2Ideal.τ).loc Cert.OptW2Ideal.main_arg9) = m ((c.tc : Thread Cert.OptW2Ideal.nD Cert.OptW2Ideal.τ).loc Cert.OptW2Ideal.main_arg9)
      ∧ r.2.mem ((c.tc : Thread Cert.OptW2Ideal.nD Cert.OptW2Ideal.τ).loc Cert.OptW2Ideal.main_arg10) = m ((c.tc : Thread Cert.OptW2Ideal.nD Cert.OptW2Ideal.τ).loc Cert.OptW2Ideal.main_arg10))
      ∧ r.2.sem = fun _ => 0)

def quiescent_OptW2RefIdeal [hOptW2RefIdeal : Cert.OptW2RefIdeal.Facts] : Prop :=
  ∀ (m : (ℓ : Loc Cert.OptW2RefIdeal.nD Cert.OptW2RefIdeal.τ Cert.OptW2RefIdeal.sig) → Buf (Elt Ideal) ℓ) (g : Dev Cert.OptW2RefIdeal.nD → PrngReg), Pre_OptW2RefIdeal m →
    θ_run (Cert.OptW2RefIdeal.defs (F := Ideal)) (onTc (τ := Cert.OptW2RefIdeal.τ) (Cert.OptW2RefIdeal.main (F := Ideal))) ⟨m, fun _ => 0, g⟩ (fun r => (∀ c : Dev Cert.OptW2RefIdeal.nD,
      r.2.mem ((c.tc : Thread Cert.OptW2RefIdeal.nD Cert.OptW2RefIdeal.τ).loc Cert.OptW2RefIdeal.main_arg0) = m ((c.tc : Thread Cert.OptW2RefIdeal.nD Cert.OptW2RefIdeal.τ).loc Cert.OptW2RefIdeal.main_arg0)
      ∧ r.2.mem ((c.tc : Thread Cert.OptW2RefIdeal.nD Cert.OptW2RefIdeal.τ).loc Cert.OptW2RefIdeal.main_arg1) = m ((c.tc : Thread Cert.OptW2RefIdeal.nD Cert.OptW2RefIdeal.τ).loc Cert.OptW2RefIdeal.main_arg1)
      ∧ r.2.mem ((c.tc : Thread Cert.OptW2RefIdeal.nD Cert.OptW2RefIdeal.τ).loc Cert.OptW2RefIdeal.main_arg2) = m ((c.tc : Thread Cert.OptW2RefIdeal.nD Cert.OptW2RefIdeal.τ).loc Cert.OptW2RefIdeal.main_arg2)
      ∧ r.2.mem ((c.tc : Thread Cert.OptW2RefIdeal.nD Cert.OptW2RefIdeal.τ).loc Cert.OptW2RefIdeal.main_arg3) = m ((c.tc : Thread Cert.OptW2RefIdeal.nD Cert.OptW2RefIdeal.τ).loc Cert.OptW2RefIdeal.main_arg3)
      ∧ r.2.mem ((c.tc : Thread Cert.OptW2RefIdeal.nD Cert.OptW2RefIdeal.τ).loc Cert.OptW2RefIdeal.main_arg4) = m ((c.tc : Thread Cert.OptW2RefIdeal.nD Cert.OptW2RefIdeal.τ).loc Cert.OptW2RefIdeal.main_arg4)
      ∧ r.2.mem ((c.tc : Thread Cert.OptW2RefIdeal.nD Cert.OptW2RefIdeal.τ).loc Cert.OptW2RefIdeal.main_arg5) = m ((c.tc : Thread Cert.OptW2RefIdeal.nD Cert.OptW2RefIdeal.τ).loc Cert.OptW2RefIdeal.main_arg5)
      ∧ r.2.mem ((c.tc : Thread Cert.OptW2RefIdeal.nD Cert.OptW2RefIdeal.τ).loc Cert.OptW2RefIdeal.main_arg6) = m ((c.tc : Thread Cert.OptW2RefIdeal.nD Cert.OptW2RefIdeal.τ).loc Cert.OptW2RefIdeal.main_arg6)
      ∧ r.2.mem ((c.tc : Thread Cert.OptW2RefIdeal.nD Cert.OptW2RefIdeal.τ).loc Cert.OptW2RefIdeal.main_arg7) = m ((c.tc : Thread Cert.OptW2RefIdeal.nD Cert.OptW2RefIdeal.τ).loc Cert.OptW2RefIdeal.main_arg7)
      ∧ r.2.mem ((c.tc : Thread Cert.OptW2RefIdeal.nD Cert.OptW2RefIdeal.τ).loc Cert.OptW2RefIdeal.main_arg8) = m ((c.tc : Thread Cert.OptW2RefIdeal.nD Cert.OptW2RefIdeal.τ).loc Cert.OptW2RefIdeal.main_arg8)
      ∧ r.2.mem ((c.tc : Thread Cert.OptW2RefIdeal.nD Cert.OptW2RefIdeal.τ).loc Cert.OptW2RefIdeal.main_arg9) = m ((c.tc : Thread Cert.OptW2RefIdeal.nD Cert.OptW2RefIdeal.τ).loc Cert.OptW2RefIdeal.main_arg9)
      ∧ r.2.mem ((c.tc : Thread Cert.OptW2RefIdeal.nD Cert.OptW2RefIdeal.τ).loc Cert.OptW2RefIdeal.main_arg10) = m ((c.tc : Thread Cert.OptW2RefIdeal.nD Cert.OptW2RefIdeal.τ).loc Cert.OptW2RefIdeal.main_arg10))
      ∧ r.2.sem = fun _ => 0)

def quiescent_OptSmall [hOptSmall : Cert.OptSmall.Facts] : Prop :=
  ∀ (m : (ℓ : Loc Cert.OptSmall.nD Cert.OptSmall.τ Cert.OptSmall.sig) → Buf (Elt Bits) ℓ) (g : Dev Cert.OptSmall.nD → PrngReg), Pre_OptSmall m →
    θ_run (Cert.OptSmall.defs (F := Bits)) (onTc (τ := Cert.OptSmall.τ) (Cert.OptSmall.main (F := Bits))) ⟨m, fun _ => 0, g⟩ (fun r => (∀ c : Dev Cert.OptSmall.nD,
      r.2.mem ((c.tc : Thread Cert.OptSmall.nD Cert.OptSmall.τ).loc Cert.OptSmall.main_arg0) = m ((c.tc : Thread Cert.OptSmall.nD Cert.OptSmall.τ).loc Cert.OptSmall.main_arg0)
      ∧ r.2.mem ((c.tc : Thread Cert.OptSmall.nD Cert.OptSmall.τ).loc Cert.OptSmall.main_arg1) = m ((c.tc : Thread Cert.OptSmall.nD Cert.OptSmall.τ).loc Cert.OptSmall.main_arg1)
      ∧ r.2.mem ((c.tc : Thread Cert.OptSmall.nD Cert.OptSmall.τ).loc Cert.OptSmall.main_arg2) = m ((c.tc : Thread Cert.OptSmall.nD Cert.OptSmall.τ).loc Cert.OptSmall.main_arg2)
      ∧ r.2.mem ((c.tc : Thread Cert.OptSmall.nD Cert.OptSmall.τ).loc Cert.OptSmall.main_arg3) = m ((c.tc : Thread Cert.OptSmall.nD Cert.OptSmall.τ).loc Cert.OptSmall.main_arg3)
      ∧ r.2.mem ((c.tc : Thread Cert.OptSmall.nD Cert.OptSmall.τ).loc Cert.OptSmall.main_arg4) = m ((c.tc : Thread Cert.OptSmall.nD Cert.OptSmall.τ).loc Cert.OptSmall.main_arg4)
      ∧ r.2.mem ((c.tc : Thread Cert.OptSmall.nD Cert.OptSmall.τ).loc Cert.OptSmall.main_arg5) = m ((c.tc : Thread Cert.OptSmall.nD Cert.OptSmall.τ).loc Cert.OptSmall.main_arg5)
      ∧ r.2.mem ((c.tc : Thread Cert.OptSmall.nD Cert.OptSmall.τ).loc Cert.OptSmall.main_arg6) = m ((c.tc : Thread Cert.OptSmall.nD Cert.OptSmall.τ).loc Cert.OptSmall.main_arg6)
      ∧ r.2.mem ((c.tc : Thread Cert.OptSmall.nD Cert.OptSmall.τ).loc Cert.OptSmall.main_arg7) = m ((c.tc : Thread Cert.OptSmall.nD Cert.OptSmall.τ).loc Cert.OptSmall.main_arg7))
      ∧ r.2.sem = fun _ => 0)

def quiescent_OptSmallIdeal [hOptSmallIdeal : Cert.OptSmallIdeal.Facts] : Prop :=
  ∀ (m : (ℓ : Loc Cert.OptSmallIdeal.nD Cert.OptSmallIdeal.τ Cert.OptSmallIdeal.sig) → Buf (Elt Ideal) ℓ) (g : Dev Cert.OptSmallIdeal.nD → PrngReg), Pre_OptSmallIdeal m →
    θ_run (Cert.OptSmallIdeal.defs (F := Ideal)) (onTc (τ := Cert.OptSmallIdeal.τ) (Cert.OptSmallIdeal.main (F := Ideal))) ⟨m, fun _ => 0, g⟩ (fun r => (∀ c : Dev Cert.OptSmallIdeal.nD,
      r.2.mem ((c.tc : Thread Cert.OptSmallIdeal.nD Cert.OptSmallIdeal.τ).loc Cert.OptSmallIdeal.main_arg0) = m ((c.tc : Thread Cert.OptSmallIdeal.nD Cert.OptSmallIdeal.τ).loc Cert.OptSmallIdeal.main_arg0)
      ∧ r.2.mem ((c.tc : Thread Cert.OptSmallIdeal.nD Cert.OptSmallIdeal.τ).loc Cert.OptSmallIdeal.main_arg1) = m ((c.tc : Thread Cert.OptSmallIdeal.nD Cert.OptSmallIdeal.τ).loc Cert.OptSmallIdeal.main_arg1)
      ∧ r.2.mem ((c.tc : Thread Cert.OptSmallIdeal.nD Cert.OptSmallIdeal.τ).loc Cert.OptSmallIdeal.main_arg2) = m ((c.tc : Thread Cert.OptSmallIdeal.nD Cert.OptSmallIdeal.τ).loc Cert.OptSmallIdeal.main_arg2)
      ∧ r.2.mem ((c.tc : Thread Cert.OptSmallIdeal.nD Cert.OptSmallIdeal.τ).loc Cert.OptSmallIdeal.main_arg3) = m ((c.tc : Thread Cert.OptSmallIdeal.nD Cert.OptSmallIdeal.τ).loc Cert.OptSmallIdeal.main_arg3)
      ∧ r.2.mem ((c.tc : Thread Cert.OptSmallIdeal.nD Cert.OptSmallIdeal.τ).loc Cert.OptSmallIdeal.main_arg4) = m ((c.tc : Thread Cert.OptSmallIdeal.nD Cert.OptSmallIdeal.τ).loc Cert.OptSmallIdeal.main_arg4)
      ∧ r.2.mem ((c.tc : Thread Cert.OptSmallIdeal.nD Cert.OptSmallIdeal.τ).loc Cert.OptSmallIdeal.main_arg5) = m ((c.tc : Thread Cert.OptSmallIdeal.nD Cert.OptSmallIdeal.τ).loc Cert.OptSmallIdeal.main_arg5)
      ∧ r.2.mem ((c.tc : Thread Cert.OptSmallIdeal.nD Cert.OptSmallIdeal.τ).loc Cert.OptSmallIdeal.main_arg6) = m ((c.tc : Thread Cert.OptSmallIdeal.nD Cert.OptSmallIdeal.τ).loc Cert.OptSmallIdeal.main_arg6)
      ∧ r.2.mem ((c.tc : Thread Cert.OptSmallIdeal.nD Cert.OptSmallIdeal.τ).loc Cert.OptSmallIdeal.main_arg7) = m ((c.tc : Thread Cert.OptSmallIdeal.nD Cert.OptSmallIdeal.τ).loc Cert.OptSmallIdeal.main_arg7))
      ∧ r.2.sem = fun _ => 0)

def quiescent_OptSmallRefIdeal [hOptSmallRefIdeal : Cert.OptSmallRefIdeal.Facts] : Prop :=
  ∀ (m : (ℓ : Loc Cert.OptSmallRefIdeal.nD Cert.OptSmallRefIdeal.τ Cert.OptSmallRefIdeal.sig) → Buf (Elt Ideal) ℓ) (g : Dev Cert.OptSmallRefIdeal.nD → PrngReg), Pre_OptSmallRefIdeal m →
    θ_run (Cert.OptSmallRefIdeal.defs (F := Ideal)) (onTc (τ := Cert.OptSmallRefIdeal.τ) (Cert.OptSmallRefIdeal.main (F := Ideal))) ⟨m, fun _ => 0, g⟩ (fun r => (∀ c : Dev Cert.OptSmallRefIdeal.nD,
      r.2.mem ((c.tc : Thread Cert.OptSmallRefIdeal.nD Cert.OptSmallRefIdeal.τ).loc Cert.OptSmallRefIdeal.main_arg0) = m ((c.tc : Thread Cert.OptSmallRefIdeal.nD Cert.OptSmallRefIdeal.τ).loc Cert.OptSmallRefIdeal.main_arg0)
      ∧ r.2.mem ((c.tc : Thread Cert.OptSmallRefIdeal.nD Cert.OptSmallRefIdeal.τ).loc Cert.OptSmallRefIdeal.main_arg1) = m ((c.tc : Thread Cert.OptSmallRefIdeal.nD Cert.OptSmallRefIdeal.τ).loc Cert.OptSmallRefIdeal.main_arg1)
      ∧ r.2.mem ((c.tc : Thread Cert.OptSmallRefIdeal.nD Cert.OptSmallRefIdeal.τ).loc Cert.OptSmallRefIdeal.main_arg2) = m ((c.tc : Thread Cert.OptSmallRefIdeal.nD Cert.OptSmallRefIdeal.τ).loc Cert.OptSmallRefIdeal.main_arg2)
      ∧ r.2.mem ((c.tc : Thread Cert.OptSmallRefIdeal.nD Cert.OptSmallRefIdeal.τ).loc Cert.OptSmallRefIdeal.main_arg3) = m ((c.tc : Thread Cert.OptSmallRefIdeal.nD Cert.OptSmallRefIdeal.τ).loc Cert.OptSmallRefIdeal.main_arg3)
      ∧ r.2.mem ((c.tc : Thread Cert.OptSmallRefIdeal.nD Cert.OptSmallRefIdeal.τ).loc Cert.OptSmallRefIdeal.main_arg4) = m ((c.tc : Thread Cert.OptSmallRefIdeal.nD Cert.OptSmallRefIdeal.τ).loc Cert.OptSmallRefIdeal.main_arg4)
      ∧ r.2.mem ((c.tc : Thread Cert.OptSmallRefIdeal.nD Cert.OptSmallRefIdeal.τ).loc Cert.OptSmallRefIdeal.main_arg5) = m ((c.tc : Thread Cert.OptSmallRefIdeal.nD Cert.OptSmallRefIdeal.τ).loc Cert.OptSmallRefIdeal.main_arg5)
      ∧ r.2.mem ((c.tc : Thread Cert.OptSmallRefIdeal.nD Cert.OptSmallRefIdeal.τ).loc Cert.OptSmallRefIdeal.main_arg6) = m ((c.tc : Thread Cert.OptSmallRefIdeal.nD Cert.OptSmallRefIdeal.τ).loc Cert.OptSmallRefIdeal.main_arg6)
      ∧ r.2.mem ((c.tc : Thread Cert.OptSmallRefIdeal.nD Cert.OptSmallRefIdeal.τ).loc Cert.OptSmallRefIdeal.main_arg7) = m ((c.tc : Thread Cert.OptSmallRefIdeal.nD Cert.OptSmallRefIdeal.τ).loc Cert.OptSmallRefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LbFwd [hLbFwd : Cert.LbFwd.Facts] : Prop :=
  ∀ (m : (ℓ : Loc Cert.LbFwd.nD Cert.LbFwd.τ Cert.LbFwd.sig) → Buf (Elt Bits) ℓ) (g : Dev Cert.LbFwd.nD → PrngReg), Pre_LbFwd m →
    θ_run (Cert.LbFwd.defs (F := Bits)) (onTc (τ := Cert.LbFwd.τ) (Cert.LbFwd.main (F := Bits))) ⟨m, fun _ => 0, g⟩ (fun r => (∀ c : Dev Cert.LbFwd.nD,
      r.2.mem ((c.tc : Thread Cert.LbFwd.nD Cert.LbFwd.τ).loc Cert.LbFwd.main_arg0) = m ((c.tc : Thread Cert.LbFwd.nD Cert.LbFwd.τ).loc Cert.LbFwd.main_arg0))
      ∧ r.2.sem = fun _ => 0)

def quiescent_LbFwdIdeal [hLbFwdIdeal : Cert.LbFwdIdeal.Facts] : Prop :=
  ∀ (m : (ℓ : Loc Cert.LbFwdIdeal.nD Cert.LbFwdIdeal.τ Cert.LbFwdIdeal.sig) → Buf (Elt Ideal) ℓ) (g : Dev Cert.LbFwdIdeal.nD → PrngReg), Pre_LbFwdIdeal m →
    θ_run (Cert.LbFwdIdeal.defs (F := Ideal)) (onTc (τ := Cert.LbFwdIdeal.τ) (Cert.LbFwdIdeal.main (F := Ideal))) ⟨m, fun _ => 0, g⟩ (fun r => (∀ c : Dev Cert.LbFwdIdeal.nD,
      r.2.mem ((c.tc : Thread Cert.LbFwdIdeal.nD Cert.LbFwdIdeal.τ).loc Cert.LbFwdIdeal.main_arg0) = m ((c.tc : Thread Cert.LbFwdIdeal.nD Cert.LbFwdIdeal.τ).loc Cert.LbFwdIdeal.main_arg0))
      ∧ r.2.sem = fun _ => 0)

def quiescent_LbFwdRefIdeal [hLbFwdRefIdeal : Cert.LbFwdRefIdeal.Facts] : Prop :=
  ∀ (m : (ℓ : Loc Cert.LbFwdRefIdeal.nD Cert.LbFwdRefIdeal.τ Cert.LbFwdRefIdeal.sig) → Buf (Elt Ideal) ℓ) (g : Dev Cert.LbFwdRefIdeal.nD → PrngReg), Pre_LbFwdRefIdeal m →
    θ_run (Cert.LbFwdRefIdeal.defs (F := Ideal)) (onTc (τ := Cert.LbFwdRefIdeal.τ) (Cert.LbFwdRefIdeal.main (F := Ideal))) ⟨m, fun _ => 0, g⟩ (fun r => (∀ c : Dev Cert.LbFwdRefIdeal.nD,
      r.2.mem ((c.tc : Thread Cert.LbFwdRefIdeal.nD Cert.LbFwdRefIdeal.τ).loc Cert.LbFwdRefIdeal.main_arg0) = m ((c.tc : Thread Cert.LbFwdRefIdeal.nD Cert.LbFwdRefIdeal.τ).loc Cert.LbFwdRefIdeal.main_arg0))
      ∧ r.2.sem = fun _ => 0)

def quiescent_LbBwd [hLbBwd : Cert.LbBwd.Facts] : Prop :=
  ∀ (m : (ℓ : Loc Cert.LbBwd.nD Cert.LbBwd.τ Cert.LbBwd.sig) → Buf (Elt Bits) ℓ) (g : Dev Cert.LbBwd.nD → PrngReg), Pre_LbBwd m →
    θ_run (Cert.LbBwd.defs (F := Bits)) (onTc (τ := Cert.LbBwd.τ) (Cert.LbBwd.main (F := Bits))) ⟨m, fun _ => 0, g⟩ (fun r => (∀ c : Dev Cert.LbBwd.nD,
      r.2.mem ((c.tc : Thread Cert.LbBwd.nD Cert.LbBwd.τ).loc Cert.LbBwd.main_arg0) = m ((c.tc : Thread Cert.LbBwd.nD Cert.LbBwd.τ).loc Cert.LbBwd.main_arg0)
      ∧ r.2.mem ((c.tc : Thread Cert.LbBwd.nD Cert.LbBwd.τ).loc Cert.LbBwd.main_arg1) = m ((c.tc : Thread Cert.LbBwd.nD Cert.LbBwd.τ).loc Cert.LbBwd.main_arg1))
      ∧ r.2.sem = fun _ => 0)

def quiescent_LbBwdIdeal [hLbBwdIdeal : Cert.LbBwdIdeal.Facts] : Prop :=
  ∀ (m : (ℓ : Loc Cert.LbBwdIdeal.nD Cert.LbBwdIdeal.τ Cert.LbBwdIdeal.sig) → Buf (Elt Ideal) ℓ) (g : Dev Cert.LbBwdIdeal.nD → PrngReg), Pre_LbBwdIdeal m →
    θ_run (Cert.LbBwdIdeal.defs (F := Ideal)) (onTc (τ := Cert.LbBwdIdeal.τ) (Cert.LbBwdIdeal.main (F := Ideal))) ⟨m, fun _ => 0, g⟩ (fun r => (∀ c : Dev Cert.LbBwdIdeal.nD,
      r.2.mem ((c.tc : Thread Cert.LbBwdIdeal.nD Cert.LbBwdIdeal.τ).loc Cert.LbBwdIdeal.main_arg0) = m ((c.tc : Thread Cert.LbBwdIdeal.nD Cert.LbBwdIdeal.τ).loc Cert.LbBwdIdeal.main_arg0)
      ∧ r.2.mem ((c.tc : Thread Cert.LbBwdIdeal.nD Cert.LbBwdIdeal.τ).loc Cert.LbBwdIdeal.main_arg1) = m ((c.tc : Thread Cert.LbBwdIdeal.nD Cert.LbBwdIdeal.τ).loc Cert.LbBwdIdeal.main_arg1))
      ∧ r.2.sem = fun _ => 0)

def quiescent_LbBwdRefIdeal [hLbBwdRefIdeal : Cert.LbBwdRefIdeal.Facts] : Prop :=
  ∀ (m : (ℓ : Loc Cert.LbBwdRefIdeal.nD Cert.LbBwdRefIdeal.τ Cert.LbBwdRefIdeal.sig) → Buf (Elt Ideal) ℓ) (g : Dev Cert.LbBwdRefIdeal.nD → PrngReg), Pre_LbBwdRefIdeal m →
    θ_run (Cert.LbBwdRefIdeal.defs (F := Ideal)) (onTc (τ := Cert.LbBwdRefIdeal.τ) (Cert.LbBwdRefIdeal.main (F := Ideal))) ⟨m, fun _ => 0, g⟩ (fun r => (∀ c : Dev Cert.LbBwdRefIdeal.nD,
      r.2.mem ((c.tc : Thread Cert.LbBwdRefIdeal.nD Cert.LbBwdRefIdeal.τ).loc Cert.LbBwdRefIdeal.main_arg0) = m ((c.tc : Thread Cert.LbBwdRefIdeal.nD Cert.LbBwdRefIdeal.τ).loc Cert.LbBwdRefIdeal.main_arg0)
      ∧ r.2.mem ((c.tc : Thread Cert.LbBwdRefIdeal.nD Cert.LbBwdRefIdeal.τ).loc Cert.LbBwdRefIdeal.main_arg1) = m ((c.tc : Thread Cert.LbBwdRefIdeal.nD Cert.LbBwdRefIdeal.τ).loc Cert.LbBwdRefIdeal.main_arg1))
      ∧ r.2.sem = fun _ => 0)

def preserves_Kernel_KernelIdeal : Prop :=
  True

def algebraic_KernelIdeal_PoolRefIdeal_on_pooled_columns [hKernelIdeal : Cert.KernelIdeal.Facts] [hPoolRefIdeal : Cert.PoolRefIdeal.Facts] [hOn_pooled_columns : Cert.On_pooled_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_KernelIdeal m →
    (∀ c : Dev Cert.KernelIdeal.nD,
      m' ((c.tc : Thread Cert.PoolRefIdeal.nD Cert.PoolRefIdeal.τ).loc Cert.PoolRefIdeal.main_arg0) = m ((c.tc : Thread Cert.KernelIdeal.nD Cert.KernelIdeal.τ).loc Cert.KernelIdeal.main_arg0)
      ∧ m' ((c.tc : Thread Cert.PoolRefIdeal.nD Cert.PoolRefIdeal.τ).loc Cert.PoolRefIdeal.main_arg1) = m ((c.tc : Thread Cert.KernelIdeal.nD Cert.KernelIdeal.τ).loc Cert.KernelIdeal.main_arg1)
      ∧ m' ((c.tc : Thread Cert.PoolRefIdeal.nD Cert.PoolRefIdeal.τ).loc Cert.PoolRefIdeal.main_arg2) = m ((c.tc : Thread Cert.KernelIdeal.nD Cert.KernelIdeal.τ).loc Cert.KernelIdeal.main_arg2)
      ∧ m' ((c.tc : Thread Cert.PoolRefIdeal.nD Cert.PoolRefIdeal.τ).loc Cert.PoolRefIdeal.main_arg3) = m ((c.tc : Thread Cert.KernelIdeal.nD Cert.KernelIdeal.τ).loc Cert.KernelIdeal.main_arg3)
      ∧ m' ((c.tc : Thread Cert.PoolRefIdeal.nD Cert.PoolRefIdeal.τ).loc Cert.PoolRefIdeal.main_arg4) = m ((c.tc : Thread Cert.KernelIdeal.nD Cert.KernelIdeal.τ).loc Cert.KernelIdeal.main_arg4)
      ∧ m' ((c.tc : Thread Cert.PoolRefIdeal.nD Cert.PoolRefIdeal.τ).loc Cert.PoolRefIdeal.main_arg5) = m ((c.tc : Thread Cert.KernelIdeal.nD Cert.KernelIdeal.τ).loc Cert.KernelIdeal.main_arg5)
      ∧ m' ((c.tc : Thread Cert.PoolRefIdeal.nD Cert.PoolRefIdeal.τ).loc Cert.PoolRefIdeal.main_arg6) = m ((c.tc : Thread Cert.KernelIdeal.nD Cert.KernelIdeal.τ).loc Cert.KernelIdeal.main_arg6)
      ∧ m' ((c.tc : Thread Cert.PoolRefIdeal.nD Cert.PoolRefIdeal.τ).loc Cert.PoolRefIdeal.main_arg7) = m ((c.tc : Thread Cert.KernelIdeal.nD Cert.KernelIdeal.τ).loc Cert.KernelIdeal.main_arg7)
      ∧ m' ((c.tc : Thread Cert.PoolRefIdeal.nD Cert.PoolRefIdeal.τ).loc Cert.PoolRefIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4160, 1536]⟩ : Shape).Idx, (Cert.On_pooled_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v3_0) i = v0 c i)
          ∧ (∀ i : (⟨2, ![32, 512]⟩ : Shape).Idx, (Cert.On_pooled_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v3_1) i = v1 c i)
          ∧ (∀ i : (⟨2, ![8, 512]⟩ : Shape).Idx, (Cert.On_pooled_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v3_2) i = v2 c i)
          ∧ (∀ i : (⟨3, ![4, 128, 128]⟩ : Shape).Idx, (Cert.On_pooled_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.KernelIdeal.nD Cert.KernelIdeal.τ).loc Cert.KernelIdeal.main_v3_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          (∀ i : (⟨2, ![4160, 1536]⟩ : Shape).Idx, (Cert.On_pooled_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.PoolRefIdeal.nD Cert.PoolRefIdeal.τ).loc Cert.PoolRefIdeal.main_v168) i = v0 c i)
          ∧ (∀ i : (⟨2, ![32, 512]⟩ : Shape).Idx, (Cert.On_pooled_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.PoolRefIdeal.nD Cert.PoolRefIdeal.τ).loc Cert.PoolRefIdeal.main_v169) i = v1 c i)
          ∧ (∀ i : (⟨2, ![8, 512]⟩ : Shape).Idx, (Cert.On_pooled_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.PoolRefIdeal.nD Cert.PoolRefIdeal.τ).loc Cert.PoolRefIdeal.main_v170) i = v2 c i)
          ∧ (∀ i : (⟨3, ![4, 128, 128]⟩ : Shape).Idx, (Cert.On_pooled_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.PoolRefIdeal.nD Cert.PoolRefIdeal.τ).loc Cert.PoolRefIdeal.main_v171) i = v3 c i)
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7)
          ∧ r.2.mem ((c.tc : Thread Cert.PoolRefIdeal.nD Cert.PoolRefIdeal.τ).loc Cert.PoolRefIdeal.main_arg8) = m' ((c.tc : Thread Cert.PoolRefIdeal.nD Cert.PoolRefIdeal.τ).loc Cert.PoolRefIdeal.main_arg8))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v4)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v4) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v12) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_DW2_DW2Ideal : Prop :=
  True

def algebraic_DW2Ideal_DW2RefIdeal [hDW2Ideal : Cert.DW2Ideal.Facts] [hDW2RefIdeal : Cert.DW2RefIdeal.Facts] : Prop :=
  ∀ (m : (ℓ : Loc Cert.DW2Ideal.nD Cert.DW2Ideal.τ Cert.DW2Ideal.sig) → Buf (Elt Ideal) ℓ) (g : Dev Cert.DW2Ideal.nD → PrngReg)
    (m' : (ℓ : Loc Cert.DW2RefIdeal.nD Cert.DW2RefIdeal.τ Cert.DW2RefIdeal.sig) → Buf (Elt Ideal) ℓ) (g' : Dev Cert.DW2RefIdeal.nD → PrngReg), Pre_DW2Ideal m →
    (∀ c : Dev Cert.DW2Ideal.nD,
      m' ((c.tc : Thread Cert.DW2RefIdeal.nD Cert.DW2RefIdeal.τ).loc Cert.DW2RefIdeal.main_arg0) = m ((c.tc : Thread Cert.DW2Ideal.nD Cert.DW2Ideal.τ).loc Cert.DW2Ideal.main_arg0)
      ∧ m' ((c.tc : Thread Cert.DW2RefIdeal.nD Cert.DW2RefIdeal.τ).loc Cert.DW2RefIdeal.main_arg1) = m ((c.tc : Thread Cert.DW2Ideal.nD Cert.DW2Ideal.τ).loc Cert.DW2Ideal.main_arg1)) →
    ∃ (v0 : (c : Dev Cert.DW2Ideal.nD) → Buf (Elt Ideal) ((c.tc : Thread Cert.DW2Ideal.nD Cert.DW2Ideal.τ).loc Cert.DW2Ideal.main_v4)),
      θ_run (Cert.DW2Ideal.defs (F := Ideal)) (onTc (τ := Cert.DW2Ideal.τ) (Cert.DW2Ideal.main (F := Ideal))) ⟨m, fun _ => 0, g⟩ (fun r => ∀ c : Dev Cert.DW2Ideal.nD,
          r.2.mem ((c.tc : Thread Cert.DW2Ideal.nD Cert.DW2Ideal.τ).loc Cert.DW2Ideal.main_v4) = v0 c
          ∧ r.2.mem ((c.tc : Thread Cert.DW2Ideal.nD Cert.DW2Ideal.τ).loc Cert.DW2Ideal.main_arg0) = m ((c.tc : Thread Cert.DW2Ideal.nD Cert.DW2Ideal.τ).loc Cert.DW2Ideal.main_arg0)
          ∧ r.2.mem ((c.tc : Thread Cert.DW2Ideal.nD Cert.DW2Ideal.τ).loc Cert.DW2Ideal.main_arg1) = m ((c.tc : Thread Cert.DW2Ideal.nD Cert.DW2Ideal.τ).loc Cert.DW2Ideal.main_arg1))
      ∧ θ_run (Cert.DW2RefIdeal.defs (F := Ideal)) (onTc (τ := Cert.DW2RefIdeal.τ) (Cert.DW2RefIdeal.main (F := Ideal))) ⟨m', fun _ => 0, g'⟩ (fun r => ∀ c : Dev Cert.DW2RefIdeal.nD,
          r.2.mem ((c.tc : Thread Cert.DW2RefIdeal.nD Cert.DW2RefIdeal.τ).loc Cert.DW2RefIdeal.main_v6) = v0 c
          ∧ r.2.mem ((c.tc : Thread Cert.DW2RefIdeal.nD Cert.DW2RefIdeal.τ).loc Cert.DW2RefIdeal.main_arg0) = m' ((c.tc : Thread Cert.DW2RefIdeal.nD Cert.DW2RefIdeal.τ).loc Cert.DW2RefIdeal.main_arg0)
          ∧ r.2.mem ((c.tc : Thread Cert.DW2RefIdeal.nD Cert.DW2RefIdeal.τ).loc Cert.DW2RefIdeal.main_arg1) = m' ((c.tc : Thread Cert.DW2RefIdeal.nD Cert.DW2RefIdeal.τ).loc Cert.DW2RefIdeal.main_arg1))

def preserves_DW1_DW1Ideal : Prop :=
  True

def algebraic_DW1Ideal_DW1RefIdeal [hDW1Ideal : Cert.DW1Ideal.Facts] [hDW1RefIdeal : Cert.DW1RefIdeal.Facts] : Prop :=
  ∀ (m : (ℓ : Loc Cert.DW1Ideal.nD Cert.DW1Ideal.τ Cert.DW1Ideal.sig) → Buf (Elt Ideal) ℓ) (g : Dev Cert.DW1Ideal.nD → PrngReg)
    (m' : (ℓ : Loc Cert.DW1RefIdeal.nD Cert.DW1RefIdeal.τ Cert.DW1RefIdeal.sig) → Buf (Elt Ideal) ℓ) (g' : Dev Cert.DW1RefIdeal.nD → PrngReg), Pre_DW1Ideal m →
    (∀ c : Dev Cert.DW1Ideal.nD,
      m' ((c.tc : Thread Cert.DW1RefIdeal.nD Cert.DW1RefIdeal.τ).loc Cert.DW1RefIdeal.main_arg0) = m ((c.tc : Thread Cert.DW1Ideal.nD Cert.DW1Ideal.τ).loc Cert.DW1Ideal.main_arg0)
      ∧ m' ((c.tc : Thread Cert.DW1RefIdeal.nD Cert.DW1RefIdeal.τ).loc Cert.DW1RefIdeal.main_arg1) = m ((c.tc : Thread Cert.DW1Ideal.nD Cert.DW1Ideal.τ).loc Cert.DW1Ideal.main_arg1)
      ∧ m' ((c.tc : Thread Cert.DW1RefIdeal.nD Cert.DW1RefIdeal.τ).loc Cert.DW1RefIdeal.main_arg2) = m ((c.tc : Thread Cert.DW1Ideal.nD Cert.DW1Ideal.τ).loc Cert.DW1Ideal.main_arg2)) →
    ∃ (v0 : (c : Dev Cert.DW1Ideal.nD) → Buf (Elt Ideal) ((c.tc : Thread Cert.DW1Ideal.nD Cert.DW1Ideal.τ).loc Cert.DW1Ideal.main_v15)),
      θ_run (Cert.DW1Ideal.defs (F := Ideal)) (onTc (τ := Cert.DW1Ideal.τ) (Cert.DW1Ideal.main (F := Ideal))) ⟨m, fun _ => 0, g⟩ (fun r => ∀ c : Dev Cert.DW1Ideal.nD,
          r.2.mem ((c.tc : Thread Cert.DW1Ideal.nD Cert.DW1Ideal.τ).loc Cert.DW1Ideal.main_v15) = v0 c
          ∧ r.2.mem ((c.tc : Thread Cert.DW1Ideal.nD Cert.DW1Ideal.τ).loc Cert.DW1Ideal.main_arg0) = m ((c.tc : Thread Cert.DW1Ideal.nD Cert.DW1Ideal.τ).loc Cert.DW1Ideal.main_arg0)
          ∧ r.2.mem ((c.tc : Thread Cert.DW1Ideal.nD Cert.DW1Ideal.τ).loc Cert.DW1Ideal.main_arg1) = m ((c.tc : Thread Cert.DW1Ideal.nD Cert.DW1Ideal.τ).loc Cert.DW1Ideal.main_arg1)
          ∧ r.2.mem ((c.tc : Thread Cert.DW1Ideal.nD Cert.DW1Ideal.τ).loc Cert.DW1Ideal.main_arg2) = m ((c.tc : Thread Cert.DW1Ideal.nD Cert.DW1Ideal.τ).loc Cert.DW1Ideal.main_arg2))
      ∧ θ_run (Cert.DW1RefIdeal.defs (F := Ideal)) (onTc (τ := Cert.DW1RefIdeal.τ) (Cert.DW1RefIdeal.main (F := Ideal))) ⟨m', fun _ => 0, g'⟩ (fun r => ∀ c : Dev Cert.DW1RefIdeal.nD,
          r.2.mem ((c.tc : Thread Cert.DW1RefIdeal.nD Cert.DW1RefIdeal.τ).loc Cert.DW1RefIdeal.main_v19) = v0 c
          ∧ r.2.mem ((c.tc : Thread Cert.DW1RefIdeal.nD Cert.DW1RefIdeal.τ).loc Cert.DW1RefIdeal.main_arg0) = m' ((c.tc : Thread Cert.DW1RefIdeal.nD Cert.DW1RefIdeal.τ).loc Cert.DW1RefIdeal.main_arg0)
          ∧ r.2.mem ((c.tc : Thread Cert.DW1RefIdeal.nD Cert.DW1RefIdeal.τ).loc Cert.DW1RefIdeal.main_arg1) = m' ((c.tc : Thread Cert.DW1RefIdeal.nD Cert.DW1RefIdeal.τ).loc Cert.DW1RefIdeal.main_arg1)
          ∧ r.2.mem ((c.tc : Thread Cert.DW1RefIdeal.nD Cert.DW1RefIdeal.τ).loc Cert.DW1RefIdeal.main_arg2) = m' ((c.tc : Thread Cert.DW1RefIdeal.nD Cert.DW1RefIdeal.τ).loc Cert.DW1RefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v8)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v8) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_OutT_OutTIdeal : Prop :=
  True

def algebraic_OutTIdeal_OutTRefIdeal [hOutTIdeal : Cert.OutTIdeal.Facts] [hOutTRefIdeal : Cert.OutTRefIdeal.Facts] : Prop :=
  ∀ (m : (ℓ : Loc Cert.OutTIdeal.nD Cert.OutTIdeal.τ Cert.OutTIdeal.sig) → Buf (Elt Ideal) ℓ) (g : Dev Cert.OutTIdeal.nD → PrngReg)
    (m' : (ℓ : Loc Cert.OutTRefIdeal.nD Cert.OutTRefIdeal.τ Cert.OutTRefIdeal.sig) → Buf (Elt Ideal) ℓ) (g' : Dev Cert.OutTRefIdeal.nD → PrngReg), Pre_OutTIdeal m →
    (∀ c : Dev Cert.OutTIdeal.nD,
      m' ((c.tc : Thread Cert.OutTRefIdeal.nD Cert.OutTRefIdeal.τ).loc Cert.OutTRefIdeal.main_arg0) = m ((c.tc : Thread Cert.OutTIdeal.nD Cert.OutTIdeal.τ).loc Cert.OutTIdeal.main_arg0)
      ∧ m' ((c.tc : Thread Cert.OutTRefIdeal.nD Cert.OutTRefIdeal.τ).loc Cert.OutTRefIdeal.main_arg1) = m ((c.tc : Thread Cert.OutTIdeal.nD Cert.OutTIdeal.τ).loc Cert.OutTIdeal.main_arg1)) →
    ∃ (v0 : (c : Dev Cert.OutTIdeal.nD) → Buf (Elt Ideal) ((c.tc : Thread Cert.OutTIdeal.nD Cert.OutTIdeal.τ).loc Cert.OutTIdeal.main_v2)),
      θ_run (Cert.OutTIdeal.defs (F := Ideal)) (onTc (τ := Cert.OutTIdeal.τ) (Cert.OutTIdeal.main (F := Ideal))) ⟨m, fun _ => 0, g⟩ (fun r => ∀ c : Dev Cert.OutTIdeal.nD,
          r.2.mem ((c.tc : Thread Cert.OutTIdeal.nD Cert.OutTIdeal.τ).loc Cert.OutTIdeal.main_v2) = v0 c
          ∧ r.2.mem ((c.tc : Thread Cert.OutTIdeal.nD Cert.OutTIdeal.τ).loc Cert.OutTIdeal.main_arg0) = m ((c.tc : Thread Cert.OutTIdeal.nD Cert.OutTIdeal.τ).loc Cert.OutTIdeal.main_arg0)
          ∧ r.2.mem ((c.tc : Thread Cert.OutTIdeal.nD Cert.OutTIdeal.τ).loc Cert.OutTIdeal.main_arg1) = m ((c.tc : Thread Cert.OutTIdeal.nD Cert.OutTIdeal.τ).loc Cert.OutTIdeal.main_arg1))
      ∧ θ_run (Cert.OutTRefIdeal.defs (F := Ideal)) (onTc (τ := Cert.OutTRefIdeal.τ) (Cert.OutTRefIdeal.main (F := Ideal))) ⟨m', fun _ => 0, g'⟩ (fun r => ∀ c : Dev Cert.OutTRefIdeal.nD,
          r.2.mem ((c.tc : Thread Cert.OutTRefIdeal.nD Cert.OutTRefIdeal.τ).loc Cert.OutTRefIdeal.main_v2) = v0 c
          ∧ r.2.mem ((c.tc : Thread Cert.OutTRefIdeal.nD Cert.OutTRefIdeal.τ).loc Cert.OutTRefIdeal.main_arg0) = m' ((c.tc : Thread Cert.OutTRefIdeal.nD Cert.OutTRefIdeal.τ).loc Cert.OutTRefIdeal.main_arg0)
          ∧ r.2.mem ((c.tc : Thread Cert.OutTRefIdeal.nD Cert.OutTRefIdeal.τ).loc Cert.OutTRefIdeal.main_arg1) = m' ((c.tc : Thread Cert.OutTRefIdeal.nD Cert.OutTRefIdeal.τ).loc Cert.OutTRefIdeal.main_arg1))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v2)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v2) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v4) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1))

def preserves_EvDWIn_EvDWInIdeal : Prop :=
  True

def algebraic_EvDWInIdeal_EvDWInRefIdeal [hEvDWInIdeal : Cert.EvDWInIdeal.Facts] [hEvDWInRefIdeal : Cert.EvDWInRefIdeal.Facts] : Prop :=
  ∀ (m : (ℓ : Loc Cert.EvDWInIdeal.nD Cert.EvDWInIdeal.τ Cert.EvDWInIdeal.sig) → Buf (Elt Ideal) ℓ) (g : Dev Cert.EvDWInIdeal.nD → PrngReg)
    (m' : (ℓ : Loc Cert.EvDWInRefIdeal.nD Cert.EvDWInRefIdeal.τ Cert.EvDWInRefIdeal.sig) → Buf (Elt Ideal) ℓ) (g' : Dev Cert.EvDWInRefIdeal.nD → PrngReg), Pre_EvDWInIdeal m →
    (∀ c : Dev Cert.EvDWInIdeal.nD,
      m' ((c.tc : Thread Cert.EvDWInRefIdeal.nD Cert.EvDWInRefIdeal.τ).loc Cert.EvDWInRefIdeal.main_arg0) = m ((c.tc : Thread Cert.EvDWInIdeal.nD Cert.EvDWInIdeal.τ).loc Cert.EvDWInIdeal.main_arg0)
      ∧ m' ((c.tc : Thread Cert.EvDWInRefIdeal.nD Cert.EvDWInRefIdeal.τ).loc Cert.EvDWInRefIdeal.main_arg1) = m ((c.tc : Thread Cert.EvDWInIdeal.nD Cert.EvDWInIdeal.τ).loc Cert.EvDWInIdeal.main_arg1)
      ∧ m' ((c.tc : Thread Cert.EvDWInRefIdeal.nD Cert.EvDWInRefIdeal.τ).loc Cert.EvDWInRefIdeal.main_arg2) = m ((c.tc : Thread Cert.EvDWInIdeal.nD Cert.EvDWInIdeal.τ).loc Cert.EvDWInIdeal.main_arg2)) →
    ∃ (v0 : (c : Dev Cert.EvDWInIdeal.nD) → Buf (Elt Ideal) ((c.tc : Thread Cert.EvDWInIdeal.nD Cert.EvDWInIdeal.τ).loc Cert.EvDWInIdeal.main_v15)),
      θ_run (Cert.EvDWInIdeal.defs (F := Ideal)) (onTc (τ := Cert.EvDWInIdeal.τ) (Cert.EvDWInIdeal.main (F := Ideal))) ⟨m, fun _ => 0, g⟩ (fun r => ∀ c : Dev Cert.EvDWInIdeal.nD,
          r.2.mem ((c.tc : Thread Cert.EvDWInIdeal.nD Cert.EvDWInIdeal.τ).loc Cert.EvDWInIdeal.main_v15) = v0 c
          ∧ r.2.mem ((c.tc : Thread Cert.EvDWInIdeal.nD Cert.EvDWInIdeal.τ).loc Cert.EvDWInIdeal.main_arg0) = m ((c.tc : Thread Cert.EvDWInIdeal.nD Cert.EvDWInIdeal.τ).loc Cert.EvDWInIdeal.main_arg0)
          ∧ r.2.mem ((c.tc : Thread Cert.EvDWInIdeal.nD Cert.EvDWInIdeal.τ).loc Cert.EvDWInIdeal.main_arg1) = m ((c.tc : Thread Cert.EvDWInIdeal.nD Cert.EvDWInIdeal.τ).loc Cert.EvDWInIdeal.main_arg1)
          ∧ r.2.mem ((c.tc : Thread Cert.EvDWInIdeal.nD Cert.EvDWInIdeal.τ).loc Cert.EvDWInIdeal.main_arg2) = m ((c.tc : Thread Cert.EvDWInIdeal.nD Cert.EvDWInIdeal.τ).loc Cert.EvDWInIdeal.main_arg2))
      ∧ θ_run (Cert.EvDWInRefIdeal.defs (F := Ideal)) (onTc (τ := Cert.EvDWInRefIdeal.τ) (Cert.EvDWInRefIdeal.main (F := Ideal))) ⟨m', fun _ => 0, g'⟩ (fun r => ∀ c : Dev Cert.EvDWInRefIdeal.nD,
          r.2.mem ((c.tc : Thread Cert.EvDWInRefIdeal.nD Cert.EvDWInRefIdeal.τ).loc Cert.EvDWInRefIdeal.main_v17) = v0 c
          ∧ r.2.mem ((c.tc : Thread Cert.EvDWInRefIdeal.nD Cert.EvDWInRefIdeal.τ).loc Cert.EvDWInRefIdeal.main_arg0) = m' ((c.tc : Thread Cert.EvDWInRefIdeal.nD Cert.EvDWInRefIdeal.τ).loc Cert.EvDWInRefIdeal.main_arg0)
          ∧ r.2.mem ((c.tc : Thread Cert.EvDWInRefIdeal.nD Cert.EvDWInRefIdeal.τ).loc Cert.EvDWInRefIdeal.main_arg1) = m' ((c.tc : Thread Cert.EvDWInRefIdeal.nD Cert.EvDWInRefIdeal.τ).loc Cert.EvDWInRefIdeal.main_arg1)
          ∧ r.2.mem ((c.tc : Thread Cert.EvDWInRefIdeal.nD Cert.EvDWInRefIdeal.τ).loc Cert.EvDWInRefIdeal.main_arg2) = m' ((c.tc : Thread Cert.EvDWInRefIdeal.nD Cert.EvDWInRefIdeal.τ).loc Cert.EvDWInRefIdeal.main_arg2))

def preserves_OdDWIn_OdDWInIdeal : Prop :=
  True

def algebraic_OdDWInIdeal_OdDWInRefIdeal [hOdDWInIdeal : Cert.OdDWInIdeal.Facts] [hOdDWInRefIdeal : Cert.OdDWInRefIdeal.Facts] : Prop :=
  ∀ (m : (ℓ : Loc Cert.OdDWInIdeal.nD Cert.OdDWInIdeal.τ Cert.OdDWInIdeal.sig) → Buf (Elt Ideal) ℓ) (g : Dev Cert.OdDWInIdeal.nD → PrngReg)
    (m' : (ℓ : Loc Cert.OdDWInRefIdeal.nD Cert.OdDWInRefIdeal.τ Cert.OdDWInRefIdeal.sig) → Buf (Elt Ideal) ℓ) (g' : Dev Cert.OdDWInRefIdeal.nD → PrngReg), Pre_OdDWInIdeal m →
    (∀ c : Dev Cert.OdDWInIdeal.nD,
      m' ((c.tc : Thread Cert.OdDWInRefIdeal.nD Cert.OdDWInRefIdeal.τ).loc Cert.OdDWInRefIdeal.main_arg0) = m ((c.tc : Thread Cert.OdDWInIdeal.nD Cert.OdDWInIdeal.τ).loc Cert.OdDWInIdeal.main_arg0)
      ∧ m' ((c.tc : Thread Cert.OdDWInRefIdeal.nD Cert.OdDWInRefIdeal.τ).loc Cert.OdDWInRefIdeal.main_arg1) = m ((c.tc : Thread Cert.OdDWInIdeal.nD Cert.OdDWInIdeal.τ).loc Cert.OdDWInIdeal.main_arg1)
      ∧ m' ((c.tc : Thread Cert.OdDWInRefIdeal.nD Cert.OdDWInRefIdeal.τ).loc Cert.OdDWInRefIdeal.main_arg2) = m ((c.tc : Thread Cert.OdDWInIdeal.nD Cert.OdDWInIdeal.τ).loc Cert.OdDWInIdeal.main_arg2)) →
    ∃ (v0 : (c : Dev Cert.OdDWInIdeal.nD) → Buf (Elt Ideal) ((c.tc : Thread Cert.OdDWInIdeal.nD Cert.OdDWInIdeal.τ).loc Cert.OdDWInIdeal.main_v15)),
      θ_run (Cert.OdDWInIdeal.defs (F := Ideal)) (onTc (τ := Cert.OdDWInIdeal.τ) (Cert.OdDWInIdeal.main (F := Ideal))) ⟨m, fun _ => 0, g⟩ (fun r => ∀ c : Dev Cert.OdDWInIdeal.nD,
          r.2.mem ((c.tc : Thread Cert.OdDWInIdeal.nD Cert.OdDWInIdeal.τ).loc Cert.OdDWInIdeal.main_v15) = v0 c
          ∧ r.2.mem ((c.tc : Thread Cert.OdDWInIdeal.nD Cert.OdDWInIdeal.τ).loc Cert.OdDWInIdeal.main_arg0) = m ((c.tc : Thread Cert.OdDWInIdeal.nD Cert.OdDWInIdeal.τ).loc Cert.OdDWInIdeal.main_arg0)
          ∧ r.2.mem ((c.tc : Thread Cert.OdDWInIdeal.nD Cert.OdDWInIdeal.τ).loc Cert.OdDWInIdeal.main_arg1) = m ((c.tc : Thread Cert.OdDWInIdeal.nD Cert.OdDWInIdeal.τ).loc Cert.OdDWInIdeal.main_arg1)
          ∧ r.2.mem ((c.tc : Thread Cert.OdDWInIdeal.nD Cert.OdDWInIdeal.τ).loc Cert.OdDWInIdeal.main_arg2) = m ((c.tc : Thread Cert.OdDWInIdeal.nD Cert.OdDWInIdeal.τ).loc Cert.OdDWInIdeal.main_arg2))
      ∧ θ_run (Cert.OdDWInRefIdeal.defs (F := Ideal)) (onTc (τ := Cert.OdDWInRefIdeal.τ) (Cert.OdDWInRefIdeal.main (F := Ideal))) ⟨m', fun _ => 0, g'⟩ (fun r => ∀ c : Dev Cert.OdDWInRefIdeal.nD,
          r.2.mem ((c.tc : Thread Cert.OdDWInRefIdeal.nD Cert.OdDWInRefIdeal.τ).loc Cert.OdDWInRefIdeal.main_v21) = v0 c
          ∧ r.2.mem ((c.tc : Thread Cert.OdDWInRefIdeal.nD Cert.OdDWInRefIdeal.τ).loc Cert.OdDWInRefIdeal.main_arg0) = m' ((c.tc : Thread Cert.OdDWInRefIdeal.nD Cert.OdDWInRefIdeal.τ).loc Cert.OdDWInRefIdeal.main_arg0)
          ∧ r.2.mem ((c.tc : Thread Cert.OdDWInRefIdeal.nD Cert.OdDWInRefIdeal.τ).loc Cert.OdDWInRefIdeal.main_arg1) = m' ((c.tc : Thread Cert.OdDWInRefIdeal.nD Cert.OdDWInRefIdeal.τ).loc Cert.OdDWInRefIdeal.main_arg1)
          ∧ r.2.mem ((c.tc : Thread Cert.OdDWInRefIdeal.nD Cert.OdDWInRefIdeal.τ).loc Cert.OdDWInRefIdeal.main_arg2) = m' ((c.tc : Thread Cert.OdDWInRefIdeal.nD Cert.OdDWInRefIdeal.τ).loc Cert.OdDWInRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v6)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v6) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_DNorm_DNormIdeal : Prop :=
  True

def algebraic_DNormIdeal_DNormRefIdeal [hDNormIdeal : Cert.DNormIdeal.Facts] [hDNormRefIdeal : Cert.DNormRefIdeal.Facts] : Prop :=
  ∀ (m : (ℓ : Loc Cert.DNormIdeal.nD Cert.DNormIdeal.τ Cert.DNormIdeal.sig) → Buf (Elt Ideal) ℓ) (g : Dev Cert.DNormIdeal.nD → PrngReg)
    (m' : (ℓ : Loc Cert.DNormRefIdeal.nD Cert.DNormRefIdeal.τ Cert.DNormRefIdeal.sig) → Buf (Elt Ideal) ℓ) (g' : Dev Cert.DNormRefIdeal.nD → PrngReg), Pre_DNormIdeal m →
    (∀ c : Dev Cert.DNormIdeal.nD,
      m' ((c.tc : Thread Cert.DNormRefIdeal.nD Cert.DNormRefIdeal.τ).loc Cert.DNormRefIdeal.main_arg0) = m ((c.tc : Thread Cert.DNormIdeal.nD Cert.DNormIdeal.τ).loc Cert.DNormIdeal.main_arg0)
      ∧ m' ((c.tc : Thread Cert.DNormRefIdeal.nD Cert.DNormRefIdeal.τ).loc Cert.DNormRefIdeal.main_arg1) = m ((c.tc : Thread Cert.DNormIdeal.nD Cert.DNormIdeal.τ).loc Cert.DNormIdeal.main_arg1)
      ∧ m' ((c.tc : Thread Cert.DNormRefIdeal.nD Cert.DNormRefIdeal.τ).loc Cert.DNormRefIdeal.main_arg2) = m ((c.tc : Thread Cert.DNormIdeal.nD Cert.DNormIdeal.τ).loc Cert.DNormIdeal.main_arg2)
      ∧ m' ((c.tc : Thread Cert.DNormRefIdeal.nD Cert.DNormRefIdeal.τ).loc Cert.DNormRefIdeal.main_arg3) = m ((c.tc : Thread Cert.DNormIdeal.nD Cert.DNormIdeal.τ).loc Cert.DNormIdeal.main_arg3)
      ∧ m' ((c.tc : Thread Cert.DNormRefIdeal.nD Cert.DNormRefIdeal.τ).loc Cert.DNormRefIdeal.main_arg4) = m ((c.tc : Thread Cert.DNormIdeal.nD Cert.DNormIdeal.τ).loc Cert.DNormIdeal.main_arg4)) →
    ∃ (v0 : (c : Dev Cert.DNormIdeal.nD) → Buf (Elt Ideal) ((c.tc : Thread Cert.DNormIdeal.nD Cert.DNormIdeal.τ).loc Cert.DNormIdeal.main_v9_0)) (v1 : (c : Dev Cert.DNormIdeal.nD) → Buf (Elt Ideal) ((c.tc : Thread Cert.DNormIdeal.nD Cert.DNormIdeal.τ).loc Cert.DNormIdeal.main_v9_1)) (v2 : (c : Dev Cert.DNormIdeal.nD) → Buf (Elt Ideal) ((c.tc : Thread Cert.DNormIdeal.nD Cert.DNormIdeal.τ).loc Cert.DNormIdeal.main_v9_2)),
      θ_run (Cert.DNormIdeal.defs (F := Ideal)) (onTc (τ := Cert.DNormIdeal.τ) (Cert.DNormIdeal.main (F := Ideal))) ⟨m, fun _ => 0, g⟩ (fun r => ∀ c : Dev Cert.DNormIdeal.nD,
          r.2.mem ((c.tc : Thread Cert.DNormIdeal.nD Cert.DNormIdeal.τ).loc Cert.DNormIdeal.main_v9_0) = v0 c
          ∧ r.2.mem ((c.tc : Thread Cert.DNormIdeal.nD Cert.DNormIdeal.τ).loc Cert.DNormIdeal.main_v9_1) = v1 c
          ∧ r.2.mem ((c.tc : Thread Cert.DNormIdeal.nD Cert.DNormIdeal.τ).loc Cert.DNormIdeal.main_v9_2) = v2 c
          ∧ r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
          ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1)
          ∧ r.2.mem ((c.tc : Thread Cert.DNormIdeal.nD Cert.DNormIdeal.τ).loc Cert.DNormIdeal.main_arg2) = m ((c.tc : Thread Cert.DNormIdeal.nD Cert.DNormIdeal.τ).loc Cert.DNormIdeal.main_arg2)
          ∧ r.2.mem ((c.tc : Thread Cert.DNormIdeal.nD Cert.DNormIdeal.τ).loc Cert.DNormIdeal.main_arg3) = m ((c.tc : Thread Cert.DNormIdeal.nD Cert.DNormIdeal.τ).loc Cert.DNormIdeal.main_arg3)
          ∧ r.2.mem ((c.tc : Thread Cert.DNormIdeal.nD Cert.DNormIdeal.τ).loc Cert.DNormIdeal.main_arg4) = m ((c.tc : Thread Cert.DNormIdeal.nD Cert.DNormIdeal.τ).loc Cert.DNormIdeal.main_arg4))
      ∧ θ_run (Cert.DNormRefIdeal.defs (F := Ideal)) (onTc (τ := Cert.DNormRefIdeal.τ) (Cert.DNormRefIdeal.main (F := Ideal))) ⟨m', fun _ => 0, g'⟩ (fun r => ∀ c : Dev Cert.DNormRefIdeal.nD,
          r.2.mem ((c.tc : Thread Cert.DNormRefIdeal.nD Cert.DNormRefIdeal.τ).loc Cert.DNormRefIdeal.main_v40) = v0 c
          ∧ r.2.mem ((c.tc : Thread Cert.DNormRefIdeal.nD Cert.DNormRefIdeal.τ).loc Cert.DNormRefIdeal.main_v43) = v1 c
          ∧ r.2.mem ((c.tc : Thread Cert.DNormRefIdeal.nD Cert.DNormRefIdeal.τ).loc Cert.DNormRefIdeal.main_v44) = v2 c
          ∧ r.2.mem ((c.tc : Thread Cert.DNormRefIdeal.nD Cert.DNormRefIdeal.τ).loc Cert.DNormRefIdeal.main_arg0) = m' ((c.tc : Thread Cert.DNormRefIdeal.nD Cert.DNormRefIdeal.τ).loc Cert.DNormRefIdeal.main_arg0)
          ∧ r.2.mem ((c.tc : Thread Cert.DNormRefIdeal.nD Cert.DNormRefIdeal.τ).loc Cert.DNormRefIdeal.main_arg1) = m' ((c.tc : Thread Cert.DNormRefIdeal.nD Cert.DNormRefIdeal.τ).loc Cert.DNormRefIdeal.main_arg1)
          ∧ r.2.mem ((c.tc : Thread Cert.DNormRefIdeal.nD Cert.DNormRefIdeal.τ).loc Cert.DNormRefIdeal.main_arg2) = m' ((c.tc : Thread Cert.DNormRefIdeal.nD Cert.DNormRefIdeal.τ).loc Cert.DNormRefIdeal.main_arg2)
          ∧ r.2.mem ((c.tc : Thread Cert.DNormRefIdeal.nD Cert.DNormRefIdeal.τ).loc Cert.DNormRefIdeal.main_arg3) = m' ((c.tc : Thread Cert.DNormRefIdeal.nD Cert.DNormRefIdeal.τ).loc Cert.DNormRefIdeal.main_arg3)
          ∧ r.2.mem ((c.tc : Thread Cert.DNormRefIdeal.nD Cert.DNormRefIdeal.τ).loc Cert.DNormRefIdeal.main_arg4) = m' ((c.tc : Thread Cert.DNormRefIdeal.nD Cert.DNormRefIdeal.τ).loc Cert.DNormRefIdeal.main_arg4))

def preserves_EvInT_EvInTIdeal : Prop :=
  True

def algebraic_EvInTIdeal_EvInTRefIdeal [hEvInTIdeal : Cert.EvInTIdeal.Facts] [hEvInTRefIdeal : Cert.EvInTRefIdeal.Facts] : Prop :=
  ∀ (m : (ℓ : Loc Cert.EvInTIdeal.nD Cert.EvInTIdeal.τ Cert.EvInTIdeal.sig) → Buf (Elt Ideal) ℓ) (g : Dev Cert.EvInTIdeal.nD → PrngReg)
    (m' : (ℓ : Loc Cert.EvInTRefIdeal.nD Cert.EvInTRefIdeal.τ Cert.EvInTRefIdeal.sig) → Buf (Elt Ideal) ℓ) (g' : Dev Cert.EvInTRefIdeal.nD → PrngReg), Pre_EvInTIdeal m →
    (∀ c : Dev Cert.EvInTIdeal.nD,
      m' ((c.tc : Thread Cert.EvInTRefIdeal.nD Cert.EvInTRefIdeal.τ).loc Cert.EvInTRefIdeal.main_arg0) = m ((c.tc : Thread Cert.EvInTIdeal.nD Cert.EvInTIdeal.τ).loc Cert.EvInTIdeal.main_arg0)
      ∧ m' ((c.tc : Thread Cert.EvInTRefIdeal.nD Cert.EvInTRefIdeal.τ).loc Cert.EvInTRefIdeal.main_arg1) = m ((c.tc : Thread Cert.EvInTIdeal.nD Cert.EvInTIdeal.τ).loc Cert.EvInTIdeal.main_arg1)
      ∧ m' ((c.tc : Thread Cert.EvInTRefIdeal.nD Cert.EvInTRefIdeal.τ).loc Cert.EvInTRefIdeal.main_arg2) = m ((c.tc : Thread Cert.EvInTIdeal.nD Cert.EvInTIdeal.τ).loc Cert.EvInTIdeal.main_arg2)
      ∧ m' ((c.tc : Thread Cert.EvInTRefIdeal.nD Cert.EvInTRefIdeal.τ).loc Cert.EvInTRefIdeal.main_arg3) = m ((c.tc : Thread Cert.EvInTIdeal.nD Cert.EvInTIdeal.τ).loc Cert.EvInTIdeal.main_arg3)
      ∧ m' ((c.tc : Thread Cert.EvInTRefIdeal.nD Cert.EvInTRefIdeal.τ).loc Cert.EvInTRefIdeal.main_arg4) = m ((c.tc : Thread Cert.EvInTIdeal.nD Cert.EvInTIdeal.τ).loc Cert.EvInTIdeal.main_arg4)) →
    ∃ (v0 : (c : Dev Cert.EvInTIdeal.nD) → Buf (Elt Ideal) ((c.tc : Thread Cert.EvInTIdeal.nD Cert.EvInTIdeal.τ).loc Cert.EvInTIdeal.main_v9_0)) (v1 : (c : Dev Cert.EvInTIdeal.nD) → Buf (Elt Ideal) ((c.tc : Thread Cert.EvInTIdeal.nD Cert.EvInTIdeal.τ).loc Cert.EvInTIdeal.main_v9_1)) (v2 : (c : Dev Cert.EvInTIdeal.nD) → Buf (Elt Ideal) ((c.tc : Thread Cert.EvInTIdeal.nD Cert.EvInTIdeal.τ).loc Cert.EvInTIdeal.main_v9_2)),
      θ_run (Cert.EvInTIdeal.defs (F := Ideal)) (onTc (τ := Cert.EvInTIdeal.τ) (Cert.EvInTIdeal.main (F := Ideal))) ⟨m, fun _ => 0, g⟩ (fun r => ∀ c : Dev Cert.EvInTIdeal.nD,
          r.2.mem ((c.tc : Thread Cert.EvInTIdeal.nD Cert.EvInTIdeal.τ).loc Cert.EvInTIdeal.main_v9_0) = v0 c
          ∧ r.2.mem ((c.tc : Thread Cert.EvInTIdeal.nD Cert.EvInTIdeal.τ).loc Cert.EvInTIdeal.main_v9_1) = v1 c
          ∧ r.2.mem ((c.tc : Thread Cert.EvInTIdeal.nD Cert.EvInTIdeal.τ).loc Cert.EvInTIdeal.main_v9_2) = v2 c
          ∧ r.2.mem ((c.tc : Thread Cert.EvInTIdeal.nD Cert.EvInTIdeal.τ).loc Cert.EvInTIdeal.main_arg0) = m ((c.tc : Thread Cert.EvInTIdeal.nD Cert.EvInTIdeal.τ).loc Cert.EvInTIdeal.main_arg0)
          ∧ r.2.mem ((c.tc : Thread Cert.EvInTIdeal.nD Cert.EvInTIdeal.τ).loc Cert.EvInTIdeal.main_arg1) = m ((c.tc : Thread Cert.EvInTIdeal.nD Cert.EvInTIdeal.τ).loc Cert.EvInTIdeal.main_arg1)
          ∧ r.2.mem ((c.tc : Thread Cert.EvInTIdeal.nD Cert.EvInTIdeal.τ).loc Cert.EvInTIdeal.main_arg2) = m ((c.tc : Thread Cert.EvInTIdeal.nD Cert.EvInTIdeal.τ).loc Cert.EvInTIdeal.main_arg2)
          ∧ r.2.mem ((c.tc : Thread Cert.EvInTIdeal.nD Cert.EvInTIdeal.τ).loc Cert.EvInTIdeal.main_arg3) = m ((c.tc : Thread Cert.EvInTIdeal.nD Cert.EvInTIdeal.τ).loc Cert.EvInTIdeal.main_arg3)
          ∧ r.2.mem ((c.tc : Thread Cert.EvInTIdeal.nD Cert.EvInTIdeal.τ).loc Cert.EvInTIdeal.main_arg4) = m ((c.tc : Thread Cert.EvInTIdeal.nD Cert.EvInTIdeal.τ).loc Cert.EvInTIdeal.main_arg4))
      ∧ θ_run (Cert.EvInTRefIdeal.defs (F := Ideal)) (onTc (τ := Cert.EvInTRefIdeal.τ) (Cert.EvInTRefIdeal.main (F := Ideal))) ⟨m', fun _ => 0, g'⟩ (fun r => ∀ c : Dev Cert.EvInTRefIdeal.nD,
          r.2.mem ((c.tc : Thread Cert.EvInTRefIdeal.nD Cert.EvInTRefIdeal.τ).loc Cert.EvInTRefIdeal.main_v40) = v0 c
          ∧ r.2.mem ((c.tc : Thread Cert.EvInTRefIdeal.nD Cert.EvInTRefIdeal.τ).loc Cert.EvInTRefIdeal.main_v43) = v1 c
          ∧ r.2.mem ((c.tc : Thread Cert.EvInTRefIdeal.nD Cert.EvInTRefIdeal.τ).loc Cert.EvInTRefIdeal.main_v44) = v2 c
          ∧ r.2.mem ((c.tc : Thread Cert.EvInTRefIdeal.nD Cert.EvInTRefIdeal.τ).loc Cert.EvInTRefIdeal.main_arg0) = m' ((c.tc : Thread Cert.EvInTRefIdeal.nD Cert.EvInTRefIdeal.τ).loc Cert.EvInTRefIdeal.main_arg0)
          ∧ r.2.mem ((c.tc : Thread Cert.EvInTRefIdeal.nD Cert.EvInTRefIdeal.τ).loc Cert.EvInTRefIdeal.main_arg1) = m' ((c.tc : Thread Cert.EvInTRefIdeal.nD Cert.EvInTRefIdeal.τ).loc Cert.EvInTRefIdeal.main_arg1)
          ∧ r.2.mem ((c.tc : Thread Cert.EvInTRefIdeal.nD Cert.EvInTRefIdeal.τ).loc Cert.EvInTRefIdeal.main_arg2) = m' ((c.tc : Thread Cert.EvInTRefIdeal.nD Cert.EvInTRefIdeal.τ).loc Cert.EvInTRefIdeal.main_arg2)
          ∧ r.2.mem ((c.tc : Thread Cert.EvInTRefIdeal.nD Cert.EvInTRefIdeal.τ).loc Cert.EvInTRefIdeal.main_arg3) = m' ((c.tc : Thread Cert.EvInTRefIdeal.nD Cert.EvInTRefIdeal.τ).loc Cert.EvInTRefIdeal.main_arg3)
          ∧ r.2.mem ((c.tc : Thread Cert.EvInTRefIdeal.nD Cert.EvInTRefIdeal.τ).loc Cert.EvInTRefIdeal.main_arg4) = m' ((c.tc : Thread Cert.EvInTRefIdeal.nD Cert.EvInTRefIdeal.τ).loc Cert.EvInTRefIdeal.main_arg4))

def preserves_OdInT_OdInTIdeal : Prop :=
  True

def algebraic_OdInTIdeal_OdInTRefIdeal [hOdInTIdeal : Cert.OdInTIdeal.Facts] [hOdInTRefIdeal : Cert.OdInTRefIdeal.Facts] : Prop :=
  ∀ (m : (ℓ : Loc Cert.OdInTIdeal.nD Cert.OdInTIdeal.τ Cert.OdInTIdeal.sig) → Buf (Elt Ideal) ℓ) (g : Dev Cert.OdInTIdeal.nD → PrngReg)
    (m' : (ℓ : Loc Cert.OdInTRefIdeal.nD Cert.OdInTRefIdeal.τ Cert.OdInTRefIdeal.sig) → Buf (Elt Ideal) ℓ) (g' : Dev Cert.OdInTRefIdeal.nD → PrngReg), Pre_OdInTIdeal m →
    (∀ c : Dev Cert.OdInTIdeal.nD,
      m' ((c.tc : Thread Cert.OdInTRefIdeal.nD Cert.OdInTRefIdeal.τ).loc Cert.OdInTRefIdeal.main_arg0) = m ((c.tc : Thread Cert.OdInTIdeal.nD Cert.OdInTIdeal.τ).loc Cert.OdInTIdeal.main_arg0)
      ∧ m' ((c.tc : Thread Cert.OdInTRefIdeal.nD Cert.OdInTRefIdeal.τ).loc Cert.OdInTRefIdeal.main_arg1) = m ((c.tc : Thread Cert.OdInTIdeal.nD Cert.OdInTIdeal.τ).loc Cert.OdInTIdeal.main_arg1)
      ∧ m' ((c.tc : Thread Cert.OdInTRefIdeal.nD Cert.OdInTRefIdeal.τ).loc Cert.OdInTRefIdeal.main_arg2) = m ((c.tc : Thread Cert.OdInTIdeal.nD Cert.OdInTIdeal.τ).loc Cert.OdInTIdeal.main_arg2)
      ∧ m' ((c.tc : Thread Cert.OdInTRefIdeal.nD Cert.OdInTRefIdeal.τ).loc Cert.OdInTRefIdeal.main_arg3) = m ((c.tc : Thread Cert.OdInTIdeal.nD Cert.OdInTIdeal.τ).loc Cert.OdInTIdeal.main_arg3)
      ∧ m' ((c.tc : Thread Cert.OdInTRefIdeal.nD Cert.OdInTRefIdeal.τ).loc Cert.OdInTRefIdeal.main_arg4) = m ((c.tc : Thread Cert.OdInTIdeal.nD Cert.OdInTIdeal.τ).loc Cert.OdInTIdeal.main_arg4)) →
    ∃ (v0 : (c : Dev Cert.OdInTIdeal.nD) → Buf (Elt Ideal) ((c.tc : Thread Cert.OdInTIdeal.nD Cert.OdInTIdeal.τ).loc Cert.OdInTIdeal.main_v9_0)) (v1 : (c : Dev Cert.OdInTIdeal.nD) → Buf (Elt Ideal) ((c.tc : Thread Cert.OdInTIdeal.nD Cert.OdInTIdeal.τ).loc Cert.OdInTIdeal.main_v9_1)) (v2 : (c : Dev Cert.OdInTIdeal.nD) → Buf (Elt Ideal) ((c.tc : Thread Cert.OdInTIdeal.nD Cert.OdInTIdeal.τ).loc Cert.OdInTIdeal.main_v9_2)),
      θ_run (Cert.OdInTIdeal.defs (F := Ideal)) (onTc (τ := Cert.OdInTIdeal.τ) (Cert.OdInTIdeal.main (F := Ideal))) ⟨m, fun _ => 0, g⟩ (fun r => ∀ c : Dev Cert.OdInTIdeal.nD,
          r.2.mem ((c.tc : Thread Cert.OdInTIdeal.nD Cert.OdInTIdeal.τ).loc Cert.OdInTIdeal.main_v9_0) = v0 c
          ∧ r.2.mem ((c.tc : Thread Cert.OdInTIdeal.nD Cert.OdInTIdeal.τ).loc Cert.OdInTIdeal.main_v9_1) = v1 c
          ∧ r.2.mem ((c.tc : Thread Cert.OdInTIdeal.nD Cert.OdInTIdeal.τ).loc Cert.OdInTIdeal.main_v9_2) = v2 c
          ∧ r.2.mem ((c.tc : Thread Cert.OdInTIdeal.nD Cert.OdInTIdeal.τ).loc Cert.OdInTIdeal.main_arg0) = m ((c.tc : Thread Cert.OdInTIdeal.nD Cert.OdInTIdeal.τ).loc Cert.OdInTIdeal.main_arg0)
          ∧ r.2.mem ((c.tc : Thread Cert.OdInTIdeal.nD Cert.OdInTIdeal.τ).loc Cert.OdInTIdeal.main_arg1) = m ((c.tc : Thread Cert.OdInTIdeal.nD Cert.OdInTIdeal.τ).loc Cert.OdInTIdeal.main_arg1)
          ∧ r.2.mem ((c.tc : Thread Cert.OdInTIdeal.nD Cert.OdInTIdeal.τ).loc Cert.OdInTIdeal.main_arg2) = m ((c.tc : Thread Cert.OdInTIdeal.nD Cert.OdInTIdeal.τ).loc Cert.OdInTIdeal.main_arg2)
          ∧ r.2.mem ((c.tc : Thread Cert.OdInTIdeal.nD Cert.OdInTIdeal.τ).loc Cert.OdInTIdeal.main_arg3) = m ((c.tc : Thread Cert.OdInTIdeal.nD Cert.OdInTIdeal.τ).loc Cert.OdInTIdeal.main_arg3)
          ∧ r.2.mem ((c.tc : Thread Cert.OdInTIdeal.nD Cert.OdInTIdeal.τ).loc Cert.OdInTIdeal.main_arg4) = m ((c.tc : Thread Cert.OdInTIdeal.nD Cert.OdInTIdeal.τ).loc Cert.OdInTIdeal.main_arg4))
      ∧ θ_run (Cert.OdInTRefIdeal.defs (F := Ideal)) (onTc (τ := Cert.OdInTRefIdeal.τ) (Cert.OdInTRefIdeal.main (F := Ideal))) ⟨m', fun _ => 0, g'⟩ (fun r => ∀ c : Dev Cert.OdInTRefIdeal.nD,
          r.2.mem ((c.tc : Thread Cert.OdInTRefIdeal.nD Cert.OdInTRefIdeal.τ).loc Cert.OdInTRefIdeal.main_v42) = v0 c
          ∧ r.2.mem ((c.tc : Thread Cert.OdInTRefIdeal.nD Cert.OdInTRefIdeal.τ).loc Cert.OdInTRefIdeal.main_v45) = v1 c
          ∧ r.2.mem ((c.tc : Thread Cert.OdInTRefIdeal.nD Cert.OdInTRefIdeal.τ).loc Cert.OdInTRefIdeal.main_v46) = v2 c
          ∧ r.2.mem ((c.tc : Thread Cert.OdInTRefIdeal.nD Cert.OdInTRefIdeal.τ).loc Cert.OdInTRefIdeal.main_arg0) = m' ((c.tc : Thread Cert.OdInTRefIdeal.nD Cert.OdInTRefIdeal.τ).loc Cert.OdInTRefIdeal.main_arg0)
          ∧ r.2.mem ((c.tc : Thread Cert.OdInTRefIdeal.nD Cert.OdInTRefIdeal.τ).loc Cert.OdInTRefIdeal.main_arg1) = m' ((c.tc : Thread Cert.OdInTRefIdeal.nD Cert.OdInTRefIdeal.τ).loc Cert.OdInTRefIdeal.main_arg1)
          ∧ r.2.mem ((c.tc : Thread Cert.OdInTRefIdeal.nD Cert.OdInTRefIdeal.τ).loc Cert.OdInTRefIdeal.main_arg2) = m' ((c.tc : Thread Cert.OdInTRefIdeal.nD Cert.OdInTRefIdeal.τ).loc Cert.OdInTRefIdeal.main_arg2)
          ∧ r.2.mem ((c.tc : Thread Cert.OdInTRefIdeal.nD Cert.OdInTRefIdeal.τ).loc Cert.OdInTRefIdeal.main_arg3) = m' ((c.tc : Thread Cert.OdInTRefIdeal.nD Cert.OdInTRefIdeal.τ).loc Cert.OdInTRefIdeal.main_arg3)
          ∧ r.2.mem ((c.tc : Thread Cert.OdInTRefIdeal.nD Cert.OdInTRefIdeal.τ).loc Cert.OdInTRefIdeal.main_arg4) = m' ((c.tc : Thread Cert.OdInTRefIdeal.nD Cert.OdInTRefIdeal.τ).loc Cert.OdInTRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)) (v2 : (c : Dev Cert.UpIdeal.nD) → Buf (Elt Ideal) ((c.tc : Thread Cert.UpIdeal.nD Cert.UpIdeal.τ).loc Cert.UpIdeal.main_v2_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_v2_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v15) = v0 c
          ∧ r.2.mem ((c.tc : Thread Cert.UpRefIdeal.nD Cert.UpRefIdeal.τ).loc Cert.UpRefIdeal.main_v16) = v1 c
          ∧ r.2.mem ((c.tc : Thread Cert.UpRefIdeal.nD Cert.UpRefIdeal.τ).loc Cert.UpRefIdeal.main_v18) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)
      ∧ m' ((c.tc : Thread Cert.EvInRefIdeal.nD Cert.EvInRefIdeal.τ).loc Cert.EvInRefIdeal.main_arg2) = m ((c.tc : Thread Cert.EvInIdeal.nD Cert.EvInIdeal.τ).loc Cert.EvInIdeal.main_arg2)) →
    ∃ (v0 : (c : Dev Cert.EvInIdeal.nD) → Buf (Elt Ideal) ((c.tc : Thread Cert.EvInIdeal.nD Cert.EvInIdeal.τ).loc Cert.EvInIdeal.main_v2_0)) (v1 : (c : Dev Cert.EvInIdeal.nD) → Buf (Elt Ideal) ((c.tc : Thread Cert.EvInIdeal.nD Cert.EvInIdeal.τ).loc Cert.EvInIdeal.main_v2_1)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v2_0) = v0 c
          ∧ r.2.mem ((c.tc : Thread Cert.EvInIdeal.nD Cert.EvInIdeal.τ).loc Cert.EvInIdeal.main_v2_1) = v1 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1)
          ∧ r.2.mem ((c.tc : Thread Cert.EvInIdeal.nD Cert.EvInIdeal.τ).loc Cert.EvInIdeal.main_arg2) = m ((c.tc : Thread Cert.EvInIdeal.nD Cert.EvInIdeal.τ).loc Cert.EvInIdeal.main_arg2))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v13) = v0 c
          ∧ r.2.mem ((c.tc : Thread Cert.EvInRefIdeal.nD Cert.EvInRefIdeal.τ).loc Cert.EvInRefIdeal.main_v14) = v1 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1)
          ∧ r.2.mem ((c.tc : Thread Cert.EvInRefIdeal.nD Cert.EvInRefIdeal.τ).loc Cert.EvInRefIdeal.main_arg2) = m' ((c.tc : Thread Cert.EvInRefIdeal.nD Cert.EvInRefIdeal.τ).loc Cert.EvInRefIdeal.main_arg2))

def preserves_OdIn_OdInIdeal : Prop :=
  True

def algebraic_OdInIdeal_OdInRefIdeal [hOdInIdeal : Cert.OdInIdeal.Facts] [hOdInRefIdeal : Cert.OdInRefIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.OdInRefIdeal.nD Cert.OdInRefIdeal.τ Cert.OdInRefIdeal.sig) → Buf (Elt Ideal) ℓ) (g' : Dev Cert.OdInRefIdeal.nD → PrngReg), Pre_OdInIdeal m →
    (∀ c : Dev Cert.OdInIdeal.nD,
      m' ((c.tc : Thread Cert.OdInRefIdeal.nD Cert.OdInRefIdeal.τ).loc Cert.OdInRefIdeal.main_arg0) = m ((c.tc : Thread Cert.OdInIdeal.nD Cert.OdInIdeal.τ).loc Cert.OdInIdeal.main_arg0)
      ∧ m' ((c.tc : Thread Cert.OdInRefIdeal.nD Cert.OdInRefIdeal.τ).loc Cert.OdInRefIdeal.main_arg1) = m ((c.tc : Thread Cert.OdInIdeal.nD Cert.OdInIdeal.τ).loc Cert.OdInIdeal.main_arg1)
      ∧ m' ((c.tc : Thread Cert.OdInRefIdeal.nD Cert.OdInRefIdeal.τ).loc Cert.OdInRefIdeal.main_arg2) = m ((c.tc : Thread Cert.OdInIdeal.nD Cert.OdInIdeal.τ).loc Cert.OdInIdeal.main_arg2)) →
    ∃ (v0 : (c : Dev Cert.OdInIdeal.nD) → Buf (Elt Ideal) ((c.tc : Thread Cert.OdInIdeal.nD Cert.OdInIdeal.τ).loc Cert.OdInIdeal.main_v2_0)) (v1 : (c : Dev Cert.OdInIdeal.nD) → Buf (Elt Ideal) ((c.tc : Thread Cert.OdInIdeal.nD Cert.OdInIdeal.τ).loc Cert.OdInIdeal.main_v2_1)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v2_0) = v0 c
          ∧ r.2.mem ((c.tc : Thread Cert.OdInIdeal.nD Cert.OdInIdeal.τ).loc Cert.OdInIdeal.main_v2_1) = v1 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1)
          ∧ r.2.mem ((c.tc : Thread Cert.OdInIdeal.nD Cert.OdInIdeal.τ).loc Cert.OdInIdeal.main_arg2) = m ((c.tc : Thread Cert.OdInIdeal.nD Cert.OdInIdeal.τ).loc Cert.OdInIdeal.main_arg2))
      ∧ θ_run (Cert.OdInRefIdeal.defs (F := Ideal)) (onTc (τ := Cert.OdInRefIdeal.τ) (Cert.OdInRefIdeal.main (F := Ideal))) ⟨m', fun _ => 0, g'⟩ (fun r => ∀ c : Dev Cert.OdInRefIdeal.nD,
          r.2.mem ((c.tc : Thread Cert.OdInRefIdeal.nD Cert.OdInRefIdeal.τ).loc Cert.OdInRefIdeal.main_v13) = v0 c
          ∧ r.2.mem ((c.tc : Thread Cert.OdInRefIdeal.nD Cert.OdInRefIdeal.τ).loc Cert.OdInRefIdeal.main_v14) = v1 c
          ∧ r.2.mem ((c.tc : Thread Cert.OdInRefIdeal.nD Cert.OdInRefIdeal.τ).loc Cert.OdInRefIdeal.main_arg0) = m' ((c.tc : Thread Cert.OdInRefIdeal.nD Cert.OdInRefIdeal.τ).loc Cert.OdInRefIdeal.main_arg0)
          ∧ r.2.mem ((c.tc : Thread Cert.OdInRefIdeal.nD Cert.OdInRefIdeal.τ).loc Cert.OdInRefIdeal.main_arg1) = m' ((c.tc : Thread Cert.OdInRefIdeal.nD Cert.OdInRefIdeal.τ).loc Cert.OdInRefIdeal.main_arg1)
          ∧ r.2.mem ((c.tc : Thread Cert.OdInRefIdeal.nD Cert.OdInRefIdeal.τ).loc Cert.OdInRefIdeal.main_arg2) = m' ((c.tc : Thread Cert.OdInRefIdeal.nD Cert.OdInRefIdeal.τ).loc Cert.OdInRefIdeal.main_arg2))

def preserves_OptOut_OptOutIdeal : Prop :=
  True

def algebraic_OptOutIdeal_OptOutRefIdeal [hOptOutIdeal : Cert.OptOutIdeal.Facts] [hOptOutRefIdeal : Cert.OptOutRefIdeal.Facts] : Prop :=
  ∀ (m : (ℓ : Loc Cert.OptOutIdeal.nD Cert.OptOutIdeal.τ Cert.OptOutIdeal.sig) → Buf (Elt Ideal) ℓ) (g : Dev Cert.OptOutIdeal.nD → PrngReg)
    (m' : (ℓ : Loc Cert.OptOutRefIdeal.nD Cert.OptOutRefIdeal.τ Cert.OptOutRefIdeal.sig) → Buf (Elt Ideal) ℓ) (g' : Dev Cert.OptOutRefIdeal.nD → PrngReg), Pre_OptOutIdeal m →
    (∀ c : Dev Cert.OptOutIdeal.nD,
      m' ((c.tc : Thread Cert.OptOutRefIdeal.nD Cert.OptOutRefIdeal.τ).loc Cert.OptOutRefIdeal.main_arg0) = m ((c.tc : Thread Cert.OptOutIdeal.nD Cert.OptOutIdeal.τ).loc Cert.OptOutIdeal.main_arg0)
      ∧ m' ((c.tc : Thread Cert.OptOutRefIdeal.nD Cert.OptOutRefIdeal.τ).loc Cert.OptOutRefIdeal.main_arg1) = m ((c.tc : Thread Cert.OptOutIdeal.nD Cert.OptOutIdeal.τ).loc Cert.OptOutIdeal.main_arg1)
      ∧ m' ((c.tc : Thread Cert.OptOutRefIdeal.nD Cert.OptOutRefIdeal.τ).loc Cert.OptOutRefIdeal.main_arg2) = m ((c.tc : Thread Cert.OptOutIdeal.nD Cert.OptOutIdeal.τ).loc Cert.OptOutIdeal.main_arg2)
      ∧ m' ((c.tc : Thread Cert.OptOutRefIdeal.nD Cert.OptOutRefIdeal.τ).loc Cert.OptOutRefIdeal.main_arg3) = m ((c.tc : Thread Cert.OptOutIdeal.nD Cert.OptOutIdeal.τ).loc Cert.OptOutIdeal.main_arg3)
      ∧ m' ((c.tc : Thread Cert.OptOutRefIdeal.nD Cert.OptOutRefIdeal.τ).loc Cert.OptOutRefIdeal.main_arg4) = m ((c.tc : Thread Cert.OptOutIdeal.nD Cert.OptOutIdeal.τ).loc Cert.OptOutIdeal.main_arg4)
      ∧ m' ((c.tc : Thread Cert.OptOutRefIdeal.nD Cert.OptOutRefIdeal.τ).loc Cert.OptOutRefIdeal.main_arg5) = m ((c.tc : Thread Cert.OptOutIdeal.nD Cert.OptOutIdeal.τ).loc Cert.OptOutIdeal.main_arg5)
      ∧ m' ((c.tc : Thread Cert.OptOutRefIdeal.nD Cert.OptOutRefIdeal.τ).loc Cert.OptOutRefIdeal.main_arg6) = m ((c.tc : Thread Cert.OptOutIdeal.nD Cert.OptOutIdeal.τ).loc Cert.OptOutIdeal.main_arg6)
      ∧ m' ((c.tc : Thread Cert.OptOutRefIdeal.nD Cert.OptOutRefIdeal.τ).loc Cert.OptOutRefIdeal.main_arg7) = m ((c.tc : Thread Cert.OptOutIdeal.nD Cert.OptOutIdeal.τ).loc Cert.OptOutIdeal.main_arg7)
      ∧ m' ((c.tc : Thread Cert.OptOutRefIdeal.nD Cert.OptOutRefIdeal.τ).loc Cert.OptOutRefIdeal.main_arg8) = m ((c.tc : Thread Cert.OptOutIdeal.nD Cert.OptOutIdeal.τ).loc Cert.OptOutIdeal.main_arg8)) →
    ∃ (v0 : (c : Dev Cert.OptOutIdeal.nD) → Buf (Elt Ideal) ((c.tc : Thread Cert.OptOutIdeal.nD Cert.OptOutIdeal.τ).loc Cert.OptOutIdeal.main_v3_0)) (v1 : (c : Dev Cert.OptOutIdeal.nD) → Buf (Elt Ideal) ((c.tc : Thread Cert.OptOutIdeal.nD Cert.OptOutIdeal.τ).loc Cert.OptOutIdeal.main_v3_1)) (v2 : (c : Dev Cert.OptOutIdeal.nD) → Buf (Elt Ideal) ((c.tc : Thread Cert.OptOutIdeal.nD Cert.OptOutIdeal.τ).loc Cert.OptOutIdeal.main_v3_2)) (v3 : (c : Dev Cert.OptOutIdeal.nD) → Buf (Elt Ideal) ((c.tc : Thread Cert.OptOutIdeal.nD Cert.OptOutIdeal.τ).loc Cert.OptOutIdeal.main_v3_3)),
      θ_run (Cert.OptOutIdeal.defs (F := Ideal)) (onTc (τ := Cert.OptOutIdeal.τ) (Cert.OptOutIdeal.main (F := Ideal))) ⟨m, fun _ => 0, g⟩ (fun r => ∀ c : Dev Cert.OptOutIdeal.nD,
          r.2.mem ((c.tc : Thread Cert.OptOutIdeal.nD Cert.OptOutIdeal.τ).loc Cert.OptOutIdeal.main_v3_0) = v0 c
          ∧ r.2.mem ((c.tc : Thread Cert.OptOutIdeal.nD Cert.OptOutIdeal.τ).loc Cert.OptOutIdeal.main_v3_1) = v1 c
          ∧ r.2.mem ((c.tc : Thread Cert.OptOutIdeal.nD Cert.OptOutIdeal.τ).loc Cert.OptOutIdeal.main_v3_2) = v2 c
          ∧ r.2.mem ((c.tc : Thread Cert.OptOutIdeal.nD Cert.OptOutIdeal.τ).loc Cert.OptOutIdeal.main_v3_3) = v3 c
          ∧ r.2.mem ((c.tc : Thread Cert.OptOutIdeal.nD Cert.OptOutIdeal.τ).loc Cert.OptOutIdeal.main_arg0) = m ((c.tc : Thread Cert.OptOutIdeal.nD Cert.OptOutIdeal.τ).loc Cert.OptOutIdeal.main_arg0)
          ∧ r.2.mem ((c.tc : Thread Cert.OptOutIdeal.nD Cert.OptOutIdeal.τ).loc Cert.OptOutIdeal.main_arg1) = m ((c.tc : Thread Cert.OptOutIdeal.nD Cert.OptOutIdeal.τ).loc Cert.OptOutIdeal.main_arg1)
          ∧ r.2.mem ((c.tc : Thread Cert.OptOutIdeal.nD Cert.OptOutIdeal.τ).loc Cert.OptOutIdeal.main_arg2) = m ((c.tc : Thread Cert.OptOutIdeal.nD Cert.OptOutIdeal.τ).loc Cert.OptOutIdeal.main_arg2)
          ∧ r.2.mem ((c.tc : Thread Cert.OptOutIdeal.nD Cert.OptOutIdeal.τ).loc Cert.OptOutIdeal.main_arg3) = m ((c.tc : Thread Cert.OptOutIdeal.nD Cert.OptOutIdeal.τ).loc Cert.OptOutIdeal.main_arg3)
          ∧ r.2.mem ((c.tc : Thread Cert.OptOutIdeal.nD Cert.OptOutIdeal.τ).loc Cert.OptOutIdeal.main_arg4) = m ((c.tc : Thread Cert.OptOutIdeal.nD Cert.OptOutIdeal.τ).loc Cert.OptOutIdeal.main_arg4)
          ∧ r.2.mem ((c.tc : Thread Cert.OptOutIdeal.nD Cert.OptOutIdeal.τ).loc Cert.OptOutIdeal.main_arg5) = m ((c.tc : Thread Cert.OptOutIdeal.nD Cert.OptOutIdeal.τ).loc Cert.OptOutIdeal.main_arg5)
          ∧ r.2.mem ((c.tc : Thread Cert.OptOutIdeal.nD Cert.OptOutIdeal.τ).loc Cert.OptOutIdeal.main_arg6) = m ((c.tc : Thread Cert.OptOutIdeal.nD Cert.OptOutIdeal.τ).loc Cert.OptOutIdeal.main_arg6)
          ∧ r.2.mem ((c.tc : Thread Cert.OptOutIdeal.nD Cert.OptOutIdeal.τ).loc Cert.OptOutIdeal.main_arg7) = m ((c.tc : Thread Cert.OptOutIdeal.nD Cert.OptOutIdeal.τ).loc Cert.OptOutIdeal.main_arg7)
          ∧ r.2.mem ((c.tc : Thread Cert.OptOutIdeal.nD Cert.OptOutIdeal.τ).loc Cert.OptOutIdeal.main_arg8) = m ((c.tc : Thread Cert.OptOutIdeal.nD Cert.OptOutIdeal.τ).loc Cert.OptOutIdeal.main_arg8))
      ∧ θ_run (Cert.OptOutRefIdeal.defs (F := Ideal)) (onTc (τ := Cert.OptOutRefIdeal.τ) (Cert.OptOutRefIdeal.main (F := Ideal))) ⟨m', fun _ => 0, g'⟩ (fun r => ∀ c : Dev Cert.OptOutRefIdeal.nD,
          r.2.mem ((c.tc : Thread Cert.OptOutRefIdeal.nD Cert.OptOutRefIdeal.τ).loc Cert.OptOutRefIdeal.main_v4) = v0 c
          ∧ r.2.mem ((c.tc : Thread Cert.OptOutRefIdeal.nD Cert.OptOutRefIdeal.τ).loc Cert.OptOutRefIdeal.main_v28) = v1 c
          ∧ r.2.mem ((c.tc : Thread Cert.OptOutRefIdeal.nD Cert.OptOutRefIdeal.τ).loc Cert.OptOutRefIdeal.main_v9) = v2 c
          ∧ r.2.mem ((c.tc : Thread Cert.OptOutRefIdeal.nD Cert.OptOutRefIdeal.τ).loc Cert.OptOutRefIdeal.main_v15) = v3 c
          ∧ r.2.mem ((c.tc : Thread Cert.OptOutRefIdeal.nD Cert.OptOutRefIdeal.τ).loc Cert.OptOutRefIdeal.main_arg0) = m' ((c.tc : Thread Cert.OptOutRefIdeal.nD Cert.OptOutRefIdeal.τ).loc Cert.OptOutRefIdeal.main_arg0)
          ∧ r.2.mem ((c.tc : Thread Cert.OptOutRefIdeal.nD Cert.OptOutRefIdeal.τ).loc Cert.OptOutRefIdeal.main_arg1) = m' ((c.tc : Thread Cert.OptOutRefIdeal.nD Cert.OptOutRefIdeal.τ).loc Cert.OptOutRefIdeal.main_arg1)
          ∧ r.2.mem ((c.tc : Thread Cert.OptOutRefIdeal.nD Cert.OptOutRefIdeal.τ).loc Cert.OptOutRefIdeal.main_arg2) = m' ((c.tc : Thread Cert.OptOutRefIdeal.nD Cert.OptOutRefIdeal.τ).loc Cert.OptOutRefIdeal.main_arg2)
          ∧ r.2.mem ((c.tc : Thread Cert.OptOutRefIdeal.nD Cert.OptOutRefIdeal.τ).loc Cert.OptOutRefIdeal.main_arg3) = m' ((c.tc : Thread Cert.OptOutRefIdeal.nD Cert.OptOutRefIdeal.τ).loc Cert.OptOutRefIdeal.main_arg3)
          ∧ r.2.mem ((c.tc : Thread Cert.OptOutRefIdeal.nD Cert.OptOutRefIdeal.τ).loc Cert.OptOutRefIdeal.main_arg4) = m' ((c.tc : Thread Cert.OptOutRefIdeal.nD Cert.OptOutRefIdeal.τ).loc Cert.OptOutRefIdeal.main_arg4)
          ∧ r.2.mem ((c.tc : Thread Cert.OptOutRefIdeal.nD Cert.OptOutRefIdeal.τ).loc Cert.OptOutRefIdeal.main_arg5) = m' ((c.tc : Thread Cert.OptOutRefIdeal.nD Cert.OptOutRefIdeal.τ).loc Cert.OptOutRefIdeal.main_arg5)
          ∧ r.2.mem ((c.tc : Thread Cert.OptOutRefIdeal.nD Cert.OptOutRefIdeal.τ).loc Cert.OptOutRefIdeal.main_arg6) = m' ((c.tc : Thread Cert.OptOutRefIdeal.nD Cert.OptOutRefIdeal.τ).loc Cert.OptOutRefIdeal.main_arg6)
          ∧ r.2.mem ((c.tc : Thread Cert.OptOutRefIdeal.nD Cert.OptOutRefIdeal.τ).loc Cert.OptOutRefIdeal.main_arg7) = m' ((c.tc : Thread Cert.OptOutRefIdeal.nD Cert.OptOutRefIdeal.τ).loc Cert.OptOutRefIdeal.main_arg7)
          ∧ r.2.mem ((c.tc : Thread Cert.OptOutRefIdeal.nD Cert.OptOutRefIdeal.τ).loc Cert.OptOutRefIdeal.main_arg8) = m' ((c.tc : Thread Cert.OptOutRefIdeal.nD Cert.OptOutRefIdeal.τ).loc Cert.OptOutRefIdeal.main_arg8))

def preserves_OptEvIn_OptEvInIdeal : Prop :=
  True

def algebraic_OptEvInIdeal_OptEvInRefIdeal [hOptEvInIdeal : Cert.OptEvInIdeal.Facts] [hOptEvInRefIdeal : Cert.OptEvInRefIdeal.Facts] : Prop :=
  ∀ (m : (ℓ : Loc Cert.OptEvInIdeal.nD Cert.OptEvInIdeal.τ Cert.OptEvInIdeal.sig) → Buf (Elt Ideal) ℓ) (g : Dev Cert.OptEvInIdeal.nD → PrngReg)
    (m' : (ℓ : Loc Cert.OptEvInRefIdeal.nD Cert.OptEvInRefIdeal.τ Cert.OptEvInRefIdeal.sig) → Buf (Elt Ideal) ℓ) (g' : Dev Cert.OptEvInRefIdeal.nD → PrngReg), Pre_OptEvInIdeal m →
    (∀ c : Dev Cert.OptEvInIdeal.nD,
      m' ((c.tc : Thread Cert.OptEvInRefIdeal.nD Cert.OptEvInRefIdeal.τ).loc Cert.OptEvInRefIdeal.main_arg0) = m ((c.tc : Thread Cert.OptEvInIdeal.nD Cert.OptEvInIdeal.τ).loc Cert.OptEvInIdeal.main_arg0)
      ∧ m' ((c.tc : Thread Cert.OptEvInRefIdeal.nD Cert.OptEvInRefIdeal.τ).loc Cert.OptEvInRefIdeal.main_arg1) = m ((c.tc : Thread Cert.OptEvInIdeal.nD Cert.OptEvInIdeal.τ).loc Cert.OptEvInIdeal.main_arg1)
      ∧ m' ((c.tc : Thread Cert.OptEvInRefIdeal.nD Cert.OptEvInRefIdeal.τ).loc Cert.OptEvInRefIdeal.main_arg2) = m ((c.tc : Thread Cert.OptEvInIdeal.nD Cert.OptEvInIdeal.τ).loc Cert.OptEvInIdeal.main_arg2)
      ∧ m' ((c.tc : Thread Cert.OptEvInRefIdeal.nD Cert.OptEvInRefIdeal.τ).loc Cert.OptEvInRefIdeal.main_arg3) = m ((c.tc : Thread Cert.OptEvInIdeal.nD Cert.OptEvInIdeal.τ).loc Cert.OptEvInIdeal.main_arg3)
      ∧ m' ((c.tc : Thread Cert.OptEvInRefIdeal.nD Cert.OptEvInRefIdeal.τ).loc Cert.OptEvInRefIdeal.main_arg4) = m ((c.tc : Thread Cert.OptEvInIdeal.nD Cert.OptEvInIdeal.τ).loc Cert.OptEvInIdeal.main_arg4)
      ∧ m' ((c.tc : Thread Cert.OptEvInRefIdeal.nD Cert.OptEvInRefIdeal.τ).loc Cert.OptEvInRefIdeal.main_arg5) = m ((c.tc : Thread Cert.OptEvInIdeal.nD Cert.OptEvInIdeal.τ).loc Cert.OptEvInIdeal.main_arg5)
      ∧ m' ((c.tc : Thread Cert.OptEvInRefIdeal.nD Cert.OptEvInRefIdeal.τ).loc Cert.OptEvInRefIdeal.main_arg6) = m ((c.tc : Thread Cert.OptEvInIdeal.nD Cert.OptEvInIdeal.τ).loc Cert.OptEvInIdeal.main_arg6)
      ∧ m' ((c.tc : Thread Cert.OptEvInRefIdeal.nD Cert.OptEvInRefIdeal.τ).loc Cert.OptEvInRefIdeal.main_arg7) = m ((c.tc : Thread Cert.OptEvInIdeal.nD Cert.OptEvInIdeal.τ).loc Cert.OptEvInIdeal.main_arg7)
      ∧ m' ((c.tc : Thread Cert.OptEvInRefIdeal.nD Cert.OptEvInRefIdeal.τ).loc Cert.OptEvInRefIdeal.main_arg8) = m ((c.tc : Thread Cert.OptEvInIdeal.nD Cert.OptEvInIdeal.τ).loc Cert.OptEvInIdeal.main_arg8)) →
    ∃ (v0 : (c : Dev Cert.OptEvInIdeal.nD) → Buf (Elt Ideal) ((c.tc : Thread Cert.OptEvInIdeal.nD Cert.OptEvInIdeal.τ).loc Cert.OptEvInIdeal.main_v3_0)) (v1 : (c : Dev Cert.OptEvInIdeal.nD) → Buf (Elt Ideal) ((c.tc : Thread Cert.OptEvInIdeal.nD Cert.OptEvInIdeal.τ).loc Cert.OptEvInIdeal.main_v3_1)) (v2 : (c : Dev Cert.OptEvInIdeal.nD) → Buf (Elt Ideal) ((c.tc : Thread Cert.OptEvInIdeal.nD Cert.OptEvInIdeal.τ).loc Cert.OptEvInIdeal.main_v3_2)) (v3 : (c : Dev Cert.OptEvInIdeal.nD) → Buf (Elt Ideal) ((c.tc : Thread Cert.OptEvInIdeal.nD Cert.OptEvInIdeal.τ).loc Cert.OptEvInIdeal.main_v3_3)),
      θ_run (Cert.OptEvInIdeal.defs (F := Ideal)) (onTc (τ := Cert.OptEvInIdeal.τ) (Cert.OptEvInIdeal.main (F := Ideal))) ⟨m, fun _ => 0, g⟩ (fun r => ∀ c : Dev Cert.OptEvInIdeal.nD,
          r.2.mem ((c.tc : Thread Cert.OptEvInIdeal.nD Cert.OptEvInIdeal.τ).loc Cert.OptEvInIdeal.main_v3_0) = v0 c
          ∧ r.2.mem ((c.tc : Thread Cert.OptEvInIdeal.nD Cert.OptEvInIdeal.τ).loc Cert.OptEvInIdeal.main_v3_1) = v1 c
          ∧ r.2.mem ((c.tc : Thread Cert.OptEvInIdeal.nD Cert.OptEvInIdeal.τ).loc Cert.OptEvInIdeal.main_v3_2) = v2 c
          ∧ r.2.mem ((c.tc : Thread Cert.OptEvInIdeal.nD Cert.OptEvInIdeal.τ).loc Cert.OptEvInIdeal.main_v3_3) = v3 c
          ∧ r.2.mem ((c.tc : Thread Cert.OptEvInIdeal.nD Cert.OptEvInIdeal.τ).loc Cert.OptEvInIdeal.main_arg0) = m ((c.tc : Thread Cert.OptEvInIdeal.nD Cert.OptEvInIdeal.τ).loc Cert.OptEvInIdeal.main_arg0)
          ∧ r.2.mem ((c.tc : Thread Cert.OptEvInIdeal.nD Cert.OptEvInIdeal.τ).loc Cert.OptEvInIdeal.main_arg1) = m ((c.tc : Thread Cert.OptEvInIdeal.nD Cert.OptEvInIdeal.τ).loc Cert.OptEvInIdeal.main_arg1)
          ∧ r.2.mem ((c.tc : Thread Cert.OptEvInIdeal.nD Cert.OptEvInIdeal.τ).loc Cert.OptEvInIdeal.main_arg2) = m ((c.tc : Thread Cert.OptEvInIdeal.nD Cert.OptEvInIdeal.τ).loc Cert.OptEvInIdeal.main_arg2)
          ∧ r.2.mem ((c.tc : Thread Cert.OptEvInIdeal.nD Cert.OptEvInIdeal.τ).loc Cert.OptEvInIdeal.main_arg3) = m ((c.tc : Thread Cert.OptEvInIdeal.nD Cert.OptEvInIdeal.τ).loc Cert.OptEvInIdeal.main_arg3)
          ∧ r.2.mem ((c.tc : Thread Cert.OptEvInIdeal.nD Cert.OptEvInIdeal.τ).loc Cert.OptEvInIdeal.main_arg4) = m ((c.tc : Thread Cert.OptEvInIdeal.nD Cert.OptEvInIdeal.τ).loc Cert.OptEvInIdeal.main_arg4)
          ∧ r.2.mem ((c.tc : Thread Cert.OptEvInIdeal.nD Cert.OptEvInIdeal.τ).loc Cert.OptEvInIdeal.main_arg5) = m ((c.tc : Thread Cert.OptEvInIdeal.nD Cert.OptEvInIdeal.τ).loc Cert.OptEvInIdeal.main_arg5)
          ∧ r.2.mem ((c.tc : Thread Cert.OptEvInIdeal.nD Cert.OptEvInIdeal.τ).loc Cert.OptEvInIdeal.main_arg6) = m ((c.tc : Thread Cert.OptEvInIdeal.nD Cert.OptEvInIdeal.τ).loc Cert.OptEvInIdeal.main_arg6)
          ∧ r.2.mem ((c.tc : Thread Cert.OptEvInIdeal.nD Cert.OptEvInIdeal.τ).loc Cert.OptEvInIdeal.main_arg7) = m ((c.tc : Thread Cert.OptEvInIdeal.nD Cert.OptEvInIdeal.τ).loc Cert.OptEvInIdeal.main_arg7)
          ∧ r.2.mem ((c.tc : Thread Cert.OptEvInIdeal.nD Cert.OptEvInIdeal.τ).loc Cert.OptEvInIdeal.main_arg8) = m ((c.tc : Thread Cert.OptEvInIdeal.nD Cert.OptEvInIdeal.τ).loc Cert.OptEvInIdeal.main_arg8))
      ∧ θ_run (Cert.OptEvInRefIdeal.defs (F := Ideal)) (onTc (τ := Cert.OptEvInRefIdeal.τ) (Cert.OptEvInRefIdeal.main (F := Ideal))) ⟨m', fun _ => 0, g'⟩ (fun r => ∀ c : Dev Cert.OptEvInRefIdeal.nD,
          r.2.mem ((c.tc : Thread Cert.OptEvInRefIdeal.nD Cert.OptEvInRefIdeal.τ).loc Cert.OptEvInRefIdeal.main_v4) = v0 c
          ∧ r.2.mem ((c.tc : Thread Cert.OptEvInRefIdeal.nD Cert.OptEvInRefIdeal.τ).loc Cert.OptEvInRefIdeal.main_v28) = v1 c
          ∧ r.2.mem ((c.tc : Thread Cert.OptEvInRefIdeal.nD Cert.OptEvInRefIdeal.τ).loc Cert.OptEvInRefIdeal.main_v9) = v2 c
          ∧ r.2.mem ((c.tc : Thread Cert.OptEvInRefIdeal.nD Cert.OptEvInRefIdeal.τ).loc Cert.OptEvInRefIdeal.main_v15) = v3 c
          ∧ r.2.mem ((c.tc : Thread Cert.OptEvInRefIdeal.nD Cert.OptEvInRefIdeal.τ).loc Cert.OptEvInRefIdeal.main_arg0) = m' ((c.tc : Thread Cert.OptEvInRefIdeal.nD Cert.OptEvInRefIdeal.τ).loc Cert.OptEvInRefIdeal.main_arg0)
          ∧ r.2.mem ((c.tc : Thread Cert.OptEvInRefIdeal.nD Cert.OptEvInRefIdeal.τ).loc Cert.OptEvInRefIdeal.main_arg1) = m' ((c.tc : Thread Cert.OptEvInRefIdeal.nD Cert.OptEvInRefIdeal.τ).loc Cert.OptEvInRefIdeal.main_arg1)
          ∧ r.2.mem ((c.tc : Thread Cert.OptEvInRefIdeal.nD Cert.OptEvInRefIdeal.τ).loc Cert.OptEvInRefIdeal.main_arg2) = m' ((c.tc : Thread Cert.OptEvInRefIdeal.nD Cert.OptEvInRefIdeal.τ).loc Cert.OptEvInRefIdeal.main_arg2)
          ∧ r.2.mem ((c.tc : Thread Cert.OptEvInRefIdeal.nD Cert.OptEvInRefIdeal.τ).loc Cert.OptEvInRefIdeal.main_arg3) = m' ((c.tc : Thread Cert.OptEvInRefIdeal.nD Cert.OptEvInRefIdeal.τ).loc Cert.OptEvInRefIdeal.main_arg3)
          ∧ r.2.mem ((c.tc : Thread Cert.OptEvInRefIdeal.nD Cert.OptEvInRefIdeal.τ).loc Cert.OptEvInRefIdeal.main_arg4) = m' ((c.tc : Thread Cert.OptEvInRefIdeal.nD Cert.OptEvInRefIdeal.τ).loc Cert.OptEvInRefIdeal.main_arg4)
          ∧ r.2.mem ((c.tc : Thread Cert.OptEvInRefIdeal.nD Cert.OptEvInRefIdeal.τ).loc Cert.OptEvInRefIdeal.main_arg5) = m' ((c.tc : Thread Cert.OptEvInRefIdeal.nD Cert.OptEvInRefIdeal.τ).loc Cert.OptEvInRefIdeal.main_arg5)
          ∧ r.2.mem ((c.tc : Thread Cert.OptEvInRefIdeal.nD Cert.OptEvInRefIdeal.τ).loc Cert.OptEvInRefIdeal.main_arg6) = m' ((c.tc : Thread Cert.OptEvInRefIdeal.nD Cert.OptEvInRefIdeal.τ).loc Cert.OptEvInRefIdeal.main_arg6)
          ∧ r.2.mem ((c.tc : Thread Cert.OptEvInRefIdeal.nD Cert.OptEvInRefIdeal.τ).loc Cert.OptEvInRefIdeal.main_arg7) = m' ((c.tc : Thread Cert.OptEvInRefIdeal.nD Cert.OptEvInRefIdeal.τ).loc Cert.OptEvInRefIdeal.main_arg7)
          ∧ r.2.mem ((c.tc : Thread Cert.OptEvInRefIdeal.nD Cert.OptEvInRefIdeal.τ).loc Cert.OptEvInRefIdeal.main_arg8) = m' ((c.tc : Thread Cert.OptEvInRefIdeal.nD Cert.OptEvInRefIdeal.τ).loc Cert.OptEvInRefIdeal.main_arg8))

def preserves_OptOdIn_OptOdInIdeal : Prop :=
  True

def algebraic_OptOdInIdeal_OptOdInRefIdeal [hOptOdInIdeal : Cert.OptOdInIdeal.Facts] [hOptOdInRefIdeal : Cert.OptOdInRefIdeal.Facts] : Prop :=
  ∀ (m : (ℓ : Loc Cert.OptOdInIdeal.nD Cert.OptOdInIdeal.τ Cert.OptOdInIdeal.sig) → Buf (Elt Ideal) ℓ) (g : Dev Cert.OptOdInIdeal.nD → PrngReg)
    (m' : (ℓ : Loc Cert.OptOdInRefIdeal.nD Cert.OptOdInRefIdeal.τ Cert.OptOdInRefIdeal.sig) → Buf (Elt Ideal) ℓ) (g' : Dev Cert.OptOdInRefIdeal.nD → PrngReg), Pre_OptOdInIdeal m →
    (∀ c : Dev Cert.OptOdInIdeal.nD,
      m' ((c.tc : Thread Cert.OptOdInRefIdeal.nD Cert.OptOdInRefIdeal.τ).loc Cert.OptOdInRefIdeal.main_arg0) = m ((c.tc : Thread Cert.OptOdInIdeal.nD Cert.OptOdInIdeal.τ).loc Cert.OptOdInIdeal.main_arg0)
      ∧ m' ((c.tc : Thread Cert.OptOdInRefIdeal.nD Cert.OptOdInRefIdeal.τ).loc Cert.OptOdInRefIdeal.main_arg1) = m ((c.tc : Thread Cert.OptOdInIdeal.nD Cert.OptOdInIdeal.τ).loc Cert.OptOdInIdeal.main_arg1)
      ∧ m' ((c.tc : Thread Cert.OptOdInRefIdeal.nD Cert.OptOdInRefIdeal.τ).loc Cert.OptOdInRefIdeal.main_arg2) = m ((c.tc : Thread Cert.OptOdInIdeal.nD Cert.OptOdInIdeal.τ).loc Cert.OptOdInIdeal.main_arg2)
      ∧ m' ((c.tc : Thread Cert.OptOdInRefIdeal.nD Cert.OptOdInRefIdeal.τ).loc Cert.OptOdInRefIdeal.main_arg3) = m ((c.tc : Thread Cert.OptOdInIdeal.nD Cert.OptOdInIdeal.τ).loc Cert.OptOdInIdeal.main_arg3)
      ∧ m' ((c.tc : Thread Cert.OptOdInRefIdeal.nD Cert.OptOdInRefIdeal.τ).loc Cert.OptOdInRefIdeal.main_arg4) = m ((c.tc : Thread Cert.OptOdInIdeal.nD Cert.OptOdInIdeal.τ).loc Cert.OptOdInIdeal.main_arg4)
      ∧ m' ((c.tc : Thread Cert.OptOdInRefIdeal.nD Cert.OptOdInRefIdeal.τ).loc Cert.OptOdInRefIdeal.main_arg5) = m ((c.tc : Thread Cert.OptOdInIdeal.nD Cert.OptOdInIdeal.τ).loc Cert.OptOdInIdeal.main_arg5)
      ∧ m' ((c.tc : Thread Cert.OptOdInRefIdeal.nD Cert.OptOdInRefIdeal.τ).loc Cert.OptOdInRefIdeal.main_arg6) = m ((c.tc : Thread Cert.OptOdInIdeal.nD Cert.OptOdInIdeal.τ).loc Cert.OptOdInIdeal.main_arg6)
      ∧ m' ((c.tc : Thread Cert.OptOdInRefIdeal.nD Cert.OptOdInRefIdeal.τ).loc Cert.OptOdInRefIdeal.main_arg7) = m ((c.tc : Thread Cert.OptOdInIdeal.nD Cert.OptOdInIdeal.τ).loc Cert.OptOdInIdeal.main_arg7)
      ∧ m' ((c.tc : Thread Cert.OptOdInRefIdeal.nD Cert.OptOdInRefIdeal.τ).loc Cert.OptOdInRefIdeal.main_arg8) = m ((c.tc : Thread Cert.OptOdInIdeal.nD Cert.OptOdInIdeal.τ).loc Cert.OptOdInIdeal.main_arg8)) →
    ∃ (v0 : (c : Dev Cert.OptOdInIdeal.nD) → Buf (Elt Ideal) ((c.tc : Thread Cert.OptOdInIdeal.nD Cert.OptOdInIdeal.τ).loc Cert.OptOdInIdeal.main_v3_0)) (v1 : (c : Dev Cert.OptOdInIdeal.nD) → Buf (Elt Ideal) ((c.tc : Thread Cert.OptOdInIdeal.nD Cert.OptOdInIdeal.τ).loc Cert.OptOdInIdeal.main_v3_1)) (v2 : (c : Dev Cert.OptOdInIdeal.nD) → Buf (Elt Ideal) ((c.tc : Thread Cert.OptOdInIdeal.nD Cert.OptOdInIdeal.τ).loc Cert.OptOdInIdeal.main_v3_2)) (v3 : (c : Dev Cert.OptOdInIdeal.nD) → Buf (Elt Ideal) ((c.tc : Thread Cert.OptOdInIdeal.nD Cert.OptOdInIdeal.τ).loc Cert.OptOdInIdeal.main_v3_3)),
      θ_run (Cert.OptOdInIdeal.defs (F := Ideal)) (onTc (τ := Cert.OptOdInIdeal.τ) (Cert.OptOdInIdeal.main (F := Ideal))) ⟨m, fun _ => 0, g⟩ (fun r => ∀ c : Dev Cert.OptOdInIdeal.nD,
          r.2.mem ((c.tc : Thread Cert.OptOdInIdeal.nD Cert.OptOdInIdeal.τ).loc Cert.OptOdInIdeal.main_v3_0) = v0 c
          ∧ r.2.mem ((c.tc : Thread Cert.OptOdInIdeal.nD Cert.OptOdInIdeal.τ).loc Cert.OptOdInIdeal.main_v3_1) = v1 c
          ∧ r.2.mem ((c.tc : Thread Cert.OptOdInIdeal.nD Cert.OptOdInIdeal.τ).loc Cert.OptOdInIdeal.main_v3_2) = v2 c
          ∧ r.2.mem ((c.tc : Thread Cert.OptOdInIdeal.nD Cert.OptOdInIdeal.τ).loc Cert.OptOdInIdeal.main_v3_3) = v3 c
          ∧ r.2.mem ((c.tc : Thread Cert.OptOdInIdeal.nD Cert.OptOdInIdeal.τ).loc Cert.OptOdInIdeal.main_arg0) = m ((c.tc : Thread Cert.OptOdInIdeal.nD Cert.OptOdInIdeal.τ).loc Cert.OptOdInIdeal.main_arg0)
          ∧ r.2.mem ((c.tc : Thread Cert.OptOdInIdeal.nD Cert.OptOdInIdeal.τ).loc Cert.OptOdInIdeal.main_arg1) = m ((c.tc : Thread Cert.OptOdInIdeal.nD Cert.OptOdInIdeal.τ).loc Cert.OptOdInIdeal.main_arg1)
          ∧ r.2.mem ((c.tc : Thread Cert.OptOdInIdeal.nD Cert.OptOdInIdeal.τ).loc Cert.OptOdInIdeal.main_arg2) = m ((c.tc : Thread Cert.OptOdInIdeal.nD Cert.OptOdInIdeal.τ).loc Cert.OptOdInIdeal.main_arg2)
          ∧ r.2.mem ((c.tc : Thread Cert.OptOdInIdeal.nD Cert.OptOdInIdeal.τ).loc Cert.OptOdInIdeal.main_arg3) = m ((c.tc : Thread Cert.OptOdInIdeal.nD Cert.OptOdInIdeal.τ).loc Cert.OptOdInIdeal.main_arg3)
          ∧ r.2.mem ((c.tc : Thread Cert.OptOdInIdeal.nD Cert.OptOdInIdeal.τ).loc Cert.OptOdInIdeal.main_arg4) = m ((c.tc : Thread Cert.OptOdInIdeal.nD Cert.OptOdInIdeal.τ).loc Cert.OptOdInIdeal.main_arg4)
          ∧ r.2.mem ((c.tc : Thread Cert.OptOdInIdeal.nD Cert.OptOdInIdeal.τ).loc Cert.OptOdInIdeal.main_arg5) = m ((c.tc : Thread Cert.OptOdInIdeal.nD Cert.OptOdInIdeal.τ).loc Cert.OptOdInIdeal.main_arg5)
          ∧ r.2.mem ((c.tc : Thread Cert.OptOdInIdeal.nD Cert.OptOdInIdeal.τ).loc Cert.OptOdInIdeal.main_arg6) = m ((c.tc : Thread Cert.OptOdInIdeal.nD Cert.OptOdInIdeal.τ).loc Cert.OptOdInIdeal.main_arg6)
          ∧ r.2.mem ((c.tc : Thread Cert.OptOdInIdeal.nD Cert.OptOdInIdeal.τ).loc Cert.OptOdInIdeal.main_arg7) = m ((c.tc : Thread Cert.OptOdInIdeal.nD Cert.OptOdInIdeal.τ).loc Cert.OptOdInIdeal.main_arg7)
          ∧ r.2.mem ((c.tc : Thread Cert.OptOdInIdeal.nD Cert.OptOdInIdeal.τ).loc Cert.OptOdInIdeal.main_arg8) = m ((c.tc : Thread Cert.OptOdInIdeal.nD Cert.OptOdInIdeal.τ).loc Cert.OptOdInIdeal.main_arg8))
      ∧ θ_run (Cert.OptOdInRefIdeal.defs (F := Ideal)) (onTc (τ := Cert.OptOdInRefIdeal.τ) (Cert.OptOdInRefIdeal.main (F := Ideal))) ⟨m', fun _ => 0, g'⟩ (fun r => ∀ c : Dev Cert.OptOdInRefIdeal.nD,
          r.2.mem ((c.tc : Thread Cert.OptOdInRefIdeal.nD Cert.OptOdInRefIdeal.τ).loc Cert.OptOdInRefIdeal.main_v4) = v0 c
          ∧ r.2.mem ((c.tc : Thread Cert.OptOdInRefIdeal.nD Cert.OptOdInRefIdeal.τ).loc Cert.OptOdInRefIdeal.main_v28) = v1 c
          ∧ r.2.mem ((c.tc : Thread Cert.OptOdInRefIdeal.nD Cert.OptOdInRefIdeal.τ).loc Cert.OptOdInRefIdeal.main_v9) = v2 c
          ∧ r.2.mem ((c.tc : Thread Cert.OptOdInRefIdeal.nD Cert.OptOdInRefIdeal.τ).loc Cert.OptOdInRefIdeal.main_v15) = v3 c
          ∧ r.2.mem ((c.tc : Thread Cert.OptOdInRefIdeal.nD Cert.OptOdInRefIdeal.τ).loc Cert.OptOdInRefIdeal.main_arg0) = m' ((c.tc : Thread Cert.OptOdInRefIdeal.nD Cert.OptOdInRefIdeal.τ).loc Cert.OptOdInRefIdeal.main_arg0)
          ∧ r.2.mem ((c.tc : Thread Cert.OptOdInRefIdeal.nD Cert.OptOdInRefIdeal.τ).loc Cert.OptOdInRefIdeal.main_arg1) = m' ((c.tc : Thread Cert.OptOdInRefIdeal.nD Cert.OptOdInRefIdeal.τ).loc Cert.OptOdInRefIdeal.main_arg1)
          ∧ r.2.mem ((c.tc : Thread Cert.OptOdInRefIdeal.nD Cert.OptOdInRefIdeal.τ).loc Cert.OptOdInRefIdeal.main_arg2) = m' ((c.tc : Thread Cert.OptOdInRefIdeal.nD Cert.OptOdInRefIdeal.τ).loc Cert.OptOdInRefIdeal.main_arg2)
          ∧ r.2.mem ((c.tc : Thread Cert.OptOdInRefIdeal.nD Cert.OptOdInRefIdeal.τ).loc Cert.OptOdInRefIdeal.main_arg3) = m' ((c.tc : Thread Cert.OptOdInRefIdeal.nD Cert.OptOdInRefIdeal.τ).loc Cert.OptOdInRefIdeal.main_arg3)
          ∧ r.2.mem ((c.tc : Thread Cert.OptOdInRefIdeal.nD Cert.OptOdInRefIdeal.τ).loc Cert.OptOdInRefIdeal.main_arg4) = m' ((c.tc : Thread Cert.OptOdInRefIdeal.nD Cert.OptOdInRefIdeal.τ).loc Cert.OptOdInRefIdeal.main_arg4)
          ∧ r.2.mem ((c.tc : Thread Cert.OptOdInRefIdeal.nD Cert.OptOdInRefIdeal.τ).loc Cert.OptOdInRefIdeal.main_arg5) = m' ((c.tc : Thread Cert.OptOdInRefIdeal.nD Cert.OptOdInRefIdeal.τ).loc Cert.OptOdInRefIdeal.main_arg5)
          ∧ r.2.mem ((c.tc : Thread Cert.OptOdInRefIdeal.nD Cert.OptOdInRefIdeal.τ).loc Cert.OptOdInRefIdeal.main_arg6) = m' ((c.tc : Thread Cert.OptOdInRefIdeal.nD Cert.OptOdInRefIdeal.τ).loc Cert.OptOdInRefIdeal.main_arg6)
          ∧ r.2.mem ((c.tc : Thread Cert.OptOdInRefIdeal.nD Cert.OptOdInRefIdeal.τ).loc Cert.OptOdInRefIdeal.main_arg7) = m' ((c.tc : Thread Cert.OptOdInRefIdeal.nD Cert.OptOdInRefIdeal.τ).loc Cert.OptOdInRefIdeal.main_arg7)
          ∧ r.2.mem ((c.tc : Thread Cert.OptOdInRefIdeal.nD Cert.OptOdInRefIdeal.τ).loc Cert.OptOdInRefIdeal.main_arg8) = m' ((c.tc : Thread Cert.OptOdInRefIdeal.nD Cert.OptOdInRefIdeal.τ).loc Cert.OptOdInRefIdeal.main_arg8))

def preserves_OptW1_OptW1Ideal : Prop :=
  True

def algebraic_OptW1Ideal_OptW1RefIdeal [hOptW1Ideal : Cert.OptW1Ideal.Facts] [hOptW1RefIdeal : Cert.OptW1RefIdeal.Facts] : Prop :=
  ∀ (m : (ℓ : Loc Cert.OptW1Ideal.nD Cert.OptW1Ideal.τ Cert.OptW1Ideal.sig) → Buf (Elt Ideal) ℓ) (g : Dev Cert.OptW1Ideal.nD → PrngReg)
    (m' : (ℓ : Loc Cert.OptW1RefIdeal.nD Cert.OptW1RefIdeal.τ Cert.OptW1RefIdeal.sig) → Buf (Elt Ideal) ℓ) (g' : Dev Cert.OptW1RefIdeal.nD → PrngReg), Pre_OptW1Ideal m →
    (∀ c : Dev Cert.OptW1Ideal.nD,
      m' ((c.tc : Thread Cert.OptW1RefIdeal.nD Cert.OptW1RefIdeal.τ).loc Cert.OptW1RefIdeal.main_arg0) = m ((c.tc : Thread Cert.OptW1Ideal.nD Cert.OptW1Ideal.τ).loc Cert.OptW1Ideal.main_arg0)
      ∧ m' ((c.tc : Thread Cert.OptW1RefIdeal.nD Cert.OptW1RefIdeal.τ).loc Cert.OptW1RefIdeal.main_arg1) = m ((c.tc : Thread Cert.OptW1Ideal.nD Cert.OptW1Ideal.τ).loc Cert.OptW1Ideal.main_arg1)
      ∧ m' ((c.tc : Thread Cert.OptW1RefIdeal.nD Cert.OptW1RefIdeal.τ).loc Cert.OptW1RefIdeal.main_arg2) = m ((c.tc : Thread Cert.OptW1Ideal.nD Cert.OptW1Ideal.τ).loc Cert.OptW1Ideal.main_arg2)
      ∧ m' ((c.tc : Thread Cert.OptW1RefIdeal.nD Cert.OptW1RefIdeal.τ).loc Cert.OptW1RefIdeal.main_arg3) = m ((c.tc : Thread Cert.OptW1Ideal.nD Cert.OptW1Ideal.τ).loc Cert.OptW1Ideal.main_arg3)
      ∧ m' ((c.tc : Thread Cert.OptW1RefIdeal.nD Cert.OptW1RefIdeal.τ).loc Cert.OptW1RefIdeal.main_arg4) = m ((c.tc : Thread Cert.OptW1Ideal.nD Cert.OptW1Ideal.τ).loc Cert.OptW1Ideal.main_arg4)
      ∧ m' ((c.tc : Thread Cert.OptW1RefIdeal.nD Cert.OptW1RefIdeal.τ).loc Cert.OptW1RefIdeal.main_arg5) = m ((c.tc : Thread Cert.OptW1Ideal.nD Cert.OptW1Ideal.τ).loc Cert.OptW1Ideal.main_arg5)
      ∧ m' ((c.tc : Thread Cert.OptW1RefIdeal.nD Cert.OptW1RefIdeal.τ).loc Cert.OptW1RefIdeal.main_arg6) = m ((c.tc : Thread Cert.OptW1Ideal.nD Cert.OptW1Ideal.τ).loc Cert.OptW1Ideal.main_arg6)
      ∧ m' ((c.tc : Thread Cert.OptW1RefIdeal.nD Cert.OptW1RefIdeal.τ).loc Cert.OptW1RefIdeal.main_arg7) = m ((c.tc : Thread Cert.OptW1Ideal.nD Cert.OptW1Ideal.τ).loc Cert.OptW1Ideal.main_arg7)
      ∧ m' ((c.tc : Thread Cert.OptW1RefIdeal.nD Cert.OptW1RefIdeal.τ).loc Cert.OptW1RefIdeal.main_arg8) = m ((c.tc : Thread Cert.OptW1Ideal.nD Cert.OptW1Ideal.τ).loc Cert.OptW1Ideal.main_arg8)
      ∧ m' ((c.tc : Thread Cert.OptW1RefIdeal.nD Cert.OptW1RefIdeal.τ).loc Cert.OptW1RefIdeal.main_arg9) = m ((c.tc : Thread Cert.OptW1Ideal.nD Cert.OptW1Ideal.τ).loc Cert.OptW1Ideal.main_arg9)
      ∧ m' ((c.tc : Thread Cert.OptW1RefIdeal.nD Cert.OptW1RefIdeal.τ).loc Cert.OptW1RefIdeal.main_arg10) = m ((c.tc : Thread Cert.OptW1Ideal.nD Cert.OptW1Ideal.τ).loc Cert.OptW1Ideal.main_arg10)) →
    ∃ (v0 : (c : Dev Cert.OptW1Ideal.nD) → Buf (Elt Ideal) ((c.tc : Thread Cert.OptW1Ideal.nD Cert.OptW1Ideal.τ).loc Cert.OptW1Ideal.main_v7_0)) (v1 : (c : Dev Cert.OptW1Ideal.nD) → Buf (Elt Ideal) ((c.tc : Thread Cert.OptW1Ideal.nD Cert.OptW1Ideal.τ).loc Cert.OptW1Ideal.main_v7_1)) (v2 : (c : Dev Cert.OptW1Ideal.nD) → Buf (Elt Ideal) ((c.tc : Thread Cert.OptW1Ideal.nD Cert.OptW1Ideal.τ).loc Cert.OptW1Ideal.main_v7_2)) (v3 : (c : Dev Cert.OptW1Ideal.nD) → Buf (Elt Ideal) ((c.tc : Thread Cert.OptW1Ideal.nD Cert.OptW1Ideal.τ).loc Cert.OptW1Ideal.main_v7_3)),
      θ_run (Cert.OptW1Ideal.defs (F := Ideal)) (onTc (τ := Cert.OptW1Ideal.τ) (Cert.OptW1Ideal.main (F := Ideal))) ⟨m, fun _ => 0, g⟩ (fun r => ∀ c : Dev Cert.OptW1Ideal.nD,
          r.2.mem ((c.tc : Thread Cert.OptW1Ideal.nD Cert.OptW1Ideal.τ).loc Cert.OptW1Ideal.main_v7_0) = v0 c
          ∧ r.2.mem ((c.tc : Thread Cert.OptW1Ideal.nD Cert.OptW1Ideal.τ).loc Cert.OptW1Ideal.main_v7_1) = v1 c
          ∧ r.2.mem ((c.tc : Thread Cert.OptW1Ideal.nD Cert.OptW1Ideal.τ).loc Cert.OptW1Ideal.main_v7_2) = v2 c
          ∧ r.2.mem ((c.tc : Thread Cert.OptW1Ideal.nD Cert.OptW1Ideal.τ).loc Cert.OptW1Ideal.main_v7_3) = v3 c
          ∧ r.2.mem ((c.tc : Thread Cert.OptW1Ideal.nD Cert.OptW1Ideal.τ).loc Cert.OptW1Ideal.main_arg0) = m ((c.tc : Thread Cert.OptW1Ideal.nD Cert.OptW1Ideal.τ).loc Cert.OptW1Ideal.main_arg0)
          ∧ r.2.mem ((c.tc : Thread Cert.OptW1Ideal.nD Cert.OptW1Ideal.τ).loc Cert.OptW1Ideal.main_arg1) = m ((c.tc : Thread Cert.OptW1Ideal.nD Cert.OptW1Ideal.τ).loc Cert.OptW1Ideal.main_arg1)
          ∧ r.2.mem ((c.tc : Thread Cert.OptW1Ideal.nD Cert.OptW1Ideal.τ).loc Cert.OptW1Ideal.main_arg2) = m ((c.tc : Thread Cert.OptW1Ideal.nD Cert.OptW1Ideal.τ).loc Cert.OptW1Ideal.main_arg2)
          ∧ r.2.mem ((c.tc : Thread Cert.OptW1Ideal.nD Cert.OptW1Ideal.τ).loc Cert.OptW1Ideal.main_arg3) = m ((c.tc : Thread Cert.OptW1Ideal.nD Cert.OptW1Ideal.τ).loc Cert.OptW1Ideal.main_arg3)
          ∧ r.2.mem ((c.tc : Thread Cert.OptW1Ideal.nD Cert.OptW1Ideal.τ).loc Cert.OptW1Ideal.main_arg4) = m ((c.tc : Thread Cert.OptW1Ideal.nD Cert.OptW1Ideal.τ).loc Cert.OptW1Ideal.main_arg4)
          ∧ r.2.mem ((c.tc : Thread Cert.OptW1Ideal.nD Cert.OptW1Ideal.τ).loc Cert.OptW1Ideal.main_arg5) = m ((c.tc : Thread Cert.OptW1Ideal.nD Cert.OptW1Ideal.τ).loc Cert.OptW1Ideal.main_arg5)
          ∧ r.2.mem ((c.tc : Thread Cert.OptW1Ideal.nD Cert.OptW1Ideal.τ).loc Cert.OptW1Ideal.main_arg6) = m ((c.tc : Thread Cert.OptW1Ideal.nD Cert.OptW1Ideal.τ).loc Cert.OptW1Ideal.main_arg6)
          ∧ r.2.mem ((c.tc : Thread Cert.OptW1Ideal.nD Cert.OptW1Ideal.τ).loc Cert.OptW1Ideal.main_arg7) = m ((c.tc : Thread Cert.OptW1Ideal.nD Cert.OptW1Ideal.τ).loc Cert.OptW1Ideal.main_arg7)
          ∧ r.2.mem ((c.tc : Thread Cert.OptW1Ideal.nD Cert.OptW1Ideal.τ).loc Cert.OptW1Ideal.main_arg8) = m ((c.tc : Thread Cert.OptW1Ideal.nD Cert.OptW1Ideal.τ).loc Cert.OptW1Ideal.main_arg8)
          ∧ r.2.mem ((c.tc : Thread Cert.OptW1Ideal.nD Cert.OptW1Ideal.τ).loc Cert.OptW1Ideal.main_arg9) = m ((c.tc : Thread Cert.OptW1Ideal.nD Cert.OptW1Ideal.τ).loc Cert.OptW1Ideal.main_arg9)
          ∧ r.2.mem ((c.tc : Thread Cert.OptW1Ideal.nD Cert.OptW1Ideal.τ).loc Cert.OptW1Ideal.main_arg10) = m ((c.tc : Thread Cert.OptW1Ideal.nD Cert.OptW1Ideal.τ).loc Cert.OptW1Ideal.main_arg10))
      ∧ θ_run (Cert.OptW1RefIdeal.defs (F := Ideal)) (onTc (τ := Cert.OptW1RefIdeal.τ) (Cert.OptW1RefIdeal.main (F := Ideal))) ⟨m', fun _ => 0, g'⟩ (fun r => ∀ c : Dev Cert.OptW1RefIdeal.nD,
          r.2.mem ((c.tc : Thread Cert.OptW1RefIdeal.nD Cert.OptW1RefIdeal.τ).loc Cert.OptW1RefIdeal.main_v8) = v0 c
          ∧ r.2.mem ((c.tc : Thread Cert.OptW1RefIdeal.nD Cert.OptW1RefIdeal.τ).loc Cert.OptW1RefIdeal.main_v32) = v1 c
          ∧ r.2.mem ((c.tc : Thread Cert.OptW1RefIdeal.nD Cert.OptW1RefIdeal.τ).loc Cert.OptW1RefIdeal.main_v13) = v2 c
          ∧ r.2.mem ((c.tc : Thread Cert.OptW1RefIdeal.nD Cert.OptW1RefIdeal.τ).loc Cert.OptW1RefIdeal.main_v19) = v3 c
          ∧ r.2.mem ((c.tc : Thread Cert.OptW1RefIdeal.nD Cert.OptW1RefIdeal.τ).loc Cert.OptW1RefIdeal.main_arg0) = m' ((c.tc : Thread Cert.OptW1RefIdeal.nD Cert.OptW1RefIdeal.τ).loc Cert.OptW1RefIdeal.main_arg0)
          ∧ r.2.mem ((c.tc : Thread Cert.OptW1RefIdeal.nD Cert.OptW1RefIdeal.τ).loc Cert.OptW1RefIdeal.main_arg1) = m' ((c.tc : Thread Cert.OptW1RefIdeal.nD Cert.OptW1RefIdeal.τ).loc Cert.OptW1RefIdeal.main_arg1)
          ∧ r.2.mem ((c.tc : Thread Cert.OptW1RefIdeal.nD Cert.OptW1RefIdeal.τ).loc Cert.OptW1RefIdeal.main_arg2) = m' ((c.tc : Thread Cert.OptW1RefIdeal.nD Cert.OptW1RefIdeal.τ).loc Cert.OptW1RefIdeal.main_arg2)
          ∧ r.2.mem ((c.tc : Thread Cert.OptW1RefIdeal.nD Cert.OptW1RefIdeal.τ).loc Cert.OptW1RefIdeal.main_arg3) = m' ((c.tc : Thread Cert.OptW1RefIdeal.nD Cert.OptW1RefIdeal.τ).loc Cert.OptW1RefIdeal.main_arg3)
          ∧ r.2.mem ((c.tc : Thread Cert.OptW1RefIdeal.nD Cert.OptW1RefIdeal.τ).loc Cert.OptW1RefIdeal.main_arg4) = m' ((c.tc : Thread Cert.OptW1RefIdeal.nD Cert.OptW1RefIdeal.τ).loc Cert.OptW1RefIdeal.main_arg4)
          ∧ r.2.mem ((c.tc : Thread Cert.OptW1RefIdeal.nD Cert.OptW1RefIdeal.τ).loc Cert.OptW1RefIdeal.main_arg5) = m' ((c.tc : Thread Cert.OptW1RefIdeal.nD Cert.OptW1RefIdeal.τ).loc Cert.OptW1RefIdeal.main_arg5)
          ∧ r.2.mem ((c.tc : Thread Cert.OptW1RefIdeal.nD Cert.OptW1RefIdeal.τ).loc Cert.OptW1RefIdeal.main_arg6) = m' ((c.tc : Thread Cert.OptW1RefIdeal.nD Cert.OptW1RefIdeal.τ).loc Cert.OptW1RefIdeal.main_arg6)
          ∧ r.2.mem ((c.tc : Thread Cert.OptW1RefIdeal.nD Cert.OptW1RefIdeal.τ).loc Cert.OptW1RefIdeal.main_arg7) = m' ((c.tc : Thread Cert.OptW1RefIdeal.nD Cert.OptW1RefIdeal.τ).loc Cert.OptW1RefIdeal.main_arg7)
          ∧ r.2.mem ((c.tc : Thread Cert.OptW1RefIdeal.nD Cert.OptW1RefIdeal.τ).loc Cert.OptW1RefIdeal.main_arg8) = m' ((c.tc : Thread Cert.OptW1RefIdeal.nD Cert.OptW1RefIdeal.τ).loc Cert.OptW1RefIdeal.main_arg8)
          ∧ r.2.mem ((c.tc : Thread Cert.OptW1RefIdeal.nD Cert.OptW1RefIdeal.τ).loc Cert.OptW1RefIdeal.main_arg9) = m' ((c.tc : Thread Cert.OptW1RefIdeal.nD Cert.OptW1RefIdeal.τ).loc Cert.OptW1RefIdeal.main_arg9)
          ∧ r.2.mem ((c.tc : Thread Cert.OptW1RefIdeal.nD Cert.OptW1RefIdeal.τ).loc Cert.OptW1RefIdeal.main_arg10) = m' ((c.tc : Thread Cert.OptW1RefIdeal.nD Cert.OptW1RefIdeal.τ).loc Cert.OptW1RefIdeal.main_arg10))

def preserves_OptW2_OptW2Ideal : Prop :=
  True

def algebraic_OptW2Ideal_OptW2RefIdeal [hOptW2Ideal : Cert.OptW2Ideal.Facts] [hOptW2RefIdeal : Cert.OptW2RefIdeal.Facts] : Prop :=
  ∀ (m : (ℓ : Loc Cert.OptW2Ideal.nD Cert.OptW2Ideal.τ Cert.OptW2Ideal.sig) → Buf (Elt Ideal) ℓ) (g : Dev Cert.OptW2Ideal.nD → PrngReg)
    (m' : (ℓ : Loc Cert.OptW2RefIdeal.nD Cert.OptW2RefIdeal.τ Cert.OptW2RefIdeal.sig) → Buf (Elt Ideal) ℓ) (g' : Dev Cert.OptW2RefIdeal.nD → PrngReg), Pre_OptW2Ideal m →
    (∀ c : Dev Cert.OptW2Ideal.nD,
      m' ((c.tc : Thread Cert.OptW2RefIdeal.nD Cert.OptW2RefIdeal.τ).loc Cert.OptW2RefIdeal.main_arg0) = m ((c.tc : Thread Cert.OptW2Ideal.nD Cert.OptW2Ideal.τ).loc Cert.OptW2Ideal.main_arg0)
      ∧ m' ((c.tc : Thread Cert.OptW2RefIdeal.nD Cert.OptW2RefIdeal.τ).loc Cert.OptW2RefIdeal.main_arg1) = m ((c.tc : Thread Cert.OptW2Ideal.nD Cert.OptW2Ideal.τ).loc Cert.OptW2Ideal.main_arg1)
      ∧ m' ((c.tc : Thread Cert.OptW2RefIdeal.nD Cert.OptW2RefIdeal.τ).loc Cert.OptW2RefIdeal.main_arg2) = m ((c.tc : Thread Cert.OptW2Ideal.nD Cert.OptW2Ideal.τ).loc Cert.OptW2Ideal.main_arg2)
      ∧ m' ((c.tc : Thread Cert.OptW2RefIdeal.nD Cert.OptW2RefIdeal.τ).loc Cert.OptW2RefIdeal.main_arg3) = m ((c.tc : Thread Cert.OptW2Ideal.nD Cert.OptW2Ideal.τ).loc Cert.OptW2Ideal.main_arg3)
      ∧ m' ((c.tc : Thread Cert.OptW2RefIdeal.nD Cert.OptW2RefIdeal.τ).loc Cert.OptW2RefIdeal.main_arg4) = m ((c.tc : Thread Cert.OptW2Ideal.nD Cert.OptW2Ideal.τ).loc Cert.OptW2Ideal.main_arg4)
      ∧ m' ((c.tc : Thread Cert.OptW2RefIdeal.nD Cert.OptW2RefIdeal.τ).loc Cert.OptW2RefIdeal.main_arg5) = m ((c.tc : Thread Cert.OptW2Ideal.nD Cert.OptW2Ideal.τ).loc Cert.OptW2Ideal.main_arg5)
      ∧ m' ((c.tc : Thread Cert.OptW2RefIdeal.nD Cert.OptW2RefIdeal.τ).loc Cert.OptW2RefIdeal.main_arg6) = m ((c.tc : Thread Cert.OptW2Ideal.nD Cert.OptW2Ideal.τ).loc Cert.OptW2Ideal.main_arg6)
      ∧ m' ((c.tc : Thread Cert.OptW2RefIdeal.nD Cert.OptW2RefIdeal.τ).loc Cert.OptW2RefIdeal.main_arg7) = m ((c.tc : Thread Cert.OptW2Ideal.nD Cert.OptW2Ideal.τ).loc Cert.OptW2Ideal.main_arg7)
      ∧ m' ((c.tc : Thread Cert.OptW2RefIdeal.nD Cert.OptW2RefIdeal.τ).loc Cert.OptW2RefIdeal.main_arg8) = m ((c.tc : Thread Cert.OptW2Ideal.nD Cert.OptW2Ideal.τ).loc Cert.OptW2Ideal.main_arg8)
      ∧ m' ((c.tc : Thread Cert.OptW2RefIdeal.nD Cert.OptW2RefIdeal.τ).loc Cert.OptW2RefIdeal.main_arg9) = m ((c.tc : Thread Cert.OptW2Ideal.nD Cert.OptW2Ideal.τ).loc Cert.OptW2Ideal.main_arg9)
      ∧ m' ((c.tc : Thread Cert.OptW2RefIdeal.nD Cert.OptW2RefIdeal.τ).loc Cert.OptW2RefIdeal.main_arg10) = m ((c.tc : Thread Cert.OptW2Ideal.nD Cert.OptW2Ideal.τ).loc Cert.OptW2Ideal.main_arg10)) →
    ∃ (v0 : (c : Dev Cert.OptW2Ideal.nD) → Buf (Elt Ideal) ((c.tc : Thread Cert.OptW2Ideal.nD Cert.OptW2Ideal.τ).loc Cert.OptW2Ideal.main_v7_0)) (v1 : (c : Dev Cert.OptW2Ideal.nD) → Buf (Elt Ideal) ((c.tc : Thread Cert.OptW2Ideal.nD Cert.OptW2Ideal.τ).loc Cert.OptW2Ideal.main_v7_1)) (v2 : (c : Dev Cert.OptW2Ideal.nD) → Buf (Elt Ideal) ((c.tc : Thread Cert.OptW2Ideal.nD Cert.OptW2Ideal.τ).loc Cert.OptW2Ideal.main_v7_2)) (v3 : (c : Dev Cert.OptW2Ideal.nD) → Buf (Elt Ideal) ((c.tc : Thread Cert.OptW2Ideal.nD Cert.OptW2Ideal.τ).loc Cert.OptW2Ideal.main_v7_3)),
      θ_run (Cert.OptW2Ideal.defs (F := Ideal)) (onTc (τ := Cert.OptW2Ideal.τ) (Cert.OptW2Ideal.main (F := Ideal))) ⟨m, fun _ => 0, g⟩ (fun r => ∀ c : Dev Cert.OptW2Ideal.nD,
          r.2.mem ((c.tc : Thread Cert.OptW2Ideal.nD Cert.OptW2Ideal.τ).loc Cert.OptW2Ideal.main_v7_0) = v0 c
          ∧ r.2.mem ((c.tc : Thread Cert.OptW2Ideal.nD Cert.OptW2Ideal.τ).loc Cert.OptW2Ideal.main_v7_1) = v1 c
          ∧ r.2.mem ((c.tc : Thread Cert.OptW2Ideal.nD Cert.OptW2Ideal.τ).loc Cert.OptW2Ideal.main_v7_2) = v2 c
          ∧ r.2.mem ((c.tc : Thread Cert.OptW2Ideal.nD Cert.OptW2Ideal.τ).loc Cert.OptW2Ideal.main_v7_3) = v3 c
          ∧ r.2.mem ((c.tc : Thread Cert.OptW2Ideal.nD Cert.OptW2Ideal.τ).loc Cert.OptW2Ideal.main_arg0) = m ((c.tc : Thread Cert.OptW2Ideal.nD Cert.OptW2Ideal.τ).loc Cert.OptW2Ideal.main_arg0)
          ∧ r.2.mem ((c.tc : Thread Cert.OptW2Ideal.nD Cert.OptW2Ideal.τ).loc Cert.OptW2Ideal.main_arg1) = m ((c.tc : Thread Cert.OptW2Ideal.nD Cert.OptW2Ideal.τ).loc Cert.OptW2Ideal.main_arg1)
          ∧ r.2.mem ((c.tc : Thread Cert.OptW2Ideal.nD Cert.OptW2Ideal.τ).loc Cert.OptW2Ideal.main_arg2) = m ((c.tc : Thread Cert.OptW2Ideal.nD Cert.OptW2Ideal.τ).loc Cert.OptW2Ideal.main_arg2)
          ∧ r.2.mem ((c.tc : Thread Cert.OptW2Ideal.nD Cert.OptW2Ideal.τ).loc Cert.OptW2Ideal.main_arg3) = m ((c.tc : Thread Cert.OptW2Ideal.nD Cert.OptW2Ideal.τ).loc Cert.OptW2Ideal.main_arg3)
          ∧ r.2.mem ((c.tc : Thread Cert.OptW2Ideal.nD Cert.OptW2Ideal.τ).loc Cert.OptW2Ideal.main_arg4) = m ((c.tc : Thread Cert.OptW2Ideal.nD Cert.OptW2Ideal.τ).loc Cert.OptW2Ideal.main_arg4)
          ∧ r.2.mem ((c.tc : Thread Cert.OptW2Ideal.nD Cert.OptW2Ideal.τ).loc Cert.OptW2Ideal.main_arg5) = m ((c.tc : Thread Cert.OptW2Ideal.nD Cert.OptW2Ideal.τ).loc Cert.OptW2Ideal.main_arg5)
          ∧ r.2.mem ((c.tc : Thread Cert.OptW2Ideal.nD Cert.OptW2Ideal.τ).loc Cert.OptW2Ideal.main_arg6) = m ((c.tc : Thread Cert.OptW2Ideal.nD Cert.OptW2Ideal.τ).loc Cert.OptW2Ideal.main_arg6)
          ∧ r.2.mem ((c.tc : Thread Cert.OptW2Ideal.nD Cert.OptW2Ideal.τ).loc Cert.OptW2Ideal.main_arg7) = m ((c.tc : Thread Cert.OptW2Ideal.nD Cert.OptW2Ideal.τ).loc Cert.OptW2Ideal.main_arg7)
          ∧ r.2.mem ((c.tc : Thread Cert.OptW2Ideal.nD Cert.OptW2Ideal.τ).loc Cert.OptW2Ideal.main_arg8) = m ((c.tc : Thread Cert.OptW2Ideal.nD Cert.OptW2Ideal.τ).loc Cert.OptW2Ideal.main_arg8)
          ∧ r.2.mem ((c.tc : Thread Cert.OptW2Ideal.nD Cert.OptW2Ideal.τ).loc Cert.OptW2Ideal.main_arg9) = m ((c.tc : Thread Cert.OptW2Ideal.nD Cert.OptW2Ideal.τ).loc Cert.OptW2Ideal.main_arg9)
          ∧ r.2.mem ((c.tc : Thread Cert.OptW2Ideal.nD Cert.OptW2Ideal.τ).loc Cert.OptW2Ideal.main_arg10) = m ((c.tc : Thread Cert.OptW2Ideal.nD Cert.OptW2Ideal.τ).loc Cert.OptW2Ideal.main_arg10))
      ∧ θ_run (Cert.OptW2RefIdeal.defs (F := Ideal)) (onTc (τ := Cert.OptW2RefIdeal.τ) (Cert.OptW2RefIdeal.main (F := Ideal))) ⟨m', fun _ => 0, g'⟩ (fun r => ∀ c : Dev Cert.OptW2RefIdeal.nD,
          r.2.mem ((c.tc : Thread Cert.OptW2RefIdeal.nD Cert.OptW2RefIdeal.τ).loc Cert.OptW2RefIdeal.main_v8) = v0 c
          ∧ r.2.mem ((c.tc : Thread Cert.OptW2RefIdeal.nD Cert.OptW2RefIdeal.τ).loc Cert.OptW2RefIdeal.main_v32) = v1 c
          ∧ r.2.mem ((c.tc : Thread Cert.OptW2RefIdeal.nD Cert.OptW2RefIdeal.τ).loc Cert.OptW2RefIdeal.main_v13) = v2 c
          ∧ r.2.mem ((c.tc : Thread Cert.OptW2RefIdeal.nD Cert.OptW2RefIdeal.τ).loc Cert.OptW2RefIdeal.main_v19) = v3 c
          ∧ r.2.mem ((c.tc : Thread Cert.OptW2RefIdeal.nD Cert.OptW2RefIdeal.τ).loc Cert.OptW2RefIdeal.main_arg0) = m' ((c.tc : Thread Cert.OptW2RefIdeal.nD Cert.OptW2RefIdeal.τ).loc Cert.OptW2RefIdeal.main_arg0)
          ∧ r.2.mem ((c.tc : Thread Cert.OptW2RefIdeal.nD Cert.OptW2RefIdeal.τ).loc Cert.OptW2RefIdeal.main_arg1) = m' ((c.tc : Thread Cert.OptW2RefIdeal.nD Cert.OptW2RefIdeal.τ).loc Cert.OptW2RefIdeal.main_arg1)
          ∧ r.2.mem ((c.tc : Thread Cert.OptW2RefIdeal.nD Cert.OptW2RefIdeal.τ).loc Cert.OptW2RefIdeal.main_arg2) = m' ((c.tc : Thread Cert.OptW2RefIdeal.nD Cert.OptW2RefIdeal.τ).loc Cert.OptW2RefIdeal.main_arg2)
          ∧ r.2.mem ((c.tc : Thread Cert.OptW2RefIdeal.nD Cert.OptW2RefIdeal.τ).loc Cert.OptW2RefIdeal.main_arg3) = m' ((c.tc : Thread Cert.OptW2RefIdeal.nD Cert.OptW2RefIdeal.τ).loc Cert.OptW2RefIdeal.main_arg3)
          ∧ r.2.mem ((c.tc : Thread Cert.OptW2RefIdeal.nD Cert.OptW2RefIdeal.τ).loc Cert.OptW2RefIdeal.main_arg4) = m' ((c.tc : Thread Cert.OptW2RefIdeal.nD Cert.OptW2RefIdeal.τ).loc Cert.OptW2RefIdeal.main_arg4)
          ∧ r.2.mem ((c.tc : Thread Cert.OptW2RefIdeal.nD Cert.OptW2RefIdeal.τ).loc Cert.OptW2RefIdeal.main_arg5) = m' ((c.tc : Thread Cert.OptW2RefIdeal.nD Cert.OptW2RefIdeal.τ).loc Cert.OptW2RefIdeal.main_arg5)
          ∧ r.2.mem ((c.tc : Thread Cert.OptW2RefIdeal.nD Cert.OptW2RefIdeal.τ).loc Cert.OptW2RefIdeal.main_arg6) = m' ((c.tc : Thread Cert.OptW2RefIdeal.nD Cert.OptW2RefIdeal.τ).loc Cert.OptW2RefIdeal.main_arg6)
          ∧ r.2.mem ((c.tc : Thread Cert.OptW2RefIdeal.nD Cert.OptW2RefIdeal.τ).loc Cert.OptW2RefIdeal.main_arg7) = m' ((c.tc : Thread Cert.OptW2RefIdeal.nD Cert.OptW2RefIdeal.τ).loc Cert.OptW2RefIdeal.main_arg7)
          ∧ r.2.mem ((c.tc : Thread Cert.OptW2RefIdeal.nD Cert.OptW2RefIdeal.τ).loc Cert.OptW2RefIdeal.main_arg8) = m' ((c.tc : Thread Cert.OptW2RefIdeal.nD Cert.OptW2RefIdeal.τ).loc Cert.OptW2RefIdeal.main_arg8)
          ∧ r.2.mem ((c.tc : Thread Cert.OptW2RefIdeal.nD Cert.OptW2RefIdeal.τ).loc Cert.OptW2RefIdeal.main_arg9) = m' ((c.tc : Thread Cert.OptW2RefIdeal.nD Cert.OptW2RefIdeal.τ).loc Cert.OptW2RefIdeal.main_arg9)
          ∧ r.2.mem ((c.tc : Thread Cert.OptW2RefIdeal.nD Cert.OptW2RefIdeal.τ).loc Cert.OptW2RefIdeal.main_arg10) = m' ((c.tc : Thread Cert.OptW2RefIdeal.nD Cert.OptW2RefIdeal.τ).loc Cert.OptW2RefIdeal.main_arg10))

def preserves_OptSmall_OptSmallIdeal : Prop :=
  True

def algebraic_OptSmallIdeal_OptSmallRefIdeal [hOptSmallIdeal : Cert.OptSmallIdeal.Facts] [hOptSmallRefIdeal : Cert.OptSmallRefIdeal.Facts] : Prop :=
  ∀ (m : (ℓ : Loc Cert.OptSmallIdeal.nD Cert.OptSmallIdeal.τ Cert.OptSmallIdeal.sig) → Buf (Elt Ideal) ℓ) (g : Dev Cert.OptSmallIdeal.nD → PrngReg)
    (m' : (ℓ : Loc Cert.OptSmallRefIdeal.nD Cert.OptSmallRefIdeal.τ Cert.OptSmallRefIdeal.sig) → Buf (Elt Ideal) ℓ) (g' : Dev Cert.OptSmallRefIdeal.nD → PrngReg), Pre_OptSmallIdeal m →
    (∀ c : Dev Cert.OptSmallIdeal.nD,
      m' ((c.tc : Thread Cert.OptSmallRefIdeal.nD Cert.OptSmallRefIdeal.τ).loc Cert.OptSmallRefIdeal.main_arg0) = m ((c.tc : Thread Cert.OptSmallIdeal.nD Cert.OptSmallIdeal.τ).loc Cert.OptSmallIdeal.main_arg0)
      ∧ m' ((c.tc : Thread Cert.OptSmallRefIdeal.nD Cert.OptSmallRefIdeal.τ).loc Cert.OptSmallRefIdeal.main_arg1) = m ((c.tc : Thread Cert.OptSmallIdeal.nD Cert.OptSmallIdeal.τ).loc Cert.OptSmallIdeal.main_arg1)
      ∧ m' ((c.tc : Thread Cert.OptSmallRefIdeal.nD Cert.OptSmallRefIdeal.τ).loc Cert.OptSmallRefIdeal.main_arg2) = m ((c.tc : Thread Cert.OptSmallIdeal.nD Cert.OptSmallIdeal.τ).loc Cert.OptSmallIdeal.main_arg2)
      ∧ m' ((c.tc : Thread Cert.OptSmallRefIdeal.nD Cert.OptSmallRefIdeal.τ).loc Cert.OptSmallRefIdeal.main_arg3) = m ((c.tc : Thread Cert.OptSmallIdeal.nD Cert.OptSmallIdeal.τ).loc Cert.OptSmallIdeal.main_arg3)
      ∧ m' ((c.tc : Thread Cert.OptSmallRefIdeal.nD Cert.OptSmallRefIdeal.τ).loc Cert.OptSmallRefIdeal.main_arg4) = m ((c.tc : Thread Cert.OptSmallIdeal.nD Cert.OptSmallIdeal.τ).loc Cert.OptSmallIdeal.main_arg4)
      ∧ m' ((c.tc : Thread Cert.OptSmallRefIdeal.nD Cert.OptSmallRefIdeal.τ).loc Cert.OptSmallRefIdeal.main_arg5) = m ((c.tc : Thread Cert.OptSmallIdeal.nD Cert.OptSmallIdeal.τ).loc Cert.OptSmallIdeal.main_arg5)
      ∧ m' ((c.tc : Thread Cert.OptSmallRefIdeal.nD Cert.OptSmallRefIdeal.τ).loc Cert.OptSmallRefIdeal.main_arg6) = m ((c.tc : Thread Cert.OptSmallIdeal.nD Cert.OptSmallIdeal.τ).loc Cert.OptSmallIdeal.main_arg6)
      ∧ m' ((c.tc : Thread Cert.OptSmallRefIdeal.nD Cert.OptSmallRefIdeal.τ).loc Cert.OptSmallRefIdeal.main_arg7) = m ((c.tc : Thread Cert.OptSmallIdeal.nD Cert.OptSmallIdeal.τ).loc Cert.OptSmallIdeal.main_arg7)) →
    ∃ (v0 : (c : Dev Cert.OptSmallIdeal.nD) → Buf (Elt Ideal) ((c.tc : Thread Cert.OptSmallIdeal.nD Cert.OptSmallIdeal.τ).loc Cert.OptSmallIdeal.main_v0_0)) (v1 : (c : Dev Cert.OptSmallIdeal.nD) → Buf (Elt Ideal) ((c.tc : Thread Cert.OptSmallIdeal.nD Cert.OptSmallIdeal.τ).loc Cert.OptSmallIdeal.main_v0_1)) (v2 : (c : Dev Cert.OptSmallIdeal.nD) → Buf (Elt Ideal) ((c.tc : Thread Cert.OptSmallIdeal.nD Cert.OptSmallIdeal.τ).loc Cert.OptSmallIdeal.main_v0_2)) (v3 : (c : Dev Cert.OptSmallIdeal.nD) → Buf (Elt Ideal) ((c.tc : Thread Cert.OptSmallIdeal.nD Cert.OptSmallIdeal.τ).loc Cert.OptSmallIdeal.main_v0_3)),
      θ_run (Cert.OptSmallIdeal.defs (F := Ideal)) (onTc (τ := Cert.OptSmallIdeal.τ) (Cert.OptSmallIdeal.main (F := Ideal))) ⟨m, fun _ => 0, g⟩ (fun r => ∀ c : Dev Cert.OptSmallIdeal.nD,
          r.2.mem ((c.tc : Thread Cert.OptSmallIdeal.nD Cert.OptSmallIdeal.τ).loc Cert.OptSmallIdeal.main_v0_0) = v0 c
          ∧ r.2.mem ((c.tc : Thread Cert.OptSmallIdeal.nD Cert.OptSmallIdeal.τ).loc Cert.OptSmallIdeal.main_v0_1) = v1 c
          ∧ r.2.mem ((c.tc : Thread Cert.OptSmallIdeal.nD Cert.OptSmallIdeal.τ).loc Cert.OptSmallIdeal.main_v0_2) = v2 c
          ∧ r.2.mem ((c.tc : Thread Cert.OptSmallIdeal.nD Cert.OptSmallIdeal.τ).loc Cert.OptSmallIdeal.main_v0_3) = v3 c
          ∧ r.2.mem ((c.tc : Thread Cert.OptSmallIdeal.nD Cert.OptSmallIdeal.τ).loc Cert.OptSmallIdeal.main_arg0) = m ((c.tc : Thread Cert.OptSmallIdeal.nD Cert.OptSmallIdeal.τ).loc Cert.OptSmallIdeal.main_arg0)
          ∧ r.2.mem ((c.tc : Thread Cert.OptSmallIdeal.nD Cert.OptSmallIdeal.τ).loc Cert.OptSmallIdeal.main_arg1) = m ((c.tc : Thread Cert.OptSmallIdeal.nD Cert.OptSmallIdeal.τ).loc Cert.OptSmallIdeal.main_arg1)
          ∧ r.2.mem ((c.tc : Thread Cert.OptSmallIdeal.nD Cert.OptSmallIdeal.τ).loc Cert.OptSmallIdeal.main_arg2) = m ((c.tc : Thread Cert.OptSmallIdeal.nD Cert.OptSmallIdeal.τ).loc Cert.OptSmallIdeal.main_arg2)
          ∧ r.2.mem ((c.tc : Thread Cert.OptSmallIdeal.nD Cert.OptSmallIdeal.τ).loc Cert.OptSmallIdeal.main_arg3) = m ((c.tc : Thread Cert.OptSmallIdeal.nD Cert.OptSmallIdeal.τ).loc Cert.OptSmallIdeal.main_arg3)
          ∧ r.2.mem ((c.tc : Thread Cert.OptSmallIdeal.nD Cert.OptSmallIdeal.τ).loc Cert.OptSmallIdeal.main_arg4) = m ((c.tc : Thread Cert.OptSmallIdeal.nD Cert.OptSmallIdeal.τ).loc Cert.OptSmallIdeal.main_arg4)
          ∧ r.2.mem ((c.tc : Thread Cert.OptSmallIdeal.nD Cert.OptSmallIdeal.τ).loc Cert.OptSmallIdeal.main_arg5) = m ((c.tc : Thread Cert.OptSmallIdeal.nD Cert.OptSmallIdeal.τ).loc Cert.OptSmallIdeal.main_arg5)
          ∧ r.2.mem ((c.tc : Thread Cert.OptSmallIdeal.nD Cert.OptSmallIdeal.τ).loc Cert.OptSmallIdeal.main_arg6) = m ((c.tc : Thread Cert.OptSmallIdeal.nD Cert.OptSmallIdeal.τ).loc Cert.OptSmallIdeal.main_arg6)
          ∧ r.2.mem ((c.tc : Thread Cert.OptSmallIdeal.nD Cert.OptSmallIdeal.τ).loc Cert.OptSmallIdeal.main_arg7) = m ((c.tc : Thread Cert.OptSmallIdeal.nD Cert.OptSmallIdeal.τ).loc Cert.OptSmallIdeal.main_arg7))
      ∧ θ_run (Cert.OptSmallRefIdeal.defs (F := Ideal)) (onTc (τ := Cert.OptSmallRefIdeal.τ) (Cert.OptSmallRefIdeal.main (F := Ideal))) ⟨m', fun _ => 0, g'⟩ (fun r => ∀ c : Dev Cert.OptSmallRefIdeal.nD,
          r.2.mem ((c.tc : Thread Cert.OptSmallRefIdeal.nD Cert.OptSmallRefIdeal.τ).loc Cert.OptSmallRefIdeal.main_v1) = v0 c
          ∧ r.2.mem ((c.tc : Thread Cert.OptSmallRefIdeal.nD Cert.OptSmallRefIdeal.τ).loc Cert.OptSmallRefIdeal.main_v25) = v1 c
          ∧ r.2.mem ((c.tc : Thread Cert.OptSmallRefIdeal.nD Cert.OptSmallRefIdeal.τ).loc Cert.OptSmallRefIdeal.main_v6) = v2 c
          ∧ r.2.mem ((c.tc : Thread Cert.OptSmallRefIdeal.nD Cert.OptSmallRefIdeal.τ).loc Cert.OptSmallRefIdeal.main_v12) = v3 c
          ∧ r.2.mem ((c.tc : Thread Cert.OptSmallRefIdeal.nD Cert.OptSmallRefIdeal.τ).loc Cert.OptSmallRefIdeal.main_arg0) = m' ((c.tc : Thread Cert.OptSmallRefIdeal.nD Cert.OptSmallRefIdeal.τ).loc Cert.OptSmallRefIdeal.main_arg0)
          ∧ r.2.mem ((c.tc : Thread Cert.OptSmallRefIdeal.nD Cert.OptSmallRefIdeal.τ).loc Cert.OptSmallRefIdeal.main_arg1) = m' ((c.tc : Thread Cert.OptSmallRefIdeal.nD Cert.OptSmallRefIdeal.τ).loc Cert.OptSmallRefIdeal.main_arg1)
          ∧ r.2.mem ((c.tc : Thread Cert.OptSmallRefIdeal.nD Cert.OptSmallRefIdeal.τ).loc Cert.OptSmallRefIdeal.main_arg2) = m' ((c.tc : Thread Cert.OptSmallRefIdeal.nD Cert.OptSmallRefIdeal.τ).loc Cert.OptSmallRefIdeal.main_arg2)
          ∧ r.2.mem ((c.tc : Thread Cert.OptSmallRefIdeal.nD Cert.OptSmallRefIdeal.τ).loc Cert.OptSmallRefIdeal.main_arg3) = m' ((c.tc : Thread Cert.OptSmallRefIdeal.nD Cert.OptSmallRefIdeal.τ).loc Cert.OptSmallRefIdeal.main_arg3)
          ∧ r.2.mem ((c.tc : Thread Cert.OptSmallRefIdeal.nD Cert.OptSmallRefIdeal.τ).loc Cert.OptSmallRefIdeal.main_arg4) = m' ((c.tc : Thread Cert.OptSmallRefIdeal.nD Cert.OptSmallRefIdeal.τ).loc Cert.OptSmallRefIdeal.main_arg4)
          ∧ r.2.mem ((c.tc : Thread Cert.OptSmallRefIdeal.nD Cert.OptSmallRefIdeal.τ).loc Cert.OptSmallRefIdeal.main_arg5) = m' ((c.tc : Thread Cert.OptSmallRefIdeal.nD Cert.OptSmallRefIdeal.τ).loc Cert.OptSmallRefIdeal.main_arg5)
          ∧ r.2.mem ((c.tc : Thread Cert.OptSmallRefIdeal.nD Cert.OptSmallRefIdeal.τ).loc Cert.OptSmallRefIdeal.main_arg6) = m' ((c.tc : Thread Cert.OptSmallRefIdeal.nD Cert.OptSmallRefIdeal.τ).loc Cert.OptSmallRefIdeal.main_arg6)
          ∧ r.2.mem ((c.tc : Thread Cert.OptSmallRefIdeal.nD Cert.OptSmallRefIdeal.τ).loc Cert.OptSmallRefIdeal.main_arg7) = m' ((c.tc : Thread Cert.OptSmallRefIdeal.nD Cert.OptSmallRefIdeal.τ).loc Cert.OptSmallRefIdeal.main_arg7))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v4_0)) (v1 : (c : Dev Cert.LossIdeal.nD) → Buf (Elt Ideal) ((c.tc : Thread Cert.LossIdeal.nD Cert.LossIdeal.τ).loc Cert.LossIdeal.main_v4_1)) (v2 : (c : Dev Cert.LossIdeal.nD) → Buf (Elt Ideal) ((c.tc : Thread Cert.LossIdeal.nD Cert.LossIdeal.τ).loc Cert.LossIdeal.main_v4_2)) (v3 : (c : Dev Cert.LossIdeal.nD) → Buf (Elt Ideal) ((c.tc : Thread Cert.LossIdeal.nD Cert.LossIdeal.τ).loc Cert.LossIdeal.main_v4_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4_0) = v0 c
          ∧ r.2.mem ((c.tc : Thread Cert.LossIdeal.nD Cert.LossIdeal.τ).loc Cert.LossIdeal.main_v4_1) = v1 c
          ∧ r.2.mem ((c.tc : Thread Cert.LossIdeal.nD Cert.LossIdeal.τ).loc Cert.LossIdeal.main_v4_2) = v2 c
          ∧ r.2.mem ((c.tc : Thread Cert.LossIdeal.nD Cert.LossIdeal.τ).loc Cert.LossIdeal.main_v4_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v58) = v2 c
          ∧ r.2.mem ((c.tc : Thread Cert.LossRefIdeal.nD Cert.LossRefIdeal.τ).loc Cert.LossRefIdeal.main_v59) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_LbFwd_LbFwdIdeal : Prop :=
  True

def algebraic_LbFwdIdeal_LbFwdRefIdeal [hLbFwdIdeal : Cert.LbFwdIdeal.Facts] [hLbFwdRefIdeal : Cert.LbFwdRefIdeal.Facts] : Prop :=
  ∀ (m : (ℓ : Loc Cert.LbFwdIdeal.nD Cert.LbFwdIdeal.τ Cert.LbFwdIdeal.sig) → Buf (Elt Ideal) ℓ) (g : Dev Cert.LbFwdIdeal.nD → PrngReg)
    (m' : (ℓ : Loc Cert.LbFwdRefIdeal.nD Cert.LbFwdRefIdeal.τ Cert.LbFwdRefIdeal.sig) → Buf (Elt Ideal) ℓ) (g' : Dev Cert.LbFwdRefIdeal.nD → PrngReg), Pre_LbFwdIdeal m →
    (∀ c : Dev Cert.LbFwdIdeal.nD,
      m' ((c.tc : Thread Cert.LbFwdRefIdeal.nD Cert.LbFwdRefIdeal.τ).loc Cert.LbFwdRefIdeal.main_arg0) = m ((c.tc : Thread Cert.LbFwdIdeal.nD Cert.LbFwdIdeal.τ).loc Cert.LbFwdIdeal.main_arg0)) →
    ∃ (v0 : (c : Dev Cert.LbFwdIdeal.nD) → Buf (Elt Ideal) ((c.tc : Thread Cert.LbFwdIdeal.nD Cert.LbFwdIdeal.τ).loc Cert.LbFwdIdeal.main_v0)),
      θ_run (Cert.LbFwdIdeal.defs (F := Ideal)) (onTc (τ := Cert.LbFwdIdeal.τ) (Cert.LbFwdIdeal.main (F := Ideal))) ⟨m, fun _ => 0, g⟩ (fun r => ∀ c : Dev Cert.LbFwdIdeal.nD,
          r.2.mem ((c.tc : Thread Cert.LbFwdIdeal.nD Cert.LbFwdIdeal.τ).loc Cert.LbFwdIdeal.main_v0) = v0 c
          ∧ r.2.mem ((c.tc : Thread Cert.LbFwdIdeal.nD Cert.LbFwdIdeal.τ).loc Cert.LbFwdIdeal.main_arg0) = m ((c.tc : Thread Cert.LbFwdIdeal.nD Cert.LbFwdIdeal.τ).loc Cert.LbFwdIdeal.main_arg0))
      ∧ θ_run (Cert.LbFwdRefIdeal.defs (F := Ideal)) (onTc (τ := Cert.LbFwdRefIdeal.τ) (Cert.LbFwdRefIdeal.main (F := Ideal))) ⟨m', fun _ => 0, g'⟩ (fun r => ∀ c : Dev Cert.LbFwdRefIdeal.nD,
          r.2.mem ((c.tc : Thread Cert.LbFwdRefIdeal.nD Cert.LbFwdRefIdeal.τ).loc Cert.LbFwdRefIdeal.main_v20) = v0 c
          ∧ r.2.mem ((c.tc : Thread Cert.LbFwdRefIdeal.nD Cert.LbFwdRefIdeal.τ).loc Cert.LbFwdRefIdeal.main_arg0) = m' ((c.tc : Thread Cert.LbFwdRefIdeal.nD Cert.LbFwdRefIdeal.τ).loc Cert.LbFwdRefIdeal.main_arg0))

def preserves_LbBwd_LbBwdIdeal : Prop :=
  True

def algebraic_LbBwdIdeal_LbBwdRefIdeal [hLbBwdIdeal : Cert.LbBwdIdeal.Facts] [hLbBwdRefIdeal : Cert.LbBwdRefIdeal.Facts] : Prop :=
  ∀ (m : (ℓ : Loc Cert.LbBwdIdeal.nD Cert.LbBwdIdeal.τ Cert.LbBwdIdeal.sig) → Buf (Elt Ideal) ℓ) (g : Dev Cert.LbBwdIdeal.nD → PrngReg)
    (m' : (ℓ : Loc Cert.LbBwdRefIdeal.nD Cert.LbBwdRefIdeal.τ Cert.LbBwdRefIdeal.sig) → Buf (Elt Ideal) ℓ) (g' : Dev Cert.LbBwdRefIdeal.nD → PrngReg), Pre_LbBwdIdeal m →
    (∀ c : Dev Cert.LbBwdIdeal.nD,
      m' ((c.tc : Thread Cert.LbBwdRefIdeal.nD Cert.LbBwdRefIdeal.τ).loc Cert.LbBwdRefIdeal.main_arg0) = m ((c.tc : Thread Cert.LbBwdIdeal.nD Cert.LbBwdIdeal.τ).loc Cert.LbBwdIdeal.main_arg0)
      ∧ m' ((c.tc : Thread Cert.LbBwdRefIdeal.nD Cert.LbBwdRefIdeal.τ).loc Cert.LbBwdRefIdeal.main_arg1) = m ((c.tc : Thread Cert.LbBwdIdeal.nD Cert.LbBwdIdeal.τ).loc Cert.LbBwdIdeal.main_arg1)) →
    ∃ (v0 : (c : Dev Cert.LbBwdIdeal.nD) → Buf (Elt Ideal) ((c.tc : Thread Cert.LbBwdIdeal.nD Cert.LbBwdIdeal.τ).loc Cert.LbBwdIdeal.main_v0)),
      θ_run (Cert.LbBwdIdeal.defs (F := Ideal)) (onTc (τ := Cert.LbBwdIdeal.τ) (Cert.LbBwdIdeal.main (F := Ideal))) ⟨m, fun _ => 0, g⟩ (fun r => ∀ c : Dev Cert.LbBwdIdeal.nD,
          r.2.mem ((c.tc : Thread Cert.LbBwdIdeal.nD Cert.LbBwdIdeal.τ).loc Cert.LbBwdIdeal.main_v0) = v0 c
          ∧ r.2.mem ((c.tc : Thread Cert.LbBwdIdeal.nD Cert.LbBwdIdeal.τ).loc Cert.LbBwdIdeal.main_arg0) = m ((c.tc : Thread Cert.LbBwdIdeal.nD Cert.LbBwdIdeal.τ).loc Cert.LbBwdIdeal.main_arg0)
          ∧ r.2.mem ((c.tc : Thread Cert.LbBwdIdeal.nD Cert.LbBwdIdeal.τ).loc Cert.LbBwdIdeal.main_arg1) = m ((c.tc : Thread Cert.LbBwdIdeal.nD Cert.LbBwdIdeal.τ).loc Cert.LbBwdIdeal.main_arg1))
      ∧ θ_run (Cert.LbBwdRefIdeal.defs (F := Ideal)) (onTc (τ := Cert.LbBwdRefIdeal.τ) (Cert.LbBwdRefIdeal.main (F := Ideal))) ⟨m', fun _ => 0, g'⟩ (fun r => ∀ c : Dev Cert.LbBwdRefIdeal.nD,
          r.2.mem ((c.tc : Thread Cert.LbBwdRefIdeal.nD Cert.LbBwdRefIdeal.τ).loc Cert.LbBwdRefIdeal.main_v26) = v0 c
          ∧ r.2.mem ((c.tc : Thread Cert.LbBwdRefIdeal.nD Cert.LbBwdRefIdeal.τ).loc Cert.LbBwdRefIdeal.main_arg0) = m' ((c.tc : Thread Cert.LbBwdRefIdeal.nD Cert.LbBwdRefIdeal.τ).loc Cert.LbBwdRefIdeal.main_arg0)
          ∧ r.2.mem ((c.tc : Thread Cert.LbBwdRefIdeal.nD Cert.LbBwdRefIdeal.τ).loc Cert.LbBwdRefIdeal.main_arg1) = m' ((c.tc : Thread Cert.LbBwdRefIdeal.nD Cert.LbBwdRefIdeal.τ).loc Cert.LbBwdRefIdeal.main_arg1))

def Claim : Prop :=
  ∃ (hKernel : Cert.Kernel.Facts) (hKernelIdeal : Cert.KernelIdeal.Facts) (hPoolRefIdeal : Cert.PoolRefIdeal.Facts) (hDAct : Cert.DAct.Facts) (hDActIdeal : Cert.DActIdeal.Facts) (hDActRefIdeal : Cert.DActRefIdeal.Facts) (hDW2 : Cert.DW2.Facts) (hDW2Ideal : Cert.DW2Ideal.Facts) (hDW2RefIdeal : Cert.DW2RefIdeal.Facts) (hDW1 : Cert.DW1.Facts) (hDW1Ideal : Cert.DW1Ideal.Facts) (hDW1RefIdeal : Cert.DW1RefIdeal.Facts) (hDown : Cert.Down.Facts) (hDownIdeal : Cert.DownIdeal.Facts) (hDownRefIdeal : Cert.DownRefIdeal.Facts) (hOutT : Cert.OutT.Facts) (hOutTIdeal : Cert.OutTIdeal.Facts) (hOutTRefIdeal : Cert.OutTRefIdeal.Facts) (hDWOut : Cert.DWOut.Facts) (hDWOutIdeal : Cert.DWOutIdeal.Facts) (hDWOutRefIdeal : Cert.DWOutRefIdeal.Facts) (hEvDWIn : Cert.EvDWIn.Facts) (hEvDWInIdeal : Cert.EvDWInIdeal.Facts) (hEvDWInRefIdeal : Cert.EvDWInRefIdeal.Facts) (hOdDWIn : Cert.OdDWIn.Facts) (hOdDWInIdeal : Cert.OdDWInIdeal.Facts) (hOdDWInRefIdeal : Cert.OdDWInRefIdeal.Facts) (hMixOut : Cert.MixOut.Facts) (hMixOutIdeal : Cert.MixOutIdeal.Facts) (hMixOutRefIdeal : Cert.MixOutRefIdeal.Facts) (hDNorm : Cert.DNorm.Facts) (hDNormIdeal : Cert.DNormIdeal.Facts) (hDNormRefIdeal : Cert.DNormRefIdeal.Facts) (hEvInT : Cert.EvInT.Facts) (hEvInTIdeal : Cert.EvInTIdeal.Facts) (hEvInTRefIdeal : Cert.EvInTRefIdeal.Facts) (hOdInT : Cert.OdInT.Facts) (hOdInTIdeal : Cert.OdInTIdeal.Facts) (hOdInTRefIdeal : Cert.OdInTRefIdeal.Facts) (hUp : Cert.Up.Facts) (hUpIdeal : Cert.UpIdeal.Facts) (hUpRefIdeal : Cert.UpRefIdeal.Facts) (hEvIn : Cert.EvIn.Facts) (hEvInIdeal : Cert.EvInIdeal.Facts) (hEvInRefIdeal : Cert.EvInRefIdeal.Facts) (hOdIn : Cert.OdIn.Facts) (hOdInIdeal : Cert.OdInIdeal.Facts) (hOdInRefIdeal : Cert.OdInRefIdeal.Facts) (hOptOut : Cert.OptOut.Facts) (hOptOutIdeal : Cert.OptOutIdeal.Facts) (hOptOutRefIdeal : Cert.OptOutRefIdeal.Facts) (hOptEvIn : Cert.OptEvIn.Facts) (hOptEvInIdeal : Cert.OptEvInIdeal.Facts) (hOptEvInRefIdeal : Cert.OptEvInRefIdeal.Facts) (hOptOdIn : Cert.OptOdIn.Facts) (hOptOdInIdeal : Cert.OptOdInIdeal.Facts) (hOptOdInRefIdeal : Cert.OptOdInRefIdeal.Facts) (hOptW1 : Cert.OptW1.Facts) (hOptW1Ideal : Cert.OptW1Ideal.Facts) (hOptW1RefIdeal : Cert.OptW1RefIdeal.Facts) (hOptW2 : Cert.OptW2.Facts) (hOptW2Ideal : Cert.OptW2Ideal.Facts) (hOptW2RefIdeal : Cert.OptW2RefIdeal.Facts) (hOptSmall : Cert.OptSmall.Facts) (hOptSmallIdeal : Cert.OptSmallIdeal.Facts) (hOptSmallRefIdeal : Cert.OptSmallRefIdeal.Facts) (hLoss : Cert.Loss.Facts) (hLossIdeal : Cert.LossIdeal.Facts) (hLossRefIdeal : Cert.LossRefIdeal.Facts) (hLbFwd : Cert.LbFwd.Facts) (hLbFwdIdeal : Cert.LbFwdIdeal.Facts) (hLbFwdRefIdeal : Cert.LbFwdRefIdeal.Facts) (hLbBwd : Cert.LbBwd.Facts) (hLbBwdIdeal : Cert.LbBwdIdeal.Facts) (hLbBwdRefIdeal : Cert.LbBwdRefIdeal.Facts) (hOn_pooled_columns : Cert.On_pooled_columns.Facts),
    quiescent_Kernel (hKernel := hKernel)
    ∧ quiescent_KernelIdeal (hKernelIdeal := hKernelIdeal)
    ∧ quiescent_PoolRefIdeal (hPoolRefIdeal := hPoolRefIdeal)
    ∧ quiescent_DAct (hDAct := hDAct)
    ∧ quiescent_DActIdeal (hDActIdeal := hDActIdeal)
    ∧ quiescent_DActRefIdeal (hDActRefIdeal := hDActRefIdeal)
    ∧ quiescent_DW2 (hDW2 := hDW2)
    ∧ quiescent_DW2Ideal (hDW2Ideal := hDW2Ideal)
    ∧ quiescent_DW2RefIdeal (hDW2RefIdeal := hDW2RefIdeal)
    ∧ quiescent_DW1 (hDW1 := hDW1)
    ∧ quiescent_DW1Ideal (hDW1Ideal := hDW1Ideal)
    ∧ quiescent_DW1RefIdeal (hDW1RefIdeal := hDW1RefIdeal)
    ∧ quiescent_Down (hDown := hDown)
    ∧ quiescent_DownIdeal (hDownIdeal := hDownIdeal)
    ∧ quiescent_DownRefIdeal (hDownRefIdeal := hDownRefIdeal)
    ∧ quiescent_OutT (hOutT := hOutT)
    ∧ quiescent_OutTIdeal (hOutTIdeal := hOutTIdeal)
    ∧ quiescent_OutTRefIdeal (hOutTRefIdeal := hOutTRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_EvDWIn (hEvDWIn := hEvDWIn)
    ∧ quiescent_EvDWInIdeal (hEvDWInIdeal := hEvDWInIdeal)
    ∧ quiescent_EvDWInRefIdeal (hEvDWInRefIdeal := hEvDWInRefIdeal)
    ∧ quiescent_OdDWIn (hOdDWIn := hOdDWIn)
    ∧ quiescent_OdDWInIdeal (hOdDWInIdeal := hOdDWInIdeal)
    ∧ quiescent_OdDWInRefIdeal (hOdDWInRefIdeal := hOdDWInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_DNorm (hDNorm := hDNorm)
    ∧ quiescent_DNormIdeal (hDNormIdeal := hDNormIdeal)
    ∧ quiescent_DNormRefIdeal (hDNormRefIdeal := hDNormRefIdeal)
    ∧ quiescent_EvInT (hEvInT := hEvInT)
    ∧ quiescent_EvInTIdeal (hEvInTIdeal := hEvInTIdeal)
    ∧ quiescent_EvInTRefIdeal (hEvInTRefIdeal := hEvInTRefIdeal)
    ∧ quiescent_OdInT (hOdInT := hOdInT)
    ∧ quiescent_OdInTIdeal (hOdInTIdeal := hOdInTIdeal)
    ∧ quiescent_OdInTRefIdeal (hOdInTRefIdeal := hOdInTRefIdeal)
    ∧ quiescent_Up (hUp := hUp)
    ∧ quiescent_UpIdeal (hUpIdeal := hUpIdeal)
    ∧ quiescent_UpRefIdeal (hUpRefIdeal := hUpRefIdeal)
    ∧ quiescent_EvIn (hEvIn := hEvIn)
    ∧ quiescent_EvInIdeal (hEvInIdeal := hEvInIdeal)
    ∧ quiescent_EvInRefIdeal (hEvInRefIdeal := hEvInRefIdeal)
    ∧ quiescent_OdIn (hOdIn := hOdIn)
    ∧ quiescent_OdInIdeal (hOdInIdeal := hOdInIdeal)
    ∧ quiescent_OdInRefIdeal (hOdInRefIdeal := hOdInRefIdeal)
    ∧ quiescent_OptOut (hOptOut := hOptOut)
    ∧ quiescent_OptOutIdeal (hOptOutIdeal := hOptOutIdeal)
    ∧ quiescent_OptOutRefIdeal (hOptOutRefIdeal := hOptOutRefIdeal)
    ∧ quiescent_OptEvIn (hOptEvIn := hOptEvIn)
    ∧ quiescent_OptEvInIdeal (hOptEvInIdeal := hOptEvInIdeal)
    ∧ quiescent_OptEvInRefIdeal (hOptEvInRefIdeal := hOptEvInRefIdeal)
    ∧ quiescent_OptOdIn (hOptOdIn := hOptOdIn)
    ∧ quiescent_OptOdInIdeal (hOptOdInIdeal := hOptOdInIdeal)
    ∧ quiescent_OptOdInRefIdeal (hOptOdInRefIdeal := hOptOdInRefIdeal)
    ∧ quiescent_OptW1 (hOptW1 := hOptW1)
    ∧ quiescent_OptW1Ideal (hOptW1Ideal := hOptW1Ideal)
    ∧ quiescent_OptW1RefIdeal (hOptW1RefIdeal := hOptW1RefIdeal)
    ∧ quiescent_OptW2 (hOptW2 := hOptW2)
    ∧ quiescent_OptW2Ideal (hOptW2Ideal := hOptW2Ideal)
    ∧ quiescent_OptW2RefIdeal (hOptW2RefIdeal := hOptW2RefIdeal)
    ∧ quiescent_OptSmall (hOptSmall := hOptSmall)
    ∧ quiescent_OptSmallIdeal (hOptSmallIdeal := hOptSmallIdeal)
    ∧ quiescent_OptSmallRefIdeal (hOptSmallRefIdeal := hOptSmallRefIdeal)
    ∧ quiescent_Loss (hLoss := hLoss)
    ∧ quiescent_LossIdeal (hLossIdeal := hLossIdeal)
    ∧ quiescent_LossRefIdeal (hLossRefIdeal := hLossRefIdeal)
    ∧ quiescent_LbFwd (hLbFwd := hLbFwd)
    ∧ quiescent_LbFwdIdeal (hLbFwdIdeal := hLbFwdIdeal)
    ∧ quiescent_LbFwdRefIdeal (hLbFwdRefIdeal := hLbFwdRefIdeal)
    ∧ quiescent_LbBwd (hLbBwd := hLbBwd)
    ∧ quiescent_LbBwdIdeal (hLbBwdIdeal := hLbBwdIdeal)
    ∧ quiescent_LbBwdRefIdeal (hLbBwdRefIdeal := hLbBwdRefIdeal)
    ∧ preserves_Kernel_KernelIdeal
    ∧ algebraic_KernelIdeal_PoolRefIdeal_on_pooled_columns (hKernelIdeal := hKernelIdeal) (hPoolRefIdeal := hPoolRefIdeal) (hOn_pooled_columns := hOn_pooled_columns)
    ∧ preserves_DAct_DActIdeal
    ∧ algebraic_DActIdeal_DActRefIdeal (hDActIdeal := hDActIdeal) (hDActRefIdeal := hDActRefIdeal)
    ∧ preserves_DW2_DW2Ideal
    ∧ algebraic_DW2Ideal_DW2RefIdeal (hDW2Ideal := hDW2Ideal) (hDW2RefIdeal := hDW2RefIdeal)
    ∧ preserves_DW1_DW1Ideal
    ∧ algebraic_DW1Ideal_DW1RefIdeal (hDW1Ideal := hDW1Ideal) (hDW1RefIdeal := hDW1RefIdeal)
    ∧ preserves_Down_DownIdeal
    ∧ algebraic_DownIdeal_DownRefIdeal (hDownIdeal := hDownIdeal) (hDownRefIdeal := hDownRefIdeal)
    ∧ preserves_OutT_OutTIdeal
    ∧ algebraic_OutTIdeal_OutTRefIdeal (hOutTIdeal := hOutTIdeal) (hOutTRefIdeal := hOutTRefIdeal)
    ∧ preserves_DWOut_DWOutIdeal
    ∧ algebraic_DWOutIdeal_DWOutRefIdeal (hDWOutIdeal := hDWOutIdeal) (hDWOutRefIdeal := hDWOutRefIdeal)
    ∧ preserves_EvDWIn_EvDWInIdeal
    ∧ algebraic_EvDWInIdeal_EvDWInRefIdeal (hEvDWInIdeal := hEvDWInIdeal) (hEvDWInRefIdeal := hEvDWInRefIdeal)
    ∧ preserves_OdDWIn_OdDWInIdeal
    ∧ algebraic_OdDWInIdeal_OdDWInRefIdeal (hOdDWInIdeal := hOdDWInIdeal) (hOdDWInRefIdeal := hOdDWInRefIdeal)
    ∧ preserves_MixOut_MixOutIdeal
    ∧ algebraic_MixOutIdeal_MixOutRefIdeal (hMixOutIdeal := hMixOutIdeal) (hMixOutRefIdeal := hMixOutRefIdeal)
    ∧ preserves_DNorm_DNormIdeal
    ∧ algebraic_DNormIdeal_DNormRefIdeal (hDNormIdeal := hDNormIdeal) (hDNormRefIdeal := hDNormRefIdeal)
    ∧ preserves_EvInT_EvInTIdeal
    ∧ algebraic_EvInTIdeal_EvInTRefIdeal (hEvInTIdeal := hEvInTIdeal) (hEvInTRefIdeal := hEvInTRefIdeal)
    ∧ preserves_OdInT_OdInTIdeal
    ∧ algebraic_OdInTIdeal_OdInTRefIdeal (hOdInTIdeal := hOdInTIdeal) (hOdInTRefIdeal := hOdInTRefIdeal)
    ∧ preserves_Up_UpIdeal
    ∧ algebraic_UpIdeal_UpRefIdeal (hUpIdeal := hUpIdeal) (hUpRefIdeal := hUpRefIdeal)
    ∧ preserves_EvIn_EvInIdeal
    ∧ algebraic_EvInIdeal_EvInRefIdeal (hEvInIdeal := hEvInIdeal) (hEvInRefIdeal := hEvInRefIdeal)
    ∧ preserves_OdIn_OdInIdeal
    ∧ algebraic_OdInIdeal_OdInRefIdeal (hOdInIdeal := hOdInIdeal) (hOdInRefIdeal := hOdInRefIdeal)
    ∧ preserves_OptOut_OptOutIdeal
    ∧ algebraic_OptOutIdeal_OptOutRefIdeal (hOptOutIdeal := hOptOutIdeal) (hOptOutRefIdeal := hOptOutRefIdeal)
    ∧ preserves_OptEvIn_OptEvInIdeal
    ∧ algebraic_OptEvInIdeal_OptEvInRefIdeal (hOptEvInIdeal := hOptEvInIdeal) (hOptEvInRefIdeal := hOptEvInRefIdeal)
    ∧ preserves_OptOdIn_OptOdInIdeal
    ∧ algebraic_OptOdInIdeal_OptOdInRefIdeal (hOptOdInIdeal := hOptOdInIdeal) (hOptOdInRefIdeal := hOptOdInRefIdeal)
    ∧ preserves_OptW1_OptW1Ideal
    ∧ algebraic_OptW1Ideal_OptW1RefIdeal (hOptW1Ideal := hOptW1Ideal) (hOptW1RefIdeal := hOptW1RefIdeal)
    ∧ preserves_OptW2_OptW2Ideal
    ∧ algebraic_OptW2Ideal_OptW2RefIdeal (hOptW2Ideal := hOptW2Ideal) (hOptW2RefIdeal := hOptW2RefIdeal)
    ∧ preserves_OptSmall_OptSmallIdeal
    ∧ algebraic_OptSmallIdeal_OptSmallRefIdeal (hOptSmallIdeal := hOptSmallIdeal) (hOptSmallRefIdeal := hOptSmallRefIdeal)
    ∧ preserves_Loss_LossIdeal
    ∧ algebraic_LossIdeal_LossRefIdeal (hLossIdeal := hLossIdeal) (hLossRefIdeal := hLossRefIdeal)
    ∧ preserves_LbFwd_LbFwdIdeal
    ∧ algebraic_LbFwdIdeal_LbFwdRefIdeal (hLbFwdIdeal := hLbFwdIdeal) (hLbFwdRefIdeal := hLbFwdRefIdeal)
    ∧ preserves_LbBwd_LbBwdIdeal
    ∧ algebraic_LbBwdIdeal_LbBwdRefIdeal (hLbBwdIdeal := hLbBwdIdeal) (hLbBwdRefIdeal := hLbBwdRefIdeal)
-- ==== On_pooled_columns.lean ====
abbrev S4160x1024 : Shape := ⟨2, ![4160, 1024]⟩
abbrev S4160x512 : Shape := ⟨2, ![4160, 512]⟩
abbrev S4160x1536 : Shape := ⟨2, ![4160, 1536]⟩
abbrev S32x512 : Shape := ⟨2, ![32, 512]⟩
abbrev S1x512 : Shape := ⟨2, ![1, 512]⟩
abbrev S4x128x128 : Shape := ⟨3, ![4, 128, 128]⟩
abbrev S_ : Shape := ⟨0, ![]⟩
abbrev S8x512 : Shape := ⟨2, ![8, 512]⟩

class Facts : Prop where
  bcast_S_S4160x1536 : S_.BroadcastsInDim S4160x1536 (![] : Fin 0 → Fin S4160x1536.rank)
  bcast_S_S32x512 : S_.BroadcastsInDim S32x512 (![] : Fin 0 → Fin S32x512.rank)
  bcast_S_S8x512 : S_.BroadcastsInDim S8x512 (![] : Fin 0 → Fin S8x512.rank)
  bcast_S_S4x128x128 : S_.BroadcastsInDim S4x128x128 (![] : Fin 0 → Fin S4x128x128.rank)

variable [Facts]

def fn {F : FTy → Type} [FloatOps F] (main_arg0 : FVec F S4160x1024 .f32) (main_arg1 : FVec F S4160x512 .f32) (main_arg2 : FVec F S4160x1536 .f32) (main_arg3 : FVec F S32x512 .f32) (main_arg4 : FVec F S1x512 .f32) (main_arg5 : FVec F S1x512 .f32) (main_arg6 : FVec F S4x128x128 .f32) (main_arg7 : FVec F S1x512 .f32) (main_arg8 : FVec F S1x512 .f32) : IVec S4160x1536 1 × IVec S32x512 1 × IVec S8x512 1 × IVec S4x128x128 1 :=
  let main_v0 : IVec S4160x1536 32 := iotaInDim S4160x1536 32 0
  let main_v1 : IVec S4160x1536 32 := iotaInDim S4160x1536 32 1
  let main_c : IVec S_ 32 := constantI S_ 32 48#32
  let main_v2 : IVec S4160x1536 32 := broadcastInDim S4160x1536 ![] bcast_S_S4160x1536 main_c
  let main_v3 : IVec S4160x1536 1 := cmpi .sge main_v0 main_v2
  let main_c_0 : IVec S_ 32 := constantI S_ 32 1024#32
  let main_v4 : IVec S4160x1536 32 := broadcastInDim S4160x1536 ![] bcast_S_S4160x1536 main_c_0
  let main_v5 : IVec S4160x1536 1 := cmpi .sge main_v1 main_v4
  let main_v6 : IVec S4160x1536 1 := andi main_v3 main_v5
  let main_c_1 : IVec S_ 1 := constantI S_ 1 0#1
  let main_v7 : IVec S32x512 1 := broadcastInDim S32x512 ![] bcast_S_S32x512 main_c_1
  let main_c_2 : IVec S_ 1 := constantI S_ 1 0#1
  let main_v8 : IVec S8x512 1 := broadcastInDim S8x512 ![] bcast_S_S8x512 main_c_2
  let main_c_3 : IVec S_ 1 := constantI S_ 1 0#1
  let main_v9 : IVec S4x128x128 1 := broadcastInDim S4x128x128 ![] bcast_S_S4x128x128 main_c_3
  (main_v6, main_v7, main_v8, main_v9)
-- ==== Kernel.lean ====
abbrev S4160x1024 : Shape := ⟨2, ![4160, 1024]⟩
abbrev S4160x512 : Shape := ⟨2, ![4160, 512]⟩
abbrev S4160x1536 : Shape := ⟨2, ![4160, 1536]⟩
abbrev S32x512 : Shape := ⟨2, ![32, 512]⟩
abbrev S1x512 : Shape := ⟨2, ![1, 512]⟩
abbrev S4x128x128 : Shape := ⟨3, ![4, 128, 128]⟩
abbrev S8x512 : Shape := ⟨2, ![8, 512]⟩
abbrev S416x512 : Shape := ⟨2, ![416, 512]⟩
abbrev S416x1536 : Shape := ⟨2, ![416, 1536]⟩
abbrev S8x456x512 : Shape := ⟨3, ![8, 456, 512]⟩
abbrev S448x512 : Shape := ⟨2, ![448, 512]⟩
abbrev S32x8x512 : Shape := ⟨3, ![32, 8, 512]⟩
abbrev S8x8x512 : Shape := ⟨3, ![8, 8, 512]⟩
abbrev S1x32x512 : Shape := ⟨3, ![1, 32, 512]⟩
abbrev S1x416x512 : Shape := ⟨3, ![1, 416, 512]⟩
abbrev S1x8x512 : Shape := ⟨3, ![1, 8, 512]⟩
abbrev S1x40x512 : Shape := ⟨3, ![1, 40, 512]⟩
abbrev S40x512 : Shape := ⟨2, ![40, 512]⟩
abbrev S32 : Shape := ⟨1, ![32]⟩
abbrev S32x1 : Shape := ⟨2, ![32, 1]⟩
abbrev S4x8x512 : Shape := ⟨3, ![4, 8, 512]⟩
abbrev S32x128 : Shape := ⟨2, ![32, 128]⟩
abbrev S1x128x128 : Shape := ⟨3, ![1, 128, 128]⟩
abbrev S128x128 : Shape := ⟨2, ![128, 128]⟩
abbrev S64x512 : Shape := ⟨2, ![64, 512]⟩
abbrev S416x128 : Shape := ⟨2, ![416, 128]⟩
abbrev S1x128 : Shape := ⟨2, ![1, 128]⟩
abbrev S1x8x128 : Shape := ⟨3, ![1, 8, 128]⟩
abbrev S8x128 : Shape := ⟨2, ![8, 128]⟩
abbrev S52x8x128 : Shape := ⟨3, ![52, 8, 128]⟩
abbrev S512 : Shape := ⟨1, ![512]⟩

abbrev nBuf : Space → Nat
  | .hbm => 16
  | .vmem => 45
  | .smem => 0
  | _ => 0

abbrev bufTy : (tb : Table) → Fin (tcTables nBuf tb) → BufTy
  | .hbm, ⟨0, _⟩ => ⟨S4160x1024, .f32⟩
  | .hbm, ⟨1, _⟩ => ⟨S4160x512, .f32⟩
  | .hbm, ⟨2, _⟩ => ⟨S4160x1536, .f32⟩
  | .hbm, ⟨3, _⟩ => ⟨S32x512, .f32⟩
  | .hbm, ⟨4, _⟩ => ⟨S1x512, .f32⟩
  | .hbm, ⟨5, _⟩ => ⟨S1x512, .f32⟩
  | .hbm, ⟨6, _⟩ => ⟨S4x128x128, .f32⟩
  | .hbm, ⟨7, _⟩ => ⟨S1x512, .f32⟩
  | .hbm, ⟨8, _⟩ => ⟨S1x512, .f32⟩
  | .hbm, ⟨9, _⟩ => ⟨S4x128x128, .bf16⟩
  | .hbm, ⟨10, _⟩ => ⟨S4x128x128, .f32⟩
  | .hbm, ⟨11, _⟩ => ⟨S4x128x128, .bf16⟩
  | .hbm, ⟨12, _⟩ => ⟨S4160x1536, .bf16⟩
  | .hbm, ⟨13, _⟩ => ⟨S32x512, .f32⟩
  | .hbm, ⟨14, _⟩ => ⟨S8x512, .f32⟩
  | .hbm, ⟨15, _⟩ => ⟨S4x128x128, .f32⟩
  | .local _ .vmem, ⟨0, _⟩ => ⟨S416x512, .f32⟩
  | .local _ .vmem, ⟨1, _⟩ => ⟨S416x512, .f32⟩
  | .local _ .vmem, ⟨2, _⟩ => ⟨S416x512, .f32⟩
  | .local _ .vmem, ⟨3, _⟩ => ⟨S416x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S416x512, .f32⟩
  | .local _ .vmem, ⟨9, _⟩ => ⟨S416x512, .f32⟩
  | .local _ .vmem, ⟨10, _⟩ => ⟨S32x512, .f32⟩
  | .local _ .vmem, ⟨11, _⟩ => ⟨S32x512, .f32⟩
  | .local _ .vmem, ⟨12, _⟩ => ⟨S416x512, .f32⟩
  | .local _ .vmem, ⟨13, _⟩ => ⟨S416x512, .f32⟩
  | .local _ .vmem, ⟨14, _⟩ => ⟨S416x512, .f32⟩
  | .local _ .vmem, ⟨15, _⟩ => ⟨S416x512, .f32⟩
  | .local _ .vmem, ⟨16, _⟩ => ⟨S416x512, .f32⟩
  | .local _ .vmem, ⟨17, _⟩ => ⟨S416x512, .f32⟩
  | .local _ .vmem, ⟨18, _⟩ => ⟨S32x512, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | .local _ .vmem, ⟨22, _⟩ => ⟨S32x512, .f32⟩
  | .local _ .vmem, ⟨23, _⟩ => ⟨S32x512, .f32⟩
  | .local _ .vmem, ⟨24, _⟩ => ⟨S32x512, .f32⟩
  | .local _ .vmem, ⟨25, _⟩ => ⟨S1x512, .f32⟩
  | .local _ .vmem, ⟨26, _⟩ => ⟨S1x512, .f32⟩
  | .local _ .vmem, ⟨27, _⟩ => ⟨S4x128x128, .bf16⟩
  | .local _ .vmem, ⟨28, _⟩ => ⟨S4x128x128, .bf16⟩
  | .local _ .vmem, ⟨29, _⟩ => ⟨S1x512, .f32⟩
  | .local _ .vmem, ⟨30, _⟩ => ⟨S1x512, .f32⟩
  | .local _ .vmem, ⟨31, _⟩ => ⟨S416x1536, .bf16⟩
  | .local _ .vmem, ⟨32, _⟩ => ⟨S416x1536, .bf16⟩
  | .local _ .vmem, ⟨33, _⟩ => ⟨S32x512, .f32⟩
  | .local _ .vmem, ⟨34, _⟩ => ⟨S8x512, .f32⟩
  | .local _ .vmem, ⟨35, _⟩ => ⟨S4x128x128, .f32⟩
  | .local _ .vmem, ⟨36, _⟩ => ⟨S8x456x512, .f32⟩
  | .local _ .vmem, ⟨37, _⟩ => ⟨S8x456x512, .f32⟩
  | .local _ .vmem, ⟨38, _⟩ => ⟨S448x512, .f32⟩
  | .local _ .vmem, ⟨39, _⟩ => ⟨S448x512, .f32⟩
  | .local _ .vmem, ⟨40, _⟩ => ⟨S416x512, .f32⟩
  | .local _ .vmem, ⟨41, _⟩ => ⟨S416x512, .bf16⟩
  | .local _ .vmem, ⟨42, _⟩ => ⟨S416x512, .bf16⟩
  | .local _ .vmem, ⟨43, _⟩ => ⟨S32x8x512, .f32⟩
  | .local _ .vmem, ⟨44, _⟩ => ⟨S8x8x512, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem19_1 : DmaSem sig := 32
abbrev cc0_sem20_0 : DmaSem sig := 33
abbrev cc0_sem21_0 : DmaSem sig := 34
abbrev cc0_sem22_0 : DmaSem sig := 35

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32_32 : BitVec 32 := 0#32
  let c14_i32 : BitVec 32 := 14#32
  let v47 : BitVec 32 := Scalar.addi c0_i32_32 c14_i32
  let c1_i32 : BitVec 32 := 1#32
  ⟨c0_i32_32, v47, c1_i32⟩
def k0_mult1 (k0_t1 : Fin k0_t1_loop.trips) : BitVec 32 :=
  let c0_i32_32 : BitVec 32 := 0#32
  let c1_i32 : BitVec 32 := 1#32
  let arg33 : BitVec 32 := Scf.iv c0_i32_32 c1_i32 k0_t1
  let c32_i32 : BitVec 32 := 32#32
  let v605 : BitVec 32 := Scalar.muli arg33 c32_i32
  v605
def k0_off1 (k0_t1 : Fin k0_t1_loop.trips) : Fin 3 → Nat :=
  let c0_485 : Index := 0#32
  let c0_i32_32 : BitVec 32 := 0#32
  let c1_i32 : BitVec 32 := 1#32
  let arg33 : BitVec 32 := Scf.iv c0_i32_32 c1_i32 k0_t1
  let c32_i32 : BitVec 32 := 32#32
  let v605 : BitVec 32 := Scalar.muli arg33 c32_i32
  let v606 : BitVec 32 := v605
  let v607 : Index := Scalar.indexCast v606
  let c0_486 : Index := 0#32
  ![0, v607.toNat, 0]
def k0_off2 (k0_t1 : Fin k0_t1_loop.trips) : Fin 3 → Nat :=
  let c1_487 : Index := 1#32
  let c0_i32_32 : BitVec 32 := 0#32
  let c1_i32 : BitVec 32 := 1#32
  let arg33 : BitVec 32 := Scf.iv c0_i32_32 c1_i32 k0_t1
  let c32_i32 : BitVec 32 := 32#32
  let v605 : BitVec 32 := Scalar.muli arg33 c32_i32
  let v606 : BitVec 32 := v605
  let v611 : Index := Scalar.indexCast v606
  let c0_488 : Index := 0#32
  ![1, v611.toNat, 0]
def k0_off3 (k0_t1 : Fin k0_t1_loop.trips) : Fin 3 → Nat :=
  let c2_489 : Index := 2#32
  let c0_i32_32 : BitVec 32 := 0#32
  let c1_i32 : BitVec 32 := 1#32
  let arg33 : BitVec 32 := Scf.iv c0_i32_32 c1_i32 k0_t1
  let c32_i32 : BitVec 32 := 32#32
  let v605 : BitVec 32 := Scalar.muli arg33 c32_i32
  let v606 : BitVec 32 := v605
  let v616 : Index := Scalar.indexCast v606
  let c0_490 : Index := 0#32
  ![2, v616.toNat, 0]
def k0_off4 (k0_t1 : Fin k0_t1_loop.trips) : Fin 3 → Nat :=
  let c3_491 : Index := 3#32
  let c0_i32_32 : BitVec 32 := 0#32
  let c1_i32 : BitVec 32 := 1#32
  let arg33 : BitVec 32 := Scf.iv c0_i32_32 c1_i32 k0_t1
  let c32_i32 : BitVec 32 := 32#32
  let v605 : BitVec 32 := Scalar.muli arg33 c32_i32
  let v606 : BitVec 32 := v605
  let v621 : Index := Scalar.indexCast v606
  let c0_492 : Index := 0#32
  ![3, v621.toNat, 0]
def k0_off5 (k0_t1 : Fin k0_t1_loop.trips) : Fin 3 → Nat :=
  let c4_493 : Index := 4#32
  let c0_i32_32 : BitVec 32 := 0#32
  let c1_i32 : BitVec 32 := 1#32
  let arg33 : BitVec 32 := Scf.iv c0_i32_32 c1_i32 k0_t1
  let c32_i32 : BitVec 32 := 32#32
  let v605 : BitVec 32 := Scalar.muli arg33 c32_i32
  let v606 : BitVec 32 := v605
  let v626 : Index := Scalar.indexCast v606
  let c0_494 : Index := 0#32
  ![4, v626.toNat, 0]
def k0_off6 (k0_t1 : Fin k0_t1_loop.trips) : Fin 3 → Nat :=
  let c5_495 : Index := 5#32
  let c0_i32_32 : BitVec 32 := 0#32
  let c1_i32 : BitVec 32 := 1#32
  let arg33 : BitVec 32 := Scf.iv c0_i32_32 c1_i32 k0_t1
  let c32_i32 : BitVec 32 := 32#32
  let v605 : BitVec 32 := Scalar.muli arg33 c32_i32
  let v606 : BitVec 32 := v605
  let v631 : Index := Scalar.indexCast v606
  let c0_496 : Index := 0#32
  ![5, v631.toNat, 0]
def k0_off7 (k0_t1 : Fin k0_t1_loop.trips) : Fin 3 → Nat :=
  let c6_497 : Index := 6#32
  let c0_i32_32 : BitVec 32 := 0#32
  let c1_i32 : BitVec 32 := 1#32
  let arg33 : BitVec 32 := Scf.iv c0_i32_32 c1_i32 k0_t1
  let c32_i32 : BitVec 32 := 32#32
  let v605 : BitVec 32 := Scalar.muli arg33 c32_i32
  let v606 : BitVec 32 := v605
  let v636 : Index := Scalar.indexCast v606
  let c0_498 : Index := 0#32
  ![6, v636.toNat, 0]
def k0_off8 (k0_t1 : Fin k0_t1_loop.trips) : Fin 3 → Nat :=
  let c7_499 : Index := 7#32
  let c0_i32_32 : BitVec 32 := 0#32
  let c1_i32 : BitVec 32 := 1#32
  let arg33 : BitVec 32 := Scf.iv c0_i32_32 c1_i32 k0_t1
  let c32_i32 : BitVec 32 := 32#32
  let v605 : BitVec 32 := Scalar.muli arg33 c32_i32
  let v606 : BitVec 32 := v605
  let v641 : Index := Scalar.indexCast v606
  let c0_500 : Index := 0#32
  ![7, v641.toNat, 0]
@[reducible] def k0_t2_loop : Scf.Loop 32 :=
  let c0_i32_34 : BitVec 32 := 0#32
  let c13_i32 : BitVec 32 := 13#32
  let v48 : BitVec 32 := Scalar.addi c0_i32_34 c13_i32
  let c1_i32_35 : BitVec 32 := 1#32
  ⟨c0_i32_34, v48, c1_i32_35⟩
def k0_mult2 (k0_t2 : Fin k0_t2_loop.trips) : BitVec 32 :=
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  v605
def k0_off9 (k0_t2 : Fin k0_t2_loop.trips) : Fin 2 → Nat :=
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  let v606 : BitVec 32 := v605
  let v607 : Index := Scalar.indexCast v606
  let c0_485 : Index := 0#32
  ![v607.toNat, 0]
def k0_off10 (k0_t2 : Fin k0_t2_loop.trips) : Fin 3 → Nat :=
  let c0_525 : Index := 0#32
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  let v606 : BitVec 32 := v605
  let v685 : Index := Scalar.indexCast v606
  let c0_526 : Index := 0#32
  ![0, v685.toNat, 0]
def k0_off11 (k0_t2 : Fin k0_t2_loop.trips) : Fin 2 → Nat :=
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  let v606 : BitVec 32 := v605
  let v715 : Index := Scalar.indexCast v606
  let c0_539 : Index := 0#32
  ![v715.toNat, 0]
def k0_off12 (k0_t2 : Fin k0_t2_loop.trips) : Fin 2 → Nat :=
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  let v606 : BitVec 32 := v605
  let v719 : Index := Scalar.indexCast v606
  let c0_540 : Index := 0#32
  ![v719.toNat, 0]
def k0_off13 (k0_t2 : Fin k0_t2_loop.trips) : Fin 2 → Nat :=
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  let v606 : BitVec 32 := v605
  let v744 : Index := Scalar.indexCast v606
  let c128_550 : Index := 128#32
  ![v744.toNat, 128]
def k0_off14 (k0_t2 : Fin k0_t2_loop.trips) : Fin 2 → Nat :=
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  let v606 : BitVec 32 := v605
  let v748 : Index := Scalar.indexCast v606
  let c128_551 : Index := 128#32
  ![v748.toNat, 128]
def k0_off15 (k0_t2 : Fin k0_t2_loop.trips) : Fin 2 → Nat :=
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  let v606 : BitVec 32 := v605
  let v773 : Index := Scalar.indexCast v606
  let c256_561 : Index := 256#32
  ![v773.toNat, 256]
def k0_off16 (k0_t2 : Fin k0_t2_loop.trips) : Fin 2 → Nat :=
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  let v606 : BitVec 32 := v605
  let v777 : Index := Scalar.indexCast v606
  let c256_562 : Index := 256#32
  ![v777.toNat, 256]
def k0_off17 (k0_t2 : Fin k0_t2_loop.trips) : Fin 2 → Nat :=
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  let v606 : BitVec 32 := v605
  let v802 : Index := Scalar.indexCast v606
  let c384_572 : Index := 384#32
  ![v802.toNat, 384]
def k0_off18 (k0_t2 : Fin k0_t2_loop.trips) : Fin 2 → Nat :=
  let c0_i32_34 : BitVec 32 := 0#32
  let c1_i32_35 : BitVec 32 := 1#32
  let arg33 : BitVec 32 := Scf.iv c0_i32_34 c1_i32_35 k0_t2
  let c32_i32 : BitVec 32 := 32#32
  let v605 : BitVec 32 := Scalar.muli arg33 c32_i32
  let v606 : BitVec 32 := v605
  let v806 : Index := Scalar.indexCast v606
  let c384_573 : Index := 384#32
  ![v806.toNat, 384]
@[reducible] def k0_t3_loop : Scf.Loop 32 :=
  let c0_i32_64 : BitVec 32 := 0#32
  let c14_i32_65 : BitVec 32 := 14#32
  let v109 : BitVec 32 := Scalar.addi c0_i32_64 c14_i32_65
  let c1_i32_66 : BitVec 32 := 1#32
  ⟨c0_i32_64, v109, c1_i32_66⟩
def k0_mult3 (k0_t3 : Fin k0_t3_loop.trips) : BitVec 32 :=
  let c0_i32_64 : BitVec 32 := 0#32
  let c1_i32_66 : BitVec 32 := 1#32
  let arg33 : BitVec 32 := Scf.iv c0_i32_64 c1_i32_66 k0_t3
  let c32_i32 : BitVec 32 := 32#32
  let v605 : BitVec 32 := Scalar.muli arg33 c32_i32
  v605
def k0_off19 (k0_t3 : Fin k0_t3_loop.trips) : Fin 3 → Nat :=
  let c0_485 : Index := 0#32
  let c0_i32_64 : BitVec 32 := 0#32
  let c1_i32_66 : BitVec 32 := 1#32
  let arg33 : BitVec 32 := Scf.iv c0_i32_64 c1_i32_66 k0_t3
  let c32_i32 : BitVec 32 := 32#32
  let v605 : BitVec 32 := Scalar.muli arg33 c32_i32
  let v606 : BitVec 32 := v605
  let v607 : Index := Scalar.indexCast v606
  let c0_486 : Index := 0#32
  ![0, v607.toNat, 0]
def k0_off20 (k0_t3 : Fin k0_t3_loop.trips) : Fin 3 → Nat :=
  let c1_487 : Index := 1#32
  let c0_i32_64 : BitVec 32 := 0#32
  let c1_i32_66 : BitVec 32 := 1#32
  let arg33 : BitVec 32 := Scf.iv c0_i32_64 c1_i32_66 k0_t3
  let c32_i32 : BitVec 32 := 32#32
  let v605 : BitVec 32 := Scalar.muli arg33 c32_i32
  let v606 : BitVec 32 := v605
  let v611 : Index := Scalar.indexCast v606
  let c0_488 : Index := 0#32
  ![1, v611.toNat, 0]
def k0_off21 (k0_t3 : Fin k0_t3_loop.trips) : Fin 3 → Nat :=
  let c2_489 : Index := 2#32
  let c0_i32_64 : BitVec 32 := 0#32
  let c1_i32_66 : BitVec 32 := 1#32
  let arg33 : BitVec 32 := Scf.iv c0_i32_64 c1_i32_66 k0_t3
  let c32_i32 : BitVec 32 := 32#32
  let v605 : BitVec 32 := Scalar.muli arg33 c32_i32
  let v606 : BitVec 32 := v605
  let v616 : Index := Scalar.indexCast v606
  let c0_490 : Index := 0#32
  ![2, v616.toNat, 0]
def k0_off22 (k0_t3 : Fin k0_t3_loop.trips) : Fin 3 → Nat :=
  let c3_491 : Index := 3#32
  let c0_i32_64 : BitVec 32 := 0#32
  let c1_i32_66 : BitVec 32 := 1#32
  let arg33 : BitVec 32 := Scf.iv c0_i32_64 c1_i32_66 k0_t3
  let c32_i32 : BitVec 32 := 32#32
  let v605 : BitVec 32 := Scalar.muli arg33 c32_i32
  let v606 : BitVec 32 := v605
  let v621 : Index := Scalar.indexCast v606
  let c0_492 : Index := 0#32
  ![3, v621.toNat, 0]
def k0_off23 (k0_t3 : Fin k0_t3_loop.trips) : Fin 3 → Nat :=
  let c4_493 : Index := 4#32
  let c0_i32_64 : BitVec 32 := 0#32
  let c1_i32_66 : BitVec 32 := 1#32
  let arg33 : BitVec 32 := Scf.iv c0_i32_64 c1_i32_66 k0_t3
  let c32_i32 : BitVec 32 := 32#32
  let v605 : BitVec 32 := Scalar.muli arg33 c32_i32
  let v606 : BitVec 32 := v605
  let v626 : Index := Scalar.indexCast v606
  let c0_494 : Index := 0#32
  ![4, v626.toNat, 0]
def k0_off24 (k0_t3 : Fin k0_t3_loop.trips) : Fin 3 → Nat :=
  let c5_495 : Index := 5#32
  let c0_i32_64 : BitVec 32 := 0#32
  let c1_i32_66 : BitVec 32 := 1#32
  let arg33 : BitVec 32 := Scf.iv c0_i32_64 c1_i32_66 k0_t3
  let c32_i32 : BitVec 32 := 32#32
  let v605 : BitVec 32 := Scalar.muli arg33 c32_i32
  let v606 : BitVec 32 := v605
  let v631 : Index := Scalar.indexCast v606
  let c0_496 : Index := 0#32
  ![5, v631.toNat, 0]
def k0_off25 (k0_t3 : Fin k0_t3_loop.trips) : Fin 3 → Nat :=
  let c6_497 : Index := 6#32
  let c0_i32_64 : BitVec 32 := 0#32
  let c1_i32_66 : BitVec 32 := 1#32
  let arg33 : BitVec 32 := Scf.iv c0_i32_64 c1_i32_66 k0_t3
  let c32_i32 : BitVec 32 := 32#32
  let v605 : BitVec 32 := Scalar.muli arg33 c32_i32
  let v606 : BitVec 32 := v605
  let v636 : Index := Scalar.indexCast v606
  let c0_498 : Index := 0#32
  ![6, v636.toNat, 0]
def k0_off26 (k0_t3 : Fin k0_t3_loop.trips) : Fin 3 → Nat :=
  let c7_499 : Index := 7#32
  let c0_i32_64 : BitVec 32 := 0#32
  let c1_i32_66 : BitVec 32 := 1#32
  let arg33 : BitVec 32 := Scf.iv c0_i32_64 c1_i32_66 k0_t3
  let c32_i32 : BitVec 32 := 32#32
  let v605 : BitVec 32 := Scalar.muli arg33 c32_i32
  let v606 : BitVec 32 := v605
  let v641 : Index := Scalar.indexCast v606
  let c0_500 : Index := 0#32
  ![7, v641.toNat, 0]
@[reducible] def k0_t4_loop : Scf.Loop 32 :=
  let c0_i32_108 : BitVec 32 := 0#32
  let c13_i32_109 : BitVec 32 := 13#32
  let v212 : BitVec 32 := Scalar.addi c0_i32_108 c13_i32_109
  let c1_i32_110 : BitVec 32 := 1#32
  ⟨c0_i32_108, v212, c1_i32_110⟩
def k0_mult4 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  v605
def k0_off27 (k0_t4 : Fin k0_t4_loop.trips) : Fin 3 → Nat :=
  let c0_485 : Index := 0#32
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v607 : Index := Scalar.indexCast v606
  let c0_486 : Index := 0#32
  ![0, v607.toNat, 0]
def k0_mult5 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32 : BitVec 32 := 24#32
  let v612 : BitVec 32 := Scalar.addi v606 c24_i32
  v612
def k0_off28 (k0_t4 : Fin k0_t4_loop.trips) (c24_i32 : BitVec 32) : Fin 3 → Nat :=
  let c6_490 : Index := 6#32
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v612 : BitVec 32 := Scalar.addi v606 c24_i32
  let v613 : BitVec 32 := v612
  let v614 : Index := Scalar.indexCast v613
  let c0_491 : Index := 0#32
  ![6, v614.toNat, 0]
def k0_mult6 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_492 : BitVec 32 := 0#32
  let v620 : BitVec 32 := Scalar.addi v606 c0_i32_492
  v620
def k0_off29 (k0_t4 : Fin k0_t4_loop.trips) (c0_i32_492 : BitVec 32) : Fin 3 → Nat :=
  let c2_493 : Index := 2#32
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v620 : BitVec 32 := Scalar.addi v606 c0_i32_492
  let v621 : BitVec 32 := v620
  let v622 : Index := Scalar.indexCast v621
  let c0_494 : Index := 0#32
  ![2, v622.toNat, 0]
def k0_mult7 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_504 : BitVec 32 := 24#32
  let v635 : BitVec 32 := Scalar.addi v606 c24_i32_504
  v635
def k0_off30 (k0_t4 : Fin k0_t4_loop.trips) (c24_i32_504 : BitVec 32) : Fin 3 → Nat :=
  let c5_505 : Index := 5#32
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v635 : BitVec 32 := Scalar.addi v606 c24_i32_504
  let v636 : BitVec 32 := v635
  let v637 : Index := Scalar.indexCast v636
  let c0_506 : Index := 0#32
  ![5, v637.toNat, 0]
def k0_mult8 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_507 : BitVec 32 := 0#32
  let v643 : BitVec 32 := Scalar.addi v606 c0_i32_507
  v643
def k0_off31 (k0_t4 : Fin k0_t4_loop.trips) (c0_i32_507 : BitVec 32) : Fin 3 → Nat :=
  let c3_508 : Index := 3#32
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v643 : BitVec 32 := Scalar.addi v606 c0_i32_507
  let v644 : BitVec 32 := v643
  let v645 : Index := Scalar.indexCast v644
  let c0_509 : Index := 0#32
  ![3, v645.toNat, 0]
def k0_mult9 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_519 : BitVec 32 := 24#32
  let v658 : BitVec 32 := Scalar.addi v606 c24_i32_519
  v658
def k0_off32 (k0_t4 : Fin k0_t4_loop.trips) (c24_i32_519 : BitVec 32) : Fin 3 → Nat :=
  let c4_520 : Index := 4#32
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v658 : BitVec 32 := Scalar.addi v606 c24_i32_519
  let v659 : BitVec 32 := v658
  let v660 : Index := Scalar.indexCast v659
  let c0_521 : Index := 0#32
  ![4, v660.toNat, 0]
def k0_mult10 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_522 : BitVec 32 := 0#32
  let v666 : BitVec 32 := Scalar.addi v606 c0_i32_522
  v666
def k0_mult11 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_534 : BitVec 32 := 24#32
  let v681 : BitVec 32 := Scalar.addi v606 c24_i32_534
  v681
def k0_mult12 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_537 : BitVec 32 := 0#32
  let v689 : BitVec 32 := Scalar.addi v606 c0_i32_537
  v689
def k0_mult13 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_549 : BitVec 32 := 24#32
  let v704 : BitVec 32 := Scalar.addi v606 c24_i32_549
  v704
def k0_mult14 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_552 : BitVec 32 := 0#32
  let v712 : BitVec 32 := Scalar.addi v606 c0_i32_552
  v712
def k0_mult15 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_564 : BitVec 32 := 24#32
  let v727 : BitVec 32 := Scalar.addi v606 c24_i32_564
  v727
def k0_off33 (k0_t4 : Fin k0_t4_loop.trips) (c24_i32_564 : BitVec 32) : Fin 3 → Nat :=
  let c1_565 : Index := 1#32
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v727 : BitVec 32 := Scalar.addi v606 c24_i32_564
  let v728 : BitVec 32 := v727
  let v729 : Index := Scalar.indexCast v728
  let c0_566 : Index := 0#32
  ![1, v729.toNat, 0]
def k0_mult16 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_567 : BitVec 32 := 0#32
  let v735 : BitVec 32 := Scalar.addi v606 c0_i32_567
  v735
def k0_off34 (k0_t4 : Fin k0_t4_loop.trips) (c0_i32_567 : BitVec 32) : Fin 3 → Nat :=
  let c7_568 : Index := 7#32
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v735 : BitVec 32 := Scalar.addi v606 c0_i32_567
  let v736 : BitVec 32 := v735
  let v737 : Index := Scalar.indexCast v736
  let c0_569 : Index := 0#32
  ![7, v737.toNat, 0]
def k0_mult17 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_579 : BitVec 32 := 24#32
  let v750 : BitVec 32 := Scalar.addi v606 c24_i32_579
  v750
def k0_off35 (k0_t4 : Fin k0_t4_loop.trips) (c24_i32_579 : BitVec 32) : Fin 3 → Nat :=
  let c0_580 : Index := 0#32
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v750 : BitVec 32 := Scalar.addi v606 c24_i32_579
  let v751 : BitVec 32 := v750
  let v752 : Index := Scalar.indexCast v751
  let c0_581 : Index := 0#32
  ![0, v752.toNat, 0]
def k0_mult18 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_582 : BitVec 32 := 8#32
  let v758 : BitVec 32 := Scalar.addi v606 c8_i32_582
  v758
def k0_mult19 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_594 : BitVec 32 := 16#32
  let v773 : BitVec 32 := Scalar.addi v606 c16_i32_594
  v773
def k0_mult20 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_597 : BitVec 32 := 8#32
  let v781 : BitVec 32 := Scalar.addi v606 c8_i32_597
  v781
def k0_mult21 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_609 : BitVec 32 := 16#32
  let v796 : BitVec 32 := Scalar.addi v606 c16_i32_609
  v796
def k0_mult22 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_612 : BitVec 32 := 8#32
  let v804 : BitVec 32 := Scalar.addi v606 c8_i32_612
  v804
def k0_mult23 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_624 : BitVec 32 := 16#32
  let v819 : BitVec 32 := Scalar.addi v606 c16_i32_624
  v819
def k0_mult24 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_627 : BitVec 32 := 8#32
  let v827 : BitVec 32 := Scalar.addi v606 c8_i32_627
  v827
def k0_mult25 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_639 : BitVec 32 := 16#32
  let v842 : BitVec 32 := Scalar.addi v606 c16_i32_639
  v842
def k0_mult26 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_642 : BitVec 32 := 8#32
  let v850 : BitVec 32 := Scalar.addi v606 c8_i32_642
  v850
def k0_mult27 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_654 : BitVec 32 := 16#32
  let v865 : BitVec 32 := Scalar.addi v606 c16_i32_654
  v865
def k0_mult28 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_657 : BitVec 32 := 8#32
  let v873 : BitVec 32 := Scalar.addi v606 c8_i32_657
  v873
def k0_mult29 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_669 : BitVec 32 := 16#32
  let v888 : BitVec 32 := Scalar.addi v606 c16_i32_669
  v888
def k0_mult30 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_672 : BitVec 32 := 8#32
  let v896 : BitVec 32 := Scalar.addi v606 c8_i32_672
  v896
def k0_mult31 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_684 : BitVec 32 := 16#32
  let v911 : BitVec 32 := Scalar.addi v606 c16_i32_684
  v911
def k0_mult32 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_687 : BitVec 32 := 8#32
  let v919 : BitVec 32 := Scalar.addi v606 c8_i32_687
  v919
def k0_mult33 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_699 : BitVec 32 := 16#32
  let v934 : BitVec 32 := Scalar.addi v606 c16_i32_699
  v934
def k0_mult34 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_702 : BitVec 32 := 16#32
  let v942 : BitVec 32 := Scalar.addi v606 c16_i32_702
  v942
def k0_mult35 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_714 : BitVec 32 := 8#32
  let v957 : BitVec 32 := Scalar.addi v606 c8_i32_714
  v957
def k0_mult36 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_717 : BitVec 32 := 16#32
  let v965 : BitVec 32 := Scalar.addi v606 c16_i32_717
  v965
def k0_mult37 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_729 : BitVec 32 := 8#32
  let v980 : BitVec 32 := Scalar.addi v606 c8_i32_729
  v980
def k0_mult38 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_732 : BitVec 32 := 16#32
  let v988 : BitVec 32 := Scalar.addi v606 c16_i32_732
  v988
def k0_mult39 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_744 : BitVec 32 := 8#32
  let v1003 : BitVec 32 := Scalar.addi v606 c8_i32_744
  v1003
def k0_mult40 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_747 : BitVec 32 := 16#32
  let v1011 : BitVec 32 := Scalar.addi v606 c16_i32_747
  v1011
def k0_mult41 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_759 : BitVec 32 := 8#32
  let v1026 : BitVec 32 := Scalar.addi v606 c8_i32_759
  v1026
def k0_mult42 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_762 : BitVec 32 := 16#32
  let v1034 : BitVec 32 := Scalar.addi v606 c16_i32_762
  v1034
def k0_mult43 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_774 : BitVec 32 := 8#32
  let v1049 : BitVec 32 := Scalar.addi v606 c8_i32_774
  v1049
def k0_mult44 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_777 : BitVec 32 := 16#32
  let v1057 : BitVec 32 := Scalar.addi v606 c16_i32_777
  v1057
def k0_mult45 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_789 : BitVec 32 := 8#32
  let v1072 : BitVec 32 := Scalar.addi v606 c8_i32_789
  v1072
def k0_mult46 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_792 : BitVec 32 := 16#32
  let v1080 : BitVec 32 := Scalar.addi v606 c16_i32_792
  v1080
def k0_mult47 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_804 : BitVec 32 := 8#32
  let v1095 : BitVec 32 := Scalar.addi v606 c8_i32_804
  v1095
def k0_mult48 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c16_i32_807 : BitVec 32 := 16#32
  let v1103 : BitVec 32 := Scalar.addi v606 c16_i32_807
  v1103
def k0_mult49 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c8_i32_819 : BitVec 32 := 8#32
  let v1118 : BitVec 32 := Scalar.addi v606 c8_i32_819
  v1118
def k0_mult50 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_822 : BitVec 32 := 24#32
  let v1126 : BitVec 32 := Scalar.addi v606 c24_i32_822
  v1126
def k0_mult51 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_834 : BitVec 32 := 0#32
  let v1141 : BitVec 32 := Scalar.addi v606 c0_i32_834
  v1141
def k0_mult52 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_837 : BitVec 32 := 24#32
  let v1149 : BitVec 32 := Scalar.addi v606 c24_i32_837
  v1149
def k0_mult53 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_849 : BitVec 32 := 0#32
  let v1164 : BitVec 32 := Scalar.addi v606 c0_i32_849
  v1164
def k0_mult54 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_852 : BitVec 32 := 24#32
  let v1172 : BitVec 32 := Scalar.addi v606 c24_i32_852
  v1172
def k0_mult55 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_864 : BitVec 32 := 0#32
  let v1187 : BitVec 32 := Scalar.addi v606 c0_i32_864
  v1187
def k0_mult56 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_867 : BitVec 32 := 24#32
  let v1195 : BitVec 32 := Scalar.addi v606 c24_i32_867
  v1195
def k0_mult57 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_879 : BitVec 32 := 0#32
  let v1210 : BitVec 32 := Scalar.addi v606 c0_i32_879
  v1210
def k0_mult58 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_882 : BitVec 32 := 24#32
  let v1218 : BitVec 32 := Scalar.addi v606 c24_i32_882
  v1218
def k0_mult59 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_894 : BitVec 32 := 0#32
  let v1233 : BitVec 32 := Scalar.addi v606 c0_i32_894
  v1233
def k0_mult60 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_897 : BitVec 32 := 24#32
  let v1241 : BitVec 32 := Scalar.addi v606 c24_i32_897
  v1241
def k0_mult61 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_909 : BitVec 32 := 0#32
  let v1256 : BitVec 32 := Scalar.addi v606 c0_i32_909
  v1256
def k0_mult62 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_912 : BitVec 32 := 24#32
  let v1264 : BitVec 32 := Scalar.addi v606 c24_i32_912
  v1264
def k0_mult63 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_924 : BitVec 32 := 0#32
  let v1279 : BitVec 32 := Scalar.addi v606 c0_i32_924
  v1279
def k0_mult64 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c24_i32_927 : BitVec 32 := 24#32
  let v1287 : BitVec 32 := Scalar.addi v606 c24_i32_927
  v1287
def k0_mult65 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c0_i32_939 : BitVec 32 := 0#32
  let v1302 : BitVec 32 := Scalar.addi v606 c0_i32_939
  v1302
def k0_mult66 (k0_t4 : Fin k0_t4_loop.trips) : BitVec 32 :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let c32_i32_942 : BitVec 32 := 32#32
  let v1310 : BitVec 32 := Scalar.addi v606 c32_i32_942
  v1310
def k0_off36 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1324 : Index := Scalar.indexCast v606
  let c0_952 : Index := 0#32
  ![v1324.toNat, 0]
def k0_off37 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1331 : Index := Scalar.indexCast v606
  let c0_954 : Index := 0#32
  ![v1331.toNat, 0]
def k0_off38 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1339 : Index := Scalar.indexCast v606
  let c512 : Index := 512#32
  ![v1339.toNat, 512]
def k0_off39 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1341 : Index := Scalar.indexCast v606
  let c0_956 : Index := 0#32
  ![v1341.toNat, 0]
def k0_off40 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1369 : Index := Scalar.indexCast v606
  let c0_963 : Index := 0#32
  ![v1369.toNat, 0]
def k0_off41 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1377 : Index := Scalar.indexCast v606
  let c1024 : Index := 1024#32
  ![v1377.toNat, 1024]
def k0_off42 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1411 : Index := Scalar.indexCast v606
  let c128_970 : Index := 128#32
  ![v1411.toNat, 128]
def k0_off43 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1419 : Index := Scalar.indexCast v606
  let c1152 : Index := 1152#32
  ![v1419.toNat, 1152]
def k0_off44 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1469 : Index := Scalar.indexCast v606
  let c256_977 : Index := 256#32
  ![v1469.toNat, 256]
def k0_off45 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1477 : Index := Scalar.indexCast v606
  let c1280 : Index := 1280#32
  ![v1477.toNat, 1280]
def k0_off46 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1559 : Index := Scalar.indexCast v606
  let c384_984 : Index := 384#32
  ![v1559.toNat, 384]
def k0_off47 (k0_t4 : Fin k0_t4_loop.trips) : Fin 2 → Nat :=
  let c0_i32_108 : BitVec 32 := 0#32
  let c1_i32_110 : BitVec 32 := 1#32
  let arg33 : BitVec 32 := Scf.iv c0_i32_108 c1_i32_110 k0_t4
  let c32_i32 : BitVec 32 := 32#32
  let v605 : BitVec 32 := Scalar.muli arg33 c32_i32
  let v606 : BitVec 32 := v605
  let v1567 : Index := Scalar.indexCast v606
  let c1408 : Index := 1408#32
  ![v1567.toNat, 1408]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c13_i32 : BitVec 32 := 13#32
  let v1 : BitVec 32 := Scalar.muli v0 c13_i32
  let c129_i32 : BitVec 32 := 129#32
  let v2 : BitVec 32 := Scalar.minsi v1 c129_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c13_i32 : BitVec 32 := 13#32
  let v1 : BitVec 32 := Scalar.muli v0 c13_i32
  let c129_i32 : BitVec 32 := 129#32
  let v2 : BitVec 32 := Scalar.minsi v1 c129_i32
  let c1_i32_0 : BitVec 32 := 1#32
  let c0_i32 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c13_i32 : BitVec 32 := 13#32
  let v1 : BitVec 32 := Scalar.muli v0 c13_i32
  let c129_i32 : BitVec 32 := 129#32
  let v2 : BitVec 32 := Scalar.minsi v1 c129_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c13_i32 : BitVec 32 := 13#32
  let v0 : BitVec 32 := Scalar.muli arg0 c13_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c13_i32 : BitVec 32 := 13#32
  let v0 : BitVec 32 := Scalar.muli arg0 c13_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_11 (i : grid0.Coords) : Fin 2 → Nat :=
  let arg0 : BitVec 32 := BitVec.ofNat 32 (i 0).val
  let c13_i32 : BitVec 32 := 13#32
  let v0 : BitVec 32 := Scalar.muli arg0 c13_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S416x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S416x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S416x1536 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S32x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== PoolRefIdeal.lean ====
abbrev S4160x1024 : Shape := ⟨2, ![4160, 1024]⟩
abbrev S4160x512 : Shape := ⟨2, ![4160, 512]⟩
abbrev S4160x1536 : Shape := ⟨2, ![4160, 1536]⟩
abbrev S32x512 : Shape := ⟨2, ![32, 512]⟩
abbrev S1x512 : Shape := ⟨2, ![1, 512]⟩
abbrev S4x128x128 : Shape := ⟨3, ![4, 128, 128]⟩
abbrev S4112x512 : Shape := ⟨2, ![4112, 512]⟩
abbrev S4112x128 : Shape := ⟨2, ![4112, 128]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S_ : Shape := ⟨0, ![]⟩
abbrev S1x128x128 : Shape := ⟨3, ![1, 128, 128]⟩
abbrev S128x128 : Shape := ⟨2, ![128, 128]⟩
abbrev S128x4112 : Shape := ⟨2, ![128, 4112]⟩
abbrev S48x512 : Shape := ⟨2, ![48, 512]⟩
abbrev S8x512 : Shape := ⟨2, ![8, 512]⟩

abbrev nBuf : Space → Nat
  | .hbm => 202
  | .vmem => 0
  | .smem => 0
  | _ => 0

abbrev hbmTy0_0 (i : Nat) : BufTy := match i % 128 with
  | 0 => ⟨S4160x1024, .f32⟩
  | 1 => ⟨S4160x512, .f32⟩
  | 2 => ⟨S4160x1536, .f32⟩
  | 3 => ⟨S32x512, .f32⟩
  | 4 => ⟨S1x512, .f32⟩
  | 5 => ⟨S1x512, .f32⟩
  | 6 => ⟨S4x128x128, .f32⟩
  | 7 => ⟨S1x512, .f32⟩
  | 8 => ⟨S1x512, .f32⟩
  | 9 => ⟨S4112x512, .f32⟩
  | 10 => ⟨S4112x128, .f32⟩
  | 11 => ⟨S4112x128, .f32⟩
  | 12 => ⟨S4112x128, .f32⟩
  | 13 => ⟨S4112x128, .f32⟩
  | 14 => ⟨S4112, .i32⟩
  | 15 => ⟨S1x4112, .i32⟩
  | 16 => ⟨S4112x1, .i32⟩
  | 17 => ⟨S4112x4112, .i32⟩
  | 18 => ⟨S4112x4112, .i32⟩
  | 19 => ⟨S4112x4112, .i1⟩
  | 20 => ⟨S1x4112, .i32⟩
  | 21 => ⟨S4112x1, .i32⟩
  | 22 => ⟨S_, .i32⟩
  | 23 => ⟨S4112x1, .i32⟩
  | 24 => ⟨S4112x1, .i32⟩
  | 25 => ⟨S4112x4112, .i32⟩
  | 26 => ⟨S4112x4112, .i32⟩
  | 27 => ⟨S4112x4112, .i1⟩
  | 28 => ⟨S4112x4112, .i1⟩
  | 29 => ⟨S4112, .f32⟩
  | 30 => ⟨S_, .f32⟩
  | 31 => ⟨S4112, .f32⟩
  | 32 => ⟨S4112, .f32⟩
  | 33 => ⟨S_, .f32⟩
  | 34 => ⟨S4112, .f32⟩
  | 35 => ⟨S4112, .f32⟩
  | 36 => ⟨S4112x4112, .f32⟩
  | 37 => ⟨S4112x128, .f32⟩
  | 38 => ⟨S4112x1, .f32⟩
  | 39 => ⟨S4112x128, .f32⟩
  | 40 => ⟨S4112x128, .f32⟩
  | 41 => ⟨S4112x128, .f32⟩
  | 42 => ⟨S1x128x128, .f32⟩
  | 43 => ⟨S128x128, .f32⟩
  | 44 => ⟨S4112x128, .f32⟩
  | 45 => ⟨S4112, .i32⟩
  | 46 => ⟨S1x4112, .i32⟩
  | 47 => ⟨S4112x1, .i32⟩
  | 48 => ⟨S4112x4112, .i32⟩
  | 49 => ⟨S4112x4112, .i32⟩
  | 50 => ⟨S4112x4112, .i1⟩
  | 51 => ⟨S1x4112, .i32⟩
  | 52 => ⟨S4112x1, .i32⟩
  | 53 => ⟨S_, .i32⟩
  | 54 => ⟨S4112x1, .i32⟩
  | 55 => ⟨S4112x1, .i32⟩
  | 56 => ⟨S4112x4112, .i32⟩
  | 57 => ⟨S4112x4112, .i32⟩
  | 58 => ⟨S4112x4112, .i1⟩
  | 59 => ⟨S4112x4112, .i1⟩
  | 60 => ⟨S4112, .f32⟩
  | 61 => ⟨S_, .f32⟩
  | 62 => ⟨S4112, .f32⟩
  | 63 => ⟨S4112, .f32⟩
  | 64 => ⟨S_, .f32⟩
  | 65 => ⟨S4112, .f32⟩
  | 66 => ⟨S4112, .f32⟩
  | 67 => ⟨S4112x4112, .f32⟩
  | 68 => ⟨S4112x128, .f32⟩
  | 69 => ⟨S4112x1, .f32⟩
  | 70 => ⟨S4112x128, .f32⟩
  | 71 => ⟨S4112x128, .f32⟩
  | 72 => ⟨S4112x128, .f32⟩
  | 73 => ⟨S1x128x128, .f32⟩
  | 74 => ⟨S128x128, .f32⟩
  | 75 => ⟨S4112x128, .f32⟩
  | 76 => ⟨S4112, .i32⟩
  | 77 => ⟨S1x4112, .i32⟩
  | 78 => ⟨S4112x1, .i32⟩
  | 79 => ⟨S4112x4112, .i32⟩
  | 80 => ⟨S4112x4112, .i32⟩
  | 81 => ⟨S4112x4112, .i1⟩
  | 82 => ⟨S1x4112, .i32⟩
  | 83 => ⟨S4112x1, .i32⟩
  | 84 => ⟨S_, .i32⟩
  | 85 => ⟨S4112x1, .i32⟩
  | 86 => ⟨S4112x1, .i32⟩
  | 87 => ⟨S4112x4112, .i32⟩
  | 88 => ⟨S4112x4112, .i32⟩
  | 89 => ⟨S4112x4112, .i1⟩
  | 90 => ⟨S4112x4112, .i1⟩
  | 91 => ⟨S4112, .f32⟩
  | 92 => ⟨S_, .f32⟩
  | 93 => ⟨S4112, .f32⟩
  | 94 => ⟨S4112, .f32⟩
  | 95 => ⟨S_, .f32⟩
  | 96 => ⟨S4112, .f32⟩
  | 97 => ⟨S4112, .f32⟩
  | 98 => ⟨S4112x4112, .f32⟩
  | 99 => ⟨S4112x128, .f32⟩
  | 100 => ⟨S4112x1, .f32⟩
  | 101 => ⟨S4112x128, .f32⟩
  | 102 => ⟨S4112x128, .f32⟩
  | 103 => ⟨S4112x128, .f32⟩
  | 104 => ⟨S1x128x128, .f32⟩
  | 105 => ⟨S128x128, .f32⟩
  | 106 => ⟨S4112x128, .f32⟩
  | 107 => ⟨S4112, .i32⟩
  | 108 => ⟨S1x4112, .i32⟩
  | 109 => ⟨S4112x1, .i32⟩
  | 110 => ⟨S4112x4112, .i32⟩
  | 111 => ⟨S4112x4112, .i32⟩
  | 112 => ⟨S4112x4112, .i1⟩
  | 113 => ⟨S1x4112, .i32⟩
  | 114 => ⟨S4112x1, .i32⟩
  | 115 => ⟨S_, .i32⟩
  | 116 => ⟨S4112x1, .i32⟩
  | 117 => ⟨S4112x1, .i32⟩
  | 118 => ⟨S4112x4112, .i32⟩
  | 119 => ⟨S4112x4112, .i32⟩
  | 120 => ⟨S4112x4112, .i1⟩
  | 121 => ⟨S4112x4112, .i1⟩
  | 122 => ⟨S4112, .f32⟩
  | 123 => ⟨S_, .f32⟩
  | 124 => ⟨S4112, .f32⟩
  | 125 => ⟨S4112, .f32⟩
  | 126 => ⟨S_, .f32⟩
  | 127 => ⟨S4112, .f32⟩
  | _ => ⟨S4160x1024, .f32⟩

abbrev hbmTy0_1 (i : Nat) : BufTy := match i % 128 with
  | 0 => ⟨S4112, .f32⟩
  | 1 => ⟨S4112x4112, .f32⟩
  | 2 => ⟨S4112x128, .f32⟩
  | 3 => ⟨S4112x1, .f32⟩
  | 4 => ⟨S4112x128, .f32⟩
  | 5 => ⟨S4112x128, .f32⟩
  | 6 => ⟨S4112x128, .f32⟩
  | 7 => ⟨S1x128x128, .f32⟩
  | 8 => ⟨S128x128, .f32⟩
  | 9 => ⟨S4112x128, .f32⟩
  | 10 => ⟨S4112x512, .f32⟩
  | 11 => ⟨S4112x512, .f32⟩
  | 12 => ⟨S4112x512, .f32⟩
  | 13 => ⟨S4112x512, .f32⟩
  | 14 => ⟨S4112x512, .f32⟩
  | 15 => ⟨S4112x512, .f32⟩
  | 16 => ⟨S4112x512, .f32⟩
  | 17 => ⟨S4112x512, .f32⟩
  | 18 => ⟨S4112x128, .f32⟩
  | 19 => ⟨S4112x128, .f32⟩
  | 20 => ⟨S4112x128, .f32⟩
  | 21 => ⟨S4112x128, .f32⟩
  | 22 => ⟨S4112x128, .f32⟩
  | 23 => ⟨S4112x128, .f32⟩
  | 24 => ⟨S4112x128, .f32⟩
  | 25 => ⟨S4112x128, .f32⟩
  | 26 => ⟨S128x4112, .f32⟩
  | 27 => ⟨S4112x128, .f32⟩
  | 28 => ⟨S4112x128, .f32⟩
  | 29 => ⟨S4112x128, .f32⟩
  | 30 => ⟨S4112x128, .f32⟩
  | 31 => ⟨S4112x128, .f32⟩
  | 32 => ⟨S4112x128, .f32⟩
  | 33 => ⟨S128x4112, .f32⟩
  | 34 => ⟨S4112x128, .f32⟩
  | 35 => ⟨S4112x128, .f32⟩
  | 36 => ⟨S4112x128, .f32⟩
  | 37 => ⟨S4112x128, .f32⟩
  | 38 => ⟨S4112x128, .f32⟩
  | 39 => ⟨S4112x128, .f32⟩
  | 40 => ⟨S128x4112, .f32⟩
  | 41 => ⟨S4112x128, .f32⟩
  | 42 => ⟨S4112x128, .f32⟩
  | 43 => ⟨S4112x128, .f32⟩
  | 44 => ⟨S4112x128, .f32⟩
  | 45 => ⟨S4112x128, .f32⟩
  | 46 => ⟨S4112x128, .f32⟩
  | 47 => ⟨S128x4112, .f32⟩
  | 48 => ⟨S4112x128, .f32⟩
  | 49 => ⟨S4112x128, .f32⟩
  | 50 => ⟨S_, .f32⟩
  | 51 => ⟨S4112x512, .f32⟩
  | 52 => ⟨S_, .f32⟩
  | 53 => ⟨S4112x512, .f32⟩
  | 54 => ⟨S4112x512, .f32⟩
  | 55 => ⟨S_, .f32⟩
  | 56 => ⟨S4112x512, .f32⟩
  | 57 => ⟨S4112x512, .f32⟩
  | 58 => ⟨S_, .f32⟩
  | 59 => ⟨S4112x512, .f32⟩
  | 60 => ⟨S4112x512, .f32⟩
  | 61 => ⟨S_, .f32⟩
  | 62 => ⟨S4160x1024, .f32⟩
  | 63 => ⟨S_, .f32⟩
  | 64 => ⟨S48x512, .f32⟩
  | 65 => ⟨S4160x512, .f32⟩
  | 66 => ⟨S4160x1536, .f32⟩
  | 67 => ⟨S4160x1536, .bf16⟩
  | 68 => ⟨S_, .f32⟩
  | 69 => ⟨S32x512, .f32⟩
  | 70 => ⟨S_, .f32⟩
  | 71 => ⟨S8x512, .f32⟩
  | 72 => ⟨S_, .f32⟩
  | 73 => ⟨S4x128x128, .f32⟩
  | _ => ⟨S4160x1024, .f32⟩

abbrev hbmTy (i : Nat) : BufTy := match i / 128 with
  | 0 => hbmTy0_0 i
  | 1 => hbmTy0_1 i
  | _ => ⟨S4160x1024, .f32⟩

abbrev bufTy : (tb : Table) → Fin (tcTables nBuf tb) → BufTy
  | .hbm, ⟨i, _⟩ => hbmTy i
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_1 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_cst_3 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_4 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_5 : Ref sig .tc := ⟨.hbm, 92, rfl⟩
abbrev main_v76 : Ref sig .tc := ⟨.hbm, 93, rfl⟩
abbrev main_v77 : Ref sig .tc := ⟨.hbm, 94, rfl⟩
abbrev main_cst_6 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_c_7 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_8 : Ref sig .tc := ⟨.hbm, 123, rfl⟩
abbrev main_v104 : Ref sig .tc := ⟨.hbm, 124, rfl⟩
abbrev main_v105 : Ref sig .tc := ⟨.hbm, 125, rfl⟩
abbrev main_cst_9 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_cst_10 : Ref sig .tc := ⟨.hbm, 178, rfl⟩
abbrev main_v157 : Ref sig .tc := ⟨.hbm, 179, rfl⟩
abbrev main_cst_11 : Ref sig .tc := ⟨.hbm, 180, rfl⟩
abbrev main_v158 : Ref sig .tc := ⟨.hbm, 181, rfl⟩
abbrev main_v159 : Ref sig .tc := ⟨.hbm, 182, rfl⟩
abbrev main_cst_12 : Ref sig .tc := ⟨.hbm, 183, rfl⟩
abbrev main_v160 : Ref sig .tc := ⟨.hbm, 184, rfl⟩
abbrev main_v161 : Ref sig .tc := ⟨.hbm, 185, rfl⟩
abbrev main_cst_13 : Ref sig .tc := ⟨.hbm, 186, rfl⟩
abbrev main_v162 : Ref sig .tc := ⟨.hbm, 187, rfl⟩
abbrev main_v163 : Ref sig .tc := ⟨.hbm, 188, rfl⟩
abbrev main_cst_14 : Ref sig .tc := ⟨.hbm, 189, rfl⟩
abbrev main_v164 : Ref sig .tc := ⟨.hbm, 190, rfl⟩
abbrev main_cst_15 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_cst_16 : Ref sig .tc := ⟨.hbm, 196, rfl⟩
abbrev main_v169 : Ref sig .tc := ⟨.hbm, 197, rfl⟩
abbrev main_cst_17 : Ref sig .tc := ⟨.hbm, 198, rfl⟩
abbrev main_v170 : Ref sig .tc := ⟨.hbm, 199, rfl⟩
abbrev main_cst_18 : Ref sig .tc := ⟨.hbm, 200, rfl⟩
abbrev main_v171 : Ref sig .tc := ⟨.hbm, 201, rfl⟩

abbrev nD : Nat := 1
abbrev τ : Topo := Topo.v7x

variable {F : FTy → Type} [FloatOps F]
-- ==== DAct.lean ====
abbrev S4160x1024 : Shape := ⟨2, ![4160, 1024]⟩
abbrev S4096x1024 : Shape := ⟨2, ![4096, 1024]⟩
abbrev S4160x4096 : Shape := ⟨2, ![4160, 4096]⟩
abbrev S_ : Shape := ⟨0, ![]⟩
abbrev S2080x1024 : Shape := ⟨2, ![2080, 1024]⟩
abbrev S512x1024 : Shape := ⟨2, ![512, 1024]⟩
abbrev S2080x512 : Shape := ⟨2, ![2080, 512]⟩

abbrev nBuf : Space → Nat
  | .hbm => 10
  | .vmem => 8
  | .smem => 0
  | _ => 0

abbrev bufTy : (tb : Table) → Fin (tcTables nBuf tb) → BufTy
  | .hbm, ⟨0, _⟩ => ⟨S4160x1024, .f32⟩
  | .hbm, ⟨1, _⟩ => ⟨S4096x1024, .f32⟩
  | .hbm, ⟨2, _⟩ => ⟨S4160x4096, .f32⟩
  | .hbm, ⟨3, _⟩ => ⟨S_, .f32⟩
  | .hbm, ⟨4, _⟩ => ⟨S4160x4096, .f32⟩
  | .hbm, ⟨5, _⟩ => ⟨S4160x4096, .f32⟩
  | .hbm, ⟨6, _⟩ => ⟨S4160x4096, .bf16⟩
  | .hbm, ⟨7, _⟩ => ⟨S4160x1024, .bf16⟩
  | .hbm, ⟨8, _⟩ => ⟨S4096x1024, .bf16⟩
  | .hbm, ⟨9, _⟩ => ⟨S4160x4096, .bf16⟩
  | .local _ .vmem, ⟨0, _⟩ => ⟨S2080x1024, .bf16⟩
  | .local _ .vmem, ⟨1, _⟩ => ⟨S2080x1024, .bf16⟩
  | .local _ .vmem, ⟨2, _⟩ => ⟨S512x1024, .bf16⟩
  | .local _ .vmem, ⟨3, _⟩ => ⟨S512x1024, .bf16⟩
  | .local _ .vmem, ⟨4, _⟩ => ⟨S2080x512, .bf16⟩
  | .local _ .vmem, ⟨5, _⟩ => ⟨S2080x512, .bf16⟩
  | .local _ .vmem, ⟨6, _⟩ => ⟨S2080x512, .bf16⟩
  | .local _ .vmem, ⟨7, _⟩ => ⟨S2080x512, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2080x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S4160x1024 : Shape := ⟨2, ![4160, 1024]⟩
abbrev S4096x1024 : Shape := ⟨2, ![4096, 1024]⟩
abbrev S4160x4096 : Shape := ⟨2, ![4160, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4096x1024, .f32⟩
  | .hbm, ⟨2, _⟩ => ⟨S4160x4096, .f32⟩
  | .hbm, ⟨3, _⟩ => ⟨S_, .f32⟩
  | .hbm, ⟨4, _⟩ => ⟨S4160x4096, .f32⟩
  | .hbm, ⟨5, _⟩ => ⟨S4160x4096, .f32⟩
  | .hbm, ⟨6, _⟩ => ⟨S_, .f32⟩
  | .hbm, ⟨7, _⟩ => ⟨S4160x4096, .f32⟩
  | .hbm, ⟨8, _⟩ => ⟨S4160x4096, .i1⟩
  | .hbm, ⟨9, _⟩ => ⟨S_, .f32⟩
  | .hbm, ⟨10, _⟩ => ⟨S4160x4096, .f32⟩
  | .hbm, ⟨11, _⟩ => ⟨S4160x4096, .f32⟩
  | .hbm, ⟨12, _⟩ => ⟨S_, .f32⟩
  | .hbm, ⟨13, _⟩ => ⟨S4160x4096, .f32⟩
  | .hbm, ⟨14, _⟩ => ⟨S4160x4096, .f32⟩
  | .hbm, ⟨15, _⟩ => ⟨S4160x1024, .f32⟩
  | .hbm, ⟨16, _⟩ => ⟨S4160x4096, .f32⟩
  | .hbm, ⟨17, _⟩ => ⟨S4160x4096, .f32⟩
  | .hbm, ⟨18, _⟩ => ⟨S_, .f32⟩
  | .hbm, ⟨19, _⟩ => ⟨S4160x4096, .f32⟩
  | .hbm, ⟨20, _⟩ => ⟨S4160x4096, .f32⟩
  | .hbm, ⟨21, _⟩ => ⟨S4160x4096, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DW2.lean ====
abbrev S4160x4096 : Shape := ⟨2, ![4160, 4096]⟩
abbrev S4160x1024 : Shape := ⟨2, ![4160, 1024]⟩
abbrev S_ : Shape := ⟨0, ![]⟩
abbrev S4096x1024 : Shape := ⟨2, ![4096, 1024]⟩
abbrev S4160x512 : Shape := ⟨2, ![4160, 512]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4160x4096, .f32⟩
  | .hbm, ⟨1, _⟩ => ⟨S4160x1024, .f32⟩
  | .hbm, ⟨2, _⟩ => ⟨S_, .f32⟩
  | .hbm, ⟨3, _⟩ => ⟨S4160x4096, .f32⟩
  | .hbm, ⟨4, _⟩ => ⟨S4160x4096, .f32⟩
  | .hbm, ⟨5, _⟩ => ⟨S4160x4096, .f32⟩
  | .hbm, ⟨6, _⟩ => ⟨S4160x4096, .bf16⟩
  | .hbm, ⟨7, _⟩ => ⟨S4160x1024, .bf16⟩
  | .hbm, ⟨8, _⟩ => ⟨S4096x1024, .bf16⟩
  | .local _ .vmem, ⟨0, _⟩ => ⟨S4160x512, .bf16⟩
  | .local _ .vmem, ⟨1, _⟩ => ⟨S4160x512, .bf16⟩
  | .local _ .vmem, ⟨2, _⟩ => ⟨S4160x1024, .bf16⟩
  | .local _ .vmem, ⟨3, _⟩ => ⟨S512x1024, .bf16⟩
  | .local _ .vmem, ⟨4, _⟩ => ⟨S512x1024, .bf16⟩
  | _, _ => ⟨S4160x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4160x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DW2RefIdeal.lean ====
abbrev S4160x4096 : Shape := ⟨2, ![4160, 4096]⟩
abbrev S4160x1024 : Shape := ⟨2, ![4160, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4160x4096, .f32⟩
  | .hbm, ⟨1, _⟩ => ⟨S4160x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4160x4096, .f32⟩
  | .hbm, ⟨6, _⟩ => ⟨S4160x4096, .f32⟩
  | .hbm, ⟨7, _⟩ => ⟨S4160x4096, .f32⟩
  | .hbm, ⟨8, _⟩ => ⟨S4160x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4160x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DW1.lean ====
abbrev S4160x1024 : Shape := ⟨2, ![4160, 1024]⟩
abbrev S1024 : Shape := ⟨1, ![1024]⟩
abbrev S4160x4096 : Shape := ⟨2, ![4160, 4096]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S8x1024x512 : Shape := ⟨3, ![8, 1024, 512]⟩
abbrev S4160x512 : Shape := ⟨2, ![4160, 512]⟩
abbrev S1x1024x512 : Shape := ⟨3, ![1, 1024, 512]⟩
abbrev S1024x512 : Shape := ⟨2, ![1024, 512]⟩

abbrev nBuf : Space → Nat
  | .hbm => 22
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S4160x4096, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S1x1024, .f32⟩
  | .hbm, ⟨17, _⟩ => ⟨S4160x1024, .f32⟩
  | .hbm, ⟨18, _⟩ => ⟨S4160x1024, .f32⟩
  | .hbm, ⟨19, _⟩ => ⟨S4160x1024, .bf16⟩
  | .hbm, ⟨20, _⟩ => ⟨S4160x4096, .bf16⟩
  | .hbm, ⟨21, _⟩ => ⟨S8x1024x512, .bf16⟩
  | .local _ .vmem, ⟨0, _⟩ => ⟨S4160x1024, .bf16⟩
  | .local _ .vmem, ⟨1, _⟩ => ⟨S4160x512, .bf16⟩
  | .local _ .vmem, ⟨2, _⟩ => ⟨S4160x512, .bf16⟩
  | .local _ .vmem, ⟨3, _⟩ => ⟨S1x1024x512, .bf16⟩
  | .local _ .vmem, ⟨4, _⟩ => ⟨S1x1024x512, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4160x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DW1RefIdeal.lean ====
abbrev S4160x1024 : Shape := ⟨2, ![4160, 1024]⟩
abbrev S1024 : Shape := ⟨1, ![1024]⟩
abbrev S4160x4096 : Shape := ⟨2, ![4160, 4096]⟩
abbrev S_ : Shape := ⟨0, ![]⟩
abbrev S1024x4096 : Shape := ⟨2, ![1024, 4096]⟩
abbrev S4160 : Shape := ⟨1, ![4160]⟩
abbrev S4160x1 : Shape := ⟨2, ![4160, 1]⟩
abbrev S1x1024 : Shape := ⟨2, ![1, 1024]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 27
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S4160x4096, .f32⟩
  | .hbm, ⟨3, _⟩ => ⟨S_, .f32⟩
  | .hbm, ⟨4, _⟩ => ⟨S1024x4096, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S1x1024, .f32⟩
  | .hbm, ⟨19, _⟩ => ⟨S4160x1024, .f32⟩
  | .hbm, ⟨20, _⟩ => ⟨S4160x1024, .f32⟩
  | .hbm, ⟨21, _⟩ => ⟨S4160x4096, .f32⟩
  | .hbm, ⟨22, _⟩ => ⟨S4096x1024, .f32⟩
  | .hbm, ⟨23, _⟩ => ⟨S1024x4096, .f32⟩
  | .hbm, ⟨24, _⟩ => ⟨S1024x8x512, .f32⟩
  | .hbm, ⟨25, _⟩ => ⟨S8x1024x512, .f32⟩
  | .hbm, ⟨26, _⟩ => ⟨S8x1024x512, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Down.lean ====
abbrev S4112x4096 : Shape := ⟨2, ![4112, 4096]⟩
abbrev S4096x1024 : Shape := ⟨2, ![4096, 1024]⟩
abbrev S4112x1024 : Shape := ⟨2, ![4112, 1024]⟩
abbrev S_ : Shape := ⟨0, ![]⟩
abbrev S48x4096 : Shape := ⟨2, ![48, 4096]⟩
abbrev S4160x4096 : Shape := ⟨2, ![4160, 4096]⟩
abbrev S48x1024 : Shape := ⟨2, ![48, 1024]⟩
abbrev S4160x1024 : Shape := ⟨2, ![4160, 1024]⟩
abbrev S416x4096 : Shape := ⟨2, ![416, 4096]⟩
abbrev S416x1024 : Shape := ⟨2, ![416, 1024]⟩
abbrev S416x1 : Shape := ⟨2, ![416, 1]⟩

abbrev nBuf : Space → Nat
  | .hbm => 16
  | .vmem => 7
  | .smem => 0
  | _ => 0

abbrev bufTy : (tb : Table) → Fin (tcTables nBuf tb) → BufTy
  | .hbm, ⟨0, _⟩ => ⟨S4112x4096, .f32⟩
  | .hbm, ⟨1, _⟩ => ⟨S4096x1024, .f32⟩
  | .hbm, ⟨2, _⟩ => ⟨S4112x1024, .f32⟩
  | .hbm, ⟨3, _⟩ => ⟨S_, .f32⟩
  | .hbm, ⟨4, _⟩ => ⟨S4112x4096, .f32⟩
  | .hbm, ⟨5, _⟩ => ⟨S4112x4096, .f32⟩
  | .hbm, ⟨6, _⟩ => ⟨S4112x4096, .f32⟩
  | .hbm, ⟨7, _⟩ => ⟨S_, .f32⟩
  | .hbm, ⟨8, _⟩ => ⟨S48x4096, .f32⟩
  | .hbm, ⟨9, _⟩ => ⟨S4160x4096, .f32⟩
  | .hbm, ⟨10, _⟩ => ⟨S4160x4096, .bf16⟩
  | .hbm, ⟨11, _⟩ => ⟨S4096x1024, .bf16⟩
  | .hbm, ⟨12, _⟩ => ⟨S_, .f32⟩
  | .hbm, ⟨13, _⟩ => ⟨S48x1024, .f32⟩
  | .hbm, ⟨14, _⟩ => ⟨S4160x1024, .f32⟩
  | .hbm, ⟨15, _⟩ => ⟨S4160x1024, .f32⟩
  | .local _ .vmem, ⟨0, _⟩ => ⟨S416x4096, .bf16⟩
  | .local _ .vmem, ⟨1, _⟩ => ⟨S416x4096, .bf16⟩
  | .local _ .vmem, ⟨2, _⟩ => ⟨S4096x1024, .bf16⟩
  | .local _ .vmem, ⟨3, _⟩ => ⟨S416x1024, .f32⟩
  | .local _ .vmem, ⟨4, _⟩ => ⟨S416x1024, .f32⟩
  | .local _ .vmem, ⟨5, _⟩ => ⟨S416x1024, .f32⟩
  | .local _ .vmem, ⟨6, _⟩ => ⟨S416x1024, .f32⟩
  | _, _ => ⟨S4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![10, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S416x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4112x4096 : Shape := ⟨2, ![4112, 4096]⟩
abbrev S4096x1024 : Shape := ⟨2, ![4096, 1024]⟩
abbrev S4112x1024 : Shape := ⟨2, ![4112, 1024]⟩
abbrev S_ : Shape := ⟨0, ![]⟩
abbrev S48x1024 : Shape := ⟨2, ![48, 1024]⟩
abbrev S4160x1024 : Shape := ⟨2, ![4160, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4112x4096, .f32⟩
  | .hbm, ⟨1, _⟩ => ⟨S4096x1024, .f32⟩
  | .hbm, ⟨2, _⟩ => ⟨S4112x1024, .f32⟩
  | .hbm, ⟨3, _⟩ => ⟨S_, .f32⟩
  | .hbm, ⟨4, _⟩ => ⟨S4112x4096, .f32⟩
  | .hbm, ⟨5, _⟩ => ⟨S4112x4096, .f32⟩
  | .hbm, ⟨6, _⟩ => ⟨S4112x4096, .f32⟩
  | .hbm, ⟨7, _⟩ => ⟨S4112x1024, .f32⟩
  | .hbm, ⟨8, _⟩ => ⟨S4112x1024, .f32⟩
  | .hbm, ⟨9, _⟩ => ⟨S_, .f32⟩
  | .hbm, ⟨10, _⟩ => ⟨S48x1024, .f32⟩
  | .hbm, ⟨11, _⟩ => ⟨S4160x1024, .f32⟩
  | _, _ => ⟨S4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== OutT.lean ====
abbrev S4160x1024 : Shape := ⟨2, ![4160, 1024]⟩
abbrev S1024x1024 : Shape := ⟨2, ![1024, 1024]⟩
abbrev S1040x1024 : Shape := ⟨2, ![1040, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S1024x1024, .f32⟩
  | .hbm, ⟨2, _⟩ => ⟨S4160x1024, .bf16⟩
  | .hbm, ⟨3, _⟩ => ⟨S1024x1024, .bf16⟩
  | .hbm, ⟨4, _⟩ => ⟨S4160x1024, .f32⟩
  | .local _ .vmem, ⟨0, _⟩ => ⟨S1040x1024, .bf16⟩
  | .local _ .vmem, ⟨1, _⟩ => ⟨S1040x1024, .bf16⟩
  | .local _ .vmem, ⟨2, _⟩ => ⟨S1024x1024, .bf16⟩
  | .local _ .vmem, ⟨3, _⟩ => ⟨S1040x1024, .f32⟩
  | .local _ .vmem, ⟨4, _⟩ => ⟨S1040x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutTRefIdeal.lean ====
abbrev S4160x1024 : Shape := ⟨2, ![4160, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024x1024, .f32⟩
  | .hbm, ⟨2, _⟩ => ⟨S_, .f32⟩
  | .hbm, ⟨3, _⟩ => ⟨S4160x1024, .f32⟩
  | .hbm, ⟨4, _⟩ => ⟨S4160x1024, .f32⟩
  | .hbm, ⟨5, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DWOut.lean ====
abbrev S4160x1024 : Shape := ⟨2, ![4160, 1024]⟩
abbrev S1024x1024 : Shape := ⟨2, ![1024, 1024]⟩
abbrev S4160x512 : Shape := ⟨2, ![4160, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S4160x1024, .bf16⟩
  | .hbm, ⟨3, _⟩ => ⟨S4160x1024, .bf16⟩
  | .hbm, ⟨4, _⟩ => ⟨S1024x1024, .bf16⟩
  | .local _ .vmem, ⟨0, _⟩ => ⟨S4160x512, .bf16⟩
  | .local _ .vmem, ⟨1, _⟩ => ⟨S4160x512, .bf16⟩
  | .local _ .vmem, ⟨2, _⟩ => ⟨S4160x1024, .bf16⟩
  | .local _ .vmem, ⟨3, _⟩ => ⟨S512x1024, .bf16⟩
  | .local _ .vmem, ⟨4, _⟩ => ⟨S512x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4160x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4160x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWOutRefIdeal.lean ====
abbrev S4160x1024 : Shape := ⟨2, ![4160, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S_, .f32⟩
  | .hbm, ⟨3, _⟩ => ⟨S1024x1024, .f32⟩
  | .hbm, ⟨4, _⟩ => ⟨S4160x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvDWIn.lean ====
abbrev S4160x1024 : Shape := ⟨2, ![4160, 1024]⟩
abbrev S1024 : Shape := ⟨1, ![1024]⟩
abbrev S4160x1536 : Shape := ⟨2, ![4160, 1536]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S1024x1536 : Shape := ⟨2, ![1024, 1536]⟩
abbrev S4160x512 : Shape := ⟨2, ![4160, 512]⟩
abbrev S1024x512 : Shape := ⟨2, ![1024, 512]⟩

abbrev nBuf : Space → Nat
  | .hbm => 22
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S4160x1536, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S1x1024, .f32⟩
  | .hbm, ⟨17, _⟩ => ⟨S4160x1024, .f32⟩
  | .hbm, ⟨18, _⟩ => ⟨S4160x1024, .f32⟩
  | .hbm, ⟨19, _⟩ => ⟨S4160x1024, .bf16⟩
  | .hbm, ⟨20, _⟩ => ⟨S4160x1536, .bf16⟩
  | .hbm, ⟨21, _⟩ => ⟨S1024x1536, .bf16⟩
  | .local _ .vmem, ⟨0, _⟩ => ⟨S4160x1024, .bf16⟩
  | .local _ .vmem, ⟨1, _⟩ => ⟨S4160x512, .bf16⟩
  | .local _ .vmem, ⟨2, _⟩ => ⟨S4160x512, .bf16⟩
  | .local _ .vmem, ⟨3, _⟩ => ⟨S1024x512, .bf16⟩
  | .local _ .vmem, ⟨4, _⟩ => ⟨S1024x512, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4160x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDWInRefIdeal.lean ====
abbrev S4160x1024 : Shape := ⟨2, ![4160, 1024]⟩
abbrev S1024 : Shape := ⟨1, ![1024]⟩
abbrev S4160x1536 : Shape := ⟨2, ![4160, 1536]⟩
abbrev S_ : Shape := ⟨0, ![]⟩
abbrev S1024x1536 : Shape := ⟨2, ![1024, 1536]⟩
abbrev S4160 : Shape := ⟨1, ![4160]⟩
abbrev S4160x1 : Shape := ⟨2, ![4160, 1]⟩
abbrev S1x1024 : Shape := ⟨2, ![1, 1024]⟩
abbrev S1536x1024 : Shape := ⟨2, ![1536, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S4160x1536, .f32⟩
  | .hbm, ⟨3, _⟩ => ⟨S_, .f32⟩
  | .hbm, ⟨4, _⟩ => ⟨S1024x1536, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S1x1024, .f32⟩
  | .hbm, ⟨19, _⟩ => ⟨S4160x1024, .f32⟩
  | .hbm, ⟨20, _⟩ => ⟨S4160x1024, .f32⟩
  | .hbm, ⟨21, _⟩ => ⟨S4160x1536, .f32⟩
  | .hbm, ⟨22, _⟩ => ⟨S1536x1024, .f32⟩
  | .hbm, ⟨23, _⟩ => ⟨S1024x1536, .f32⟩
  | .hbm, ⟨24, _⟩ => ⟨S1024x1536, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OdDWIn.lean ====
abbrev S4160x1024 : Shape := ⟨2, ![4160, 1024]⟩
abbrev S1024 : Shape := ⟨1, ![1024]⟩
abbrev S4x4160x1024 : Shape := ⟨3, ![4, 4160, 1024]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S8x1024x512 : Shape := ⟨3, ![8, 1024, 512]⟩
abbrev S1x4160x512 : Shape := ⟨3, ![1, 4160, 512]⟩
abbrev S1x1024x512 : Shape := ⟨3, ![1, 1024, 512]⟩
abbrev S4160x512 : Shape := ⟨2, ![4160, 512]⟩
abbrev S1024x512 : Shape := ⟨2, ![1024, 512]⟩

abbrev nBuf : Space → Nat
  | .hbm => 22
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S4x4160x1024, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S1x1024, .f32⟩
  | .hbm, ⟨17, _⟩ => ⟨S4160x1024, .f32⟩
  | .hbm, ⟨18, _⟩ => ⟨S4160x1024, .f32⟩
  | .hbm, ⟨19, _⟩ => ⟨S4160x1024, .bf16⟩
  | .hbm, ⟨20, _⟩ => ⟨S4x4160x1024, .bf16⟩
  | .hbm, ⟨21, _⟩ => ⟨S8x1024x512, .bf16⟩
  | .local _ .vmem, ⟨0, _⟩ => ⟨S4160x1024, .bf16⟩
  | .local _ .vmem, ⟨1, _⟩ => ⟨S1x4160x512, .bf16⟩
  | .local _ .vmem, ⟨2, _⟩ => ⟨S1x4160x512, .bf16⟩
  | .local _ .vmem, ⟨3, _⟩ => ⟨S1x1024x512, .bf16⟩
  | .local _ .vmem, ⟨4, _⟩ => ⟨S1x1024x512, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4160x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDWInRefIdeal.lean ====
abbrev S4160x1024 : Shape := ⟨2, ![4160, 1024]⟩
abbrev S1024 : Shape := ⟨1, ![1024]⟩
abbrev S4x4160x1024 : Shape := ⟨3, ![4, 4160, 1024]⟩
abbrev S4160x4x1024 : Shape := ⟨3, ![4160, 4, 1024]⟩
abbrev S4160x4096 : Shape := ⟨2, ![4160, 4096]⟩
abbrev S_ : Shape := ⟨0, ![]⟩
abbrev S1024x4096 : Shape := ⟨2, ![1024, 4096]⟩
abbrev S4160 : Shape := ⟨1, ![4160]⟩
abbrev S4160x1 : Shape := ⟨2, ![4160, 1]⟩
abbrev S1x1024 : Shape := ⟨2, ![1, 1024]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 29
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S4x4160x1024, .f32⟩
  | .hbm, ⟨3, _⟩ => ⟨S4160x4x1024, .f32⟩
  | .hbm, ⟨4, _⟩ => ⟨S4160x4096, .f32⟩
  | .hbm, ⟨5, _⟩ => ⟨S_, .f32⟩
  | .hbm, ⟨6, _⟩ => ⟨S1024x4096, .f32⟩
  | .hbm, ⟨7, _⟩ => ⟨S4160x1024, .f32⟩
  | .hbm, ⟨8, _⟩ => ⟨S_, .f32⟩
  | .hbm, ⟨9, _⟩ => ⟨S4160, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S_, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S4160x1024, .f32⟩
  | .hbm, ⟨19, _⟩ => ⟨S4160x1024, .f32⟩
  | .hbm, ⟨20, _⟩ => ⟨S1x1024, .f32⟩
  | .hbm, ⟨21, _⟩ => ⟨S4160x1024, .f32⟩
  | .hbm, ⟨22, _⟩ => ⟨S4160x1024, .f32⟩
  | .hbm, ⟨23, _⟩ => ⟨S4160x4096, .f32⟩
  | .hbm, ⟨24, _⟩ => ⟨S4096x1024, .f32⟩
  | .hbm, ⟨25, _⟩ => ⟨S1024x4096, .f32⟩
  | .hbm, ⟨26, _⟩ => ⟨S1024x8x512, .f32⟩
  | .hbm, ⟨27, _⟩ => ⟨S8x1024x512, .f32⟩
  | .hbm, ⟨28, _⟩ => ⟨S8x1024x512, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MixOut.lean ====
abbrev S4112x1024 : Shape := ⟨2, ![4112, 1024]⟩
abbrev S1024x1024 : Shape := ⟨2, ![1024, 1024]⟩
abbrev S_ : Shape := ⟨0, ![]⟩
abbrev S48x1024 : Shape := ⟨2, ![48, 1024]⟩
abbrev S4160x1024 : Shape := ⟨2, ![4160, 1024]⟩
abbrev S1040x1024 : Shape := ⟨2, ![1040, 1024]⟩
abbrev S1040x1 : Shape := ⟨2, ![1040, 1]⟩

abbrev nBuf : Space → Nat
  | .hbm => 12
  | .vmem => 7
  | .smem => 0
  | _ => 0

abbrev bufTy : (tb : Table) → Fin (tcTables nBuf tb) → BufTy
  | .hbm, ⟨0, _⟩ => ⟨S4112x1024, .f32⟩
  | .hbm, ⟨1, _⟩ => ⟨S1024x1024, .f32⟩
  | .hbm, ⟨2, _⟩ => ⟨S4112x1024, .f32⟩
  | .hbm, ⟨3, _⟩ => ⟨S_, .f32⟩
  | .hbm, ⟨4, _⟩ => ⟨S48x1024, .f32⟩
  | .hbm, ⟨5, _⟩ => ⟨S4160x1024, .f32⟩
  | .hbm, ⟨6, _⟩ => ⟨S4160x1024, .bf16⟩
  | .hbm, ⟨7, _⟩ => ⟨S1024x1024, .bf16⟩
  | .hbm, ⟨8, _⟩ => ⟨S_, .f32⟩
  | .hbm, ⟨9, _⟩ => ⟨S48x1024, .f32⟩
  | .hbm, ⟨10, _⟩ => ⟨S4160x1024, .f32⟩
  | .hbm, ⟨11, _⟩ => ⟨S4160x1024, .f32⟩
  | .local _ .vmem, ⟨0, _⟩ => ⟨S1040x1024, .bf16⟩
  | .local _ .vmem, ⟨1, _⟩ => ⟨S1040x1024, .bf16⟩
  | .local _ .vmem, ⟨2, _⟩ => ⟨S1024x1024, .bf16⟩
  | .local _ .vmem, ⟨3, _⟩ => ⟨S1040x1024, .f32⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S4112x1024 : Shape := ⟨2, ![4112, 1024]⟩
abbrev S1024x1024 : Shape := ⟨2, ![1024, 1024]⟩
abbrev S_ : Shape := ⟨0, ![]⟩
abbrev S48x1024 : Shape := ⟨2, ![48, 1024]⟩
abbrev S4160x1024 : Shape := ⟨2, ![4160, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024x1024, .f32⟩
  | .hbm, ⟨2, _⟩ => ⟨S4112x1024, .f32⟩
  | .hbm, ⟨3, _⟩ => ⟨S4112x1024, .f32⟩
  | .hbm, ⟨4, _⟩ => ⟨S4112x1024, .f32⟩
  | .hbm, ⟨5, _⟩ => ⟨S_, .f32⟩
  | .hbm, ⟨6, _⟩ => ⟨S48x1024, .f32⟩
  | .hbm, ⟨7, _⟩ => ⟨S4160x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DNorm.lean ====
abbrev S4112x4096 : Shape := ⟨2, ![4112, 4096]⟩
abbrev S1024x4096 : Shape := ⟨2, ![1024, 4096]⟩
abbrev S4112x1024 : Shape := ⟨2, ![4112, 1024]⟩
abbrev S1024 : Shape := ⟨1, ![1024]⟩
abbrev S_ : Shape := ⟨0, ![]⟩
abbrev S48x4096 : Shape := ⟨2, ![48, 4096]⟩
abbrev S4160x4096 : Shape := ⟨2, ![4160, 4096]⟩
abbrev S48x1024 : Shape := ⟨2, ![48, 1024]⟩
abbrev S4160x1024 : Shape := ⟨2, ![4160, 1024]⟩
abbrev S1x1024 : Shape := ⟨2, ![1, 1024]⟩
abbrev S416x4096 : Shape := ⟨2, ![416, 4096]⟩
abbrev S416x1024 : Shape := ⟨2, ![416, 1024]⟩
abbrev S208x1024 : Shape := ⟨2, ![208, 1024]⟩
abbrev S208 : Shape := ⟨1, ![208]⟩
abbrev S208x1 : Shape := ⟨2, ![208, 1]⟩

abbrev nBuf : Space → Nat
  | .hbm => 20
  | .vmem => 13
  | .smem => 0
  | _ => 0

abbrev bufTy : (tb : Table) → Fin (tcTables nBuf tb) → BufTy
  | .hbm, ⟨0, _⟩ => ⟨S4112x4096, .f32⟩
  | .hbm, ⟨1, _⟩ => ⟨S1024x4096, .f32⟩
  | .hbm, ⟨2, _⟩ => ⟨S4112x1024, .f32⟩
  | .hbm, ⟨3, _⟩ => ⟨S1024, .f32⟩
  | .hbm, ⟨4, _⟩ => ⟨S4112x1024, .f32⟩
  | .hbm, ⟨5, _⟩ => ⟨S_, .f32⟩
  | .hbm, ⟨6, _⟩ => ⟨S48x4096, .f32⟩
  | .hbm, ⟨7, _⟩ => ⟨S4160x4096, .f32⟩
  | .hbm, ⟨8, _⟩ => ⟨S4160x4096, .bf16⟩
  | .hbm, ⟨9, _⟩ => ⟨S1024x4096, .bf16⟩
  | .hbm, ⟨10, _⟩ => ⟨S_, .f32⟩
  | .hbm, ⟨11, _⟩ => ⟨S48x1024, .f32⟩
  | .hbm, ⟨12, _⟩ => ⟨S4160x1024, .f32⟩
  | .hbm, ⟨13, _⟩ => ⟨S1x1024, .f32⟩
  | .hbm, ⟨14, _⟩ => ⟨S_, .f32⟩
  | .hbm, ⟨15, _⟩ => ⟨S48x1024, .f32⟩
  | .hbm, ⟨16, _⟩ => ⟨S4160x1024, .f32⟩
  | .hbm, ⟨17, _⟩ => ⟨S4160x1024, .f32⟩
  | .hbm, ⟨18, _⟩ => ⟨S4160x1024, .bf16⟩
  | .hbm, ⟨19, _⟩ => ⟨S1x1024, .f32⟩
  | .local _ .vmem, ⟨0, _⟩ => ⟨S416x4096, .bf16⟩
  | .local _ .vmem, ⟨1, _⟩ => ⟨S416x4096, .bf16⟩
  | .local _ .vmem, ⟨2, _⟩ => ⟨S1024x4096, .bf16⟩
  | .local _ .vmem, ⟨3, _⟩ => ⟨S416x1024, .f32⟩
  | .local _ .vmem, ⟨4, _⟩ => ⟨S416x1024, .f32⟩
  | .local _ .vmem, ⟨5, _⟩ => ⟨S1x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S416x1024, .bf16⟩
  | .local _ .vmem, ⟨11, _⟩ => ⟨S416x1024, .bf16⟩
  | .local _ .vmem, ⟨12, _⟩ => ⟨S1x1024, .f32⟩
  | _, _ => ⟨S4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![10, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S416x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DNormRefIdeal.lean ====
abbrev S4112x4096 : Shape := ⟨2, ![4112, 4096]⟩
abbrev S1024x4096 : Shape := ⟨2, ![1024, 4096]⟩
abbrev S4112x1024 : Shape := ⟨2, ![4112, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S48x1024 : Shape := ⟨2, ![48, 1024]⟩
abbrev S4160x1024 : Shape := ⟨2, ![4160, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4112x4096, .f32⟩
  | .hbm, ⟨1, _⟩ => ⟨S1024x4096, .f32⟩
  | .hbm, ⟨2, _⟩ => ⟨S4112x1024, .f32⟩
  | .hbm, ⟨3, _⟩ => ⟨S1024, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x4096, .f32⟩
  | .hbm, ⟨26, _⟩ => ⟨S4112x1024, .f32⟩
  | .hbm, ⟨27, _⟩ => ⟨S4112x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S4112x1024, .f32⟩
  | .hbm, ⟨36, _⟩ => ⟨S_, .f32⟩
  | .hbm, ⟨37, _⟩ => ⟨S4112, .f32⟩
  | .hbm, ⟨38, _⟩ => ⟨S4112x1, .f32⟩
  | .hbm, ⟨39, _⟩ => ⟨S4112x1024, .f32⟩
  | .hbm, ⟨40, _⟩ => ⟨S4112x1024, .f32⟩
  | .hbm, ⟨41, _⟩ => ⟨S4112x1024, .f32⟩
  | .hbm, ⟨42, _⟩ => ⟨S4112x1, .f32⟩
  | .hbm, ⟨43, _⟩ => ⟨S_, .f32⟩
  | .hbm, ⟨44, _⟩ => ⟨S4112x1, .f32⟩
  | .hbm, ⟨45, _⟩ => ⟨S4112x1, .f32⟩
  | .hbm, ⟨46, _⟩ => ⟨S_, .f32⟩
  | .hbm, ⟨47, _⟩ => ⟨S4112, .f32⟩
  | .hbm, ⟨48, _⟩ => ⟨S4112x1024, .f32⟩
  | .hbm, ⟨49, _⟩ => ⟨S4112x1024, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S_, .f32⟩
  | .hbm, ⟨54, _⟩ => ⟨S48x1024, .f32⟩
  | .hbm, ⟨55, _⟩ => ⟨S4160x1024, .f32⟩
  | .hbm, ⟨56, _⟩ => ⟨S_, .f32⟩
  | .hbm, ⟨57, _⟩ => ⟨S48x1024, .f32⟩
  | .hbm, ⟨58, _⟩ => ⟨S4160x1024, .f32⟩
  | .hbm, ⟨59, _⟩ => ⟨S4160x1024, .bf16⟩
  | .hbm, ⟨60, _⟩ => ⟨S1x1024, .f32⟩
  | _, _ => ⟨S4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== EvInT.lean ====
abbrev S4112x1536 : Shape := ⟨2, ![4112, 1536]⟩
abbrev S1024x1536 : Shape := ⟨2, ![1024, 1536]⟩
abbrev S4112x1024 : Shape := ⟨2, ![4112, 1024]⟩
abbrev S1024 : Shape := ⟨1, ![1024]⟩
abbrev S_ : Shape := ⟨0, ![]⟩
abbrev S48x1536 : Shape := ⟨2, ![48, 1536]⟩
abbrev S4160x1536 : Shape := ⟨2, ![4160, 1536]⟩
abbrev S48x1024 : Shape := ⟨2, ![48, 1024]⟩
abbrev S4160x1024 : Shape := ⟨2, ![4160, 1024]⟩
abbrev S1x1024 : Shape := ⟨2, ![1, 1024]⟩
abbrev S416x1536 : Shape := ⟨2, ![416, 1536]⟩
abbrev S416x1024 : Shape := ⟨2, ![416, 1024]⟩
abbrev S208x1024 : Shape := ⟨2, ![208, 1024]⟩
abbrev S208 : Shape := ⟨1, ![208]⟩
abbrev S208x1 : Shape := ⟨2, ![208, 1]⟩

abbrev nBuf : Space → Nat
  | .hbm => 20
  | .vmem => 13
  | .smem => 0
  | _ => 0

abbrev bufTy : (tb : Table) → Fin (tcTables nBuf tb) → BufTy
  | .hbm, ⟨0, _⟩ => ⟨S4112x1536, .f32⟩
  | .hbm, ⟨1, _⟩ => ⟨S1024x1536, .f32⟩
  | .hbm, ⟨2, _⟩ => ⟨S4112x1024, .f32⟩
  | .hbm, ⟨3, _⟩ => ⟨S1024, .f32⟩
  | .hbm, ⟨4, _⟩ => ⟨S4112x1024, .f32⟩
  | .hbm, ⟨5, _⟩ => ⟨S_, .f32⟩
  | .hbm, ⟨6, _⟩ => ⟨S48x1536, .f32⟩
  | .hbm, ⟨7, _⟩ => ⟨S4160x1536, .f32⟩
  | .hbm, ⟨8, _⟩ => ⟨S4160x1536, .bf16⟩
  | .hbm, ⟨9, _⟩ => ⟨S1024x1536, .bf16⟩
  | .hbm, ⟨10, _⟩ => ⟨S_, .f32⟩
  | .hbm, ⟨11, _⟩ => ⟨S48x1024, .f32⟩
  | .hbm, ⟨12, _⟩ => ⟨S4160x1024, .f32⟩
  | .hbm, ⟨13, _⟩ => ⟨S1x1024, .f32⟩
  | .hbm, ⟨14, _⟩ => ⟨S_, .f32⟩
  | .hbm, ⟨15, _⟩ => ⟨S48x1024, .f32⟩
  | .hbm, ⟨16, _⟩ => ⟨S4160x1024, .f32⟩
  | .hbm, ⟨17, _⟩ => ⟨S4160x1024, .f32⟩
  | .hbm, ⟨18, _⟩ => ⟨S4160x1024, .bf16⟩
  | .hbm, ⟨19, _⟩ => ⟨S1x1024, .f32⟩
  | .local _ .vmem, ⟨0, _⟩ => ⟨S416x1536, .bf16⟩
  | .local _ .vmem, ⟨1, _⟩ => ⟨S416x1536, .bf16⟩
  | .local _ .vmem, ⟨2, _⟩ => ⟨S1024x1536, .bf16⟩
  | .local _ .vmem, ⟨3, _⟩ => ⟨S416x1024, .f32⟩
  | .local _ .vmem, ⟨4, _⟩ => ⟨S416x1024, .f32⟩
  | .local _ .vmem, ⟨5, _⟩ => ⟨S1x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S416x1024, .bf16⟩
  | .local _ .vmem, ⟨11, _⟩ => ⟨S416x1024, .bf16⟩
  | .local _ .vmem, ⟨12, _⟩ => ⟨S1x1024, .f32⟩
  | _, _ => ⟨S4112x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![10, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S416x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== EvInTRefIdeal.lean ====
abbrev S4112x1536 : Shape := ⟨2, ![4112, 1536]⟩
abbrev S1024x1536 : Shape := ⟨2, ![1024, 1536]⟩
abbrev S4112x1024 : Shape := ⟨2, ![4112, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S48x1024 : Shape := ⟨2, ![48, 1024]⟩
abbrev S4160x1024 : Shape := ⟨2, ![4160, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4112x1536, .f32⟩
  | .hbm, ⟨1, _⟩ => ⟨S1024x1536, .f32⟩
  | .hbm, ⟨2, _⟩ => ⟨S4112x1024, .f32⟩
  | .hbm, ⟨3, _⟩ => ⟨S1024, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1024, .f32⟩
  | .hbm, ⟨21, _⟩ => ⟨S4112x1024, .f32⟩
  | .hbm, ⟨22, _⟩ => ⟨S1x1024, .f32⟩
  | .hbm, ⟨23, _⟩ => ⟨S4112x1024, .f32⟩
  | .hbm, ⟨24, _⟩ => ⟨S4112x1024, .f32⟩
  | .hbm, ⟨25, _⟩ => ⟨S4112x1536, .f32⟩
  | .hbm, ⟨26, _⟩ => ⟨S4112x1024, .f32⟩
  | .hbm, ⟨27, _⟩ => ⟨S4112x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S4112x1024, .f32⟩
  | .hbm, ⟨36, _⟩ => ⟨S_, .f32⟩
  | .hbm, ⟨37, _⟩ => ⟨S4112, .f32⟩
  | .hbm, ⟨38, _⟩ => ⟨S4112x1, .f32⟩
  | .hbm, ⟨39, _⟩ => ⟨S4112x1024, .f32⟩
  | .hbm, ⟨40, _⟩ => ⟨S4112x1024, .f32⟩
  | .hbm, ⟨41, _⟩ => ⟨S4112x1024, .f32⟩
  | .hbm, ⟨42, _⟩ => ⟨S4112x1, .f32⟩
  | .hbm, ⟨43, _⟩ => ⟨S_, .f32⟩
  | .hbm, ⟨44, _⟩ => ⟨S4112x1, .f32⟩
  | .hbm, ⟨45, _⟩ => ⟨S4112x1, .f32⟩
  | .hbm, ⟨46, _⟩ => ⟨S_, .f32⟩
  | .hbm, ⟨47, _⟩ => ⟨S4112, .f32⟩
  | .hbm, ⟨48, _⟩ => ⟨S4112x1024, .f32⟩
  | .hbm, ⟨49, _⟩ => ⟨S4112x1024, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S_, .f32⟩
  | .hbm, ⟨54, _⟩ => ⟨S48x1024, .f32⟩
  | .hbm, ⟨55, _⟩ => ⟨S4160x1024, .f32⟩
  | .hbm, ⟨56, _⟩ => ⟨S_, .f32⟩
  | .hbm, ⟨57, _⟩ => ⟨S48x1024, .f32⟩
  | .hbm, ⟨58, _⟩ => ⟨S4160x1024, .f32⟩
  | .hbm, ⟨59, _⟩ => ⟨S4160x1024, .bf16⟩
  | .hbm, ⟨60, _⟩ => ⟨S1x1024, .f32⟩
  | _, _ => ⟨S4112x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== OdInT.lean ====
abbrev S4x4112x1024 : Shape := ⟨3, ![4, 4112, 1024]⟩
abbrev S1024x4096 : Shape := ⟨2, ![1024, 4096]⟩
abbrev S4112x1024 : Shape := ⟨2, ![4112, 1024]⟩
abbrev S1024 : Shape := ⟨1, ![1024]⟩
abbrev S_ : Shape := ⟨0, ![]⟩
abbrev S4x48x1024 : Shape := ⟨3, ![4, 48, 1024]⟩
abbrev S4x4160x1024 : Shape := ⟨3, ![4, 4160, 1024]⟩
abbrev S48x1024 : Shape := ⟨2, ![48, 1024]⟩
abbrev S4160x1024 : Shape := ⟨2, ![4160, 1024]⟩
abbrev S1x1024 : Shape := ⟨2, ![1, 1024]⟩
abbrev S4x416x1024 : Shape := ⟨3, ![4, 416, 1024]⟩
abbrev S416x1024 : Shape := ⟨2, ![416, 1024]⟩
abbrev S1x416x1024 : Shape := ⟨3, ![1, 416, 1024]⟩
abbrev S1024x1024 : Shape := ⟨2, ![1024, 1024]⟩
abbrev S208x1024 : Shape := ⟨2, ![208, 1024]⟩
abbrev S208 : Shape := ⟨1, ![208]⟩
abbrev S208x1 : Shape := ⟨2, ![208, 1]⟩

abbrev nBuf : Space → Nat
  | .hbm => 20
  | .vmem => 13
  | .smem => 0
  | _ => 0

abbrev bufTy : (tb : Table) → Fin (tcTables nBuf tb) → BufTy
  | .hbm, ⟨0, _⟩ => ⟨S4x4112x1024, .f32⟩
  | .hbm, ⟨1, _⟩ => ⟨S1024x4096, .f32⟩
  | .hbm, ⟨2, _⟩ => ⟨S4112x1024, .f32⟩
  | .hbm, ⟨3, _⟩ => ⟨S1024, .f32⟩
  | .hbm, ⟨4, _⟩ => ⟨S4112x1024, .f32⟩
  | .hbm, ⟨5, _⟩ => ⟨S_, .f32⟩
  | .hbm, ⟨6, _⟩ => ⟨S4x48x1024, .f32⟩
  | .hbm, ⟨7, _⟩ => ⟨S4x4160x1024, .f32⟩
  | .hbm, ⟨8, _⟩ => ⟨S4x4160x1024, .bf16⟩
  | .hbm, ⟨9, _⟩ => ⟨S1024x4096, .bf16⟩
  | .hbm, ⟨10, _⟩ => ⟨S_, .f32⟩
  | .hbm, ⟨11, _⟩ => ⟨S48x1024, .f32⟩
  | .hbm, ⟨12, _⟩ => ⟨S4160x1024, .f32⟩
  | .hbm, ⟨13, _⟩ => ⟨S1x1024, .f32⟩
  | .hbm, ⟨14, _⟩ => ⟨S_, .f32⟩
  | .hbm, ⟨15, _⟩ => ⟨S48x1024, .f32⟩
  | .hbm, ⟨16, _⟩ => ⟨S4160x1024, .f32⟩
  | .hbm, ⟨17, _⟩ => ⟨S4160x1024, .f32⟩
  | .hbm, ⟨18, _⟩ => ⟨S4160x1024, .bf16⟩
  | .hbm, ⟨19, _⟩ => ⟨S1x1024, .f32⟩
  | .local _ .vmem, ⟨0, _⟩ => ⟨S4x416x1024, .bf16⟩
  | .local _ .vmem, ⟨1, _⟩ => ⟨S4x416x1024, .bf16⟩
  | .local _ .vmem, ⟨2, _⟩ => ⟨S1024x4096, .bf16⟩
  | .local _ .vmem, ⟨3, _⟩ => ⟨S416x1024, .f32⟩
  | .local _ .vmem, ⟨4, _⟩ => ⟨S416x1024, .f32⟩
  | .local _ .vmem, ⟨5, _⟩ => ⟨S1x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S416x1024, .bf16⟩
  | .local _ .vmem, ⟨11, _⟩ => ⟨S416x1024, .bf16⟩
  | .local _ .vmem, ⟨12, _⟩ => ⟨S1x1024, .f32⟩
  | _, _ => ⟨S4x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![10, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x416x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S416x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== OdInTRefIdeal.lean ====
abbrev S4x4112x1024 : Shape := ⟨3, ![4, 4112, 1024]⟩
abbrev S1024x4096 : Shape := ⟨2, ![1024, 4096]⟩
abbrev S4112x1024 : Shape := ⟨2, ![4112, 1024]⟩
abbrev S1024 : Shape := ⟨1, ![1024]⟩
abbrev S4112x4x1024 : Shape := ⟨3, ![4112, 4, 1024]⟩
abbrev S4112x4096 : Shape := ⟨2, ![4112, 4096]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S48x1024 : Shape := ⟨2, ![48, 1024]⟩
abbrev S4160x1024 : Shape := ⟨2, ![4160, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x4112x1024, .f32⟩
  | .hbm, ⟨1, _⟩ => ⟨S1024x4096, .f32⟩
  | .hbm, ⟨2, _⟩ => ⟨S4112x1024, .f32⟩
  | .hbm, ⟨3, _⟩ => ⟨S1024, .f32⟩
  | .hbm, ⟨4, _⟩ => ⟨S4112x1024, .f32⟩
  | .hbm, ⟨5, _⟩ => ⟨S4112x4x1024, .f32⟩
  | .hbm, ⟨6, _⟩ => ⟨S4112x4096, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S1x1024, .f32⟩
  | .hbm, ⟨25, _⟩ => ⟨S4112x1024, .f32⟩
  | .hbm, ⟨26, _⟩ => ⟨S4112x1024, .f32⟩
  | .hbm, ⟨27, _⟩ => ⟨S4112x4096, .f32⟩
  | .hbm, ⟨28, _⟩ => ⟨S4112x1024, .f32⟩
  | .hbm, ⟨29, _⟩ => ⟨S4112x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4112x1024, .f32⟩
  | .hbm, ⟨34, _⟩ => ⟨S4112x1024, .f32⟩
  | .hbm, ⟨35, _⟩ => ⟨S_, .f32⟩
  | .hbm, ⟨36, _⟩ => ⟨S1024, .f32⟩
  | .hbm, ⟨37, _⟩ => ⟨S4112x1024, .f32⟩
  | .hbm, ⟨38, _⟩ => ⟨S_, .f32⟩
  | .hbm, ⟨39, _⟩ => ⟨S4112, .f32⟩
  | .hbm, ⟨40, _⟩ => ⟨S4112x1, .f32⟩
  | .hbm, ⟨41, _⟩ => ⟨S4112x1024, .f32⟩
  | .hbm, ⟨42, _⟩ => ⟨S4112x1024, .f32⟩
  | .hbm, ⟨43, _⟩ => ⟨S4112x1024, .f32⟩
  | .hbm, ⟨44, _⟩ => ⟨S4112x1, .f32⟩
  | .hbm, ⟨45, _⟩ => ⟨S_, .f32⟩
  | .hbm, ⟨46, _⟩ => ⟨S4112x1, .f32⟩
  | .hbm, ⟨47, _⟩ => ⟨S4112x1, .f32⟩
  | .hbm, ⟨48, _⟩ => ⟨S_, .f32⟩
  | .hbm, ⟨49, _⟩ => ⟨S4112, .f32⟩
  | .hbm, ⟨50, _⟩ => ⟨S4112x1024, .f32⟩
  | .hbm, ⟨51, _⟩ => ⟨S4112x1024, .f32⟩
  | .hbm, ⟨52, _⟩ => ⟨S4112x1024, .f32⟩
  | .hbm, ⟨53, _⟩ => ⟨S4112x1024, .f32⟩
  | .hbm, ⟨54, _⟩ => ⟨S4112x1024, .f32⟩
  | .hbm, ⟨55, _⟩ => ⟨S_, .f32⟩
  | .hbm, ⟨56, _⟩ => ⟨S48x1024, .f32⟩
  | .hbm, ⟨57, _⟩ => ⟨S4160x1024, .f32⟩
  | .hbm, ⟨58, _⟩ => ⟨S_, .f32⟩
  | .hbm, ⟨59, _⟩ => ⟨S48x1024, .f32⟩
  | .hbm, ⟨60, _⟩ => ⟨S4160x1024, .f32⟩
  | .hbm, ⟨61, _⟩ => ⟨S4160x1024, .bf16⟩
  | .hbm, ⟨62, _⟩ => ⟨S1x1024, .f32⟩
  | _, _ => ⟨S4x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Up.lean ====
abbrev S4160x1024 : Shape := ⟨2, ![4160, 1024]⟩
abbrev S1024 : Shape := ⟨1, ![1024]⟩
abbrev S1024x4096 : Shape := ⟨2, ![1024, 4096]⟩
abbrev S1x1024 : Shape := ⟨2, ![1, 1024]⟩
abbrev S4160x4096 : Shape := ⟨2, ![4160, 4096]⟩
abbrev S2080x1024 : Shape := ⟨2, ![2080, 1024]⟩
abbrev S1024x512 : Shape := ⟨2, ![1024, 512]⟩
abbrev S2080x512 : Shape := ⟨2, ![2080, 512]⟩
abbrev S208x1024 : Shape := ⟨2, ![208, 1024]⟩
abbrev S208 : Shape := ⟨1, ![208]⟩
abbrev S208x1 : Shape := ⟨2, ![208, 1]⟩

abbrev nBuf : Space → Nat
  | .hbm => 8
  | .vmem => 11
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S4160x1024, .bf16⟩
  | .hbm, ⟨6, _⟩ => ⟨S4160x4096, .bf16⟩
  | .hbm, ⟨7, _⟩ => ⟨S4160x4096, .bf16⟩
  | .local _ .vmem, ⟨0, _⟩ => ⟨S2080x1024, .f32⟩
  | .local _ .vmem, ⟨1, _⟩ => ⟨S2080x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S2080x1024, .bf16⟩
  | .local _ .vmem, ⟨6, _⟩ => ⟨S2080x1024, .bf16⟩
  | .local _ .vmem, ⟨7, _⟩ => ⟨S2080x512, .bf16⟩
  | .local _ .vmem, ⟨8, _⟩ => ⟨S2080x512, .bf16⟩
  | .local _ .vmem, ⟨9, _⟩ => ⟨S2080x512, .bf16⟩
  | .local _ .vmem, ⟨10, _⟩ => ⟨S2080x512, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c10_i32 : BitVec 32 := 10#32
  let v15 : BitVec 32 := Scalar.addi c0_i32_9 c10_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c208_i32 : BitVec 32 := 208#32
  let v16 : BitVec 32 := Scalar.muli arg8 c208_i32
  v16
def k0_off1 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c208_i32 : BitVec 32 := 208#32
  let v16 : BitVec 32 := Scalar.muli arg8 c208_i32
  let v17 : BitVec 32 := v16
  let v18 : Index := Scalar.indexCast v17
  let c0_11 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2080x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2080x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2080x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S4160x1024 : Shape := ⟨2, ![4160, 1024]⟩
abbrev S1024 : Shape := ⟨1, ![1024]⟩
abbrev S1024x4096 : Shape := ⟨2, ![1024, 4096]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x4096 : Shape := ⟨2, ![4160, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x4096, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S1x1024, .f32⟩
  | .hbm, ⟨17, _⟩ => ⟨S4160x1024, .f32⟩
  | .hbm, ⟨18, _⟩ => ⟨S4160x1024, .f32⟩
  | .hbm, ⟨19, _⟩ => ⟨S4160x4096, .f32⟩
  | .hbm, ⟨20, _⟩ => ⟨S_, .f32⟩
  | .hbm, ⟨21, _⟩ => ⟨S4160x4096, .f32⟩
  | .hbm, ⟨22, _⟩ => ⟨S4160x4096, .f32⟩
  | .hbm, ⟨23, _⟩ => ⟨S4160x1024, .bf16⟩
  | .hbm, ⟨24, _⟩ => ⟨S4160x4096, .bf16⟩
  | .hbm, ⟨25, _⟩ => ⟨S4160x4096, .f32⟩
  | .hbm, ⟨26, _⟩ => ⟨S4160x4096, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== EvIn.lean ====
abbrev S4160x1024 : Shape := ⟨2, ![4160, 1024]⟩
abbrev S1024 : Shape := ⟨1, ![1024]⟩
abbrev S1024x1536 : Shape := ⟨2, ![1024, 1536]⟩
abbrev S1x1024 : Shape := ⟨2, ![1, 1024]⟩
abbrev S4160x1536 : Shape := ⟨2, ![4160, 1536]⟩
abbrev S2080x1024 : Shape := ⟨2, ![2080, 1024]⟩
abbrev S1024x512 : Shape := ⟨2, ![1024, 512]⟩
abbrev S2080x512 : Shape := ⟨2, ![2080, 512]⟩
abbrev S208x1024 : Shape := ⟨2, ![208, 1024]⟩
abbrev S208 : Shape := ⟨1, ![208]⟩
abbrev S208x1 : Shape := ⟨2, ![208, 1]⟩

abbrev nBuf : Space → Nat
  | .hbm => 7
  | .vmem => 9
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x1536, .bf16⟩
  | .hbm, ⟨5, _⟩ => ⟨S4160x1024, .bf16⟩
  | .hbm, ⟨6, _⟩ => ⟨S4160x1536, .f32⟩
  | .local _ .vmem, ⟨0, _⟩ => ⟨S2080x1024, .f32⟩
  | .local _ .vmem, ⟨1, _⟩ => ⟨S2080x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S2080x1024, .bf16⟩
  | .local _ .vmem, ⟨6, _⟩ => ⟨S2080x1024, .bf16⟩
  | .local _ .vmem, ⟨7, _⟩ => ⟨S2080x512, .f32⟩
  | .local _ .vmem, ⟨8, _⟩ => ⟨S2080x512, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c10_i32 : BitVec 32 := 10#32
  let v9 : BitVec 32 := Scalar.addi c0_i32_6 c10_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c208_i32 : BitVec 32 := 208#32
  let v10 : BitVec 32 := Scalar.muli arg7 c208_i32
  v10
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c208_i32 : BitVec 32 := 208#32
  let v10 : BitVec 32 := Scalar.muli arg7 c208_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2080x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2080x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== EvInRefIdeal.lean ====
abbrev S4160x1024 : Shape := ⟨2, ![4160, 1024]⟩
abbrev S1024 : Shape := ⟨1, ![1024]⟩
abbrev S1024x1536 : Shape := ⟨2, ![1024, 1536]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x1536 : Shape := ⟨2, ![4160, 1536]⟩

abbrev nBuf : Space → Nat
  | .hbm => 21
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x1536, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S1x1024, .f32⟩
  | .hbm, ⟨17, _⟩ => ⟨S4160x1024, .f32⟩
  | .hbm, ⟨18, _⟩ => ⟨S4160x1024, .f32⟩
  | .hbm, ⟨19, _⟩ => ⟨S4160x1024, .bf16⟩
  | .hbm, ⟨20, _⟩ => ⟨S4160x1536, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OdIn.lean ====
abbrev S4160x1024 : Shape := ⟨2, ![4160, 1024]⟩
abbrev S1024 : Shape := ⟨1, ![1024]⟩
abbrev S1024x4096 : Shape := ⟨2, ![1024, 4096]⟩
abbrev S1x1024 : Shape := ⟨2, ![1, 1024]⟩
abbrev S4160x4096 : Shape := ⟨2, ![4160, 4096]⟩
abbrev S2080x1024 : Shape := ⟨2, ![2080, 1024]⟩
abbrev S1024x512 : Shape := ⟨2, ![1024, 512]⟩
abbrev S2080x512 : Shape := ⟨2, ![2080, 512]⟩
abbrev S208x1024 : Shape := ⟨2, ![208, 1024]⟩
abbrev S208 : Shape := ⟨1, ![208]⟩
abbrev S208x1 : Shape := ⟨2, ![208, 1]⟩

abbrev nBuf : Space → Nat
  | .hbm => 7
  | .vmem => 9
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S4160x1024, .bf16⟩
  | .hbm, ⟨6, _⟩ => ⟨S4160x4096, .f32⟩
  | .local _ .vmem, ⟨0, _⟩ => ⟨S2080x1024, .f32⟩
  | .local _ .vmem, ⟨1, _⟩ => ⟨S2080x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S2080x1024, .bf16⟩
  | .local _ .vmem, ⟨6, _⟩ => ⟨S2080x1024, .bf16⟩
  | .local _ .vmem, ⟨7, _⟩ => ⟨S2080x512, .f32⟩
  | .local _ .vmem, ⟨8, _⟩ => ⟨S2080x512, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c10_i32 : BitVec 32 := 10#32
  let v9 : BitVec 32 := Scalar.addi c0_i32_6 c10_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c208_i32 : BitVec 32 := 208#32
  let v10 : BitVec 32 := Scalar.muli arg7 c208_i32
  v10
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c208_i32 : BitVec 32 := 208#32
  let v10 : BitVec 32 := Scalar.muli arg7 c208_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2080x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2080x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OdInRefIdeal.lean ====
abbrev S4160x1024 : Shape := ⟨2, ![4160, 1024]⟩
abbrev S1024 : Shape := ⟨1, ![1024]⟩
abbrev S1024x4096 : Shape := ⟨2, ![1024, 4096]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x4096 : Shape := ⟨2, ![4160, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x4096, .f32⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S1x1024, .f32⟩
  | .hbm, ⟨17, _⟩ => ⟨S4160x1024, .f32⟩
  | .hbm, ⟨18, _⟩ => ⟨S4160x1024, .f32⟩
  | .hbm, ⟨19, _⟩ => ⟨S4160x1024, .bf16⟩
  | .hbm, ⟨20, _⟩ => ⟨S4160x4096, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OptOut.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S8x128x1024, .bf16⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S8x128x1024, .bf16⟩
  | .hbm, ⟨15, _⟩ => ⟨S2x128x1024, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x128x1024, .bf16⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S8x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== OptOutIdeal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S8x128x1024, .bf16⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S8x128x1024, .bf16⟩
  | .hbm, ⟨15, _⟩ => ⟨S2x128x1024, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x128x1024, .bf16⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S8x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== OptOutRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S_, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S1x128x1024, .f32⟩
  | .hbm, ⟨14, _⟩ => ⟨S1x128x1024, .f32⟩
  | .hbm, ⟨15, _⟩ => ⟨S2x128x1024, .f32⟩
  | .hbm, ⟨16, _⟩ => ⟨S_, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== OptEvIn.lean ====
abbrev S8x1024x192 : Shape := ⟨3, ![8, 1024, 192]⟩
abbrev S2x1024x192 : Shape := ⟨3, ![2, 1024, 192]⟩
abbrev S1x1024x192 : Shape := ⟨3, ![1, 1024, 192]⟩
abbrev S1024x192 : Shape := ⟨2, ![1024, 192]⟩

abbrev nBuf : Space → Nat
  | .hbm => 19
  | .vmem => 16
  | .smem => 0
  | _ => 0

abbrev bufTy : (tb : Table) → Fin (tcTables nBuf tb) → BufTy
  | .hbm, ⟨0, _⟩ => ⟨S8x1024x192, .f32⟩
  | .hbm, ⟨1, _⟩ => ⟨S8x1024x192, .f32⟩
  | .hbm, ⟨2, _⟩ => ⟨S2x1024x192, .f32⟩
  | .hbm, ⟨3, _⟩ => ⟨S2x1024x192, .f32⟩
  | .hbm, ⟨4, _⟩ => ⟨S2x1024x192, .f32⟩
  | .hbm, ⟨5, _⟩ => ⟨S2x1024x192, .f32⟩
  | .hbm, ⟨6, _⟩ => ⟨S2x1024x192, .f32⟩
  | .hbm, ⟨7, _⟩ => ⟨S2x1024x192, .f32⟩
  | .hbm, ⟨8, _⟩ => ⟨S2x1024x192, .f32⟩
  | .hbm, ⟨9, _⟩ => ⟨S8x1024x192, .bf16⟩
  | .hbm, ⟨10, _⟩ => ⟨S2x1024x192, .f32⟩
  | .hbm, ⟨11, _⟩ => ⟨S2x1024x192, .f32⟩
  | .hbm, ⟨12, _⟩ => ⟨S2x1024x192, .f32⟩
  | .hbm, ⟨13, _⟩ => ⟨S2x1024x192, .f32⟩
  | .hbm, ⟨14, _⟩ => ⟨S8x1024x192, .bf16⟩
  | .hbm, ⟨15, _⟩ => ⟨S2x1024x192, .f32⟩
  | .hbm, ⟨16, _⟩ => ⟨S2x1024x192, .f32⟩
  | .hbm, ⟨17, _⟩ => ⟨S2x1024x192, .f32⟩
  | .hbm, ⟨18, _⟩ => ⟨S2x1024x192, .f32⟩
  | .local _ .vmem, ⟨0, _⟩ => ⟨S8x1024x192, .bf16⟩
  | .local _ .vmem, ⟨1, _⟩ => ⟨S1x1024x192, .f32⟩
  | .local _ .vmem, ⟨2, _⟩ => ⟨S1x1024x192, .f32⟩
  | .local _ .vmem, ⟨3, _⟩ => ⟨S1x1024x192, .f32⟩
  | .local _ .vmem, ⟨4, _⟩ => ⟨S1x1024x192, .f32⟩
  | .local _ .vmem, ⟨5, _⟩ => ⟨S1x1024x192, .f32⟩
  | .local _ .vmem, ⟨6, _⟩ => ⟨S1x1024x192, .f32⟩
  | .local _ .vmem, ⟨7, _⟩ => ⟨S1x1024x192, .f32⟩
  | .local _ .vmem, ⟨8, _⟩ => ⟨S8x1024x192, .bf16⟩
  | .local _ .vmem, ⟨9, _⟩ => ⟨S1x1024x192, .f32⟩
  | .local _ .vmem, ⟨10, _⟩ => ⟨S1x1024x192, .f32⟩
  | .local _ .vmem, ⟨11, _⟩ => ⟨S1x1024x192, .f32⟩
  | .local _ .vmem, ⟨12, _⟩ => ⟨S1x1024x192, .f32⟩
  | .local _ .vmem, ⟨13, _⟩ => ⟨S1x1024x192, .f32⟩
  | .local _ .vmem, ⟨14, _⟩ => ⟨S1x1024x192, .f32⟩
  | .local _ .vmem, ⟨15, _⟩ => ⟨S1x1024x192, .f32⟩
  | _, _ => ⟨S8x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x1024x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S8x1024x192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x1024x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x1024x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x1024x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x1024x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x1024x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x1024x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== OptEvInIdeal.lean ====
abbrev S8x1024x192 : Shape := ⟨3, ![8, 1024, 192]⟩
abbrev S2x1024x192 : Shape := ⟨3, ![2, 1024, 192]⟩
abbrev S1x1024x192 : Shape := ⟨3, ![1, 1024, 192]⟩
abbrev S1024x192 : Shape := ⟨2, ![1024, 192]⟩

abbrev nBuf : Space → Nat
  | .hbm => 19
  | .vmem => 16
  | .smem => 0
  | _ => 0

abbrev bufTy : (tb : Table) → Fin (tcTables nBuf tb) → BufTy
  | .hbm, ⟨0, _⟩ => ⟨S8x1024x192, .f32⟩
  | .hbm, ⟨1, _⟩ => ⟨S8x1024x192, .f32⟩
  | .hbm, ⟨2, _⟩ => ⟨S2x1024x192, .f32⟩
  | .hbm, ⟨3, _⟩ => ⟨S2x1024x192, .f32⟩
  | .hbm, ⟨4, _⟩ => ⟨S2x1024x192, .f32⟩
  | .hbm, ⟨5, _⟩ => ⟨S2x1024x192, .f32⟩
  | .hbm, ⟨6, _⟩ => ⟨S2x1024x192, .f32⟩
  | .hbm, ⟨7, _⟩ => ⟨S2x1024x192, .f32⟩
  | .hbm, ⟨8, _⟩ => ⟨S2x1024x192, .f32⟩
  | .hbm, ⟨9, _⟩ => ⟨S8x1024x192, .bf16⟩
  | .hbm, ⟨10, _⟩ => ⟨S2x1024x192, .f32⟩
  | .hbm, ⟨11, _⟩ => ⟨S2x1024x192, .f32⟩
  | .hbm, ⟨12, _⟩ => ⟨S2x1024x192, .f32⟩
  | .hbm, ⟨13, _⟩ => ⟨S2x1024x192, .f32⟩
  | .hbm, ⟨14, _⟩ => ⟨S8x1024x192, .bf16⟩
  | .hbm, ⟨15, _⟩ => ⟨S2x1024x192, .f32⟩
  | .hbm, ⟨16, _⟩ => ⟨S2x1024x192, .f32⟩
  | .hbm, ⟨17, _⟩ => ⟨S2x1024x192, .f32⟩
  | .hbm, ⟨18, _⟩ => ⟨S2x1024x192, .f32⟩
  | .local _ .vmem, ⟨0, _⟩ => ⟨S8x1024x192, .bf16⟩
  | .local _ .vmem, ⟨1, _⟩ => ⟨S1x1024x192, .f32⟩
  | .local _ .vmem, ⟨2, _⟩ => ⟨S1x1024x192, .f32⟩
  | .local _ .vmem, ⟨3, _⟩ => ⟨S1x1024x192, .f32⟩
  | .local _ .vmem, ⟨4, _⟩ => ⟨S1x1024x192, .f32⟩
  | .local _ .vmem, ⟨5, _⟩ => ⟨S1x1024x192, .f32⟩
  | .local _ .vmem, ⟨6, _⟩ => ⟨S1x1024x192, .f32⟩
  | .local _ .vmem, ⟨7, _⟩ => ⟨S1x1024x192, .f32⟩
  | .local _ .vmem, ⟨8, _⟩ => ⟨S8x1024x192, .bf16⟩
  | .local _ .vmem, ⟨9, _⟩ => ⟨S1x1024x192, .f32⟩
  | .local _ .vmem, ⟨10, _⟩ => ⟨S1x1024x192, .f32⟩
  | .local _ .vmem, ⟨11, _⟩ => ⟨S1x1024x192, .f32⟩
  | .local _ .vmem, ⟨12, _⟩ => ⟨S1x1024x192, .f32⟩
  | .local _ .vmem, ⟨13, _⟩ => ⟨S1x1024x192, .f32⟩
  | .local _ .vmem, ⟨14, _⟩ => ⟨S1x1024x192, .f32⟩
  | .local _ .vmem, ⟨15, _⟩ => ⟨S1x1024x192, .f32⟩
  | _, _ => ⟨S8x1024x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x1024x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 1 → Memref sig .tc .vmem S8x1024x192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x1024x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x1024x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x1024x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x1024x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x1024x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x1024x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== OptEvInRefIdeal.lean ====
abbrev S8x1024x192 : Shape := ⟨3, ![8, 1024, 192]⟩
abbrev S2x1024x192 : Shape := ⟨3, ![2, 1024, 192]⟩
abbrev S_ : Shape := ⟨0, ![]⟩
abbrev S1024x192 : Shape := ⟨2, ![1024, 192]⟩
abbrev S1x1024x192 : Shape := ⟨3, ![1, 1024, 192]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x192, .f32⟩
  | .hbm, ⟨1, _⟩ => ⟨S8x1024x192, .f32⟩
  | .hbm, ⟨2, _⟩ => ⟨S2x1024x192, .f32⟩
  | .hbm, ⟨3, _⟩ => ⟨S2x1024x192, .f32⟩
  | .hbm, ⟨4, _⟩ => ⟨S2x1024x192, .f32⟩
  | .hbm, ⟨5, _⟩ => ⟨S2x1024x192, .f32⟩
  | .hbm, ⟨6, _⟩ => ⟨S2x1024x192, .f32⟩
  | .hbm, ⟨7, _⟩ => ⟨S2x1024x192, .f32⟩
  | .hbm, ⟨8, _⟩ => ⟨S2x1024x192, .f32⟩
  | .hbm, ⟨9, _⟩ => ⟨S_, .f32⟩
  | .hbm, ⟨10, _⟩ => ⟨S1024x192, .f32⟩
  | .hbm, ⟨11, _⟩ => ⟨S_, .f32⟩
  | .hbm, ⟨12, _⟩ => ⟨S1024x192, .f32⟩
  | .hbm, ⟨13, _⟩ => ⟨S1x1024x192, .f32⟩
  | .hbm, ⟨14, _⟩ => ⟨S1x1024x192, .f32⟩
  | .hbm, ⟨15, _⟩ => ⟨S2x1024x192, .f32⟩
  | .hbm, ⟨16, _⟩ => ⟨S_, .f32⟩
  | .hbm, ⟨17, _⟩ => ⟨S2x1024x192, .f32⟩
  | .hbm, ⟨18, _⟩ => ⟨S2x1024x192, .f32⟩
  | .hbm, ⟨19, _⟩ => ⟨S_, .f32⟩
  | .hbm, ⟨20, _⟩ => ⟨S2x1024x192, .f32⟩
  | .hbm, ⟨21, _⟩ => ⟨S2x1024x192, .f32⟩
  | .hbm, ⟨22, _⟩ => ⟨S2x1024x192, .f32⟩
  | .hbm, ⟨23, _⟩ => ⟨S_, .f32⟩
  | .hbm, ⟨24, _⟩ => ⟨S2x1024x192, .f32⟩
  | .hbm, ⟨25, _⟩ => ⟨S2x1024x192, .f32⟩
  | .hbm, ⟨26, _⟩ => ⟨S2x1024x192, .f32⟩
  | .hbm, ⟨27, _⟩ => ⟨S_, .f32⟩
  | .hbm, ⟨28, _⟩ => ⟨S2x1024x192, .f32⟩
  | .hbm, ⟨29, _⟩ => ⟨S2x1024x192, .f32⟩
  | .hbm, ⟨30, _⟩ => ⟨S2x1024x192, .f32⟩
  | .hbm, ⟨31, _⟩ => ⟨S_, .f32⟩
  | .hbm, ⟨32, _⟩ => ⟨S2x1024x192, .f32⟩
  | .hbm, ⟨33, _⟩ => ⟨S2x1024x192, .f32⟩
  | .hbm, ⟨34, _⟩ => ⟨S_, .f32⟩
  | .hbm, ⟨35, _⟩ => ⟨S2x1024x192, .f32⟩
  | .hbm, ⟨36, _⟩ => ⟨S2x1024x192, .f32⟩
  | .hbm, ⟨37, _⟩ => ⟨S2x1024x192, .f32⟩
  | .hbm, ⟨38, _⟩ => ⟨S_, .f32⟩
  | .hbm, ⟨39, _⟩ => ⟨S2x1024x192, .f32⟩
  | .hbm, ⟨40, _⟩ => ⟨S2x1024x192, .f32⟩
  | .hbm, ⟨41, _⟩ => ⟨S2x1024x192, .f32⟩
  | .hbm, ⟨42, _⟩ => ⟨S_, .f32⟩
  | .hbm, ⟨43, _⟩ => ⟨S2x1024x192, .f32⟩
  | .hbm, ⟨44, _⟩ => ⟨S2x1024x192, .f32⟩
  | .hbm, ⟨45, _⟩ => ⟨S2x1024x192, .f32⟩
  | .hbm, ⟨46, _⟩ => ⟨S_, .f32⟩
  | .hbm, ⟨47, _⟩ => ⟨S2x1024x192, .f32⟩
  | .hbm, ⟨48, _⟩ => ⟨S2x1024x192, .f32⟩
  | _, _ => ⟨S8x1024x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== OptOdIn.lean ====
abbrev S8x1024x512 : Shape := ⟨3, ![8, 1024, 512]⟩
abbrev S2x1024x512 : Shape := ⟨3, ![2, 1024, 512]⟩
abbrev S8x512x512 : Shape := ⟨3, ![8, 512, 512]⟩
abbrev S1x512x512 : Shape := ⟨3, ![1, 512, 512]⟩
abbrev S512x512 : Shape := ⟨2, ![512, 512]⟩

abbrev nBuf : Space → Nat
  | .hbm => 19
  | .vmem => 32
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S8x1024x512, .bf16⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S2x1024x512, .f32⟩
  | .hbm, ⟨14, _⟩ => ⟨S8x1024x512, .bf16⟩
  | .hbm, ⟨15, _⟩ => ⟨S2x1024x512, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .local _ .vmem, ⟨0, _⟩ => ⟨S8x512x512, .bf16⟩
  | .local _ .vmem, ⟨1, _⟩ => ⟨S8x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S8x512x512, .bf16⟩
  | .local _ .vmem, ⟨17, _⟩ => ⟨S8x512x512, .bf16⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== OptOdInRefIdeal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S_, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1x1024x512, .f32⟩
  | .hbm, ⟨14, _⟩ => ⟨S1x1024x512, .f32⟩
  | .hbm, ⟨15, _⟩ => ⟨S2x1024x512, .f32⟩
  | .hbm, ⟨16, _⟩ => ⟨S_, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S2x1024x512, .f32⟩
  | .hbm, ⟨23, _⟩ => ⟨S_, .f32⟩
  | .hbm, ⟨24, _⟩ => ⟨S2x1024x512, .f32⟩
  | .hbm, ⟨25, _⟩ => ⟨S2x1024x512, .f32⟩
  | .hbm, ⟨26, _⟩ => ⟨S2x1024x512, .f32⟩
  | .hbm, ⟨27, _⟩ => ⟨S_, .f32⟩
  | .hbm, ⟨28, _⟩ => ⟨S2x1024x512, .f32⟩
  | .hbm, ⟨29, _⟩ => ⟨S2x1024x512, .f32⟩
  | .hbm, ⟨30, _⟩ => ⟨S2x1024x512, .f32⟩
  | .hbm, ⟨31, _⟩ => ⟨S_, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2x1024x512, .f32⟩
  | .hbm, ⟨38, _⟩ => ⟨S_, .f32⟩
  | .hbm, ⟨39, _⟩ => ⟨S2x1024x512, .f32⟩
  | .hbm, ⟨40, _⟩ => ⟨S2x1024x512, .f32⟩
  | .hbm, ⟨41, _⟩ => ⟨S2x1024x512, .f32⟩
  | .hbm, ⟨42, _⟩ => ⟨S_, .f32⟩
  | .hbm, ⟨43, _⟩ => ⟨S2x1024x512, .f32⟩
  | .hbm, ⟨44, _⟩ => ⟨S2x1024x512, .f32⟩
  | .hbm, ⟨45, _⟩ => ⟨S2x1024x512, .f32⟩
  | .hbm, ⟨46, _⟩ => ⟨S_, .f32⟩
  | .hbm, ⟨47, _⟩ => ⟨S2x1024x512, .f32⟩
  | .hbm, ⟨48, _⟩ => ⟨S2x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== OptW1.lean ====
abbrev S8x1024x512 : Shape := ⟨3, ![8, 1024, 512]⟩
abbrev S4x1024x512 : Shape := ⟨3, ![4, 1024, 512]⟩
abbrev S8x512x512 : Shape := ⟨3, ![8, 512, 512]⟩
abbrev S1x512x512 : Shape := ⟨3, ![1, 512, 512]⟩
abbrev S512x512 : Shape := ⟨2, ![512, 512]⟩

abbrev nBuf : Space → Nat
  | .hbm => 31
  | .vmem => 64
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S8x1024x512, .f32⟩
  | .hbm, ⟨3, _⟩ => ⟨S8x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S8x1024x512, .bf16⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S4x1024x512, .f32⟩
  | .hbm, ⟨16, _⟩ => ⟨S8x1024x512, .bf16⟩
  | .hbm, ⟨17, _⟩ => ⟨S4x1024x512, .f32⟩
  | .hbm, ⟨18, _⟩ => ⟨S4x1024x512, .f32⟩
  | .hbm, ⟨19, _⟩ => ⟨S4x1024x512, .f32⟩
  | .hbm, ⟨20, _⟩ => ⟨S4x1024x512, .f32⟩
  | .hbm, ⟨21, _⟩ => ⟨S8x1024x512, .bf16⟩
  | .hbm, ⟨22, _⟩ => ⟨S4x1024x512, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S8x1024x512, .bf16⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .local _ .vmem, ⟨0, _⟩ => ⟨S8x512x512, .bf16⟩
  | .local _ .vmem, ⟨1, _⟩ => ⟨S8x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S8x512x512, .bf16⟩
  | .local _ .vmem, ⟨17, _⟩ => ⟨S8x512x512, .bf16⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x512, .f32⟩
  | .local _ .vmem, ⟨32, _⟩ => ⟨S8x512x512, .bf16⟩
  | .local _ .vmem, ⟨33, _⟩ => ⟨S8x512x512, .bf16⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | .local _ .vmem, ⟨41, _⟩ => ⟨S1x512x512, .f32⟩
  | .local _ .vmem, ⟨42, _⟩ => ⟨S1x512x512, .f32⟩
  | .local _ .vmem, ⟨43, _⟩ => ⟨S1x512x512, .f32⟩
  | .local _ .vmem, ⟨44, _⟩ => ⟨S1x512x512, .f32⟩
  | .local _ .vmem, ⟨45, _⟩ => ⟨S1x512x512, .f32⟩
  | .local _ .vmem, ⟨46, _⟩ => ⟨S1x512x512, .f32⟩
  | .local _ .vmem, ⟨47, _⟩ => ⟨S1x512x512, .f32⟩
  | .local _ .vmem, ⟨48, _⟩ => ⟨S8x512x512, .bf16⟩
  | .local _ .vmem, ⟨49, _⟩ => ⟨S8x512x512, .bf16⟩
  | .local _ .vmem, ⟨50, _⟩ => ⟨S1x512x512, .f32⟩
  | .local _ .vmem, ⟨51, _⟩ => ⟨S1x512x512, .f32⟩
  | .local _ .vmem, ⟨52, _⟩ => ⟨S1x512x512, .f32⟩
  | .local _ .vmem, ⟨53, _⟩ => ⟨S1x512x512, .f32⟩
  | .local _ .vmem, ⟨54, _⟩ => ⟨S1x512x512, .f32⟩
  | .local _ .vmem, ⟨55, _⟩ => ⟨S1x512x512, .f32⟩
  | .local _ .vmem, ⟨56, _⟩ => ⟨S1x512x512, .f32⟩
  | .local _ .vmem, ⟨57, _⟩ => ⟨S1x512x512, .f32⟩
  | .local _ .vmem, ⟨58, _⟩ => ⟨S1x512x512, .f32⟩
  | .local _ .vmem, ⟨59, _⟩ => ⟨S1x512x512, .f32⟩
  | .local _ .vmem, ⟨60, _⟩ => ⟨S1x512x512, .f32⟩
  | .local _ .vmem, ⟨61, _⟩ => ⟨S1x512x512, .f32⟩
  | .local _ .vmem, ⟨62, _⟩ => ⟨S1x512x512, .f32⟩
  | .local _ .vmem, ⟨63, _⟩ => ⟨S1x512x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_3 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_8 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_9 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_10 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_11 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage2_0 : Fin 2 → Memref sig .tc .vmem S8x512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_2 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_8 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_9 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_10 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_11 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage3_0 : Fin 2 → Memref sig .tc .vmem S8x512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x512x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x512x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== OptW1Ideal.lean ====
abbrev S8x1024x512 : Shape := ⟨3, ![8, 1024, 512]⟩
abbrev S4x1024x512 : Shape := ⟨3, ![4, 1024, 512]⟩
abbrev S8x512x512 : Shape := ⟨3, ![8, 512, 512]⟩
abbrev S1x512x512 : Shape := ⟨3, ![1, 512, 512]⟩
abbrev S512x512 : Shape := ⟨2, ![512, 512]⟩

abbrev nBuf : Space → Nat
  | .hbm => 31
  | .vmem => 64
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S8x1024x512, .f32⟩
  | .hbm, ⟨3, _⟩ => ⟨S8x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S8x1024x512, .bf16⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S4x1024x512, .f32⟩
  | .hbm, ⟨16, _⟩ => ⟨S8x1024x512, .bf16⟩
  | .hbm, ⟨17, _⟩ => ⟨S4x1024x512, .f32⟩
  | .hbm, ⟨18, _⟩ => ⟨S4x1024x512, .f32⟩
  | .hbm, ⟨19, _⟩ => ⟨S4x1024x512, .f32⟩
  | .hbm, ⟨20, _⟩ => ⟨S4x1024x512, .f32⟩
  | .hbm, ⟨21, _⟩ => ⟨S8x1024x512, .bf16⟩
  | .hbm, ⟨22, _⟩ => ⟨S4x1024x512, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S8x1024x512, .bf16⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .local _ .vmem, ⟨0, _⟩ => ⟨S8x512x512, .bf16⟩
  | .local _ .vmem, ⟨1, _⟩ => ⟨S8x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S8x512x512, .bf16⟩
  | .local _ .vmem, ⟨17, _⟩ => ⟨S8x512x512, .bf16⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x512, .f32⟩
  | .local _ .vmem, ⟨32, _⟩ => ⟨S8x512x512, .bf16⟩
  | .local _ .vmem, ⟨33, _⟩ => ⟨S8x512x512, .bf16⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | .local _ .vmem, ⟨41, _⟩ => ⟨S1x512x512, .f32⟩
  | .local _ .vmem, ⟨42, _⟩ => ⟨S1x512x512, .f32⟩
  | .local _ .vmem, ⟨43, _⟩ => ⟨S1x512x512, .f32⟩
  | .local _ .vmem, ⟨44, _⟩ => ⟨S1x512x512, .f32⟩
  | .local _ .vmem, ⟨45, _⟩ => ⟨S1x512x512, .f32⟩
  | .local _ .vmem, ⟨46, _⟩ => ⟨S1x512x512, .f32⟩
  | .local _ .vmem, ⟨47, _⟩ => ⟨S1x512x512, .f32⟩
  | .local _ .vmem, ⟨48, _⟩ => ⟨S8x512x512, .bf16⟩
  | .local _ .vmem, ⟨49, _⟩ => ⟨S8x512x512, .bf16⟩
  | .local _ .vmem, ⟨50, _⟩ => ⟨S1x512x512, .f32⟩
  | .local _ .vmem, ⟨51, _⟩ => ⟨S1x512x512, .f32⟩
  | .local _ .vmem, ⟨52, _⟩ => ⟨S1x512x512, .f32⟩
  | .local _ .vmem, ⟨53, _⟩ => ⟨S1x512x512, .f32⟩
  | .local _ .vmem, ⟨54, _⟩ => ⟨S1x512x512, .f32⟩
  | .local _ .vmem, ⟨55, _⟩ => ⟨S1x512x512, .f32⟩
  | .local _ .vmem, ⟨56, _⟩ => ⟨S1x512x512, .f32⟩
  | .local _ .vmem, ⟨57, _⟩ => ⟨S1x512x512, .f32⟩
  | .local _ .vmem, ⟨58, _⟩ => ⟨S1x512x512, .f32⟩
  | .local _ .vmem, ⟨59, _⟩ => ⟨S1x512x512, .f32⟩
  | .local _ .vmem, ⟨60, _⟩ => ⟨S1x512x512, .f32⟩
  | .local _ .vmem, ⟨61, _⟩ => ⟨S1x512x512, .f32⟩
  | .local _ .vmem, ⟨62, _⟩ => ⟨S1x512x512, .f32⟩
  | .local _ .vmem, ⟨63, _⟩ => ⟨S1x512x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_3 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_8 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_9 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_10 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_11 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage2_0 : Fin 2 → Memref sig .tc .vmem S8x512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_2 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_8 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_9 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_10 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_11 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage3_0 : Fin 2 → Memref sig .tc .vmem S8x512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x512x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x512x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== OptW1RefIdeal.lean ====
abbrev S8x1024x512 : Shape := ⟨3, ![8, 1024, 512]⟩
abbrev S4x1024x512 : Shape := ⟨3, ![4, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S8x1024x512, .f32⟩
  | .hbm, ⟨3, _⟩ => ⟨S8x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S4x1024x512, .f32⟩
  | .hbm, ⟨24, _⟩ => ⟨S_, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .hbm, ⟨31, _⟩ => ⟨S_, .f32⟩
  | .hbm, ⟨32, _⟩ => ⟨S4x1024x512, .f32⟩
  | .hbm, ⟨33, _⟩ => ⟨S4x1024x512, .f32⟩
  | .hbm, ⟨34, _⟩ => ⟨S4x1024x512, .f32⟩
  | .hbm, ⟨35, _⟩ => ⟨S_, .f32⟩
  | .hbm, ⟨36, _⟩ => ⟨S4x1024x512, .f32⟩
  | .hbm, ⟨37, _⟩ => ⟨S4x1024x512, .f32⟩
  | .hbm, ⟨38, _⟩ => ⟨S4x1024x512, .f32⟩
  | .hbm, ⟨39, _⟩ => ⟨S_, .f32⟩
  | .hbm, ⟨40, _⟩ => ⟨S4x1024x512, .f32⟩
  | .hbm, ⟨41, _⟩ => ⟨S4x1024x512, .f32⟩
  | .hbm, ⟨42, _⟩ => ⟨S_, .f32⟩
  | .hbm, ⟨43, _⟩ => ⟨S4x1024x512, .f32⟩
  | .hbm, ⟨44, _⟩ => ⟨S4x1024x512, .f32⟩
  | .hbm, ⟨45, _⟩ => ⟨S4x1024x512, .f32⟩
  | .hbm, ⟨46, _⟩ => ⟨S_, .f32⟩
  | .hbm, ⟨47, _⟩ => ⟨S4x1024x512, .f32⟩
  | .hbm, ⟨48, _⟩ => ⟨S4x1024x512, .f32⟩
  | .hbm, ⟨49, _⟩ => ⟨S4x1024x512, .f32⟩
  | .hbm, ⟨50, _⟩ => ⟨S_, .f32⟩
  | .hbm, ⟨51, _⟩ => ⟨S4x1024x512, .f32⟩
  | .hbm, ⟨52, _⟩ => ⟨S4x1024x512, .f32⟩
  | .hbm, ⟨53, _⟩ => ⟨S4x1024x512, .f32⟩
  | .hbm, ⟨54, _⟩ => ⟨S_, .f32⟩
  | .hbm, ⟨55, _⟩ => ⟨S4x1024x512, .f32⟩
  | .hbm, ⟨56, _⟩ => ⟨S4x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_7 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_10 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_11 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== OptW2.lean ====
abbrev S8x512x1024 : Shape := ⟨3, ![8, 512, 1024]⟩
abbrev S4x512x1024 : Shape := ⟨3, ![4, 512, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 31
  | .vmem => 64
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S8x512x1024, .f32⟩
  | .hbm, ⟨3, _⟩ => ⟨S8x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S8x512x1024, .bf16⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S4x512x1024, .f32⟩
  | .hbm, ⟨16, _⟩ => ⟨S8x512x1024, .bf16⟩
  | .hbm, ⟨17, _⟩ => ⟨S4x512x1024, .f32⟩
  | .hbm, ⟨18, _⟩ => ⟨S4x512x1024, .f32⟩
  | .hbm, ⟨19, _⟩ => ⟨S4x512x1024, .f32⟩
  | .hbm, ⟨20, _⟩ => ⟨S4x512x1024, .f32⟩
  | .hbm, ⟨21, _⟩ => ⟨S8x512x1024, .bf16⟩
  | .hbm, ⟨22, _⟩ => ⟨S4x512x1024, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S8x512x1024, .bf16⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S4x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S8x256x1024, .bf16⟩
  | .local _ .vmem, ⟨17, _⟩ => ⟨S8x256x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S8x256x1024, .bf16⟩
  | .local _ .vmem, ⟨33, _⟩ => ⟨S8x256x1024, .bf16⟩
  | .local _ .vmem, ⟨34, _⟩ => ⟨S1x256x1024, .f32⟩
  | .local _ .vmem, ⟨35, _⟩ => ⟨S1x256x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | .local _ .vmem, ⟨39, _⟩ => ⟨S1x256x1024, .f32⟩
  | .local _ .vmem, ⟨40, _⟩ => ⟨S1x256x1024, .f32⟩
  | .local _ .vmem, ⟨41, _⟩ => ⟨S1x256x1024, .f32⟩
  | .local _ .vmem, ⟨42, _⟩ => ⟨S1x256x1024, .f32⟩
  | .local _ .vmem, ⟨43, _⟩ => ⟨S1x256x1024, .f32⟩
  | .local _ .vmem, ⟨44, _⟩ => ⟨S1x256x1024, .f32⟩
  | .local _ .vmem, ⟨45, _⟩ => ⟨S1x256x1024, .f32⟩
  | .local _ .vmem, ⟨46, _⟩ => ⟨S1x256x1024, .f32⟩
  | .local _ .vmem, ⟨47, _⟩ => ⟨S1x256x1024, .f32⟩
  | .local _ .vmem, ⟨48, _⟩ => ⟨S8x256x1024, .bf16⟩
  | .local _ .vmem, ⟨49, _⟩ => ⟨S8x256x1024, .bf16⟩
  | .local _ .vmem, ⟨50, _⟩ => ⟨S1x256x1024, .f32⟩
  | .local _ .vmem, ⟨51, _⟩ => ⟨S1x256x1024, .f32⟩
  | .local _ .vmem, ⟨52, _⟩ => ⟨S1x256x1024, .f32⟩
  | .local _ .vmem, ⟨53, _⟩ => ⟨S1x256x1024, .f32⟩
  | .local _ .vmem, ⟨54, _⟩ => ⟨S1x256x1024, .f32⟩
  | .local _ .vmem, ⟨55, _⟩ => ⟨S1x256x1024, .f32⟩
  | .local _ .vmem, ⟨56, _⟩ => ⟨S1x256x1024, .f32⟩
  | .local _ .vmem, ⟨57, _⟩ => ⟨S1x256x1024, .f32⟩
  | .local _ .vmem, ⟨58, _⟩ => ⟨S1x256x1024, .f32⟩
  | .local _ .vmem, ⟨59, _⟩ => ⟨S1x256x1024, .f32⟩
  | .local _ .vmem, ⟨60, _⟩ => ⟨S1x256x1024, .f32⟩
  | .local _ .vmem, ⟨61, _⟩ => ⟨S1x256x1024, .f32⟩
  | .local _ .vmem, ⟨62, _⟩ => ⟨S1x256x1024, .f32⟩
  | .local _ .vmem, ⟨63, _⟩ => ⟨S1x256x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v7_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_3 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_8 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_9 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_10 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_11 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage2_0 : Fin 2 → Memref sig .tc .vmem S8x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_2 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_8 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_9 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_10 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_11 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage3_0 : Fin 2 → Memref sig .tc .vmem S8x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== OptW2RefIdeal.lean ====
abbrev S8x512x1024 : Shape := ⟨3, ![8, 512, 1024]⟩
abbrev S4x512x1024 : Shape := ⟨3, ![4, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S8x512x1024, .f32⟩
  | .hbm, ⟨3, _⟩ => ⟨S8x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S4x512x1024, .f32⟩
  | .hbm, ⟨24, _⟩ => ⟨S_, .f32⟩
  | .hbm, ⟨25, _⟩ => ⟨S4x512x1024, .f32⟩
  | .hbm, ⟨26, _⟩ => ⟨S4x512x1024, .f32⟩
  | .hbm, ⟨27, _⟩ => ⟨S_, .f32⟩
  | .hbm, ⟨28, _⟩ => ⟨S4x512x1024, .f32⟩
  | .hbm, ⟨29, _⟩ => ⟨S4x512x1024, .f32⟩
  | .hbm, ⟨30, _⟩ => ⟨S4x512x1024, .f32⟩
  | .hbm, ⟨31, _⟩ => ⟨S_, .f32⟩
  | .hbm, ⟨32, _⟩ => ⟨S4x512x1024, .f32⟩
  | .hbm, ⟨33, _⟩ => ⟨S4x512x1024, .f32⟩
  | .hbm, ⟨34, _⟩ => ⟨S4x512x1024, .f32⟩
  | .hbm, ⟨35, _⟩ => ⟨S_, .f32⟩
  | .hbm, ⟨36, _⟩ => ⟨S4x512x1024, .f32⟩
  | .hbm, ⟨37, _⟩ => ⟨S4x512x1024, .f32⟩
  | .hbm, ⟨38, _⟩ => ⟨S4x512x1024, .f32⟩
  | .hbm, ⟨39, _⟩ => ⟨S_, .f32⟩
  | .hbm, ⟨40, _⟩ => ⟨S4x512x1024, .f32⟩
  | .hbm, ⟨41, _⟩ => ⟨S4x512x1024, .f32⟩
  | .hbm, ⟨42, _⟩ => ⟨S_, .f32⟩
  | .hbm, ⟨43, _⟩ => ⟨S4x512x1024, .f32⟩
  | .hbm, ⟨44, _⟩ => ⟨S4x512x1024, .f32⟩
  | .hbm, ⟨45, _⟩ => ⟨S4x512x1024, .f32⟩
  | .hbm, ⟨46, _⟩ => ⟨S_, .f32⟩
  | .hbm, ⟨47, _⟩ => ⟨S4x512x1024, .f32⟩
  | .hbm, ⟨48, _⟩ => ⟨S4x512x1024, .f32⟩
  | .hbm, ⟨49, _⟩ => ⟨S4x512x1024, .f32⟩
  | .hbm, ⟨50, _⟩ => ⟨S_, .f32⟩
  | .hbm, ⟨51, _⟩ => ⟨S4x512x1024, .f32⟩
  | .hbm, ⟨52, _⟩ => ⟨S4x512x1024, .f32⟩
  | .hbm, ⟨53, _⟩ => ⟨S4x512x1024, .f32⟩
  | .hbm, ⟨54, _⟩ => ⟨S_, .f32⟩
  | .hbm, ⟨55, _⟩ => ⟨S4x512x1024, .f32⟩
  | .hbm, ⟨56, _⟩ => ⟨S4x512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_7 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_10 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_11 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== OptSmall.lean ====
abbrev S8x216x1024 : Shape := ⟨3, ![8, 216, 1024]⟩
abbrev S1x216x1024 : Shape := ⟨3, ![1, 216, 1024]⟩
abbrev S216x1024 : Shape := ⟨2, ![216, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x216x1024, .f32⟩
  | .hbm, ⟨1, _⟩ => ⟨S1x216x1024, .f32⟩
  | .hbm, ⟨2, _⟩ => ⟨S1x216x1024, .f32⟩
  | .hbm, ⟨3, _⟩ => ⟨S1x216x1024, .f32⟩
  | .hbm, ⟨4, _⟩ => ⟨S1x216x1024, .f32⟩
  | .hbm, ⟨5, _⟩ => ⟨S1x216x1024, .f32⟩
  | .hbm, ⟨6, _⟩ => ⟨S1x216x1024, .f32⟩
  | .hbm, ⟨7, _⟩ => ⟨S1x216x1024, .f32⟩
  | .hbm, ⟨8, _⟩ => ⟨S1x216x1024, .f32⟩
  | .hbm, ⟨9, _⟩ => ⟨S1x216x1024, .f32⟩
  | .hbm, ⟨10, _⟩ => ⟨S1x216x1024, .f32⟩
  | .hbm, ⟨11, _⟩ => ⟨S1x216x1024, .f32⟩
  | .local _ .vmem, ⟨0, _⟩ => ⟨S8x216x1024, .f32⟩
  | .local _ .vmem, ⟨1, _⟩ => ⟨S1x216x1024, .f32⟩
  | .local _ .vmem, ⟨2, _⟩ => ⟨S1x216x1024, .f32⟩
  | .local _ .vmem, ⟨3, _⟩ => ⟨S1x216x1024, .f32⟩
  | .local _ .vmem, ⟨4, _⟩ => ⟨S1x216x1024, .f32⟩
  | .local _ .vmem, ⟨5, _⟩ => ⟨S1x216x1024, .f32⟩
  | .local _ .vmem, ⟨6, _⟩ => ⟨S1x216x1024, .f32⟩
  | .local _ .vmem, ⟨7, _⟩ => ⟨S1x216x1024, .f32⟩
  | _, _ => ⟨S8x216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x216x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x216x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x216x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x216x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x216x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x216x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x216x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x216x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptSmallRefIdeal.lean ====
abbrev S8x216x1024 : Shape := ⟨3, ![8, 216, 1024]⟩
abbrev S1x216x1024 : Shape := ⟨3, ![1, 216, 1024]⟩
abbrev S_ : Shape := ⟨0, ![]⟩
abbrev S216x1024 : Shape := ⟨2, ![216, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x216x1024, .f32⟩
  | .hbm, ⟨1, _⟩ => ⟨S1x216x1024, .f32⟩
  | .hbm, ⟨2, _⟩ => ⟨S1x216x1024, .f32⟩
  | .hbm, ⟨3, _⟩ => ⟨S1x216x1024, .f32⟩
  | .hbm, ⟨4, _⟩ => ⟨S1x216x1024, .f32⟩
  | .hbm, ⟨5, _⟩ => ⟨S1x216x1024, .f32⟩
  | .hbm, ⟨6, _⟩ => ⟨S1x216x1024, .f32⟩
  | .hbm, ⟨7, _⟩ => ⟨S1x216x1024, .f32⟩
  | .hbm, ⟨8, _⟩ => ⟨S_, .f32⟩
  | .hbm, ⟨9, _⟩ => ⟨S216x1024, .f32⟩
  | .hbm, ⟨10, _⟩ => ⟨S1x216x1024, .f32⟩
  | .hbm, ⟨11, _⟩ => ⟨S_, .f32⟩
  | .hbm, ⟨12, _⟩ => ⟨S1x216x1024, .f32⟩
  | .hbm, ⟨13, _⟩ => ⟨S1x216x1024, .f32⟩
  | .hbm, ⟨14, _⟩ => ⟨S_, .f32⟩
  | .hbm, ⟨15, _⟩ => ⟨S1x216x1024, .f32⟩
  | .hbm, ⟨16, _⟩ => ⟨S1x216x1024, .f32⟩
  | .hbm, ⟨17, _⟩ => ⟨S1x216x1024, .f32⟩
  | .hbm, ⟨18, _⟩ => ⟨S_, .f32⟩
  | .hbm, ⟨19, _⟩ => ⟨S1x216x1024, .f32⟩
  | .hbm, ⟨20, _⟩ => ⟨S1x216x1024, .f32⟩
  | .hbm, ⟨21, _⟩ => ⟨S1x216x1024, .f32⟩
  | .hbm, ⟨22, _⟩ => ⟨S_, .f32⟩
  | .hbm, ⟨23, _⟩ => ⟨S1x216x1024, .f32⟩
  | .hbm, ⟨24, _⟩ => ⟨S1x216x1024, .f32⟩
  | .hbm, ⟨25, _⟩ => ⟨S1x216x1024, .f32⟩
  | .hbm, ⟨26, _⟩ => ⟨S_, .f32⟩
  | .hbm, ⟨27, _⟩ => ⟨S1x216x1024, .f32⟩
  | .hbm, ⟨28, _⟩ => ⟨S1x216x1024, .f32⟩
  | .hbm, ⟨29, _⟩ => ⟨S_, .f32⟩
  | .hbm, ⟨30, _⟩ => ⟨S1x216x1024, .f32⟩
  | .hbm, ⟨31, _⟩ => ⟨S1x216x1024, .f32⟩
  | .hbm, ⟨32, _⟩ => ⟨S1x216x1024, .f32⟩
  | .hbm, ⟨33, _⟩ => ⟨S_, .f32⟩
  | .hbm, ⟨34, _⟩ => ⟨S1x216x1024, .f32⟩
  | .hbm, ⟨35, _⟩ => ⟨S1x216x1024, .f32⟩
  | .hbm, ⟨36, _⟩ => ⟨S1x216x1024, .f32⟩
  | .hbm, ⟨37, _⟩ => ⟨S_, .f32⟩
  | .hbm, ⟨38, _⟩ => ⟨S1x216x1024, .f32⟩
  | .hbm, ⟨39, _⟩ => ⟨S1x216x1024, .f32⟩
  | .hbm, ⟨40, _⟩ => ⟨S1x216x1024, .f32⟩
  | .hbm, ⟨41, _⟩ => ⟨S_, .f32⟩
  | .hbm, ⟨42, _⟩ => ⟨S1x216x1024, .f32⟩
  | .hbm, ⟨43, _⟩ => ⟨S1x216x1024, .f32⟩
  | _, _ => ⟨S8x216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Loss.lean ====
abbrev S4112x1024 : Shape := ⟨2, ![4112, 1024]⟩
abbrev S1024 : Shape := ⟨1, ![1024]⟩
abbrev S4096x1024 : Shape := ⟨2, ![4096, 1024]⟩
abbrev S_ : Shape := ⟨0, ![]⟩
abbrev S48x1024 : Shape := ⟨2, ![48, 1024]⟩
abbrev S4160x1024 : Shape := ⟨2, ![4160, 1024]⟩
abbrev S1x1024 : Shape := ⟨2, ![1, 1024]⟩
abbrev S8x128 : Shape := ⟨2, ![8, 128]⟩
abbrev S1040x1024 : Shape := ⟨2, ![1040, 1024]⟩
abbrev S1040 : Shape := ⟨1, ![1040]⟩
abbrev S1040x1 : Shape := ⟨2, ![1040, 1]⟩
abbrev S1x1040x1 : Shape := ⟨3, ![1, 1040, 1]⟩
abbrev S1 : Shape := ⟨1, ![1]⟩
abbrev S1x1x1 : Shape := ⟨3, ![1, 1, 1]⟩

abbrev nBuf : Space → Nat
  | .hbm => 14
  | .vmem => 11
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S48x1024, .f32⟩
  | .hbm, ⟨5, _⟩ => ⟨S4160x1024, .f32⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S4160x1024, .f32⟩
  | .hbm, ⟨10, _⟩ => ⟨S8x128, .f32⟩
  | .hbm, ⟨11, _⟩ => ⟨S4160x1024, .f32⟩
  | .hbm, ⟨12, _⟩ => ⟨S4160x1024, .bf16⟩
  | .hbm, ⟨13, _⟩ => ⟨S1x1024, .f32⟩
  | .local _ .vmem, ⟨0, _⟩ => ⟨S1040x1024, .f32⟩
  | .local _ .vmem, ⟨1, _⟩ => ⟨S1040x1024, .f32⟩
  | .local _ .vmem, ⟨2, _⟩ => ⟨S1x1024, .f32⟩
  | .local _ .vmem, ⟨3, _⟩ => ⟨S1040x1024, .f32⟩
  | .local _ .vmem, ⟨4, _⟩ => ⟨S1040x1024, .f32⟩
  | .local _ .vmem, ⟨5, _⟩ => ⟨S8x128, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .bf16⟩
  | .local _ .vmem, ⟨9, _⟩ => ⟨S1040x1024, .bf16⟩
  | .local _ .vmem, ⟨10, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1040x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4112x1024 : Shape := ⟨2, ![4112, 1024]⟩
abbrev S1024 : Shape := ⟨1, ![1024]⟩
abbrev S4096x1024 : Shape := ⟨2, ![4096, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4096 : Shape := ⟨1, ![4096]⟩
abbrev S8x128 : Shape := ⟨2, ![8, 128]⟩
abbrev S48x1024 : Shape := ⟨2, ![48, 1024]⟩
abbrev S4160x1024 : Shape := ⟨2, ![4160, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S4096x1024, .f32⟩
  | .hbm, ⟨3, _⟩ => ⟨S4112x1024, .f32⟩
  | .hbm, ⟨4, _⟩ => ⟨S_, .f32⟩
  | .hbm, ⟨5, _⟩ => ⟨S4112, .f32⟩
  | .hbm, ⟨6, _⟩ => ⟨S4112x1, .f32⟩
  | .hbm, ⟨7, _⟩ => ⟨S_, .f32⟩
  | .hbm, ⟨8, _⟩ => ⟨S4112x1, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S4112x1024, .f32⟩
  | .hbm, ⟨19, _⟩ => ⟨S4112x1024, .f32⟩
  | .hbm, ⟨20, _⟩ => ⟨S1x1024, .f32⟩
  | .hbm, ⟨21, _⟩ => ⟨S4112x1024, .f32⟩
  | .hbm, ⟨22, _⟩ => ⟨S4112x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4112x1024, .f32⟩
  | .hbm, ⟨49, _⟩ => ⟨S4112x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4112x1024, .f32⟩
  | .hbm, ⟨54, _⟩ => ⟨S4112x1024, .f32⟩
  | .hbm, ⟨55, _⟩ => ⟨S_, .f32⟩
  | .hbm, ⟨56, _⟩ => ⟨S1024, .f32⟩
  | .hbm, ⟨57, _⟩ => ⟨S4112x1024, .f32⟩
  | .hbm, ⟨58, _⟩ => ⟨S_, .f32⟩
  | .hbm, ⟨59, _⟩ => ⟨S4112, .f32⟩
  | .hbm, ⟨60, _⟩ => ⟨S4112x1, .f32⟩
  | .hbm, ⟨61, _⟩ => ⟨S4112x1024, .f32⟩
  | .hbm, ⟨62, _⟩ => ⟨S4112x1024, .f32⟩
  | .hbm, ⟨63, _⟩ => ⟨S4112x1, .f32⟩
  | .hbm, ⟨64, _⟩ => ⟨S_, .f32⟩
  | .hbm, ⟨65, _⟩ => ⟨S4112x1, .f32⟩
  | .hbm, ⟨66, _⟩ => ⟨S4112x1, .f32⟩
  | .hbm, ⟨67, _⟩ => ⟨S_, .f32⟩
  | .hbm, ⟨68, _⟩ => ⟨S4112, .f32⟩
  | .hbm, ⟨69, _⟩ => ⟨S4112x1024, .f32⟩
  | .hbm, ⟨70, _⟩ => ⟨S4112x1024, .f32⟩
  | .hbm, ⟨71, _⟩ => ⟨S4112x1024, .f32⟩
  | .hbm, ⟨72, _⟩ => ⟨S4112x1024, .f32⟩
  | .hbm, ⟨73, _⟩ => ⟨S4112x1024, .f32⟩
  | .hbm, ⟨74, _⟩ => ⟨S8x128, .f32⟩
  | .hbm, ⟨75, _⟩ => ⟨S_, .f32⟩
  | .hbm, ⟨76, _⟩ => ⟨S48x1024, .f32⟩
  | .hbm, ⟨77, _⟩ => ⟨S4160x1024, .f32⟩
  | .hbm, ⟨78, _⟩ => ⟨S_, .f32⟩
  | .hbm, ⟨79, _⟩ => ⟨S48x1024, .f32⟩
  | .hbm, ⟨80, _⟩ => ⟨S4160x1024, .f32⟩
  | .hbm, ⟨81, _⟩ => ⟨S4160x1024, .bf16⟩
  | .hbm, ⟨82, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== LbFwd.lean ====
abbrev S4x1024 : Shape := ⟨2, ![4, 1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .local _ .vmem, ⟨0, _⟩ => ⟨S4x1024, .f32⟩
  | .local _ .vmem, ⟨1, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbFwdRefIdeal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩
abbrev S4x4 : Shape := ⟨2, ![4, 4]⟩
abbrev S4x4x1 : Shape := ⟨3, ![4, 4, 1]⟩
abbrev S1x4x1024 : Shape := ⟨3, ![1, 4, 1024]⟩
abbrev S4x4x1024 : Shape := ⟨3, ![4, 4, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S4x1024, .f32⟩
  | .hbm, ⟨14, _⟩ => ⟨S4x1024, .f32⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4x4, .i32⟩
  | .hbm, ⟨19, _⟩ => ⟨S4x4, .i1⟩
  | .hbm, ⟨20, _⟩ => ⟨S4x4, .i1⟩
  | .hbm, ⟨21, _⟩ => ⟨S4x4, .i1⟩
  | .hbm, ⟨22, _⟩ => ⟨S4x4x1, .i1⟩
  | .hbm, ⟨23, _⟩ => ⟨S1x4x1024, .f32⟩
  | .hbm, ⟨24, _⟩ => ⟨S_, .f32⟩
  | .hbm, ⟨25, _⟩ => ⟨S_, .f32⟩
  | .hbm, ⟨26, _⟩ => ⟨S4x4x1024, .i1⟩
  | .hbm, ⟨27, _⟩ => ⟨S4x4x1024, .f32⟩
  | .hbm, ⟨28, _⟩ => ⟨S4x4x1024, .f32⟩
  | .hbm, ⟨29, _⟩ => ⟨S4x4x1024, .f32⟩
  | .hbm, ⟨30, _⟩ => ⟨S_, .f32⟩
  | .hbm, ⟨31, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== LbBwd.lean ====
abbrev S4x1024 : Shape := ⟨2, ![4, 1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbBwdRefIdeal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩
abbrev S4x4 : Shape := ⟨2, ![4, 4]⟩
abbrev S4x4x1 : Shape := ⟨3, ![4, 4, 1]⟩
abbrev S4x1x1024 : Shape := ⟨3, ![4, 1, 1024]⟩
abbrev S4x4x1024 : Shape := ⟨3, ![4, 4, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S4x1024, .f32⟩
  | .hbm, ⟨15, _⟩ => ⟨S4x1024, .f32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i1⟩
  | .hbm, ⟨21, _⟩ => ⟨S4x4, .i1⟩
  | .hbm, ⟨22, _⟩ => ⟨S4x4, .i1⟩
  | .hbm, ⟨23, _⟩ => ⟨S4x4x1, .i1⟩
  | .hbm, ⟨24, _⟩ => ⟨S4x1x1024, .f32⟩
  | .hbm, ⟨25, _⟩ => ⟨S_, .f32⟩
  | .hbm, ⟨26, _⟩ => ⟨S_, .f32⟩
  | .hbm, ⟨27, _⟩ => ⟨S4x4x1024, .i1⟩
  | .hbm, ⟨28, _⟩ => ⟨S4x4x1024, .f32⟩
  | .hbm, ⟨29, _⟩ => ⟨S4x4x1024, .f32⟩
  | .hbm, ⟨30, _⟩ => ⟨S4x4x1024, .f32⟩
  | .hbm, ⟨31, _⟩ => ⟨S_, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4x1024, .f32⟩
  | .hbm, ⟨38, _⟩ => ⟨S4x1024, .f32⟩
  | .hbm, ⟨39, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.PoolRun.lean ====
/-
The pooled columns of the gradient of `u`: what the backward kernel leaves in them, at any interpretation of the floats.
The second loop leaves, 32 rows a trip, the gradient of the pooled values (`D28`) and the same divided by the number of rows
averaged (`D27`); the next 32 rows of the latter are computed after the loop from the rows of the next chunk; the last loop
adds up the rows of `D27` and takes away the row of `D28`. The body is run once more with this known of the three buffers
and nothing known of the others.
-/
module

public import proofs.«01_k».proof.Proof.Gen.Kernel.Frame
public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.WritesUnit
public import Idealize.ShloMosaic.Lib.VecWindow
public import Idealize.ShloMosaic.Lib.Pointwise.Index

@[expose] public section

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Positions -/

theorem row_lt (y : S32x128.Idx) : (y 0).val < 32 := (y 0).isLt
theorem col_lt (y : S32x128.Idx) : (y 1).val < 128 := (y 1).isLt

/-- Row `32k + r` and column `128g + b` of the quotients. -/
def at27 (k : Fin 13) (g : Fin 4) (y : S32x128.Idx) : S448x512.Idx :=
  ix2 (n0 := 448) (n1 := 512) ⟨32 * k.val + (y 0).val, by have := row_lt y; omega⟩ ⟨128 * g.val + (y 1).val, by have := col_lt y; omega⟩

/-- Row `416 + r` and column `128g + b` of the quotients. -/
def tail27 (g : Fin 4) (y : S32x128.Idx) : S448x512.Idx :=
  ix2 (n0 := 448) (n1 := 512) ⟨416 + (y 0).val, by have := row_lt y; omega⟩ ⟨128 * g.val + (y 1).val, by have := col_lt y; omega⟩

/-- Row `32k + r` and column `128g + b` of the gradients of the pooled values. -/
def at28 (k : Fin 13) (g : Fin 4) (y : S32x128.Idx) : S416x512.Idx :=
  ix2 (n0 := 416) (n1 := 512) ⟨32 * k.val + (y 0).val, by have := row_lt y; omega⟩ ⟨128 * g.val + (y 1).val, by have := col_lt y; omega⟩

/-- Row `32k + r` and column `1024 + 128g + b` of the gradient of `u`. -/
def at20 (k : Fin 13) (g : Fin 4) (y : S32x128.Idx) : S416x1536.Idx :=
  ix2 (n0 := 416) (n1 := 1536) ⟨32 * k.val + (y 0).val, by have := row_lt y; omega⟩ ⟨1024 + 128 * g.val + (y 1).val, by have := col_lt y; omega⟩

/-! ## What the buffers are given -/

/-- Rows `32k …` of a chunk. -/
def rows (X : Vec F S416x512 .f32) (k : Fin 13) : Vec F S32x512 .f32 := fun y =>
  X (ix2 (n0 := 416) (n1 := 512) ⟨32 * k.val + (y 0).val, by have h : (y 0).val < 32 := (y 0).isLt; omega⟩ (y 1))

/-- The matrix of group `g`. -/
def wt (X : Vec F S4x128x128 .bf16) (g : Fin 4) : Vec F S1x128x128 .bf16 := fun y => X (ix3 (n0 := 4) (n1 := 128) (n2 := 128) g (y 1) (y 2))

/-- Rows `32k … 32k + 63` of the quotients. -/
def rows64 (D : Vec F S448x512 .f32) (k : Fin 13) : Vec F S64x512 .f32 := fun y =>
  D (ix2 (n0 := 448) (n1 := 512) ⟨32 * k.val + (y 0).val, by have h : (y 0).val < 64 := (y 0).isLt; omega⟩ (y 1))

/-- The block of the gradients of the pooled values at trip `k` and group `g`. -/
def blk28 (D : Vec F S416x512 .f32) (k : Fin 13) (g : Fin 4) : Vec F S32x128 .f32 := fun y => D (at28 k g y)

/-- The first row of trip `k`, as the kernel computes it. -/
def word (k : Fin 13) : BitVec 32 := Scalar.muli (BitVec.ofNat 32 k.val) 32#32

/-- The quotients of trip `k`. -/
def cell27 (a : BitVec 32) (X2 : Vec F S416x512 .f32) (X19 : Vec F S1x512 .f32) (X17 : Vec F S4x128x128 .bf16) (k : Fin 13) : Fin 4 → FVec F S32x128 .f32
  | 0 => k0_pay23 a (word k) (rows X2 k) X19 (wt X17 0)
  | 1 => k0_pay26 a (word k) (k0_pay21 (rows X2 k) X19) (wt X17 1)
  | 2 => k0_pay30 (k0_pay28 (k0_pay21 (rows X2 k) X19) (wt X17 2)) (k0_pay29 a (word k)) 48#32
  | 3 => k0_pay146 (k0_pay33 a (word k) (k0_pay21 (rows X2 k) X19) (wt X17 3))

/-- The gradients of the pooled values of trip `k`. -/
def cell28 (X2 : Vec F S416x512 .f32) (X19 : Vec F S1x512 .f32) (X17 : Vec F S4x128x128 .bf16) (k : Fin 13) : Fin 4 → FVec F S32x128 .f32
  | 0 => k0_pay24 (k0_pay22 (rows X2 k) X19 (wt X17 0))
  | 1 => k0_pay27 (k0_pay21 (rows X2 k) X19) (wt X17 1)
  | 2 => k0_pay31 (k0_pay28 (k0_pay21 (rows X2 k) X19) (wt X17 2))
  | 3 => k0_pay147 (k0_pay32 (k0_pay21 (rows X2 k) X19) (wt X17 3))

/-- The quotients of the next chunk's rows. -/
def cellT (a : BitVec 32) (v5 : F .f32) (X4 : Vec F S32x512 .f32) (X19 : Vec F S1x512 .f32) (X17 : Vec F S4x128x128 .bf16) : Fin 4 → FVec F S32x128 .f32
  | 0 => k0_pay158 (k0_pay156 v5 X4 X19 (wt X17 0)) (k0_pay157 a)
  | 1 => k0_pay159 a (k0_pay155 v5 X4 X19) (wt X17 1)
  | 2 => k0_pay161 (k0_pay160 (k0_pay155 v5 X4 X19) (wt X17 2)) (Scalar.addi (Scalar.muli a 416#32) 416#32) (iota .tc S32x1 32 [0] iota_S32x1_d0_w32)
  | 3 => k0_pay162 a (k0_pay155 v5 X4 X19) (wt X17 3)

/-- The pooled columns of trip `k`. -/
def cell20 (D27 : Vec F S448x512 .f32) (D28 : Vec F S416x512 .f32) (k : Fin 13) : Fin 4 → FVec F S32x128 .bf16
  | 0 => k0_pay115 (k0_pay113 (rows64 D27 k)) (blk28 D28 k 0)
  | 1 => k0_pay121 (k0_pay118 (rows64 D27 k)) (blk28 D28 k 1)
  | 2 => k0_pay126 (k0_pay124 (rows64 D27 k)) (blk28 D28 k 2)
  | 3 => k0_pay164 (k0_pay130 (rows64 D27 k) (k0_pay129 (rows64 D27 k))) (blk28 D28 k 3)

/-- The quotients of the trips before `n`. -/
def Done27 (a : BitVec 32) (X2 : Vec F S416x512 .f32) (X19 : Vec F S1x512 .f32) (X17 : Vec F S4x128x128 .bf16) (n : ℕ) (D : Vec F S448x512 .f32) : Prop :=
  ∀ k : Fin 13, k.val < n → ∀ g y, D (at27 k g y) = cell27 a X2 X19 X17 k g y

/-- The gradients of the pooled values of the trips before `n`. -/
def Done28 (X2 : Vec F S416x512 .f32) (X19 : Vec F S1x512 .f32) (X17 : Vec F S4x128x128 .bf16) (n : ℕ) (D : Vec F S416x512 .f32) : Prop :=
  ∀ k : Fin 13, k.val < n → ∀ g y, D (at28 k g y) = cell28 X2 X19 X17 k g y

/-- The pooled columns of the trips before `n`. -/
def Done20 (D27 : Vec F S448x512 .f32) (D28 : Vec F S416x512 .f32) (n : ℕ) (X : Vec F S416x1536 .bf16) : Prop :=
  ∀ k : Fin 13, k.val < n → ∀ g y, X (at20 k g y) = cell20 D27 D28 k g y

theorem Done27.of_pos {a : BitVec 32} {X2 : Vec F S416x512 .f32} {X19 : Vec F S1x512 .f32} {X17 : Vec F S4x128x128 .bf16} {D : Vec F S448x512 .f32} {n : ℕ} (h : 0 < n → Done27 a X2 X19 X17 n D) : Done27 a X2 X19 X17 n D :=
  fun k hk => h (Nat.zero_lt_of_lt hk) k hk
theorem Done28.of_pos {X2 : Vec F S416x512 .f32} {X19 : Vec F S1x512 .f32} {X17 : Vec F S4x128x128 .bf16} {D : Vec F S416x512 .f32} {n : ℕ} (h : 0 < n → Done28 X2 X19 X17 n D) : Done28 X2 X19 X17 n D :=
  fun k hk => h (Nat.zero_lt_of_lt hk) k hk
theorem Done20.of_pos {D27 : Vec F S448x512 .f32} {D28 : Vec F S416x512 .f32} {X : Vec F S416x1536 .bf16} {n : ℕ} (h : 0 < n → Done20 D27 D28 n X) : Done20 D27 D28 n X :=
  fun k hk => h (Nat.zero_lt_of_lt hk) k hk

/-- What the pooled columns of a chunk hold. -/
def Pooled (a : BitVec 32) (v5 : F .f32) (X2 : Vec F S416x512 .f32) (X4 : Vec F S32x512 .f32) (X17 : Vec F S4x128x128 .bf16) (X19 : Vec F S1x512 .f32)
    (X : Vec F S416x1536 .bf16) : Prop :=
  ∃ (D27 : Vec F S448x512 .f32) (D28 : Vec F S416x512 .f32), Done27 a X2 X19 X17 13 D27 ∧ Done28 X2 X19 X17 13 D28 ∧
    (∀ g y, D27 (tail27 g y) = cellT a v5 X4 X19 X17 g y) ∧ Done20 D27 D28 13 X

/-! ## The offsets of the trips -/

theorem off9 : ∀ k : Fin k0_t2_loop.trips, k0_off9 k = ![32 * k.val, 0] := by decide
theorem off11 : ∀ k : Fin k0_t2_loop.trips, k0_off11 k = ![32 * k.val, 0] := by decide
theorem off12 : ∀ k : Fin k0_t2_loop.trips, k0_off12 k = ![32 * k.val, 0] := by decide
theorem off13 : ∀ k : Fin k0_t2_loop.trips, k0_off13 k = ![32 * k.val, 128] := by decide
theorem off14 : ∀ k : Fin k0_t2_loop.trips, k0_off14 k = ![32 * k.val, 128] := by decide
theorem off15 : ∀ k : Fin k0_t2_loop.trips, k0_off15 k = ![32 * k.val, 256] := by decide
theorem off16 : ∀ k : Fin k0_t2_loop.trips, k0_off16 k = ![32 * k.val, 256] := by decide
theorem off17 : ∀ k : Fin k0_t2_loop.trips, k0_off17 k = ![32 * k.val, 384] := by decide
theorem off18 : ∀ k : Fin k0_t2_loop.trips, k0_off18 k = ![32 * k.val, 384] := by decide
theorem off37 : ∀ k : Fin k0_t4_loop.trips, k0_off37 k = ![32 * k.val, 0] := by decide
theorem off38 : ∀ k : Fin k0_t4_loop.trips, k0_off38 k = ![32 * k.val, 512] := by decide
theorem off39 : ∀ k : Fin k0_t4_loop.trips, k0_off39 k = ![32 * k.val, 0] := by decide
theorem off40 : ∀ k : Fin k0_t4_loop.trips, k0_off40 k = ![32 * k.val, 0] := by decide
theorem off41 : ∀ k : Fin k0_t4_loop.trips, k0_off41 k = ![32 * k.val, 1024] := by decide
theorem off42 : ∀ k : Fin k0_t4_loop.trips, k0_off42 k = ![32 * k.val, 128] := by decide
theorem off43 : ∀ k : Fin k0_t4_loop.trips, k0_off43 k = ![32 * k.val, 1152] := by decide
theorem off44 : ∀ k : Fin k0_t4_loop.trips, k0_off44 k = ![32 * k.val, 256] := by decide
theorem off45 : ∀ k : Fin k0_t4_loop.trips, k0_off45 k = ![32 * k.val, 1280] := by decide
theorem off46 : ∀ k : Fin k0_t4_loop.trips, k0_off46 k = ![32 * k.val, 384] := by decide
theorem off47 : ∀ k : Fin k0_t4_loop.trips, k0_off47 k = ![32 * k.val, 1408] := by decide
theorem word_eq : ∀ k : Fin k0_t2_loop.trips, ∀ h, Scalar.muli (Scf.iv 0#32 1#32 k) 32#32 = word ⟨k.val, h⟩ := by decide

/-! ## Reading back what is written -/

section Reads

variable {κ : Kind} {sp : Space} {e : EltTy} {R C : ℕ}

theorem at_piece (v : View sig κ sp ⟨2, ![R, C]⟩ e) (f : v.ty.Contents (Elt F)) {off : Fin 2 → ℕ} {o p : ℕ} (ho : off = ![o, p])
    (inb : ∀ a, off a + S32x128.size a ≤ (⟨2, ![R, C]⟩ : Shape).size a) (w : S32x128.Idx → Elt F e) (L : List (View.Piece (Elt F) ⟨2, ![R, C]⟩ e))
    (q : (⟨2, ![R, C]⟩ : Shape).Idx) (y : S32x128.Idx) (h0 : (q 0).val = o + (y 0).val) (h1 : (q 1).val = p + (y 1).val) :
    v.read (Elt F) (v.writes (Elt F) f (⟨Rect.unit (s := ⟨2, ![R, C]⟩) off S32x128.size inb, w⟩ :: L)) q = w y :=
  View.read_writes_cons_unit_of_mem v f inb w L q y ho (Fin.forall_fin_two.mpr ⟨h0, h1⟩)

theorem off_piece (v : View sig κ sp ⟨2, ![R, C]⟩ e) (f : v.ty.Contents (Elt F)) {off : Fin 2 → ℕ} {o p n m : ℕ} (ho : off = ![o, p])
    (inb : ∀ a, off a + (![n, m] : Fin 2 → ℕ) a ≤ (⟨2, ![R, C]⟩ : Shape).size a) (w : (⟨2, ![n, m]⟩ : Shape).Idx → Elt F e) (L : List (View.Piece (Elt F) ⟨2, ![R, C]⟩ e))
    (q : (⟨2, ![R, C]⟩ : Shape).Idx) (h : (q 0).val < o ∨ o + n ≤ (q 0).val ∨ (q 1).val < p ∨ p + m ≤ (q 1).val) :
    v.read (Elt F) (v.writes (Elt F) f (⟨Rect.unit (s := ⟨2, ![R, C]⟩) off ![n, m] inb, w⟩ :: L)) q
      = v.read (Elt F) (v.writes (Elt F) f L) q := by
  rcases h with h | h | h | h
  · exact View.read_writes_cons_unit_of_not_mem v f inb w L q ho 0 (Or.inl h)
  · exact View.read_writes_cons_unit_of_not_mem v f inb w L q ho 0 (Or.inr h)
  · exact View.read_writes_cons_unit_of_not_mem v f inb w L q ho 1 (Or.inl h)
  · exact View.read_writes_cons_unit_of_not_mem v f inb w L q ho 1 (Or.inr h)

/-- Four pieces side by side, in a band of 32 rows: the reading of each, and of any other row. -/
theorem four (v : View sig κ sp ⟨2, ![R, C]⟩ e) (f : v.ty.Contents (Elt F)) (w : Fin 4 → S32x128.Idx → Elt F e) {off0 off1 off2 off3 : Fin 2 → ℕ} {o p : ℕ}
    (h0 : off0 = ![o, p]) (h1 : off1 = ![o, p + 128]) (h2 : off2 = ![o, p + 256]) (h3 : off3 = ![o, p + 384])
    (i0 : ∀ a, off0 a + S32x128.size a ≤ (⟨2, ![R, C]⟩ : Shape).size a) (i1 : ∀ a, off1 a + S32x128.size a ≤ (⟨2, ![R, C]⟩ : Shape).size a)
    (i2 : ∀ a, off2 a + S32x128.size a ≤ (⟨2, ![R, C]⟩ : Shape).size a) (i3 : ∀ a, off3 a + S32x128.size a ≤ (⟨2, ![R, C]⟩ : Shape).size a)
    (L : List (View.Piece (Elt F) ⟨2, ![R, C]⟩ e)) :
    (∀ g y, ∀ q : (⟨2, ![R, C]⟩ : Shape).Idx, (q 0).val = o + (y 0).val → (q 1).val = p + 128 * g.val + (y 1).val →
      v.read (Elt F) (v.writes (Elt F) f
        (⟨Rect.unit (s := ⟨2, ![R, C]⟩) off3 S32x128.size i3, w 3⟩ :: ⟨Rect.unit (s := ⟨2, ![R, C]⟩) off2 S32x128.size i2, w 2⟩ ::
         ⟨Rect.unit (s := ⟨2, ![R, C]⟩) off1 S32x128.size i1, w 1⟩ :: ⟨Rect.unit (s := ⟨2, ![R, C]⟩) off0 S32x128.size i0, w 0⟩ :: L)) q = w g y) ∧
    (∀ q : (⟨2, ![R, C]⟩ : Shape).Idx, ((q 0).val < o ∨ o + 32 ≤ (q 0).val) →
      v.read (Elt F) (v.writes (Elt F) f
        (⟨Rect.unit (s := ⟨2, ![R, C]⟩) off3 S32x128.size i3, w 3⟩ :: ⟨Rect.unit (s := ⟨2, ![R, C]⟩) off2 S32x128.size i2, w 2⟩ ::
         ⟨Rect.unit (s := ⟨2, ![R, C]⟩) off1 S32x128.size i1, w 1⟩ :: ⟨Rect.unit (s := ⟨2, ![R, C]⟩) off0 S32x128.size i0, w 0⟩ :: L)) q
        = v.read (Elt F) (v.writes (Elt F) f L) q) := by
  refine ⟨fun g y q hq0 hq1 => ?_, fun q hq => ?_⟩
  · have hy := col_lt y
    match g, hq1 with
    | 0, hq1 =>
      have hq1 : (q 1).val = p + 128 * 0 + (y 1).val := hq1
      exact (off_piece v f h3 i3 _ _ q (by omega)).trans ((off_piece v f h2 i2 _ _ q (by omega)).trans ((off_piece v f h1 i1 _ _ q (by omega)).trans
        (at_piece v f h0 i0 _ _ q y hq0 (by omega))))
    | 1, hq1 =>
      have hq1 : (q 1).val = p + 128 * 1 + (y 1).val := hq1
      exact (off_piece v f h3 i3 _ _ q (by omega)).trans ((off_piece v f h2 i2 _ _ q (by omega)).trans (at_piece v f h1 i1 _ _ q y hq0 (by omega)))
    | 2, hq1 =>
      have hq1 : (q 1).val = p + 128 * 2 + (y 1).val := hq1
      exact (off_piece v f h3 i3 _ _ q (by omega)).trans (at_piece v f h2 i2 _ _ q y hq0 (by omega))
    | 3, hq1 =>
      have hq1 : (q 1).val = p + 128 * 3 + (y 1).val := hq1
      exact at_piece v f h3 i3 _ _ q y hq0 (by omega)
  · exact (off_piece v f h3 i3 _ _ q (by omega)).trans ((off_piece v f h2 i2 _ _ q (by omega)).trans ((off_piece v f h1 i1 _ _ q (by omega)).trans
      (off_piece v f h0 i0 _ _ q (by omega))))

end Reads

/-! ## One trip's pieces -/

theorem step27 (v : View sig .tc .vmem S448x512 .f32) (f : v.ty.Contents (Elt F)) (a : BitVec 32) (X2 : Vec F S416x512 .f32) (X19 : Vec F S1x512 .f32) (X17 : Vec F S4x128x128 .bf16) (k : Fin k0_t2_loop.trips) (hk : k.val < 13)
    (h : Done27 a X2 X19 X17 k.val (v.read (Elt F) f)) (i0 : ∀ x, (k0_off11 k) x + S32x128.size x ≤ S448x512.size x) (i1 : ∀ x, (k0_off13 k) x + S32x128.size x ≤ S448x512.size x) (i2 : ∀ x, (k0_off15 k) x + S32x128.size x ≤ S448x512.size x) (i3 : ∀ x, (k0_off17 k) x + S32x128.size x ≤ S448x512.size x) :
    Done27 a X2 X19 X17 (k.val + 1) (v.read (Elt F) (v.writes (Elt F) f [⟨Rect.unit (s := S448x512) (k0_off17 k) S32x128.size i3, cell27 a X2 X19 X17 ⟨k.val, hk⟩ 3⟩, ⟨Rect.unit (s := S448x512) (k0_off15 k) S32x128.size i2, cell27 a X2 X19 X17 ⟨k.val, hk⟩ 2⟩, ⟨Rect.unit (s := S448x512) (k0_off13 k) S32x128.size i1, cell27 a X2 X19 X17 ⟨k.val, hk⟩ 1⟩, ⟨Rect.unit (s := S448x512) (k0_off11 k) S32x128.size i0, cell27 a X2 X19 X17 ⟨k.val, hk⟩ 0⟩])) := by
  have e := four v f (cell27 a X2 X19 X17 ⟨k.val, hk⟩) (off11 k) (off13 k) (off15 k) (off17 k) i0 i1 i2 i3 []
  intro k' hk' g y
  have hy := row_lt y
  by_cases hkk : k'.val = k.val
  · obtain rfl : k' = ⟨k.val, hk⟩ := Fin.ext hkk
    exact e.1 g y (at27 ⟨k.val, hk⟩ g y) rfl (by show 128 * g.val + _ = 0 + 128 * g.val + _; omega)
  · refine (e.2 (at27 k' g y) (Or.inl ?_)).trans (h k' (by omega) g y)
    show 32 * k'.val + (y 0).val < _
    omega

theorem step28 (v : View sig .tc .vmem S416x512 .f32) (f : v.ty.Contents (Elt F)) (X2 : Vec F S416x512 .f32) (X19 : Vec F S1x512 .f32) (X17 : Vec F S4x128x128 .bf16)
    (k : Fin k0_t2_loop.trips) (hk : k.val < 13)
    (h : Done28 X2 X19 X17 k.val (v.read (Elt F) f)) (i0 : ∀ x, (k0_off12 k) x + S32x128.size x ≤ S416x512.size x) (i1 : ∀ x, (k0_off14 k) x + S32x128.size x ≤ S416x512.size x) (i2 : ∀ x, (k0_off16 k) x + S32x128.size x ≤ S416x512.size x) (i3 : ∀ x, (k0_off18 k) x + S32x128.size x ≤ S416x512.size x) :
    Done28 X2 X19 X17 (k.val + 1) (v.read (Elt F) (v.writes (Elt F) f [⟨Rect.unit (s := S416x512) (k0_off18 k) S32x128.size i3, cell28 X2 X19 X17 ⟨k.val, hk⟩ 3⟩, ⟨Rect.unit (s := S416x512) (k0_off16 k) S32x128.size i2, cell28 X2 X19 X17 ⟨k.val, hk⟩ 2⟩, ⟨Rect.unit (s := S416x512) (k0_off14 k) S32x128.size i1, cell28 X2 X19 X17 ⟨k.val, hk⟩ 1⟩, ⟨Rect.unit (s := S416x512) (k0_off12 k) S32x128.size i0, cell28 X2 X19 X17 ⟨k.val, hk⟩ 0⟩])) := by
  have e := four v f (cell28 X2 X19 X17 ⟨k.val, hk⟩) (off12 k) (off14 k) (off16 k) (off18 k) i0 i1 i2 i3 []
  intro k' hk' g y
  have hy := row_lt y
  by_cases hkk : k'.val = k.val
  · obtain rfl : k' = ⟨k.val, hk⟩ := Fin.ext hkk
    exact e.1 g y (at28 ⟨k.val, hk⟩ g y) rfl (by show 128 * g.val + _ = 0 + 128 * g.val + _; omega)
  · refine (e.2 (at28 k' g y) (Or.inl ?_)).trans (h k' (by omega) g y)
    show 32 * k'.val + (y 0).val < _
    omega

theorem stepT (v : View sig .tc .vmem S448x512 .f32) (f : v.ty.Contents (Elt F)) (a : BitVec 32) (X2 : Vec F S416x512 .f32) (X19 : Vec F S1x512 .f32) (X17 : Vec F S4x128x128 .bf16) (v5 : F .f32) (X4 : Vec F S32x512 .f32)
    (h : Done27 a X2 X19 X17 13 (v.read (Elt F) f)) (i0 : ∀ x, (![416, 0] : Fin 2 → ℕ) x + S32x128.size x ≤ S448x512.size x) (i1 : ∀ x, (![416, 128] : Fin 2 → ℕ) x + S32x128.size x ≤ S448x512.size x) (i2 : ∀ x, (![416, 256] : Fin 2 → ℕ) x + S32x128.size x ≤ S448x512.size x) (i3 : ∀ x, (![416, 384] : Fin 2 → ℕ) x + S32x128.size x ≤ S448x512.size x) :
    Done27 a X2 X19 X17 13 (v.read (Elt F) (v.writes (Elt F) f [⟨Rect.unit (s := S448x512) (![416, 384] : Fin 2 → ℕ) S32x128.size i3, cellT a v5 X4 X19 X17 3⟩, ⟨Rect.unit (s := S448x512) (![416, 256] : Fin 2 → ℕ) S32x128.size i2, cellT a v5 X4 X19 X17 2⟩, ⟨Rect.unit (s := S448x512) (![416, 128] : Fin 2 → ℕ) S32x128.size i1, cellT a v5 X4 X19 X17 1⟩, ⟨Rect.unit (s := S448x512) (![416, 0] : Fin 2 → ℕ) S32x128.size i0, cellT a v5 X4 X19 X17 0⟩])) ∧
    ∀ g y, v.read (Elt F) (v.writes (Elt F) f [⟨Rect.unit (s := S448x512) (![416, 384] : Fin 2 → ℕ) S32x128.size i3, cellT a v5 X4 X19 X17 3⟩, ⟨Rect.unit (s := S448x512) (![416, 256] : Fin 2 → ℕ) S32x128.size i2, cellT a v5 X4 X19 X17 2⟩, ⟨Rect.unit (s := S448x512) (![416, 128] : Fin 2 → ℕ) S32x128.size i1, cellT a v5 X4 X19 X17 1⟩, ⟨Rect.unit (s := S448x512) (![416, 0] : Fin 2 → ℕ) S32x128.size i0, cellT a v5 X4 X19 X17 0⟩]) (tail27 g y) = cellT a v5 X4 X19 X17 g y := by
  have e := four v f (cellT a v5 X4 X19 X17) (off0 := ![416, 0]) (off1 := ![416, 128]) (off2 := ![416, 256]) (off3 := ![416, 384]) rfl rfl rfl rfl i0 i1 i2 i3 []
  refine ⟨fun k hk g y => (e.2 (at27 k g y) (Or.inl ?_)).trans (h k hk g y),
    fun g y => e.1 g y (tail27 g y) rfl (by show 128 * g.val + _ = 0 + 128 * g.val + _; omega)⟩
  have hy := row_lt y
  show 32 * k.val + (y 0).val < _
  omega

theorem step20 (v : View sig .tc .vmem S416x1536 .bf16) (f : v.ty.Contents (Elt F)) (D27 : Vec F S448x512 .f32) (D28 : Vec F S416x512 .f32)
    (k : Fin k0_t4_loop.trips) (hk : k.val < 13)
    (h : Done20 D27 D28 k.val (v.read (Elt F) f)) (i0 : ∀ x, (k0_off41 k) x + S32x128.size x ≤ S416x1536.size x) (i1 : ∀ x, (k0_off43 k) x + S32x128.size x ≤ S416x1536.size x) (i2 : ∀ x, (k0_off45 k) x + S32x128.size x ≤ S416x1536.size x) (i3 : ∀ x, (k0_off47 k) x + S32x128.size x ≤ S416x1536.size x)
    (j0 : ∀ x, (k0_off37 k) x + S32x512.size x ≤ S416x1536.size x) (j1 : ∀ x, (k0_off38 k) x + S32x512.size x ≤ S416x1536.size x) (w0 w1 : S32x512.Idx → Elt F .bf16) :
    Done20 D27 D28 (k.val + 1) (v.read (Elt F) (v.writes (Elt F) f ([⟨Rect.unit (s := S416x1536) (k0_off47 k) S32x128.size i3, cell20 D27 D28 ⟨k.val, hk⟩ 3⟩, ⟨Rect.unit (s := S416x1536) (k0_off45 k) S32x128.size i2, cell20 D27 D28 ⟨k.val, hk⟩ 2⟩, ⟨Rect.unit (s := S416x1536) (k0_off43 k) S32x128.size i1, cell20 D27 D28 ⟨k.val, hk⟩ 1⟩, ⟨Rect.unit (s := S416x1536) (k0_off41 k) S32x128.size i0, cell20 D27 D28 ⟨k.val, hk⟩ 0⟩] ++
      [⟨Rect.unit (s := S416x1536) (k0_off38 k) S32x512.size j1, w1⟩, ⟨Rect.unit (s := S416x1536) (k0_off37 k) S32x512.size j0, w0⟩]))) := by
  have e := four v f (cell20 D27 D28 ⟨k.val, hk⟩) (off41 k) (off43 k) (off45 k) (off47 k) i0 i1 i2 i3
    [⟨Rect.unit (s := S416x1536) (k0_off38 k) S32x512.size j1, w1⟩, ⟨Rect.unit (s := S416x1536) (k0_off37 k) S32x512.size j0, w0⟩]
  intro k' hk' g y
  have hy := row_lt y
  by_cases hkk : k'.val = k.val
  · obtain rfl : k' = ⟨k.val, hk⟩ := Fin.ext hkk
    exact e.1 g y (at20 ⟨k.val, hk⟩ g y) rfl rfl
  · have h0 : (at20 k' g y 0).val < 32 * k.val ∨ 32 * k.val + 32 ≤ (at20 k' g y 0).val := by
      left
      show 32 * k'.val + (y 0).val < _
      omega
    refine (e.2 (at20 k' g y) h0).trans ((off_piece v f (off38 k) j1 w1 _ (at20 k' g y) (by omega)).trans
      ((off_piece v f (off37 k) j0 w0 _ (at20 k' g y) (by omega)).trans (h k' (by omega) g y)))

/-! ## What is loaded -/

theorem ld_rows (v : View sig .tc .vmem S416x512 .f32) (f : v.ty.Contents (Elt F)) (k : Fin k0_t2_loop.trips) (hk : k.val < 13)
    (inb : ∀ x, k0_off9 k x + S32x512.size x ≤ S416x512.size x) :
    v.readAt (Elt F) (Rect.unit (s := S416x512) (k0_off9 k) S32x512.size inb).toLoadRect f = rows (v.read (Elt F) f) ⟨k.val, hk⟩ := by
  rw [View.readAt_unit v f inb (off9 k) ((off9 k) ▸ inb)]
  funext y
  refine congrArg (v.read (Elt F) f) (funext (Fin.forall_fin_two.mpr ⟨Fin.ext ?_, Fin.ext ?_⟩))
  · show 32 * k.val + 1 * (y 0).val = 32 * k.val + (y 0).val; omega
  · show 0 + 1 * (y 1).val = (y 1).val; omega

theorem ld_rows64 (v : View sig .tc .vmem S448x512 .f32) (f : v.ty.Contents (Elt F)) (k : Fin k0_t4_loop.trips) (hk : k.val < 13)
    (inb : ∀ x, k0_off39 k x + S64x512.size x ≤ S448x512.size x) :
    v.readAt (Elt F) (Rect.unit (s := S448x512) (k0_off39 k) S64x512.size inb).toLoadRect f = rows64 (v.read (Elt F) f) ⟨k.val, hk⟩ := by
  rw [View.readAt_unit v f inb (off39 k) ((off39 k) ▸ inb)]
  funext y
  refine congrArg (v.read (Elt F) f) (funext (Fin.forall_fin_two.mpr ⟨Fin.ext ?_, Fin.ext ?_⟩))
  · show 32 * k.val + 1 * (y 0).val = 32 * k.val + (y 0).val; omega
  · show 0 + 1 * (y 1).val = (y 1).val; omega

theorem ld_blk (v : View sig .tc .vmem S416x512 .f32) (f : v.ty.Contents (Elt F)) (k : Fin 13) (g : Fin 4) {off : Fin 2 → ℕ} (ho : off = ![32 * k.val, 128 * g.val])
    (inb : ∀ x, off x + S32x128.size x ≤ S416x512.size x) :
    v.readAt (Elt F) (Rect.unit (s := S416x512) off S32x128.size inb).toLoadRect f = blk28 (v.read (Elt F) f) k g := by
  rw [View.readAt_unit v f inb ho (ho ▸ inb)]
  funext y
  refine congrArg (v.read (Elt F) f) (funext (Fin.forall_fin_two.mpr ⟨Fin.ext ?_, Fin.ext ?_⟩))
  · show 32 * k.val + 1 * (y 0).val = 32 * k.val + (y 0).val; omega
  · show 128 * g.val + 1 * (y 1).val = 128 * g.val + (y 1).val; omega

theorem ld_wt (v : View sig .tc .vmem S4x128x128 .bf16) (f : v.ty.Contents (Elt F)) (g : Fin 4)
    (inb : ∀ x, (![g.val, 0, 0] : Fin 3 → ℕ) x + S1x128x128.size x ≤ S4x128x128.size x) :
    v.readAt (Elt F) (Rect.unit (s := S4x128x128) ![g.val, 0, 0] S1x128x128.size inb).toLoadRect f = wt (v.read (Elt F) f) g := by
  rw [View.readAt_unit v f inb rfl inb]
  funext y
  refine congrArg (v.read (Elt F) f) (funext (Fin.forall_fin_succ.mpr ⟨Fin.ext ?_, Fin.forall_fin_two.mpr ⟨Fin.ext ?_, Fin.ext ?_⟩⟩))
  · have h : (y 0).val < 1 := (y 0).isLt
    show g.val + 1 * (y 0).val = g.val
    omega
  · show 0 + 1 * (y 1).val = (y 1).val; omega
  · show 0 + 1 * (y 2).val = (y 2).val; omega

/-! ## One trip's pieces, of what the trip loads -/

theorem step27' (v : View sig .tc .vmem S448x512 .f32) (f : v.ty.Contents (Elt F)) (a : BitVec 32) (X2 : Vec F S416x512 .f32) (X19 : Vec F S1x512 .f32) (X17 : Vec F S4x128x128 .bf16) (k : Fin k0_t2_loop.trips) (hk : k.val < 13)
    (h : Done27 a X2 X19 X17 k.val (v.read (Elt F) f)) (i0 : ∀ x, (k0_off11 k) x + S32x128.size x ≤ S448x512.size x) (i1 : ∀ x, (k0_off13 k) x + S32x128.size x ≤ S448x512.size x) (i2 : ∀ x, (k0_off15 k) x + S32x128.size x ≤ S448x512.size x) (i3 : ∀ x, (k0_off17 k) x + S32x128.size x ≤ S448x512.size x)
    (wd : BitVec 32) (hwd : wd = word ⟨k.val, hk⟩) (x2 : Vec F S32x512 .f32) (h2 : x2 = rows X2 ⟨k.val, hk⟩) (x19 : Vec F S1x512 .f32) (h19 : x19 = X19) (w0 : Vec F S1x128x128 .bf16) (hw0 : w0 = wt X17 0) (w1 : Vec F S1x128x128 .bf16) (hw1 : w1 = wt X17 1) (w2 : Vec F S1x128x128 .bf16) (hw2 : w2 = wt X17 2) (w3 : Vec F S1x128x128 .bf16) (hw3 : w3 = wt X17 3) :
    Done27 a X2 X19 X17 (k.val + 1) (v.read (Elt F) (v.writes (Elt F) f [⟨Rect.unit (s := S448x512) (k0_off17 k) S32x128.size i3, k0_pay146 (k0_pay33 a wd (k0_pay21 x2 x19) w3)⟩, ⟨Rect.unit (s := S448x512) (k0_off15 k) S32x128.size i2, k0_pay30 (k0_pay28 (k0_pay21 x2 x19) w2) (k0_pay29 a wd) 48#32⟩, ⟨Rect.unit (s := S448x512) (k0_off13 k) S32x128.size i1, k0_pay26 a wd (k0_pay21 x2 x19) w1⟩, ⟨Rect.unit (s := S448x512) (k0_off11 k) S32x128.size i0, k0_pay23 a wd x2 x19 w0⟩])) := by
  subst hwd h2 h19 hw0 hw1 hw2 hw3
  exact step27 v f a X2 x19 X17 k hk h i0 i1 i2 i3

theorem step28' (v : View sig .tc .vmem S416x512 .f32) (f : v.ty.Contents (Elt F)) (X2 : Vec F S416x512 .f32) (X19 : Vec F S1x512 .f32) (X17 : Vec F S4x128x128 .bf16) (k : Fin k0_t2_loop.trips) (hk : k.val < 13)
    (h : Done28 X2 X19 X17 k.val (v.read (Elt F) f)) (i0 : ∀ x, (k0_off12 k) x + S32x128.size x ≤ S416x512.size x) (i1 : ∀ x, (k0_off14 k) x + S32x128.size x ≤ S416x512.size x) (i2 : ∀ x, (k0_off16 k) x + S32x128.size x ≤ S416x512.size x) (i3 : ∀ x, (k0_off18 k) x + S32x128.size x ≤ S416x512.size x)
    (x2 : Vec F S32x512 .f32) (h2 : x2 = rows X2 ⟨k.val, hk⟩) (x19 : Vec F S1x512 .f32) (h19 : x19 = X19) (w0 : Vec F S1x128x128 .bf16) (hw0 : w0 = wt X17 0) (w1 : Vec F S1x128x128 .bf16) (hw1 : w1 = wt X17 1) (w2 : Vec F S1x128x128 .bf16) (hw2 : w2 = wt X17 2) (w3 : Vec F S1x128x128 .bf16) (hw3 : w3 = wt X17 3) :
    Done28 X2 X19 X17 (k.val + 1) (v.read (Elt F) (v.writes (Elt F) f [⟨Rect.unit (s := S416x512) (k0_off18 k) S32x128.size i3, k0_pay147 (k0_pay32 (k0_pay21 x2 x19) w3)⟩, ⟨Rect.unit (s := S416x512) (k0_off16 k) S32x128.size i2, k0_pay31 (k0_pay28 (k0_pay21 x2 x19) w2)⟩, ⟨Rect.unit (s := S416x512) (k0_off14 k) S32x128.size i1, k0_pay27 (k0_pay21 x2 x19) w1⟩, ⟨Rect.unit (s := S416x512) (k0_off12 k) S32x128.size i0, k0_pay24 (k0_pay22 x2 x19 w0)⟩])) := by
  subst h2 h19 hw0 hw1 hw2 hw3
  exact step28 v f X2 x19 X17 k hk h i0 i1 i2 i3

theorem stepT' (v : View sig .tc .vmem S448x512 .f32) (f : v.ty.Contents (Elt F)) (a : BitVec 32) (X2 : Vec F S416x512 .f32) (X19 : Vec F S1x512 .f32) (X17 : Vec F S4x128x128 .bf16) (v5 : F .f32) (X4 : Vec F S32x512 .f32)
    (h : Done27 a X2 X19 X17 13 (v.read (Elt F) f)) (i0 : ∀ x, (![416, 0] : Fin 2 → ℕ) x + S32x128.size x ≤ S448x512.size x) (i1 : ∀ x, (![416, 128] : Fin 2 → ℕ) x + S32x128.size x ≤ S448x512.size x) (i2 : ∀ x, (![416, 256] : Fin 2 → ℕ) x + S32x128.size x ≤ S448x512.size x) (i3 : ∀ x, (![416, 384] : Fin 2 → ℕ) x + S32x128.size x ≤ S448x512.size x)
    (x4 : Vec F S32x512 .f32) (h4 : x4 = X4) (x19 : Vec F S1x512 .f32) (h19 : x19 = X19) (w0 : Vec F S1x128x128 .bf16) (hw0 : w0 = wt X17 0) (w1 : Vec F S1x128x128 .bf16) (hw1 : w1 = wt X17 1) (w2 : Vec F S1x128x128 .bf16) (hw2 : w2 = wt X17 2) (w3 : Vec F S1x128x128 .bf16) (hw3 : w3 = wt X17 3) :
    Done27 a X2 X19 X17 13 (v.read (Elt F) (v.writes (Elt F) f [⟨Rect.unit (s := S448x512) (![416, 384] : Fin 2 → ℕ) S32x128.size i3, k0_pay162 a (k0_pay155 v5 x4 x19) w3⟩, ⟨Rect.unit (s := S448x512) (![416, 256] : Fin 2 → ℕ) S32x128.size i2, k0_pay161 (k0_pay160 (k0_pay155 v5 x4 x19) w2) (Scalar.addi (Scalar.muli a 416#32) 416#32) (iota .tc S32x1 32 [0] iota_S32x1_d0_w32)⟩, ⟨Rect.unit (s := S448x512) (![416, 128] : Fin 2 → ℕ) S32x128.size i1, k0_pay159 a (k0_pay155 v5 x4 x19) w1⟩, ⟨Rect.unit (s := S448x512) (![416, 0] : Fin 2 → ℕ) S32x128.size i0, k0_pay158 (k0_pay156 v5 x4 x19 w0) (k0_pay157 a)⟩])) ∧
    ∀ g y, v.read (Elt F) (v.writes (Elt F) f [⟨Rect.unit (s := S448x512) (![416, 384] : Fin 2 → ℕ) S32x128.size i3, k0_pay162 a (k0_pay155 v5 x4 x19) w3⟩, ⟨Rect.unit (s := S448x512) (![416, 256] : Fin 2 → ℕ) S32x128.size i2, k0_pay161 (k0_pay160 (k0_pay155 v5 x4 x19) w2) (Scalar.addi (Scalar.muli a 416#32) 416#32) (iota .tc S32x1 32 [0] iota_S32x1_d0_w32)⟩, ⟨Rect.unit (s := S448x512) (![416, 128] : Fin 2 → ℕ) S32x128.size i1, k0_pay159 a (k0_pay155 v5 x4 x19) w1⟩, ⟨Rect.unit (s := S448x512) (![416, 0] : Fin 2 → ℕ) S32x128.size i0, k0_pay158 (k0_pay156 v5 x4 x19 w0) (k0_pay157 a)⟩]) (tail27 g y) = cellT a v5 X4 X19 X17 g y := by
  subst h4 h19 hw0 hw1 hw2 hw3
  exact stepT v f a X2 x19 X17 v5 x4 h i0 i1 i2 i3

theorem step20' (v : View sig .tc .vmem S416x1536 .bf16) (f : v.ty.Contents (Elt F)) (D27 : Vec F S448x512 .f32) (D28 : Vec F S416x512 .f32)
    (k : Fin k0_t4_loop.trips) (hk : k.val < 13)
    (h : Done20 D27 D28 k.val (v.read (Elt F) f)) (i0 : ∀ x, (k0_off41 k) x + S32x128.size x ≤ S416x1536.size x) (i1 : ∀ x, (k0_off43 k) x + S32x128.size x ≤ S416x1536.size x) (i2 : ∀ x, (k0_off45 k) x + S32x128.size x ≤ S416x1536.size x) (i3 : ∀ x, (k0_off47 k) x + S32x128.size x ≤ S416x1536.size x)
    (j0 : ∀ x, (k0_off37 k) x + S32x512.size x ≤ S416x1536.size x) (j1 : ∀ x, (k0_off38 k) x + S32x512.size x ≤ S416x1536.size x) (u0 u1 : S32x512.Idx → Elt F .bf16)
    (x27 : Vec F S64x512 .f32) (h27 : x27 = rows64 D27 ⟨k.val, hk⟩) (b0 : Vec F S32x128 .f32) (hb0 : b0 = blk28 D28 ⟨k.val, hk⟩ 0) (b1 : Vec F S32x128 .f32) (hb1 : b1 = blk28 D28 ⟨k.val, hk⟩ 1) (b2 : Vec F S32x128 .f32) (hb2 : b2 = blk28 D28 ⟨k.val, hk⟩ 2) (b3 : Vec F S32x128 .f32) (hb3 : b3 = blk28 D28 ⟨k.val, hk⟩ 3) :
    Done20 D27 D28 (k.val + 1) (v.read (Elt F) (v.writes (Elt F) f [⟨Rect.unit (s := S416x1536) (k0_off47 k) S32x128.size i3, k0_pay164 (k0_pay130 x27 (k0_pay129 x27)) b3⟩, ⟨Rect.unit (s := S416x1536) (k0_off45 k) S32x128.size i2, k0_pay126 (k0_pay124 x27) b2⟩, ⟨Rect.unit (s := S416x1536) (k0_off43 k) S32x128.size i1, k0_pay121 (k0_pay118 x27) b1⟩, ⟨Rect.unit (s := S416x1536) (k0_off41 k) S32x128.size i0, k0_pay115 (k0_pay113 x27) b0⟩, ⟨Rect.unit (s := S416x1536) (k0_off38 k) S32x512.size j1, u1⟩, ⟨Rect.unit (s := S416x1536) (k0_off37 k) S32x512.size j0, u0⟩])) := by
  subst h27 hb0 hb1 hb2 hb3
  exact step20 v f D27 D28 k hk h i0 i1 i2 i3 j0 j1 u0 u1
theorem pooled_of (v27 : View sig .tc .vmem S448x512 .f32) (v28 : View sig .tc .vmem S416x512 .f32) (v20 : View sig .tc .vmem S416x1536 .bf16)
    (f27 : v27.ty.Contents (Elt F)) (f28 : v28.ty.Contents (Elt F)) (f20 : v20.ty.Contents (Elt F)) (a : BitVec 32) (X2 : Vec F S416x512 .f32) (X19 : Vec F S1x512 .f32) (X17 : Vec F S4x128x128 .bf16) (v5 : F .f32) (X4 : Vec F S32x512 .f32)
    {n2 n4 : ℕ} (hn2 : n2 = 13) (hn4 : n4 = 13)
    (h27 : 0 < n2 → Done27 a X2 X19 X17 n2 (v27.read (Elt F) f27)) (h28 : 0 < n2 → Done28 X2 X19 X17 n2 (v28.read (Elt F) f28))
    (i0 : ∀ x, (![416, 0] : Fin 2 → ℕ) x + S32x128.size x ≤ S448x512.size x) (i1 : ∀ x, (![416, 128] : Fin 2 → ℕ) x + S32x128.size x ≤ S448x512.size x) (i2 : ∀ x, (![416, 256] : Fin 2 → ℕ) x + S32x128.size x ≤ S448x512.size x) (i3 : ∀ x, (![416, 384] : Fin 2 → ℕ) x + S32x128.size x ≤ S448x512.size x) (x4 : Vec F S32x512 .f32) (h4 : x4 = X4) (x19 : Vec F S1x512 .f32) (h19 : x19 = X19) (w0 : Vec F S1x128x128 .bf16) (hw0 : w0 = wt X17 0) (w1 : Vec F S1x128x128 .bf16) (hw1 : w1 = wt X17 1) (w2 : Vec F S1x128x128 .bf16) (hw2 : w2 = wt X17 2) (w3 : Vec F S1x128x128 .bf16) (hw3 : w3 = wt X17 3)
    (h20 : 0 < n4 → Done20 (v27.read (Elt F) (v27.writes (Elt F) f27 [⟨Rect.unit (s := S448x512) (![416, 384] : Fin 2 → ℕ) S32x128.size i3, k0_pay162 a (k0_pay155 v5 x4 x19) w3⟩, ⟨Rect.unit (s := S448x512) (![416, 256] : Fin 2 → ℕ) S32x128.size i2, k0_pay161 (k0_pay160 (k0_pay155 v5 x4 x19) w2) (Scalar.addi (Scalar.muli a 416#32) 416#32) (iota .tc S32x1 32 [0] iota_S32x1_d0_w32)⟩, ⟨Rect.unit (s := S448x512) (![416, 128] : Fin 2 → ℕ) S32x128.size i1, k0_pay159 a (k0_pay155 v5 x4 x19) w1⟩, ⟨Rect.unit (s := S448x512) (![416, 0] : Fin 2 → ℕ) S32x128.size i0, k0_pay158 (k0_pay156 v5 x4 x19 w0) (k0_pay157 a)⟩])) (v28.read (Elt F) f28) n4 (v20.read (Elt F) f20)) :
    Pooled a v5 X2 X4 X17 X19 (v20.read (Elt F) f20) := by
  subst hn2 hn4
  have e := stepT' v27 f27 a X2 X19 X17 v5 X4 (h27 (by decide)) i0 i1 i2 i3 x4 h4 x19 h19 w0 hw0 w1 hw1 w2 hw2 w3 hw3
  exact ⟨_, _, e.1, h28 (by decide), e.2, h20 (by decide)⟩

/-! ## The loops -/

section Run

variable (arg1 : Memref sig .tc .vmem S416x512 .f32) (harg1 : arg1.IsWhole)
variable (arg2 : Memref sig .tc .vmem S416x512 .f32) (harg2 : arg2.IsWhole)
variable (arg3 : Memref sig .tc .vmem S32x512 .f32) (harg3 : arg3.IsWhole)
variable (arg4 : Memref sig .tc .vmem S32x512 .f32) (harg4 : arg4.IsWhole)
variable (arg5 : Memref sig .tc .vmem S416x512 .f32) (harg5 : arg5.IsWhole)
variable (arg6 : Memref sig .tc .vmem S32x512 .f32) (harg6 : arg6.IsWhole)
variable (arg7 : Memref sig .tc .vmem S416x512 .f32) (harg7 : arg7.IsWhole)
variable (arg8 : Memref sig .tc .vmem S416x512 .f32) (harg8 : arg8.IsWhole)
variable (arg9 : Memref sig .tc .vmem S416x512 .f32) (harg9 : arg9.IsWhole)
variable (arg10 : Memref sig .tc .vmem S32x512 .f32) (harg10 : arg10.IsWhole)
variable (arg11 : Memref sig .tc .vmem S32x512 .f32) (harg11 : arg11.IsWhole)
variable (arg12 : Memref sig .tc .vmem S32x512 .f32) (harg12 : arg12.IsWhole)
variable (arg13 : Memref sig .tc .vmem S32x512 .f32) (harg13 : arg13.IsWhole)
variable (arg14 : Memref sig .tc .vmem S1x512 .f32) (harg14 : arg14.IsWhole)
variable (arg15 : Memref sig .tc .vmem S1x512 .f32) (harg15 : arg15.IsWhole)
variable (arg16 : Memref sig .tc .vmem S4x128x128 .bf16) (harg16 : arg16.IsWhole)
variable (arg17 : Memref sig .tc .vmem S4x128x128 .bf16) (harg17 : arg17.IsWhole)
variable (arg18 : Memref sig .tc .vmem S1x512 .f32) (harg18 : arg18.IsWhole)
variable (arg19 : Memref sig .tc .vmem S1x512 .f32) (harg19 : arg19.IsWhole)
variable (arg20 : Memref sig .tc .vmem S416x1536 .bf16) (harg20 : arg20.IsWhole)
variable (arg21 : Memref sig .tc .vmem S32x512 .f32) (harg21 : arg21.IsWhole)
variable (arg22 : Memref sig .tc .vmem S8x512 .f32) (harg22 : arg22.IsWhole)
variable (arg23 : Memref sig .tc .vmem S4x128x128 .f32) (harg23 : arg23.IsWhole)
variable (arg24 : Memref sig .tc .vmem S8x456x512 .f32) (harg24 : arg24.IsWhole)
variable (arg25 : Memref sig .tc .vmem S8x456x512 .f32) (harg25 : arg25.IsWhole)
variable (arg26 : Memref sig .tc .vmem S448x512 .f32) (harg26 : arg26.IsWhole)
variable (arg27 : Memref sig .tc .vmem S448x512 .f32) (harg27 : arg27.IsWhole)
variable (arg28 : Memref sig .tc .vmem S416x512 .f32) (harg28 : arg28.IsWhole)
variable (arg29 : Memref sig .tc .vmem S416x512 .bf16) (harg29 : arg29.IsWhole)
variable (arg30 : Memref sig .tc .vmem S416x512 .bf16) (harg30 : arg30.IsWhole)
variable (arg31 : Memref sig .tc .vmem S32x8x512 .f32) (harg31 : arg31.IsWhole)
variable (arg32 : Memref sig .tc .vmem S8x8x512 .f32) (harg32 : arg32.IsWhole)

set_option maxHeartbeats 4000000 in
set_option warn.classDefReducibility false in
/-- The first loop: of its writes nothing is known. -/
@[sl_loop] def loop1 (𝒱 : Variants) (c : Dev nD) (bd : Option 𝒱.V) (E : Set ℕ) (i : grid0.Coords) (arg0 : BitVec 32) (v2 : F .f32) (v29 : FVec F S416x512 .f32)
   :
  LoopInv (M := 𝕄) Idealize.ShloMosaic.frame (wpE defs₀ 𝒱 (c : Thread nD τ) bd) E k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v2 v29) where
  inv k _ := iprop((∃ f, (arg25.view.loc (c : Thread nD τ) ↦[arg25.view.set]{fullShare} f)))
  step k acc := by
    iintro ⟨⟨%f25, H25⟩⟩
    have hk : k.val < 14 := Nat.lt_of_lt_of_le k.isLt k0_t1_abs.2.1
    unfold k0_t1_body
    sl_exec
    sl_step
    · iexists _; iexact H25

set_option maxHeartbeats 4000000 in
set_option warn.classDefReducibility false in
/-- The second loop: the quotients and the gradients of the pooled values, 32 rows a trip. -/
@[sl_loop] def loop2 (𝒱 : Variants) (c : Dev nD) (bd : Option 𝒱.V) (E : Set ℕ) (i : grid0.Coords) (arg0 : BitVec 32) (v2 : F .f32) (v29 : FVec F S416x512 .f32)
  (f1 : BufTy.Contents (Elt F) arg1.view.ty) (f2 : BufTy.Contents (Elt F) arg2.view.ty) (f5 : BufTy.Contents (Elt F) arg5.view.ty) (f14 : BufTy.Contents (Elt F) arg14.view.ty) (f15 : BufTy.Contents (Elt F) arg15.view.ty) (f17 : BufTy.Contents (Elt F) arg17.view.ty) (f19 : BufTy.Contents (Elt F) arg19.view.ty) :
  LoopInv (M := 𝕄) Idealize.ShloMosaic.frame (wpE defs₀ 𝒱 (c : Thread nD τ) bd) E k0_t2_loop.lb k0_t2_loop.ub k0_t2_loop.st k0_t2_ok ()
    (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v2 v29) where
  inv k _ := iprop((arg1.view.loc (c : Thread nD τ) ↦[arg1.view.set]{fullShare} f1) ∗ (arg2.view.loc (c : Thread nD τ) ↦[arg2.view.set]{fullShare} f2) ∗ (arg5.view.loc (c : Thread nD τ) ↦[arg5.view.set]{fullShare} f5) ∗ (arg14.view.loc (c : Thread nD τ) ↦[arg14.view.set]{fullShare} f14) ∗ (arg15.view.loc (c : Thread nD τ) ↦[arg15.view.set]{fullShare} f15) ∗ (arg17.view.loc (c : Thread nD τ) ↦[arg17.view.set]{fullShare} f17) ∗ (arg19.view.loc (c : Thread nD τ) ↦[arg19.view.set]{fullShare} f19) ∗ (∃ f, (arg24.view.loc (c : Thread nD τ) ↦[arg24.view.set]{fullShare} f)) ∗ (∃ f, (arg27.view.loc (c : Thread nD τ) ↦[arg27.view.set]{fullShare} f) ∗ ⌜0 < k → Done27 arg0 (arg2.view.read (Elt F) f2) (arg19.view.read (Elt F) f19) (arg17.view.read (Elt F) f17) k (arg27.view.read (Elt F) f)⌝) ∗ (∃ f, (arg28.view.loc (c : Thread nD τ) ↦[arg28.view.set]{fullShare} f) ∗ ⌜0 < k → Done28 (arg2.view.read (Elt F) f2) (arg19.view.read (Elt F) f19) (arg17.view.read (Elt F) f17) k (arg28.view.read (Elt F) f)⌝) ∗ (∃ f, (arg30.view.loc (c : Thread nD τ) ↦[arg30.view.set]{fullShare} f)) ∗ (∃ f, (arg32.view.loc (c : Thread nD τ) ↦[arg32.view.set]{fullShare} f)))
  step k acc := by
    iintro ⟨H1, H2, H5, H14, H15, H17, H19, ⟨%f24, H24⟩, ⟨%f27, H27, %h27⟩, ⟨%f28, H28, %h28⟩, ⟨%f30, H30⟩, ⟨%f32, H32⟩⟩
    have hk : k.val < 13 := Nat.lt_of_lt_of_le k.isLt k0_t2_abs.2.1
    unfold k0_t2_body
    sl_exec
    sl_step
    isplitl [H1]
    · iexact H1
    isplitl [H2]
    · iexact H2
    isplitl [H5]
    · iexact H5
    isplitl [H14]
    · iexact H14
    isplitl [H15]
    · iexact H15
    isplitl [H17]
    · iexact H17
    isplitl [H19]
    · iexact H19
    isplitl [H24]
    · iexists _; iexact H24
    isplitl [H27]
    · iexists _; isplitl [H27]; · iexact H27
      ipureintro
      intro _
      exact step27' arg27.view f27 arg0 _ _ _ k hk (Done27.of_pos h27) (k0_off11_inb k) (k0_off13_inb k) (k0_off15_inb k) (k0_off17_inb k) _ (word_eq k hk)
        _ (ld_rows arg2.view f2 k hk (k0_off9_inb k)) _ (View.readAt_full arg19.view f19 inb_S1x512_S1x512_0_0) _ (ld_wt arg17.view f17 0 inb_S4x128x128_S1x128x128_0_0_0) _ (ld_wt arg17.view f17 1 inb_S4x128x128_S1x128x128_1_0_0) _ (ld_wt arg17.view f17 2 inb_S4x128x128_S1x128x128_2_0_0) _ (ld_wt arg17.view f17 3 inb_S4x128x128_S1x128x128_3_0_0)
    isplitl [H28]
    · iexists _; isplitl [H28]; · iexact H28
      ipureintro
      intro _
      exact step28' arg28.view f28 _ _ _ k hk (Done28.of_pos h28) (k0_off12_inb k) (k0_off14_inb k) (k0_off16_inb k) (k0_off18_inb k)
        _ (ld_rows arg2.view f2 k hk (k0_off9_inb k)) _ (View.readAt_full arg19.view f19 inb_S1x512_S1x512_0_0) _ (ld_wt arg17.view f17 0 inb_S4x128x128_S1x128x128_0_0_0) _ (ld_wt arg17.view f17 1 inb_S4x128x128_S1x128x128_1_0_0) _ (ld_wt arg17.view f17 2 inb_S4x128x128_S1x128x128_2_0_0) _ (ld_wt arg17.view f17 3 inb_S4x128x128_S1x128x128_3_0_0)
    isplitl [H30]
    · iexists _; iexact H30
    · iexists _; iexact H32

set_option maxHeartbeats 4000000 in
set_option warn.classDefReducibility false in
/-- The third loop: of its writes nothing is known. -/
@[sl_loop] def loop3 (𝒱 : Variants) (c : Dev nD) (bd : Option 𝒱.V) (E : Set ℕ) (i : grid0.Coords) (arg0 : BitVec 32) (v5 : F .f32) (v101 : FVec F S32x512 .f32)
   :
  LoopInv (M := 𝕄) Idealize.ShloMosaic.frame (wpE defs₀ 𝒱 (c : Thread nD τ) bd) E k0_t3_loop.lb k0_t3_loop.ub k0_t3_loop.st k0_t3_ok ()
    (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v5 v101) where
  inv k _ := iprop((∃ f, (arg24.view.loc (c : Thread nD τ) ↦[arg24.view.set]{fullShare} f)))
  step k acc := by
    iintro ⟨⟨%f24, H24⟩⟩
    have hk : k.val < 14 := Nat.lt_of_lt_of_le k.isLt k0_t3_abs.2.1
    unfold k0_t3_body
    sl_exec
    sl_step
    · iexists _; iexact H24

set_option maxHeartbeats 4000000 in
set_option warn.classDefReducibility false in
/-- The last loop: the pooled columns, 32 rows a trip. -/
@[sl_loop] def loop4 (𝒱 : Variants) (c : Dev nD) (bd : Option 𝒱.V) (E : Set ℕ) (i : grid0.Coords) (arg0 : BitVec 32)
  (f7 : BufTy.Contents (Elt F) arg7.view.ty) (f8 : BufTy.Contents (Elt F) arg8.view.ty) (f13 : BufTy.Contents (Elt F) arg13.view.ty) (f24 : BufTy.Contents (Elt F) arg24.view.ty) (f25 : BufTy.Contents (Elt F) arg25.view.ty) (f26 : BufTy.Contents (Elt F) arg26.view.ty) (f27 : BufTy.Contents (Elt F) arg27.view.ty) (f28 : BufTy.Contents (Elt F) arg28.view.ty) :
  LoopInv (M := 𝕄) Idealize.ShloMosaic.frame (wpE defs₀ 𝒱 (c : Thread nD τ) bd) E k0_t4_loop.lb k0_t4_loop.ub k0_t4_loop.st k0_t4_ok ()
    (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 ) where
  inv k _ := iprop((arg7.view.loc (c : Thread nD τ) ↦[arg7.view.set]{fullShare} f7) ∗ (arg8.view.loc (c : Thread nD τ) ↦[arg8.view.set]{fullShare} f8) ∗ (arg13.view.loc (c : Thread nD τ) ↦[arg13.view.set]{fullShare} f13) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (arg28.view.loc (c : Thread nD τ) ↦[arg28.view.set]{fullShare} f28) ∗ (∃ f, (arg20.view.loc (c : Thread nD τ) ↦[arg20.view.set]{fullShare} f) ∗ ⌜0 < k → Done20 (arg27.view.read (Elt F) f27) (arg28.view.read (Elt F) f28) k (arg20.view.read (Elt F) f)⌝) ∗ (∃ f, (arg29.view.loc (c : Thread nD τ) ↦[arg29.view.set]{fullShare} f)) ∗ (∃ f, (arg31.view.loc (c : Thread nD τ) ↦[arg31.view.set]{fullShare} f)))
  step k acc := by
    iintro ⟨H7, H8, H13, H24, H25, H26, H27, H28, ⟨%f20, H20, %h20⟩, ⟨%f29, H29⟩, ⟨%f31, H31⟩⟩
    have hk : k.val < 13 := Nat.lt_of_lt_of_le k.isLt k0_t4_abs.2.1
    unfold k0_t4_body
    sl_exec
    sl_step
    isplitl [H7]
    · iexact H7
    isplitl [H8]
    · iexact H8
    isplitl [H13]
    · iexact H13
    isplitl [H24]
    · iexact H24
    isplitl [H25]
    · iexact H25
    isplitl [H26]
    · iexact H26
    isplitl [H27]
    · iexact H27
    isplitl [H28]
    · iexact H28
    isplitl [H20]
    · iexists _; isplitl [H20]; · iexact H20
      ipureintro
      intro _
      exact step20' arg20.view f20 _ _ k hk (Done20.of_pos h20) (k0_off41_inb k) (k0_off43_inb k) (k0_off45_inb k) (k0_off47_inb k) (k0_off37_inb k) (k0_off38_inb k) _ _
        _ (ld_rows64 arg27.view f27 k hk (k0_off39_inb k)) _ (ld_blk arg28.view f28 ⟨k.val, hk⟩ 0 (off40 k) (k0_off40_inb k)) _ (ld_blk arg28.view f28 ⟨k.val, hk⟩ 1 (off42 k) (k0_off42_inb k)) _ (ld_blk arg28.view f28 ⟨k.val, hk⟩ 2 (off44 k) (k0_off44_inb k)) _ (ld_blk arg28.view f28 ⟨k.val, hk⟩ 3 (off46 k) (k0_off46_inb k))
    isplitl [H29]
    · iexists _; iexact H29
    · iexists _; iexact H31

end Run

end Cert.Kernel.Pool
end
-- ==== Proof.Body.lean ====
/-
  The frame of the even layers' backward mixing pass (the program `Kernel`, one pipelined call on a grid of ten chunks with
  nineteen input windows, four output windows and nine scratch buffers), at any value instance `F`.

  Nothing a frame claims depends on what the body computes, so every window is forgotten: the pipeline hands each staging
  buffer over at some contents and takes it back at some contents, and `Held` is all the body needs. `bodyRun` runs the
  body's text once, in both cases of its only conditional (the first chunk clears the carries and the parameter
  gradients); `sound_body` opens and closes the pipeline's invariant around it; `run_main` is the launch and `frame` reads
  the ten argument arrays, which are input windows' arrays and so end as they were launched. The input arrays are shared
  by several windows (a chunk and its neighbours), hence the `_shared` form of the launch theorem.
-/
module

public import proofs.«01_k».proof.Proof.Gen.Kernel.Frame
public import proofs.«01_k».proof.Proof.Gen.Kernel.Skeleton
public import proofs.«01_k».proof.Proof.PoolRun
public import Idealize.ShloMosaic.Lib.Tactic
public import Idealize.ShloMosaic.Lib.Pipeline.DatRel

@[expose] public section

set_option maxRecDepth 16384

noncomputable section

namespace Cert.Kernel.Hand

open Cert.Kernel Cert.Kernel.Gen Cert.Kernel.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

variable {F : FTy → Type} [FloatOps F]

local notation "𝕄" => MT nD τ sig Unit (Elt F) ℕ (UR sig nD τ) ℕ

/-! ## Buffers held at some contents -/

/-- A memref of core `c` owned whole, at some contents. -/
def holds (c : Dev nD) {S : Shape} {e : EltTy} (M : Memref sig .tc .vmem S e) : sProp 𝕄 :=
  iprop(∃ d, owns (c : Thread nD τ) M fullShare d)

theorem holds_intro (c : Dev nD) {S : Shape} {e : EltTy} (M : Memref sig .tc .vmem S e) (f : Buf (Elt F) (M.view.loc (c : Thread nD τ))) :
    (iprop(M.view.loc (c : Thread nD τ) ↦[M.view.set]{fullShare} f) : sProp 𝕄) ⊢ holds c M := by
  unfold holds owns
  iintro H
  iexists (M.view.read (Elt F) f), f
  isplitr
  · ipureintro; rfl
  iexact H

/-- A memref of core `c` owned whole, at contents of which `P` holds. -/
def meets (c : Dev nD) {S : Shape} {e : EltTy} (M : Memref sig .tc .vmem S e) (P : Vec F S e → Prop) : sProp 𝕄 :=
  iprop(∃ X, ⌜P X⌝ ∗ owns (c : Thread nD τ) M fullShare X)

theorem meets_intro (c : Dev nD) {S : Shape} {e : EltTy} (M : Memref sig .tc .vmem S e) (P : Vec F S e → Prop) (f : Buf (Elt F) (M.view.loc (c : Thread nD τ)))
    (h : P (M.view.read (Elt F) f)) :
    (iprop(M.view.loc (c : Thread nD τ) ↦[M.view.set]{fullShare} f) : sProp 𝕄) ⊢ meets c M P := by
  unfold meets owns
  iintro H
  iexists (M.view.read (Elt F) f)
  isplitr
  · ipureintro; exact h
  iexists f
  isplitr
  · ipureintro; rfl
  iexact H

theorem owns_intro (c : Dev nD) {S : Shape} {e : EltTy} (M : Memref sig .tc .vmem S e) (f : Buf (Elt F) (M.view.loc (c : Thread nD τ))) :
    (iprop(M.view.loc (c : Thread nD τ) ↦[M.view.set]{fullShare} f) : sProp 𝕄) ⊢ owns (c : Thread nD τ) M fullShare (M.view.read (Elt F) f) := by
  unfold owns
  iintro H
  iexists f
  isplitr
  · ipureintro; rfl
  iexact H

/-- Everything the body may touch — the staging buffers of its windows and its scratch: the four inputs of the pooled columns
    at their contents, the gradient of `u` at `H20`, the rest at some contents. -/
def Held (c : Dev nD) (X2 : Vec F S416x512 .f32) (X4 : Vec F S32x512 .f32) (X17 : Vec F S4x128x128 .bf16) (X19 : Vec F S1x512 .f32) (H20 : sProp 𝕄)
    (arg1 : Memref sig .tc .vmem S416x512 .f32) (arg2 : Memref sig .tc .vmem S416x512 .f32)
    (arg3 : Memref sig .tc .vmem S32x512 .f32) (arg4 : Memref sig .tc .vmem S32x512 .f32)
    (arg5 : Memref sig .tc .vmem S416x512 .f32) (arg6 : Memref sig .tc .vmem S32x512 .f32)
    (arg7 : Memref sig .tc .vmem S416x512 .f32) (arg8 : Memref sig .tc .vmem S416x512 .f32)
    (arg9 : Memref sig .tc .vmem S416x512 .f32) (arg10 : Memref sig .tc .vmem S32x512 .f32)
    (arg11 : Memref sig .tc .vmem S32x512 .f32) (arg12 : Memref sig .tc .vmem S32x512 .f32)
    (arg13 : Memref sig .tc .vmem S32x512 .f32) (arg14 : Memref sig .tc .vmem S1x512 .f32)
    (arg15 : Memref sig .tc .vmem S1x512 .f32) (arg16 : Memref sig .tc .vmem S4x128x128 .bf16)
    (arg17 : Memref sig .tc .vmem S4x128x128 .bf16) (arg18 : Memref sig .tc .vmem S1x512 .f32)
    (arg19 : Memref sig .tc .vmem S1x512 .f32) (arg20 : Memref sig .tc .vmem S416x1536 .bf16)
    (arg21 : Memref sig .tc .vmem S32x512 .f32) (arg22 : Memref sig .tc .vmem S8x512 .f32)
    (arg23 : Memref sig .tc .vmem S4x128x128 .f32) (arg24 : Memref sig .tc .vmem S8x456x512 .f32)
    (arg25 : Memref sig .tc .vmem S8x456x512 .f32) (arg26 : Memref sig .tc .vmem S448x512 .f32)
    (arg27 : Memref sig .tc .vmem S448x512 .f32) (arg28 : Memref sig .tc .vmem S416x512 .f32)
    (arg29 : Memref sig .tc .vmem S416x512 .bf16) (arg30 : Memref sig .tc .vmem S416x512 .bf16)
    (arg31 : Memref sig .tc .vmem S32x8x512 .f32) (arg32 : Memref sig .tc .vmem S8x8x512 .f32) : sProp 𝕄 :=
  iprop(holds c arg1 ∗ owns (c : Thread nD τ) arg2 fullShare X2 ∗ holds c arg3 ∗ owns (c : Thread nD τ) arg4 fullShare X4 ∗ holds c arg5 ∗ holds c arg6 ∗ holds c arg7 ∗ holds c arg8 ∗ holds c arg9 ∗ holds c arg10 ∗ holds c arg11 ∗ holds c arg12 ∗ holds c arg13 ∗ holds c arg14 ∗ holds c arg15 ∗ holds c arg16 ∗ owns (c : Thread nD τ) arg17 fullShare X17 ∗ holds c arg18 ∗ owns (c : Thread nD τ) arg19 fullShare X19 ∗ H20 ∗ holds c arg21 ∗ holds c arg22 ∗ holds c arg23 ∗ holds c arg24 ∗ holds c arg25 ∗ holds c arg26 ∗ holds c arg27 ∗ holds c arg28 ∗ holds c arg29 ∗ holds c arg30 ∗ holds c arg31 ∗ holds c arg32)

/-! ## The body, run once -/

section Run

variable (arg1 : Memref sig .tc .vmem S416x512 .f32) (harg1 : arg1.IsWhole)
variable (arg2 : Memref sig .tc .vmem S416x512 .f32) (harg2 : arg2.IsWhole)
variable (arg3 : Memref sig .tc .vmem S32x512 .f32) (harg3 : arg3.IsWhole)
variable (arg4 : Memref sig .tc .vmem S32x512 .f32) (harg4 : arg4.IsWhole)
variable (arg5 : Memref sig .tc .vmem S416x512 .f32) (harg5 : arg5.IsWhole)
variable (arg6 : Memref sig .tc .vmem S32x512 .f32) (harg6 : arg6.IsWhole)
variable (arg7 : Memref sig .tc .vmem S416x512 .f32) (harg7 : arg7.IsWhole)
variable (arg8 : Memref sig .tc .vmem S416x512 .f32) (harg8 : arg8.IsWhole)
variable (arg9 : Memref sig .tc .vmem S416x512 .f32) (harg9 : arg9.IsWhole)
variable (arg10 : Memref sig .tc .vmem S32x512 .f32) (harg10 : arg10.IsWhole)
variable (arg11 : Memref sig .tc .vmem S32x512 .f32) (harg11 : arg11.IsWhole)
variable (arg12 : Memref sig .tc .vmem S32x512 .f32) (harg12 : arg12.IsWhole)
variable (arg13 : Memref sig .tc .vmem S32x512 .f32) (harg13 : arg13.IsWhole)
variable (arg14 : Memref sig .tc .vmem S1x512 .f32) (harg14 : arg14.IsWhole)
variable (arg15 : Memref sig .tc .vmem S1x512 .f32) (harg15 : arg15.IsWhole)
variable (arg16 : Memref sig .tc .vmem S4x128x128 .bf16) (harg16 : arg16.IsWhole)
variable (arg17 : Memref sig .tc .vmem S4x128x128 .bf16) (harg17 : arg17.IsWhole)
variable (arg18 : Memref sig .tc .vmem S1x512 .f32) (harg18 : arg18.IsWhole)
variable (arg19 : Memref sig .tc .vmem S1x512 .f32) (harg19 : arg19.IsWhole)
variable (arg20 : Memref sig .tc .vmem S416x1536 .bf16) (harg20 : arg20.IsWhole)
variable (arg21 : Memref sig .tc .vmem S32x512 .f32) (harg21 : arg21.IsWhole)
variable (arg22 : Memref sig .tc .vmem S8x512 .f32) (harg22 : arg22.IsWhole)
variable (arg23 : Memref sig .tc .vmem S4x128x128 .f32) (harg23 : arg23.IsWhole)
variable (arg24 : Memref sig .tc .vmem S8x456x512 .f32) (harg24 : arg24.IsWhole)
variable (arg25 : Memref sig .tc .vmem S8x456x512 .f32) (harg25 : arg25.IsWhole)
variable (arg26 : Memref sig .tc .vmem S448x512 .f32) (harg26 : arg26.IsWhole)
variable (arg27 : Memref sig .tc .vmem S448x512 .f32) (harg27 : arg27.IsWhole)
variable (arg28 : Memref sig .tc .vmem S416x512 .f32) (harg28 : arg28.IsWhole)
variable (arg29 : Memref sig .tc .vmem S416x512 .bf16) (harg29 : arg29.IsWhole)
variable (arg30 : Memref sig .tc .vmem S416x512 .bf16) (harg30 : arg30.IsWhole)
variable (arg31 : Memref sig .tc .vmem S32x8x512 .f32) (harg31 : arg31.IsWhole)
variable (arg32 : Memref sig .tc .vmem S8x8x512 .f32) (harg32 : arg32.IsWhole)

set_option maxHeartbeats 8000000 in
/-- The body at any grid point, from all its buffers at some contents to all its buffers at some contents, the pooled columns
    among them known: its text is executed at the first chunk and at a later one. -/
theorem bodyRun (c : Dev nD) (i : grid0.Coords) (X2 : Vec F S416x512 .f32) (X4 : Vec F S32x512 .f32) (X17 : Vec F S4x128x128 .bf16) (X19 : Vec F S1x512 .f32) (K : PUnit → sProp 𝕄) :
    iprop(Held c X2 X4 X17 X19 (holds c arg20) arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32
        ∗ (Held c X2 X4 X17 X19 (meets c arg20 (Pooled (BitVec.ofNat 32 (i 0).val) (k0_pay133 (F := F) i) X2 X4 X17 X19)) arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 -∗ K ⟨⟩))
      ⊢ wp frame (wpE (defs₀ (F := F)) Variants.none c none) Set.univ
          (cc0_ev_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_ev_bwd_eq_skeleton]; unfold cc0_ev_bwd_skel
  unfold Held holds owns
  iintro ⟨⟨⟨%_, %_, -, H1⟩, ⟨%f2, %h2, H2⟩, ⟨%_, %_, -, H3⟩, ⟨%f4, %h4, H4⟩, ⟨%_, %_, -, H5⟩, ⟨%_, %_, -, H6⟩, ⟨%_, %_, -, H7⟩, ⟨%_, %_, -, H8⟩, ⟨%_, %_, -, H9⟩, ⟨%_, %_, -, H10⟩, ⟨%_, %_, -, H11⟩, ⟨%_, %_, -, H12⟩, ⟨%_, %_, -, H13⟩, ⟨%_, %_, -, H14⟩, ⟨%_, %_, -, H15⟩, ⟨%_, %_, -, H16⟩, ⟨%f17, %h17, H17⟩, ⟨%_, %_, -, H18⟩, ⟨%f19, %h19, H19⟩, ⟨%_, %_, -, H20⟩, ⟨%_, %_, -, H21⟩, ⟨%_, %_, -, H22⟩, ⟨%_, %_, -, H23⟩, ⟨%_, %_, -, H24⟩, ⟨%_, %_, -, H25⟩, ⟨%_, %_, -, H26⟩, ⟨%_, %_, -, H27⟩, ⟨%_, %_, -, H28⟩, ⟨%_, %_, -, H29⟩, ⟨%_, %_, -, H30⟩, ⟨%_, %_, -, H31⟩, ⟨%_, %_, -, H32⟩⟩, Hk⟩
  subst h2 h4 h17 h19
  by_cases h : Scalar.cmpi .ne (Scalar.extui (Scalar.cmpi .eq (BitVec.ofNat 32 (i 0).val) 0#32) : BitVec 32) 0#32 = 1#1
  all_goals
    sl_exec
    sl_step
    iapply Hk
    isplitl [H1]; · exact holds_intro c arg1 _
    isplitl [H2]; · exact owns_intro c arg2 _
    isplitl [H3]; · exact holds_intro c arg3 _
    isplitl [H4]; · exact owns_intro c arg4 _
    isplitl [H5]; · exact holds_intro c arg5 _
    isplitl [H6]; · exact holds_intro c arg6 _
    isplitl [H7]; · exact holds_intro c arg7 _
    isplitl [H8]; · exact holds_intro c arg8 _
    isplitl [H9]; · exact holds_intro c arg9 _
    isplitl [H10]; · exact holds_intro c arg10 _
    isplitl [H11]; · exact holds_intro c arg11 _
    isplitl [H12]; · exact holds_intro c arg12 _
    isplitl [H13]; · exact holds_intro c arg13 _
    isplitl [H14]; · exact holds_intro c arg14 _
    isplitl [H15]; · exact holds_intro c arg15 _
    isplitl [H16]; · exact holds_intro c arg16 _
    isplitl [H17]; · exact owns_intro c arg17 _
    isplitl [H18]; · exact holds_intro c arg18 _
    isplitl [H19]; · exact owns_intro c arg19 _
    isplitl [H20]
    · refine meets_intro c arg20 _ _ ?_
      exact pooled_of arg27.view arg28.view arg20.view _ _ _ (BitVec.ofNat 32 (i 0).val) _ _ _ (k0_pay133 (F := F) i) _ rfl rfl hL10 hL12
        inb_S448x512_S32x128_416_0 inb_S448x512_S32x128_416_128 inb_S448x512_S32x128_416_256 inb_S448x512_S32x128_416_384
        _ (View.readAt_full arg4.view f4 inb_S32x512_S32x512_0_0) _ (View.readAt_full arg19.view f19 inb_S1x512_S1x512_0_0) _ (ld_wt arg17.view f17 0 inb_S4x128x128_S1x128x128_0_0_0) _ (ld_wt arg17.view f17 1 inb_S4x128x128_S1x128x128_1_0_0) _ (ld_wt arg17.view f17 2 inb_S4x128x128_S1x128x128_2_0_0) _ (ld_wt arg17.view f17 3 inb_S4x128x128_S1x128x128_3_0_0) hL25
    isplitl [H21]; · exact holds_intro c arg21 _
    isplitl [H22]; · exact holds_intro c arg22 _
    isplitl [H23]; · exact holds_intro c arg23 _
    isplitl [H24]; · exact holds_intro c arg24 _
    isplitl [H25]; · exact holds_intro c arg25 _
    isplitl [H26]; · exact holds_intro c arg26 _
    isplitl [H27]; · exact holds_intro c arg27 _
    isplitl [H28]; · exact holds_intro c arg28 _
    isplitl [H29]; · exact holds_intro c arg29 _
    isplitl [H30]; · exact holds_intro c arg30 _
    isplitl [H31]; · exact holds_intro c arg31 _
    exact holds_intro c arg32 _

end Run

/-! ## The proof data and the body obligation -/

variable (m : (ℓ : Loc nD τ sig) → Buf (Elt F) ℓ) (ρ : Dev nD → PrngReg)

/-- The windows of which nothing exact is said: all but the four inputs of the pooled columns. -/
def loose : Fin 23 → Bool
  | 1 => false
  | 3 => false
  | 16 => false
  | 18 => false
  | _ => true

/-- What the pooled columns of chunk `t` hold, of the chunk's blocks. -/
def pooledAt (c : Dev nD) (t : Fin cfg0.N) : Vec F S416x1536 .bf16 → Prop :=
  Pooled (BitVec.ofNat 32 (grid0.coords t 0).val) (k0_pay133 (F := F) (grid0.coords t)) (iblk m c 1 t) (iblk m c 3 t) (iblk m c 16 t) (iblk m c 18 t)

/-- What is said of a window: of the gradient of `u`, its pooled columns. -/
def said (c : Dev nD) : (w : Fin cfg0.W) → Fin cfg0.N → ((cfg0.win w).block.Idx → Elt F (cfg0.win w).elt) → Prop
  | 19 => fun t X => pooledAt m c t X
  | _ => fun _ _ => True

/-- The proof data on core `c`: the arrays as the region finds them, the four inputs of the pooled columns left as they are,
    the library's invariant (the scratch at some contents, the generator register at some state), each input window its share
    of its array. -/
def dats (_ : Fin 1) (c : Dev nD) : Dat τ (Elt F) Unit ℕ (UR sig nD τ) ℕ cfg0 c where
  A w := V m c (Pipeline.arrRef spec0 w)
  after := fun
    | 1 => fun t => iblk m c 1 t
    | 3 => fun t => iblk m c 3 t
    | 16 => fun t => iblk m c 16 t
    | 18 => fun t => iblk m c 18 t
    | w => fun t => Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- The staging buffers of all windows at point `t`, the gradient of `u` at `H`. -/
def Windows (c : Dev nD) (t : Fin cfg0.N) (H : sProp 𝕄) : sProp 𝕄 :=
  iprop(holds c (st0_0 t) ∗ owns (c : Thread nD τ) (st0_1 t) fullShare (iblk m c 1 t) ∗ holds c (st0_2 t) ∗ owns (c : Thread nD τ) (st0_3 t) fullShare (iblk m c 3 t) ∗ holds c (st0_4 t) ∗ holds c (st0_5 t) ∗ holds c (st0_6 t) ∗ holds c (st0_7 t) ∗ holds c (st0_8 t) ∗ holds c (st0_9 t) ∗ holds c (st0_10 t) ∗ holds c (st0_11 t) ∗ holds c (st0_12 t) ∗ holds c (st0_13 t) ∗ holds c (st0_14 t) ∗ holds c (st0_15 t) ∗ owns (c : Thread nD τ) (st0_16 t) fullShare (iblk m c 16 t) ∗ holds c (st0_17 t) ∗ owns (c : Thread nD τ) (st0_18 t) fullShare (iblk m c 18 t) ∗ H ∗ holds c (st0_20 t) ∗ holds c (st0_21 t) ∗ holds c (st0_22 t))

def bodyPre (c : Dev nD) (t : Fin cfg0.N) : sProp 𝕄 :=
  iprop((dats m 0 c).Φ t.castSucc ∗ (dats m 0 c).owesAt () t.castSucc ∗ Windows m c t (holds c (st0_19 t)))
def bodyPost (c : Dev nD) (t : Fin cfg0.N) : sProp 𝕄 :=
  iprop((dats m 0 c).Φ t.succ ∗ (dats m 0 c).owesAt () t.succ ∗ Windows m c t (meets c (st0_19 t) (pooledAt m c t)))

/-- The invariant, conjunct by conjunct: each scratch buffer held, the generator register at some state. -/
theorem PhiA_eq (c : Dev nD) :
    (Pipeline.ΦA spec0 c : sProp 𝕄)
      = iprop((holds c (Memref.whole cc0_scratch0) ∗ holds c (Memref.whole cc0_scratch1) ∗ holds c (Memref.whole cc0_scratch2) ∗ holds c (Memref.whole cc0_scratch3) ∗
          holds c (Memref.whole cc0_scratch4) ∗ holds c (Memref.whole cc0_scratch5) ∗ holds c (Memref.whole cc0_scratch6) ∗ holds c (Memref.whole cc0_scratch7) ∗
          holds c (Memref.whole cc0_scratch8))
          ∗ ∃ r, prngReg c r) := by
  unfold Pipeline.ΦA holds; rw [scopedRest0_eq]; simp only [owns_whole]

set_option maxHeartbeats 1000000 in
/-- The body at a point: the invariant opened to the scratch, `bodyRun`, the invariant closed. The generator register and
    the core's debts are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  rw [PhiA_eq]; unfold Windows
  iintro ⟨⟨⟨S0, S1, S2, S3, S4, S5, S6, S7, S8⟩, Hg⟩, HO, ⟨H0, H1, H2, H3, H4, H5, H6, H7, H8, H9, H10, H11, H12, H13, H14, H15, H16, H17, H18, H19, H20, H21, H22⟩⟩
  iapply (bodyRun (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (st0_6 t) (hstage0_6 ((cfg0.slots t 6).cast nbuf0_6)) (st0_7 t) (hstage0_7 ((cfg0.slots t 7).cast nbuf0_7))
      (st0_8 t) (hstage0_8 ((cfg0.slots t 8).cast nbuf0_8)) (st0_9 t) (hstage0_9 ((cfg0.slots t 9).cast nbuf0_9))
      (st0_10 t) (hstage0_10 ((cfg0.slots t 10).cast nbuf0_10)) (st0_11 t) (hstage0_11 ((cfg0.slots t 11).cast nbuf0_11))
      (st0_12 t) (hstage0_12 ((cfg0.slots t 12).cast nbuf0_12)) (st0_13 t) (hstage0_13 ((cfg0.slots t 13).cast nbuf0_13))
      (st0_14 t) (hstage0_14 ((cfg0.slots t 14).cast nbuf0_14)) (st0_15 t) (hstage0_15 ((cfg0.slots t 15).cast nbuf0_15))
      (st0_16 t) (hstage0_16 ((cfg0.slots t 16).cast nbuf0_16)) (st0_17 t) (hstage0_17 ((cfg0.slots t 17).cast nbuf0_17))
      (st0_18 t) (hstage0_18 ((cfg0.slots t 18).cast nbuf0_18)) (st0_19 t) (hstage0_19 ((cfg0.slots t 19).cast nbuf0_19))
      (st0_20 t) (hstage0_20 ((cfg0.slots t 20).cast nbuf0_20)) (st0_21 t) (hstage0_21 ((cfg0.slots t 21).cast nbuf0_21))
      (st0_22 t) (hstage0_22 ((cfg0.slots t 22).cast nbuf0_22)) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _) c (grid0.coords t) (iblk m c 1 t) (iblk m c 3 t) (iblk m c 16 t) (iblk m c 18 t) _)
  unfold Held pooledAt
  isplitl [H0 H1 H2 H3 H4 H5 H6 H7 H8 H9 H10 H11 H12 H13 H14 H15 H16 H17 H18 H19 H20 H21 H22 S0 S1 S2 S3 S4 S5 S6 S7 S8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iintro ⟨H0, H1, H2, H3, H4, H5, H6, H7, H8, H9, H10, H11, H12, H13, H14, H15, H16, H17, H18, H19, H20, H21, H22, S0, S1, S2, S3, S4, S5, S6, S7, S8⟩
  isplitl [S0 S1 S2 S3 S4 S5 S6 S7 S8 Hg]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- A window of which nothing exact is said arrives holding something. -/
theorem pre_loose (c : Dev nD) (t : Fin cfg0.N) (w : Fin cfg0.W) (h : loose w = true) :
    (match loose w with
        | true => iprop(∃ Y, ⌜((dats m 0 c).toRRel loose (said m c)).Finds w t Y⌝ ∗ owns (c : Thread nD τ) ((cfg0.win w).stage (cfg0.slots t w)) fullShare Y)
        | false => iprop(∃ d, owns (c : Thread nD τ) ((cfg0.win w).stage (cfg0.slots t w)) fullShare ((dats m 0 c).before w t d)) : sProp 𝕄) ⊢ iprop(∃ X, owns (c : Thread nD τ) ((cfg0.win w).stage (cfg0.slots t w)) fullShare X) := by
  rw [h]
  iintro ⟨%X, -, H⟩
  iexists X
  iexact H

/-- An exact window arrives holding what it is said to. -/
theorem pre_exact (c : Dev nD) (t : Fin cfg0.N) (w : Fin cfg0.W) (h : loose w = false) (X : (cfg0.win w).block.Idx → Elt F (cfg0.win w).elt)
    (hX : ∀ d, (dats m 0 c).before w t d = X) :
    (match loose w with
        | true => iprop(∃ Y, ⌜((dats m 0 c).toRRel loose (said m c)).Finds w t Y⌝ ∗ owns (c : Thread nD τ) ((cfg0.win w).stage (cfg0.slots t w)) fullShare Y)
        | false => iprop(∃ d, owns (c : Thread nD τ) ((cfg0.win w).stage (cfg0.slots t w)) fullShare ((dats m 0 c).before w t d)) : sProp 𝕄) ⊢ owns (c : Thread nD τ) ((cfg0.win w).stage (cfg0.slots t w)) fullShare X := by
  rw [h]
  iintro ⟨%d, H⟩
  rw [hX d]
  iexact H

/-- A window of which nothing exact is said leaves with what is said of it. -/
theorem post_said (c : Dev nD) (t : Fin cfg0.N) (w : Fin cfg0.W) (h : loose w = true) :
    (iprop(∃ X, ⌜said m c w t X⌝ ∗ owns (c : Thread nD τ) ((cfg0.win w).stage (cfg0.slots t w)) fullShare X) : sProp 𝕄) ⊢ (match loose w with
        | true => iprop(∃ X, ⌜said m c w t X⌝ ∗ owns (c : Thread nD τ) ((cfg0.win w).stage (cfg0.slots t w)) fullShare X)
        | false =>
          match cfg0.idle w (cfg0.grid.coords t) with
          | true =>
            match (cfg0.win w).flush t with
            | false => iprop(∃ d, owns (c : Thread nD τ) ((cfg0.win w).stage (cfg0.slots t w)) fullShare ((dats m 0 c).before w t d))
            | true =>
              match cfg0.loose w with
              | true => iprop(∃ d, owns (c : Thread nD τ) ((cfg0.win w).stage (cfg0.slots t w)) fullShare ((cfg0.win w).fill (cfg0.grid.coords t) d ((cfg0.win w).cut (cfg0.grid.coords t) ((dats m 0 c).after w t))))
              | false => owns (c : Thread nD τ) ((cfg0.win w).stage (cfg0.slots t w)) fullShare ((dats m 0 c).after w t)
          | false =>
            match cfg0.loose w with
            | true => iprop(∃ d, owns (c : Thread nD τ) ((cfg0.win w).stage (cfg0.slots t w)) fullShare ((cfg0.win w).fill (cfg0.grid.coords t) d ((cfg0.win w).cut (cfg0.grid.coords t) ((dats m 0 c).after w t))))
            | false => owns (c : Thread nD τ) ((cfg0.win w).stage (cfg0.slots t w)) fullShare ((dats m 0 c).after w t) : sProp 𝕄) := by
  rw [h]

theorem post_loose (c : Dev nD) (t : Fin cfg0.N) (w : Fin cfg0.W) (h : loose w = true) (hs : ∀ X, said m c w t X) :
    (iprop(∃ X, owns (c : Thread nD τ) ((cfg0.win w).stage (cfg0.slots t w)) fullShare X) : sProp 𝕄) ⊢ (match loose w with
        | true => iprop(∃ X, ⌜said m c w t X⌝ ∗ owns (c : Thread nD τ) ((cfg0.win w).stage (cfg0.slots t w)) fullShare X)
        | false =>
          match cfg0.idle w (cfg0.grid.coords t) with
          | true =>
            match (cfg0.win w).flush t with
            | false => iprop(∃ d, owns (c : Thread nD τ) ((cfg0.win w).stage (cfg0.slots t w)) fullShare ((dats m 0 c).before w t d))
            | true =>
              match cfg0.loose w with
              | true => iprop(∃ d, owns (c : Thread nD τ) ((cfg0.win w).stage (cfg0.slots t w)) fullShare ((cfg0.win w).fill (cfg0.grid.coords t) d ((cfg0.win w).cut (cfg0.grid.coords t) ((dats m 0 c).after w t))))
              | false => owns (c : Thread nD τ) ((cfg0.win w).stage (cfg0.slots t w)) fullShare ((dats m 0 c).after w t)
          | false =>
            match cfg0.loose w with
            | true => iprop(∃ d, owns (c : Thread nD τ) ((cfg0.win w).stage (cfg0.slots t w)) fullShare ((cfg0.win w).fill (cfg0.grid.coords t) d ((cfg0.win w).cut (cfg0.grid.coords t) ((dats m 0 c).after w t))))
            | false => owns (c : Thread nD τ) ((cfg0.win w).stage (cfg0.slots t w)) fullShare ((dats m 0 c).after w t) : sProp 𝕄) := by
  refine .trans ?_ (post_said m c t w h)
  iintro ⟨%X, H⟩
  iexists X
  isplitr
  · ipureintro; exact hs X
  iexact H

/-- An exact window leaves holding what it is said to. -/
theorem post_exact (c : Dev nD) (t : Fin cfg0.N) (w : Fin cfg0.W) (h : loose w = false) (hi : cfg0.idle w (cfg0.grid.coords t) = false)
    (hl : cfg0.loose w = false) :
    owns (c : Thread nD τ) ((cfg0.win w).stage (cfg0.slots t w)) fullShare ((dats m 0 c).after w t) ⊢ (match loose w with
        | true => iprop(∃ X, ⌜said m c w t X⌝ ∗ owns (c : Thread nD τ) ((cfg0.win w).stage (cfg0.slots t w)) fullShare X)
        | false =>
          match cfg0.idle w (cfg0.grid.coords t) with
          | true =>
            match (cfg0.win w).flush t with
            | false => iprop(∃ d, owns (c : Thread nD τ) ((cfg0.win w).stage (cfg0.slots t w)) fullShare ((dats m 0 c).before w t d))
            | true =>
              match cfg0.loose w with
              | true => iprop(∃ d, owns (c : Thread nD τ) ((cfg0.win w).stage (cfg0.slots t w)) fullShare ((cfg0.win w).fill (cfg0.grid.coords t) d ((cfg0.win w).cut (cfg0.grid.coords t) ((dats m 0 c).after w t))))
              | false => owns (c : Thread nD τ) ((cfg0.win w).stage (cfg0.slots t w)) fullShare ((dats m 0 c).after w t)
          | false =>
            match cfg0.loose w with
            | true => iprop(∃ d, owns (c : Thread nD τ) ((cfg0.win w).stage (cfg0.slots t w)) fullShare ((cfg0.win w).fill (cfg0.grid.coords t) d ((cfg0.win w).cut (cfg0.grid.coords t) ((dats m 0 c).after w t))))
            | false => owns (c : Thread nD τ) ((cfg0.win w).stage (cfg0.slots t w)) fullShare ((dats m 0 c).after w t) : sProp 𝕄) := by
  rw [h, hi, hl]

theorem exact_cases : ∀ w : Fin 23, loose w = false → w = 1 ∨ w = 3 ∨ w = 16 ∨ w = 18 := by decide

theorem before_exact (c : Dev nD) (t : Fin cfg0.N) (w : Fin cfg0.W) (h : loose w = false) (d) : (dats m 0 c).before w t d = (dats m 0 c).after w t := by
  rcases exact_cases w h with rfl | rfl | rfl | rfl
  · exact before0_1_of m (dats m 0 c) (A_eq m c 1) (fun _ => rfl) t d
  · exact before0_3_of m (dats m 0 c) (A_eq m c 3) (fun _ => rfl) t d
  · exact before0_16_of m (dats m 0 c) (A_eq m c 16) (fun _ => rfl) t d
  · exact before0_18_of m (dats m 0 c) (A_eq m c 18) (fun _ => rfl) t d

theorem idle_exact (t : Fin cfg0.N) (w : Fin cfg0.W) (h : loose w = false) : cfg0.idle w (cfg0.grid.coords t) = false ∧ cfg0.loose w = false := by
  rcases exact_cases w h with rfl | rfl | rfl | rfl <;> exact ⟨rfl, rfl⟩

theorem said_trivial (c : Dev nD) (t : Fin cfg0.N) (w : Fin cfg0.W) (h : w ≠ (19 : Fin 23)) (X) : said m c w t X := by
  unfold said
  split
  · exact absurd rfl h
  · trivial

/-- A window as the body finds it. -/
def winPre (c : Dev nD) (t : Fin cfg0.N) (w : Fin cfg0.W) : sProp 𝕄 :=
  match loose w with
  | true => iprop(∃ X, owns (c : Thread nD τ) ((cfg0.win w).stage (cfg0.slots t w)) fullShare X)
  | false => owns (c : Thread nD τ) ((cfg0.win w).stage (cfg0.slots t w)) fullShare ((dats m 0 c).after w t)

/-- A window as the body leaves it. -/
def winPost (c : Dev nD) (t : Fin cfg0.N) (w : Fin 23) : sProp 𝕄 :=
  match w with
  | 19 => meets c (st0_19 t) (pooledAt m c t)
  | w => winPre m c t w

theorem winPre_of (c : Dev nD) (t : Fin cfg0.N) (w : Fin cfg0.W) : (match loose w with
        | true => iprop(∃ Y, ⌜((dats m 0 c).toRRel loose (said m c)).Finds w t Y⌝ ∗ owns (c : Thread nD τ) ((cfg0.win w).stage (cfg0.slots t w)) fullShare Y)
        | false => iprop(∃ d, owns (c : Thread nD τ) ((cfg0.win w).stage (cfg0.slots t w)) fullShare ((dats m 0 c).before w t d)) : sProp 𝕄) ⊢ winPre m c t w := by
  unfold winPre
  cases h : loose w
  · have := pre_exact m c t w h _ (before_exact m c t w h)
    rw [h] at this
    exact this
  · have := pre_loose m c t w h
    rw [h] at this
    exact this

theorem winPre_to (c : Dev nD) (t : Fin cfg0.N) (w : Fin cfg0.W) (hw : w ≠ (19 : Fin 23)) : winPre m c t w ⊢ (match loose w with
        | true => iprop(∃ X, ⌜said m c w t X⌝ ∗ owns (c : Thread nD τ) ((cfg0.win w).stage (cfg0.slots t w)) fullShare X)
        | false =>
          match cfg0.idle w (cfg0.grid.coords t) with
          | true =>
            match (cfg0.win w).flush t with
            | false => iprop(∃ d, owns (c : Thread nD τ) ((cfg0.win w).stage (cfg0.slots t w)) fullShare ((dats m 0 c).before w t d))
            | true =>
              match cfg0.loose w with
              | true => iprop(∃ d, owns (c : Thread nD τ) ((cfg0.win w).stage (cfg0.slots t w)) fullShare ((cfg0.win w).fill (cfg0.grid.coords t) d ((cfg0.win w).cut (cfg0.grid.coords t) ((dats m 0 c).after w t))))
              | false => owns (c : Thread nD τ) ((cfg0.win w).stage (cfg0.slots t w)) fullShare ((dats m 0 c).after w t)
          | false =>
            match cfg0.loose w with
            | true => iprop(∃ d, owns (c : Thread nD τ) ((cfg0.win w).stage (cfg0.slots t w)) fullShare ((cfg0.win w).fill (cfg0.grid.coords t) d ((cfg0.win w).cut (cfg0.grid.coords t) ((dats m 0 c).after w t))))
            | false => owns (c : Thread nD τ) ((cfg0.win w).stage (cfg0.slots t w)) fullShare ((dats m 0 c).after w t) : sProp 𝕄) := by
  cases h : loose w
  · obtain ⟨hi, hl⟩ := idle_exact t w h
    unfold winPre
    rw [h, hi, hl]
  · have := post_loose m c t w h (said_trivial m c t w hw)
    rw [h] at this
    unfold winPre
    rw [h]
    exact this

theorem winPost_to (c : Dev nD) (t : Fin cfg0.N) (w : Fin cfg0.W) : winPost m c t w ⊢ (match loose w with
        | true => iprop(∃ X, ⌜said m c w t X⌝ ∗ owns (c : Thread nD τ) ((cfg0.win w).stage (cfg0.slots t w)) fullShare X)
        | false =>
          match cfg0.idle w (cfg0.grid.coords t) with
          | true =>
            match (cfg0.win w).flush t with
            | false => iprop(∃ d, owns (c : Thread nD τ) ((cfg0.win w).stage (cfg0.slots t w)) fullShare ((dats m 0 c).before w t d))
            | true =>
              match cfg0.loose w with
              | true => iprop(∃ d, owns (c : Thread nD τ) ((cfg0.win w).stage (cfg0.slots t w)) fullShare ((cfg0.win w).fill (cfg0.grid.coords t) d ((cfg0.win w).cut (cfg0.grid.coords t) ((dats m 0 c).after w t))))
              | false => owns (c : Thread nD τ) ((cfg0.win w).stage (cfg0.slots t w)) fullShare ((dats m 0 c).after w t)
          | false =>
            match cfg0.loose w with
            | true => iprop(∃ d, owns (c : Thread nD τ) ((cfg0.win w).stage (cfg0.slots t w)) fullShare ((cfg0.win w).fill (cfg0.grid.coords t) d ((cfg0.win w).cut (cfg0.grid.coords t) ((dats m 0 c).after w t))))
            | false => owns (c : Thread nD τ) ((cfg0.win w).stage (cfg0.slots t w)) fullShare ((dats m 0 c).after w t) : sProp 𝕄) := by
  unfold winPost
  split
  · exact post_said m c t 19 rfl
  · rename_i hw
    exact winPre_to m c t w hw

set_option maxHeartbeats 2000000 in
theorem obligation_pre (c : Dev nD) (t : Fin cfg0.N) :
    (bigSep Finset.univ fun w : Fin cfg0.W => (match loose w with
        | true => iprop(∃ Y, ⌜((dats m 0 c).toRRel loose (said m c)).Finds w t Y⌝ ∗ owns (c : Thread nD τ) ((cfg0.win w).stage (cfg0.slots t w)) fullShare Y)
        | false => iprop(∃ d, owns (c : Thread nD τ) ((cfg0.win w).stage (cfg0.slots t w)) fullShare ((dats m 0 c).before w t d)) : sProp 𝕄)) ⊢ Windows m c t (holds c (st0_19 t)) := by
  refine .trans (bigSep_mono fun w _ => winPre_of m c t w) ?_
  rw [bigSep_W0]
  exact .rfl

set_option maxHeartbeats 2000000 in
theorem obligation_post (c : Dev nD) (t : Fin cfg0.N) :
    Windows m c t (meets c (st0_19 t) (pooledAt m c t)) ⊢ bigSep Finset.univ fun w : Fin cfg0.W => (match loose w with
        | true => iprop(∃ X, ⌜said m c w t X⌝ ∗ owns (c : Thread nD τ) ((cfg0.win w).stage (cfg0.slots t w)) fullShare X)
        | false =>
          match cfg0.idle w (cfg0.grid.coords t) with
          | true =>
            match (cfg0.win w).flush t with
            | false => iprop(∃ d, owns (c : Thread nD τ) ((cfg0.win w).stage (cfg0.slots t w)) fullShare ((dats m 0 c).before w t d))
            | true =>
              match cfg0.loose w with
              | true => iprop(∃ d, owns (c : Thread nD τ) ((cfg0.win w).stage (cfg0.slots t w)) fullShare ((cfg0.win w).fill (cfg0.grid.coords t) d ((cfg0.win w).cut (cfg0.grid.coords t) ((dats m 0 c).after w t))))
              | false => owns (c : Thread nD τ) ((cfg0.win w).stage (cfg0.slots t w)) fullShare ((dats m 0 c).after w t)
          | false =>
            match cfg0.loose w with
            | true => iprop(∃ d, owns (c : Thread nD τ) ((cfg0.win w).stage (cfg0.slots t w)) fullShare ((cfg0.win w).fill (cfg0.grid.coords t) d ((cfg0.win w).cut (cfg0.grid.coords t) ((dats m 0 c).after w t))))
            | false => owns (c : Thread nD τ) ((cfg0.win w).stage (cfg0.slots t w)) fullShare ((dats m 0 c).after w t) : sProp 𝕄) := by
  refine .trans ?_ (bigSep_mono fun w _ => winPost_to m c t w)
  rw [bigSep_W0]
  exact .rfl

set_option maxHeartbeats 2000000 in
/-- The library's body obligation, the gradient of `u` held to what is said of it. -/
theorem body_obligation (c : Dev nD) :
    BodyObligationRel (dats (F := F) m 0 c) (defs₀ (F := F)) Variants.none () Set.univ loose (said m c) := fun t => by
  rw [defs₀_row]
  exact triple_restated (sound_body m c t) rfl (sep_mono .rfl (sep_mono .rfl (obligation_pre m c t))) fun _ => sep_mono .rfl (sep_mono .rfl (obligation_post m c t))

/-! ## The launch -/

set_option backward.isDefEq.respectTransparency.types false in
/-- From any memory with zero counters every weakly fair execution terminates without a fault, the input arrays end as they
    were launched, every counter at zero, and the pooled columns of the gradient of `u` are as `pooledAt` says, chunk by chunk. -/
theorem run_main :
    θ_run defs (onTc (τ := τ) (main (F := F))) (s₀ m ρ)
      (fun r => Pipeline.RDat.FramePost (cfgs 0) (fun c => (dats m 0 c).toRRel loose (said m c)) (V m) r ∧ r.2.sem = fun _ => 0) :=
  Pipeline.RDat.θ_run_frame_track_shared (Q' := _) cfgs (0 : Fin 1) launch₀0 defs₀ Variants.none (fun c => (dats m 0 c).toRRel loose (said m c)) m ρ main
    (hbody := fun c => (body_obligation m c).toRRel) (hq := fun _ _ _ => rfl)
    (howed := fun _ _ => rfl) (V := V m) (hmain := hmain m Variants.none) (hA := A_eq m) (hin := fun _ => .rfl) (hout := fun _ => .rfl)

/-- The arguments are as they were: eight of the nine are the arrays of input windows, and the region does not touch the ninth. -/
theorem args_kept (r : PUnit × MemSt nD τ sig (Elt F)) (h : Pipeline.RDat.FramePost (cfgs 0) (fun c => (dats m 0 c).toRRel loose (said m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  have get (w : Fin 23) (hw : ((cfgs 0).win w).isOut = false) :
      r.2.mem ((spec0 w).arr.view.loc (c.tc : Thread nD τ)) = V m c (Pipeline.arrRef spec0 w) := by
    exact (congrFun (((dats m 0 c).toRRel loose (said m c)).ArrAt_in w hw (cfgs 0).N) _).mp ((h c).1 w)
  ⟨(get 3 rfl).trans (V_main_arg0 m c), (get 5 rfl).trans (V_main_arg1 m c), (get 11 rfl).trans (V_main_arg2 m c), (get 12 rfl).trans (V_main_arg3 m c), (get 13 rfl).trans (V_main_arg4 m c), (get 14 rfl).trans (V_main_arg5 m c), ((h c).2 main_arg6 (by decide)).trans (V_main_arg6 m c), (get 17 rfl).trans (V_main_arg7 m c), (get 18 rfl).trans (V_main_arg8 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_kept m r h.1 c, h.2⟩) (run_main m ρ)

end Cert.Kernel.Hand

end
-- ==== Proof.PoolIdeal.lean ====
module

public import proofs.«01_k».proof.Proof.PoolRun
public import Idealize.ShloMosaic.Lib.Pointwise
public import Idealize.ShloMosaic.Lib.Claim
public import Idealize.ShloMosaic.Lib.WordCmp
public import Idealize.ShloMosaic.Lib.IdealHost
public import Idealize.ShloMosaic.Lib.FinSumWindow

@[expose] public section

set_option maxRecDepth 16384

noncomputable section

/-! # The pooled columns as extended reals -/

namespace Cert.Kernel.Pool

open Cert.Kernel Cert.Kernel.Gen
open Idealize.ShloMosaic

/-- The width of each group's window. -/
def width : Fin 4 → ℕ := ![2, 4, 8, 16]

/-- How many rows the window of width `w` covers at row `p`, the first 48 rows being padding. -/
def covered (w p : ℕ) : EReal := (((min w (p - 47) : ℕ) : ℝ) : EReal)

/-- The gradient of the pooled values at one row, by the row's gradient, the scales and a row of the weights. -/
def grad (x s p : Fin 128 → EReal) : EReal := ∑ h, x h * s h * p h

/-- The word of the count, a row at a time. -/
theorem count_word : ∀ (n : Fin 5000), 48 ≤ n.val → ∀ w ∈ [2, 4, 8, 16],
    IntOp.minsi (BitVec.ofNat 32 w) (IntOp.maxsi 1#32 (IntOp.addi (IntOp.subi (BitVec.ofNat 32 n.val) 48#32) 1#32)) = BitVec.ofNat 32 (min w (n.val - 47)) := by
  decide +kernel

theorem small_word : ∀ q : Fin 20, (BitVec.ofNat 32 q.val).toInt = (q.val : ℤ) := by decide

theorem width_lt {w : ℕ} (h : w ∈ [2, 4, 8, 16]) : w < 20 := by
  simp only [List.mem_cons, List.not_mem_nil, or_false] at h
  omega

/-- The count, as the kernel computes it. -/
theorem count (x : BitVec 32) (n w : ℕ) (hx : x = BitVec.ofNat 32 n) (hn : 48 ≤ n) (hn' : n < 5000) (hw : w ∈ [2, 4, 8, 16]) :
    (FloatOps.sitofp (F := Ideal) FTy.f32 (IntOp.minsi (BitVec.ofNat 32 w) (IntOp.maxsi 1#32 (IntOp.addi (IntOp.subi x 48#32) 1#32))) : EReal) = covered w n := by
  subst hx
  rw [count_word ⟨n, hn'⟩ hn w hw]
  show (((BitVec.ofNat 32 (min w (n - 47))).toInt : ℝ) : EReal) = _
  rw [small_word ⟨min w (n - 47), by have := width_lt hw; omega⟩]
  unfold covered
  simp only [Int.cast_natCast]

theorem word_add (a k r : ℕ) : IntOp.addi (Scalar.addi (Scalar.muli (BitVec.ofNat 32 a) 416#32) (Scalar.muli (BitVec.ofNat 32 k) 32#32)) (BitVec.ofNat 32 r) =
    BitVec.ofNat 32 (416 * a + 32 * k + r) := by
  show BitVec.ofNat 32 a * 416#32 + BitVec.ofNat 32 k * 32#32 + BitVec.ofNat 32 r = _
  rw [← BitVec.ofNat_mul, ← BitVec.ofNat_mul, ← BitVec.ofNat_add, ← BitVec.ofNat_add, Nat.mul_comm a, Nat.mul_comm k]

theorem word_tail (a r : ℕ) : IntOp.addi (Scalar.addi (Scalar.muli (BitVec.ofNat 32 a) 416#32) 416#32) (BitVec.ofNat 32 r) =
    BitVec.ofNat 32 (416 * a + 416 + r) := by
  show BitVec.ofNat 32 a * 416#32 + 416#32 + BitVec.ofNat 32 r = _
  rw [← BitVec.ofNat_mul, ← BitVec.ofNat_add, ← BitVec.ofNat_add, Nat.mul_comm a]

theorem cell28_0 (X2 : Vec Ideal S416x512 .f32) (X19 : Vec Ideal S1x512 .f32) (X17 : Vec Ideal S4x128x128 .bf16) (k : Fin 13) (r : Fin 32) (c : Fin 128) :
    (cell28 X2 X19 X17 k 0 (ix2 r c) : EReal) =
      grad (fun h => X2 (ix2 ⟨32 * k.val + r.val, by omega⟩ ⟨0 + h.val, by omega⟩)) (fun h => X19 (ix2 0 ⟨0 + h.val, by omega⟩)) (fun h => X17 (ix3 0 h c)) := by
  unfold cell28 grad
  pointwise [k0_pay21, k0_pay22, k0_pay24, k0_pay25, k0_pay27, k0_pay28, k0_pay31, k0_pay32, k0_pay147, rows, wt]

theorem cell27_0 (a : ℕ) (ha : a < 10) (X2 : Vec Ideal S416x512 .f32) (X19 : Vec Ideal S1x512 .f32) (X17 : Vec Ideal S4x128x128 .bf16) (k : Fin 13) (r : Fin 32) (c : Fin 128)
    (h48 : 48 ≤ 416 * a + 32 * k.val + r.val) :
    (cell27 (BitVec.ofNat 32 a) X2 X19 X17 k 0 (ix2 r c) : EReal) =
      Ideal.div (grad (fun h => X2 (ix2 ⟨32 * k.val + r.val, by omega⟩ ⟨0 + h.val, by omega⟩)) (fun h => X19 (ix2 0 ⟨0 + h.val, by omega⟩)) (fun h => X17 (ix3 0 h c)))
        (covered 2 (416 * a + 32 * k.val + r.val)) := by
  unfold cell27 grad
  pointwise [k0_pay21, k0_pay22, k0_pay23, k0_pay25, k0_pay26, k0_pay28, k0_pay29, k0_pay30, k0_pay32, k0_pay33, k0_pay146, rows, wt, word]
  rw [count _ (416 * a + 32 * k.val + r.val) 2 (word_add _ _ _) h48 (by omega) (by decide)]

theorem cellT_0 (a : ℕ) (ha : a < 10) (v5 : Ideal .f32) (X4 : Vec Ideal S32x512 .f32) (X19 : Vec Ideal S1x512 .f32) (X17 : Vec Ideal S4x128x128 .bf16) (r : Fin 32) (c : Fin 128) :
    (cellT (BitVec.ofNat 32 a) v5 X4 X19 X17 0 (ix2 r c) : EReal) =
      Ideal.div (∑ h : Fin 128, X4 (ix2 r ⟨0 + h.val, by omega⟩) * X19 (ix2 0 ⟨0 + h.val, by omega⟩) * (v5 : EReal) * X17 (ix3 0 h c))
        (covered 2 (416 * a + 416 + r.val)) := by
  unfold cellT
  pointwise [k0_pay155, k0_pay156, k0_pay157, k0_pay158, k0_pay159, k0_pay160, k0_pay161, k0_pay162, wt]
  rw [count _ (416 * a + 416 + r.val) 2 (word_tail _ _) (by omega) (by omega) (by decide)]

theorem cell20_0 (D27 : Vec Ideal S448x512 .f32) (D28 : Vec Ideal S416x512 .f32) (k : Fin 13) (r : Fin 32) (c : Fin 128) (f : ℕ → EReal)
    (hf : ∀ j (_ : j < 2), (D27 (ix2 ⟨32 * k.val + (j + r.val), by omega⟩ ⟨0 + c.val, by omega⟩) : EReal) = f j) :
    (cell20 D27 D28 k 0 (ix2 r c) : EReal) =
      (∑ j ∈ Finset.range 2, f j) - D28 (ix2 ⟨32 * k.val + r.val, by omega⟩ ⟨0 + c.val, by omega⟩) := by
  unfold cell20
  simp only [Finset.sum_range_succ, Finset.sum_range_zero, zero_add]
  rw [← hf 0 (by norm_num), ← hf 1 (by norm_num)]
  pointwise [k0_pay113, k0_pay115, k0_pay118, k0_pay121, k0_pay124, k0_pay126, k0_pay129, k0_pay130, k0_pay164, rows64, blk28, at28]

theorem cell28_1 (X2 : Vec Ideal S416x512 .f32) (X19 : Vec Ideal S1x512 .f32) (X17 : Vec Ideal S4x128x128 .bf16) (k : Fin 13) (r : Fin 32) (c : Fin 128) :
    (cell28 X2 X19 X17 k 1 (ix2 r c) : EReal) =
      grad (fun h => X2 (ix2 ⟨32 * k.val + r.val, by omega⟩ ⟨128 + h.val, by omega⟩)) (fun h => X19 (ix2 0 ⟨128 + h.val, by omega⟩)) (fun h => X17 (ix3 1 h c)) := by
  unfold cell28 grad
  pointwise [k0_pay21, k0_pay22, k0_pay24, k0_pay25, k0_pay27, k0_pay28, k0_pay31, k0_pay32, k0_pay147, rows, wt]

theorem cell27_1 (a : ℕ) (ha : a < 10) (X2 : Vec Ideal S416x512 .f32) (X19 : Vec Ideal S1x512 .f32) (X17 : Vec Ideal S4x128x128 .bf16) (k : Fin 13) (r : Fin 32) (c : Fin 128)
    (h48 : 48 ≤ 416 * a + 32 * k.val + r.val) :
    (cell27 (BitVec.ofNat 32 a) X2 X19 X17 k 1 (ix2 r c) : EReal) =
      Ideal.div (grad (fun h => X2 (ix2 ⟨32 * k.val + r.val, by omega⟩ ⟨128 + h.val, by omega⟩)) (fun h => X19 (ix2 0 ⟨128 + h.val, by omega⟩)) (fun h => X17 (ix3 1 h c)))
        (covered 4 (416 * a + 32 * k.val + r.val)) := by
  unfold cell27 grad
  pointwise [k0_pay21, k0_pay22, k0_pay23, k0_pay25, k0_pay26, k0_pay28, k0_pay29, k0_pay30, k0_pay32, k0_pay33, k0_pay146, rows, wt, word]
  rw [count _ (416 * a + 32 * k.val + r.val) 4 (word_add _ _ _) h48 (by omega) (by decide)]

theorem cellT_1 (a : ℕ) (ha : a < 10) (v5 : Ideal .f32) (X4 : Vec Ideal S32x512 .f32) (X19 : Vec Ideal S1x512 .f32) (X17 : Vec Ideal S4x128x128 .bf16) (r : Fin 32) (c : Fin 128) :
    (cellT (BitVec.ofNat 32 a) v5 X4 X19 X17 1 (ix2 r c) : EReal) =
      Ideal.div (∑ h : Fin 128, X4 (ix2 r ⟨128 + h.val, by omega⟩) * X19 (ix2 0 ⟨128 + h.val, by omega⟩) * (v5 : EReal) * X17 (ix3 1 h c))
        (covered 4 (416 * a + 416 + r.val)) := by
  unfold cellT
  pointwise [k0_pay155, k0_pay156, k0_pay157, k0_pay158, k0_pay159, k0_pay160, k0_pay161, k0_pay162, wt]
  rw [count _ (416 * a + 416 + r.val) 4 (word_tail _ _) (by omega) (by omega) (by decide)]

theorem cell20_1 (D27 : Vec Ideal S448x512 .f32) (D28 : Vec Ideal S416x512 .f32) (k : Fin 13) (r : Fin 32) (c : Fin 128) (f : ℕ → EReal)
    (hf : ∀ j (_ : j < 4), (D27 (ix2 ⟨32 * k.val + (j + r.val), by omega⟩ ⟨128 + c.val, by omega⟩) : EReal) = f j) :
    (cell20 D27 D28 k 1 (ix2 r c) : EReal) =
      (∑ j ∈ Finset.range 4, f j) - D28 (ix2 ⟨32 * k.val + r.val, by omega⟩ ⟨128 + c.val, by omega⟩) := by
  unfold cell20
  simp only [Finset.sum_range_succ, Finset.sum_range_zero, zero_add]
  rw [← hf 0 (by norm_num), ← hf 1 (by norm_num), ← hf 2 (by norm_num), ← hf 3 (by norm_num)]
  pointwise [k0_pay113, k0_pay115, k0_pay118, k0_pay121, k0_pay124, k0_pay126, k0_pay129, k0_pay130, k0_pay164, rows64, blk28, at28]

theorem cell28_2 (X2 : Vec Ideal S416x512 .f32) (X19 : Vec Ideal S1x512 .f32) (X17 : Vec Ideal S4x128x128 .bf16) (k : Fin 13) (r : Fin 32) (c : Fin 128) :
    (cell28 X2 X19 X17 k 2 (ix2 r c) : EReal) =
      grad (fun h => X2 (ix2 ⟨32 * k.val + r.val, by omega⟩ ⟨256 + h.val, by omega⟩)) (fun h => X19 (ix2 0 ⟨256 + h.val, by omega⟩)) (fun h => X17 (ix3 2 h c)) := by
  unfold cell28 grad
  pointwise [k0_pay21, k0_pay22, k0_pay24, k0_pay25, k0_pay27, k0_pay28, k0_pay31, k0_pay32, k0_pay147, rows, wt]

theorem cell27_2 (a : ℕ) (ha : a < 10) (X2 : Vec Ideal S416x512 .f32) (X19 : Vec Ideal S1x512 .f32) (X17 : Vec Ideal S4x128x128 .bf16) (k : Fin 13) (r : Fin 32) (c : Fin 128)
    (h48 : 48 ≤ 416 * a + 32 * k.val + r.val) :
    (cell27 (BitVec.ofNat 32 a) X2 X19 X17 k 2 (ix2 r c) : EReal) =
      Ideal.div (grad (fun h => X2 (ix2 ⟨32 * k.val + r.val, by omega⟩ ⟨256 + h.val, by omega⟩)) (fun h => X19 (ix2 0 ⟨256 + h.val, by omega⟩)) (fun h => X17 (ix3 2 h c)))
        (covered 8 (416 * a + 32 * k.val + r.val)) := by
  unfold cell27 grad
  pointwise [k0_pay21, k0_pay22, k0_pay23, k0_pay25, k0_pay26, k0_pay28, k0_pay29, k0_pay30, k0_pay32, k0_pay33, k0_pay146, rows, wt, word]
  rw [count _ (416 * a + 32 * k.val + r.val) 8 (word_add _ _ _) h48 (by omega) (by decide)]

theorem cellT_2 (a : ℕ) (ha : a < 10) (v5 : Ideal .f32) (X4 : Vec Ideal S32x512 .f32) (X19 : Vec Ideal S1x512 .f32) (X17 : Vec Ideal S4x128x128 .bf16) (r : Fin 32) (c : Fin 128) :
    (cellT (BitVec.ofNat 32 a) v5 X4 X19 X17 2 (ix2 r c) : EReal) =
      Ideal.div (∑ h : Fin 128, X4 (ix2 r ⟨256 + h.val, by omega⟩) * X19 (ix2 0 ⟨256 + h.val, by omega⟩) * (v5 : EReal) * X17 (ix3 2 h c))
        (covered 8 (416 * a + 416 + r.val)) := by
  unfold cellT
  pointwise [k0_pay155, k0_pay156, k0_pay157, k0_pay158, k0_pay159, k0_pay160, k0_pay161, k0_pay162, wt]
  rw [count _ (416 * a + 416 + r.val) 8 (word_tail _ _) (by omega) (by omega) (by decide)]

theorem cell20_2 (D27 : Vec Ideal S448x512 .f32) (D28 : Vec Ideal S416x512 .f32) (k : Fin 13) (r : Fin 32) (c : Fin 128) (f : ℕ → EReal)
    (hf : ∀ j (_ : j < 8), (D27 (ix2 ⟨32 * k.val + (j + r.val), by omega⟩ ⟨256 + c.val, by omega⟩) : EReal) = f j) :
    (cell20 D27 D28 k 2 (ix2 r c) : EReal) =
      (∑ j ∈ Finset.range 8, f j) - D28 (ix2 ⟨32 * k.val + r.val, by omega⟩ ⟨256 + c.val, by omega⟩) := by
  unfold cell20
  simp only [Finset.sum_range_succ, Finset.sum_range_zero, zero_add]
  rw [← hf 0 (by norm_num), ← hf 1 (by norm_num), ← hf 2 (by norm_num), ← hf 3 (by norm_num), ← hf 4 (by norm_num), ← hf 5 (by norm_num), ← hf 6 (by norm_num), ← hf 7 (by norm_num)]
  pointwise [k0_pay113, k0_pay115, k0_pay118, k0_pay121, k0_pay124, k0_pay126, k0_pay129, k0_pay130, k0_pay164, rows64, blk28, at28]

theorem cell28_3 (X2 : Vec Ideal S416x512 .f32) (X19 : Vec Ideal S1x512 .f32) (X17 : Vec Ideal S4x128x128 .bf16) (k : Fin 13) (r : Fin 32) (c : Fin 128) :
    (cell28 X2 X19 X17 k 3 (ix2 r c) : EReal) =
      grad (fun h => X2 (ix2 ⟨32 * k.val + r.val, by omega⟩ ⟨384 + h.val, by omega⟩)) (fun h => X19 (ix2 0 ⟨384 + h.val, by omega⟩)) (fun h => X17 (ix3 3 h c)) := by
  unfold cell28 grad
  pointwise [k0_pay21, k0_pay22, k0_pay24, k0_pay25, k0_pay27, k0_pay28, k0_pay31, k0_pay32, k0_pay147, rows, wt]

theorem cell27_3 (a : ℕ) (ha : a < 10) (X2 : Vec Ideal S416x512 .f32) (X19 : Vec Ideal S1x512 .f32) (X17 : Vec Ideal S4x128x128 .bf16) (k : Fin 13) (r : Fin 32) (c : Fin 128)
    (h48 : 48 ≤ 416 * a + 32 * k.val + r.val) :
    (cell27 (BitVec.ofNat 32 a) X2 X19 X17 k 3 (ix2 r c) : EReal) =
      Ideal.div (grad (fun h => X2 (ix2 ⟨32 * k.val + r.val, by omega⟩ ⟨384 + h.val, by omega⟩)) (fun h => X19 (ix2 0 ⟨384 + h.val, by omega⟩)) (fun h => X17 (ix3 3 h c)))
        (covered 16 (416 * a + 32 * k.val + r.val)) := by
  unfold cell27 grad
  pointwise [k0_pay21, k0_pay22, k0_pay23, k0_pay25, k0_pay26, k0_pay28, k0_pay29, k0_pay30, k0_pay32, k0_pay33, k0_pay146, rows, wt, word]
  rw [count _ (416 * a + 32 * k.val + r.val) 16 (word_add _ _ _) h48 (by omega) (by decide)]

theorem cellT_3 (a : ℕ) (ha : a < 10) (v5 : Ideal .f32) (X4 : Vec Ideal S32x512 .f32) (X19 : Vec Ideal S1x512 .f32) (X17 : Vec Ideal S4x128x128 .bf16) (r : Fin 32) (c : Fin 128) :
    (cellT (BitVec.ofNat 32 a) v5 X4 X19 X17 3 (ix2 r c) : EReal) =
      Ideal.div (∑ h : Fin 128, X4 (ix2 r ⟨384 + h.val, by omega⟩) * X19 (ix2 0 ⟨384 + h.val, by omega⟩) * (v5 : EReal) * X17 (ix3 3 h c))
        (covered 16 (416 * a + 416 + r.val)) := by
  unfold cellT
  pointwise [k0_pay155, k0_pay156, k0_pay157, k0_pay158, k0_pay159, k0_pay160, k0_pay161, k0_pay162, wt]
  rw [count _ (416 * a + 416 + r.val) 16 (word_tail _ _) (by omega) (by omega) (by decide)]

theorem cell20_3 (D27 : Vec Ideal S448x512 .f32) (D28 : Vec Ideal S416x512 .f32) (k : Fin 13) (r : Fin 32) (c : Fin 128) (f : ℕ → EReal)
    (hf : ∀ j (_ : j < 16), (D27 (ix2 ⟨32 * k.val + (j + r.val), by omega⟩ ⟨384 + c.val, by omega⟩) : EReal) = f j) :
    (cell20 D27 D28 k 3 (ix2 r c) : EReal) =
      (∑ j ∈ Finset.range 16, f j) - D28 (ix2 ⟨32 * k.val + r.val, by omega⟩ ⟨384 + c.val, by omega⟩) := by
  unfold cell20
  simp only [Finset.sum_range_succ, Finset.sum_range_zero, zero_add]
  rw [← hf 0 (by norm_num), ← hf 1 (by norm_num), ← hf 2 (by norm_num), ← hf 3 (by norm_num), ← hf 4 (by norm_num), ← hf 5 (by norm_num), ← hf 6 (by norm_num), ← hf 7 (by norm_num), ← hf 8 (by norm_num), ← hf 9 (by norm_num), ← hf 10 (by norm_num), ← hf 11 (by norm_num), ← hf 12 (by norm_num), ← hf 13 (by norm_num), ← hf 14 (by norm_num), ← hf 15 (by norm_num)]
  pointwise [k0_pay113, k0_pay115, k0_pay118, k0_pay121, k0_pay124, k0_pay126, k0_pay129, k0_pay130, k0_pay164, rows64, blk28, at28]

theorem cell28_eq (X2 : Vec Ideal S416x512 .f32) (X19 : Vec Ideal S1x512 .f32) (X17 : Vec Ideal S4x128x128 .bf16) (k : Fin 13) (g : Fin 4) (r : Fin 32) (c : Fin 128) :
    (cell28 X2 X19 X17 k g (ix2 r c) : EReal) = grad (fun h => X2 (ix2 ⟨32 * k.val + r.val, by omega⟩ ⟨128 * g.val + h.val, by omega⟩)) (fun h => X19 (ix2 0 ⟨128 * g.val + h.val, by omega⟩)) (fun h => X17 (ix3 g h c)) :=
  match g with
  | 0 => cell28_0 X2 X19 X17 k r c
  | 1 => cell28_1 X2 X19 X17 k r c
  | 2 => cell28_2 X2 X19 X17 k r c
  | 3 => cell28_3 X2 X19 X17 k r c

theorem cell27_eq (a : ℕ) (ha : a < 10) (X2 : Vec Ideal S416x512 .f32) (X19 : Vec Ideal S1x512 .f32) (X17 : Vec Ideal S4x128x128 .bf16) (k : Fin 13) (g : Fin 4) (r : Fin 32) (c : Fin 128) (h48 : 48 ≤ 416 * a + 32 * k.val + r.val) :
    (cell27 (BitVec.ofNat 32 a) X2 X19 X17 k g (ix2 r c) : EReal) = Ideal.div (grad (fun h => X2 (ix2 ⟨32 * k.val + r.val, by omega⟩ ⟨128 * g.val + h.val, by omega⟩)) (fun h => X19 (ix2 0 ⟨128 * g.val + h.val, by omega⟩)) (fun h => X17 (ix3 g h c))) (covered (width g) (416 * a + 32 * k.val + r.val)) :=
  match g with
  | 0 => cell27_0 a ha X2 X19 X17 k r c h48
  | 1 => cell27_1 a ha X2 X19 X17 k r c h48
  | 2 => cell27_2 a ha X2 X19 X17 k r c h48
  | 3 => cell27_3 a ha X2 X19 X17 k r c h48

theorem cellT_eq (a : ℕ) (ha : a < 10) (v5 : Ideal .f32) (X4 : Vec Ideal S32x512 .f32) (X19 : Vec Ideal S1x512 .f32) (X17 : Vec Ideal S4x128x128 .bf16) (g : Fin 4) (r : Fin 32) (c : Fin 128) :
    (cellT (BitVec.ofNat 32 a) v5 X4 X19 X17 g (ix2 r c) : EReal) = Ideal.div (∑ h : Fin 128, X4 (ix2 r ⟨128 * g.val + h.val, by omega⟩) * X19 (ix2 0 ⟨128 * g.val + h.val, by omega⟩) * (v5 : EReal) * X17 (ix3 g h c)) (covered (width g) (416 * a + 416 + r.val)) :=
  match g with
  | 0 => cellT_0 a ha v5 X4 X19 X17 r c
  | 1 => cellT_1 a ha v5 X4 X19 X17 r c
  | 2 => cellT_2 a ha v5 X4 X19 X17 r c
  | 3 => cellT_3 a ha v5 X4 X19 X17 r c

theorem width_le (g : Fin 4) : width g ≤ 16 := by
  revert g
  decide

theorem cell20_eq (D27 : Vec Ideal S448x512 .f32) (D28 : Vec Ideal S416x512 .f32) (k : Fin 13) (g : Fin 4) (r : Fin 32) (c : Fin 128) (f : ℕ → EReal)
    (hf : ∀ j (h : j < 16), j < width g → (D27 (ix2 ⟨32 * k.val + (j + r.val), by omega⟩ ⟨128 * g.val + c.val, by omega⟩) : EReal) = f j) :
    (cell20 D27 D28 k g (ix2 r c) : EReal) = (∑ j ∈ Finset.range (width g), f j) - D28 (ix2 ⟨32 * k.val + r.val, by omega⟩ ⟨128 * g.val + c.val, by omega⟩) :=
  match g with
  | 0 => cell20_0 D27 D28 k r c f fun j h => hf j (by omega) h
  | 1 => cell20_1 D27 D28 k r c f fun j h => hf j (by omega) h
  | 2 => cell20_2 D27 D28 k r c f fun j h => hf j (by omega) h
  | 3 => cell20_3 D27 D28 k r c f fun j h => hf j (by omega) h

/-! ## What the kernel leaves in the pooled columns -/

variable (dy : ℕ → Fin 512 → EReal) (ps : Fin 512 → EReal) (pw : Fin 4 → Fin 128 → Fin 128 → EReal)

/-- The gradient of the pooled values at row `p`. -/
def dd (g : Fin 4) (p : ℕ) (c : Fin 128) : EReal :=
  grad (fun h => dy p ⟨128 * g.val + h.val, by omega⟩) (fun h => ps ⟨128 * g.val + h.val, by omega⟩) (fun h => pw g h c)

/-- The same over the rows the window covers. -/
def ddc (g : Fin 4) (p : ℕ) (c : Fin 128) : EReal := Ideal.div (dd dy ps pw g p c) (covered (width g) p)

/-- A pooled column of the gradient of `u`. -/
def pooledCol (g : Fin 4) (p : ℕ) (c : Fin 128) : EReal := (∑ j ∈ Finset.range (width g), ddc dy ps pw g (p + j) c) - dd dy ps pw g p c

/-- Whether there is a next chunk, as the kernel computes it. -/
theorem next_word : ∀ a : Fin 10, (Scalar.extui (Scalar.cmpi .slt (BitVec.ofNat 32 a.val) 9#32) : BitVec 32).toInt = if a.val < 9 then 1 else 0 := by decide

theorem next_eq (i : grid0.Coords) : (k0_pay133 (F := Ideal) i : EReal) = if (i 0).val < 9 then 1 else 0 := by
  have h := next_word ⟨(i 0).val, (i 0).isLt⟩
  show (((Scalar.extui (Scalar.cmpi .slt (BitVec.ofNat 32 (i 0).val) 9#32) : BitVec 32).toInt : ℝ) : EReal) = _
  rw [h]
  split <;> simp

theorem pooled_eq (a : ℕ) (ha : a < 10) (v5 : Ideal .f32) (X2 : Vec Ideal S416x512 .f32) (X4 : Vec Ideal S32x512 .f32) (X17 : Vec Ideal S4x128x128 .bf16)
    (X19 : Vec Ideal S1x512 .f32) (X : Vec Ideal S416x1536 .bf16) (hX : Pooled (BitVec.ofNat 32 a) v5 X2 X4 X17 X19 X)
    (hv : (v5 : EReal) = if a < 9 then 1 else 0) (hdy : ∀ p c, 4160 ≤ p → dy p c = 0)
    (h2 : ∀ (r : Fin 416) (c : Fin 512), (X2 (ix2 r c) : EReal) = dy (416 * a + r.val) c)
    (h4 : a < 9 → ∀ (r : Fin 32) (c : Fin 512), (X4 (ix2 r c) : EReal) = dy (416 * a + 416 + r.val) c)
    (h19 : ∀ c : Fin 512, (X19 (ix2 0 c) : EReal) = ps c) (h17 : ∀ (g : Fin 4) (h c : Fin 128), (X17 (ix3 g h c) : EReal) = pw g h c)
    (k : Fin 13) (g : Fin 4) (r : Fin 32) (c : Fin 128) (h48 : 48 ≤ 416 * a + 32 * k.val + r.val) :
    (X (ix2 ⟨32 * k.val + r.val, by omega⟩ ⟨1024 + 128 * g.val + c.val, by omega⟩) : EReal) = pooledCol dy ps pw g (416 * a + 32 * k.val + r.val) c := by
  obtain ⟨D27, D28, q27, q28, qT, q20⟩ := hX
  have e27 : ∀ (q : Fin 448), 48 ≤ 416 * a + q.val → (D27 (ix2 q ⟨128 * g.val + c.val, by omega⟩) : EReal) = ddc dy ps pw g (416 * a + q.val) c := by
    intro q hq
    by_cases h : q.val < 416
    · have e := q27 ⟨q.val / 32, by omega⟩ (by show q.val / 32 < 13; omega) g (ix2 ⟨q.val % 32, by omega⟩ c)
      have er : 32 * (q.val / 32) + q.val % 32 = q.val := by omega
      have ei : at27 ⟨q.val / 32, by omega⟩ g (ix2 ⟨q.val % 32, by omega⟩ c) = ix2 q ⟨128 * g.val + c.val, by omega⟩ := by
        unfold at27
        refine congrArg₂ ix2 (Fin.ext er) (Fin.ext rfl)
      rw [ei] at e
      refine Eq.trans e ?_
      rw [cell27_eq a ha X2 X19 X17 _ g _ c (by show 48 ≤ 416 * a + 32 * (q.val / 32) + q.val % 32; omega)]
      unfold ddc dd
      simp only [h2, h19, h17]
      have e2 : 416 * a + 32 * (q.val / 32) + q.val % 32 = 416 * a + q.val := by omega
      simp only [er, e2]
    · have e := qT g (ix2 ⟨q.val - 416, by omega⟩ c)
      have ei : tail27 g (ix2 ⟨q.val - 416, by omega⟩ c) = ix2 q ⟨128 * g.val + c.val, by omega⟩ := by
        unfold tail27
        refine congrArg₂ ix2 (Fin.ext (by show 416 + (q.val - 416) = q.val; omega)) (Fin.ext rfl)
      rw [ei] at e
      refine Eq.trans e ?_
      rw [cellT_eq a ha v5 X4 X19 X17 g _ c]
      unfold ddc dd grad
      have e2 : 416 * a + 416 + (q.val - 416) = 416 * a + q.val := by omega
      refine congrArg₂ Ideal.div (Finset.sum_congr rfl fun x _ => ?_) (by simp only [e2])
      rw [hv, h19, h17]
      by_cases h9 : a < 9
      · rw [if_pos h9, mul_one, h4 h9]
        simp only [e2]
      · rw [if_neg h9, mul_zero]
        show (0 : EReal) * _ = dy (416 * a + q.val) _ * _ * _
        rw [hdy _ _ (by omega : 4160 ≤ 416 * a + q.val)]
        simp only [zero_mul]
  have e28 : (D28 (ix2 ⟨32 * k.val + r.val, by omega⟩ ⟨128 * g.val + c.val, by omega⟩) : EReal) = dd dy ps pw g (416 * a + 32 * k.val + r.val) c := by
    refine (q28 k k.isLt g (ix2 r c)).trans ?_
    rw [cell28_eq X2 X19 X17 k g r c]
    unfold dd
    simp only [h2, h19, h17, Nat.add_assoc]
  refine (q20 k k.isLt g (ix2 r c)).trans ?_
  rw [cell20_eq D27 D28 k g r c (fun j => ddc dy ps pw g (416 * a + 32 * k.val + r.val + j) c) (fun j hj _ => ?_), e28]
  · rfl
  · refine (e27 ⟨32 * k.val + (j + r.val), by omega⟩ (by show 48 ≤ 416 * a + (32 * k.val + (j + r.val)); omega)).trans ?_
    exact congrArg (fun n => ddc dy ps pw g n c) (by show 416 * a + (32 * k.val + (j + r.val)) = _; omega)

end Cert.Kernel.Pool

end
-- ==== Proof.PoolFinal.lean ====
module

public import proofs.«01_k».proof.Proof.Body
public import proofs.«01_k».proof.Proof.PoolIdeal
public import Idealize.ShloMosaic.Lib.Pipeline.ValueKit
public import Idealize.ShloMosaic.Lib.Pipeline.ArrRel

@[expose] public section

set_option maxRecDepth 16384

noncomputable section

/-! # The pooled columns of the gradient of `u` after the run -/

namespace Cert.Kernel.Hand

open Cert.Kernel Cert.Kernel.Gen Cert.Kernel.Pool
open Idealize.ShloMosaic Idealize.ShloMosaic.TcCoe Idealize.SL.Sem Idealize.ShloMosaic.StableHlo
open Idealize.ShloMosaic.Pipeline (Dat RDat)

variable (m : (ℓ : Loc nD τ sig) → Buf (Elt Ideal) ℓ)

/-- The pooled half of the gradient the kernel is given, by elements, zero beyond the last row. -/
def dyOf (x : S4160x1024.Idx → EReal) (p : ℕ) (b : Fin 512) : EReal := if h : p < 4160 then x (ix2 ⟨p, h⟩ ⟨512 + b.val, by omega⟩) else 0

/-- The scales and the weights by elements. -/
def psOf (x : S1x512.Idx → EReal) (b : Fin 512) : EReal := x (ix2 0 b)
def pwOf (x : S4x128x128.Idx → EReal) (g : Fin 4) (h b : Fin 128) : EReal := x (ix3 g b h)

/-- What the pooled columns hold, of the arguments. -/
def pooledVal (x0 : S4160x1024.Idx → EReal) (x6 : S4x128x128.Idx → EReal) (x8 : S1x512.Idx → EReal) (p q : ℕ) : EReal :=
  pooledCol (dyOf x0) (psOf x8) (pwOf x6) ⟨(q - 1024) / 128 % 4, by omega⟩ p ⟨(q - 1024) % 128, by omega⟩

/-- The windows' block indices at point `t`. -/
theorem idx : ∀ t : Fin cfg0.N, win0_1.index t = ![t.val, 1] ∧ win0_16.index t = ![0, 0, 0] ∧ win0_18.index t = ![0, 0] ∧ win0_19.index t = ![t.val, 0] :=
  (by decide +kernel : ∀ t : Fin grid0.N, _)
theorem idx3 : ∀ t : Fin cfg0.N, t.val < 9 → win0_3.index t = ![13 * t.val + 13, 1] :=
  (by decide +kernel : ∀ t : Fin grid0.N, _)
theorem coord : ∀ t : Fin cfg0.N, (grid0.coords t 0).val = t.val :=
  (by decide +kernel : ∀ t : Fin grid0.N, _)

abbrev a0 (c : Dev nD) : S4160x1024.Idx → EReal := m ((c : Thread nD τ).loc main_arg0)
abbrev a6 (c : Dev nD) : S4x128x128.Idx → EReal := m ((c : Thread nD τ).loc main_arg6)
abbrev a8 (c : Dev nD) : S1x512.Idx → EReal := m ((c : Thread nD τ).loc main_arg8)

theorem V_pw (c : Dev nD) (g : Fin 4) (h b : Fin 128) : (V m c main_v2 (ix3 g h b) : EReal) = pwOf (a6 m c) g h b := by
  simp only [V, hostOps0, List.flatten_cons, List.flatten_nil, List.append_nil, List.cons_append, List.nil_append,
    TRef.binary, TRef.nullary, TRef.unary, TRef.toBuf, TRef.ofBuf, cast_eq]
  entry_read
  pointwise
  rfl

theorem blk_1 (c : Dev nD) (t : Fin cfg0.N) (r : Fin 416) (b : Fin 512) : (iblk m c 1 t (ix2 r b) : EReal) = dyOf (a0 m c) (416 * t.val + r.val) b := by
  have ht : t.val < 10 := t.isLt
  unfold dyOf
  rw [dif_pos (by omega)]
  refine Eq.trans ?_ (congrFun (V_main_arg0 m c) _)
  blk_point [iblk, idx t]

theorem blk_3 (c : Dev nD) (t : Fin cfg0.N) (h9 : t.val < 9) (r : Fin 32) (b : Fin 512) : (iblk m c 3 t (ix2 r b) : EReal) = dyOf (a0 m c) (416 * t.val + 416 + r.val) b := by
  unfold dyOf
  rw [dif_pos (by omega)]
  refine Eq.trans ?_ (congrFun (V_main_arg0 m c) _)
  blk_point [iblk, idx3 t h9]

theorem blk_16 (c : Dev nD) (t : Fin cfg0.N) (g : Fin 4) (h b : Fin 128) : (iblk m c 16 t (ix3 g h b) : EReal) = pwOf (a6 m c) g h b := by
  refine Eq.trans ?_ (V_pw m c g h b)
  blk_point [iblk, idx t]

theorem blk_18 (c : Dev nD) (t : Fin cfg0.N) (b : Fin 512) : (iblk m c 18 t (ix2 0 b) : EReal) = psOf (a8 m c) b := by
  refine Eq.trans ?_ (congrFun (V_main_arg8 m c) _)
  blk_point [iblk, idx t]

theorem dy_beyond (x : S4160x1024.Idx → EReal) (p : ℕ) (b : Fin 512) (h : 4160 ≤ p) : dyOf x p b = 0 := by
  unfold dyOf
  rw [dif_neg (by omega)]

/-- A chunk's pooled columns. -/
theorem chunk (c : Dev nD) (t : Fin cfg0.N) (X : Vec Ideal S416x1536 .bf16) (hX : pooledAt m c t X) (x : Fin 416) (q : Fin 1536)
    (h48 : 48 ≤ 416 * t.val + x.val) (hq : 1024 ≤ q.val) : (X (ix2 x q) : EReal) = pooledVal (a0 m c) (a6 m c) (a8 m c) (416 * t.val + x.val) q.val := by
  have ht : t.val < 10 := t.isLt
  unfold pooledAt at hX
  rw [coord t] at hX
  have e := pooled_eq (dyOf (a0 m c)) (psOf (a8 m c)) (pwOf (a6 m c)) t.val ht _ _ _ _ _ X hX
    ((next_eq (grid0.coords t)).trans (by rw [coord t])) (dy_beyond _) (blk_1 m c t) (fun h9 => blk_3 m c t h9) (blk_18 m c t) (blk_16 m c t)
    ⟨x.val / 32, by omega⟩ ⟨(q.val - 1024) / 128 % 4, by omega⟩ ⟨x.val % 32, by omega⟩ ⟨(q.val - 1024) % 128, by omega⟩
    (by show 48 ≤ 416 * t.val + 32 * (x.val / 32) + x.val % 32; omega)
  have ei : (ix2 (n0 := 416) (n1 := 1536) ⟨32 * (x.val / 32) + x.val % 32, by omega⟩ ⟨1024 + 128 * ((q.val - 1024) / 128 % 4) + (q.val - 1024) % 128, by omega⟩) = ix2 x q := by
    refine congrArg₂ ix2 (Fin.ext (by show 32 * (x.val / 32) + x.val % 32 = x.val; omega))
      (Fin.ext (by show 1024 + 128 * ((q.val - 1024) / 128 % 4) + (q.val - 1024) % 128 = q.val; omega))
  refine Eq.trans (congrArg X ei.symm) (e.trans ?_)
  unfold pooledVal
  exact congrArg (fun p => pooledCol (dyOf (a0 m c)) (psOf (a8 m c)) (pwOf (a6 m c)) ⟨(q.val - 1024) / 128 % 4, by omega⟩ p ⟨(q.val - 1024) % 128, by omega⟩)
    (by show 416 * t.val + 32 * (x.val / 32) + x.val % 32 = 416 * t.val + x.val; omega)

/-- The pooled columns of the gradient of `u` after the run. -/
theorem pooled_final (r : PUnit × MemSt nD τ sig (Elt Ideal))
    (h : RDat.FramePost (cfgs 0) (fun c => (dats m 0 c).toRRel loose (said m c)) (V m) r) (c : Dev nD) (i : S4160x1536.Idx)
    (h48 : 48 ≤ (i 0).val) (hq : 1024 ≤ (i 1).val) :
    (r.2.mem ((c.tc : Thread nD τ).loc main_v3_0) i : EReal) = pooledVal (a0 m c) (a6 m c) (a8 m c) (i 0).val (i 1).val := by
  obtain ⟨after, hL, hA⟩ := RDat.FramePost.exists_exact h c
  have e := hA 19
  have key := (((dats m 0 c).toRRel loose (said m c)).withAfter after).arrAt_forall_of_covers 19
    (fun i v => ∀ (i' : S4160x1536.Idx), i = i' → 48 ≤ (i' 0).val → 1024 ≤ (i' 1).val → (v : EReal) = pooledVal (a0 m c) (a6 m c) (a8 m c) (i' 0).val (i' 1).val)
    (by decide +kernel) (fun t hf y i' hi h48 hq => by
      have hs := (dats m 0 c).toRRel_leaves (fgt := loose) (Rl := said m c) (w := 19) rfl (hL 19 t hf)
      have hs' : pooledAt m c t (after 19 t) := hs
      have ht : t.val < 10 := t.isLt
      have hy0 : (y 0).val < 416 := (y 0).isLt
      have hy1 : (y 1).val < 1536 := (y 1).isLt
      have hlt : 416 * t.val + (y 0).val < 4160 := by clear h48 hq hi; omega
      have e0 : ((win0_19.blk t).view.emb y : S4160x1536.Idx) = ix2 ⟨416 * t.val + (y 0).val, hlt⟩ ⟨(y 1).val, hy1⟩ := by
        blk_ext [idx t]
      obtain rfl : i' = ix2 ⟨416 * t.val + (y 0).val, hlt⟩ ⟨(y 1).val, hy1⟩ := hi.symm.trans e0
      refine Eq.trans ?_ (chunk m c t (after 19 t) hs' ⟨(y 0).val, hy0⟩ ⟨(y 1).val, hy1⟩ h48 hq)
      blk_simp
      refine congrArg (after 19 t) ?_
      funext a
      match a with
      | 0 => rfl
      | 1 => rfl)
  refine (congrFun e i).trans ?_
  exact key i i rfl h48 hq

/-- Every run of the kernel leaves the pooled columns in its first result, and its arguments as they were. -/
theorem pooled_run (ρ : Dev nD → PrngReg) : θ_run (defs (F := Ideal)) (onTc (τ := τ) (main (F := Ideal))) ⟨m, fun _ => 0, ρ⟩ (fun r => ∀ c : Dev nD,
      (∀ i : S4160x1536.Idx, 48 ≤ (i 0).val → 1024 ≤ (i 1).val →
        (r.2.mem ((c.tc : Thread nD τ).loc main_v3_0) i : EReal) = pooledVal (m ((c.tc : Thread nD τ).loc main_arg0)) (m ((c.tc : Thread nD τ).loc main_arg6)) (m ((c.tc : Thread nD τ).loc main_arg8)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨fun i h48 hq => pooled_final m r h.1 c i h48 hq, args_kept m r h.1 c⟩) (run_main m ρ)

end Cert.Kernel.Hand

end
-- ==== Proof.Ideal.lean ====
module

public import proofs.«01_k».proof.Proof.PoolFinal
public import proofs.«01_k».proof.Proof.Gen.KernelIdeal

@[expose] public section

set_option maxHeartbeats 4000000

noncomputable section

namespace Cert.KernelIdeal.Hand

open Idealize.ShloMosaic Idealize.ShloMosaic.TcCoe Idealize.SL.Sem
open Cert.KernelIdeal Cert.KernelIdeal.Gen

variable {F : FTy → Type} [FloatOps F]

/-! The idealised program is the program's own text, so its run is the one of `Cert.Kernel.Hand`. -/

theorem body_eq : cc0_ev_bwd (F := F) = Cert.Kernel.cc0_ev_bwd (F := F) := rfl

theorem defs₀_eq : defs₀ (F := F) = Cert.Kernel.defs₀ (F := F) := by
  unfold defs₀ Cert.Kernel.defs₀
  refine congrArg Defs.onTc ?_
  funext l a
  obtain rfl : l = 0 := Subsingleton.elim (α := Fin 1) _ _
  obtain ⟨t, s⟩ := a
  simp only [body_eq]
  rfl

theorem defs_eq : defs (F := F) = Cert.Kernel.defs (F := F) := congrArg (Pipeline.defs _) defs₀_eq

theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)) ∧ r.2.sem = fun _ => 0 := by
  rw [defs_eq]
  exact Cert.Kernel.Hand.frame (F := F) m ρ

theorem pooled_run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      (∀ i : (⟨2, ![4160, 1536]⟩ : Shape).Idx, 48 ≤ (i 0).val → 1024 ≤ (i 1).val →
        (r.2.mem ((c.tc : Thread nD τ).loc main_v3_0) i : EReal) = Cert.Kernel.Hand.pooledVal (m ((c.tc : Thread nD τ).loc main_arg0)) (m ((c.tc : Thread nD τ).loc main_arg6)) (m ((c.tc : Thread nD τ).loc main_arg8)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  rw [defs_eq]
  exact Cert.Kernel.Hand.pooled_run m ρ

end Cert.KernelIdeal.Hand

end
-- ==== Proof.PoolRef.lean ====
module

public import proofs.«01_k».proof.Proof.Gen.PoolRefIdeal.Run
public import proofs.«01_k».proof.Proof.PoolFinal
public import proofs.«01_k».proof.On_pooled_columns

@[expose] public section

set_option maxRecDepth 16384

noncomputable section

/-! # The reference's pooled columns -/

namespace Cert.PoolRefIdeal.Hand

open Cert.PoolRefIdeal Cert.PoolRefIdeal.Gen Cert.PoolRefIdeal.Value
open Idealize.ShloMosaic Idealize.ShloMosaic.TcCoe Idealize.SL.Sem Idealize.ShloMosaic.StableHlo
open Cert.Kernel.Pool (width covered grad dd ddc pooledCol)
open Cert.Kernel.Hand (dyOf psOf pwOf pooledVal)

variable (V0 : Valuation τ sig (Elt Ideal))

abbrev x0 : S4160x1024.Idx → EReal := V0 (Proc.devRef .tc main_arg0)
abbrev x6 : S4x128x128.Idx → EReal := V0 (Proc.devRef .tc main_arg6)
abbrev x8 : S1x512.Idx → EReal := V0 (Proc.devRef .tc main_arg8)

/-- One group's columns: what comes back through the window's mean, less what is subtracted. -/
def part (d : FVec Ideal S4112x128 .f32) (n : FVec Ideal S4112x1 .f32) (k : FVec Ideal S4112x4112 .f32) : FVec Ideal S4112x128 .f32 :=
  addf (Host.negf d) (transpose S4112x128 [1, 0] (Host.dotGeneral dot_S4112x128_S4112x4112_S128x4112_0_0_1_1_n_n none (Host.divf d (broadcastInDim S4112x128 ![0, 1] bcast_S4112x1_S4112x128_0_1 n)) k) transposes_S128x4112_S4112x128_1_0)

theorem part_apply (d : FVec Ideal S4112x128 .f32) (n : FVec Ideal S4112x1 .f32) (k : FVec Ideal S4112x4112 .f32) (s : Fin 4112) (b : Fin 128) :
    (part d n k (ix2 s b) : EReal) = -(d (ix2 s b) : EReal) + ∑ x : Fin 4112, Ideal.div (d (ix2 x b)) (n (ix2 x 0)) * k (ix2 x s) := by
  unfold part
  pointwise

/-- The groups side by side, under the rows and beside the columns left at zero. -/
def glue (p0 p1 p2 p3 : FVec Ideal S4112x128 .f32) : FVec Ideal S4160x1536 .bf16 :=
  truncf .bf16 (concatenate S4160x1536 1 [⟨S4160x1024, (broadcastInDim S4160x1024 ![] bcast_S_S4160x1024 (constant S_ .f32 0x00000000#32))⟩, ⟨S4160x512, (concatenate S4160x512 0 [⟨S48x512, (broadcastInDim S48x512 ![] bcast_S_S48x512 (constant S_ .f32 0x00000000#32))⟩, ⟨S4112x512, (addf (addf (addf (pad S4112x512 ![0, 384] ![0, 0] ![0, 0] p3 (constant S_ .f32 0x00000000#32) pads_S4112x128_S4112x512_000_38400 h_S_) (pad S4112x512 ![0, 256] ![0, 128] ![0, 0] p2 (constant S_ .f32 0x00000000#32) pads_S4112x128_S4112x512_000_2561280 h_S_)) (pad S4112x512 ![0, 128] ![0, 256] ![0, 0] p1 (constant S_ .f32 0x00000000#32) pads_S4112x128_S4112x512_000_1282560 h_S_)) (pad S4112x512 ![0, 0] ![0, 384] ![0, 0] p0 (constant S_ .f32 0x00000000#32) pads_S4112x128_S4112x512_000_03840 h_S_))⟩] concatenates_S48x512_S4112x512_S4160x512_d0)⟩] concatenates_S4160x1024_S4160x512_S4160x1536_d1) bitsLt_bf16_f32

theorem band_real (p : Prop) [Decidable p] (b : BitVec 1) (h : b = if p then 1#1 else 0#1) : ((b.toNat : ℝ) : EReal) = if p then (1 : EReal) else 0 := by
  subst h
  by_cases hp : p
  · rw [if_pos hp, if_pos hp]; norm_num
  · rw [if_neg hp, if_neg hp]; norm_num

theorem band_word (s t : Fin 4112) (w : ℕ) (hw : w < 20) :
    IntOp.andi (IntOp.cmpi .sle (BitVec.ofNat 32 t.val) (BitVec.ofNat 32 s.val)) (IntOp.cmpi .sgt (BitVec.ofNat 32 t.val) (IntOp.subi (BitVec.ofNat 32 s.val) (BitVec.ofNat 32 w))) =
      if t.val ≤ s.val ∧ s.val < t.val + w then 1#1 else 0#1 := by
  have h1 : (BitVec.ofNat 32 t.val).toInt = (t.val : ℤ) := by
    rw [BitVec.toInt_eq_toNat_bmod, BitVec.toNat_ofNat, Int.bmod]; split <;> omega
  have h2 : (BitVec.ofNat 32 s.val).toInt = (s.val : ℤ) := by
    rw [BitVec.toInt_eq_toNat_bmod, BitVec.toNat_ofNat, Int.bmod]; split <;> omega
  have h3 : (BitVec.ofNat 32 w).toInt = (w : ℤ) := by
    rw [BitVec.toInt_eq_toNat_bmod, BitVec.toNat_ofNat, Int.bmod]; split <;> omega
  have h4 : (IntOp.subi (BitVec.ofNat 32 s.val) (BitVec.ofNat 32 w)).toInt = (s.val : ℤ) - w := by
    show (BitVec.ofNat 32 s.val - BitVec.ofNat 32 w).toInt = _
    rw [BitVec.toInt_sub, h2, h3, Int.bmod]; split <;> omega
  rw [WordCmp.cmpi_sle_eq, WordCmp.cmpi_sgt_eq, h1, h2, h4]
  by_cases ha : t.val ≤ s.val <;> by_cases hb : s.val < t.val + w
  · rw [if_pos ⟨ha, hb⟩, decide_eq_true (by omega), decide_eq_true (by omega)]; rfl
  · rw [if_neg (fun h => hb h.2), decide_eq_true (by omega), decide_eq_false (by omega)]; rfl
  · rw [if_neg (fun h => ha h.1), decide_eq_false (by omega), decide_eq_true (by omega)]; rfl
  · rw [if_neg (fun h => ha h.1), decide_eq_false (by omega), decide_eq_false (by omega)]; rfl

theorem count_real (s w : ℕ) (hs : s < 4112) (x : EReal) (hx : x = ((w : ℝ) : EReal)) : min (1 + ((((BitVec.ofNat 32 s).toInt : ℤ) : ℝ) : EReal)) x = covered w (48 + s) := by
  have h2 : (BitVec.ofNat 32 s).toInt = (s : ℤ) := by
    rw [BitVec.toInt_eq_toNat_bmod, BitVec.toNat_ofNat, Int.bmod]; split <;> omega
  have h3 : min w (48 + s - 47) = min (1 + s) w := by omega
  have h4 : (1 : EReal) + ((((s : ℤ) : ℝ)) : EReal) = (((1 + s : ℕ) : ℝ) : EReal) := by
    push_cast
    rfl
  unfold covered
  rw [h2, hx, h3, h4, Nat.cast_min]
  exact (EReal.coe_strictMono.monotone.map_min).symm

theorem two_bits : Ideal.ofBits .f32 0x40000000#32 = (((2 : ℕ) : ℝ) : EReal) := by
  simp [Ideal.ofBits, Ideal.ieee, -EReal.coe_mul]; norm_num
theorem four_bits : Ideal.ofBits .f32 0x40800000#32 = (((4 : ℕ) : ℝ) : EReal) := by
  simp [Ideal.ofBits, Ideal.ieee, -EReal.coe_mul]; norm_num
theorem eight_bits : Ideal.ofBits .f32 0x41000000#32 = (((8 : ℕ) : ℝ) : EReal) := by
  simp [Ideal.ofBits, Ideal.ieee, -EReal.coe_mul]; norm_num
theorem sixteen_bits : Ideal.ofBits .f32 0x41800000#32 = (((16 : ℕ) : ℝ) : EReal) := by
  simp [Ideal.ofBits, Ideal.ieee, -EReal.coe_mul]; norm_num

theorem glue_0 (p0 p1 p2 p3 : FVec Ideal S4112x128 .f32) (s : Fin 4112) (b : Fin 128) :
    (glue p0 p1 p2 p3 (ix2 ⟨48 + s.val, by omega⟩ ⟨1024 + b.val, by omega⟩) : EReal) = p0 (ix2 s b) := by
  unfold glue
  pointwise
  rw [dif_neg (by omega), dif_neg (by omega), dif_neg (fun h => h.1)]
  have e : ∀ x : EReal, 0 + 0 + 0 + x = x := fun x => by rw [add_zero, add_zero, zero_add]
  exact e _

theorem grad_0 (s : Fin 4112) (b : Fin 128) : (res_main_v150 V0 (ix2 s b) : EReal) = dd (dyOf (x0 V0)) (psOf (x8 V0)) (pwOf (x6 V0)) 0 (48 + s.val) b := by
  have hp : 48 + s.val < 4160 := by omega
  unfold dd grad dyOf psOf pwOf
  simp only [dif_pos hp]
  pointwise [res_main_v150, res_main_v124, res_main_v31]

theorem band_0 (s t : Fin 4112) : (res_main_v24 V0 (ix2 s t) : EReal) = if t.val ≤ s.val ∧ s.val < t.val + 2 then (1 : EReal) else (0 : EReal) := by
  pointwise [res_main_v24, res_main_v5, res_main_v33, res_main_v61, res_main_v89]
  exact band_real _ _ (band_word s t 2 (by decide))

theorem count_0 (s : Fin 4112) : (res_main_v26 V0 (ix2 s 0) : EReal) = covered 2 (48 + s.val) := by
  pointwise [res_main_v26]
  exact count_real s.val 2 s.isLt _ two_bits

theorem glue_1 (p0 p1 p2 p3 : FVec Ideal S4112x128 .f32) (s : Fin 4112) (b : Fin 128) :
    (glue p0 p1 p2 p3 (ix2 ⟨48 + s.val, by omega⟩ ⟨1152 + b.val, by omega⟩) : EReal) = p1 (ix2 s b) := by
  unfold glue
  pointwise
  rw [dif_neg (by omega), dif_neg (by omega), dif_neg (by omega), dif_pos (by omega), dif_neg (by omega)]
  simp only [zero_add, add_zero]
  congr 2
  apply Fin.ext
  show 1152 + b.val - 1024 - 128 = b.val
  omega

theorem grad_1 (s : Fin 4112) (b : Fin 128) : (res_main_v143 V0 (ix2 s b) : EReal) = dd (dyOf (x0 V0)) (psOf (x8 V0)) (pwOf (x6 V0)) 1 (48 + s.val) b := by
  have hp : 48 + s.val < 4160 := by omega
  unfold dd grad dyOf psOf pwOf
  simp only [dif_pos hp]
  pointwise [res_main_v143, res_main_v124, res_main_v59]

theorem band_1 (s t : Fin 4112) : (res_main_v52 V0 (ix2 s t) : EReal) = if t.val ≤ s.val ∧ s.val < t.val + 4 then (1 : EReal) else (0 : EReal) := by
  pointwise [res_main_v52, res_main_v5, res_main_v33, res_main_v61, res_main_v89]
  exact band_real _ _ (band_word s t 4 (by decide))

theorem count_1 (s : Fin 4112) : (res_main_v54 V0 (ix2 s 0) : EReal) = covered 4 (48 + s.val) := by
  pointwise [res_main_v54]
  exact count_real s.val 4 s.isLt _ four_bits

theorem glue_2 (p0 p1 p2 p3 : FVec Ideal S4112x128 .f32) (s : Fin 4112) (b : Fin 128) :
    (glue p0 p1 p2 p3 (ix2 ⟨48 + s.val, by omega⟩ ⟨1280 + b.val, by omega⟩) : EReal) = p2 (ix2 s b) := by
  unfold glue
  pointwise
  rw [dif_neg (by omega), dif_neg (by omega), dif_pos (by omega), dif_neg (by omega), dif_neg (by omega)]
  simp only [zero_add, add_zero]
  congr 2
  apply Fin.ext
  show 1280 + b.val - 1024 - 256 = b.val
  omega

theorem grad_2 (s : Fin 4112) (b : Fin 128) : (res_main_v136 V0 (ix2 s b) : EReal) = dd (dyOf (x0 V0)) (psOf (x8 V0)) (pwOf (x6 V0)) 2 (48 + s.val) b := by
  have hp : 48 + s.val < 4160 := by omega
  unfold dd grad dyOf psOf pwOf
  simp only [dif_pos hp]
  pointwise [res_main_v136, res_main_v124, res_main_v87]

theorem band_2 (s t : Fin 4112) : (res_main_v80 V0 (ix2 s t) : EReal) = if t.val ≤ s.val ∧ s.val < t.val + 8 then (1 : EReal) else (0 : EReal) := by
  pointwise [res_main_v80, res_main_v5, res_main_v33, res_main_v61, res_main_v89]
  exact band_real _ _ (band_word s t 8 (by decide))

theorem count_2 (s : Fin 4112) : (res_main_v82 V0 (ix2 s 0) : EReal) = covered 8 (48 + s.val) := by
  pointwise [res_main_v82]
  exact count_real s.val 8 s.isLt _ eight_bits

theorem glue_3 (p0 p1 p2 p3 : FVec Ideal S4112x128 .f32) (s : Fin 4112) (b : Fin 128) :
    (glue p0 p1 p2 p3 (ix2 ⟨48 + s.val, by omega⟩ ⟨1408 + b.val, by omega⟩) : EReal) = p3 (ix2 s b) := by
  unfold glue
  pointwise
  rw [dif_neg (by omega), dif_pos (by omega), dif_neg (by omega), dif_neg (by omega), dif_neg (by omega)]
  simp only [zero_add, add_zero]
  congr 2
  apply Fin.ext
  show 1408 + b.val - 1024 - 384 = b.val
  omega

theorem grad_3 (s : Fin 4112) (b : Fin 128) : (res_main_v129 V0 (ix2 s b) : EReal) = dd (dyOf (x0 V0)) (psOf (x8 V0)) (pwOf (x6 V0)) 3 (48 + s.val) b := by
  have hp : 48 + s.val < 4160 := by omega
  unfold dd grad dyOf psOf pwOf
  simp only [dif_pos hp]
  pointwise [res_main_v129, res_main_v124, res_main_v115]

theorem band_3 (s t : Fin 4112) : (res_main_v108 V0 (ix2 s t) : EReal) = if t.val ≤ s.val ∧ s.val < t.val + 16 then (1 : EReal) else (0 : EReal) := by
  pointwise [res_main_v108, res_main_v5, res_main_v33, res_main_v61, res_main_v89]
  exact band_real _ _ (band_word s t 16 (by decide))

theorem count_3 (s : Fin 4112) : (res_main_v110 V0 (ix2 s 0) : EReal) = covered 16 (48 + s.val) := by
  pointwise [res_main_v110]
  exact count_real s.val 16 s.isLt _ sixteen_bits

theorem covered_ne (w s : ℕ) (hw : 0 < w) : covered w (48 + s) ≠ 0 := by
  unfold covered
  intro h
  have h1 := EReal.coe_eq_zero.mp h
  have h2 : min w (48 + s - 47) = 0 := by exact_mod_cast h1
  omega

theorem width_pos (g : Fin 4) : 0 < width g := by
  fin_cases g <;> decide

/-- A row past the last brings nothing back. -/
theorem ddc_beyond (x : S4160x1024.Idx → EReal) (ps : Fin 512 → EReal) (pw : Fin 4 → Fin 128 → Fin 128 → EReal) (g : Fin 4) (p : ℕ) (hp : 4160 ≤ p) (c : Fin 128) :
    ddc (dyOf x) ps pw g p c = 0 := by
  obtain ⟨s, rfl⟩ : ∃ s, p = 48 + s := ⟨p - 48, by omega⟩
  have h0 : dd (dyOf x) ps pw g (48 + s) c = 0 := by
    unfold dd grad dyOf
    have hn : ¬ (48 + s < 4160) := by omega
    refine Finset.sum_eq_zero (fun h _ => ?_)
    simp only [dif_neg hn]
    show (0 : EReal) * _ * _ = 0
    rw [zero_mul, zero_mul]
  unfold ddc Ideal.div
  rw [h0, if_neg (covered_ne _ _ (width_pos g)), zero_mul]

theorem band_sum (f : ℕ → EReal) (hf : ∀ p, 4112 ≤ p → f p = 0) (s w : ℕ) (hs : s < 4112) :
    (∑ x : Fin 4112, f x.val * (if s ≤ x.val ∧ x.val < s + w then (1 : EReal) else 0)) = ∑ j ∈ Finset.range w, f (s + j) := by
  rw [Fin.sum_univ_eq_sum_range (fun x => f x * (if s ≤ x ∧ x < s + w then (1 : EReal) else 0)) 4112]
  have h1 : (∑ x ∈ Finset.range 4112, f x * (if s ≤ x ∧ x < s + w then (1 : EReal) else 0)) = ∑ x ∈ Finset.range (s + w + 4112), f x * (if s ≤ x ∧ x < s + w then (1 : EReal) else 0) := by
    refine Finset.sum_subset (fun x hx => ?_) (fun x _ hx => ?_)
    · rw [Finset.mem_range] at hx ⊢; omega
    · rw [Finset.mem_range] at hx
      rw [hf x (by omega), zero_mul]
  have h2 : (∑ x ∈ Finset.range (s + w + 4112), f x * (if s ≤ x ∧ x < s + w then (1 : EReal) else 0)) = ∑ x ∈ Finset.Ico s (s + w), f x := by
    symm
    refine (Finset.sum_congr rfl (fun x hx => ?_)).trans (Finset.sum_subset (fun x hx => ?_) (fun x _ hx => ?_))
    · rw [Finset.mem_Ico] at hx
      rw [if_pos hx, mul_one]
    · rw [Finset.mem_Ico] at hx; rw [Finset.mem_range]; omega
    · rw [Finset.mem_Ico] at hx
      rw [if_neg hx, mul_zero]
  rw [h1, h2, Finset.sum_Ico_eq_sum_range, Nat.add_sub_cancel_left]

theorem part_eq (d : FVec Ideal S4112x128 .f32) (n : FVec Ideal S4112x1 .f32) (k : FVec Ideal S4112x4112 .f32) (x : S4160x1024.Idx → EReal) (ps : Fin 512 → EReal) (pw : Fin 4 → Fin 128 → Fin 128 → EReal) (g : Fin 4)
    (hd : ∀ (s : Fin 4112) (b : Fin 128), (d (ix2 s b) : EReal) = dd (dyOf x) ps pw g (48 + s.val) b)
    (hn : ∀ s : Fin 4112, (n (ix2 s 0) : EReal) = covered (width g) (48 + s.val))
    (hk : ∀ s t : Fin 4112, (k (ix2 s t) : EReal) = if t.val ≤ s.val ∧ s.val < t.val + width g then (1 : EReal) else (0 : EReal)) (s : Fin 4112) (b : Fin 128) :
    (part d n k (ix2 s b) : EReal) = pooledCol (dyOf x) ps pw g (48 + s.val) b := by
  have h1 : (∑ y : Fin 4112, Ideal.div (d (ix2 y b)) (n (ix2 y 0)) * k (ix2 y s)) = ∑ j ∈ Finset.range (width g), ddc (dyOf x) ps pw g (48 + s.val + j) b := by
    refine (Finset.sum_congr rfl (fun y _ => ?_)).trans ((band_sum (fun y => ddc (dyOf x) ps pw g (48 + y) b) (fun p hp => ddc_beyond x ps pw g _ (by omega) b) s.val (width g) s.isLt).trans
      (Finset.sum_congr rfl (fun j _ => by rw [Nat.add_assoc])))
    rw [hd, hn, hk]
    rfl
  rw [part_apply, h1, hd, add_comm]
  unfold pooledCol
  exact (sub_eq_add_neg _ _).symm

/-- The reference's pooled columns. -/
theorem pooled_ref (i : S4160x1536.Idx) (h48 : 48 ≤ (i 0).val) (hq : 1024 ≤ (i 1).val) :
    (glue (part (res_main_v150 V0) (res_main_v26 V0) (res_main_v24 V0)) (part (res_main_v143 V0) (res_main_v54 V0) (res_main_v52 V0))
      (part (res_main_v136 V0) (res_main_v82 V0) (res_main_v80 V0)) (part (res_main_v129 V0) (res_main_v110 V0) (res_main_v108 V0)) i : EReal) =
      pooledVal (x0 V0) (x6 V0) (x8 V0) (i 0).val (i 1).val := by
  have h0 : (i 0).val < 4160 := (i 0).isLt
  have h1 : (i 1).val < 1536 := (i 1).isLt
  obtain ⟨p, hp⟩ : ∃ p, (i 0).val = p := ⟨_, rfl⟩
  obtain ⟨q, hqq⟩ : ∃ q, (i 1).val = q := ⟨_, rfl⟩
  rw [hp] at h0 h48 ⊢
  rw [hqq] at h1 hq ⊢
  obtain ⟨s, hs⟩ : ∃ s : Fin 4112, p = 48 + s.val := ⟨⟨p - 48, by omega⟩, by show p = 48 + (p - 48); omega⟩
  obtain ⟨b, hb⟩ : ∃ b : Fin 128, (q - 1024) % 128 = b.val := ⟨⟨(q - 1024) % 128, by omega⟩, rfl⟩
  have key : ∀ g : Fin 4, (q - 1024) / 128 = g.val → pooledVal (x0 V0) (x6 V0) (x8 V0) p q = pooledCol (dyOf (x0 V0)) (psOf (x8 V0)) (pwOf (x6 V0)) g (48 + s.val) b := by
    intro g hg
    unfold pooledVal
    congr 1
    · apply Fin.ext
      show (q - 1024) / 128 % 4 = g.val
      omega
    · exact Fin.ext hb
  obtain ⟨g, hg⟩ : ∃ g : Fin 4, (q - 1024) / 128 = g.val := ⟨⟨(q - 1024) / 128, by omega⟩, rfl⟩
  rw [key g hg]
  have hi : ∀ (a : ℕ) (ha : a + b.val < 1536), a = 1024 + 128 * g.val → i = ix2 ⟨48 + s.val, by omega⟩ ⟨a + b.val, ha⟩ := by
    intro a ha hag
    refine (eq_ix2 i).trans ?_
    congr 1
    · exact Fin.ext (hp.trans hs)
    · apply Fin.ext
      show (i 1).val = a + b.val
      omega
  fin_cases g
  · rw [hi 1024 (by omega) rfl]
    exact (glue_0 _ _ _ _ s b).trans (part_eq _ _ _ (x0 V0) (psOf (x8 V0)) (pwOf (x6 V0)) 0 (grad_0 V0) (count_0 V0) (band_0 V0) s b)
  · rw [hi 1152 (by omega) rfl]
    exact (glue_1 _ _ _ _ s b).trans (part_eq _ _ _ (x0 V0) (psOf (x8 V0)) (pwOf (x6 V0)) 1 (grad_1 V0) (count_1 V0) (band_1 V0) s b)
  · rw [hi 1280 (by omega) rfl]
    exact (glue_2 _ _ _ _ s b).trans (part_eq _ _ _ (x0 V0) (psOf (x8 V0)) (pwOf (x6 V0)) 2 (grad_2 V0) (count_2 V0) (band_2 V0) s b)
  · rw [hi 1408 (by omega) rfl]
    exact (glue_3 _ _ _ _ s b).trans (part_eq _ _ _ (x0 V0) (psOf (x8 V0)) (pwOf (x6 V0)) 3 (grad_3 V0) (count_3 V0) (band_3 V0) s b)

/-- Every run of the reference leaves the pooled columns in its first result, and its arguments as they were. -/
theorem pooled_run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      (∀ i : S4160x1536.Idx, 48 ≤ (i 0).val → 1024 ≤ (i 1).val →
        (r.2.mem ((c.tc : Thread nD τ).loc main_v168) i : EReal) = pooledVal (m ((c.tc : Thread nD τ).loc main_arg0)) (m ((c.tc : Thread nD τ).loc main_arg6)) (m ((c.tc : Thread nD τ).loc main_arg8)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨fun i h48 hq => (congrFun (h c).1 i).trans (pooled_ref (launchContents m c) i h48 hq), (h c).2.2.2.2⟩) (Value.run (F := Ideal) m ρ)

end Cert.PoolRefIdeal.Hand

/-! # The mask -/

namespace Cert.On_pooled_columns.Hand

open Cert.On_pooled_columns
open Idealize.ShloMosaic Idealize.ShloMosaic.TcCoe Idealize.ShloMosaic.StableHlo

theorem facts : Cert.On_pooled_columns.Facts where
  bcast_S_S4160x1536 := by decide
  bcast_S_S32x512 := by decide
  bcast_S_S8x512 := by decide
  bcast_S_S4x128x128 := by decide

attribute [local instance] facts

variable (a0 : FVec Ideal S4160x1024 .f32) (a1 : FVec Ideal S4160x512 .f32) (a2 : FVec Ideal S4160x1536 .f32) (a3 : FVec Ideal S32x512 .f32) (a4 : FVec Ideal S1x512 .f32)
  (a5 : FVec Ideal S1x512 .f32) (a6 : FVec Ideal S4x128x128 .f32) (a7 : FVec Ideal S1x512 .f32) (a8 : FVec Ideal S1x512 .f32)

/-- Where the mask selects an element of the first result, its row and column are of the pooled part. -/
theorem selected (i : S4160x1536.Idx) (h : (fn (F := Ideal) a0 a1 a2 a3 a4 a5 a6 a7 a8).1 i = 1#1) : 48 ≤ (i 0).val ∧ 1024 ≤ (i 1).val := by
  have h0 : (i 0).val < 4160 := (i 0).isLt
  have h1 : (i 1).val < 1536 := (i 1).isLt
  have h' : IntOp.andi (IntOp.cmpi .sge (BitVec.ofNat 32 (i 0).val) (BitVec.ofNat 32 48)) (IntOp.cmpi .sge (BitVec.ofNat 32 (i 1).val) (BitVec.ofNat 32 1024)) = 1#1 := h
  have both : ∀ a b : BitVec 1, IntOp.andi a b = 1#1 → a = 1#1 ∧ b = 1#1 := by decide
  obtain ⟨e0, e1⟩ := both _ _ h'
  exact ⟨(WordCmp.cmpi_sge_ofNat_eq_one_iff (by omega) (by decide)).mp e0, (WordCmp.cmpi_sge_ofNat_eq_one_iff (by omega) (by decide)).mp e1⟩

/-- The mask selects nothing of the other three. -/
theorem none1 (i : S32x512.Idx) : ¬ (fn (F := Ideal) a0 a1 a2 a3 a4 a5 a6 a7 a8).2.1 i = 1#1 := fun h => absurd (show (0#1 : BitVec 1) = 1#1 from h) (by decide)
theorem none2 (i : S8x512.Idx) : ¬ (fn (F := Ideal) a0 a1 a2 a3 a4 a5 a6 a7 a8).2.2.1 i = 1#1 := fun h => absurd (show (0#1 : BitVec 1) = 1#1 from h) (by decide)
theorem none3 (i : S4x128x128.Idx) : ¬ (fn (F := Ideal) a0 a1 a2 a3 a4 a5 a6 a7 a8).2.2.2 i = 1#1 := fun h => absurd (show (0#1 : BitVec 1) = 1#1 from h) (by decide)

end Cert.On_pooled_columns.Hand

end
-- ==== Proof.Up.lean ====
/-
  The first product of the feed-forward layer (the program `Up`): one pipelined call on a grid of two row blocks by 8 column blocks. At the first column
  block of a row block the body normalises the row block's 2080 rows, 208 at a time, into the window of the normalised rows,
  which stays where it is through the row block's other points and is written back at the last; at every point it multiplies the
  normalised rows with the point's columns of the weight.

  `bodyRunA` runs the body at the first column block and `bodyRunB` at the others, at any value instance `F`; `before_rows` is
  what lets the two meet: between them the window of the normalised rows is not touched. `final` is the value of the results
  over the extended reals.
-/
module

public import proofs.«01_k».proof.Proof.Gen.Up.Frame
public import proofs.«01_k».proof.Proof.Gen.Up.Skeleton
public import proofs.«01_k».proof.Proof.Gen.UpIdeal.Frame
public import proofs.«01_k».proof.Proof.Gen.UpRefIdeal.Run
public import proofs.«01_k».proof.Proof.Gen.UpRefIdeal.Read
public import Idealize.ShloMosaic.Lib.Tactic
public import Idealize.ShloMosaic.Lib.Pipeline.ValueKit
public import Idealize.ShloMosaic.Lib.Pointwise
public import Idealize.ShloMosaic.Lib.Claim
public import Idealize.ShloMosaic.Lib.VecWindow
public import Idealize.ShloMosaic.Lib.WritesUnit

@[expose] public section

set_option maxRecDepth 16384

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- A buffer at some contents. -/
def holds (c : Dev nD) {S : Shape} {e : EltTy} (M : Memref sig .tc .vmem S e) : sProp 𝕄 :=
  iprop(∃ d, owns (c : Thread nD τ) M fullShare d)

theorem owns_of (c : Dev nD) {S : Shape} {e : EltTy} (M : Memref sig .tc .vmem S e) (f : Buf (Elt F) (M.view.loc (c : Thread nD τ))) (X : Vec F S e)
    (h : M.view.read (Elt F) f = X) :
    (iprop(M.view.loc (c : Thread nD τ) ↦[M.view.set]{fullShare} f) : sProp 𝕄) ⊢ owns (c : Thread nD τ) M fullShare X := by
  unfold owns
  iintro H
  iexists f
  isplitr
  · ipureintro; exact h
  iexact H

/-! ## The normalised rows -/

/-- Rows `208 k` to `208 k + 207` of a row block. -/
def chunk (X : Vec F S2080x1024 .f32) (k : Fin 10) : Vec F S208x1024 .f32 := fun y =>
  X (ix2 (n0 := 2080) (n1 := 1024) ⟨208 * k.val + (y 0).val, by have h1 : (y 0).val < 208 := (y 0).isLt; have := k.isLt; omega⟩ (y 1))

/-- A row block's normalised rows, each the body's function of its chunk of rows and the gains. -/
def normed (X : Vec F S2080x1024 .f32) (G : Vec F S1x1024 .f32) : Vec F S2080x1024 .bf16 := fun q =>
  k0_pay1 (chunk X ⟨(q 0).val / 208, by have h1 : (q 0).val < 2080 := (q 0).isLt; omega⟩) G
    (ix2 (n0 := 208) (n1 := 1024) ⟨(q 0).val % 208, Nat.mod_lt _ (by norm_num)⟩ (q 1))

/-- The first `n` chunks of a row block are normalised. -/
def Done (X : Vec F S2080x1024 .f32) (G : Vec F S1x1024 .f32) (n : ℕ) (D : Vec F S2080x1024 .bf16) : Prop :=
  ∀ q, (q 0).val < 208 * n → D q = normed X G q

theorem Done.of_pos {X : Vec F S2080x1024 .f32} {G : Vec F S1x1024 .f32} {D : Vec F S2080x1024 .bf16} {n : ℕ} (h : 0 < n → Done X G n D) : Done X G n D := by
  intro q hq
  exact h (by omega) q hq

theorem Done.all {X : Vec F S2080x1024 .f32} {G : Vec F S1x1024 .f32} {D : Vec F S2080x1024 .bf16} (h : Done X G k0_t1_loop.trips D) : D = normed X G :=
  funext fun q => h q (by have h1 : (q 0).val < 2080 := (q 0).isLt; have h2 : k0_t1_loop.trips = 10 := by decide
                          omega)

theorem off1 : ∀ k : Fin k0_t1_loop.trips, k0_off1 k = ![208 * k.val, 0] := by decide

theorem ld_chunk (v : View sig .tc .vmem S2080x1024 .f32) (f : v.ty.Contents (Elt F)) (k : Fin k0_t1_loop.trips) (hk : k.val < 10)
    (inb : ∀ x, k0_off1 k x + S208x1024.size x ≤ S2080x1024.size x) :
    v.readAt (Elt F) (Rect.unit (s := S2080x1024) (k0_off1 k) S208x1024.size inb).toLoadRect f = chunk (v.read (Elt F) f) ⟨k.val, hk⟩ := by
  rw [View.readAt_unit v f inb (off1 k) ((off1 k) ▸ inb)]
  funext y
  refine congrArg (v.read (Elt F) f) (funext (Fin.forall_fin_two.mpr ⟨Fin.ext ?_, Fin.ext ?_⟩))
  · show 208 * k.val + 1 * (y 0).val = 208 * k.val + (y 0).val; omega
  · show 0 + 1 * (y 1).val = (y 1).val; omega

/-- One trip's piece: one more chunk is normalised. -/
theorem step (v : View sig .tc .vmem S2080x1024 .bf16) (f : v.ty.Contents (Elt F)) (X : Vec F S2080x1024 .f32) (G : Vec F S1x1024 .f32) (k : Fin k0_t1_loop.trips) (hk : k.val < 10)
    (h : Done X G k.val (v.read (Elt F) f)) (inb : ∀ x, k0_off1 k x + S208x1024.size x ≤ S2080x1024.size x)
    (w : FVec F S208x1024 .bf16) (hw : w = k0_pay1 (chunk X ⟨k.val, hk⟩) G) :
    Done X G (k.val + 1) (v.read (Elt F) (v.writes (Elt F) f [⟨Rect.unit (s := S2080x1024) (k0_off1 k) S208x1024.size inb, w⟩])) := by
  subst hw
  intro q hq
  by_cases hlt : (q 0).val < 208 * k.val
  · refine (View.read_writes_cons_unit_of_not_mem v f inb _ [] q (off1 k) 0 (Or.inl hlt)).trans (h q hlt)
  · have hd : (q 0).val / 208 = k.val := by omega
    have hm : (q 0).val = 208 * k.val + (q 0).val % 208 := by omega
    refine (View.read_writes_cons_unit_of_mem v f inb _ [] q (ix2 (n0 := 208) (n1 := 1024) ⟨(q 0).val % 208, Nat.mod_lt _ (by norm_num)⟩ (q 1)) (off1 k)
      (Fin.forall_fin_two.mpr ⟨hm, (Nat.zero_add _).symm⟩)).trans ?_
    unfold normed
    refine congrArg (fun j : Fin 10 => k0_pay1 (chunk X j) G (ix2 (n0 := 208) (n1 := 1024) ⟨(q 0).val % 208, Nat.mod_lt _ (by norm_num)⟩ (q 1))) (Fin.ext hd.symm)

/-- A store over the whole of a buffer leaves what it stores. -/
theorem whole_piece (c : Dev nD) {S : Shape} {e : EltTy} (M : Memref sig .tc .vmem S e) (f : Buf (Elt F) (M.view.loc (c : Thread nD τ))) (off : Fin S.rank → ℕ)
    (inb : ∀ x, off x + S.size x ≤ S.size x) (w X : Vec F S e) (h : w = X) :
    (iprop(M.view.loc (c : Thread nD τ) ↦[M.view.set]{fullShare} M.view.writes (Elt F) f [⟨Rect.unit (s := S) off S.size inb, w⟩]) : sProp 𝕄)
      ⊢ owns (c : Thread nD τ) M fullShare X := by
  subst h
  refine owns_of c M _ _ (funext fun q => ?_)
  exact View.read_writes_cons_unit_of_mem M.view f inb w [] q q rfl (fun a => by have := inb a; omega)

/-! ## The body, run in its two cases -/

section Run

variable (arg2 : Memref sig .tc .vmem S2080x1024 .f32) (harg2 : arg2.IsWhole)
variable (arg3 : Memref sig .tc .vmem S1x1024 .f32) (harg3 : arg3.IsWhole)
variable (arg4 : Memref sig .tc .vmem S1024x512 .bf16) (harg4 : arg4.IsWhole)
variable (arg5 : Memref sig .tc .vmem S2080x1024 .bf16) (harg5 : arg5.IsWhole)
variable (arg6 : Memref sig .tc .vmem S2080x512 .bf16) (harg6 : arg6.IsWhole)
variable (arg7 : Memref sig .tc .vmem S2080x512 .bf16) (harg7 : arg7.IsWhole)

set_option maxHeartbeats 1000000 in
set_option warn.classDefReducibility false in
/-- The loop over the chunks of rows. -/
@[sl_loop] def loop1 (𝒱 : Variants) (c : Dev nD) (bd : Option 𝒱.V) (E : Set ℕ) (i : grid0.Coords) (k0_h1 : k0_cond1 i = 1#1)
    (f2 : BufTy.Contents (Elt F) arg2.view.ty) (f3 : BufTy.Contents (Elt F) arg3.view.ty) :
  LoopInv (M := 𝕄) Idealize.ShloMosaic.frame (wpE defs₀ 𝒱 (c : Thread nD τ) bd) E k0_t1_loop.lb k0_t1_loop.ub k0_t1_loop.st (k0_t1_ok i k0_h1) ()
    (k0_t1_body (F := F) i arg2 harg2 arg3 harg3 arg4 harg4 arg5 harg5 arg6 harg6 arg7 harg7 k0_h1) where
  inv k _ := iprop((arg2.view.loc (c : Thread nD τ) ↦[arg2.view.set]{fullShare} f2) ∗ (arg3.view.loc (c : Thread nD τ) ↦[arg3.view.set]{fullShare} f3) ∗ (∃ f, (arg5.view.loc (c : Thread nD τ) ↦[arg5.view.set]{fullShare} f) ∗ ⌜0 < k → Done (arg2.view.read (Elt F) f2) (arg3.view.read (Elt F) f3) k (arg5.view.read (Elt F) f)⌝))
  step k acc := by
    iintro ⟨H2, H3, ⟨%f5, H5, %h5⟩⟩
    have hk : k.val < 10 := Nat.lt_of_lt_of_le k.isLt k0_t1_abs.2.1
    unfold k0_t1_body
    sl_exec
    sl_step
    isplitl [H2]
    · iexact H2
    isplitl [H3]
    · iexact H3
    · iexists _; isplitl [H5]; · iexact H5
      ipureintro
      intro _
      exact step arg5.view f5 _ _ k hk (Done.of_pos h5) (k0_off1_inb i k k0_h1) _
        ((congrArg (fun v => k0_pay1 v _) (ld_chunk arg2.view f2 k hk (k0_off1_inb i k k0_h1))).trans (congrArg (k0_pay1 _) (View.readAt_full arg3.view f3 inb_S1x1024_S1x1024_0_0)))

/-- What the body leaves: the inputs, the normalised rows and the products. -/
def Post (c : Dev nD) (X2 : Vec F S2080x1024 .f32) (X3 : Vec F S1x1024 .f32) (X4 : Vec F S1024x512 .bf16) : sProp 𝕄 :=
  iprop(owns (c : Thread nD τ) arg2 fullShare X2 ∗ owns (c : Thread nD τ) arg3 fullShare X3 ∗ owns (c : Thread nD τ) arg4 fullShare X4 ∗ owns (c : Thread nD τ) arg5 fullShare (normed X2 X3) ∗ owns (c : Thread nD τ) arg6 fullShare (k0_pay3 (normed X2 X3) X4) ∗ owns (c : Thread nD τ) arg7 fullShare (k0_pay4 (normed X2 X3) X4))

set_option maxHeartbeats 2000000 in
/-- The body at the first column block of a row block. -/
theorem bodyRunA (c : Dev nD) (i : grid0.Coords) (X2 : Vec F S2080x1024 .f32) (X3 : Vec F S1x1024 .f32) (X4 : Vec F S1024x512 .bf16) (h : k0_cond1 i = 1#1) (K : PUnit → sProp 𝕄) :
    iprop((owns (c : Thread nD τ) arg2 fullShare X2 ∗ owns (c : Thread nD τ) arg3 fullShare X3 ∗ owns (c : Thread nD τ) arg4 fullShare X4 ∗ holds c arg5 ∗ holds c arg6 ∗ holds c arg7)
        ∗ (Post arg2 arg3 arg4 arg5 arg6 arg7 c X2 X3 X4 -∗ K ⟨⟩))
      ⊢ wp frame (wpE (defs₀ (F := F)) Variants.none c none) Set.univ
          (cc0_mlp_w1 i arg2 harg2 arg3 harg3 arg4 harg4 arg5 harg5 arg6 harg6 arg7 harg7) K := by
  simp only [cc0_mlp_w1_eq_skeleton]; unfold cc0_mlp_w1_skel
  unfold holds
  unfold owns
  iintro ⟨⟨⟨%f2, %h2, H2⟩, ⟨%f3, %h3, H3⟩, ⟨%f4, %h4, H4⟩, ⟨%_, %_, -, H5⟩, ⟨%_, %_, -, H6⟩, ⟨%_, %_, -, H7⟩⟩, Hk⟩
  subst h2 h3 h4
  rw [dif_pos h]
  sl_exec
  sl_step
  iapply Hk
  unfold Post
  isplitl [H2]; · exact owns_of c arg2 _ _ rfl
  isplitl [H3]; · exact owns_of c arg3 _ _ rfl
  isplitl [H4]; · exact owns_of c arg4 _ _ rfl
  isplitl [H5]; · exact owns_of c arg5 _ _ (Done.all (hL3 (by decide)))
  isplitl [H6]
  · refine whole_piece (F := F) c arg6 _ ![0, 0] inb_S2080x512_S2080x512_0_0 _ _ ?_
    rw [View.readAt_full arg4.view f4 inb_S1024x512_S1024x512_0_0, View.readAt_full arg5.view _ inb_S2080x1024_S2080x1024_0_0, Done.all (hL3 (by decide))]
  refine whole_piece (F := F) c arg7 _ ![0, 0] inb_S2080x512_S2080x512_0_0 _ _ ?_
  rw [View.readAt_full arg4.view f4 inb_S1024x512_S1024x512_0_0, View.readAt_full arg5.view _ inb_S2080x1024_S2080x1024_0_0, Done.all (hL3 (by decide))]

set_option maxHeartbeats 2000000 in
/-- The body at any other column block, the window of the normalised rows as the first one left it. -/
theorem bodyRunB (c : Dev nD) (i : grid0.Coords) (X2 : Vec F S2080x1024 .f32) (X3 : Vec F S1x1024 .f32) (X4 : Vec F S1024x512 .bf16) (h : ¬ k0_cond1 i = 1#1) (K : PUnit → sProp 𝕄) :
    iprop((owns (c : Thread nD τ) arg2 fullShare X2 ∗ owns (c : Thread nD τ) arg3 fullShare X3 ∗ owns (c : Thread nD τ) arg4 fullShare X4 ∗ owns (c : Thread nD τ) arg5 fullShare (normed X2 X3) ∗ holds c arg6 ∗ holds c arg7)
        ∗ (Post arg2 arg3 arg4 arg5 arg6 arg7 c X2 X3 X4 -∗ K ⟨⟩))
      ⊢ wp frame (wpE (defs₀ (F := F)) Variants.none c none) Set.univ
          (cc0_mlp_w1 i arg2 harg2 arg3 harg3 arg4 harg4 arg5 harg5 arg6 harg6 arg7 harg7) K := by
  simp only [cc0_mlp_w1_eq_skeleton]; unfold cc0_mlp_w1_skel
  unfold holds
  unfold owns
  iintro ⟨⟨⟨%f2, %h2, H2⟩, ⟨%f3, %h3, H3⟩, ⟨%f4, %h4, H4⟩, ⟨%f5, %h5, H5⟩, ⟨%_, %_, -, H6⟩, ⟨%_, %_, -, H7⟩⟩, Hk⟩
  subst h2 h3 h4
  rw [dif_neg h]
  sl_exec
  sl_step
  iapply Hk
  unfold Post
  isplitl [H2]; · exact owns_of c arg2 _ _ rfl
  isplitl [H3]; · exact owns_of c arg3 _ _ rfl
  isplitl [H4]; · exact owns_of c arg4 _ _ rfl
  isplitl [H5]; · exact owns_of c arg5 _ _ h5
  isplitl [H6]
  · refine whole_piece (F := F) c arg6 _ ![0, 0] inb_S2080x512_S2080x512_0_0 _ _ ?_
    rw [View.readAt_full arg4.view f4 inb_S1024x512_S1024x512_0_0, View.readAt_full arg5.view _ inb_S2080x1024_S2080x1024_0_0, h5]
  refine whole_piece (F := F) c arg7 _ ![0, 0] inb_S2080x512_S2080x512_0_0 _ _ ?_
  rw [View.readAt_full arg4.view f4 inb_S1024x512_S1024x512_0_0, View.readAt_full arg5.view _ inb_S2080x1024_S2080x1024_0_0, h5]

end Run

/-! ## The proof data and the body obligation -/

variable (m : (ℓ : Loc nD τ sig) → Buf (Elt F) ℓ) (ρ : Dev nD → PrngReg)

/-- The proof data on core `c`: the arrays as the region finds them, the inputs left as they are, the window of the normalised
    rows at the row block's normalised rows at every point, each product of the normalised rows and the point's columns. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => normed (iblk m c 0 t) (iblk m c 1 t)
    | 4 => fun t => k0_pay3 (normed (iblk m c 0 t) (iblk m c 1 t)) (iblk m c 2 t)
    | 5 => fun t => k0_pay4 (normed (iblk m c 0 t) (iblk m c 1 t)) (iblk m c 2 t)
    | ⟨_ + 6, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = normed (iblk m c 0 t) (iblk m c 1 t) := rfl
theorem after0_4 (c : Dev nD) (t : Fin cfg0.N) : (dats m 0 c).after 4 t = k0_pay3 (normed (iblk m c 0 t) (iblk m c 1 t)) (iblk m c 2 t) := rfl
theorem after0_5 (c : Dev nD) (t : Fin cfg0.N) : (dats m 0 c).after 5 t = k0_pay4 (normed (iblk m c 0 t) (iblk m c 1 t)) (iblk m c 2 t) := rfl
theorem before0_0 (c : Dev nD) (t : Fin cfg0.N) (d) : (dats m 0 c).before 0 t d = iblk m c 0 t := before0_0_of m (dats m 0 c) (A_eq m c 0) (fun _ => rfl) t d
theorem before0_1 (c : Dev nD) (t : Fin cfg0.N) (d) : (dats m 0 c).before 1 t d = iblk m c 1 t := before0_1_of m (dats m 0 c) (A_eq m c 1) (fun _ => rfl) t d
theorem before0_2 (c : Dev nD) (t : Fin cfg0.N) (d) : (dats m 0 c).before 2 t d = iblk m c 2 t := before0_2_of m (dats m 0 c) (A_eq m c 2) (fun _ => rfl) t d

/-- The windows' block indices at point `t`. -/
theorem idx : ∀ t : Fin cfg0.N, win0_0.index t = ![t.val / 8, 0] ∧ win0_1.index t = ![0, 0] ∧ win0_2.index t = ![0, t.val % 8] ∧ win0_3.index t = ![t.val / 8, 0] ∧ win0_4.index t = ![t.val / 8, t.val % 8] ∧ win0_5.index t = ![t.val / 8, t.val % 8] :=
  (by decide +kernel : ∀ t : Fin grid0.N, _)

theorem cond_iff : ∀ t : Fin cfg0.N, k0_cond1 (grid0.coords t) = 1#1 ↔ t.val % 8 = 0 :=
  (by decide +kernel : ∀ t : Fin grid0.N, _)

/-- The normalised rows do not depend on the column block. -/
theorem rows_eq (c : Dev nD) (t t' : Fin cfg0.N) (h : t.val / 8 = t'.val / 8) :
    normed (iblk m c 0 t) (iblk m c 1 t) = normed (iblk m c 0 t') (iblk m c 1 t') := by
  have e0 : iblk m c 0 t = iblk m c 0 t' := by
    funext y
    refine congrArg (V m c (Pipeline.arrRef spec0 0)) (funext (Fin.forall_fin_two.mpr ⟨Fin.ext ?_, Fin.ext ?_⟩))
    · blk_ext [idx t, idx t', h]
    · blk_ext [idx t, idx t', h]
  have e1 : iblk m c 1 t = iblk m c 1 t' := by
    funext y
    refine congrArg (V m c (Pipeline.arrRef spec0 1)) (funext (Fin.forall_fin_two.mpr ⟨Fin.ext ?_, Fin.ext ?_⟩))
    · blk_ext [idx t, idx t', h]
    · blk_ext [idx t, idx t', h]
  rw [e0, e1]

theorem idle_iff (t : Fin cfg0.N) : cfg0.idle 3 (cfg0.grid.coords t) = true ↔ t.val % 8 ≠ 0 := by
  rw [ne_eq, ← cond_iff t]
  show (!(k0_cond1 (grid0.coords t) == 1#1)) = true ↔ _
  simp

theorem fetch3 (t : Fin cfg0.N) : (cfg0.win 3).fetch t = false := rfl

/-- Past the first column block, the body finds the window of the normalised rows at the row block's normalised rows. -/
theorem before_rows (c : Dev nD) : ∀ (n : ℕ) (t : Fin cfg0.N) (d), t.val = n → t.val % 8 ≠ 0 →
    (dats m 0 c).before 3 t d = normed (iblk m c 0 t) (iblk m c 1 t) := by
  intro n
  induction n with
  | zero => intro t d ht h; exact absurd (by rw [ht]) h
  | succ n ih =>
    intro t d ht h
    have hfl : (cfg0.win 3).flush ⟨t.val - 1, Nat.lt_of_le_of_lt (Nat.sub_le _ _) t.isLt⟩ = false := by
      rw [← Bool.not_eq_true, flush0_3]
      show ¬ (t.val - 1) % 8 = 7
      omega
    rw [(dats m 0 c).before_of_pos 3 t (by omega) (fetch3 t) d, hfl, if_neg Bool.false_ne_true]
    refine Eq.trans ?_ (rows_eq m c ⟨t.val - 1, Nat.lt_of_le_of_lt (Nat.sub_le _ _) t.isLt⟩ t (by show (t.val - 1) / 8 = _; omega))
    unfold Dat.left
    cases hi : cfg0.idle 3 (cfg0.grid.coords ⟨t.val - 1, Nat.lt_of_le_of_lt (Nat.sub_le _ _) t.isLt⟩)
    · rfl
    · exact ih _ d (by show t.val - 1 = n; omega) ((idle_iff _).mp hi)

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3, after0_4, after0_5]
  by_cases h : k0_cond1 (grid0.coords t) = 1#1
  · iintro ⟨HΦ, Ho, ⟨%d0, H0⟩, ⟨%d1, H1⟩, ⟨%d2, H2⟩, ⟨%d3, H3⟩, ⟨%d4, H4⟩, ⟨%d5, H5⟩⟩
    iapply (bodyRunA (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) c (grid0.coords t) (iblk m c 0 t) (iblk m c 1 t) (iblk m c 2 t) h _)
    isplitl [H0 H1 H2 H3 H4 H5]
    · isplitl [H0]; · iexact H0
      isplitl [H1]; · iexact H1
      isplitl [H2]; · iexact H2
      isplitl [H3]; · unfold holds; iexists _; iexact H3
      isplitl [H4]; · unfold holds; iexists _; iexact H4
      unfold holds; iexists _; iexact H5
    unfold Post
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have hB : ∀ d, (dats m 0 c).before 3 t d = normed (iblk m c 0 t) (iblk m c 1 t) := fun d => before_rows m c _ t d rfl (fun h' => h ((cond_iff t).mpr h'))
    simp only [hB]
    iintro ⟨HΦ, Ho, ⟨%d0, H0⟩, ⟨%d1, H1⟩, ⟨%d2, H2⟩, ⟨%d3, H3⟩, ⟨%d4, H4⟩, ⟨%d5, H5⟩⟩
    iapply (bodyRunB (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) c (grid0.coords t) (iblk m c 0 t) (iblk m c 1 t) (iblk m c 2 t) h _)
    isplitl [H0 H1 H2 H3 H4 H5]
    · isplitl [H0]; · iexact H0
      isplitl [H1]; · iexact H1
      isplitl [H2]; · iexact H2
      isplitl [H3]; · iexact H3
      isplitl [H4]; · unfold holds; iexists _; iexact H4
      unfold holds; iexists _; iexact H5
    unfold Post
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The window of the normalised rows leaves as the obligation asks: where it is idle and not written back, as it was found. -/
theorem post_rows (c : Dev nD) (t : Fin cfg0.N) :
    (owns (c : Thread nD τ) (st0_3 t) fullShare ((dats m 0 c).after 3 t) : sProp 𝕄) ⊢
      (match cfg0.idle 3 (cfg0.grid.coords t) with
        | true =>
          match (cfg0.win 3).flush t with
          | false => iprop(∃ d, owns (c : Thread nD τ) ((cfg0.win 3).stage (cfg0.slots t 3)) fullShare ((dats m 0 c).before 3 t d))
          | true => owns (c : Thread nD τ) ((cfg0.win 3).stage (cfg0.slots t 3)) fullShare ((dats m 0 c).after 3 t)
        | false => owns (c : Thread nD τ) ((cfg0.win 3).stage (cfg0.slots t 3)) fullShare ((dats m 0 c).after 3 t) : sProp 𝕄) := by
  cases hi : cfg0.idle 3 (cfg0.grid.coords t)
  · exact .rfl
  · cases hf : (cfg0.win 3).flush t
    · iintro H
      iexists ((dats m 0 c).after 3 t)
      rw [before_rows m c _ t _ rfl ((idle_iff t).mp hi), after0_3]
      iexact H
    · exact .rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sep_mono .rfl (sep_mono .rfl (sep_mono .rfl (sep_mono .rfl (sep_mono .rfl (sep_mono (post_rows m c t) .rfl)))))

/-! ## The run and the frame -/

set_option backward.isDefEq.respectTransparency.types false in
/-- From any memory with zero counters every weakly fair execution terminates without a fault, with the arrays as the proof
    data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-! ## The values over the extended reals -/

section Value

open Idealize.ShloMosaic.StableHlo

variable (m : (ℓ : Loc nD τ sig) → Buf (Elt Ideal) ℓ)

theorem chunk_at (X : Vec Ideal S2080x1024 .f32) (k : Fin 10) (a : Fin 208) (b : Fin 1024) :
    chunk X k (ix2 (n0 := 208) (n1 := 1024) a b) = X (ix2 (n0 := 2080) (n1 := 1024) ⟨208 * k.val + a.val, by omega⟩ b) := rfl

theorem normed_at (X : Vec Ideal S2080x1024 .f32) (G : Vec Ideal S1x1024 .f32) (a : Fin 2080) (b : Fin 1024) :
    (normed X G (ix2 (n0 := 2080) (n1 := 1024) a b) : EReal) = (X (ix2 a b) : EReal)
      * Ideal.rsqrt (Ideal.div (∑ x : Fin 1024, (X (ix2 a x) : EReal) * X (ix2 a x)) (Ideal.ofBits .f32 0x44800000#32) + Ideal.ofBits .f32 0x358637BD#32) * G (ix2 0 b) := by
  unfold normed
  pointwise [k0_pay1]
  simp only [chunk_at]
  have e : ∀ h, (⟨208 * (a.val / 208) + a.val % 208, h⟩ : Fin 2080) = a := fun h => Fin.ext (Nat.div_add_mod _ _)
  simp only [e]

/-- Row `a` of the row block of point `t`, and column `b` of its column block. -/
def row (t : Fin cfg0.N) (a : Fin 2080) : Fin 4160 := ⟨t.val / 8 * 2080 + a.val, by have h1 : t.val < 16 := t.isLt; omega⟩
def col (t : Fin cfg0.N) (b : Fin 512) : Fin 4096 := ⟨t.val % 8 * 512 + b.val, by omega⟩

theorem iblk0_at (c : Dev nD) (t : Fin cfg0.N) (a : Fin 2080) (b : Fin 1024) :
    (iblk m c 0 t (ix2 (n0 := 2080) (n1 := 1024) a b) : EReal) = m ((c : Thread nD τ).loc main_arg0) (ix2 (n0 := 4160) (n1 := 1024) (row t a) b) := by
  refine congrArg (m ((c : Thread nD τ).loc main_arg0)) (funext (Fin.forall_fin_two.mpr ⟨Fin.ext ?_, Fin.ext ?_⟩))
  · unfold row; blk_ext [idx t]
  · unfold row; blk_ext [idx t]

theorem iblk1_at (c : Dev nD) (t : Fin cfg0.N) (b : Fin 1024) :
    (iblk m c 1 t (ix2 (n0 := 1) (n1 := 1024) 0 b) : EReal) = m ((c : Thread nD τ).loc main_arg1) (ix1 (n0 := 1024) b) := by
  blk_simp [iblk, idx t]
  simp only [V, hostOps0, List.flatten_cons, List.flatten_nil, List.append_nil, List.cons_append, List.nil_append,
    TRef.binary, TRef.nullary, TRef.unary, TRef.toBuf, TRef.ofBuf, cast_eq]
  entry_read
  pointwise
  blk_point [iblk, idx t]

theorem iblk2_at (c : Dev nD) (t : Fin cfg0.N) (a : Fin 1024) (b : Fin 512) :
    (iblk m c 2 t (ix2 (n0 := 1024) (n1 := 512) a b) : EReal) = m ((c : Thread nD τ).loc main_arg2) (ix2 (n0 := 1024) (n1 := 4096) a (col t b)) := by
  blk_simp [iblk, idx t]
  simp only [V, hostOps0, List.flatten_cons, List.flatten_nil, List.append_nil, List.cons_append, List.nil_append,
    TRef.binary, TRef.nullary, TRef.unary, TRef.toBuf, TRef.ofBuf, cast_eq]
  entry_read
  pointwise
  blk_point [iblk, idx t]
  rfl

theorem emb3 (t : Fin cfg0.N) (a : Fin 2080) (b : Fin 1024) : ((View.whole main_v2_0).slice (win0_3.rect t)).emb (ix2 (n0 := 2080) (n1 := 1024) a b) = ix2 (n0 := 4160) (n1 := 1024) (row t a) b := by
  refine (funext (Fin.forall_fin_two.mpr ⟨Fin.ext ?_, Fin.ext ?_⟩))
  · unfold row; blk_ext [idx t]
  · unfold row; blk_ext [idx t]

theorem emb4 (t : Fin cfg0.N) (a : Fin 2080) (b : Fin 512) : ((View.whole main_v2_1).slice (win0_4.rect t)).emb (ix2 (n0 := 2080) (n1 := 512) a b) = ix2 (n0 := 4160) (n1 := 4096) (row t a) (col t b) := by
  refine (funext (Fin.forall_fin_two.mpr ⟨Fin.ext ?_, Fin.ext ?_⟩))
  · unfold row; blk_ext [idx t]
  · unfold col; blk_ext [idx t]

theorem emb5 (t : Fin cfg0.N) (a : Fin 2080) (b : Fin 512) : ((View.whole main_v2_2).slice (win0_5.rect t)).emb (ix2 (n0 := 2080) (n1 := 512) a b) = ix2 (n0 := 4160) (n1 := 4096) (row t a) (col t b) := by
  refine (funext (Fin.forall_fin_two.mpr ⟨Fin.ext ?_, Fin.ext ?_⟩))
  · unfold row; blk_ext [idx t]
  · unfold col; blk_ext [idx t]

/-- The normalised rows after the run. -/
theorem final3 (c : Dev nD) : (dats m 0 c).arrAt 3 cfg0.N =
    Cert.UpRefIdeal.Read.val_main_v15 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  rw [← Cert.UpRefIdeal.Read.val_main_v15_eq]
  obtain ⟨a, b, rfl⟩ : ∃ (a : Fin 2080) (b : Fin 1024), y = ix2 a b := ⟨y 0, y 1, eq_ix2 y⟩
  refine (normed_at _ _ a b).trans ?_
  pointwise
  rw [emb3 t a b]
  simp only [iblk0_at, iblk1_at]
  rfl

/-- The activations after the run. -/
theorem final4 (c : Dev nD) : (dats m 0 c).arrAt 4 cfg0.N =
    Cert.UpRefIdeal.Read.val_main_v16 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  rw [← Cert.UpRefIdeal.Read.val_main_v16_eq]
  obtain ⟨a, b, rfl⟩ : ∃ (a : Fin 2080) (b : Fin 512), y = ix2 a b := ⟨y 0, y 1, eq_ix2 y⟩
  pointwise [k0_pay3, k0_pay4, k0_pay2]
  rw [emb4 t a b]
  simp only [normed_at, iblk0_at, iblk1_at, iblk2_at]
  rfl

/-- Their squares after the run. -/
theorem final5 (c : Dev nD) : (dats m 0 c).arrAt 5 cfg0.N =
    Cert.UpRefIdeal.Read.val_main_v18 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  rw [← Cert.UpRefIdeal.Read.val_main_v18_eq]
  obtain ⟨a, b, rfl⟩ : ∃ (a : Fin 2080) (b : Fin 512), y = ix2 a b := ⟨y 0, y 1, eq_ix2 y⟩
  pointwise [k0_pay3, k0_pay4, k0_pay2]
  rw [emb5 t a b]
  simp only [normed_at, iblk0_at, iblk1_at, iblk2_at]
  rfl

/-- The run at the extended reals, its results named. -/
theorem run_values (ρ : Dev nD → PrngReg) : θ_run defs (onTc (τ := τ) (main (F := Ideal))) ⟨m, fun _ => 0, ρ⟩ (fun r => ∀ c : Dev nD,
      r.2.mem ((c.tc : Thread nD τ).loc main_v2_0) = Cert.UpRefIdeal.Read.val_main_v15 (F := Ideal) (m ((c : Thread nD τ).loc main_arg0)) (m ((c : Thread nD τ).loc main_arg1))
      ∧ r.2.mem ((c.tc : Thread nD τ).loc main_v2_1) = Cert.UpRefIdeal.Read.val_main_v16 (F := Ideal) (m ((c : Thread nD τ).loc main_arg0)) (m ((c : Thread nD τ).loc main_arg1)) (m ((c : Thread nD τ).loc main_arg2))
      ∧ r.2.mem ((c.tc : Thread nD τ).loc main_v2_2) = Cert.UpRefIdeal.Read.val_main_v18 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), ((h.1 c).1 4).trans (final4 m c), ((h.1 c).1 5).trans (final5 m c), h.2.1 c⟩) (θ_run_and (run_main m ρ) (frame m ρ))

end Value

end Cert.Up.Hand

/-! ## The idealised program is the program's own text -/

namespace Cert.UpIdeal.Hand

open Idealize.ShloMosaic Idealize.ShloMosaic.TcCoe Idealize.SL.Sem
open Cert.UpIdeal Cert.UpIdeal.Gen

variable {F : FTy → Type} [FloatOps F]

theorem body_eq : cc0_mlp_w1 (F := F) = Cert.Up.cc0_mlp_w1 (F := F) := rfl

theorem defs₀_eq : defs₀ (F := F) = Cert.Up.defs₀ (F := F) := by
  unfold defs₀ Cert.Up.defs₀
  refine congrArg Defs.onTc ?_
  funext l a
  obtain rfl : l = 0 := Subsingleton.elim (α := Fin 1) _ _
  obtain ⟨t, s⟩ := a
  simp only [body_eq]
  rfl

theorem defs_eq : defs (F := F) = Cert.Up.defs (F := F) := congrArg (Pipeline.defs _) defs₀_eq

theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.Up.Hand.frame (F := F) m ρ

theorem run_values (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v2_0) = Cert.UpRefIdeal.Read.val_main_v15 (F := Ideal) (m ((c : Thread nD τ).loc main_arg0)) (m ((c : Thread nD τ).loc main_arg1))
      ∧ r.2.mem ((c.tc : Thread nD τ).loc main_v2_1) = Cert.UpRefIdeal.Read.val_main_v16 (F := Ideal) (m ((c : Thread nD τ).loc main_arg0)) (m ((c : Thread nD τ).loc main_arg1)) (m ((c : Thread nD τ).loc main_arg2))
      ∧ r.2.mem ((c.tc : Thread nD τ).loc main_v2_2) = Cert.UpRefIdeal.Read.val_main_v18 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  rw [defs_eq]
  exact Cert.Up.Hand.run_values m ρ

end Cert.UpIdeal.Hand

end
-- ==== Proof.EvIn.lean ====
/-
  The even layers' input product (the program `EvIn`): one pipelined call on a grid of two row blocks by 3 column blocks. At the first column
  block of a row block the body normalises the row block's 2080 rows, 208 at a time, into the window of the normalised rows,
  which stays where it is through the row block's other points and is written back at the last; at every point it multiplies the
  normalised rows with the point's columns of the weight.

  `bodyRunA` runs the body at the first column block and `bodyRunB` at the others, at any value instance `F`; `before_rows` is
  what lets the two meet: between them the window of the normalised rows is not touched. `final` is the value of the results
  over the extended reals.
-/
module

public import proofs.«01_k».proof.Proof.Gen.EvIn.Frame
public import proofs.«01_k».proof.Proof.Gen.EvIn.Skeleton
public import proofs.«01_k».proof.Proof.Gen.EvInIdeal.Frame
public import proofs.«01_k».proof.Proof.Gen.EvInRefIdeal.Run
public import proofs.«01_k».proof.Proof.Gen.EvInRefIdeal.Read
public import Idealize.ShloMosaic.Lib.Tactic
public import Idealize.ShloMosaic.Lib.Pipeline.ValueKit
public import Idealize.ShloMosaic.Lib.Pointwise
public import Idealize.ShloMosaic.Lib.Claim
public import Idealize.ShloMosaic.Lib.VecWindow
public import Idealize.ShloMosaic.Lib.WritesUnit

@[expose] public section

set_option maxRecDepth 16384

noncomputable section

namespace Cert.EvIn.Hand

open Cert.EvIn Cert.EvIn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- A buffer at some contents. -/
def holds (c : Dev nD) {S : Shape} {e : EltTy} (M : Memref sig .tc .vmem S e) : sProp 𝕄 :=
  iprop(∃ d, owns (c : Thread nD τ) M fullShare d)

theorem owns_of (c : Dev nD) {S : Shape} {e : EltTy} (M : Memref sig .tc .vmem S e) (f : Buf (Elt F) (M.view.loc (c : Thread nD τ))) (X : Vec F S e)
    (h : M.view.read (Elt F) f = X) :
    (iprop(M.view.loc (c : Thread nD τ) ↦[M.view.set]{fullShare} f) : sProp 𝕄) ⊢ owns (c : Thread nD τ) M fullShare X := by
  unfold owns
  iintro H
  iexists f
  isplitr
  · ipureintro; exact h
  iexact H

/-! ## The normalised rows -/

/-- Rows `208 k` to `208 k + 207` of a row block. -/
def chunk (X : Vec F S2080x1024 .f32) (k : Fin 10) : Vec F S208x1024 .f32 := fun y =>
  X (ix2 (n0 := 2080) (n1 := 1024) ⟨208 * k.val + (y 0).val, by have h1 : (y 0).val < 208 := (y 0).isLt; have := k.isLt; omega⟩ (y 1))

/-- A row block's normalised rows, each the body's function of its chunk of rows and the gains. -/
def normed (X : Vec F S2080x1024 .f32) (G : Vec F S1x1024 .f32) : Vec F S2080x1024 .bf16 := fun q =>
  k0_pay1 (chunk X ⟨(q 0).val / 208, by have h1 : (q 0).val < 2080 := (q 0).isLt; omega⟩) G
    (ix2 (n0 := 208) (n1 := 1024) ⟨(q 0).val % 208, Nat.mod_lt _ (by norm_num)⟩ (q 1))

/-- The first `n` chunks of a row block are normalised. -/
def Done (X : Vec F S2080x1024 .f32) (G : Vec F S1x1024 .f32) (n : ℕ) (D : Vec F S2080x1024 .bf16) : Prop :=
  ∀ q, (q 0).val < 208 * n → D q = normed X G q

theorem Done.of_pos {X : Vec F S2080x1024 .f32} {G : Vec F S1x1024 .f32} {D : Vec F S2080x1024 .bf16} {n : ℕ} (h : 0 < n → Done X G n D) : Done X G n D := by
  intro q hq
  exact h (by omega) q hq

theorem Done.all {X : Vec F S2080x1024 .f32} {G : Vec F S1x1024 .f32} {D : Vec F S2080x1024 .bf16} (h : Done X G k0_t1_loop.trips D) : D = normed X G :=
  funext fun q => h q (by have h1 : (q 0).val < 2080 := (q 0).isLt; have h2 : k0_t1_loop.trips = 10 := by decide
                          omega)

theorem off1 : ∀ k : Fin k0_t1_loop.trips, k0_off1 k = ![208 * k.val, 0] := by decide

theorem ld_chunk (v : View sig .tc .vmem S2080x1024 .f32) (f : v.ty.Contents (Elt F)) (k : Fin k0_t1_loop.trips) (hk : k.val < 10)
    (inb : ∀ x, k0_off1 k x + S208x1024.size x ≤ S2080x1024.size x) :
    v.readAt (Elt F) (Rect.unit (s := S2080x1024) (k0_off1 k) S208x1024.size inb).toLoadRect f = chunk (v.read (Elt F) f) ⟨k.val, hk⟩ := by
  rw [View.readAt_unit v f inb (off1 k) ((off1 k) ▸ inb)]
  funext y
  refine congrArg (v.read (Elt F) f) (funext (Fin.forall_fin_two.mpr ⟨Fin.ext ?_, Fin.ext ?_⟩))
  · show 208 * k.val + 1 * (y 0).val = 208 * k.val + (y 0).val; omega
  · show 0 + 1 * (y 1).val = (y 1).val; omega

/-- One trip's piece: one more chunk is normalised. -/
theorem step (v : View sig .tc .vmem S2080x1024 .bf16) (f : v.ty.Contents (Elt F)) (X : Vec F S2080x1024 .f32) (G : Vec F S1x1024 .f32) (k : Fin k0_t1_loop.trips) (hk : k.val < 10)
    (h : Done X G k.val (v.read (Elt F) f)) (inb : ∀ x, k0_off1 k x + S208x1024.size x ≤ S2080x1024.size x)
    (w : FVec F S208x1024 .bf16) (hw : w = k0_pay1 (chunk X ⟨k.val, hk⟩) G) :
    Done X G (k.val + 1) (v.read (Elt F) (v.writes (Elt F) f [⟨Rect.unit (s := S2080x1024) (k0_off1 k) S208x1024.size inb, w⟩])) := by
  subst hw
  intro q hq
  by_cases hlt : (q 0).val < 208 * k.val
  · refine (View.read_writes_cons_unit_of_not_mem v f inb _ [] q (off1 k) 0 (Or.inl hlt)).trans (h q hlt)
  · have hd : (q 0).val / 208 = k.val := by omega
    have hm : (q 0).val = 208 * k.val + (q 0).val % 208 := by omega
    refine (View.read_writes_cons_unit_of_mem v f inb _ [] q (ix2 (n0 := 208) (n1 := 1024) ⟨(q 0).val % 208, Nat.mod_lt _ (by norm_num)⟩ (q 1)) (off1 k)
      (Fin.forall_fin_two.mpr ⟨hm, (Nat.zero_add _).symm⟩)).trans ?_
    unfold normed
    refine congrArg (fun j : Fin 10 => k0_pay1 (chunk X j) G (ix2 (n0 := 208) (n1 := 1024) ⟨(q 0).val % 208, Nat.mod_lt _ (by norm_num)⟩ (q 1))) (Fin.ext hd.symm)

/-- A store over the whole of a buffer leaves what it stores. -/
theorem whole_piece (c : Dev nD) {S : Shape} {e : EltTy} (M : Memref sig .tc .vmem S e) (f : Buf (Elt F) (M.view.loc (c : Thread nD τ))) (off : Fin S.rank → ℕ)
    (inb : ∀ x, off x + S.size x ≤ S.size x) (w X : Vec F S e) (h : w = X) :
    (iprop(M.view.loc (c : Thread nD τ) ↦[M.view.set]{fullShare} M.view.writes (Elt F) f [⟨Rect.unit (s := S) off S.size inb, w⟩]) : sProp 𝕄)
      ⊢ owns (c : Thread nD τ) M fullShare X := by
  subst h
  refine owns_of c M _ _ (funext fun q => ?_)
  exact View.read_writes_cons_unit_of_mem M.view f inb w [] q q rfl (fun a => by have := inb a; omega)

/-! ## The body, run in its two cases -/

section Run

variable (arg2 : Memref sig .tc .vmem S2080x1024 .f32) (harg2 : arg2.IsWhole)
variable (arg3 : Memref sig .tc .vmem S1x1024 .f32) (harg3 : arg3.IsWhole)
variable (arg4 : Memref sig .tc .vmem S1024x512 .bf16) (harg4 : arg4.IsWhole)
variable (arg5 : Memref sig .tc .vmem S2080x1024 .bf16) (harg5 : arg5.IsWhole)
variable (arg6 : Memref sig .tc .vmem S2080x512 .f32) (harg6 : arg6.IsWhole)

set_option maxHeartbeats 1000000 in
set_option warn.classDefReducibility false in
/-- The loop over the chunks of rows. -/
@[sl_loop] def loop1 (𝒱 : Variants) (c : Dev nD) (bd : Option 𝒱.V) (E : Set ℕ) (i : grid0.Coords) (k0_h1 : k0_cond1 i = 1#1)
    (f2 : BufTy.Contents (Elt F) arg2.view.ty) (f3 : BufTy.Contents (Elt F) arg3.view.ty) :
  LoopInv (M := 𝕄) Idealize.ShloMosaic.frame (wpE defs₀ 𝒱 (c : Thread nD τ) bd) E k0_t1_loop.lb k0_t1_loop.ub k0_t1_loop.st (k0_t1_ok i k0_h1) ()
    (k0_t1_body (F := F) i arg2 harg2 arg3 harg3 arg4 harg4 arg5 harg5 arg6 harg6 k0_h1) where
  inv k _ := iprop((arg2.view.loc (c : Thread nD τ) ↦[arg2.view.set]{fullShare} f2) ∗ (arg3.view.loc (c : Thread nD τ) ↦[arg3.view.set]{fullShare} f3) ∗ (∃ f, (arg5.view.loc (c : Thread nD τ) ↦[arg5.view.set]{fullShare} f) ∗ ⌜0 < k → Done (arg2.view.read (Elt F) f2) (arg3.view.read (Elt F) f3) k (arg5.view.read (Elt F) f)⌝))
  step k acc := by
    iintro ⟨H2, H3, ⟨%f5, H5, %h5⟩⟩
    have hk : k.val < 10 := Nat.lt_of_lt_of_le k.isLt k0_t1_abs.2.1
    unfold k0_t1_body
    sl_exec
    sl_step
    isplitl [H2]
    · iexact H2
    isplitl [H3]
    · iexact H3
    · iexists _; isplitl [H5]; · iexact H5
      ipureintro
      intro _
      exact step arg5.view f5 _ _ k hk (Done.of_pos h5) (k0_off1_inb i k k0_h1) _
        ((congrArg (fun v => k0_pay1 v _) (ld_chunk arg2.view f2 k hk (k0_off1_inb i k k0_h1))).trans (congrArg (k0_pay1 _) (View.readAt_full arg3.view f3 inb_S1x1024_S1x1024_0_0)))

/-- What the body leaves: the inputs, the normalised rows and the products. -/
def Post (c : Dev nD) (X2 : Vec F S2080x1024 .f32) (X3 : Vec F S1x1024 .f32) (X4 : Vec F S1024x512 .bf16) : sProp 𝕄 :=
  iprop(owns (c : Thread nD τ) arg2 fullShare X2 ∗ owns (c : Thread nD τ) arg3 fullShare X3 ∗ owns (c : Thread nD τ) arg4 fullShare X4 ∗ owns (c : Thread nD τ) arg5 fullShare (normed X2 X3) ∗ owns (c : Thread nD τ) arg6 fullShare (k0_pay2 (normed X2 X3) X4))

set_option maxHeartbeats 2000000 in
/-- The body at the first column block of a row block. -/
theorem bodyRunA (c : Dev nD) (i : grid0.Coords) (X2 : Vec F S2080x1024 .f32) (X3 : Vec F S1x1024 .f32) (X4 : Vec F S1024x512 .bf16) (h : k0_cond1 i = 1#1) (K : PUnit → sProp 𝕄) :
    iprop((owns (c : Thread nD τ) arg2 fullShare X2 ∗ owns (c : Thread nD τ) arg3 fullShare X3 ∗ owns (c : Thread nD τ) arg4 fullShare X4 ∗ holds c arg5 ∗ holds c arg6)
        ∗ (Post arg2 arg3 arg4 arg5 arg6 c X2 X3 X4 -∗ K ⟨⟩))
      ⊢ wp frame (wpE (defs₀ (F := F)) Variants.none c none) Set.univ
          (cc0_ev_in i arg2 harg2 arg3 harg3 arg4 harg4 arg5 harg5 arg6 harg6) K := by
  simp only [cc0_ev_in_eq_skeleton]; unfold cc0_ev_in_skel
  unfold holds
  unfold owns
  iintro ⟨⟨⟨%f2, %h2, H2⟩, ⟨%f3, %h3, H3⟩, ⟨%f4, %h4, H4⟩, ⟨%_, %_, -, H5⟩, ⟨%_, %_, -, H6⟩⟩, Hk⟩
  subst h2 h3 h4
  rw [dif_pos h]
  sl_exec
  sl_step
  iapply Hk
  unfold Post
  isplitl [H2]; · exact owns_of c arg2 _ _ rfl
  isplitl [H3]; · exact owns_of c arg3 _ _ rfl
  isplitl [H4]; · exact owns_of c arg4 _ _ rfl
  isplitl [H5]; · exact owns_of c arg5 _ _ (Done.all (hL3 (by decide)))
  refine whole_piece (F := F) c arg6 _ ![0, 0] inb_S2080x512_S2080x512_0_0 _ _ ?_
  rw [View.readAt_full arg4.view f4 inb_S1024x512_S1024x512_0_0, View.readAt_full arg5.view _ inb_S2080x1024_S2080x1024_0_0, Done.all (hL3 (by decide))]

set_option maxHeartbeats 2000000 in
/-- The body at any other column block, the window of the normalised rows as the first one left it. -/
theorem bodyRunB (c : Dev nD) (i : grid0.Coords) (X2 : Vec F S2080x1024 .f32) (X3 : Vec F S1x1024 .f32) (X4 : Vec F S1024x512 .bf16) (h : ¬ k0_cond1 i = 1#1) (K : PUnit → sProp 𝕄) :
    iprop((owns (c : Thread nD τ) arg2 fullShare X2 ∗ owns (c : Thread nD τ) arg3 fullShare X3 ∗ owns (c : Thread nD τ) arg4 fullShare X4 ∗ owns (c : Thread nD τ) arg5 fullShare (normed X2 X3) ∗ holds c arg6)
        ∗ (Post arg2 arg3 arg4 arg5 arg6 c X2 X3 X4 -∗ K ⟨⟩))
      ⊢ wp frame (wpE (defs₀ (F := F)) Variants.none c none) Set.univ
          (cc0_ev_in i arg2 harg2 arg3 harg3 arg4 harg4 arg5 harg5 arg6 harg6) K := by
  simp only [cc0_ev_in_eq_skeleton]; unfold cc0_ev_in_skel
  unfold holds
  unfold owns
  iintro ⟨⟨⟨%f2, %h2, H2⟩, ⟨%f3, %h3, H3⟩, ⟨%f4, %h4, H4⟩, ⟨%f5, %h5, H5⟩, ⟨%_, %_, -, H6⟩⟩, Hk⟩
  subst h2 h3 h4
  rw [dif_neg h]
  sl_exec
  sl_step
  iapply Hk
  unfold Post
  isplitl [H2]; · exact owns_of c arg2 _ _ rfl
  isplitl [H3]; · exact owns_of c arg3 _ _ rfl
  isplitl [H4]; · exact owns_of c arg4 _ _ rfl
  isplitl [H5]; · exact owns_of c arg5 _ _ h5
  refine whole_piece (F := F) c arg6 _ ![0, 0] inb_S2080x512_S2080x512_0_0 _ _ ?_
  rw [View.readAt_full arg4.view f4 inb_S1024x512_S1024x512_0_0, View.readAt_full arg5.view _ inb_S2080x1024_S2080x1024_0_0, h5]

end Run

/-! ## The proof data and the body obligation -/

variable (m : (ℓ : Loc nD τ sig) → Buf (Elt F) ℓ) (ρ : Dev nD → PrngReg)

/-- The proof data on core `c`: the arrays as the region finds them, the inputs left as they are, the window of the normalised
    rows at the row block's normalised rows at every point, each product of the normalised rows and the point's columns. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => normed (iblk m c 0 t) (iblk m c 1 t)
    | 4 => fun t => k0_pay2 (normed (iblk m c 0 t) (iblk m c 1 t)) (iblk m c 2 t)
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = normed (iblk m c 0 t) (iblk m c 1 t) := rfl
theorem after0_4 (c : Dev nD) (t : Fin cfg0.N) : (dats m 0 c).after 4 t = k0_pay2 (normed (iblk m c 0 t) (iblk m c 1 t)) (iblk m c 2 t) := rfl
theorem before0_0 (c : Dev nD) (t : Fin cfg0.N) (d) : (dats m 0 c).before 0 t d = iblk m c 0 t := before0_0_of m (dats m 0 c) (A_eq m c 0) (fun _ => rfl) t d
theorem before0_1 (c : Dev nD) (t : Fin cfg0.N) (d) : (dats m 0 c).before 1 t d = iblk m c 1 t := before0_1_of m (dats m 0 c) (A_eq m c 1) (fun _ => rfl) t d
theorem before0_2 (c : Dev nD) (t : Fin cfg0.N) (d) : (dats m 0 c).before 2 t d = iblk m c 2 t := before0_2_of m (dats m 0 c) (A_eq m c 2) (fun _ => rfl) t d

/-- The windows' block indices at point `t`. -/
theorem idx : ∀ t : Fin cfg0.N, win0_0.index t = ![t.val / 3, 0] ∧ win0_1.index t = ![0, 0] ∧ win0_2.index t = ![0, t.val % 3] ∧ win0_3.index t = ![t.val / 3, 0] ∧ win0_4.index t = ![t.val / 3, t.val % 3] :=
  (by decide +kernel : ∀ t : Fin grid0.N, _)

theorem cond_iff : ∀ t : Fin cfg0.N, k0_cond1 (grid0.coords t) = 1#1 ↔ t.val % 3 = 0 :=
  (by decide +kernel : ∀ t : Fin grid0.N, _)

/-- The normalised rows do not depend on the column block. -/
theorem rows_eq (c : Dev nD) (t t' : Fin cfg0.N) (h : t.val / 3 = t'.val / 3) :
    normed (iblk m c 0 t) (iblk m c 1 t) = normed (iblk m c 0 t') (iblk m c 1 t') := by
  have e0 : iblk m c 0 t = iblk m c 0 t' := by
    funext y
    refine congrArg (V m c (Pipeline.arrRef spec0 0)) (funext (Fin.forall_fin_two.mpr ⟨Fin.ext ?_, Fin.ext ?_⟩))
    · blk_ext [idx t, idx t', h]
    · blk_ext [idx t, idx t', h]
  have e1 : iblk m c 1 t = iblk m c 1 t' := by
    funext y
    refine congrArg (V m c (Pipeline.arrRef spec0 1)) (funext (Fin.forall_fin_two.mpr ⟨Fin.ext ?_, Fin.ext ?_⟩))
    · blk_ext [idx t, idx t', h]
    · blk_ext [idx t, idx t', h]
  rw [e0, e1]

theorem idle_iff (t : Fin cfg0.N) : cfg0.idle 3 (cfg0.grid.coords t) = true ↔ t.val % 3 ≠ 0 := by
  rw [ne_eq, ← cond_iff t]
  show (!(k0_cond1 (grid0.coords t) == 1#1)) = true ↔ _
  simp

theorem fetch3 (t : Fin cfg0.N) : (cfg0.win 3).fetch t = false := rfl

/-- Past the first column block, the body finds the window of the normalised rows at the row block's normalised rows. -/
theorem before_rows (c : Dev nD) : ∀ (n : ℕ) (t : Fin cfg0.N) (d), t.val = n → t.val % 3 ≠ 0 →
    (dats m 0 c).before 3 t d = normed (iblk m c 0 t) (iblk m c 1 t) := by
  intro n
  induction n with
  | zero => intro t d ht h; exact absurd (by rw [ht]) h
  | succ n ih =>
    intro t d ht h
    have hfl : (cfg0.win 3).flush ⟨t.val - 1, Nat.lt_of_le_of_lt (Nat.sub_le _ _) t.isLt⟩ = false := by
      rw [← Bool.not_eq_true, flush0_3]
      show ¬ (t.val - 1) % 3 = 2
      omega
    rw [(dats m 0 c).before_of_pos 3 t (by omega) (fetch3 t) d, hfl, if_neg Bool.false_ne_true]
    refine Eq.trans ?_ (rows_eq m c ⟨t.val - 1, Nat.lt_of_le_of_lt (Nat.sub_le _ _) t.isLt⟩ t (by show (t.val - 1) / 3 = _; omega))
    unfold Dat.left
    cases hi : cfg0.idle 3 (cfg0.grid.coords ⟨t.val - 1, Nat.lt_of_le_of_lt (Nat.sub_le _ _) t.isLt⟩)
    · rfl
    · exact ih _ d (by show t.val - 1 = n; omega) ((idle_iff _).mp hi)

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3, after0_4]
  by_cases h : k0_cond1 (grid0.coords t) = 1#1
  · iintro ⟨HΦ, Ho, ⟨%d0, H0⟩, ⟨%d1, H1⟩, ⟨%d2, H2⟩, ⟨%d3, H3⟩, ⟨%d4, H4⟩⟩
    iapply (bodyRunA (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) c (grid0.coords t) (iblk m c 0 t) (iblk m c 1 t) (iblk m c 2 t) h _)
    isplitl [H0 H1 H2 H3 H4]
    · isplitl [H0]; · iexact H0
      isplitl [H1]; · iexact H1
      isplitl [H2]; · iexact H2
      isplitl [H3]; · unfold holds; iexists _; iexact H3
      unfold holds; iexists _; iexact H4
    unfold Post
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hB : ∀ d, (dats m 0 c).before 3 t d = normed (iblk m c 0 t) (iblk m c 1 t) := fun d => before_rows m c _ t d rfl (fun h' => h ((cond_iff t).mpr h'))
    simp only [hB]
    iintro ⟨HΦ, Ho, ⟨%d0, H0⟩, ⟨%d1, H1⟩, ⟨%d2, H2⟩, ⟨%d3, H3⟩, ⟨%d4, H4⟩⟩
    iapply (bodyRunB (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) c (grid0.coords t) (iblk m c 0 t) (iblk m c 1 t) (iblk m c 2 t) h _)
    isplitl [H0 H1 H2 H3 H4]
    · isplitl [H0]; · iexact H0
      isplitl [H1]; · iexact H1
      isplitl [H2]; · iexact H2
      isplitl [H3]; · iexact H3
      unfold holds; iexists _; iexact H4
    unfold Post
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The window of the normalised rows leaves as the obligation asks: where it is idle and not written back, as it was found. -/
theorem post_rows (c : Dev nD) (t : Fin cfg0.N) :
    (owns (c : Thread nD τ) (st0_3 t) fullShare ((dats m 0 c).after 3 t) : sProp 𝕄) ⊢
      (match cfg0.idle 3 (cfg0.grid.coords t) with
        | true =>
          match (cfg0.win 3).flush t with
          | false => iprop(∃ d, owns (c : Thread nD τ) ((cfg0.win 3).stage (cfg0.slots t 3)) fullShare ((dats m 0 c).before 3 t d))
          | true => owns (c : Thread nD τ) ((cfg0.win 3).stage (cfg0.slots t 3)) fullShare ((dats m 0 c).after 3 t)
        | false => owns (c : Thread nD τ) ((cfg0.win 3).stage (cfg0.slots t 3)) fullShare ((dats m 0 c).after 3 t) : sProp 𝕄) := by
  cases hi : cfg0.idle 3 (cfg0.grid.coords t)
  · exact .rfl
  · cases hf : (cfg0.win 3).flush t
    · iintro H
      iexists ((dats m 0 c).after 3 t)
      rw [before_rows m c _ t _ rfl ((idle_iff t).mp hi), after0_3]
      iexact H
    · exact .rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sep_mono .rfl (sep_mono .rfl (sep_mono .rfl (sep_mono .rfl (sep_mono .rfl (sep_mono (post_rows m c t) .rfl)))))

/-! ## The run and the frame -/

set_option backward.isDefEq.respectTransparency.types false in
/-- From any memory with zero counters every weakly fair execution terminates without a fault, with the arrays as the proof
    data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-! ## The values over the extended reals -/

section Value

open Idealize.ShloMosaic.StableHlo

variable (m : (ℓ : Loc nD τ sig) → Buf (Elt Ideal) ℓ)

theorem chunk_at (X : Vec Ideal S2080x1024 .f32) (k : Fin 10) (a : Fin 208) (b : Fin 1024) :
    chunk X k (ix2 (n0 := 208) (n1 := 1024) a b) = X (ix2 (n0 := 2080) (n1 := 1024) ⟨208 * k.val + a.val, by omega⟩ b) := rfl

theorem normed_at (X : Vec Ideal S2080x1024 .f32) (G : Vec Ideal S1x1024 .f32) (a : Fin 2080) (b : Fin 1024) :
    (normed X G (ix2 (n0 := 2080) (n1 := 1024) a b) : EReal) = (X (ix2 a b) : EReal)
      * Ideal.rsqrt (Ideal.div (∑ x : Fin 1024, (X (ix2 a x) : EReal) * X (ix2 a x)) (Ideal.ofBits .f32 0x44800000#32) + Ideal.ofBits .f32 0x358637BD#32) * G (ix2 0 b) := by
  unfold normed
  pointwise [k0_pay1]
  simp only [chunk_at]
  have e : ∀ h, (⟨208 * (a.val / 208) + a.val % 208, h⟩ : Fin 2080) = a := fun h => Fin.ext (Nat.div_add_mod _ _)
  simp only [e]

/-- Row `a` of the row block of point `t`, and column `b` of its column block. -/
def row (t : Fin cfg0.N) (a : Fin 2080) : Fin 4160 := ⟨t.val / 3 * 2080 + a.val, by have h1 : t.val < 6 := t.isLt; omega⟩
def col (t : Fin cfg0.N) (b : Fin 512) : Fin 1536 := ⟨t.val % 3 * 512 + b.val, by omega⟩

theorem iblk0_at (c : Dev nD) (t : Fin cfg0.N) (a : Fin 2080) (b : Fin 1024) :
    (iblk m c 0 t (ix2 (n0 := 2080) (n1 := 1024) a b) : EReal) = m ((c : Thread nD τ).loc main_arg0) (ix2 (n0 := 4160) (n1 := 1024) (row t a) b) := by
  refine congrArg (m ((c : Thread nD τ).loc main_arg0)) (funext (Fin.forall_fin_two.mpr ⟨Fin.ext ?_, Fin.ext ?_⟩))
  · unfold row; blk_ext [idx t]
  · unfold row; blk_ext [idx t]

theorem iblk1_at (c : Dev nD) (t : Fin cfg0.N) (b : Fin 1024) :
    (iblk m c 1 t (ix2 (n0 := 1) (n1 := 1024) 0 b) : EReal) = m ((c : Thread nD τ).loc main_arg1) (ix1 (n0 := 1024) b) := by
  blk_simp [iblk, idx t]
  simp only [V, hostOps0, List.flatten_cons, List.flatten_nil, List.append_nil, List.cons_append, List.nil_append,
    TRef.binary, TRef.nullary, TRef.unary, TRef.toBuf, TRef.ofBuf, cast_eq]
  entry_read
  pointwise
  blk_point [iblk, idx t]

theorem iblk2_at (c : Dev nD) (t : Fin cfg0.N) (a : Fin 1024) (b : Fin 512) :
    (iblk m c 2 t (ix2 (n0 := 1024) (n1 := 512) a b) : EReal) = m ((c : Thread nD τ).loc main_arg2) (ix2 (n0 := 1024) (n1 := 1536) a (col t b)) := by
  blk_simp [iblk, idx t]
  simp only [V, hostOps0, List.flatten_cons, List.flatten_nil, List.append_nil, List.cons_append, List.nil_append,
    TRef.binary, TRef.nullary, TRef.unary, TRef.toBuf, TRef.ofBuf, cast_eq]
  entry_read
  pointwise
  blk_point [iblk, idx t]
  rfl

theorem emb3 (t : Fin cfg0.N) (a : Fin 2080) (b : Fin 1024) : ((View.whole main_v2_0).slice (win0_3.rect t)).emb (ix2 (n0 := 2080) (n1 := 1024) a b) = ix2 (n0 := 4160) (n1 := 1024) (row t a) b := by
  refine (funext (Fin.forall_fin_two.mpr ⟨Fin.ext ?_, Fin.ext ?_⟩))
  · unfold row; blk_ext [idx t]
  · unfold row; blk_ext [idx t]

theorem emb4 (t : Fin cfg0.N) (a : Fin 2080) (b : Fin 512) : ((View.whole main_v2_1).slice (win0_4.rect t)).emb (ix2 (n0 := 2080) (n1 := 512) a b) = ix2 (n0 := 4160) (n1 := 1536) (row t a) (col t b) := by
  refine (funext (Fin.forall_fin_two.mpr ⟨Fin.ext ?_, Fin.ext ?_⟩))
  · unfold row; blk_ext [idx t]
  · unfold col; blk_ext [idx t]

/-- The normalised rows after the run. -/
theorem final3 (c : Dev nD) : (dats m 0 c).arrAt 3 cfg0.N =
    Cert.EvInRefIdeal.Read.val_main_v13 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  rw [← Cert.EvInRefIdeal.Read.val_main_v13_eq]
  obtain ⟨a, b, rfl⟩ : ∃ (a : Fin 2080) (b : Fin 1024), y = ix2 a b := ⟨y 0, y 1, eq_ix2 y⟩
  refine (normed_at _ _ a b).trans ?_
  pointwise
  rw [emb3 t a b]
  simp only [iblk0_at, iblk1_at]
  rfl

/-- The product after the run. -/
theorem final4 (c : Dev nD) : (dats m 0 c).arrAt 4 cfg0.N =
    Cert.EvInRefIdeal.Read.val_main_v14 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  rw [← Cert.EvInRefIdeal.Read.val_main_v14_eq]
  obtain ⟨a, b, rfl⟩ : ∃ (a : Fin 2080) (b : Fin 512), y = ix2 a b := ⟨y 0, y 1, eq_ix2 y⟩
  pointwise [k0_pay2]
  rw [emb4 t a b]
  simp only [normed_at, iblk0_at, iblk1_at, iblk2_at]
  rfl

/-- The run at the extended reals, its results named. -/
theorem run_values (ρ : Dev nD → PrngReg) : θ_run defs (onTc (τ := τ) (main (F := Ideal))) ⟨m, fun _ => 0, ρ⟩ (fun r => ∀ c : Dev nD,
      r.2.mem ((c.tc : Thread nD τ).loc main_v2_0) = Cert.EvInRefIdeal.Read.val_main_v13 (F := Ideal) (m ((c : Thread nD τ).loc main_arg0)) (m ((c : Thread nD τ).loc main_arg1))
      ∧ r.2.mem ((c.tc : Thread nD τ).loc main_v2_1) = Cert.EvInRefIdeal.Read.val_main_v14 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), ((h.1 c).1 4).trans (final4 m c), h.2.1 c⟩) (θ_run_and (run_main m ρ) (frame m ρ))

end Value

end Cert.EvIn.Hand

/-! ## The idealised program is the program's own text -/

namespace Cert.EvInIdeal.Hand

open Idealize.ShloMosaic Idealize.ShloMosaic.TcCoe Idealize.SL.Sem
open Cert.EvInIdeal Cert.EvInIdeal.Gen

variable {F : FTy → Type} [FloatOps F]

theorem body_eq : cc0_ev_in (F := F) = Cert.EvIn.cc0_ev_in (F := F) := rfl

theorem defs₀_eq : defs₀ (F := F) = Cert.EvIn.defs₀ (F := F) := by
  unfold defs₀ Cert.EvIn.defs₀
  refine congrArg Defs.onTc ?_
  funext l a
  obtain rfl : l = 0 := Subsingleton.elim (α := Fin 1) _ _
  obtain ⟨t, s⟩ := a
  simp only [body_eq]
  rfl

theorem defs_eq : defs (F := F) = Cert.EvIn.defs (F := F) := congrArg (Pipeline.defs _) defs₀_eq

theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.EvIn.Hand.frame (F := F) m ρ

theorem run_values (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v2_0) = Cert.EvInRefIdeal.Read.val_main_v13 (F := Ideal) (m ((c : Thread nD τ).loc main_arg0)) (m ((c : Thread nD τ).loc main_arg1))
      ∧ r.2.mem ((c.tc : Thread nD τ).loc main_v2_1) = Cert.EvInRefIdeal.Read.val_main_v14 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  rw [defs_eq]
  exact Cert.EvIn.Hand.run_values m ρ

end Cert.EvInIdeal.Hand

end
-- ==== Proof.OdIn.lean ====
/-
  The odd layers' input product (the program `OdIn`): one pipelined call on a grid of two row blocks by 8 column blocks. At the first column
  block of a row block the body normalises the row block's 2080 rows, 208 at a time, into the window of the normalised rows,
  which stays where it is through the row block's other points and is written back at the last; at every point it multiplies the
  normalised rows with the point's columns of the weight.

  `bodyRunA` runs the body at the first column block and `bodyRunB` at the others, at any value instance `F`; `before_rows` is
  what lets the two meet: between them the window of the normalised rows is not touched. `final` is the value of the results
  over the extended reals.
-/
module

public import proofs.«01_k».proof.Proof.Gen.OdIn.Frame
public import proofs.«01_k».proof.Proof.Gen.OdIn.Skeleton
public import proofs.«01_k».proof.Proof.Gen.OdInIdeal.Frame
public import proofs.«01_k».proof.Proof.Gen.OdInRefIdeal.Run
public import proofs.«01_k».proof.Proof.Gen.OdInRefIdeal.Read
public import Idealize.ShloMosaic.Lib.Tactic
public import Idealize.ShloMosaic.Lib.Pipeline.ValueKit
public import Idealize.ShloMosaic.Lib.Pointwise
public import Idealize.ShloMosaic.Lib.Claim
public import Idealize.ShloMosaic.Lib.VecWindow
public import Idealize.ShloMosaic.Lib.WritesUnit

@[expose] public section

set_option maxRecDepth 16384

noncomputable section

namespace Cert.OdIn.Hand

open Cert.OdIn Cert.OdIn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- A buffer at some contents. -/
def holds (c : Dev nD) {S : Shape} {e : EltTy} (M : Memref sig .tc .vmem S e) : sProp 𝕄 :=
  iprop(∃ d, owns (c : Thread nD τ) M fullShare d)

theorem owns_of (c : Dev nD) {S : Shape} {e : EltTy} (M : Memref sig .tc .vmem S e) (f : Buf (Elt F) (M.view.loc (c : Thread nD τ))) (X : Vec F S e)
    (h : M.view.read (Elt F) f = X) :
    (iprop(M.view.loc (c : Thread nD τ) ↦[M.view.set]{fullShare} f) : sProp 𝕄) ⊢ owns (c : Thread nD τ) M fullShare X := by
  unfold owns
  iintro H
  iexists f
  isplitr
  · ipureintro; exact h
  iexact H

/-! ## The normalised rows -/

/-- Rows `208 k` to `208 k + 207` of a row block. -/
def chunk (X : Vec F S2080x1024 .f32) (k : Fin 10) : Vec F S208x1024 .f32 := fun y =>
  X (ix2 (n0 := 2080) (n1 := 1024) ⟨208 * k.val + (y 0).val, by have h1 : (y 0).val < 208 := (y 0).isLt; have := k.isLt; omega⟩ (y 1))

/-- A row block's normalised rows, each the body's function of its chunk of rows and the gains. -/
def normed (X : Vec F S2080x1024 .f32) (G : Vec F S1x1024 .f32) : Vec F S2080x1024 .bf16 := fun q =>
  k0_pay1 (chunk X ⟨(q 0).val / 208, by have h1 : (q 0).val < 2080 := (q 0).isLt; omega⟩) G
    (ix2 (n0 := 208) (n1 := 1024) ⟨(q 0).val % 208, Nat.mod_lt _ (by norm_num)⟩ (q 1))

/-- The first `n` chunks of a row block are normalised. -/
def Done (X : Vec F S2080x1024 .f32) (G : Vec F S1x1024 .f32) (n : ℕ) (D : Vec F S2080x1024 .bf16) : Prop :=
  ∀ q, (q 0).val < 208 * n → D q = normed X G q

theorem Done.of_pos {X : Vec F S2080x1024 .f32} {G : Vec F S1x1024 .f32} {D : Vec F S2080x1024 .bf16} {n : ℕ} (h : 0 < n → Done X G n D) : Done X G n D := by
  intro q hq
  exact h (by omega) q hq

theorem Done.all {X : Vec F S2080x1024 .f32} {G : Vec F S1x1024 .f32} {D : Vec F S2080x1024 .bf16} (h : Done X G k0_t1_loop.trips D) : D = normed X G :=
  funext fun q => h q (by have h1 : (q 0).val < 2080 := (q 0).isLt; have h2 : k0_t1_loop.trips = 10 := by decide
                          omega)

theorem off1 : ∀ k : Fin k0_t1_loop.trips, k0_off1 k = ![208 * k.val, 0] := by decide

theorem ld_chunk (v : View sig .tc .vmem S2080x1024 .f32) (f : v.ty.Contents (Elt F)) (k : Fin k0_t1_loop.trips) (hk : k.val < 10)
    (inb : ∀ x, k0_off1 k x + S208x1024.size x ≤ S2080x1024.size x) :
    v.readAt (Elt F) (Rect.unit (s := S2080x1024) (k0_off1 k) S208x1024.size inb).toLoadRect f = chunk (v.read (Elt F) f) ⟨k.val, hk⟩ := by
  rw [View.readAt_unit v f inb (off1 k) ((off1 k) ▸ inb)]
  funext y
  refine congrArg (v.read (Elt F) f) (funext (Fin.forall_fin_two.mpr ⟨Fin.ext ?_, Fin.ext ?_⟩))
  · show 208 * k.val + 1 * (y 0).val = 208 * k.val + (y 0).val; omega
  · show 0 + 1 * (y 1).val = (y 1).val; omega

/-- One trip's piece: one more chunk is normalised. -/
theorem step (v : View sig .tc .vmem S2080x1024 .bf16) (f : v.ty.Contents (Elt F)) (X : Vec F S2080x1024 .f32) (G : Vec F S1x1024 .f32) (k : Fin k0_t1_loop.trips) (hk : k.val < 10)
    (h : Done X G k.val (v.read (Elt F) f)) (inb : ∀ x, k0_off1 k x + S208x1024.size x ≤ S2080x1024.size x)
    (w : FVec F S208x1024 .bf16) (hw : w = k0_pay1 (chunk X ⟨k.val, hk⟩) G) :
    Done X G (k.val + 1) (v.read (Elt F) (v.writes (Elt F) f [⟨Rect.unit (s := S2080x1024) (k0_off1 k) S208x1024.size inb, w⟩])) := by
  subst hw
  intro q hq
  by_cases hlt : (q 0).val < 208 * k.val
  · refine (View.read_writes_cons_unit_of_not_mem v f inb _ [] q (off1 k) 0 (Or.inl hlt)).trans (h q hlt)
  · have hd : (q 0).val / 208 = k.val := by omega
    have hm : (q 0).val = 208 * k.val + (q 0).val % 208 := by omega
    refine (View.read_writes_cons_unit_of_mem v f inb _ [] q (ix2 (n0 := 208) (n1 := 1024) ⟨(q 0).val % 208, Nat.mod_lt _ (by norm_num)⟩ (q 1)) (off1 k)
      (Fin.forall_fin_two.mpr ⟨hm, (Nat.zero_add _).symm⟩)).trans ?_
    unfold normed
    refine congrArg (fun j : Fin 10 => k0_pay1 (chunk X j) G (ix2 (n0 := 208) (n1 := 1024) ⟨(q 0).val % 208, Nat.mod_lt _ (by norm_num)⟩ (q 1))) (Fin.ext hd.symm)

/-- A store over the whole of a buffer leaves what it stores. -/
theorem whole_piece (c : Dev nD) {S : Shape} {e : EltTy} (M : Memref sig .tc .vmem S e) (f : Buf (Elt F) (M.view.loc (c : Thread nD τ))) (off : Fin S.rank → ℕ)
    (inb : ∀ x, off x + S.size x ≤ S.size x) (w X : Vec F S e) (h : w = X) :
    (iprop(M.view.loc (c : Thread nD τ) ↦[M.view.set]{fullShare} M.view.writes (Elt F) f [⟨Rect.unit (s := S) off S.size inb, w⟩]) : sProp 𝕄)
      ⊢ owns (c : Thread nD τ) M fullShare X := by
  subst h
  refine owns_of c M _ _ (funext fun q => ?_)
  exact View.read_writes_cons_unit_of_mem M.view f inb w [] q q rfl (fun a => by have := inb a; omega)

/-! ## The body, run in its two cases -/

section Run

variable (arg2 : Memref sig .tc .vmem S2080x1024 .f32) (harg2 : arg2.IsWhole)
variable (arg3 : Memref sig .tc .vmem S1x1024 .f32) (harg3 : arg3.IsWhole)
variable (arg4 : Memref sig .tc .vmem S1024x512 .bf16) (harg4 : arg4.IsWhole)
variable (arg5 : Memref sig .tc .vmem S2080x1024 .bf16) (harg5 : arg5.IsWhole)
variable (arg6 : Memref sig .tc .vmem S2080x512 .f32) (harg6 : arg6.IsWhole)

set_option maxHeartbeats 1000000 in
set_option warn.classDefReducibility false in
/-- The loop over the chunks of rows. -/
@[sl_loop] def loop1 (𝒱 : Variants) (c : Dev nD) (bd : Option 𝒱.V) (E : Set ℕ) (i : grid0.Coords) (k0_h1 : k0_cond1 i = 1#1)
    (f2 : BufTy.Contents (Elt F) arg2.view.ty) (f3 : BufTy.Contents (Elt F) arg3.view.ty) :
  LoopInv (M := 𝕄) Idealize.ShloMosaic.frame (wpE defs₀ 𝒱 (c : Thread nD τ) bd) E k0_t1_loop.lb k0_t1_loop.ub k0_t1_loop.st (k0_t1_ok i k0_h1) ()
    (k0_t1_body (F := F) i arg2 harg2 arg3 harg3 arg4 harg4 arg5 harg5 arg6 harg6 k0_h1) where
  inv k _ := iprop((arg2.view.loc (c : Thread nD τ) ↦[arg2.view.set]{fullShare} f2) ∗ (arg3.view.loc (c : Thread nD τ) ↦[arg3.view.set]{fullShare} f3) ∗ (∃ f, (arg5.view.loc (c : Thread nD τ) ↦[arg5.view.set]{fullShare} f) ∗ ⌜0 < k → Done (arg2.view.read (Elt F) f2) (arg3.view.read (Elt F) f3) k (arg5.view.read (Elt F) f)⌝))
  step k acc := by
    iintro ⟨H2, H3, ⟨%f5, H5, %h5⟩⟩
    have hk : k.val < 10 := Nat.lt_of_lt_of_le k.isLt k0_t1_abs.2.1
    unfold k0_t1_body
    sl_exec
    sl_step
    isplitl [H2]
    · iexact H2
    isplitl [H3]
    · iexact H3
    · iexists _; isplitl [H5]; · iexact H5
      ipureintro
      intro _
      exact step arg5.view f5 _ _ k hk (Done.of_pos h5) (k0_off1_inb i k k0_h1) _
        ((congrArg (fun v => k0_pay1 v _) (ld_chunk arg2.view f2 k hk (k0_off1_inb i k k0_h1))).trans (congrArg (k0_pay1 _) (View.readAt_full arg3.view f3 inb_S1x1024_S1x1024_0_0)))

/-- What the body leaves: the inputs, the normalised rows and the products. -/
def Post (c : Dev nD) (X2 : Vec F S2080x1024 .f32) (X3 : Vec F S1x1024 .f32) (X4 : Vec F S1024x512 .bf16) : sProp 𝕄 :=
  iprop(owns (c : Thread nD τ) arg2 fullShare X2 ∗ owns (c : Thread nD τ) arg3 fullShare X3 ∗ owns (c : Thread nD τ) arg4 fullShare X4 ∗ owns (c : Thread nD τ) arg5 fullShare (normed X2 X3) ∗ owns (c : Thread nD τ) arg6 fullShare (k0_pay2 (normed X2 X3) X4))

set_option maxHeartbeats 2000000 in
/-- The body at the first column block of a row block. -/
theorem bodyRunA (c : Dev nD) (i : grid0.Coords) (X2 : Vec F S2080x1024 .f32) (X3 : Vec F S1x1024 .f32) (X4 : Vec F S1024x512 .bf16) (h : k0_cond1 i = 1#1) (K : PUnit → sProp 𝕄) :
    iprop((owns (c : Thread nD τ) arg2 fullShare X2 ∗ owns (c : Thread nD τ) arg3 fullShare X3 ∗ owns (c : Thread nD τ) arg4 fullShare X4 ∗ holds c arg5 ∗ holds c arg6)
        ∗ (Post arg2 arg3 arg4 arg5 arg6 c X2 X3 X4 -∗ K ⟨⟩))
      ⊢ wp frame (wpE (defs₀ (F := F)) Variants.none c none) Set.univ
          (cc0_od_in i arg2 harg2 arg3 harg3 arg4 harg4 arg5 harg5 arg6 harg6) K := by
  simp only [cc0_od_in_eq_skeleton]; unfold cc0_od_in_skel
  unfold holds
  unfold owns
  iintro ⟨⟨⟨%f2, %h2, H2⟩, ⟨%f3, %h3, H3⟩, ⟨%f4, %h4, H4⟩, ⟨%_, %_, -, H5⟩, ⟨%_, %_, -, H6⟩⟩, Hk⟩
  subst h2 h3 h4
  rw [dif_pos h]
  sl_exec
  sl_step
  iapply Hk
  unfold Post
  isplitl [H2]; · exact owns_of c arg2 _ _ rfl
  isplitl [H3]; · exact owns_of c arg3 _ _ rfl
  isplitl [H4]; · exact owns_of c arg4 _ _ rfl
  isplitl [H5]; · exact owns_of c arg5 _ _ (Done.all (hL3 (by decide)))
  refine whole_piece (F := F) c arg6 _ ![0, 0] inb_S2080x512_S2080x512_0_0 _ _ ?_
  rw [View.readAt_full arg4.view f4 inb_S1024x512_S1024x512_0_0, View.readAt_full arg5.view _ inb_S2080x1024_S2080x1024_0_0, Done.all (hL3 (by decide))]

set_option maxHeartbeats 2000000 in
/-- The body at any other column block, the window of the normalised rows as the first one left it. -/
theorem bodyRunB (c : Dev nD) (i : grid0.Coords) (X2 : Vec F S2080x1024 .f32) (X3 : Vec F S1x1024 .f32) (X4 : Vec F S1024x512 .bf16) (h : ¬ k0_cond1 i = 1#1) (K : PUnit → sProp 𝕄) :
    iprop((owns (c : Thread nD τ) arg2 fullShare X2 ∗ owns (c : Thread nD τ) arg3 fullShare X3 ∗ owns (c : Thread nD τ) arg4 fullShare X4 ∗ owns (c : Thread nD τ) arg5 fullShare (normed X2 X3) ∗ holds c arg6)
        ∗ (Post arg2 arg3 arg4 arg5 arg6 c X2 X3 X4 -∗ K ⟨⟩))
      ⊢ wp frame (wpE (defs₀ (F := F)) Variants.none c none) Set.univ
          (cc0_od_in i arg2 harg2 arg3 harg3 arg4 harg4 arg5 harg5 arg6 harg6) K := by
  simp only [cc0_od_in_eq_skeleton]; unfold cc0_od_in_skel
  unfold holds
  unfold owns
  iintro ⟨⟨⟨%f2, %h2, H2⟩, ⟨%f3, %h3, H3⟩, ⟨%f4, %h4, H4⟩, ⟨%f5, %h5, H5⟩, ⟨%_, %_, -, H6⟩⟩, Hk⟩
  subst h2 h3 h4
  rw [dif_neg h]
  sl_exec
  sl_step
  iapply Hk
  unfold Post
  isplitl [H2]; · exact owns_of c arg2 _ _ rfl
  isplitl [H3]; · exact owns_of c arg3 _ _ rfl
  isplitl [H4]; · exact owns_of c arg4 _ _ rfl
  isplitl [H5]; · exact owns_of c arg5 _ _ h5
  refine whole_piece (F := F) c arg6 _ ![0, 0] inb_S2080x512_S2080x512_0_0 _ _ ?_
  rw [View.readAt_full arg4.view f4 inb_S1024x512_S1024x512_0_0, View.readAt_full arg5.view _ inb_S2080x1024_S2080x1024_0_0, h5]

end Run

/-! ## The proof data and the body obligation -/

variable (m : (ℓ : Loc nD τ sig) → Buf (Elt F) ℓ) (ρ : Dev nD → PrngReg)

/-- The proof data on core `c`: the arrays as the region finds them, the inputs left as they are, the window of the normalised
    rows at the row block's normalised rows at every point, each product of the normalised rows and the point's columns. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => normed (iblk m c 0 t) (iblk m c 1 t)
    | 4 => fun t => k0_pay2 (normed (iblk m c 0 t) (iblk m c 1 t)) (iblk m c 2 t)
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = normed (iblk m c 0 t) (iblk m c 1 t) := rfl
theorem after0_4 (c : Dev nD) (t : Fin cfg0.N) : (dats m 0 c).after 4 t = k0_pay2 (normed (iblk m c 0 t) (iblk m c 1 t)) (iblk m c 2 t) := rfl
theorem before0_0 (c : Dev nD) (t : Fin cfg0.N) (d) : (dats m 0 c).before 0 t d = iblk m c 0 t := before0_0_of m (dats m 0 c) (A_eq m c 0) (fun _ => rfl) t d
theorem before0_1 (c : Dev nD) (t : Fin cfg0.N) (d) : (dats m 0 c).before 1 t d = iblk m c 1 t := before0_1_of m (dats m 0 c) (A_eq m c 1) (fun _ => rfl) t d
theorem before0_2 (c : Dev nD) (t : Fin cfg0.N) (d) : (dats m 0 c).before 2 t d = iblk m c 2 t := before0_2_of m (dats m 0 c) (A_eq m c 2) (fun _ => rfl) t d

/-- The windows' block indices at point `t`. -/
theorem idx : ∀ t : Fin cfg0.N, win0_0.index t = ![t.val / 8, 0] ∧ win0_1.index t = ![0, 0] ∧ win0_2.index t = ![0, t.val % 8] ∧ win0_3.index t = ![t.val / 8, 0] ∧ win0_4.index t = ![t.val / 8, t.val % 8] :=
  (by decide +kernel : ∀ t : Fin grid0.N, _)

theorem cond_iff : ∀ t : Fin cfg0.N, k0_cond1 (grid0.coords t) = 1#1 ↔ t.val % 8 = 0 :=
  (by decide +kernel : ∀ t : Fin grid0.N, _)

/-- The normalised rows do not depend on the column block. -/
theorem rows_eq (c : Dev nD) (t t' : Fin cfg0.N) (h : t.val / 8 = t'.val / 8) :
    normed (iblk m c 0 t) (iblk m c 1 t) = normed (iblk m c 0 t') (iblk m c 1 t') := by
  have e0 : iblk m c 0 t = iblk m c 0 t' := by
    funext y
    refine congrArg (V m c (Pipeline.arrRef spec0 0)) (funext (Fin.forall_fin_two.mpr ⟨Fin.ext ?_, Fin.ext ?_⟩))
    · blk_ext [idx t, idx t', h]
    · blk_ext [idx t, idx t', h]
  have e1 : iblk m c 1 t = iblk m c 1 t' := by
    funext y
    refine congrArg (V m c (Pipeline.arrRef spec0 1)) (funext (Fin.forall_fin_two.mpr ⟨Fin.ext ?_, Fin.ext ?_⟩))
    · blk_ext [idx t, idx t', h]
    · blk_ext [idx t, idx t', h]
  rw [e0, e1]

theorem idle_iff (t : Fin cfg0.N) : cfg0.idle 3 (cfg0.grid.coords t) = true ↔ t.val % 8 ≠ 0 := by
  rw [ne_eq, ← cond_iff t]
  show (!(k0_cond1 (grid0.coords t) == 1#1)) = true ↔ _
  simp

theorem fetch3 (t : Fin cfg0.N) : (cfg0.win 3).fetch t = false := rfl

/-- Past the first column block, the body finds the window of the normalised rows at the row block's normalised rows. -/
theorem before_rows (c : Dev nD) : ∀ (n : ℕ) (t : Fin cfg0.N) (d), t.val = n → t.val % 8 ≠ 0 →
    (dats m 0 c).before 3 t d = normed (iblk m c 0 t) (iblk m c 1 t) := by
  intro n
  induction n with
  | zero => intro t d ht h; exact absurd (by rw [ht]) h
  | succ n ih =>
    intro t d ht h
    have hfl : (cfg0.win 3).flush ⟨t.val - 1, Nat.lt_of_le_of_lt (Nat.sub_le _ _) t.isLt⟩ = false := by
      rw [← Bool.not_eq_true, flush0_3]
      show ¬ (t.val - 1) % 8 = 7
      omega
    rw [(dats m 0 c).before_of_pos 3 t (by omega) (fetch3 t) d, hfl, if_neg Bool.false_ne_true]
    refine Eq.trans ?_ (rows_eq m c ⟨t.val - 1, Nat.lt_of_le_of_lt (Nat.sub_le _ _) t.isLt⟩ t (by show (t.val - 1) / 8 = _; omega))
    unfold Dat.left
    cases hi : cfg0.idle 3 (cfg0.grid.coords ⟨t.val - 1, Nat.lt_of_le_of_lt (Nat.sub_le _ _) t.isLt⟩)
    · rfl
    · exact ih _ d (by show t.val - 1 = n; omega) ((idle_iff _).mp hi)

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3, after0_4]
  by_cases h : k0_cond1 (grid0.coords t) = 1#1
  · iintro ⟨HΦ, Ho, ⟨%d0, H0⟩, ⟨%d1, H1⟩, ⟨%d2, H2⟩, ⟨%d3, H3⟩, ⟨%d4, H4⟩⟩
    iapply (bodyRunA (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) c (grid0.coords t) (iblk m c 0 t) (iblk m c 1 t) (iblk m c 2 t) h _)
    isplitl [H0 H1 H2 H3 H4]
    · isplitl [H0]; · iexact H0
      isplitl [H1]; · iexact H1
      isplitl [H2]; · iexact H2
      isplitl [H3]; · unfold holds; iexists _; iexact H3
      unfold holds; iexists _; iexact H4
    unfold Post
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hB : ∀ d, (dats m 0 c).before 3 t d = normed (iblk m c 0 t) (iblk m c 1 t) := fun d => before_rows m c _ t d rfl (fun h' => h ((cond_iff t).mpr h'))
    simp only [hB]
    iintro ⟨HΦ, Ho, ⟨%d0, H0⟩, ⟨%d1, H1⟩, ⟨%d2, H2⟩, ⟨%d3, H3⟩, ⟨%d4, H4⟩⟩
    iapply (bodyRunB (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) c (grid0.coords t) (iblk m c 0 t) (iblk m c 1 t) (iblk m c 2 t) h _)
    isplitl [H0 H1 H2 H3 H4]
    · isplitl [H0]; · iexact H0
      isplitl [H1]; · iexact H1
      isplitl [H2]; · iexact H2
      isplitl [H3]; · iexact H3
      unfold holds; iexists _; iexact H4
    unfold Post
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The window of the normalised rows leaves as the obligation asks: where it is idle and not written back, as it was found. -/
theorem post_rows (c : Dev nD) (t : Fin cfg0.N) :
    (owns (c : Thread nD τ) (st0_3 t) fullShare ((dats m 0 c).after 3 t) : sProp 𝕄) ⊢
      (match cfg0.idle 3 (cfg0.grid.coords t) with
        | true =>
          match (cfg0.win 3).flush t with
          | false => iprop(∃ d, owns (c : Thread nD τ) ((cfg0.win 3).stage (cfg0.slots t 3)) fullShare ((dats m 0 c).before 3 t d))
          | true => owns (c : Thread nD τ) ((cfg0.win 3).stage (cfg0.slots t 3)) fullShare ((dats m 0 c).after 3 t)
        | false => owns (c : Thread nD τ) ((cfg0.win 3).stage (cfg0.slots t 3)) fullShare ((dats m 0 c).after 3 t) : sProp 𝕄) := by
  cases hi : cfg0.idle 3 (cfg0.grid.coords t)
  · exact .rfl
  · cases hf : (cfg0.win 3).flush t
    · iintro H
      iexists ((dats m 0 c).after 3 t)
      rw [before_rows m c _ t _ rfl ((idle_iff t).mp hi), after0_3]
      iexact H
    · exact .rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sep_mono .rfl (sep_mono .rfl (sep_mono .rfl (sep_mono .rfl (sep_mono .rfl (sep_mono (post_rows m c t) .rfl)))))

/-! ## The run and the frame -/

set_option backward.isDefEq.respectTransparency.types false in
/-- From any memory with zero counters every weakly fair execution terminates without a fault, with the arrays as the proof
    data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-! ## The values over the extended reals -/

section Value

open Idealize.ShloMosaic.StableHlo

variable (m : (ℓ : Loc nD τ sig) → Buf (Elt Ideal) ℓ)

theorem chunk_at (X : Vec Ideal S2080x1024 .f32) (k : Fin 10) (a : Fin 208) (b : Fin 1024) :
    chunk X k (ix2 (n0 := 208) (n1 := 1024) a b) = X (ix2 (n0 := 2080) (n1 := 1024) ⟨208 * k.val + a.val, by omega⟩ b) := rfl

theorem normed_at (X : Vec Ideal S2080x1024 .f32) (G : Vec Ideal S1x1024 .f32) (a : Fin 2080) (b : Fin 1024) :
    (normed X G (ix2 (n0 := 2080) (n1 := 1024) a b) : EReal) = (X (ix2 a b) : EReal)
      * Ideal.rsqrt (Ideal.div (∑ x : Fin 1024, (X (ix2 a x) : EReal) * X (ix2 a x)) (Ideal.ofBits .f32 0x44800000#32) + Ideal.ofBits .f32 0x358637BD#32) * G (ix2 0 b) := by
  unfold normed
  pointwise [k0_pay1]
  simp only [chunk_at]
  have e : ∀ h, (⟨208 * (a.val / 208) + a.val % 208, h⟩ : Fin 2080) = a := fun h => Fin.ext (Nat.div_add_mod _ _)
  simp only [e]

/-- Row `a` of the row block of point `t`, and column `b` of its column block. -/
def row (t : Fin cfg0.N) (a : Fin 2080) : Fin 4160 := ⟨t.val / 8 * 2080 + a.val, by have h1 : t.val < 16 := t.isLt; omega⟩
def col (t : Fin cfg0.N) (b : Fin 512) : Fin 4096 := ⟨t.val % 8 * 512 + b.val, by omega⟩

theorem iblk0_at (c : Dev nD) (t : Fin cfg0.N) (a : Fin 2080) (b : Fin 1024) :
    (iblk m c 0 t (ix2 (n0 := 2080) (n1 := 1024) a b) : EReal) = m ((c : Thread nD τ).loc main_arg0) (ix2 (n0 := 4160) (n1 := 1024) (row t a) b) := by
  refine congrArg (m ((c : Thread nD τ).loc main_arg0)) (funext (Fin.forall_fin_two.mpr ⟨Fin.ext ?_, Fin.ext ?_⟩))
  · unfold row; blk_ext [idx t]
  · unfold row; blk_ext [idx t]

theorem iblk1_at (c : Dev nD) (t : Fin cfg0.N) (b : Fin 1024) :
    (iblk m c 1 t (ix2 (n0 := 1) (n1 := 1024) 0 b) : EReal) = m ((c : Thread nD τ).loc main_arg1) (ix1 (n0 := 1024) b) := by
  blk_simp [iblk, idx t]
  simp only [V, hostOps0, List.flatten_cons, List.flatten_nil, List.append_nil, List.cons_append, List.nil_append,
    TRef.binary, TRef.nullary, TRef.unary, TRef.toBuf, TRef.ofBuf, cast_eq]
  entry_read
  pointwise
  blk_point [iblk, idx t]

theorem iblk2_at (c : Dev nD) (t : Fin cfg0.N) (a : Fin 1024) (b : Fin 512) :
    (iblk m c 2 t (ix2 (n0 := 1024) (n1 := 512) a b) : EReal) = m ((c : Thread nD τ).loc main_arg2) (ix2 (n0 := 1024) (n1 := 4096) a (col t b)) := by
  blk_simp [iblk, idx t]
  simp only [V, hostOps0, List.flatten_cons, List.flatten_nil, List.append_nil, List.cons_append, List.nil_append,
    TRef.binary, TRef.nullary, TRef.unary, TRef.toBuf, TRef.ofBuf, cast_eq]
  entry_read
  pointwise
  blk_point [iblk, idx t]
  rfl

theorem emb3 (t : Fin cfg0.N) (a : Fin 2080) (b : Fin 1024) : ((View.whole main_v2_0).slice (win0_3.rect t)).emb (ix2 (n0 := 2080) (n1 := 1024) a b) = ix2 (n0 := 4160) (n1 := 1024) (row t a) b := by
  refine (funext (Fin.forall_fin_two.mpr ⟨Fin.ext ?_, Fin.ext ?_⟩))
  · unfold row; blk_ext [idx t]
  · unfold row; blk_ext [idx t]

theorem emb4 (t : Fin cfg0.N) (a : Fin 2080) (b : Fin 512) : ((View.whole main_v2_1).slice (win0_4.rect t)).emb (ix2 (n0 := 2080) (n1 := 512) a b) = ix2 (n0 := 4160) (n1 := 4096) (row t a) (col t b) := by
  refine (funext (Fin.forall_fin_two.mpr ⟨Fin.ext ?_, Fin.ext ?_⟩))
  · unfold row; blk_ext [idx t]
  · unfold col; blk_ext [idx t]

/-- The normalised rows after the run. -/
theorem final3 (c : Dev nD) : (dats m 0 c).arrAt 3 cfg0.N =
    Cert.OdInRefIdeal.Read.val_main_v13 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  rw [← Cert.OdInRefIdeal.Read.val_main_v13_eq]
  obtain ⟨a, b, rfl⟩ : ∃ (a : Fin 2080) (b : Fin 1024), y = ix2 a b := ⟨y 0, y 1, eq_ix2 y⟩
  refine (normed_at _ _ a b).trans ?_
  pointwise
  rw [emb3 t a b]
  simp only [iblk0_at, iblk1_at]
  rfl

/-- The product after the run. -/
theorem final4 (c : Dev nD) : (dats m 0 c).arrAt 4 cfg0.N =
    Cert.OdInRefIdeal.Read.val_main_v14 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  rw [← Cert.OdInRefIdeal.Read.val_main_v14_eq]
  obtain ⟨a, b, rfl⟩ : ∃ (a : Fin 2080) (b : Fin 512), y = ix2 a b := ⟨y 0, y 1, eq_ix2 y⟩
  pointwise [k0_pay2]
  rw [emb4 t a b]
  simp only [normed_at, iblk0_at, iblk1_at, iblk2_at]
  rfl

/-- The run at the extended reals, its results named. -/
theorem run_values (ρ : Dev nD → PrngReg) : θ_run defs (onTc (τ := τ) (main (F := Ideal))) ⟨m, fun _ => 0, ρ⟩ (fun r => ∀ c : Dev nD,
      r.2.mem ((c.tc : Thread nD τ).loc main_v2_0) = Cert.OdInRefIdeal.Read.val_main_v13 (F := Ideal) (m ((c : Thread nD τ).loc main_arg0)) (m ((c : Thread nD τ).loc main_arg1))
      ∧ r.2.mem ((c.tc : Thread nD τ).loc main_v2_1) = Cert.OdInRefIdeal.Read.val_main_v14 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), ((h.1 c).1 4).trans (final4 m c), h.2.1 c⟩) (θ_run_and (run_main m ρ) (frame m ρ))

end Value

end Cert.OdIn.Hand

/-! ## The idealised program is the program's own text -/

namespace Cert.OdInIdeal.Hand

open Idealize.ShloMosaic Idealize.ShloMosaic.TcCoe Idealize.SL.Sem
open Cert.OdInIdeal Cert.OdInIdeal.Gen

variable {F : FTy → Type} [FloatOps F]

theorem body_eq : cc0_od_in (F := F) = Cert.OdIn.cc0_od_in (F := F) := rfl

theorem defs₀_eq : defs₀ (F := F) = Cert.OdIn.defs₀ (F := F) := by
  unfold defs₀ Cert.OdIn.defs₀
  refine congrArg Defs.onTc ?_
  funext l a
  obtain rfl : l = 0 := Subsingleton.elim (α := Fin 1) _ _
  obtain ⟨t, s⟩ := a
  simp only [body_eq]
  rfl

theorem defs_eq : defs (F := F) = Cert.OdIn.defs (F := F) := congrArg (Pipeline.defs _) defs₀_eq

theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.OdIn.Hand.frame (F := F) m ρ

theorem run_values (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD,
      r.2.mem ((c.tc : Thread nD τ).loc main_v2_0) = Cert.OdInRefIdeal.Read.val_main_v13 (F := Ideal) (m ((c : Thread nD τ).loc main_arg0)) (m ((c : Thread nD τ).loc main_arg1))
      ∧ r.2.mem ((c.tc : Thread nD τ).loc main_v2_1) = Cert.OdInRefIdeal.Read.val_main_v14 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  rw [defs_eq]
  exact Cert.OdIn.Hand.run_values m ρ

end Cert.OdInIdeal.Hand

end
-- ==== Proof.OptOut.lean ====
module

public import proofs.«01_k».proof.Proof.Gen.OptOut.Frame
public import proofs.«01_k».proof.Proof.Gen.OptOutIdeal.Frame
public import proofs.«01_k».proof.Proof.Gen.OptOutRefIdeal.Run
public import proofs.«01_k».proof.Proof.Gen.OptOutRefIdeal.Read
public import Idealize.ShloMosaic.Lib.Pipeline.ValueKit
public import Idealize.ShloMosaic.Lib.Pointwise
public import Idealize.ShloMosaic.Lib.Claim

/-! # One optimiser step of the weights of the output projections

One call per layer, each writing its own rows of the same four arrays. After the last call row block `l` of each array holds what the
call of layer `l` wrote: its own blocks cover that row block, and no later call touches it. -/

@[expose] public section

set_option maxRecDepth 16384

noncomputable section

namespace Cert.OptOutIdeal.Hand

open Cert.OptOutIdeal Cert.OptOutIdeal.Gen
open Idealize.ShloMosaic Idealize.ShloMosaic.TcCoe Idealize.SL Idealize.SL.BI Idealize.SL.Sem Idealize.ShloMosaic.StableHlo
open Idealize.ShloMosaic.Pipeline (Dat)
open Cert.OptOutRefIdeal.Read

variable (m : (ℓ : Loc nD τ sig) → Buf (Elt Ideal) ℓ) (ρ : Dev nD → PrngReg)

/-- Two indices of three axes are equal when their coordinates are. -/
theorem ext3 {n : Fin 3 → ℕ} {x y : ∀ k, Fin (n k)} (h0 : (x 0).val = (y 0).val) (h1 : (x 1).val = (y 1).val) (h2 : (x 2).val = (y 2).val) : x = y :=
  funext (Fin.forall_fin_succ.mpr ⟨Fin.ext h0, Fin.forall_fin_two.mpr ⟨Fin.ext h1, Fin.ext h2⟩⟩)

/-- An index of an array, and one of a block. -/
abbrev J (l : Fin 2) (r : Fin 128) (b : Fin 1024) : S2x128x1024.Idx := ix3 (n0 := 2) (n1 := 128) (n2 := 1024) l r b
abbrev B (a : Fin 128) (b : Fin 1024) : S1x128x1024.Idx := ix3 (n0 := 1) (n1 := 128) (n2 := 1024) 0 a b

theorem eq_B (y : S1x128x1024.Idx) : ∃ (a : Fin 128) (b : Fin 1024), y = B a b :=
  ⟨y 1, y 2, (eq_ix3 y).trans (congrArg (fun l : Fin 1 => ix3 (n0 := 1) (n1 := 128) (n2 := 1024) l (y 1) (y 2)) (Subsingleton.elim _ _))⟩

/-- The gradient, as the reference has it. -/
abbrev G4 (c : Dev nD) : Vec Ideal S2x128x1024 .f32 := Cert.OptOutRefIdeal.Read.val_main_v4 (F := Ideal) (m ((c : Thread nD τ).loc main_arg0)) (m ((c : Thread nD τ).loc main_arg1))

/-- The update, as the reference has it. -/
abbrev G5 (c : Dev nD) : Vec Ideal S2x128x1024 .f32 := Cert.OptOutRefIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The first moment, as the reference has it. -/
abbrev G6 (c : Dev nD) : Vec Ideal S2x128x1024 .f32 := Cert.OptOutRefIdeal.Read.val_main_v9 (F := Ideal) (m ((c : Thread nD τ).loc main_arg0)) (m ((c : Thread nD τ).loc main_arg1)) (m ((c : Thread nD τ).loc main_arg3))

/-- The second moment, as the reference has it. -/
abbrev G7 (c : Dev nD) : Vec Ideal S2x128x1024 .f32 := Cert.OptOutRefIdeal.Read.val_main_v15 (F := Ideal) (m ((c : Thread nD τ).loc main_arg0)) (m ((c : Thread nD τ).loc main_arg1)) (m ((c : Thread nD τ).loc main_arg4))

/-! ## The call of layer 0 -/

/-- The windows' block indices at point `t`. -/
theorem idx0 : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- Row `a` of the row block of point `t`. -/
def row0 (t : Fin cfg0.N) (a : Fin 128) : Fin 128 := ⟨t.val * 128 + a.val, by have h1 : t.val < 1 := t.isLt; omega⟩

theorem iblk0_0 (c : Dev nD) (t : Fin cfg0.N) (d : Fin 8) (a : Fin 128) (b : Fin 1024) :
    (iblk0 (V1 m ρ) c 0 t (ix3 (n0 := 8) (n1 := 128) (n2 := 1024) d a b) : EReal) = m ((c : Thread nD τ).loc main_arg0) (ix3 (n0 := 8) (n1 := 128) (n2 := 1024) d (row0 t a) b) := by
  have h := W0_args m ρ c main_arg0 (by decide)
  blk_simp [iblk0, idx0 t]
  simp only [V1, W1, hostOps0, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg0)) (ext3 ?_ ?_ ?_)
  · blk_ext [idx0 t]
  · unfold row0; blk_ext [idx0 t]
  · blk_ext [idx0 t]

theorem iblk0_1 (c : Dev nD) (t : Fin cfg0.N) (a : Fin 128) (b : Fin 1024) :
    (iblk0 (V1 m ρ) c 1 t (ix3 (n0 := 1) (n1 := 128) (n2 := 1024) 0 a b) : EReal) = m ((c : Thread nD τ).loc main_arg2) (ix3 (n0 := 2) (n1 := 128) (n2 := 1024) 0 (row0 t a) b) := by
  refine (congrFun (congrArg _ (W1_args m ρ c main_arg2 (by decide))) _).trans ?_
  refine congrArg (m ((c : Thread nD τ).loc main_arg2)) (ext3 ?_ ?_ ?_)
  · first | rfl | exact congrArg (fun n => n * 1 + 0) (congrFun (idx0 t).2.1 0)
  · unfold row0; blk_ext [idx0 t]
  · blk_ext [idx0 t]

theorem iblk0_2 (c : Dev nD) (t : Fin cfg0.N) (a : Fin 128) (b : Fin 1024) :
    (iblk0 (V1 m ρ) c 2 t (ix3 (n0 := 1) (n1 := 128) (n2 := 1024) 0 a b) : EReal) = m ((c : Thread nD τ).loc main_arg3) (ix3 (n0 := 2) (n1 := 128) (n2 := 1024) 0 (row0 t a) b) := by
  refine (congrFun (congrArg _ (W1_args m ρ c main_arg3 (by decide))) _).trans ?_
  refine congrArg (m ((c : Thread nD τ).loc main_arg3)) (ext3 ?_ ?_ ?_)
  · first | rfl | exact congrArg (fun n => n * 1 + 0) (congrFun (idx0 t).2.2.1 0)
  · unfold row0; blk_ext [idx0 t]
  · blk_ext [idx0 t]

theorem iblk0_3 (c : Dev nD) (t : Fin cfg0.N) (a : Fin 128) (b : Fin 1024) :
    (iblk0 (V1 m ρ) c 3 t (ix3 (n0 := 1) (n1 := 128) (n2 := 1024) 0 a b) : EReal) = m ((c : Thread nD τ).loc main_arg4) (ix3 (n0 := 2) (n1 := 128) (n2 := 1024) 0 (row0 t a) b) := by
  refine (congrFun (congrArg _ (W1_args m ρ c main_arg4 (by decide))) _).trans ?_
  refine congrArg (m ((c : Thread nD τ).loc main_arg4)) (ext3 ?_ ?_ ?_)
  · first | rfl | exact congrArg (fun n => n * 1 + 0) (congrFun (idx0 t).2.2.2.1 0)
  · unfold row0; blk_ext [idx0 t]
  · blk_ext [idx0 t]

theorem emb0 (t : Fin cfg0.N) (a : Fin 128) (b : Fin 1024) : ((View.whole main_v1_0).slice (win0_4.rect t)).emb (B a b) = J 0 (row0 t a) b := by
  unfold B J
  refine ext3 ?_ ?_ ?_
  · first | rfl | exact congrArg (fun n => n * 1 + 0) (congrFun (idx0 t).2.2.2.2.1 0)
  · unfold row0; blk_ext [idx0 t]
  · blk_ext [idx0 t]

theorem split0 (r : Fin 128) : ∃ (t : Fin cfg0.N) (a : Fin 128), r = row0 t a :=
  ⟨⟨r.val / 128, by show r.val / 128 < 1; omega⟩, ⟨r.val % 128, by omega⟩, Fin.ext (by show r.val = r.val / 128 * 128 + r.val % 128; omega)⟩

theorem out0_4 (c : Dev nD) (t : Fin cfg0.N) (a : Fin 128) (b : Fin 1024) : (outsAt0 (V1 m ρ) c t).1 (B a b) = G4 m c (J 0 (row0 t a) b) := by
  unfold outsAt0 G4 B J
  frame_out
  pointwise [k0_pay1, k0_pay2, k0_pay3, k0_pay4, k0_pay5, k0_pay6, k0_pay7]
  simp only [iblk0_0, iblk0_1, iblk0_2, iblk0_3]
  rw [← val_main_v4_eq]
  pointwise
  simp only [Fin.sum_univ_eight]
  all_goals rfl

theorem new0_4 (c : Dev nD) (r : Fin 128) (b : Fin 1024) : (dat0 (V1 m ρ) c).arrAt 4 cfg0.N (J 0 r b) = G4 m c (J 0 r b) := by
  obtain ⟨t, a, rfl⟩ := split0 r
  refine (dat0 (V1 m ρ) c).arrAt_apply_of_mem 4 (G4 m c) (fun t hf => ?_) cfg0.N t _ t.isLt (flush0_4 t) (Finset.mem_map.mpr ⟨B a b, Finset.mem_univ _, emb0 t a b⟩)
  funext y
  obtain ⟨a, b, rfl⟩ := eq_B y
  blk_simp
  rw [after0_4]
  exact (out0_4 m ρ c t a b).trans (congrArg (G4 m c) (emb0 t a b)).symm

theorem out0_5 (c : Dev nD) (t : Fin cfg0.N) (a : Fin 128) (b : Fin 1024) : (outsAt0 (V1 m ρ) c t).2.1 (B a b) = G5 m c (J 0 (row0 t a) b) := by
  unfold outsAt0 G5 B J
  frame_out
  pointwise [k0_pay1, k0_pay2, k0_pay3, k0_pay4, k0_pay5, k0_pay6, k0_pay7]
  simp only [iblk0_0, iblk0_1, iblk0_2, iblk0_3]
  rw [← val_main_v28_eq]
  pointwise
  simp only [Fin.sum_univ_eight]
  all_goals rfl

theorem new0_5 (c : Dev nD) (r : Fin 128) (b : Fin 1024) : (dat0 (V1 m ρ) c).arrAt 5 cfg0.N (J 0 r b) = G5 m c (J 0 r b) := by
  obtain ⟨t, a, rfl⟩ := split0 r
  refine (dat0 (V1 m ρ) c).arrAt_apply_of_mem 5 (G5 m c) (fun t hf => ?_) cfg0.N t _ t.isLt (flush0_5 t) (Finset.mem_map.mpr ⟨B a b, Finset.mem_univ _, emb0 t a b⟩)
  funext y
  obtain ⟨a, b, rfl⟩ := eq_B y
  blk_simp
  rw [after0_5]
  exact (out0_5 m ρ c t a b).trans (congrArg (G5 m c) (emb0 t a b)).symm

theorem out0_6 (c : Dev nD) (t : Fin cfg0.N) (a : Fin 128) (b : Fin 1024) : (outsAt0 (V1 m ρ) c t).2.2.1 (B a b) = G6 m c (J 0 (row0 t a) b) := by
  unfold outsAt0 G6 B J
  frame_out
  pointwise [k0_pay1, k0_pay2, k0_pay3, k0_pay4, k0_pay5, k0_pay6, k0_pay7]
  simp only [iblk0_0, iblk0_1, iblk0_2, iblk0_3]
  rw [← val_main_v9_eq]
  pointwise
  simp only [Fin.sum_univ_eight]
  all_goals rfl

theorem new0_6 (c : Dev nD) (r : Fin 128) (b : Fin 1024) : (dat0 (V1 m ρ) c).arrAt 6 cfg0.N (J 0 r b) = G6 m c (J 0 r b) := by
  obtain ⟨t, a, rfl⟩ := split0 r
  refine (dat0 (V1 m ρ) c).arrAt_apply_of_mem 6 (G6 m c) (fun t hf => ?_) cfg0.N t _ t.isLt (flush0_6 t) (Finset.mem_map.mpr ⟨B a b, Finset.mem_univ _, emb0 t a b⟩)
  funext y
  obtain ⟨a, b, rfl⟩ := eq_B y
  blk_simp
  rw [after0_6]
  exact (out0_6 m ρ c t a b).trans (congrArg (G6 m c) (emb0 t a b)).symm

theorem out0_7 (c : Dev nD) (t : Fin cfg0.N) (a : Fin 128) (b : Fin 1024) : (outsAt0 (V1 m ρ) c t).2.2.2 (B a b) = G7 m c (J 0 (row0 t a) b) := by
  unfold outsAt0 G7 B J
  frame_out
  pointwise [k0_pay1, k0_pay2, k0_pay3, k0_pay4, k0_pay5, k0_pay6, k0_pay7]
  simp only [iblk0_0, iblk0_1, iblk0_2, iblk0_3]
  rw [← val_main_v15_eq]
  pointwise
  simp only [Fin.sum_univ_eight]
  all_goals rfl

theorem new0_7 (c : Dev nD) (r : Fin 128) (b : Fin 1024) : (dat0 (V1 m ρ) c).arrAt 7 cfg0.N (J 0 r b) = G7 m c (J 0 r b) := by
  obtain ⟨t, a, rfl⟩ := split0 r
  refine (dat0 (V1 m ρ) c).arrAt_apply_of_mem 7 (G7 m c) (fun t hf => ?_) cfg0.N t _ t.isLt (flush0_7 t) (Finset.mem_map.mpr ⟨B a b, Finset.mem_univ _, emb0 t a b⟩)
  funext y
  obtain ⟨a, b, rfl⟩ := eq_B y
  blk_simp
  rw [after0_7]
  exact (out0_7 m ρ c t a b).trans (congrArg (G7 m c) (emb0 t a b)).symm

/-! ## The call of layer 1 -/

/-- The windows' block indices at point `t`. -/
theorem idx1 : ∀ t : Fin cfg1.N, win1_0.index t = ![0, t.val, 0] ∧ win1_1.index t = ![1, t.val, 0] ∧ win1_2.index t = ![1, t.val, 0] ∧ win1_3.index t = ![1, t.val, 0] ∧ win1_4.index t = ![1, t.val, 0] ∧ win1_5.index t = ![1, t.val, 0] ∧ win1_6.index t = ![1, t.val, 0] ∧ win1_7.index t = ![1, t.val, 0] :=
  (by decide +kernel : ∀ t : Fin grid1.N, _)

/-- Row `a` of the row block of point `t`. -/
def row1 (t : Fin cfg1.N) (a : Fin 128) : Fin 128 := ⟨t.val * 128 + a.val, by have h1 : t.val < 1 := t.isLt; omega⟩

theorem iblk1_0 (c : Dev nD) (t : Fin cfg1.N) (d : Fin 8) (a : Fin 128) (b : Fin 1024) :
    (iblk1 (V3 m ρ) c 0 t (ix3 (n0 := 8) (n1 := 128) (n2 := 1024) d a b) : EReal) = m ((c : Thread nD τ).loc main_arg1) (ix3 (n0 := 8) (n1 := 128) (n2 := 1024) d (row1 t a) b) := by
  have h := W2_args m ρ c main_arg1 (by decide)
  blk_simp [iblk1, idx1 t]
  simp only [V3, W3, hostOps1, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg1)) (ext3 ?_ ?_ ?_)
  · blk_ext [idx1 t]
  · unfold row1; blk_ext [idx1 t]
  · blk_ext [idx1 t]

theorem iblk1_1 (c : Dev nD) (t : Fin cfg1.N) (a : Fin 128) (b : Fin 1024) :
    (iblk1 (V3 m ρ) c 1 t (ix3 (n0 := 1) (n1 := 128) (n2 := 1024) 0 a b) : EReal) = m ((c : Thread nD τ).loc main_arg2) (ix3 (n0 := 2) (n1 := 128) (n2 := 1024) 1 (row1 t a) b) := by
  refine (congrFun (congrArg _ (W3_args m ρ c main_arg2 (by decide))) _).trans ?_
  refine congrArg (m ((c : Thread nD τ).loc main_arg2)) (ext3 ?_ ?_ ?_)
  · first | rfl | exact congrArg (fun n => n * 1 + 0) (congrFun (idx1 t).2.1 0)
  · unfold row1; blk_ext [idx1 t]
  · blk_ext [idx1 t]

theorem iblk1_2 (c : Dev nD) (t : Fin cfg1.N) (a : Fin 128) (b : Fin 1024) :
    (iblk1 (V3 m ρ) c 2 t (ix3 (n0 := 1) (n1 := 128) (n2 := 1024) 0 a b) : EReal) = m ((c : Thread nD τ).loc main_arg3) (ix3 (n0 := 2) (n1 := 128) (n2 := 1024) 1 (row1 t a) b) := by
  refine (congrFun (congrArg _ (W3_args m ρ c main_arg3 (by decide))) _).trans ?_
  refine congrArg (m ((c : Thread nD τ).loc main_arg3)) (ext3 ?_ ?_ ?_)
  · first | rfl | exact congrArg (fun n => n * 1 + 0) (congrFun (idx1 t).2.2.1 0)
  · unfold row1; blk_ext [idx1 t]
  · blk_ext [idx1 t]

theorem iblk1_3 (c : Dev nD) (t : Fin cfg1.N) (a : Fin 128) (b : Fin 1024) :
    (iblk1 (V3 m ρ) c 3 t (ix3 (n0 := 1) (n1 := 128) (n2 := 1024) 0 a b) : EReal) = m ((c : Thread nD τ).loc main_arg4) (ix3 (n0 := 2) (n1 := 128) (n2 := 1024) 1 (row1 t a) b) := by
  refine (congrFun (congrArg _ (W3_args m ρ c main_arg4 (by decide))) _).trans ?_
  refine congrArg (m ((c : Thread nD τ).loc main_arg4)) (ext3 ?_ ?_ ?_)
  · first | rfl | exact congrArg (fun n => n * 1 + 0) (congrFun (idx1 t).2.2.2.1 0)
  · unfold row1; blk_ext [idx1 t]
  · blk_ext [idx1 t]

theorem emb1 (t : Fin cfg1.N) (a : Fin 128) (b : Fin 1024) : ((View.whole main_v3_0).slice (win1_4.rect t)).emb (B a b) = J 1 (row1 t a) b := by
  unfold B J
  refine ext3 ?_ ?_ ?_
  · first | rfl | exact congrArg (fun n => n * 1 + 0) (congrFun (idx1 t).2.2.2.2.1 0)
  · unfold row1; blk_ext [idx1 t]
  · blk_ext [idx1 t]

theorem split1 (r : Fin 128) : ∃ (t : Fin cfg1.N) (a : Fin 128), r = row1 t a :=
  ⟨⟨r.val / 128, by show r.val / 128 < 1; omega⟩, ⟨r.val % 128, by omega⟩, Fin.ext (by show r.val = r.val / 128 * 128 + r.val % 128; omega)⟩

theorem out1_4 (c : Dev nD) (t : Fin cfg1.N) (a : Fin 128) (b : Fin 1024) : (outsAt1 (V3 m ρ) c t).1 (B a b) = G4 m c (J 1 (row1 t a) b) := by
  unfold outsAt1 G4 B J
  frame_out
  pointwise [k1_pay1, k1_pay2, k1_pay3, k1_pay4, k1_pay5, k1_pay6, k1_pay7]
  simp only [iblk1_0, iblk1_1, iblk1_2, iblk1_3]
  rw [← val_main_v4_eq]
  pointwise
  simp only [Fin.sum_univ_eight]
  all_goals rfl

theorem new1_4 (c : Dev nD) (r : Fin 128) (b : Fin 1024) : (dat1 (V3 m ρ) c).arrAt 4 cfg1.N (J 1 r b) = G4 m c (J 1 r b) := by
  obtain ⟨t, a, rfl⟩ := split1 r
  refine (dat1 (V3 m ρ) c).arrAt_apply_of_mem 4 (G4 m c) (fun t hf => ?_) cfg1.N t _ t.isLt (flush1_4 t) (Finset.mem_map.mpr ⟨B a b, Finset.mem_univ _, emb1 t a b⟩)
  funext y
  obtain ⟨a, b, rfl⟩ := eq_B y
  blk_simp
  rw [after1_4]
  exact (out1_4 m ρ c t a b).trans (congrArg (G4 m c) (emb1 t a b)).symm

theorem old1_4 (c : Dev nD) (l : Fin 2) (hl : l ≠ 1) (r : Fin 128) (b : Fin 1024) :
    (dat1 (V3 m ρ) c).arrAt 4 cfg1.N (J l r b) = (dat0 (V1 m ρ) c).arrAt 4 cfg0.N (J l r b) := by
  refine ((dat1 (V3 m ρ) c).arrAt_apply_of_forall_not_mem 4 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 4)) _
    show W3 m ρ c (Proc.devRef .tc main_v3_0) = W2 m ρ c (Proc.devRef .tc main_v1_0)
    simp only [W3, hostOps1, List.flatten_cons, List.flatten_nil, List.append_nil, List.cons_append, List.nil_append,
      TRef.binary, TRef.nullary, TRef.unary, TRef.toBuf, TRef.ofBuf, cast_eq]
    after_results
    rfl

theorem out1_5 (c : Dev nD) (t : Fin cfg1.N) (a : Fin 128) (b : Fin 1024) : (outsAt1 (V3 m ρ) c t).2.1 (B a b) = G5 m c (J 1 (row1 t a) b) := by
  unfold outsAt1 G5 B J
  frame_out
  pointwise [k1_pay1, k1_pay2, k1_pay3, k1_pay4, k1_pay5, k1_pay6, k1_pay7]
  simp only [iblk1_0, iblk1_1, iblk1_2, iblk1_3]
  rw [← val_main_v28_eq]
  pointwise
  simp only [Fin.sum_univ_eight]
  all_goals rfl

theorem new1_5 (c : Dev nD) (r : Fin 128) (b : Fin 1024) : (dat1 (V3 m ρ) c).arrAt 5 cfg1.N (J 1 r b) = G5 m c (J 1 r b) := by
  obtain ⟨t, a, rfl⟩ := split1 r
  refine (dat1 (V3 m ρ) c).arrAt_apply_of_mem 5 (G5 m c) (fun t hf => ?_) cfg1.N t _ t.isLt (flush1_5 t) (Finset.mem_map.mpr ⟨B a b, Finset.mem_univ _, emb1 t a b⟩)
  funext y
  obtain ⟨a, b, rfl⟩ := eq_B y
  blk_simp
  rw [after1_5]
  exact (out1_5 m ρ c t a b).trans (congrArg (G5 m c) (emb1 t a b)).symm

theorem old1_5 (c : Dev nD) (l : Fin 2) (hl : l ≠ 1) (r : Fin 128) (b : Fin 1024) :
    (dat1 (V3 m ρ) c).arrAt 5 cfg1.N (J l r b) = (dat0 (V1 m ρ) c).arrAt 5 cfg0.N (J l r b) := by
  refine ((dat1 (V3 m ρ) c).arrAt_apply_of_forall_not_mem 5 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 5)) _
    show W3 m ρ c (Proc.devRef .tc main_v3_1) = W2 m ρ c (Proc.devRef .tc main_v1_1)
    simp only [W3, hostOps1, List.flatten_cons, List.flatten_nil, List.append_nil, List.cons_append, List.nil_append,
      TRef.binary, TRef.nullary, TRef.unary, TRef.toBuf, TRef.ofBuf, cast_eq]
    after_results
    rfl

theorem out1_6 (c : Dev nD) (t : Fin cfg1.N) (a : Fin 128) (b : Fin 1024) : (outsAt1 (V3 m ρ) c t).2.2.1 (B a b) = G6 m c (J 1 (row1 t a) b) := by
  unfold outsAt1 G6 B J
  frame_out
  pointwise [k1_pay1, k1_pay2, k1_pay3, k1_pay4, k1_pay5, k1_pay6, k1_pay7]
  simp only [iblk1_0, iblk1_1, iblk1_2, iblk1_3]
  rw [← val_main_v9_eq]
  pointwise
  simp only [Fin.sum_univ_eight]
  all_goals rfl

theorem new1_6 (c : Dev nD) (r : Fin 128) (b : Fin 1024) : (dat1 (V3 m ρ) c).arrAt 6 cfg1.N (J 1 r b) = G6 m c (J 1 r b) := by
  obtain ⟨t, a, rfl⟩ := split1 r
  refine (dat1 (V3 m ρ) c).arrAt_apply_of_mem 6 (G6 m c) (fun t hf => ?_) cfg1.N t _ t.isLt (flush1_6 t) (Finset.mem_map.mpr ⟨B a b, Finset.mem_univ _, emb1 t a b⟩)
  funext y
  obtain ⟨a, b, rfl⟩ := eq_B y
  blk_simp
  rw [after1_6]
  exact (out1_6 m ρ c t a b).trans (congrArg (G6 m c) (emb1 t a b)).symm

theorem old1_6 (c : Dev nD) (l : Fin 2) (hl : l ≠ 1) (r : Fin 128) (b : Fin 1024) :
    (dat1 (V3 m ρ) c).arrAt 6 cfg1.N (J l r b) = (dat0 (V1 m ρ) c).arrAt 6 cfg0.N (J l r b) := by
  refine ((dat1 (V3 m ρ) c).arrAt_apply_of_forall_not_mem 6 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 6)) _
    show W3 m ρ c (Proc.devRef .tc main_v3_2) = W2 m ρ c (Proc.devRef .tc main_v1_2)
    simp only [W3, hostOps1, List.flatten_cons, List.flatten_nil, List.append_nil, List.cons_append, List.nil_append,
      TRef.binary, TRef.nullary, TRef.unary, TRef.toBuf, TRef.ofBuf, cast_eq]
    after_results
    rfl

theorem out1_7 (c : Dev nD) (t : Fin cfg1.N) (a : Fin 128) (b : Fin 1024) : (outsAt1 (V3 m ρ) c t).2.2.2 (B a b) = G7 m c (J 1 (row1 t a) b) := by
  unfold outsAt1 G7 B J
  frame_out
  pointwise [k1_pay1, k1_pay2, k1_pay3, k1_pay4, k1_pay5, k1_pay6, k1_pay7]
  simp only [iblk1_0, iblk1_1, iblk1_2, iblk1_3]
  rw [← val_main_v15_eq]
  pointwise
  simp only [Fin.sum_univ_eight]
  all_goals rfl

theorem new1_7 (c : Dev nD) (r : Fin 128) (b : Fin 1024) : (dat1 (V3 m ρ) c).arrAt 7 cfg1.N (J 1 r b) = G7 m c (J 1 r b) := by
  obtain ⟨t, a, rfl⟩ := split1 r
  refine (dat1 (V3 m ρ) c).arrAt_apply_of_mem 7 (G7 m c) (fun t hf => ?_) cfg1.N t _ t.isLt (flush1_7 t) (Finset.mem_map.mpr ⟨B a b, Finset.mem_univ _, emb1 t a b⟩)
  funext y
  obtain ⟨a, b, rfl⟩ := eq_B y
  blk_simp
  rw [after1_7]
  exact (out1_7 m ρ c t a b).trans (congrArg (G7 m c) (emb1 t a b)).symm

theorem old1_7 (c : Dev nD) (l : Fin 2) (hl : l ≠ 1) (r : Fin 128) (b : Fin 1024) :
    (dat1 (V3 m ρ) c).arrAt 7 cfg1.N (J l r b) = (dat0 (V1 m ρ) c).arrAt 7 cfg0.N (J l r b) := by
  refine ((dat1 (V3 m ρ) c).arrAt_apply_of_forall_not_mem 7 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 7)) _
    show W3 m ρ c (Proc.devRef .tc main_v3_3) = W2 m ρ c (Proc.devRef .tc main_v1_3)
    simp only [W3, hostOps1, List.flatten_cons, List.flatten_nil, List.append_nil, List.cons_append, List.nil_append,
      TRef.binary, TRef.nullary, TRef.unary, TRef.toBuf, TRef.ofBuf, cast_eq]
    after_results
    rfl

/-! ## The four arrays after the last call -/

theorem final4 (c : Dev nD) : W4 m ρ c (Proc.devRef .tc main_v3_0) = G4 m c := by
  refine (W4_arr m ρ c 4).trans (funext fun i => ?_)
  obtain ⟨l, r, b, rfl⟩ : ∃ (l : Fin 2) (r : Fin 128) (b : Fin 1024), i = J l r b := ⟨i 0, i 1, i 2, eq_ix3 i⟩
  fin_cases l
  · exact (old1_4 m ρ c 0 (by decide) r b).trans (new0_4 m ρ c r b)
  · exact new1_4 m ρ c r b

theorem final5 (c : Dev nD) : W4 m ρ c (Proc.devRef .tc main_v3_1) = G5 m c := by
  refine (W4_arr m ρ c 5).trans (funext fun i => ?_)
  obtain ⟨l, r, b, rfl⟩ : ∃ (l : Fin 2) (r : Fin 128) (b : Fin 1024), i = J l r b := ⟨i 0, i 1, i 2, eq_ix3 i⟩
  fin_cases l
  · exact (old1_5 m ρ c 0 (by decide) r b).trans (new0_5 m ρ c r b)
  · exact new1_5 m ρ c r b

theorem final6 (c : Dev nD) : W4 m ρ c (Proc.devRef .tc main_v3_2) = G6 m c := by
  refine (W4_arr m ρ c 6).trans (funext fun i => ?_)
  obtain ⟨l, r, b, rfl⟩ : ∃ (l : Fin 2) (r : Fin 128) (b : Fin 1024), i = J l r b := ⟨i 0, i 1, i 2, eq_ix3 i⟩
  fin_cases l
  · exact (old1_6 m ρ c 0 (by decide) r b).trans (new0_6 m ρ c r b)
  · exact new1_6 m ρ c r b

theorem final7 (c : Dev nD) : W4 m ρ c (Proc.devRef .tc main_v3_3) = G7 m c := by
  refine (W4_arr m ρ c 7).trans (funext fun i => ?_)
  obtain ⟨l, r, b, rfl⟩ : ∃ (l : Fin 2) (r : Fin 128) (b : Fin 1024), i = J l r b := ⟨i 0, i 1, i 2, eq_ix3 i⟩
  fin_cases l
  · exact (old1_7 m ρ c 0 (by decide) r b).trans (new0_7 m ρ c r b)
  · exact new1_7 m ρ c r b

section Run

open Idealize.SL.RA Idealize.SL.BI.BIBase Idealize.SL.BI.Laws Idealize.SL.ProofMode Idealize.ShloMosaic.Rounds Idealize.ShloMosaic.Tactic
open scoped Idealize.SL.BI
open Idealize.ShloMosaic.Pipeline (Cfg Window BodyObligation cellOf)

set_option backward.isDefEq.respectTransparency.types false in
/-- The run, its results named. -/
theorem run_values : θ_run defs (onTc (τ := τ) (main (F := Ideal))) ⟨m, fun _ => 0, ρ⟩ (fun r => ∀ c : Dev nD,
      r.2.mem ((c.tc : Thread nD τ).loc main_v3_0) = Cert.OptOutRefIdeal.Read.val_main_v4 (F := Ideal) (m ((c : Thread nD τ).loc main_arg0)) (m ((c : Thread nD τ).loc main_arg1))
      ∧ r.2.mem ((c.tc : Thread nD τ).loc main_v3_1) = Cert.OptOutRefIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v3_2) = Cert.OptOutRefIdeal.Read.val_main_v9 (F := Ideal) (m ((c : Thread nD τ).loc main_arg0)) (m ((c : Thread nD τ).loc main_arg1)) (m ((c : Thread nD τ).loc main_arg3))
      ∧ r.2.mem ((c.tc : Thread nD τ).loc main_v3_3) = Cert.OptOutRefIdeal.Read.val_main_v15 (F := Ideal) (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v3_0 (by decide))).trans (final4 m ρ c),
       (h c _ (mem_uc main_v3_1 (by decide))).trans (final5 m ρ c),
       (h c _ (mem_uc main_v3_2 (by decide))).trans (final6 m ρ c),
       (h c _ (mem_uc main_v3_3 (by decide))).trans (final7 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Run

end Cert.OptOutIdeal.Hand

end
-- ==== Proof.OptSmall.lean ====
module

public import proofs.«01_k».proof.Proof.Gen.OptSmall.Frame
public import proofs.«01_k».proof.Proof.Gen.OptSmallIdeal.Value
public import proofs.«01_k».proof.Proof.Gen.OptSmallRefIdeal.Run
public import proofs.«01_k».proof.Proof.Gen.OptSmallRefIdeal.Read
public import Idealize.ShloMosaic.Lib.Pipeline.ValueKit
public import Idealize.ShloMosaic.Lib.Pointwise
public import Idealize.ShloMosaic.Lib.Claim

/-! # One optimiser step of the small parameters, packed into one array

One call, at one grid point: the blocks are the whole arrays. -/

@[expose] public section

set_option maxRecDepth 16384

noncomputable section

namespace Cert.OptSmallIdeal.Hand

open Cert.OptSmallIdeal Cert.OptSmallIdeal.Gen
open Idealize.ShloMosaic Idealize.ShloMosaic.TcCoe Idealize.SL.Sem Idealize.ShloMosaic.StableHlo
open Idealize.ShloMosaic.Pipeline (Dat)
open Cert.OptSmallRefIdeal.Read

variable (m : (ℓ : Loc nD τ sig) → Buf (Elt Ideal) ℓ)

/-- The windows' block indices at point `t`. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The gradient, as the reference has it. -/
abbrev G4 (c : Dev nD) : Vec Ideal S1x216x1024 .f32 := Cert.OptSmallRefIdeal.Read.val_main_v1 (F := Ideal) (m ((c : Thread nD τ).loc main_arg0))

/-- The update, as the reference has it. -/
abbrev G5 (c : Dev nD) : Vec Ideal S1x216x1024 .f32 := Cert.OptSmallRefIdeal.Read.val_main_v25 (F := Ideal) (m ((c : Thread nD τ).loc main_arg0)) (m ((c : Thread nD τ).loc main_arg1)) (m ((c : Thread nD τ).loc main_arg2)) (m ((c : Thread nD τ).loc main_arg3))

/-- The first moment, as the reference has it. -/
abbrev G6 (c : Dev nD) : Vec Ideal S1x216x1024 .f32 := Cert.OptSmallRefIdeal.Read.val_main_v6 (F := Ideal) (m ((c : Thread nD τ).loc main_arg0)) (m ((c : Thread nD τ).loc main_arg2))

/-- The second moment, as the reference has it. -/
abbrev G7 (c : Dev nD) : Vec Ideal S1x216x1024 .f32 := Cert.OptSmallRefIdeal.Read.val_main_v12 (F := Ideal) (m ((c : Thread nD τ).loc main_arg0)) (m ((c : Thread nD τ).loc main_arg3))

/-- Two indices of three axes are equal when their coordinates are. -/
theorem ext3 {n : Fin 3 → ℕ} {x y : ∀ k, Fin (n k)} (h0 : (x 0).val = (y 0).val) (h1 : (x 1).val = (y 1).val) (h2 : (x 2).val = (y 2).val) : x = y :=
  funext (Fin.forall_fin_succ.mpr ⟨Fin.ext h0, Fin.forall_fin_two.mpr ⟨Fin.ext h1, Fin.ext h2⟩⟩)

theorem iblk_0 (c : Dev nD) (t : Fin cfg0.N) (z : S8x216x1024.Idx) : (iblk m c 0 t z : EReal) = m ((c : Thread nD τ).loc main_arg0) z := by
  have ht : t.val = 0 := by have h1 : t.val < 1 := t.isLt; omega
  refine (congrFun (congrArg _ (V_main_arg0 m c)) _).trans ?_
  refine congrArg (m ((c : Thread nD τ).loc main_arg0)) (ext3 ?_ ?_ ?_)
  · blk_ext [idx t]
  · blk_ext [idx t, ht]
  · blk_ext [idx t]

theorem iblk_1 (c : Dev nD) (t : Fin cfg0.N) (z : S1x216x1024.Idx) : (iblk m c 1 t z : EReal) = m ((c : Thread nD τ).loc main_arg1) z := by
  have ht : t.val = 0 := by have h1 : t.val < 1 := t.isLt; omega
  refine (congrFun (congrArg _ (V_main_arg1 m c)) _).trans ?_
  refine congrArg (m ((c : Thread nD τ).loc main_arg1)) (ext3 ?_ ?_ ?_)
  · blk_ext [idx t]
  · blk_ext [idx t, ht]
  · blk_ext [idx t]

theorem iblk_2 (c : Dev nD) (t : Fin cfg0.N) (z : S1x216x1024.Idx) : (iblk m c 2 t z : EReal) = m ((c : Thread nD τ).loc main_arg2) z := by
  have ht : t.val = 0 := by have h1 : t.val < 1 := t.isLt; omega
  refine (congrFun (congrArg _ (V_main_arg2 m c)) _).trans ?_
  refine congrArg (m ((c : Thread nD τ).loc main_arg2)) (ext3 ?_ ?_ ?_)
  · blk_ext [idx t]
  · blk_ext [idx t, ht]
  · blk_ext [idx t]

theorem iblk_3 (c : Dev nD) (t : Fin cfg0.N) (z : S1x216x1024.Idx) : (iblk m c 3 t z : EReal) = m ((c : Thread nD τ).loc main_arg3) z := by
  have ht : t.val = 0 := by have h1 : t.val < 1 := t.isLt; omega
  refine (congrFun (congrArg _ (V_main_arg3 m c)) _).trans ?_
  refine congrArg (m ((c : Thread nD τ).loc main_arg3)) (ext3 ?_ ?_ ?_)
  · blk_ext [idx t]
  · blk_ext [idx t, ht]
  · blk_ext [idx t]

theorem emb4 (t : Fin cfg0.N) (y : S1x216x1024.Idx) : ((View.whole main_v0_0).slice (win0_4.rect t)).emb y = y := by
  have ht : t.val = 0 := by have h1 : t.val < 1 := t.isLt; omega
  refine ext3 ?_ ?_ ?_
  · blk_ext [idx t]
  · blk_ext [idx t, ht]
  · blk_ext [idx t]

theorem emb5 (t : Fin cfg0.N) (y : S1x216x1024.Idx) : ((View.whole main_v0_1).slice (win0_5.rect t)).emb y = y := by
  have ht : t.val = 0 := by have h1 : t.val < 1 := t.isLt; omega
  refine ext3 ?_ ?_ ?_
  · blk_ext [idx t]
  · blk_ext [idx t, ht]
  · blk_ext [idx t]

theorem emb6 (t : Fin cfg0.N) (y : S1x216x1024.Idx) : ((View.whole main_v0_2).slice (win0_6.rect t)).emb y = y := by
  have ht : t.val = 0 := by have h1 : t.val < 1 := t.isLt; omega
  refine ext3 ?_ ?_ ?_
  · blk_ext [idx t]
  · blk_ext [idx t, ht]
  · blk_ext [idx t]

theorem emb7 (t : Fin cfg0.N) (y : S1x216x1024.Idx) : ((View.whole main_v0_3).slice (win0_7.rect t)).emb y = y := by
  have ht : t.val = 0 := by have h1 : t.val < 1 := t.isLt; omega
  refine ext3 ?_ ?_ ?_
  · blk_ext [idx t]
  · blk_ext [idx t, ht]
  · blk_ext [idx t]

theorem final4 (c : Dev nD) : (dats m 0 c).arrAt 4 cfg0.N = G4 m c := by
  refine (dats m 0 c).arrAt_eq_of_covers 4 _ (by decide +kernel) fun t hf y => ?_
  blk_simp
  rw [after0_4]
  refine Eq.trans ?_ (congrArg (G4 m c) (emb4 t y)).symm
  unfold outsAt0 G4
  frame_out
  rw [← val_main_v1_eq]
  pointwise [k0_pay1, k0_pay2, k0_pay3, k0_pay4, k0_pay5, k0_pay6, k0_pay7]
  simp only [iblk_0, iblk_1, iblk_2, iblk_3, Fin.sum_univ_eight]
  all_goals rfl

theorem final5 (c : Dev nD) : (dats m 0 c).arrAt 5 cfg0.N = G5 m c := by
  refine (dats m 0 c).arrAt_eq_of_covers 5 _ (by decide +kernel) fun t hf y => ?_
  blk_simp
  rw [after0_5]
  refine Eq.trans ?_ (congrArg (G5 m c) (emb5 t y)).symm
  unfold outsAt0 G5
  frame_out
  rw [← val_main_v25_eq]
  pointwise [k0_pay1, k0_pay2, k0_pay3, k0_pay4, k0_pay5, k0_pay6, k0_pay7]
  simp only [iblk_0, iblk_1, iblk_2, iblk_3, Fin.sum_univ_eight]
  all_goals rfl

theorem final6 (c : Dev nD) : (dats m 0 c).arrAt 6 cfg0.N = G6 m c := by
  refine (dats m 0 c).arrAt_eq_of_covers 6 _ (by decide +kernel) fun t hf y => ?_
  blk_simp
  rw [after0_6]
  refine Eq.trans ?_ (congrArg (G6 m c) (emb6 t y)).symm
  unfold outsAt0 G6
  frame_out
  rw [← val_main_v6_eq]
  pointwise [k0_pay1, k0_pay2, k0_pay3, k0_pay4, k0_pay5, k0_pay6, k0_pay7]
  simp only [iblk_0, iblk_1, iblk_2, iblk_3, Fin.sum_univ_eight]
  all_goals rfl

theorem final7 (c : Dev nD) : (dats m 0 c).arrAt 7 cfg0.N = G7 m c := by
  refine (dats m 0 c).arrAt_eq_of_covers 7 _ (by decide +kernel) fun t hf y => ?_
  blk_simp
  rw [after0_7]
  refine Eq.trans ?_ (congrArg (G7 m c) (emb7 t y)).symm
  unfold outsAt0 G7
  frame_out
  rw [← val_main_v12_eq]
  pointwise [k0_pay1, k0_pay2, k0_pay3, k0_pay4, k0_pay5, k0_pay6, k0_pay7]
  simp only [iblk_0, iblk_1, iblk_2, iblk_3, Fin.sum_univ_eight]
  all_goals rfl

end Cert.OptSmallIdeal.Hand

end
-- ==== Proof.NormLaw.lean ====
module

public import Idealize.ShloMosaic.PureOps.Ideal
public import Idealize.ShloMosaic.PureOps.Ideal.Laws
public import Idealize.ShloMosaic.Lib.Pipeline.ValueKit
public import Idealize.ShloMosaic.Lib.Pointwise
public import Idealize.ShloMosaic.Lib.WordCmp

@[expose] public section

/-! The backward pass of a root-mean-square norm along one row, in the two orders of operations in which it is written. -/

noncomputable section

namespace Cert.NormLaw

open Idealize.ShloMosaic

theorem k1024 : Ideal.ofBits .f32 0x44800000#32 = ((1024 : ℝ) : EReal) := by
  simp [Ideal.ofBits, Ideal.ieee, -EReal.coe_mul]; norm_num

theorem keps : ∃ x : ℝ, 0 < x ∧ Ideal.ofBits .f32 0x358637BD#32 = (x : EReal) := by
  refine ⟨_, ?_, by simp [Ideal.ofBits, Ideal.ieee, -EReal.coe_mul]; rfl⟩
  norm_num

theorem khalf : Ideal.ofBits .f32 0xBF000000#32 = ((-(1 / 2) : ℝ) : EReal) := by
  simp [Ideal.ofBits, Ideal.ieee, -EReal.coe_mul]; norm_num

theorem coe_mul_sum {n : ℕ} (r : ℝ) (hr : 0 ≤ r) (f : Fin n → EReal) : (r : EReal) * ∑ k, f k = ∑ k, (r : EReal) * f k := by
  classical
  induction (Finset.univ : Finset (Fin n)) using Finset.induction_on with
  | empty => simp
  | insert a s ha ih =>
    rw [Finset.sum_insert ha, Finset.sum_insert ha, EReal.left_distrib_of_nonneg_of_ne_top (by exact_mod_cast hr) (EReal.coe_ne_top r), ih]

theorem coe_sum {n : ℕ} (f : Fin n → ℝ) : ((∑ k, f k : ℝ) : EReal) = ∑ k, (f k : EReal) := by
  classical
  induction (Finset.univ : Finset (Fin n)) using Finset.induction_on with
  | empty => simp
  | insert a s ha ih =>
    rw [Finset.sum_insert ha, Finset.sum_insert ha, EReal.coe_add, ih]

theorem add_self (z : EReal) : z + z = ((2 : ℝ) : EReal) * z := by
  induction z with
  | bot => rw [EReal.coe_mul_bot_of_pos (by norm_num)]; rfl
  | top => rw [EReal.coe_mul_top_of_pos (by norm_num)]; rfl
  | coe x => norm_cast; ring

theorem coe_mul_sub (r : ℝ) (hr : 0 ≤ r) (x y : EReal) : (r : EReal) * (x - y) = (r : EReal) * x - (r : EReal) * y := by
  rw [sub_eq_add_neg, EReal.left_distrib_of_nonneg_of_ne_top (by exact_mod_cast hr) (EReal.coe_ne_top r), mul_neg, ← sub_eq_add_neg]

theorem mul_self_nonneg' (x : EReal) : 0 ≤ x * x := by
  induction x with
  | bot => simp
  | top => simp
  | coe x => exact_mod_cast mul_self_nonneg x

/-- A row with an infinite entry has an infinite sum of squares. -/
theorem sum_sq_top {n : ℕ} (h : Fin n → EReal) (b : Fin n) (hb : h b = ⊤ ∨ h b = ⊥) : ∑ k, h k * h k = ⊤ := by
  classical
  rw [← Finset.add_sum_erase _ _ (Finset.mem_univ b)]
  have : h b * h b = ⊤ := by rcases hb with hb | hb <;> rw [hb] <;> simp
  rw [this]
  refine EReal.top_add_of_ne_bot (ne_of_gt (lt_of_lt_of_le EReal.bot_lt_zero (Finset.sum_nonneg fun k _ => mul_self_nonneg' _)))

/-- One row of the norm's backward pass: `r·(y − u·mean(y·u))` with `u = h·r`, against the chain rule through the mean of squares and the
    reciprocal root. No entry need be finite: a row with an infinite entry has `r = 0`, and both sides are then the term `d`. -/
theorem row {n : ℕ} (h y : Fin n → EReal) (d : EReal) (a : Fin n) {K E C : EReal} (hK : K = ((1024 : ℝ) : EReal))
    (hE : ∃ x : ℝ, 0 < x ∧ E = (x : EReal)) (hC : C = ((-(1 / 2) : ℝ) : EReal)) {v r : EReal} (hv : v = Ideal.div (∑ k, h k * h k) K + E)
    (hr : r = Ideal.rsqrt v) :
    d + r * (y a - (h a * r) * Ideal.div (∑ b, y b * (h b * r)) K) =
      ((d + y a * r) + h a * Ideal.div ((∑ b, h b * y b) * (C * Ideal.div r v)) K) + Ideal.div ((∑ b, h b * y b) * (C * Ideal.div r v)) K * h a := by
  obtain ⟨x, hx, rfl⟩ := hE
  subst hK hC
  rw [Ideal.div_coe (by norm_num)] at hv
  rw [Ideal.div_coe (by norm_num), Ideal.div_coe (by norm_num)]
  by_cases H : ∃ b, h b = ⊤ ∨ h b = ⊥
  · obtain ⟨b, hb⟩ := H
    rw [sum_sq_top h b hb, EReal.top_mul_coe_of_pos (by norm_num), EReal.top_add_coe] at hv
    rw [hv] at hr
    have hr0 : r = 0 := hr
    have : Ideal.div 0 ⊤ = 0 := by simp [Ideal.div]
    rw [hr0, hv, this]
    simp
  · push Not at H
    lift h to Fin n → ℝ using H
    have hp : 0 < (∑ k, h k * h k) * (1 / 1024) + x := by
      have : 0 ≤ ∑ k, h k * h k := Finset.sum_nonneg fun k _ => mul_self_nonneg _
      positivity
    set p := (∑ k, h k * h k) * (1 / 1024) + x with hpdef
    have hvp : v = (p : EReal) := by
      rw [hv, hpdef]
      rw [EReal.coe_add, EReal.coe_mul, coe_sum]
      simp only [EReal.coe_mul]
    have hrp : r = (((Real.sqrt p)⁻¹ : ℝ) : EReal) := by
      rw [hr, hvp, Ideal.rsqrt_coe, if_neg (not_lt.mpr hp.le), if_neg hp.ne']
    set ρ := (Real.sqrt p)⁻¹ with hρ
    have hρ0 : 0 < ρ := by rw [hρ]; positivity
    have hρ2 : 1 / p = ρ * ρ := by
      rw [hρ, ← mul_inv, Real.mul_self_sqrt hp.le, one_div]
    rw [hvp, Ideal.div_coe hp.ne', hρ2, hrp]
    have hs : ∑ b, y b * ((h b : EReal) * (ρ : EReal)) = (ρ : EReal) * ∑ b, (h b : EReal) * y b := by
      rw [coe_mul_sum ρ hρ0.le]
      refine Finset.sum_congr rfl fun b _ => ?_
      rw [mul_comm, mul_comm _ (ρ : EReal), mul_assoc]
    rw [hs]
    set R := ∑ b, (h b : EReal) * y b
    rw [coe_mul_sub ρ hρ0.le, mul_comm _ (h a : EReal), add_assoc, add_self, sub_eq_add_neg, ← add_assoc, mul_comm (y a)]
    refine congrArg (fun z => d + (ρ : EReal) * y a + z) ?_
    have e1 : (ρ : EReal) * (((h a : EReal) * ρ) * ((ρ : EReal) * R * ((1 / 1024 : ℝ) : EReal))) = ((ρ * h a * ρ * ρ * (1 / 1024) : ℝ) : EReal) * R := by
      push_cast
      ac_rfl
    have e2 : ((2 : ℝ) : EReal) * ((h a : EReal) * (R * (((-(1 / 2) : ℝ) : EReal) * ((ρ : EReal) * ((ρ * ρ : ℝ) : EReal))) * ((1 / 1024 : ℝ) : EReal))) =
        ((2 * h a * (-(1 / 2)) * ρ * (ρ * ρ) * (1 / 1024) : ℝ) : EReal) * R := by
      push_cast
      ac_rfl
    rw [e1, e2, ← neg_mul, ← EReal.coe_neg]
    congr 2
    ring

/-- The row of the unpadded array. -/
def back (r : Fin 4160) : Fin 4112 := ⟨r.val - 48, by omega⟩

/-- A row's reciprocal root of the mean of squares. -/
def rr (h : Fin 1024 → EReal) : EReal := Ideal.rsqrt (Ideal.div (∑ k, h k * h k) (Ideal.ofBits FTy.f32 0x44800000#32) + Ideal.ofBits FTy.f32 0x358637BD#32)

/-- One element of the result, from a row. -/
def dx (h y : Fin 1024 → EReal) (d : EReal) (a : Fin 1024) : EReal :=
  d + rr h * (y a - (h a * rr h) * Ideal.div (∑ b, y b * (h b * rr h)) (Ideal.ofBits FTy.f32 0x44800000#32))

/-- The rows kept: those past the padding. -/
theorem keep (i s k : ℕ) (h : i * 416 + s + k < 2 ^ (32 - 1)) :
    IntOp.cmpi .sge (IntOp.addi (Scalar.addi (Scalar.muli (BitVec.ofNat 32 i) 416#32) (BitVec.ofNat 32 s)) (BitVec.ofNat 32 k)) 48#32
      = if 48 ≤ i * 416 + s + k then 1#1 else 0#1 := by
  show IntOp.cmpi .sge (IntOp.addi (IntOp.addi (IntOp.muli (BitVec.ofNat 32 i) (BitVec.ofNat 32 416)) (BitVec.ofNat 32 s)) (BitVec.ofNat 32 k)) (BitVec.ofNat 32 48) = _
  rw [WordCmp.muli_ofNat, WordCmp.addi_ofNat, WordCmp.addi_ofNat, WordCmp.cmpi_sge_ofNat h (by norm_num), WordCmp.ofBool_decide_eq_ite]

/-- The reference's gradient through the mean of squares, from a row. -/
def dmr (h y : Fin 1024 → EReal) : EReal :=
  Ideal.div ((∑ b, h b * y b) * (Ideal.ofBits FTy.f32 0xBF000000#32 * Ideal.div (rr h) (Ideal.div (∑ k, h k * h k) (Ideal.ofBits FTy.f32 0x44800000#32) + Ideal.ofBits FTy.f32 0x358637BD#32))) (Ideal.ofBits FTy.f32 0x44800000#32)

/-- The two forms of a row's gradient, with the programs' own words for the constants, agree. -/
theorem row_words (h y : Fin 1024 → EReal) (d : EReal) (a : Fin 1024) :
    dx h y d a = ((d + y a * rr h) + h a * dmr h y) + dmr h y * h a :=
  row h y d a k1024 keps khalf rfl rfl

end Cert.NormLaw
end
-- ==== Proof.Loss.lean ====
module

public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Pointwise
public import Idealize.ShloMosaic.Lib.Claim
public import Idealize.ShloMosaic.Lib.KernelVsHost
public import proofs.«01_k».proof.Proof.NormLaw

/-! # The final norm, the loss and their gradients

Rows before the first token have error 0 in the kernel and none in the reference. -/

@[expose] public section

set_option maxRecDepth 16384

noncomputable section

namespace Cert.LossIdeal.Hand

open Cert.LossIdeal Cert.LossIdeal.Gen Cert.LossRefIdeal.Read
open Idealize.ShloMosaic Idealize.ShloMosaic.TcCoe Idealize.SL.Sem Idealize.ShloMosaic.StableHlo
open Idealize.ShloMosaic.Pipeline (Dat)
open Cert.NormLaw (back rr dx dmr row_words)

variable (m : (ℓ : Loc nD τ sig) → Buf (Elt Ideal) ℓ)

/-- The windows' block indices at point `t`. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The grid has one axis: the point is its coordinate. -/
theorem coord : ∀ t : Fin cfg0.N, (grid0.coords t 0).val = t.val :=
  (by decide +kernel : ∀ t : Fin grid0.N, _)

/-- A select on a bit decided by `p`. -/
theorem select_of_ite {α : Type} {p : Prop} [Decidable p] {c : BitVec 1}
    (h : c = if p then 1#1 else 0#1) (a b : α) : Scalar.select c a b = if p then a else b := by
  subst h
  split_ifs <;> rfl

/-- The rows kept: the tokens'. -/
theorem keep (i k : ℕ) (h : i * 1040 + k < 2 ^ (32 - 1)) :
    IntOp.cmpi .sge (IntOp.addi (Scalar.muli (BitVec.ofNat 32 i) 1040#32) (BitVec.ofNat 32 k)) 64#32 = if 64 ≤ i * 1040 + k then 1#1 else 0#1 := by
  show IntOp.cmpi .sge (IntOp.addi (IntOp.muli (BitVec.ofNat 32 i) (BitVec.ofNat 32 1040)) (BitVec.ofNat 32 k)) (BitVec.ofNat 32 64) = _
  rw [WordCmp.muli_ofNat, WordCmp.addi_ofNat, WordCmp.cmpi_sge_ofNat h (by norm_num), WordCmp.ofBool_decide_eq_ite]

/-- The arguments and the blocks, by elements. -/
def a0 (c : Dev nD) (i : Fin 4112) (b : Fin 1024) : EReal := m ((c : Thread nD τ).loc main_arg0) (ix2 i b)
def a1 (c : Dev nD) (b : Fin 1024) : EReal := m ((c : Thread nD τ).loc main_arg1) (ix1 b)
def a2 (c : Dev nD) (i : Fin 4096) (b : Fin 1024) : EReal := m ((c : Thread nD τ).loc main_arg2) (ix2 i b)
def hrow (c : Dev nD) (t : Fin cfg0.N) (r : Fin 1040) (b : Fin 1024) : EReal := iblk m c 0 t (ix2 r b)
def grow (c : Dev nD) (t : Fin cfg0.N) (b : Fin 1024) : EReal := iblk m c 1 t (ix2 0 b)
def trow (c : Dev nD) (t : Fin cfg0.N) (r : Fin 1040) (b : Fin 1024) : EReal := iblk m c 2 t (ix2 r b)

theorem V_h (c : Dev nD) : V m c main_v1 = ((concatenate S4160x1024 0
    [⟨S48x1024, broadcastInDim S48x1024 ![] bcast_S_S48x1024 (constant S_ .f32 0x00000000#32)⟩, ⟨S4112x1024, m ((c : Thread nD τ).loc main_arg0)⟩]
    concatenates_S48x1024_S4112x1024_S4160x1024_d0) : FVec Ideal S4160x1024 .f32) := by
  simp only [V, hostOps0, List.flatten_cons, List.flatten_nil, List.append_nil, List.cons_append, List.nil_append,
    TRef.binary, TRef.nullary, TRef.unary, TRef.toBuf, TRef.ofBuf, cast_eq]
  after_results

theorem V_g (c : Dev nD) : V m c main_v2 = (broadcastInDim S1x1024 ![1] bcast_S1024_S1x1024_1 (m ((c : Thread nD τ).loc main_arg1)) : FVec Ideal S1x1024 .f32) := by
  simp only [V, hostOps0, List.flatten_cons, List.flatten_nil, List.append_nil, List.cons_append, List.nil_append,
    TRef.binary, TRef.nullary, TRef.unary, TRef.toBuf, TRef.ofBuf, cast_eq]
  after_results

theorem V_t (c : Dev nD) : V m c main_v3 = (pad S4160x1024 ![64, 0] ![0, 0] ![0, 0] (m ((c : Thread nD τ).loc main_arg2) : FVec Ideal S4096x1024 .f32)
    (sitofp .f32 (constantI S_ 32 0#32)) pads_S4096x1024_S4160x1024_6400_000 h_S_ : FVec Ideal S4160x1024 .f32) := by
  simp only [V, hostOps0, hostOps0_1, List.flatten_cons, List.flatten_nil, List.append_nil, List.cons_append, List.nil_append,
    TRef.binary, TRef.nullary, TRef.unary, TRef.toBuf, TRef.ofBuf, cast_eq]
  after_results

/-- The token of a padded row, its row of the unpadded array, and the token of that. -/
def tk (l : Fin 4160) : Fin 4096 := ⟨l.val - 64, by omega⟩
def tok (l : Fin 4096) : Fin 4112 := ⟨16 + l.val, by omega⟩
def tk16 (i : Fin 4112) : Fin 4096 := ⟨i.val - 16, by omega⟩

/-- Row `r` of block `t`, in the padded array. -/
def at_ (t : Fin cfg0.N) (r : Fin 1040) : Fin 4160 := ⟨t.val * 1040 + r.val, by have : t.val < 4 := t.isLt; omega⟩

/-- A sum over the padded rows, and over the unpadded, of terms of the tokens alone. -/
theorem sum_padded (f : Fin 4096 → EReal) : ∑ l : Fin 4160, (if 64 ≤ l.val then f (tk l) else 0) = ∑ l, f l := by
  refine (Fin.sum_univ_add (a := 64) (b := 4096) (fun l : Fin 4160 => if 64 ≤ l.val then f (tk l) else 0)).trans ?_
  rw [Finset.sum_eq_zero fun i _ => if_neg (by have := i.isLt; show ¬ 64 ≤ i.val; omega), zero_add]
  refine Finset.sum_congr rfl fun i _ => ?_
  rw [if_pos (by show 64 ≤ 64 + i.val; omega)]
  exact congrArg f (Fin.ext (by show 64 + i.val - 64 = i.val; omega))

theorem sum_unpadded (f : Fin 4096 → EReal) : ∑ i : Fin 4112, (if 16 ≤ i.val then f (tk16 i) else 0) = ∑ l, f l := by
  refine (Fin.sum_univ_add (a := 16) (b := 4096) (fun i : Fin 4112 => if 16 ≤ i.val then f (tk16 i) else 0)).trans ?_
  rw [Finset.sum_eq_zero fun i _ => if_neg (by have := i.isLt; show ¬ 16 ≤ i.val; omega), zero_add]
  refine Finset.sum_congr rfl fun i _ => ?_
  rw [if_pos (by show 16 ≤ 16 + i.val; omega)]
  exact congrArg f (Fin.ext (by show 16 + i.val - 16 = i.val; omega))

theorem tok_tk (l : Fin 4160) (h : 64 ≤ l.val) : tok (tk l) = back l := Fin.ext (by show 16 + (l.val - 64) = l.val - 48; omega)
theorem tok_tk16 (i : Fin 4112) (h : 16 ≤ i.val) : tok (tk16 i) = i := Fin.ext (by show 16 + (i.val - 16) = i.val; omega)

/-- A token's error, its part of the loss, and of the gain's gradient. -/
def E (c : Dev nD) (l : Fin 4096) (b : Fin 1024) : EReal := a0 m c (tok l) b * rr (a0 m c (tok l)) * a1 m c b - a2 m c l b
def L (c : Dev nD) (l : Fin 4096) : EReal := Ideal.div (∑ b, E m c l b * E m c l b) (Ideal.ofBits FTy.f32 0x44800000#32)
def D (c : Dev nD) (l : Fin 4096) (b : Fin 1024) : EReal := E m c l b * Ideal.ofBits FTy.f32 0x3A800000#32
def Y (c : Dev nD) (a : Fin 1024) (l : Fin 4096) : EReal := D m c l a * (a0 m c (tok l) a * rr (a0 m c (tok l)))

theorem hrow_eq (c : Dev nD) (t : Fin cfg0.N) (r : Fin 1040) (h : 64 ≤ t.val * 1040 + r.val) : hrow m c t r = a0 m c (tok (tk (at_ t r))) := by
  funext b
  have hr : hrow m c t r b = V m c main_v1 (ix2 (at_ t r) b) := by
    unfold at_ hrow
    blk_point [iblk, idx t]
  rw [hr, tok_tk _ (by exact h), V_h]
  unfold a0
  pointwise
  rw [dif_neg (by unfold at_; simp only []; omega)]
  rfl

theorem grow_eq (c : Dev nD) (t : Fin cfg0.N) : grow m c t = a1 m c := by
  funext b
  unfold grow a1
  blk_simp [iblk, idx t]
  rw [V_g]
  pointwise
  blk_point [iblk, idx t]

theorem trow_eq (c : Dev nD) (t : Fin cfg0.N) (r : Fin 1040) (h : 64 ≤ t.val * 1040 + r.val) : trow m c t r = a2 m c (tk (at_ t r)) := by
  funext b
  have hr : trow m c t r b = V m c main_v3 (ix2 (at_ t r) b) := by
    unfold at_ trow
    blk_point [iblk, idx t]
  rw [hr, V_t]
  unfold a2
  refine pad_apply_of_inside _ _ _ _ _ _ _ _ (ix2 (tk (at_ t r)) b) fun a => ?_
  match a with
  | ⟨0, _⟩ => show t.val * 1040 + r.val = 64 + (t.val * 1040 + r.val - 64) * 1; omega
  | ⟨1, _⟩ => show b.val = 0 + b.val * 1; omega

/-- A block's error. -/
def e (c : Dev nD) (t : Fin cfg0.N) (r : Fin 1040) (b : Fin 1024) : EReal := hrow m c t r b * rr (hrow m c t r) * grow m c t b - trow m c t r b

theorem e_eq (c : Dev nD) (t : Fin cfg0.N) (r : Fin 1040) (h : 64 ≤ t.val * 1040 + r.val) : e m c t r = E m c (tk (at_ t r)) := by
  funext b
  unfold e E
  rw [hrow_eq m c t r h, grow_eq, trow_eq m c t r h]

/-- The mask, at point `t`. -/
theorem mask (t : Fin cfg0.N) (r : Fin 1040) (a b : EReal) :
    Scalar.select (IntOp.cmpi .sge (IntOp.addi (Scalar.muli (BitVec.ofNat 32 t.val) 1040#32) (BitVec.ofNat 32 r.val)) 64#32) a b
      = if 64 ≤ t.val * 1040 + r.val then a else b :=
  select_of_ite (keep t.val r.val (by have : t.val < 4 := t.isLt; omega)) a b

/-- The block of the gradient, by elements: the kernel's words. -/
def blkDh (c : Dev nD) (t : Fin cfg0.N) (r : Fin 1040) (a : Fin 1024) : EReal :=
  rr (hrow m c t r) * ((if 64 ≤ t.val * 1040 + r.val then e m c t r a * Ideal.ofBits FTy.f32 0x3A800000#32 * grow m c t a else 0) -
    (hrow m c t r a * rr (hrow m c t r)) * Ideal.div (∑ b, if 64 ≤ t.val * 1040 + r.val then
      e m c t r b * Ideal.ofBits FTy.f32 0x3A800000#32 * grow m c t b * (hrow m c t r b * rr (hrow m c t r)) else 0) (Ideal.ofBits FTy.f32 0x44800000#32))

theorem point4 (c : Dev nD) (t : Fin cfg0.N) (y : S1040x1024.Idx) : (outsAt0 m c t.val t.isLt).2.1 y = blkDh m c t (y 0) (y 1) := by
  obtain ⟨r, a, rfl⟩ : ∃ (r : Fin 1040) (a : Fin 1024), y = ix2 r a := ⟨y 0, y 1, by funext a; match a with | ⟨0, _⟩ => rfl | ⟨1, _⟩ => rfl⟩
  by_cases h : t.val % 4 = 0
  on_goal 1 => rw [outsAt0_A m c t h]
  on_goal 2 => rw [outsAt0_B m c t h]
  all_goals
    frame_out
    open_payloads
    pointwise
    rw [coord t]
    simp only [mask]
    rfl

theorem point5 (c : Dev nD) (t : Fin cfg0.N) (y : S1040x1024.Idx) : (outsAt0 m c t.val t.isLt).2.2.1 y = blkDh m c t (y 0) (y 1) := by
  obtain ⟨r, a, rfl⟩ : ∃ (r : Fin 1040) (a : Fin 1024), y = ix2 r a := ⟨y 0, y 1, by funext a; match a with | ⟨0, _⟩ => rfl | ⟨1, _⟩ => rfl⟩
  by_cases h : t.val % 4 = 0
  on_goal 1 => rw [outsAt0_A m c t h]
  on_goal 2 => rw [outsAt0_B m c t h]
  all_goals
    frame_out
    open_payloads
    pointwise
    rw [coord t]
    simp only [mask]
    rfl

theorem k0 : Ideal.div 0 (Ideal.ofBits FTy.f32 0x44800000#32) = 0 := by
  rw [Cert.NormLaw.k1024, Ideal.div_coe (by norm_num), zero_mul]

theorem scal (x : EReal) : Ideal.div (Ideal.ofBits FTy.f32 0x3F000000#32) (Ideal.ofBits FTy.f32 0x44800000#32)
    * (Ideal.ofBits FTy.f32 0x40000000#32 * x) = x * Ideal.ofBits FTy.f32 0x3A800000#32 := by
  have e1 : Ideal.ofBits FTy.f32 0x3F000000#32 = ((1 / 2 : ℝ) : EReal) := by simp [Ideal.ofBits, Ideal.ieee, -EReal.coe_mul]; norm_num
  have e3 : Ideal.ofBits FTy.f32 0x40000000#32 = ((2 : ℝ) : EReal) := by simp [Ideal.ofBits, Ideal.ieee, -EReal.coe_mul]; norm_num
  have e4 : Ideal.ofBits FTy.f32 0x3A800000#32 = ((1 / 1024 : ℝ) : EReal) := by simp [Ideal.ofBits, Ideal.ieee, -EReal.coe_mul]; norm_num
  rw [e1, e3, e4, Cert.NormLaw.k1024, Ideal.div_coe (by norm_num), ← mul_assoc, mul_comm x]
  refine congrArg (· * x) ?_
  norm_cast
  norm_num

/-- The reference's error's gradient, on the unpadded rows. -/
def U (c : Dev nD) (i : Fin 4112) (b : Fin 1024) : EReal := if 16 ≤ i.val then D m c (tk16 i) b else 0

theorem refU (c : Dev nD) (i : Fin 4112) (b : Fin 1024) : (val_main_v32 (F := Ideal) (m ((c : Thread nD τ).loc main_arg0)) (m ((c : Thread nD τ).loc main_arg1)) (m ((c : Thread nD τ).loc main_arg2)) (ix2 i b) : EReal) = U m c i b := by
  unfold U val_main_v32
  by_cases h : 16 ≤ i.val
  · rw [if_pos h]
    refine (pad_apply_of_inside _ _ _ _ _ _ _ _ (ix2 (tk16 i) b) fun a => ?_).trans ?_
    · match a with
      | ⟨0, _⟩ => show i.val = 16 + (i.val - 16) * 1; omega
      | ⟨1, _⟩ => show b.val = 0 + b.val * 1; omega
    · pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_v16, val_main_v17, val_main_cst_3, val_main_v19, val_main_v20, val_main_cst_8, val_main_cst_9, val_main_v26, val_main_v27, val_main_cst_10, val_main_v28, val_main_v29, val_main_v30, val_main_v31]
      unfold D E a0 a1 a2 rr
      exact scal _
  · rw [if_neg h]
    refine (pad_apply_of_not_inside _ _ _ _ _ _ _ _ (0 : Fin 2) fun q => h q.1).trans ?_
    pointwise [val_main_cst_11]

theorem refDh (c : Dev nD) (i : Fin 4112) (a : Fin 1024) : (val_main_v52 (F := Ideal) (m ((c : Thread nD τ).loc main_arg0)) (m ((c : Thread nD τ).loc main_arg1)) (m ((c : Thread nD τ).loc main_arg2)) (ix2 i a) : EReal) =
    dx (a0 m c i) (fun b => U m c i b * a1 m c b) 0 a := by
  rw [row_words, zero_add]
  pointwise [val_main_v0, val_main_cst, val_main_v1, val_main_v2, val_main_cst_0, val_main_v3, val_main_v4, val_main_cst_1, val_main_v5, val_main_v6, val_main_v7, val_main_v11, val_main_v12, val_main_v13, val_main_v8, val_main_cst_2, val_main_v9, val_main_v10, val_main_v36, val_main_v37, val_main_v39, val_main_cst_14, val_main_v40, val_main_v41, val_main_v42, val_main_v43, val_main_v44, val_main_cst_15, val_main_v45, val_main_v46, val_main_cst_16, val_main_v47, val_main_v48, val_main_v49, val_main_v50, val_main_v51, val_main_v52]
  simp only [Fin.sum_univ_one, refU]
  rfl

theorem refL (c : Dev nD) (j : S8x128.Idx) : (val_main_v53 (F := Ideal) (m ((c : Thread nD τ).loc main_arg0)) (m ((c : Thread nD τ).loc main_arg1)) (m ((c : Thread nD τ).loc main_arg2)) j : EReal) = Ideal.ofBits FTy.f32 0x3F000000#32 * ∑ l, L m c l := by
  pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_v16, val_main_v17, val_main_v18, val_main_cst_4, val_main_v21, val_main_cst_5, val_main_v22, val_main_v23, val_main_cst_6, val_main_v24, val_main_cst_7, val_main_v25, val_main_v53]
  rfl

theorem refDg (c : Dev nD) (a : Fin 1024) : (val_main_v59 (F := Ideal) (m ((c : Thread nD τ).loc main_arg0)) (m ((c : Thread nD τ).loc main_arg1)) (m ((c : Thread nD τ).loc main_arg2)) (ix2 0 a) : EReal) = ∑ l, Y m c a l := by
  have h : (val_main_v59 (F := Ideal) (m ((c : Thread nD τ).loc main_arg0)) (m ((c : Thread nD τ).loc main_arg1)) (m ((c : Thread nD τ).loc main_arg2)) (ix2 0 a) : EReal) = ∑ i, (a0 m c i a * rr (a0 m c i)) * U m c i a := by
    pointwise [val_main_v0, val_main_cst, val_main_v1, val_main_v2, val_main_cst_0, val_main_v3, val_main_v4, val_main_cst_1, val_main_v5, val_main_v6, val_main_v7, val_main_v11, val_main_v12, val_main_v33, val_main_cst_12, val_main_v34, val_main_v35, val_main_cst_13, val_main_v38, val_main_v59]
    refine (Fin.sum_univ_one _).trans ?_
    simp only [refU]
    rfl
  rw [h, ← sum_unpadded]
  refine Finset.sum_congr rfl fun i _ => ?_
  unfold U Y
  by_cases hi : 16 ≤ i.val
  · rw [if_pos hi, if_pos hi, tok_tk16 i hi, mul_comm]
  · rw [if_neg hi, if_neg hi, mul_zero]

theorem dh_at (c : Dev nD) (t : Fin cfg0.N) (r : Fin 1040) (a : Fin 1024) : blkDh m c t r a = if 48 ≤ t.val * 1040 + r.val then
    dx (a0 m c (back (at_ t r))) (fun b => U m c (back (at_ t r)) b * a1 m c b) 0 a else 0 := by
  unfold blkDh
  by_cases h : 64 ≤ t.val * 1040 + r.val
  · have hu : ∀ b, U m c (back (at_ t r)) b = D m c (tk (at_ t r)) b := fun b => by
      unfold U
      rw [if_pos (by show 16 ≤ t.val * 1040 + r.val - 48; omega)]
      exact congrArg (fun l => D m c l b) (Fin.ext (by show t.val * 1040 + r.val - 48 - 16 = t.val * 1040 + r.val - 64; omega))
    simp only [if_pos h, if_pos (show 48 ≤ t.val * 1040 + r.val by omega), e_eq m c t r h, hrow_eq m c t r h, grow_eq, hu]
    rw [tok_tk _ (by exact h)]
    unfold dx
    rw [zero_add]
    rfl
  · simp only [if_neg h, Finset.sum_const_zero, k0, mul_zero, sub_zero]
    by_cases h' : 48 ≤ t.val * 1040 + r.val
    · have hu : ∀ b, U m c (back (at_ t r)) b = 0 := fun b => by
        unfold U
        rw [if_neg (by show ¬ 16 ≤ t.val * 1040 + r.val - 48; omega)]
      rw [if_pos h']
      unfold dx
      simp only [hu, zero_mul, Finset.sum_const_zero, k0, mul_zero, sub_zero, add_zero]
    · rw [if_neg h']

/-- The four results: the reference's. -/
def G3 (c : Dev nD) := val_main_v53 (F := Ideal) (m ((c : Thread nD τ).loc main_arg0)) (m ((c : Thread nD τ).loc main_arg1)) (m ((c : Thread nD τ).loc main_arg2))
def G4 (c : Dev nD) := val_main_v55 (F := Ideal) (m ((c : Thread nD τ).loc main_arg0)) (m ((c : Thread nD τ).loc main_arg1)) (m ((c : Thread nD τ).loc main_arg2))
def G5 (c : Dev nD) := val_main_v58 (F := Ideal) (m ((c : Thread nD τ).loc main_arg0)) (m ((c : Thread nD τ).loc main_arg1)) (m ((c : Thread nD τ).loc main_arg2))
def G6 (c : Dev nD) := val_main_v59 (F := Ideal) (m ((c : Thread nD τ).loc main_arg0)) (m ((c : Thread nD τ).loc main_arg1)) (m ((c : Thread nD τ).loc main_arg2))

theorem at4 (c : Dev nD) (t : Fin cfg0.N) (r : Fin 1040) (a : Fin 1024) : (G4 m c (ix2 (at_ t r) a) : EReal) = blkDh m c t r a := by
  rw [dh_at]
  unfold G4
  pointwise [val_main_cst_17, val_main_v54, val_main_v55]
  by_cases h : 48 ≤ t.val * 1040 + r.val
  · rw [if_pos h, dif_neg (by unfold at_; simp only []; omega)]
    exact refDh m c _ a
  · rw [if_neg h, dif_pos (by unfold at_; simp only []; omega)]

theorem at5 (c : Dev nD) (t : Fin cfg0.N) (r : Fin 1040) (a : Fin 1024) : (G5 m c (ix2 (at_ t r) a) : EReal) = blkDh m c t r a :=
  at4 m c t r a

theorem final4 (c : Dev nD) : (dats m 0 c).arrAt 4 (cfgs 0).N = G4 m c := by
  refine (dats m 0 c).arrAt_eq_of_covers 4 _ (by decide +kernel) fun t hf y => ?_
  blk_simp
  rw [after0_4]
  refine (point4 m c t y).trans ?_
  have e : ((win0_4.blk t).view.emb y : S4160x1024.Idx) = ix2 (at_ t (y 0)) (y 1) := by
    unfold at_
    blk_ext [idx t]
  rw [e]
  exact (at4 m c t (y 0) (y 1)).symm

theorem final5 (c : Dev nD) : (dats m 0 c).arrAt 5 (cfgs 0).N = G5 m c := by
  refine (dats m 0 c).arrAt_eq_of_covers 5 _ (by decide +kernel) fun t hf y => ?_
  blk_simp
  rw [after0_5]
  refine (point5 m c t y).trans ?_
  have e : ((win0_5.blk t).view.emb y : S4160x1024.Idx) = ix2 (at_ t (y 0)) (y 1) := by
    unfold at_
    blk_ext [idx t]
  rw [e]
  exact (at5 m c t (y 0) (y 1)).symm

/-- One point's additions to the loss and to the gain's gradient. -/
def partL (c : Dev nD) (t : Fin cfg0.N) : EReal := Ideal.ofBits FTy.f32 0x3F000000#32 * ∑ r : Fin 1040, if 64 ≤ t.val * 1040 + r.val then L m c (tk (at_ t r)) else 0
def partY (c : Dev nD) (a : Fin 1024) (t : Fin cfg0.N) : EReal := ∑ r : Fin 1040, if 64 ≤ t.val * 1040 + r.val then Y m c a (tk (at_ t r)) else 0

theorem sum_parts (f : Fin 4096 → EReal) : (∑ t : Fin cfg0.N, ∑ r : Fin 1040, if 64 ≤ t.val * 1040 + r.val then f (tk (at_ t r)) else 0) = ∑ l, f l :=
  (Fin.sum_mul_add_congr (f := fun l : Fin 4160 => if 64 ≤ l.val then f (tk l) else 0) fun t k hl => rfl).trans (sum_padded f)

theorem sum_partL (c : Dev nD) : ∑ t, partL m c t = Ideal.ofBits FTy.f32 0x3F000000#32 * ∑ l, L m c l := by
  have e1 : Ideal.ofBits FTy.f32 0x3F000000#32 = ((1 / 2 : ℝ) : EReal) := by simp [Ideal.ofBits, Ideal.ieee, -EReal.coe_mul]; norm_num
  unfold partL
  rw [e1, ← Cert.NormLaw.coe_mul_sum _ (by norm_num), sum_parts]

/-- One point's words for the two. -/
theorem wordL (c : Dev nD) (t : Fin cfg0.N) : (Ideal.ofBits FTy.f32 0x3F000000#32 * ∑ r : Fin 1040, Ideal.div (∑ b : Fin 1024,
    if 64 ≤ t.val * 1040 + r.val then if 64 ≤ t.val * 1040 + r.val then e m c t r b * e m c t r b else 0 else 0) (Ideal.ofBits FTy.f32 0x44800000#32)) = partL m c t := by
  refine congrArg _ (Finset.sum_congr rfl fun r _ => ?_)
  by_cases h : 64 ≤ t.val * 1040 + r.val
  · simp only [if_pos h, e_eq m c t r h]
    rfl
  · simp only [if_neg h, Finset.sum_const_zero, k0]

theorem wordY (c : Dev nD) (t : Fin cfg0.N) (a : Fin 1024) : (∑ r : Fin 1040, if 64 ≤ t.val * 1040 + r.val then
    e m c t r a * Ideal.ofBits FTy.f32 0x3A800000#32 * (hrow m c t r a * rr (hrow m c t r)) else 0) = partY m c a t := by
  refine Finset.sum_congr rfl fun r _ => ?_
  by_cases h : 64 ≤ t.val * 1040 + r.val
  · rw [if_pos h, if_pos h, e_eq m c t r h, hrow_eq m c t r h]
    rfl
  · rw [if_neg h, if_neg h]

theorem stepLA (c : Dev nD) (t : Fin cfg0.N) (h : t.val % 4 = 0) (j : S8x128.Idx) : (outsAt0 m c t.val t.isLt).1 j = 0 + partL m c t := by
  rw [outsAt0_A m c t h]
  frame_out
  open_payloads
  pointwise
  rw [coord t]
  simp only [mask, Fin.sum_univ_one]
  exact wordL m c t

theorem stepLB (c : Dev nD) (t : Fin cfg0.N) (h : ¬ t.val % 4 = 0) (j : S8x128.Idx) :
    (outsAt0 m c t.val t.isLt).1 j = (outsAt0 m c (t.val - 1) (lt_of_le_of_lt (Nat.sub_le _ _) t.isLt)).1 j + partL m c t := by
  rw [outsAt0_B m c t h]
  frame_out
  open_payloads
  pointwise
  rw [coord t]
  simp only [mask, Fin.sum_univ_one]
  exact congrArg (fun q : EReal => _ + q) (wordL m c t)

theorem stepYA (c : Dev nD) (t : Fin cfg0.N) (h : t.val % 4 = 0) (a : Fin 1024) : (outsAt0 m c t.val t.isLt).2.2.2 (ix2 0 a) = 0 + partY m c a t := by
  rw [outsAt0_A m c t h]
  frame_out
  open_payloads
  pointwise
  rw [coord t]
  simp only [mask]
  exact wordY m c t a

theorem stepYB (c : Dev nD) (t : Fin cfg0.N) (h : ¬ t.val % 4 = 0) (a : Fin 1024) :
    (outsAt0 m c t.val t.isLt).2.2.2 (ix2 0 a) = (outsAt0 m c (t.val - 1) (lt_of_le_of_lt (Nat.sub_le _ _) t.isLt)).2.2.2 (ix2 0 a) + partY m c a t := by
  rw [outsAt0_B m c t h]
  frame_out
  open_payloads
  pointwise
  rw [coord t]
  simp only [mask]
  exact congrArg (fun q : EReal => _ + q) (wordY m c t a)

theorem final3 (c : Dev nD) : (dats m 0 c).arrAt 3 (cfgs 0).N = G3 m c := by
  refine (dats m 0 c).arrAt_eq_of_after_last 3 t0_3 (by decide +kernel) _ fun j => ?_
  blk_simp
  rw [after0_3, Pipeline.eq_sum_fin_of_reset_step_apply_last (fun n h => (outsAt0 m c n h).1) 4 (fun _ => 0) (fun t _ => partL m c t)
    (fun t h j => stepLA m c t h j) (fun t h j => stepLB m c t h j) (le_of_eq N_0) t0_3 rfl _, zero_add]
  exact (sum_partL m c).trans (refL m c j).symm

theorem final6 (c : Dev nD) : (dats m 0 c).arrAt 6 (cfgs 0).N = G6 m c := by
  refine (dats m 0 c).arrAt_eq_of_after_last 6 t0_3 (by decide +kernel) _ fun j => ?_
  blk_simp
  obtain ⟨a, rfl⟩ : ∃ a : Fin 1024, (j : S1x1024.Idx) = ix2 0 a := ⟨j 1, funext fun a => by
    match a with
    | ⟨0, _⟩ => exact Fin.ext (by have : (j 0).val < 1 := (j 0).isLt; show (j 0).val = 0; omega)
    | ⟨1, _⟩ => rfl⟩
  rw [after0_6, Pipeline.eq_sum_fin_of_reset_step_apply_last (fun n h (a : Fin 1024) => (outsAt0 m c n h).2.2.2 (ix2 0 a)) 4 (fun _ => 0) (fun t a => partY m c a t)
    (fun t h a => stepYA m c t h a) (fun t h a => stepYB m c t h a) (le_of_eq N_0) t0_3 rfl a, zero_add]
  exact (sum_parts (Y m c a)).trans (refDg m c a).symm
end Cert.LossIdeal.Hand
-- ==== Proof.Lb.lean ====
module

public import proofs.«01_k».proof.Proof.Gen.LbFwd.Frame
public import proofs.«01_k».proof.Proof.Gen.LbFwdIdeal.Value
public import proofs.«01_k».proof.Proof.Gen.LbFwdRefIdeal.Run
public import proofs.«01_k».proof.Proof.Gen.LbFwdRefIdeal.Read
public import proofs.«01_k».proof.Proof.Gen.LbBwd.Frame
public import proofs.«01_k».proof.Proof.Gen.LbBwdIdeal.Value
public import proofs.«01_k».proof.Proof.Gen.LbBwdRefIdeal.Run
public import proofs.«01_k».proof.Proof.Gen.LbBwdRefIdeal.Read
public import Idealize.ShloMosaic.Lib.Pipeline.ValueKit
public import Idealize.ShloMosaic.Lib.Pointwise
public import Idealize.ShloMosaic.Lib.Claim
public import Idealize.ShloMosaic.Lib.IdealHost

/-! # The lower bounds of the gates and their gradient -/

@[expose] public section

noncomputable section

namespace Cert.Lb

open Idealize.ShloMosaic Idealize.ShloMosaic.TcCoe Idealize.SL.Sem Idealize.ShloMosaic.StableHlo

/-- The greatest of a column's four entries. -/
def top (p : Fin 4 → EReal) : EReal := max (max (max (p 0) (p 1)) (p 2)) (p 3)

/-- The softmax of a column. -/
def sm (p : Fin 4 → EReal) (l : Fin 4) : EReal :=
  Ideal.div (Ideal.exp (p l - top p)) (Ideal.exp (p 0 - top p) + Ideal.exp (p 1 - top p) + Ideal.exp (p 2 - top p) + Ideal.exp (p 3 - top p))

/-- The column's bounds. -/
def lb (p : Fin 4 → EReal) : Fin 4 → EReal := ![0, sm p 1, sm p 1 + sm p 2, sm p 1 + sm p 2 + sm p 3]

/-- The bounds' gradient carried back to the softmax. -/
def back (d : Fin 4 → EReal) : Fin 4 → EReal := ![0, d 1 + d 2 + d 3, d 2 + d 3, d 3]

/-- The gradient. -/
def grad (p d : Fin 4 → EReal) (l : Fin 4) : EReal :=
  sm p l * (back d l - (back d 0 * sm p 0 + back d 1 * sm p 1 + back d 2 * sm p 2 + back d 3 * sm p 3))

/-- An array of four rows. -/
abbrev Arr := (⟨⟨2, ![4, 1024]⟩, .f32⟩ : BufTy).Contents (Elt Ideal)

/-- Column `a` of an array. -/
abbrev col (p : Arr) (a : Fin 1024) : Fin 4 → EReal := fun l => p (ix2 l a)

theorem fold_max (p : Fin 4 → EReal) : Finset.univ.fold max ⊥ p = top p := by
  have h : (Finset.univ : Finset (Fin 4)) = {0, 1, 2, 3} := rfl
  rw [h]
  simp [top, max_assoc]

theorem bot_word : (FloatOps.ofBits .f32 0xFF800000#32 : Ideal .f32) = (⊥ : EReal) := by
  show Ideal.ofBits .f32 0xFF800000#32 = _
  simp [Ideal.ofBits, Ideal.ieee]

/-- A select on the band: row `i` enters the bounds `j ≥ i`, row 0 none. -/
theorem band (i j : Fin 4) (u v : EReal) :
    Scalar.select (IntOp.andi (IntOp.cmpi .sge (BitVec.ofNat 32 i) 1#32) (IntOp.cmpi .sle (BitVec.ofNat 32 i) (BitVec.ofNat 32 j))) u v =
      if 1 ≤ i ∧ i ≤ j then u else v := by
  have h : ∀ i j : Fin 4, IntOp.andi (IntOp.cmpi .sge (BitVec.ofNat 32 i) 1#32) (IntOp.cmpi .sle (BitVec.ofNat 32 i) (BitVec.ofNat 32 j)) =
      if 1 ≤ i ∧ i ≤ j then 1#1 else 0#1 := by decide +kernel
  rw [h]
  split_ifs <;> rfl

open Cert.LbFwdRefIdeal.Read in
theorem sm_fwd (p : Arr) (l : Fin 4) (a : Fin 1024) :
    (val_main_v10 (F := Ideal) p (ix2 l a) : EReal) = sm (col p a) l := by
  have e (l' : Fin 4) : idx_main_v7 (idx_main_v8 (idx_main_v9 (ix2 l a))) l' = ix2 l' a := funext fun b => match b with | ⟨0, _⟩ => rfl | ⟨1, _⟩ => rfl
  rw [val_main_v10_apply, val_main_v9_apply, val_main_v8_apply, val_main_v7_apply]
  simp only [val_main_v6_apply, val_main_v5_apply, val_main_v4_apply, val_main_v3_apply, val_main_v2_apply, val_main_v1_apply, val_main_cst_apply, val_main_cst_0_apply, val_main_cst_1_apply]
  unfold val_main_v0
  pointwise
  simp only [val_main_cst_apply, bot_word, e, Fin.sum_univ_four]
  rw [fold_max, show Ideal.ofBits .f32 4286578688#32 = (⊥ : EReal) from bot_word, max_eq_right bot_le]
  rfl

open Cert.LbFwdRefIdeal.Read in
theorem ref_fwd (p : Arr) (l : Fin 4) (a : Fin 1024) :
    (val_main_v20 (F := Ideal) p (ix2 l a) : EReal) = lb (col p a) l := by
  have e (l' : Fin 4) : idx_main_v18 (idx_main_call0_v2 (idx_main_v20 (ix2 l a) l')) = ix2 l' a := funext fun b => match b with | ⟨0, _⟩ => rfl | ⟨1, _⟩ => rfl
  have z : (FloatOps.ofBits .f32 0#32 : Ideal .f32) = (0 : EReal) := Ideal.ofBits_zero_f32
  have i0 : (ix2 l a : (⟨2, ![4, 1024]⟩ : Shape).Idx) 0 = l := rfl
  rw [val_main_v20_apply]
  simp only [Fin.sum_univ_four, val_main_v19_apply, val_main_call0_v1_apply, val_main_call0_v2_apply, val_main_v18_apply, val_main_v17_apply, val_main_v16_apply, val_main_v15_apply, val_main_v14_apply, val_main_v13_apply, val_main_v12_apply, val_main_v11_apply, val_main_c_apply, val_main_call0_v3_apply, val_main_call0_v0_apply, val_main_cst_3_apply, val_main_cst_2_apply, e, sm_fwd, z, i0, band]
  fin_cases l <;> simp [lb]

open Cert.LbFwdIdeal Cert.LbFwdIdeal.Gen in
theorem fwd (p : Arr) (l : Fin 4) (a : Fin 1024) :
    Value.G1 (F := Ideal) p (ix2 l a) = lb (col p a) l := by
  unfold Value.G1
  canon_tiles x hx
  all_goals
    obtain rfl : x 1 = a := Fin.ext hx1.symm
    open_payloads
    pointwise
  · obtain rfl : l = 3 := Fin.ext (hx0.trans (by omega))
    rfl
  · obtain rfl : l = 2 := Fin.ext (hx0.trans (by omega))
    rfl
  · obtain rfl : l = 1 := Fin.ext (hx0.trans (by omega))
    rfl
  · obtain rfl : l = 0 := Fin.ext (hx0.trans (by omega))
    rfl

open Cert.LbBwdIdeal Cert.LbBwdIdeal.Gen in
theorem bwd (p d : Arr) (l : Fin 4) (a : Fin 1024) :
    Value.G2 (F := Ideal) p d (ix2 l a) = grad (col p a) (col d a) l := by
  unfold Value.G2
  canon_tiles x hx
  all_goals
    obtain rfl : x 1 = a := Fin.ext hx1.symm
    open_payloads
    pointwise
  · obtain rfl : l = 3 := Fin.ext (hx0.trans (by omega))
    rfl
  · obtain rfl : l = 2 := Fin.ext (hx0.trans (by omega))
    rfl
  · obtain rfl : l = 1 := Fin.ext (hx0.trans (by omega))
    rfl
  · obtain rfl : l = 0 := Fin.ext (hx0.trans (by omega))
    rfl

open Cert.LbBwdRefIdeal.Read in
theorem sm_bwd (p : Arr) (l : Fin 4) (a : Fin 1024) :
    (val_main_v10 (F := Ideal) p (ix2 l a) : EReal) = sm (col p a) l := sm_fwd p l a

open Cert.LbBwdRefIdeal.Read in
theorem ref_back (d : Arr) (l : Fin 4) (a : Fin 1024) :
    (val_main_v20 (F := Ideal) d (ix2 l a) : EReal) = back (col d a) l := by
  have e (l' : Fin 4) : idx_main_v18 (idx_main_call0_v2 (idx_main_v20 (ix2 l a) l')) = ix2 l' a := funext fun b => match b with | ⟨0, _⟩ => rfl | ⟨1, _⟩ => rfl
  have z : (FloatOps.ofBits .f32 0#32 : Ideal .f32) = (0 : EReal) := Ideal.ofBits_zero_f32
  have i0 : (ix2 l a : (⟨2, ![4, 1024]⟩ : Shape).Idx) 0 = l := rfl
  rw [val_main_v20_apply]
  simp only [Fin.sum_univ_four, val_main_v19_apply, val_main_call0_v1_apply, val_main_call0_v2_apply, val_main_v18_apply, val_main_v17_apply, val_main_v16_apply, val_main_v15_apply, val_main_v14_apply, val_main_v13_apply, val_main_v12_apply, val_main_v11_apply, val_main_c_apply, val_main_call0_v3_apply, val_main_call0_v0_apply, val_main_cst_3_apply, val_main_cst_2_apply, e, z, i0, band]
  fin_cases l <;> simp [back]

open Cert.LbBwdRefIdeal.Read in
theorem ref_bwd (p d : Arr) (l : Fin 4) (a : Fin 1024) :
    (val_main_v26 (F := Ideal) p d (ix2 l a) : EReal) = grad (col p a) (col d a) l := by
  have e (l' : Fin 4) : idx_main_v22 (idx_main_v23 (idx_main_v24 (ix2 l a))) l' = ix2 l' a := funext fun b => match b with | ⟨0, _⟩ => rfl | ⟨1, _⟩ => rfl
  have z : (FloatOps.ofBits .f32 0#32 : Ideal .f32) = (0 : EReal) := Ideal.ofBits_zero_f32
  rw [val_main_v26_apply, val_main_v25_apply, val_main_v24_apply, val_main_v23_apply, val_main_v22_apply]
  simp only [Fin.sum_univ_four, val_main_v21_apply, val_main_cst_4_apply, e, z, sm_bwd, ref_back, zero_add]
  rfl

theorem split (y : (⟨2, ![4, 1024]⟩ : Shape).Idx) : y = ix2 (y 0) (y 1) :=
  funext fun b => match b with | ⟨0, _⟩ => rfl | ⟨1, _⟩ => rfl

theorem fwd_eq (p : Arr) : LbFwdRefIdeal.Read.val_main_v20 (F := Ideal) p = LbFwdIdeal.Value.G1 p := funext fun y => by
  rw [split y]
  exact (ref_fwd p _ _).trans (fwd p _ _).symm

theorem bwd_eq (p d : Arr) : LbBwdRefIdeal.Read.val_main_v26 (F := Ideal) p d = LbBwdIdeal.Value.G2 p d := funext fun y => by
  rw [split y]
  exact (ref_bwd p d _ _).trans (bwd p d _ _).symm

end Cert.Lb
-- ==== Proof.OptEvIn.lean ====
module

public import proofs.«01_k».proof.Proof.Gen.OptEvIn.Frame
public import proofs.«01_k».proof.Proof.Gen.OptEvInIdeal.Frame
public import proofs.«01_k».proof.Proof.Gen.OptEvInRefIdeal.Run
public import proofs.«01_k».proof.Proof.Gen.OptEvInRefIdeal.Read
public import Idealize.ShloMosaic.Lib.Pipeline.ValueKit
public import Idealize.ShloMosaic.Lib.Pointwise
public import Idealize.ShloMosaic.Lib.Claim

/-! # One optimiser step of the weights of the input projections of the even layers

One call per layer, each writing its own rows of the same four arrays. After the last call row block `l` of each array holds what the
call of layer `l` wrote: its own blocks cover that row block, and no later call touches it. -/

@[expose] public section

set_option maxRecDepth 16384

noncomputable section

namespace Cert.OptEvInIdeal.Hand

open Cert.OptEvInIdeal Cert.OptEvInIdeal.Gen
open Idealize.ShloMosaic Idealize.ShloMosaic.TcCoe Idealize.SL Idealize.SL.BI Idealize.SL.Sem Idealize.ShloMosaic.StableHlo
open Idealize.ShloMosaic.Pipeline (Dat)
open Cert.OptEvInRefIdeal.Read

variable (m : (ℓ : Loc nD τ sig) → Buf (Elt Ideal) ℓ) (ρ : Dev nD → PrngReg)

/-- Two indices of three axes are equal when their coordinates are. -/
theorem ext3 {n : Fin 3 → ℕ} {x y : ∀ k, Fin (n k)} (h0 : (x 0).val = (y 0).val) (h1 : (x 1).val = (y 1).val) (h2 : (x 2).val = (y 2).val) : x = y :=
  funext (Fin.forall_fin_succ.mpr ⟨Fin.ext h0, Fin.forall_fin_two.mpr ⟨Fin.ext h1, Fin.ext h2⟩⟩)

/-- An index of an array, and one of a block. -/
abbrev J (l : Fin 2) (r : Fin 1024) (b : Fin 192) : S2x1024x192.Idx := ix3 (n0 := 2) (n1 := 1024) (n2 := 192) l r b
abbrev B (a : Fin 1024) (b : Fin 192) : S1x1024x192.Idx := ix3 (n0 := 1) (n1 := 1024) (n2 := 192) 0 a b

theorem eq_B (y : S1x1024x192.Idx) : ∃ (a : Fin 1024) (b : Fin 192), y = B a b :=
  ⟨y 1, y 2, (eq_ix3 y).trans (congrArg (fun l : Fin 1 => ix3 (n0 := 1) (n1 := 1024) (n2 := 192) l (y 1) (y 2)) (Subsingleton.elim _ _))⟩

/-- The gradient, as the reference has it. -/
abbrev G4 (c : Dev nD) : Vec Ideal S2x1024x192 .f32 := Cert.OptEvInRefIdeal.Read.val_main_v4 (F := Ideal) (m ((c : Thread nD τ).loc main_arg0)) (m ((c : Thread nD τ).loc main_arg1))

/-- The update, as the reference has it. -/
abbrev G5 (c : Dev nD) : Vec Ideal S2x1024x192 .f32 := Cert.OptEvInRefIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The first moment, as the reference has it. -/
abbrev G6 (c : Dev nD) : Vec Ideal S2x1024x192 .f32 := Cert.OptEvInRefIdeal.Read.val_main_v9 (F := Ideal) (m ((c : Thread nD τ).loc main_arg0)) (m ((c : Thread nD τ).loc main_arg1)) (m ((c : Thread nD τ).loc main_arg3))

/-- The second moment, as the reference has it. -/
abbrev G7 (c : Dev nD) : Vec Ideal S2x1024x192 .f32 := Cert.OptEvInRefIdeal.Read.val_main_v15 (F := Ideal) (m ((c : Thread nD τ).loc main_arg0)) (m ((c : Thread nD τ).loc main_arg1)) (m ((c : Thread nD τ).loc main_arg4))

/-! ## The call of layer 0 -/

/-- The windows' block indices at point `t`. -/
theorem idx0 : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- Row `a` of the row block of point `t`. -/
def row0 (t : Fin cfg0.N) (a : Fin 1024) : Fin 1024 := ⟨t.val * 1024 + a.val, by have h1 : t.val < 1 := t.isLt; omega⟩

theorem iblk0_0 (c : Dev nD) (t : Fin cfg0.N) (d : Fin 8) (a : Fin 1024) (b : Fin 192) :
    (iblk0 (V1 m ρ) c 0 t (ix3 (n0 := 8) (n1 := 1024) (n2 := 192) d a b) : EReal) = m ((c : Thread nD τ).loc main_arg0) (ix3 (n0 := 8) (n1 := 1024) (n2 := 192) d (row0 t a) b) := by
  have h := W0_args m ρ c main_arg0 (by decide)
  blk_simp [iblk0, idx0 t]
  simp only [V1, W1, hostOps0, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg0)) (ext3 ?_ ?_ ?_)
  · blk_ext [idx0 t]
  · unfold row0; blk_ext [idx0 t]
  · blk_ext [idx0 t]

theorem iblk0_1 (c : Dev nD) (t : Fin cfg0.N) (a : Fin 1024) (b : Fin 192) :
    (iblk0 (V1 m ρ) c 1 t (ix3 (n0 := 1) (n1 := 1024) (n2 := 192) 0 a b) : EReal) = m ((c : Thread nD τ).loc main_arg2) (ix3 (n0 := 2) (n1 := 1024) (n2 := 192) 0 (row0 t a) b) := by
  refine (congrFun (congrArg _ (W1_args m ρ c main_arg2 (by decide))) _).trans ?_
  refine congrArg (m ((c : Thread nD τ).loc main_arg2)) (ext3 ?_ ?_ ?_)
  · first | rfl | exact congrArg (fun n => n * 1 + 0) (congrFun (idx0 t).2.1 0)
  · unfold row0; blk_ext [idx0 t]
  · blk_ext [idx0 t]

theorem iblk0_2 (c : Dev nD) (t : Fin cfg0.N) (a : Fin 1024) (b : Fin 192) :
    (iblk0 (V1 m ρ) c 2 t (ix3 (n0 := 1) (n1 := 1024) (n2 := 192) 0 a b) : EReal) = m ((c : Thread nD τ).loc main_arg3) (ix3 (n0 := 2) (n1 := 1024) (n2 := 192) 0 (row0 t a) b) := by
  refine (congrFun (congrArg _ (W1_args m ρ c main_arg3 (by decide))) _).trans ?_
  refine congrArg (m ((c : Thread nD τ).loc main_arg3)) (ext3 ?_ ?_ ?_)
  · first | rfl | exact congrArg (fun n => n * 1 + 0) (congrFun (idx0 t).2.2.1 0)
  · unfold row0; blk_ext [idx0 t]
  · blk_ext [idx0 t]

theorem iblk0_3 (c : Dev nD) (t : Fin cfg0.N) (a : Fin 1024) (b : Fin 192) :
    (iblk0 (V1 m ρ) c 3 t (ix3 (n0 := 1) (n1 := 1024) (n2 := 192) 0 a b) : EReal) = m ((c : Thread nD τ).loc main_arg4) (ix3 (n0 := 2) (n1 := 1024) (n2 := 192) 0 (row0 t a) b) := by
  refine (congrFun (congrArg _ (W1_args m ρ c main_arg4 (by decide))) _).trans ?_
  refine congrArg (m ((c : Thread nD τ).loc main_arg4)) (ext3 ?_ ?_ ?_)
  · first | rfl | exact congrArg (fun n => n * 1 + 0) (congrFun (idx0 t).2.2.2.1 0)
  · unfold row0; blk_ext [idx0 t]
  · blk_ext [idx0 t]

theorem emb0 (t : Fin cfg0.N) (a : Fin 1024) (b : Fin 192) : ((View.whole main_v1_0).slice (win0_4.rect t)).emb (B a b) = J 0 (row0 t a) b := by
  unfold B J
  refine ext3 ?_ ?_ ?_
  · first | rfl | exact congrArg (fun n => n * 1 + 0) (congrFun (idx0 t).2.2.2.2.1 0)
  · unfold row0; blk_ext [idx0 t]
  · blk_ext [idx0 t]

theorem split0 (r : Fin 1024) : ∃ (t : Fin cfg0.N) (a : Fin 1024), r = row0 t a :=
  ⟨⟨r.val / 1024, by show r.val / 1024 < 1; omega⟩, ⟨r.val % 1024, by omega⟩, Fin.ext (by show r.val = r.val / 1024 * 1024 + r.val % 1024; omega)⟩

theorem out0_4 (c : Dev nD) (t : Fin cfg0.N) (a : Fin 1024) (b : Fin 192) : (outsAt0 (V1 m ρ) c t).1 (B a b) = G4 m c (J 0 (row0 t a) b) := by
  unfold outsAt0 G4 B J
  frame_out
  pointwise [k0_pay1, k0_pay2, k0_pay3, k0_pay4, k0_pay5, k0_pay6, k0_pay7]
  simp only [iblk0_0, iblk0_1, iblk0_2, iblk0_3]
  rw [← val_main_v4_eq]
  pointwise
  simp only [Fin.sum_univ_eight]
  all_goals rfl

theorem new0_4 (c : Dev nD) (r : Fin 1024) (b : Fin 192) : (dat0 (V1 m ρ) c).arrAt 4 cfg0.N (J 0 r b) = G4 m c (J 0 r b) := by
  obtain ⟨t, a, rfl⟩ := split0 r
  refine (dat0 (V1 m ρ) c).arrAt_apply_of_mem 4 (G4 m c) (fun t hf => ?_) cfg0.N t _ t.isLt (flush0_4 t) (Finset.mem_map.mpr ⟨B a b, Finset.mem_univ _, emb0 t a b⟩)
  funext y
  obtain ⟨a, b, rfl⟩ := eq_B y
  blk_simp
  rw [after0_4]
  exact (out0_4 m ρ c t a b).trans (congrArg (G4 m c) (emb0 t a b)).symm

theorem out0_5 (c : Dev nD) (t : Fin cfg0.N) (a : Fin 1024) (b : Fin 192) : (outsAt0 (V1 m ρ) c t).2.1 (B a b) = G5 m c (J 0 (row0 t a) b) := by
  unfold outsAt0 G5 B J
  frame_out
  pointwise [k0_pay1, k0_pay2, k0_pay3, k0_pay4, k0_pay5, k0_pay6, k0_pay7]
  simp only [iblk0_0, iblk0_1, iblk0_2, iblk0_3]
  rw [← val_main_v28_eq]
  pointwise
  simp only [Fin.sum_univ_eight]
  all_goals rfl

theorem new0_5 (c : Dev nD) (r : Fin 1024) (b : Fin 192) : (dat0 (V1 m ρ) c).arrAt 5 cfg0.N (J 0 r b) = G5 m c (J 0 r b) := by
  obtain ⟨t, a, rfl⟩ := split0 r
  refine (dat0 (V1 m ρ) c).arrAt_apply_of_mem 5 (G5 m c) (fun t hf => ?_) cfg0.N t _ t.isLt (flush0_5 t) (Finset.mem_map.mpr ⟨B a b, Finset.mem_univ _, emb0 t a b⟩)
  funext y
  obtain ⟨a, b, rfl⟩ := eq_B y
  blk_simp
  rw [after0_5]
  exact (out0_5 m ρ c t a b).trans (congrArg (G5 m c) (emb0 t a b)).symm

theorem out0_6 (c : Dev nD) (t : Fin cfg0.N) (a : Fin 1024) (b : Fin 192) : (outsAt0 (V1 m ρ) c t).2.2.1 (B a b) = G6 m c (J 0 (row0 t a) b) := by
  unfold outsAt0 G6 B J
  frame_out
  pointwise [k0_pay1, k0_pay2, k0_pay3, k0_pay4, k0_pay5, k0_pay6, k0_pay7]
  simp only [iblk0_0, iblk0_1, iblk0_2, iblk0_3]
  rw [← val_main_v9_eq]
  pointwise
  simp only [Fin.sum_univ_eight]
  all_goals rfl

theorem new0_6 (c : Dev nD) (r : Fin 1024) (b : Fin 192) : (dat0 (V1 m ρ) c).arrAt 6 cfg0.N (J 0 r b) = G6 m c (J 0 r b) := by
  obtain ⟨t, a, rfl⟩ := split0 r
  refine (dat0 (V1 m ρ) c).arrAt_apply_of_mem 6 (G6 m c) (fun t hf => ?_) cfg0.N t _ t.isLt (flush0_6 t) (Finset.mem_map.mpr ⟨B a b, Finset.mem_univ _, emb0 t a b⟩)
  funext y
  obtain ⟨a, b, rfl⟩ := eq_B y
  blk_simp
  rw [after0_6]
  exact (out0_6 m ρ c t a b).trans (congrArg (G6 m c) (emb0 t a b)).symm

theorem out0_7 (c : Dev nD) (t : Fin cfg0.N) (a : Fin 1024) (b : Fin 192) : (outsAt0 (V1 m ρ) c t).2.2.2 (B a b) = G7 m c (J 0 (row0 t a) b) := by
  unfold outsAt0 G7 B J
  frame_out
  pointwise [k0_pay1, k0_pay2, k0_pay3, k0_pay4, k0_pay5, k0_pay6, k0_pay7]
  simp only [iblk0_0, iblk0_1, iblk0_2, iblk0_3]
  rw [← val_main_v15_eq]
  pointwise
  simp only [Fin.sum_univ_eight]
  all_goals rfl

theorem new0_7 (c : Dev nD) (r : Fin 1024) (b : Fin 192) : (dat0 (V1 m ρ) c).arrAt 7 cfg0.N (J 0 r b) = G7 m c (J 0 r b) := by
  obtain ⟨t, a, rfl⟩ := split0 r
  refine (dat0 (V1 m ρ) c).arrAt_apply_of_mem 7 (G7 m c) (fun t hf => ?_) cfg0.N t _ t.isLt (flush0_7 t) (Finset.mem_map.mpr ⟨B a b, Finset.mem_univ _, emb0 t a b⟩)
  funext y
  obtain ⟨a, b, rfl⟩ := eq_B y
  blk_simp
  rw [after0_7]
  exact (out0_7 m ρ c t a b).trans (congrArg (G7 m c) (emb0 t a b)).symm

/-! ## The call of layer 1 -/

/-- The windows' block indices at point `t`. -/
theorem idx1 : ∀ t : Fin cfg1.N, win1_0.index t = ![0, t.val, 0] ∧ win1_1.index t = ![1, t.val, 0] ∧ win1_2.index t = ![1, t.val, 0] ∧ win1_3.index t = ![1, t.val, 0] ∧ win1_4.index t = ![1, t.val, 0] ∧ win1_5.index t = ![1, t.val, 0] ∧ win1_6.index t = ![1, t.val, 0] ∧ win1_7.index t = ![1, t.val, 0] :=
  (by decide +kernel : ∀ t : Fin grid1.N, _)

/-- Row `a` of the row block of point `t`. -/
def row1 (t : Fin cfg1.N) (a : Fin 1024) : Fin 1024 := ⟨t.val * 1024 + a.val, by have h1 : t.val < 1 := t.isLt; omega⟩

theorem iblk1_0 (c : Dev nD) (t : Fin cfg1.N) (d : Fin 8) (a : Fin 1024) (b : Fin 192) :
    (iblk1 (V3 m ρ) c 0 t (ix3 (n0 := 8) (n1 := 1024) (n2 := 192) d a b) : EReal) = m ((c : Thread nD τ).loc main_arg1) (ix3 (n0 := 8) (n1 := 1024) (n2 := 192) d (row1 t a) b) := by
  have h := W2_args m ρ c main_arg1 (by decide)
  blk_simp [iblk1, idx1 t]
  simp only [V3, W3, hostOps1, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg1)) (ext3 ?_ ?_ ?_)
  · blk_ext [idx1 t]
  · unfold row1; blk_ext [idx1 t]
  · blk_ext [idx1 t]

theorem iblk1_1 (c : Dev nD) (t : Fin cfg1.N) (a : Fin 1024) (b : Fin 192) :
    (iblk1 (V3 m ρ) c 1 t (ix3 (n0 := 1) (n1 := 1024) (n2 := 192) 0 a b) : EReal) = m ((c : Thread nD τ).loc main_arg2) (ix3 (n0 := 2) (n1 := 1024) (n2 := 192) 1 (row1 t a) b) := by
  refine (congrFun (congrArg _ (W3_args m ρ c main_arg2 (by decide))) _).trans ?_
  refine congrArg (m ((c : Thread nD τ).loc main_arg2)) (ext3 ?_ ?_ ?_)
  · first | rfl | exact congrArg (fun n => n * 1 + 0) (congrFun (idx1 t).2.1 0)
  · unfold row1; blk_ext [idx1 t]
  · blk_ext [idx1 t]

theorem iblk1_2 (c : Dev nD) (t : Fin cfg1.N) (a : Fin 1024) (b : Fin 192) :
    (iblk1 (V3 m ρ) c 2 t (ix3 (n0 := 1) (n1 := 1024) (n2 := 192) 0 a b) : EReal) = m ((c : Thread nD τ).loc main_arg3) (ix3 (n0 := 2) (n1 := 1024) (n2 := 192) 1 (row1 t a) b) := by
  refine (congrFun (congrArg _ (W3_args m ρ c main_arg3 (by decide))) _).trans ?_
  refine congrArg (m ((c : Thread nD τ).loc main_arg3)) (ext3 ?_ ?_ ?_)
  · first | rfl | exact congrArg (fun n => n * 1 + 0) (congrFun (idx1 t).2.2.1 0)
  · unfold row1; blk_ext [idx1 t]
  · blk_ext [idx1 t]

theorem iblk1_3 (c : Dev nD) (t : Fin cfg1.N) (a : Fin 1024) (b : Fin 192) :
    (iblk1 (V3 m ρ) c 3 t (ix3 (n0 := 1) (n1 := 1024) (n2 := 192) 0 a b) : EReal) = m ((c : Thread nD τ).loc main_arg4) (ix3 (n0 := 2) (n1 := 1024) (n2 := 192) 1 (row1 t a) b) := by
  refine (congrFun (congrArg _ (W3_args m ρ c main_arg4 (by decide))) _).trans ?_
  refine congrArg (m ((c : Thread nD τ).loc main_arg4)) (ext3 ?_ ?_ ?_)
  · first | rfl | exact congrArg (fun n => n * 1 + 0) (congrFun (idx1 t).2.2.2.1 0)
  · unfold row1; blk_ext [idx1 t]
  · blk_ext [idx1 t]

theorem emb1 (t : Fin cfg1.N) (a : Fin 1024) (b : Fin 192) : ((View.whole main_v3_0).slice (win1_4.rect t)).emb (B a b) = J 1 (row1 t a) b := by
  unfold B J
  refine ext3 ?_ ?_ ?_
  · first | rfl | exact congrArg (fun n => n * 1 + 0) (congrFun (idx1 t).2.2.2.2.1 0)
  · unfold row1; blk_ext [idx1 t]
  · blk_ext [idx1 t]

theorem split1 (r : Fin 1024) : ∃ (t : Fin cfg1.N) (a : Fin 1024), r = row1 t a :=
  ⟨⟨r.val / 1024, by show r.val / 1024 < 1; omega⟩, ⟨r.val % 1024, by omega⟩, Fin.ext (by show r.val = r.val / 1024 * 1024 + r.val % 1024; omega)⟩

theorem out1_4 (c : Dev nD) (t : Fin cfg1.N) (a : Fin 1024) (b : Fin 192) : (outsAt1 (V3 m ρ) c t).1 (B a b) = G4 m c (J 1 (row1 t a) b) := by
  unfold outsAt1 G4 B J
  frame_out
  pointwise [k1_pay1, k1_pay2, k1_pay3, k1_pay4, k1_pay5, k1_pay6, k1_pay7]
  simp only [iblk1_0, iblk1_1, iblk1_2, iblk1_3]
  rw [← val_main_v4_eq]
  pointwise
  simp only [Fin.sum_univ_eight]
  all_goals rfl

theorem new1_4 (c : Dev nD) (r : Fin 1024) (b : Fin 192) : (dat1 (V3 m ρ) c).arrAt 4 cfg1.N (J 1 r b) = G4 m c (J 1 r b) := by
  obtain ⟨t, a, rfl⟩ := split1 r
  refine (dat1 (V3 m ρ) c).arrAt_apply_of_mem 4 (G4 m c) (fun t hf => ?_) cfg1.N t _ t.isLt (flush1_4 t) (Finset.mem_map.mpr ⟨B a b, Finset.mem_univ _, emb1 t a b⟩)
  funext y
  obtain ⟨a, b, rfl⟩ := eq_B y
  blk_simp
  rw [after1_4]
  exact (out1_4 m ρ c t a b).trans (congrArg (G4 m c) (emb1 t a b)).symm

theorem old1_4 (c : Dev nD) (l : Fin 2) (hl : l ≠ 1) (r : Fin 1024) (b : Fin 192) :
    (dat1 (V3 m ρ) c).arrAt 4 cfg1.N (J l r b) = (dat0 (V1 m ρ) c).arrAt 4 cfg0.N (J l r b) := by
  refine ((dat1 (V3 m ρ) c).arrAt_apply_of_forall_not_mem 4 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 4)) _
    show W3 m ρ c (Proc.devRef .tc main_v3_0) = W2 m ρ c (Proc.devRef .tc main_v1_0)
    simp only [W3, hostOps1, List.flatten_cons, List.flatten_nil, List.append_nil, List.cons_append, List.nil_append,
      TRef.binary, TRef.nullary, TRef.unary, TRef.toBuf, TRef.ofBuf, cast_eq]
    after_results
    rfl

theorem out1_5 (c : Dev nD) (t : Fin cfg1.N) (a : Fin 1024) (b : Fin 192) : (outsAt1 (V3 m ρ) c t).2.1 (B a b) = G5 m c (J 1 (row1 t a) b) := by
  unfold outsAt1 G5 B J
  frame_out
  pointwise [k1_pay1, k1_pay2, k1_pay3, k1_pay4, k1_pay5, k1_pay6, k1_pay7]
  simp only [iblk1_0, iblk1_1, iblk1_2, iblk1_3]
  rw [← val_main_v28_eq]
  pointwise
  simp only [Fin.sum_univ_eight]
  all_goals rfl

theorem new1_5 (c : Dev nD) (r : Fin 1024) (b : Fin 192) : (dat1 (V3 m ρ) c).arrAt 5 cfg1.N (J 1 r b) = G5 m c (J 1 r b) := by
  obtain ⟨t, a, rfl⟩ := split1 r
  refine (dat1 (V3 m ρ) c).arrAt_apply_of_mem 5 (G5 m c) (fun t hf => ?_) cfg1.N t _ t.isLt (flush1_5 t) (Finset.mem_map.mpr ⟨B a b, Finset.mem_univ _, emb1 t a b⟩)
  funext y
  obtain ⟨a, b, rfl⟩ := eq_B y
  blk_simp
  rw [after1_5]
  exact (out1_5 m ρ c t a b).trans (congrArg (G5 m c) (emb1 t a b)).symm

theorem old1_5 (c : Dev nD) (l : Fin 2) (hl : l ≠ 1) (r : Fin 1024) (b : Fin 192) :
    (dat1 (V3 m ρ) c).arrAt 5 cfg1.N (J l r b) = (dat0 (V1 m ρ) c).arrAt 5 cfg0.N (J l r b) := by
  refine ((dat1 (V3 m ρ) c).arrAt_apply_of_forall_not_mem 5 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 5)) _
    show W3 m ρ c (Proc.devRef .tc main_v3_1) = W2 m ρ c (Proc.devRef .tc main_v1_1)
    simp only [W3, hostOps1, List.flatten_cons, List.flatten_nil, List.append_nil, List.cons_append, List.nil_append,
      TRef.binary, TRef.nullary, TRef.unary, TRef.toBuf, TRef.ofBuf, cast_eq]
    after_results
    rfl

theorem out1_6 (c : Dev nD) (t : Fin cfg1.N) (a : Fin 1024) (b : Fin 192) : (outsAt1 (V3 m ρ) c t).2.2.1 (B a b) = G6 m c (J 1 (row1 t a) b) := by
  unfold outsAt1 G6 B J
  frame_out
  pointwise [k1_pay1, k1_pay2, k1_pay3, k1_pay4, k1_pay5, k1_pay6, k1_pay7]
  simp only [iblk1_0, iblk1_1, iblk1_2, iblk1_3]
  rw [← val_main_v9_eq]
  pointwise
  simp only [Fin.sum_univ_eight]
  all_goals rfl

theorem new1_6 (c : Dev nD) (r : Fin 1024) (b : Fin 192) : (dat1 (V3 m ρ) c).arrAt 6 cfg1.N (J 1 r b) = G6 m c (J 1 r b) := by
  obtain ⟨t, a, rfl⟩ := split1 r
  refine (dat1 (V3 m ρ) c).arrAt_apply_of_mem 6 (G6 m c) (fun t hf => ?_) cfg1.N t _ t.isLt (flush1_6 t) (Finset.mem_map.mpr ⟨B a b, Finset.mem_univ _, emb1 t a b⟩)
  funext y
  obtain ⟨a, b, rfl⟩ := eq_B y
  blk_simp
  rw [after1_6]
  exact (out1_6 m ρ c t a b).trans (congrArg (G6 m c) (emb1 t a b)).symm

theorem old1_6 (c : Dev nD) (l : Fin 2) (hl : l ≠ 1) (r : Fin 1024) (b : Fin 192) :
    (dat1 (V3 m ρ) c).arrAt 6 cfg1.N (J l r b) = (dat0 (V1 m ρ) c).arrAt 6 cfg0.N (J l r b) := by
  refine ((dat1 (V3 m ρ) c).arrAt_apply_of_forall_not_mem 6 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 6)) _
    show W3 m ρ c (Proc.devRef .tc main_v3_2) = W2 m ρ c (Proc.devRef .tc main_v1_2)
    simp only [W3, hostOps1, List.flatten_cons, List.flatten_nil, List.append_nil, List.cons_append, List.nil_append,
      TRef.binary, TRef.nullary, TRef.unary, TRef.toBuf, TRef.ofBuf, cast_eq]
    after_results
    rfl

theorem out1_7 (c : Dev nD) (t : Fin cfg1.N) (a : Fin 1024) (b : Fin 192) : (outsAt1 (V3 m ρ) c t).2.2.2 (B a b) = G7 m c (J 1 (row1 t a) b) := by
  unfold outsAt1 G7 B J
  frame_out
  pointwise [k1_pay1, k1_pay2, k1_pay3, k1_pay4, k1_pay5, k1_pay6, k1_pay7]
  simp only [iblk1_0, iblk1_1, iblk1_2, iblk1_3]
  rw [← val_main_v15_eq]
  pointwise
  simp only [Fin.sum_univ_eight]
  all_goals rfl

theorem new1_7 (c : Dev nD) (r : Fin 1024) (b : Fin 192) : (dat1 (V3 m ρ) c).arrAt 7 cfg1.N (J 1 r b) = G7 m c (J 1 r b) := by
  obtain ⟨t, a, rfl⟩ := split1 r
  refine (dat1 (V3 m ρ) c).arrAt_apply_of_mem 7 (G7 m c) (fun t hf => ?_) cfg1.N t _ t.isLt (flush1_7 t) (Finset.mem_map.mpr ⟨B a b, Finset.mem_univ _, emb1 t a b⟩)
  funext y
  obtain ⟨a, b, rfl⟩ := eq_B y
  blk_simp
  rw [after1_7]
  exact (out1_7 m ρ c t a b).trans (congrArg (G7 m c) (emb1 t a b)).symm

theorem old1_7 (c : Dev nD) (l : Fin 2) (hl : l ≠ 1) (r : Fin 1024) (b : Fin 192) :
    (dat1 (V3 m ρ) c).arrAt 7 cfg1.N (J l r b) = (dat0 (V1 m ρ) c).arrAt 7 cfg0.N (J l r b) := by
  refine ((dat1 (V3 m ρ) c).arrAt_apply_of_forall_not_mem 7 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 7)) _
    show W3 m ρ c (Proc.devRef .tc main_v3_3) = W2 m ρ c (Proc.devRef .tc main_v1_3)
    simp only [W3, hostOps1, List.flatten_cons, List.flatten_nil, List.append_nil, List.cons_append, List.nil_append,
      TRef.binary, TRef.nullary, TRef.unary, TRef.toBuf, TRef.ofBuf, cast_eq]
    after_results
    rfl

/-! ## The four arrays after the last call -/

theorem final4 (c : Dev nD) : W4 m ρ c (Proc.devRef .tc main_v3_0) = G4 m c := by
  refine (W4_arr m ρ c 4).trans (funext fun i => ?_)
  obtain ⟨l, r, b, rfl⟩ : ∃ (l : Fin 2) (r : Fin 1024) (b : Fin 192), i = J l r b := ⟨i 0, i 1, i 2, eq_ix3 i⟩
  fin_cases l
  · exact (old1_4 m ρ c 0 (by decide) r b).trans (new0_4 m ρ c r b)
  · exact new1_4 m ρ c r b

theorem final5 (c : Dev nD) : W4 m ρ c (Proc.devRef .tc main_v3_1) = G5 m c := by
  refine (W4_arr m ρ c 5).trans (funext fun i => ?_)
  obtain ⟨l, r, b, rfl⟩ : ∃ (l : Fin 2) (r : Fin 1024) (b : Fin 192), i = J l r b := ⟨i 0, i 1, i 2, eq_ix3 i⟩
  fin_cases l
  · exact (old1_5 m ρ c 0 (by decide) r b).trans (new0_5 m ρ c r b)
  · exact new1_5 m ρ c r b

theorem final6 (c : Dev nD) : W4 m ρ c (Proc.devRef .tc main_v3_2) = G6 m c := by
  refine (W4_arr m ρ c 6).trans (funext fun i => ?_)
  obtain ⟨l, r, b, rfl⟩ : ∃ (l : Fin 2) (r : Fin 1024) (b : Fin 192), i = J l r b := ⟨i 0, i 1, i 2, eq_ix3 i⟩
  fin_cases l
  · exact (old1_6 m ρ c 0 (by decide) r b).trans (new0_6 m ρ c r b)
  · exact new1_6 m ρ c r b

theorem final7 (c : Dev nD) : W4 m ρ c (Proc.devRef .tc main_v3_3) = G7 m c := by
  refine (W4_arr m ρ c 7).trans (funext fun i => ?_)
  obtain ⟨l, r, b, rfl⟩ : ∃ (l : Fin 2) (r : Fin 1024) (b : Fin 192), i = J l r b := ⟨i 0, i 1, i 2, eq_ix3 i⟩
  fin_cases l
  · exact (old1_7 m ρ c 0 (by decide) r b).trans (new0_7 m ρ c r b)
  · exact new1_7 m ρ c r b

section Run

open Idealize.SL.RA Idealize.SL.BI.BIBase Idealize.SL.BI.Laws Idealize.SL.ProofMode Idealize.ShloMosaic.Rounds Idealize.ShloMosaic.Tactic
open scoped Idealize.SL.BI
open Idealize.ShloMosaic.Pipeline (Cfg Window BodyObligation cellOf)

set_option backward.isDefEq.respectTransparency.types false in
/-- The run, its results named. -/
theorem run_values : θ_run defs (onTc (τ := τ) (main (F := Ideal))) ⟨m, fun _ => 0, ρ⟩ (fun r => ∀ c : Dev nD,
      r.2.mem ((c.tc : Thread nD τ).loc main_v3_0) = Cert.OptEvInRefIdeal.Read.val_main_v4 (F := Ideal) (m ((c : Thread nD τ).loc main_arg0)) (m ((c : Thread nD τ).loc main_arg1))
      ∧ r.2.mem ((c.tc : Thread nD τ).loc main_v3_1) = Cert.OptEvInRefIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v3_2) = Cert.OptEvInRefIdeal.Read.val_main_v9 (F := Ideal) (m ((c : Thread nD τ).loc main_arg0)) (m ((c : Thread nD τ).loc main_arg1)) (m ((c : Thread nD τ).loc main_arg3))
      ∧ r.2.mem ((c.tc : Thread nD τ).loc main_v3_3) = Cert.OptEvInRefIdeal.Read.val_main_v15 (F := Ideal) (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v3_0 (by decide))).trans (final4 m ρ c),
       (h c _ (mem_uc main_v3_1 (by decide))).trans (final5 m ρ c),
       (h c _ (mem_uc main_v3_2 (by decide))).trans (final6 m ρ c),
       (h c _ (mem_uc main_v3_3 (by decide))).trans (final7 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Run

end Cert.OptEvInIdeal.Hand

end
-- ==== Proof.OptOdIn.lean ====
module

public import proofs.«01_k».proof.Proof.Gen.OptOdIn.Frame
public import proofs.«01_k».proof.Proof.Gen.OptOdInIdeal.Frame
public import proofs.«01_k».proof.Proof.Gen.OptOdInRefIdeal.Run
public import proofs.«01_k».proof.Proof.Gen.OptOdInRefIdeal.Read
public import Idealize.ShloMosaic.Lib.Pipeline.ValueKit
public import Idealize.ShloMosaic.Lib.Pointwise
public import Idealize.ShloMosaic.Lib.Claim

/-! # One optimiser step of the weights of the input projections of the odd layers

One call per layer, each writing its own rows of the same four arrays. After the last call row block `l` of each array holds what the
call of layer `l` wrote: its own blocks cover that row block, and no later call touches it. -/

@[expose] public section

set_option maxRecDepth 16384

noncomputable section

namespace Cert.OptOdInIdeal.Hand

open Cert.OptOdInIdeal Cert.OptOdInIdeal.Gen
open Idealize.ShloMosaic Idealize.ShloMosaic.TcCoe Idealize.SL Idealize.SL.BI Idealize.SL.Sem Idealize.ShloMosaic.StableHlo
open Idealize.ShloMosaic.Pipeline (Dat)
open Cert.OptOdInRefIdeal.Read

variable (m : (ℓ : Loc nD τ sig) → Buf (Elt Ideal) ℓ) (ρ : Dev nD → PrngReg)

/-- Two indices of three axes are equal when their coordinates are. -/
theorem ext3 {n : Fin 3 → ℕ} {x y : ∀ k, Fin (n k)} (h0 : (x 0).val = (y 0).val) (h1 : (x 1).val = (y 1).val) (h2 : (x 2).val = (y 2).val) : x = y :=
  funext (Fin.forall_fin_succ.mpr ⟨Fin.ext h0, Fin.forall_fin_two.mpr ⟨Fin.ext h1, Fin.ext h2⟩⟩)

/-- An index of an array, and one of a block. -/
abbrev J (l : Fin 2) (r : Fin 1024) (b : Fin 512) : S2x1024x512.Idx := ix3 (n0 := 2) (n1 := 1024) (n2 := 512) l r b
abbrev B (a : Fin 512) (b : Fin 512) : S1x512x512.Idx := ix3 (n0 := 1) (n1 := 512) (n2 := 512) 0 a b

theorem eq_B (y : S1x512x512.Idx) : ∃ (a : Fin 512) (b : Fin 512), y = B a b :=
  ⟨y 1, y 2, (eq_ix3 y).trans (congrArg (fun l : Fin 1 => ix3 (n0 := 1) (n1 := 512) (n2 := 512) l (y 1) (y 2)) (Subsingleton.elim _ _))⟩

/-- The gradient, as the reference has it. -/
abbrev G4 (c : Dev nD) : Vec Ideal S2x1024x512 .f32 := Cert.OptOdInRefIdeal.Read.val_main_v4 (F := Ideal) (m ((c : Thread nD τ).loc main_arg0)) (m ((c : Thread nD τ).loc main_arg1))

/-- The update, as the reference has it. -/
abbrev G5 (c : Dev nD) : Vec Ideal S2x1024x512 .f32 := Cert.OptOdInRefIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The first moment, as the reference has it. -/
abbrev G6 (c : Dev nD) : Vec Ideal S2x1024x512 .f32 := Cert.OptOdInRefIdeal.Read.val_main_v9 (F := Ideal) (m ((c : Thread nD τ).loc main_arg0)) (m ((c : Thread nD τ).loc main_arg1)) (m ((c : Thread nD τ).loc main_arg3))

/-- The second moment, as the reference has it. -/
abbrev G7 (c : Dev nD) : Vec Ideal S2x1024x512 .f32 := Cert.OptOdInRefIdeal.Read.val_main_v15 (F := Ideal) (m ((c : Thread nD τ).loc main_arg0)) (m ((c : Thread nD τ).loc main_arg1)) (m ((c : Thread nD τ).loc main_arg4))

/-! ## The call of layer 0 -/

/-- The windows' block indices at point `t`. -/
theorem idx0 : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- Row `a` of the row block of point `t`. -/
def row0 (t : Fin cfg0.N) (a : Fin 512) : Fin 1024 := ⟨t.val * 512 + a.val, by have h1 : t.val < 2 := t.isLt; omega⟩

theorem iblk0_0 (c : Dev nD) (t : Fin cfg0.N) (d : Fin 8) (a : Fin 512) (b : Fin 512) :
    (iblk0 (V1 m ρ) c 0 t (ix3 (n0 := 8) (n1 := 512) (n2 := 512) d a b) : EReal) = m ((c : Thread nD τ).loc main_arg0) (ix3 (n0 := 8) (n1 := 1024) (n2 := 512) d (row0 t a) b) := by
  have h := W0_args m ρ c main_arg0 (by decide)
  blk_simp [iblk0, idx0 t]
  simp only [V1, W1, hostOps0, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg0)) (ext3 ?_ ?_ ?_)
  · blk_ext [idx0 t]
  · unfold row0; blk_ext [idx0 t]
  · blk_ext [idx0 t]

theorem iblk0_1 (c : Dev nD) (t : Fin cfg0.N) (a : Fin 512) (b : Fin 512) :
    (iblk0 (V1 m ρ) c 1 t (ix3 (n0 := 1) (n1 := 512) (n2 := 512) 0 a b) : EReal) = m ((c : Thread nD τ).loc main_arg2) (ix3 (n0 := 2) (n1 := 1024) (n2 := 512) 0 (row0 t a) b) := by
  refine (congrFun (congrArg _ (W1_args m ρ c main_arg2 (by decide))) _).trans ?_
  refine congrArg (m ((c : Thread nD τ).loc main_arg2)) (ext3 ?_ ?_ ?_)
  · first | rfl | exact congrArg (fun n => n * 1 + 0) (congrFun (idx0 t).2.1 0)
  · unfold row0; blk_ext [idx0 t]
  · blk_ext [idx0 t]

theorem iblk0_2 (c : Dev nD) (t : Fin cfg0.N) (a : Fin 512) (b : Fin 512) :
    (iblk0 (V1 m ρ) c 2 t (ix3 (n0 := 1) (n1 := 512) (n2 := 512) 0 a b) : EReal) = m ((c : Thread nD τ).loc main_arg3) (ix3 (n0 := 2) (n1 := 1024) (n2 := 512) 0 (row0 t a) b) := by
  refine (congrFun (congrArg _ (W1_args m ρ c main_arg3 (by decide))) _).trans ?_
  refine congrArg (m ((c : Thread nD τ).loc main_arg3)) (ext3 ?_ ?_ ?_)
  · first | rfl | exact congrArg (fun n => n * 1 + 0) (congrFun (idx0 t).2.2.1 0)
  · unfold row0; blk_ext [idx0 t]
  · blk_ext [idx0 t]

theorem iblk0_3 (c : Dev nD) (t : Fin cfg0.N) (a : Fin 512) (b : Fin 512) :
    (iblk0 (V1 m ρ) c 3 t (ix3 (n0 := 1) (n1 := 512) (n2 := 512) 0 a b) : EReal) = m ((c : Thread nD τ).loc main_arg4) (ix3 (n0 := 2) (n1 := 1024) (n2 := 512) 0 (row0 t a) b) := by
  refine (congrFun (congrArg _ (W1_args m ρ c main_arg4 (by decide))) _).trans ?_
  refine congrArg (m ((c : Thread nD τ).loc main_arg4)) (ext3 ?_ ?_ ?_)
  · first | rfl | exact congrArg (fun n => n * 1 + 0) (congrFun (idx0 t).2.2.2.1 0)
  · unfold row0; blk_ext [idx0 t]
  · blk_ext [idx0 t]

theorem emb0 (t : Fin cfg0.N) (a : Fin 512) (b : Fin 512) : ((View.whole main_v1_0).slice (win0_4.rect t)).emb (B a b) = J 0 (row0 t a) b := by
  unfold B J
  refine ext3 ?_ ?_ ?_
  · first | rfl | exact congrArg (fun n => n * 1 + 0) (congrFun (idx0 t).2.2.2.2.1 0)
  · unfold row0; blk_ext [idx0 t]
  · blk_ext [idx0 t]

theorem split0 (r : Fin 1024) : ∃ (t : Fin cfg0.N) (a : Fin 512), r = row0 t a :=
  ⟨⟨r.val / 512, by show r.val / 512 < 2; omega⟩, ⟨r.val % 512, by omega⟩, Fin.ext (by show r.val = r.val / 512 * 512 + r.val % 512; omega)⟩

theorem out0_4 (c : Dev nD) (t : Fin cfg0.N) (a : Fin 512) (b : Fin 512) : (outsAt0 (V1 m ρ) c t).1 (B a b) = G4 m c (J 0 (row0 t a) b) := by
  unfold outsAt0 G4 B J
  frame_out
  pointwise [k0_pay1, k0_pay2, k0_pay3, k0_pay4, k0_pay5, k0_pay6, k0_pay7]
  simp only [iblk0_0, iblk0_1, iblk0_2, iblk0_3]
  rw [← val_main_v4_eq]
  pointwise
  simp only [Fin.sum_univ_eight]
  all_goals rfl

theorem new0_4 (c : Dev nD) (r : Fin 1024) (b : Fin 512) : (dat0 (V1 m ρ) c).arrAt 4 cfg0.N (J 0 r b) = G4 m c (J 0 r b) := by
  obtain ⟨t, a, rfl⟩ := split0 r
  refine (dat0 (V1 m ρ) c).arrAt_apply_of_mem 4 (G4 m c) (fun t hf => ?_) cfg0.N t _ t.isLt (flush0_4 t) (Finset.mem_map.mpr ⟨B a b, Finset.mem_univ _, emb0 t a b⟩)
  funext y
  obtain ⟨a, b, rfl⟩ := eq_B y
  blk_simp
  rw [after0_4]
  exact (out0_4 m ρ c t a b).trans (congrArg (G4 m c) (emb0 t a b)).symm

theorem out0_5 (c : Dev nD) (t : Fin cfg0.N) (a : Fin 512) (b : Fin 512) : (outsAt0 (V1 m ρ) c t).2.1 (B a b) = G5 m c (J 0 (row0 t a) b) := by
  unfold outsAt0 G5 B J
  frame_out
  pointwise [k0_pay1, k0_pay2, k0_pay3, k0_pay4, k0_pay5, k0_pay6, k0_pay7]
  simp only [iblk0_0, iblk0_1, iblk0_2, iblk0_3]
  rw [← val_main_v28_eq]
  pointwise
  simp only [Fin.sum_univ_eight]
  all_goals rfl

theorem new0_5 (c : Dev nD) (r : Fin 1024) (b : Fin 512) : (dat0 (V1 m ρ) c).arrAt 5 cfg0.N (J 0 r b) = G5 m c (J 0 r b) := by
  obtain ⟨t, a, rfl⟩ := split0 r
  refine (dat0 (V1 m ρ) c).arrAt_apply_of_mem 5 (G5 m c) (fun t hf => ?_) cfg0.N t _ t.isLt (flush0_5 t) (Finset.mem_map.mpr ⟨B a b, Finset.mem_univ _, emb0 t a b⟩)
  funext y
  obtain ⟨a, b, rfl⟩ := eq_B y
  blk_simp
  rw [after0_5]
  exact (out0_5 m ρ c t a b).trans (congrArg (G5 m c) (emb0 t a b)).symm

theorem out0_6 (c : Dev nD) (t : Fin cfg0.N) (a : Fin 512) (b : Fin 512) : (outsAt0 (V1 m ρ) c t).2.2.1 (B a b) = G6 m c (J 0 (row0 t a) b) := by
  unfold outsAt0 G6 B J
  frame_out
  pointwise [k0_pay1, k0_pay2, k0_pay3, k0_pay4, k0_pay5, k0_pay6, k0_pay7]
  simp only [iblk0_0, iblk0_1, iblk0_2, iblk0_3]
  rw [← val_main_v9_eq]
  pointwise
  simp only [Fin.sum_univ_eight]
  all_goals rfl

theorem new0_6 (c : Dev nD) (r : Fin 1024) (b : Fin 512) : (dat0 (V1 m ρ) c).arrAt 6 cfg0.N (J 0 r b) = G6 m c (J 0 r b) := by
  obtain ⟨t, a, rfl⟩ := split0 r
  refine (dat0 (V1 m ρ) c).arrAt_apply_of_mem 6 (G6 m c) (fun t hf => ?_) cfg0.N t _ t.isLt (flush0_6 t) (Finset.mem_map.mpr ⟨B a b, Finset.mem_univ _, emb0 t a b⟩)
  funext y
  obtain ⟨a, b, rfl⟩ := eq_B y
  blk_simp
  rw [after0_6]
  exact (out0_6 m ρ c t a b).trans (congrArg (G6 m c) (emb0 t a b)).symm

theorem out0_7 (c : Dev nD) (t : Fin cfg0.N) (a : Fin 512) (b : Fin 512) : (outsAt0 (V1 m ρ) c t).2.2.2 (B a b) = G7 m c (J 0 (row0 t a) b) := by
  unfold outsAt0 G7 B J
  frame_out
  pointwise [k0_pay1, k0_pay2, k0_pay3, k0_pay4, k0_pay5, k0_pay6, k0_pay7]
  simp only [iblk0_0, iblk0_1, iblk0_2, iblk0_3]
  rw [← val_main_v15_eq]
  pointwise
  simp only [Fin.sum_univ_eight]
  all_goals rfl

theorem new0_7 (c : Dev nD) (r : Fin 1024) (b : Fin 512) : (dat0 (V1 m ρ) c).arrAt 7 cfg0.N (J 0 r b) = G7 m c (J 0 r b) := by
  obtain ⟨t, a, rfl⟩ := split0 r
  refine (dat0 (V1 m ρ) c).arrAt_apply_of_mem 7 (G7 m c) (fun t hf => ?_) cfg0.N t _ t.isLt (flush0_7 t) (Finset.mem_map.mpr ⟨B a b, Finset.mem_univ _, emb0 t a b⟩)
  funext y
  obtain ⟨a, b, rfl⟩ := eq_B y
  blk_simp
  rw [after0_7]
  exact (out0_7 m ρ c t a b).trans (congrArg (G7 m c) (emb0 t a b)).symm

/-! ## The call of layer 1 -/

/-- The windows' block indices at point `t`. -/
theorem idx1 : ∀ t : Fin cfg1.N, win1_0.index t = ![0, t.val, 0] ∧ win1_1.index t = ![1, t.val, 0] ∧ win1_2.index t = ![1, t.val, 0] ∧ win1_3.index t = ![1, t.val, 0] ∧ win1_4.index t = ![1, t.val, 0] ∧ win1_5.index t = ![1, t.val, 0] ∧ win1_6.index t = ![1, t.val, 0] ∧ win1_7.index t = ![1, t.val, 0] :=
  (by decide +kernel : ∀ t : Fin grid1.N, _)

/-- Row `a` of the row block of point `t`. -/
def row1 (t : Fin cfg1.N) (a : Fin 512) : Fin 1024 := ⟨t.val * 512 + a.val, by have h1 : t.val < 2 := t.isLt; omega⟩

theorem iblk1_0 (c : Dev nD) (t : Fin cfg1.N) (d : Fin 8) (a : Fin 512) (b : Fin 512) :
    (iblk1 (V3 m ρ) c 0 t (ix3 (n0 := 8) (n1 := 512) (n2 := 512) d a b) : EReal) = m ((c : Thread nD τ).loc main_arg1) (ix3 (n0 := 8) (n1 := 1024) (n2 := 512) d (row1 t a) b) := by
  have h := W2_args m ρ c main_arg1 (by decide)
  blk_simp [iblk1, idx1 t]
  simp only [V3, W3, hostOps1, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg1)) (ext3 ?_ ?_ ?_)
  · blk_ext [idx1 t]
  · unfold row1; blk_ext [idx1 t]
  · blk_ext [idx1 t]

theorem iblk1_1 (c : Dev nD) (t : Fin cfg1.N) (a : Fin 512) (b : Fin 512) :
    (iblk1 (V3 m ρ) c 1 t (ix3 (n0 := 1) (n1 := 512) (n2 := 512) 0 a b) : EReal) = m ((c : Thread nD τ).loc main_arg2) (ix3 (n0 := 2) (n1 := 1024) (n2 := 512) 1 (row1 t a) b) := by
  refine (congrFun (congrArg _ (W3_args m ρ c main_arg2 (by decide))) _).trans ?_
  refine congrArg (m ((c : Thread nD τ).loc main_arg2)) (ext3 ?_ ?_ ?_)
  · first | rfl | exact congrArg (fun n => n * 1 + 0) (congrFun (idx1 t).2.1 0)
  · unfold row1; blk_ext [idx1 t]
  · blk_ext [idx1 t]

theorem iblk1_2 (c : Dev nD) (t : Fin cfg1.N) (a : Fin 512) (b : Fin 512) :
    (iblk1 (V3 m ρ) c 2 t (ix3 (n0 := 1) (n1 := 512) (n2 := 512) 0 a b) : EReal) = m ((c : Thread nD τ).loc main_arg3) (ix3 (n0 := 2) (n1 := 1024) (n2 := 512) 1 (row1 t a) b) := by
  refine (congrFun (congrArg _ (W3_args m ρ c main_arg3 (by decide))) _).trans ?_
  refine congrArg (m ((c : Thread nD τ).loc main_arg3)) (ext3 ?_ ?_ ?_)
  · first | rfl | exact congrArg (fun n => n * 1 + 0) (congrFun (idx1 t).2.2.1 0)
  · unfold row1; blk_ext [idx1 t]
  · blk_ext [idx1 t]

theorem iblk1_3 (c : Dev nD) (t : Fin cfg1.N) (a : Fin 512) (b : Fin 512) :
    (iblk1 (V3 m ρ) c 3 t (ix3 (n0 := 1) (n1 := 512) (n2 := 512) 0 a b) : EReal) = m ((c : Thread nD τ).loc main_arg4) (ix3 (n0 := 2) (n1 := 1024) (n2 := 512) 1 (row1 t a) b) := by
  refine (congrFun (congrArg _ (W3_args m ρ c main_arg4 (by decide))) _).trans ?_
  refine congrArg (m ((c : Thread nD τ).loc main_arg4)) (ext3 ?_ ?_ ?_)
  · first | rfl | exact congrArg (fun n => n * 1 + 0) (congrFun (idx1 t).2.2.2.1 0)
  · unfold row1; blk_ext [idx1 t]
  · blk_ext [idx1 t]

theorem emb1 (t : Fin cfg1.N) (a : Fin 512) (b : Fin 512) : ((View.whole main_v3_0).slice (win1_4.rect t)).emb (B a b) = J 1 (row1 t a) b := by
  unfold B J
  refine ext3 ?_ ?_ ?_
  · first | rfl | exact congrArg (fun n => n * 1 + 0) (congrFun (idx1 t).2.2.2.2.1 0)
  · unfold row1; blk_ext [idx1 t]
  · blk_ext [idx1 t]

theorem split1 (r : Fin 1024) : ∃ (t : Fin cfg1.N) (a : Fin 512), r = row1 t a :=
  ⟨⟨r.val / 512, by show r.val / 512 < 2; omega⟩, ⟨r.val % 512, by omega⟩, Fin.ext (by show r.val = r.val / 512 * 512 + r.val % 512; omega)⟩

theorem out1_4 (c : Dev nD) (t : Fin cfg1.N) (a : Fin 512) (b : Fin 512) : (outsAt1 (V3 m ρ) c t).1 (B a b) = G4 m c (J 1 (row1 t a) b) := by
  unfold outsAt1 G4 B J
  frame_out
  pointwise [k1_pay1, k1_pay2, k1_pay3, k1_pay4, k1_pay5, k1_pay6, k1_pay7]
  simp only [iblk1_0, iblk1_1, iblk1_2, iblk1_3]
  rw [← val_main_v4_eq]
  pointwise
  simp only [Fin.sum_univ_eight]
  all_goals rfl

theorem new1_4 (c : Dev nD) (r : Fin 1024) (b : Fin 512) : (dat1 (V3 m ρ) c).arrAt 4 cfg1.N (J 1 r b) = G4 m c (J 1 r b) := by
  obtain ⟨t, a, rfl⟩ := split1 r
  refine (dat1 (V3 m ρ) c).arrAt_apply_of_mem 4 (G4 m c) (fun t hf => ?_) cfg1.N t _ t.isLt (flush1_4 t) (Finset.mem_map.mpr ⟨B a b, Finset.mem_univ _, emb1 t a b⟩)
  funext y
  obtain ⟨a, b, rfl⟩ := eq_B y
  blk_simp
  rw [after1_4]
  exact (out1_4 m ρ c t a b).trans (congrArg (G4 m c) (emb1 t a b)).symm

theorem old1_4 (c : Dev nD) (l : Fin 2) (hl : l ≠ 1) (r : Fin 1024) (b : Fin 512) :
    (dat1 (V3 m ρ) c).arrAt 4 cfg1.N (J l r b) = (dat0 (V1 m ρ) c).arrAt 4 cfg0.N (J l r b) := by
  refine ((dat1 (V3 m ρ) c).arrAt_apply_of_forall_not_mem 4 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 4)) _
    show W3 m ρ c (Proc.devRef .tc main_v3_0) = W2 m ρ c (Proc.devRef .tc main_v1_0)
    simp only [W3, hostOps1, List.flatten_cons, List.flatten_nil, List.append_nil, List.cons_append, List.nil_append,
      TRef.binary, TRef.nullary, TRef.unary, TRef.toBuf, TRef.ofBuf, cast_eq]
    after_results
    rfl

theorem out1_5 (c : Dev nD) (t : Fin cfg1.N) (a : Fin 512) (b : Fin 512) : (outsAt1 (V3 m ρ) c t).2.1 (B a b) = G5 m c (J 1 (row1 t a) b) := by
  unfold outsAt1 G5 B J
  frame_out
  pointwise [k1_pay1, k1_pay2, k1_pay3, k1_pay4, k1_pay5, k1_pay6, k1_pay7]
  simp only [iblk1_0, iblk1_1, iblk1_2, iblk1_3]
  rw [← val_main_v28_eq]
  pointwise
  simp only [Fin.sum_univ_eight]
  all_goals rfl

theorem new1_5 (c : Dev nD) (r : Fin 1024) (b : Fin 512) : (dat1 (V3 m ρ) c).arrAt 5 cfg1.N (J 1 r b) = G5 m c (J 1 r b) := by
  obtain ⟨t, a, rfl⟩ := split1 r
  refine (dat1 (V3 m ρ) c).arrAt_apply_of_mem 5 (G5 m c) (fun t hf => ?_) cfg1.N t _ t.isLt (flush1_5 t) (Finset.mem_map.mpr ⟨B a b, Finset.mem_univ _, emb1 t a b⟩)
  funext y
  obtain ⟨a, b, rfl⟩ := eq_B y
  blk_simp
  rw [after1_5]
  exact (out1_5 m ρ c t a b).trans (congrArg (G5 m c) (emb1 t a b)).symm

theorem old1_5 (c : Dev nD) (l : Fin 2) (hl : l ≠ 1) (r : Fin 1024) (b : Fin 512) :
    (dat1 (V3 m ρ) c).arrAt 5 cfg1.N (J l r b) = (dat0 (V1 m ρ) c).arrAt 5 cfg0.N (J l r b) := by
  refine ((dat1 (V3 m ρ) c).arrAt_apply_of_forall_not_mem 5 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 5)) _
    show W3 m ρ c (Proc.devRef .tc main_v3_1) = W2 m ρ c (Proc.devRef .tc main_v1_1)
    simp only [W3, hostOps1, List.flatten_cons, List.flatten_nil, List.append_nil, List.cons_append, List.nil_append,
      TRef.binary, TRef.nullary, TRef.unary, TRef.toBuf, TRef.ofBuf, cast_eq]
    after_results
    rfl

theorem out1_6 (c : Dev nD) (t : Fin cfg1.N) (a : Fin 512) (b : Fin 512) : (outsAt1 (V3 m ρ) c t).2.2.1 (B a b) = G6 m c (J 1 (row1 t a) b) := by
  unfold outsAt1 G6 B J
  frame_out
  pointwise [k1_pay1, k1_pay2, k1_pay3, k1_pay4, k1_pay5, k1_pay6, k1_pay7]
  simp only [iblk1_0, iblk1_1, iblk1_2, iblk1_3]
  rw [← val_main_v9_eq]
  pointwise
  simp only [Fin.sum_univ_eight]
  all_goals rfl

theorem new1_6 (c : Dev nD) (r : Fin 1024) (b : Fin 512) : (dat1 (V3 m ρ) c).arrAt 6 cfg1.N (J 1 r b) = G6 m c (J 1 r b) := by
  obtain ⟨t, a, rfl⟩ := split1 r
  refine (dat1 (V3 m ρ) c).arrAt_apply_of_mem 6 (G6 m c) (fun t hf => ?_) cfg1.N t _ t.isLt (flush1_6 t) (Finset.mem_map.mpr ⟨B a b, Finset.mem_univ _, emb1 t a b⟩)
  funext y
  obtain ⟨a, b, rfl⟩ := eq_B y
  blk_simp
  rw [after1_6]
  exact (out1_6 m ρ c t a b).trans (congrArg (G6 m c) (emb1 t a b)).symm

theorem old1_6 (c : Dev nD) (l : Fin 2) (hl : l ≠ 1) (r : Fin 1024) (b : Fin 512) :
    (dat1 (V3 m ρ) c).arrAt 6 cfg1.N (J l r b) = (dat0 (V1 m ρ) c).arrAt 6 cfg0.N (J l r b) := by
  refine ((dat1 (V3 m ρ) c).arrAt_apply_of_forall_not_mem 6 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 6)) _
    show W3 m ρ c (Proc.devRef .tc main_v3_2) = W2 m ρ c (Proc.devRef .tc main_v1_2)
    simp only [W3, hostOps1, List.flatten_cons, List.flatten_nil, List.append_nil, List.cons_append, List.nil_append,
      TRef.binary, TRef.nullary, TRef.unary, TRef.toBuf, TRef.ofBuf, cast_eq]
    after_results
    rfl

theorem out1_7 (c : Dev nD) (t : Fin cfg1.N) (a : Fin 512) (b : Fin 512) : (outsAt1 (V3 m ρ) c t).2.2.2 (B a b) = G7 m c (J 1 (row1 t a) b) := by
  unfold outsAt1 G7 B J
  frame_out
  pointwise [k1_pay1, k1_pay2, k1_pay3, k1_pay4, k1_pay5, k1_pay6, k1_pay7]
  simp only [iblk1_0, iblk1_1, iblk1_2, iblk1_3]
  rw [← val_main_v15_eq]
  pointwise
  simp only [Fin.sum_univ_eight]
  all_goals rfl

theorem new1_7 (c : Dev nD) (r : Fin 1024) (b : Fin 512) : (dat1 (V3 m ρ) c).arrAt 7 cfg1.N (J 1 r b) = G7 m c (J 1 r b) := by
  obtain ⟨t, a, rfl⟩ := split1 r
  refine (dat1 (V3 m ρ) c).arrAt_apply_of_mem 7 (G7 m c) (fun t hf => ?_) cfg1.N t _ t.isLt (flush1_7 t) (Finset.mem_map.mpr ⟨B a b, Finset.mem_univ _, emb1 t a b⟩)
  funext y
  obtain ⟨a, b, rfl⟩ := eq_B y
  blk_simp
  rw [after1_7]
  exact (out1_7 m ρ c t a b).trans (congrArg (G7 m c) (emb1 t a b)).symm

theorem old1_7 (c : Dev nD) (l : Fin 2) (hl : l ≠ 1) (r : Fin 1024) (b : Fin 512) :
    (dat1 (V3 m ρ) c).arrAt 7 cfg1.N (J l r b) = (dat0 (V1 m ρ) c).arrAt 7 cfg0.N (J l r b) := by
  refine ((dat1 (V3 m ρ) c).arrAt_apply_of_forall_not_mem 7 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 7)) _
    show W3 m ρ c (Proc.devRef .tc main_v3_3) = W2 m ρ c (Proc.devRef .tc main_v1_3)
    simp only [W3, hostOps1, List.flatten_cons, List.flatten_nil, List.append_nil, List.cons_append, List.nil_append,
      TRef.binary, TRef.nullary, TRef.unary, TRef.toBuf, TRef.ofBuf, cast_eq]
    after_results
    rfl

/-! ## The four arrays after the last call -/

theorem final4 (c : Dev nD) : W4 m ρ c (Proc.devRef .tc main_v3_0) = G4 m c := by
  refine (W4_arr m ρ c 4).trans (funext fun i => ?_)
  obtain ⟨l, r, b, rfl⟩ : ∃ (l : Fin 2) (r : Fin 1024) (b : Fin 512), i = J l r b := ⟨i 0, i 1, i 2, eq_ix3 i⟩
  fin_cases l
  · exact (old1_4 m ρ c 0 (by decide) r b).trans (new0_4 m ρ c r b)
  · exact new1_4 m ρ c r b

theorem final5 (c : Dev nD) : W4 m ρ c (Proc.devRef .tc main_v3_1) = G5 m c := by
  refine (W4_arr m ρ c 5).trans (funext fun i => ?_)
  obtain ⟨l, r, b, rfl⟩ : ∃ (l : Fin 2) (r : Fin 1024) (b : Fin 512), i = J l r b := ⟨i 0, i 1, i 2, eq_ix3 i⟩
  fin_cases l
  · exact (old1_5 m ρ c 0 (by decide) r b).trans (new0_5 m ρ c r b)
  · exact new1_5 m ρ c r b

theorem final6 (c : Dev nD) : W4 m ρ c (Proc.devRef .tc main_v3_2) = G6 m c := by
  refine (W4_arr m ρ c 6).trans (funext fun i => ?_)
  obtain ⟨l, r, b, rfl⟩ : ∃ (l : Fin 2) (r : Fin 1024) (b : Fin 512), i = J l r b := ⟨i 0, i 1, i 2, eq_ix3 i⟩
  fin_cases l
  · exact (old1_6 m ρ c 0 (by decide) r b).trans (new0_6 m ρ c r b)
  · exact new1_6 m ρ c r b

theorem final7 (c : Dev nD) : W4 m ρ c (Proc.devRef .tc main_v3_3) = G7 m c := by
  refine (W4_arr m ρ c 7).trans (funext fun i => ?_)
  obtain ⟨l, r, b, rfl⟩ : ∃ (l : Fin 2) (r : Fin 1024) (b : Fin 512), i = J l r b := ⟨i 0, i 1, i 2, eq_ix3 i⟩
  fin_cases l
  · exact (old1_7 m ρ c 0 (by decide) r b).trans (new0_7 m ρ c r b)
  · exact new1_7 m ρ c r b

section Run

open Idealize.SL.RA Idealize.SL.BI.BIBase Idealize.SL.BI.Laws Idealize.SL.ProofMode Idealize.ShloMosaic.Rounds Idealize.ShloMosaic.Tactic
open scoped Idealize.SL.BI
open Idealize.ShloMosaic.Pipeline (Cfg Window BodyObligation cellOf)

set_option backward.isDefEq.respectTransparency.types false in
/-- The run, its results named. -/
theorem run_values : θ_run defs (onTc (τ := τ) (main (F := Ideal))) ⟨m, fun _ => 0, ρ⟩ (fun r => ∀ c : Dev nD,
      r.2.mem ((c.tc : Thread nD τ).loc main_v3_0) = Cert.OptOdInRefIdeal.Read.val_main_v4 (F := Ideal) (m ((c : Thread nD τ).loc main_arg0)) (m ((c : Thread nD τ).loc main_arg1))
      ∧ r.2.mem ((c.tc : Thread nD τ).loc main_v3_1) = Cert.OptOdInRefIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v3_2) = Cert.OptOdInRefIdeal.Read.val_main_v9 (F := Ideal) (m ((c : Thread nD τ).loc main_arg0)) (m ((c : Thread nD τ).loc main_arg1)) (m ((c : Thread nD τ).loc main_arg3))
      ∧ r.2.mem ((c.tc : Thread nD τ).loc main_v3_3) = Cert.OptOdInRefIdeal.Read.val_main_v15 (F := Ideal) (m ((c : Thread nD τ).loc main_arg0)) (m ((c : Thread nD τ).loc main_arg1)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v3_0 (by decide))).trans (final4 m ρ c),
       (h c _ (mem_uc main_v3_1 (by decide))).trans (final5 m ρ c),
       (h c _ (mem_uc main_v3_2 (by decide))).trans (final6 m ρ c),
       (h c _ (mem_uc main_v3_3 (by decide))).trans (final7 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Run

end Cert.OptOdInIdeal.Hand

end
-- ==== Proof.OptW1.lean ====
module

public import proofs.«01_k».proof.Proof.Gen.OptW1.Frame
public import proofs.«01_k».proof.Proof.Gen.OptW1Ideal.Frame
public import proofs.«01_k».proof.Proof.Gen.OptW1RefIdeal.Run
public import proofs.«01_k».proof.Proof.Gen.OptW1RefIdeal.Read
public import Idealize.ShloMosaic.Lib.Pipeline.ValueKit
public import Idealize.ShloMosaic.Lib.Pointwise
public import Idealize.ShloMosaic.Lib.Claim

/-! # One optimiser step of the weights of the first product of the multilayer perceptron

One call per layer, each writing its own rows of the same four arrays. After the last call row block `l` of each array holds what the
call of layer `l` wrote: its own blocks cover that row block, and no later call touches it. -/

@[expose] public section

set_option maxRecDepth 16384

noncomputable section

namespace Cert.OptW1Ideal.Hand

open Cert.OptW1Ideal Cert.OptW1Ideal.Gen
open Idealize.ShloMosaic Idealize.ShloMosaic.TcCoe Idealize.SL Idealize.SL.BI Idealize.SL.Sem Idealize.ShloMosaic.StableHlo
open Idealize.ShloMosaic.Pipeline (Dat)
open Cert.OptW1RefIdeal.Read

variable (m : (ℓ : Loc nD τ sig) → Buf (Elt Ideal) ℓ) (ρ : Dev nD → PrngReg)

/-- Two indices of three axes are equal when their coordinates are. -/
theorem ext3 {n : Fin 3 → ℕ} {x y : ∀ k, Fin (n k)} (h0 : (x 0).val = (y 0).val) (h1 : (x 1).val = (y 1).val) (h2 : (x 2).val = (y 2).val) : x = y :=
  funext (Fin.forall_fin_succ.mpr ⟨Fin.ext h0, Fin.forall_fin_two.mpr ⟨Fin.ext h1, Fin.ext h2⟩⟩)

/-- An index of an array, and one of a block. -/
abbrev J (l : Fin 4) (r : Fin 1024) (b : Fin 512) : S4x1024x512.Idx := ix3 (n0 := 4) (n1 := 1024) (n2 := 512) l r b
abbrev B (a : Fin 512) (b : Fin 512) : S1x512x512.Idx := ix3 (n0 := 1) (n1 := 512) (n2 := 512) 0 a b

theorem eq_B (y : S1x512x512.Idx) : ∃ (a : Fin 512) (b : Fin 512), y = B a b :=
  ⟨y 1, y 2, (eq_ix3 y).trans (congrArg (fun l : Fin 1 => ix3 (n0 := 1) (n1 := 512) (n2 := 512) l (y 1) (y 2)) (Subsingleton.elim _ _))⟩

/-- The gradient, as the reference has it. -/
abbrev G4 (c : Dev nD) : Vec Ideal S4x1024x512 .f32 := Cert.OptW1RefIdeal.Read.val_main_v8 (F := Ideal) (m ((c : Thread nD τ).loc main_arg0)) (m ((c : Thread nD τ).loc main_arg1)) (m ((c : Thread nD τ).loc main_arg2)) (m ((c : Thread nD τ).loc main_arg3))

/-- The update, as the reference has it. -/
abbrev G5 (c : Dev nD) : Vec Ideal S4x1024x512 .f32 := Cert.OptW1RefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The first moment, as the reference has it. -/
abbrev G6 (c : Dev nD) : Vec Ideal S4x1024x512 .f32 := Cert.OptW1RefIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg5))

/-- The second moment, as the reference has it. -/
abbrev G7 (c : Dev nD) : Vec Ideal S4x1024x512 .f32 := Cert.OptW1RefIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg6))

/-! ## The call of layer 0 -/

/-- The windows' block indices at point `t`. -/
theorem idx0 : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- Row `a` of the row block of point `t`. -/
def row0 (t : Fin cfg0.N) (a : Fin 512) : Fin 1024 := ⟨t.val * 512 + a.val, by have h1 : t.val < 2 := t.isLt; omega⟩

theorem iblk0_0 (c : Dev nD) (t : Fin cfg0.N) (d : Fin 8) (a : Fin 512) (b : Fin 512) :
    (iblk0 (V1 m ρ) c 0 t (ix3 (n0 := 8) (n1 := 512) (n2 := 512) d a b) : EReal) = m ((c : Thread nD τ).loc main_arg0) (ix3 (n0 := 8) (n1 := 1024) (n2 := 512) d (row0 t a) b) := by
  have h := W0_args m ρ c main_arg0 (by decide)
  blk_simp [iblk0, idx0 t]
  simp only [V1, W1, hostOps0, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg0)) (ext3 ?_ ?_ ?_)
  · blk_ext [idx0 t]
  · unfold row0; blk_ext [idx0 t]
  · blk_ext [idx0 t]

theorem iblk0_1 (c : Dev nD) (t : Fin cfg0.N) (a : Fin 512) (b : Fin 512) :
    (iblk0 (V1 m ρ) c 1 t (ix3 (n0 := 1) (n1 := 512) (n2 := 512) 0 a b) : EReal) = m ((c : Thread nD τ).loc main_arg4) (ix3 (n0 := 4) (n1 := 1024) (n2 := 512) 0 (row0 t a) b) := by
  refine (congrFun (congrArg _ (W1_args m ρ c main_arg4 (by decide))) _).trans ?_
  refine congrArg (m ((c : Thread nD τ).loc main_arg4)) (ext3 ?_ ?_ ?_)
  · first | rfl | exact congrArg (fun n => n * 1 + 0) (congrFun (idx0 t).2.1 0)
  · unfold row0; blk_ext [idx0 t]
  · blk_ext [idx0 t]

theorem iblk0_2 (c : Dev nD) (t : Fin cfg0.N) (a : Fin 512) (b : Fin 512) :
    (iblk0 (V1 m ρ) c 2 t (ix3 (n0 := 1) (n1 := 512) (n2 := 512) 0 a b) : EReal) = m ((c : Thread nD τ).loc main_arg5) (ix3 (n0 := 4) (n1 := 1024) (n2 := 512) 0 (row0 t a) b) := by
  refine (congrFun (congrArg _ (W1_args m ρ c main_arg5 (by decide))) _).trans ?_
  refine congrArg (m ((c : Thread nD τ).loc main_arg5)) (ext3 ?_ ?_ ?_)
  · first | rfl | exact congrArg (fun n => n * 1 + 0) (congrFun (idx0 t).2.2.1 0)
  · unfold row0; blk_ext [idx0 t]
  · blk_ext [idx0 t]

theorem iblk0_3 (c : Dev nD) (t : Fin cfg0.N) (a : Fin 512) (b : Fin 512) :
    (iblk0 (V1 m ρ) c 3 t (ix3 (n0 := 1) (n1 := 512) (n2 := 512) 0 a b) : EReal) = m ((c : Thread nD τ).loc main_arg6) (ix3 (n0 := 4) (n1 := 1024) (n2 := 512) 0 (row0 t a) b) := by
  refine (congrFun (congrArg _ (W1_args m ρ c main_arg6 (by decide))) _).trans ?_
  refine congrArg (m ((c : Thread nD τ).loc main_arg6)) (ext3 ?_ ?_ ?_)
  · first | rfl | exact congrArg (fun n => n * 1 + 0) (congrFun (idx0 t).2.2.2.1 0)
  · unfold row0; blk_ext [idx0 t]
  · blk_ext [idx0 t]

theorem emb0 (t : Fin cfg0.N) (a : Fin 512) (b : Fin 512) : ((View.whole main_v1_0).slice (win0_4.rect t)).emb (B a b) = J 0 (row0 t a) b := by
  unfold B J
  refine ext3 ?_ ?_ ?_
  · first | rfl | exact congrArg (fun n => n * 1 + 0) (congrFun (idx0 t).2.2.2.2.1 0)
  · unfold row0; blk_ext [idx0 t]
  · blk_ext [idx0 t]

theorem split0 (r : Fin 1024) : ∃ (t : Fin cfg0.N) (a : Fin 512), r = row0 t a :=
  ⟨⟨r.val / 512, by show r.val / 512 < 2; omega⟩, ⟨r.val % 512, by omega⟩, Fin.ext (by show r.val = r.val / 512 * 512 + r.val % 512; omega)⟩

theorem out0_4 (c : Dev nD) (t : Fin cfg0.N) (a : Fin 512) (b : Fin 512) : (outsAt0 (V1 m ρ) c t).1 (B a b) = G4 m c (J 0 (row0 t a) b) := by
  unfold outsAt0 G4 B J
  frame_out
  pointwise [k0_pay1, k0_pay2, k0_pay3, k0_pay4, k0_pay5, k0_pay6, k0_pay7]
  simp only [iblk0_0, iblk0_1, iblk0_2, iblk0_3]
  rw [← val_main_v8_eq]
  pointwise
  simp only [Fin.sum_univ_eight]
  all_goals rfl

theorem new0_4 (c : Dev nD) (r : Fin 1024) (b : Fin 512) : (dat0 (V1 m ρ) c).arrAt 4 cfg0.N (J 0 r b) = G4 m c (J 0 r b) := by
  obtain ⟨t, a, rfl⟩ := split0 r
  refine (dat0 (V1 m ρ) c).arrAt_apply_of_mem 4 (G4 m c) (fun t hf => ?_) cfg0.N t _ t.isLt (flush0_4 t) (Finset.mem_map.mpr ⟨B a b, Finset.mem_univ _, emb0 t a b⟩)
  funext y
  obtain ⟨a, b, rfl⟩ := eq_B y
  blk_simp
  rw [after0_4]
  exact (out0_4 m ρ c t a b).trans (congrArg (G4 m c) (emb0 t a b)).symm

attribute [local pointwise] val_main_v0 val_main_v1 val_main_v2 val_main_v3 val_main_v4 val_main_v5 val_main_v6 val_main_v7 val_main_v8 val_main_v9 val_main_cst val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28 val_main_v29 val_main_v30 val_main_v31 val_main_v32 val_main_cst_0 val_main_cst_1 val_main_cst_2 val_main_cst_3 val_main_cst_4 val_main_cst_5 val_main_cst_6 val_main_cst_7 val_main_cst_8 val_main_cst_9 val_main_cst_10 val_main_cst_11

theorem out0_5 (c : Dev nD) (t : Fin cfg0.N) (a : Fin 512) (b : Fin 512) : (outsAt0 (V1 m ρ) c t).2.1 (B a b) = G5 m c (J 0 (row0 t a) b) := by
  unfold outsAt0 G5 B J
  frame_out
  pointwise [k0_pay1, k0_pay2, k0_pay3, k0_pay4, k0_pay5, k0_pay6, k0_pay7]
  simp only [iblk0_0, iblk0_1, iblk0_2, iblk0_3]
  pointwise
  simp only [Fin.sum_univ_eight]
  all_goals rfl

theorem new0_5 (c : Dev nD) (r : Fin 1024) (b : Fin 512) : (dat0 (V1 m ρ) c).arrAt 5 cfg0.N (J 0 r b) = G5 m c (J 0 r b) := by
  obtain ⟨t, a, rfl⟩ := split0 r
  refine (dat0 (V1 m ρ) c).arrAt_apply_of_mem 5 (G5 m c) (fun t hf => ?_) cfg0.N t _ t.isLt (flush0_5 t) (Finset.mem_map.mpr ⟨B a b, Finset.mem_univ _, emb0 t a b⟩)
  funext y
  obtain ⟨a, b, rfl⟩ := eq_B y
  blk_simp
  rw [after0_5]
  exact (out0_5 m ρ c t a b).trans (congrArg (G5 m c) (emb0 t a b)).symm

theorem out0_6 (c : Dev nD) (t : Fin cfg0.N) (a : Fin 512) (b : Fin 512) : (outsAt0 (V1 m ρ) c t).2.2.1 (B a b) = G6 m c (J 0 (row0 t a) b) := by
  unfold outsAt0 G6 B J
  frame_out
  pointwise [k0_pay1, k0_pay2, k0_pay3, k0_pay4, k0_pay5, k0_pay6, k0_pay7]
  simp only [iblk0_0, iblk0_1, iblk0_2, iblk0_3]
  simp only [Fin.sum_univ_eight]
  all_goals rfl

theorem new0_6 (c : Dev nD) (r : Fin 1024) (b : Fin 512) : (dat0 (V1 m ρ) c).arrAt 6 cfg0.N (J 0 r b) = G6 m c (J 0 r b) := by
  obtain ⟨t, a, rfl⟩ := split0 r
  refine (dat0 (V1 m ρ) c).arrAt_apply_of_mem 6 (G6 m c) (fun t hf => ?_) cfg0.N t _ t.isLt (flush0_6 t) (Finset.mem_map.mpr ⟨B a b, Finset.mem_univ _, emb0 t a b⟩)
  funext y
  obtain ⟨a, b, rfl⟩ := eq_B y
  blk_simp
  rw [after0_6]
  exact (out0_6 m ρ c t a b).trans (congrArg (G6 m c) (emb0 t a b)).symm

theorem out0_7 (c : Dev nD) (t : Fin cfg0.N) (a : Fin 512) (b : Fin 512) : (outsAt0 (V1 m ρ) c t).2.2.2 (B a b) = G7 m c (J 0 (row0 t a) b) := by
  unfold outsAt0 G7 B J
  frame_out
  pointwise [k0_pay1, k0_pay2, k0_pay3, k0_pay4, k0_pay5, k0_pay6, k0_pay7]
  simp only [iblk0_0, iblk0_1, iblk0_2, iblk0_3]
  simp only [Fin.sum_univ_eight]
  all_goals rfl

theorem new0_7 (c : Dev nD) (r : Fin 1024) (b : Fin 512) : (dat0 (V1 m ρ) c).arrAt 7 cfg0.N (J 0 r b) = G7 m c (J 0 r b) := by
  obtain ⟨t, a, rfl⟩ := split0 r
  refine (dat0 (V1 m ρ) c).arrAt_apply_of_mem 7 (G7 m c) (fun t hf => ?_) cfg0.N t _ t.isLt (flush0_7 t) (Finset.mem_map.mpr ⟨B a b, Finset.mem_univ _, emb0 t a b⟩)
  funext y
  obtain ⟨a, b, rfl⟩ := eq_B y
  blk_simp
  rw [after0_7]
  exact (out0_7 m ρ c t a b).trans (congrArg (G7 m c) (emb0 t a b)).symm

/-! ## The call of layer 1 -/

/-- The windows' block indices at point `t`. -/
theorem idx1 : ∀ t : Fin cfg1.N, win1_0.index t = ![0, t.val, 0] ∧ win1_1.index t = ![1, t.val, 0] ∧ win1_2.index t = ![1, t.val, 0] ∧ win1_3.index t = ![1, t.val, 0] ∧ win1_4.index t = ![1, t.val, 0] ∧ win1_5.index t = ![1, t.val, 0] ∧ win1_6.index t = ![1, t.val, 0] ∧ win1_7.index t = ![1, t.val, 0] :=
  (by decide +kernel : ∀ t : Fin grid1.N, _)

/-- Row `a` of the row block of point `t`. -/
def row1 (t : Fin cfg1.N) (a : Fin 512) : Fin 1024 := ⟨t.val * 512 + a.val, by have h1 : t.val < 2 := t.isLt; omega⟩

theorem iblk1_0 (c : Dev nD) (t : Fin cfg1.N) (d : Fin 8) (a : Fin 512) (b : Fin 512) :
    (iblk1 (V3 m ρ) c 0 t (ix3 (n0 := 8) (n1 := 512) (n2 := 512) d a b) : EReal) = m ((c : Thread nD τ).loc main_arg1) (ix3 (n0 := 8) (n1 := 1024) (n2 := 512) d (row1 t a) b) := by
  have h := W2_args m ρ c main_arg1 (by decide)
  blk_simp [iblk1, idx1 t]
  simp only [V3, W3, hostOps1, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg1)) (ext3 ?_ ?_ ?_)
  · blk_ext [idx1 t]
  · unfold row1; blk_ext [idx1 t]
  · blk_ext [idx1 t]

theorem iblk1_1 (c : Dev nD) (t : Fin cfg1.N) (a : Fin 512) (b : Fin 512) :
    (iblk1 (V3 m ρ) c 1 t (ix3 (n0 := 1) (n1 := 512) (n2 := 512) 0 a b) : EReal) = m ((c : Thread nD τ).loc main_arg4) (ix3 (n0 := 4) (n1 := 1024) (n2 := 512) 1 (row1 t a) b) := by
  refine (congrFun (congrArg _ (W3_args m ρ c main_arg4 (by decide))) _).trans ?_
  refine congrArg (m ((c : Thread nD τ).loc main_arg4)) (ext3 ?_ ?_ ?_)
  · first | rfl | exact congrArg (fun n => n * 1 + 0) (congrFun (idx1 t).2.1 0)
  · unfold row1; blk_ext [idx1 t]
  · blk_ext [idx1 t]

theorem iblk1_2 (c : Dev nD) (t : Fin cfg1.N) (a : Fin 512) (b : Fin 512) :
    (iblk1 (V3 m ρ) c 2 t (ix3 (n0 := 1) (n1 := 512) (n2 := 512) 0 a b) : EReal) = m ((c : Thread nD τ).loc main_arg5) (ix3 (n0 := 4) (n1 := 1024) (n2 := 512) 1 (row1 t a) b) := by
  refine (congrFun (congrArg _ (W3_args m ρ c main_arg5 (by decide))) _).trans ?_
  refine congrArg (m ((c : Thread nD τ).loc main_arg5)) (ext3 ?_ ?_ ?_)
  · first | rfl | exact congrArg (fun n => n * 1 + 0) (congrFun (idx1 t).2.2.1 0)
  · unfold row1; blk_ext [idx1 t]
  · blk_ext [idx1 t]

theorem iblk1_3 (c : Dev nD) (t : Fin cfg1.N) (a : Fin 512) (b : Fin 512) :
    (iblk1 (V3 m ρ) c 3 t (ix3 (n0 := 1) (n1 := 512) (n2 := 512) 0 a b) : EReal) = m ((c : Thread nD τ).loc main_arg6) (ix3 (n0 := 4) (n1 := 1024) (n2 := 512) 1 (row1 t a) b) := by
  refine (congrFun (congrArg _ (W3_args m ρ c main_arg6 (by decide))) _).trans ?_
  refine congrArg (m ((c : Thread nD τ).loc main_arg6)) (ext3 ?_ ?_ ?_)
  · first | rfl | exact congrArg (fun n => n * 1 + 0) (congrFun (idx1 t).2.2.2.1 0)
  · unfold row1; blk_ext [idx1 t]
  · blk_ext [idx1 t]

theorem emb1 (t : Fin cfg1.N) (a : Fin 512) (b : Fin 512) : ((View.whole main_v3_0).slice (win1_4.rect t)).emb (B a b) = J 1 (row1 t a) b := by
  unfold B J
  refine ext3 ?_ ?_ ?_
  · first | rfl | exact congrArg (fun n => n * 1 + 0) (congrFun (idx1 t).2.2.2.2.1 0)
  · unfold row1; blk_ext [idx1 t]
  · blk_ext [idx1 t]

theorem split1 (r : Fin 1024) : ∃ (t : Fin cfg1.N) (a : Fin 512), r = row1 t a :=
  ⟨⟨r.val / 512, by show r.val / 512 < 2; omega⟩, ⟨r.val % 512, by omega⟩, Fin.ext (by show r.val = r.val / 512 * 512 + r.val % 512; omega)⟩

theorem out1_4 (c : Dev nD) (t : Fin cfg1.N) (a : Fin 512) (b : Fin 512) : (outsAt1 (V3 m ρ) c t).1 (B a b) = G4 m c (J 1 (row1 t a) b) := by
  unfold outsAt1 G4 B J
  frame_out
  pointwise [k1_pay1, k1_pay2, k1_pay3, k1_pay4, k1_pay5, k1_pay6, k1_pay7]
  simp only [iblk1_0, iblk1_1, iblk1_2, iblk1_3]
  simp only [Fin.sum_univ_eight]
  all_goals rfl

theorem new1_4 (c : Dev nD) (r : Fin 1024) (b : Fin 512) : (dat1 (V3 m ρ) c).arrAt 4 cfg1.N (J 1 r b) = G4 m c (J 1 r b) := by
  obtain ⟨t, a, rfl⟩ := split1 r
  refine (dat1 (V3 m ρ) c).arrAt_apply_of_mem 4 (G4 m c) (fun t hf => ?_) cfg1.N t _ t.isLt (flush1_4 t) (Finset.mem_map.mpr ⟨B a b, Finset.mem_univ _, emb1 t a b⟩)
  funext y
  obtain ⟨a, b, rfl⟩ := eq_B y
  blk_simp
  rw [after1_4]
  exact (out1_4 m ρ c t a b).trans (congrArg (G4 m c) (emb1 t a b)).symm

theorem old1_4 (c : Dev nD) (l : Fin 4) (hl : l ≠ 1) (r : Fin 1024) (b : Fin 512) :
    (dat1 (V3 m ρ) c).arrAt 4 cfg1.N (J l r b) = (dat0 (V1 m ρ) c).arrAt 4 cfg0.N (J l r b) := by
  refine ((dat1 (V3 m ρ) c).arrAt_apply_of_forall_not_mem 4 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 4)) _
    show W3 m ρ c (Proc.devRef .tc main_v3_0) = W2 m ρ c (Proc.devRef .tc main_v1_0)
    simp only [W3, hostOps1, List.flatten_cons, List.flatten_nil, List.append_nil, List.cons_append, List.nil_append,
      TRef.binary, TRef.nullary, TRef.unary, TRef.toBuf, TRef.ofBuf, cast_eq]
    after_results
    rfl

theorem out1_5 (c : Dev nD) (t : Fin cfg1.N) (a : Fin 512) (b : Fin 512) : (outsAt1 (V3 m ρ) c t).2.1 (B a b) = G5 m c (J 1 (row1 t a) b) := by
  unfold outsAt1 G5 B J
  frame_out
  pointwise [k1_pay1, k1_pay2, k1_pay3, k1_pay4, k1_pay5, k1_pay6, k1_pay7]
  simp only [iblk1_0, iblk1_1, iblk1_2, iblk1_3]
  pointwise
  simp only [Fin.sum_univ_eight]
  all_goals rfl

theorem new1_5 (c : Dev nD) (r : Fin 1024) (b : Fin 512) : (dat1 (V3 m ρ) c).arrAt 5 cfg1.N (J 1 r b) = G5 m c (J 1 r b) := by
  obtain ⟨t, a, rfl⟩ := split1 r
  refine (dat1 (V3 m ρ) c).arrAt_apply_of_mem 5 (G5 m c) (fun t hf => ?_) cfg1.N t _ t.isLt (flush1_5 t) (Finset.mem_map.mpr ⟨B a b, Finset.mem_univ _, emb1 t a b⟩)
  funext y
  obtain ⟨a, b, rfl⟩ := eq_B y
  blk_simp
  rw [after1_5]
  exact (out1_5 m ρ c t a b).trans (congrArg (G5 m c) (emb1 t a b)).symm

theorem old1_5 (c : Dev nD) (l : Fin 4) (hl : l ≠ 1) (r : Fin 1024) (b : Fin 512) :
    (dat1 (V3 m ρ) c).arrAt 5 cfg1.N (J l r b) = (dat0 (V1 m ρ) c).arrAt 5 cfg0.N (J l r b) := by
  refine ((dat1 (V3 m ρ) c).arrAt_apply_of_forall_not_mem 5 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 5)) _
    show W3 m ρ c (Proc.devRef .tc main_v3_1) = W2 m ρ c (Proc.devRef .tc main_v1_1)
    simp only [W3, hostOps1, List.flatten_cons, List.flatten_nil, List.append_nil, List.cons_append, List.nil_append,
      TRef.binary, TRef.nullary, TRef.unary, TRef.toBuf, TRef.ofBuf, cast_eq]
    after_results
    rfl

theorem out1_6 (c : Dev nD) (t : Fin cfg1.N) (a : Fin 512) (b : Fin 512) : (outsAt1 (V3 m ρ) c t).2.2.1 (B a b) = G6 m c (J 1 (row1 t a) b) := by
  unfold outsAt1 G6 B J
  frame_out
  pointwise [k1_pay1, k1_pay2, k1_pay3, k1_pay4, k1_pay5, k1_pay6, k1_pay7]
  simp only [iblk1_0, iblk1_1, iblk1_2, iblk1_3]
  simp only [Fin.sum_univ_eight]
  all_goals rfl

theorem new1_6 (c : Dev nD) (r : Fin 1024) (b : Fin 512) : (dat1 (V3 m ρ) c).arrAt 6 cfg1.N (J 1 r b) = G6 m c (J 1 r b) := by
  obtain ⟨t, a, rfl⟩ := split1 r
  refine (dat1 (V3 m ρ) c).arrAt_apply_of_mem 6 (G6 m c) (fun t hf => ?_) cfg1.N t _ t.isLt (flush1_6 t) (Finset.mem_map.mpr ⟨B a b, Finset.mem_univ _, emb1 t a b⟩)
  funext y
  obtain ⟨a, b, rfl⟩ := eq_B y
  blk_simp
  rw [after1_6]
  exact (out1_6 m ρ c t a b).trans (congrArg (G6 m c) (emb1 t a b)).symm

theorem old1_6 (c : Dev nD) (l : Fin 4) (hl : l ≠ 1) (r : Fin 1024) (b : Fin 512) :
    (dat1 (V3 m ρ) c).arrAt 6 cfg1.N (J l r b) = (dat0 (V1 m ρ) c).arrAt 6 cfg0.N (J l r b) := by
  refine ((dat1 (V3 m ρ) c).arrAt_apply_of_forall_not_mem 6 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 6)) _
    show W3 m ρ c (Proc.devRef .tc main_v3_2) = W2 m ρ c (Proc.devRef .tc main_v1_2)
    simp only [W3, hostOps1, List.flatten_cons, List.flatten_nil, List.append_nil, List.cons_append, List.nil_append,
      TRef.binary, TRef.nullary, TRef.unary, TRef.toBuf, TRef.ofBuf, cast_eq]
    after_results
    rfl

theorem out1_7 (c : Dev nD) (t : Fin cfg1.N) (a : Fin 512) (b : Fin 512) : (outsAt1 (V3 m ρ) c t).2.2.2 (B a b) = G7 m c (J 1 (row1 t a) b) := by
  unfold outsAt1 G7 B J
  frame_out
  pointwise [k1_pay1, k1_pay2, k1_pay3, k1_pay4, k1_pay5, k1_pay6, k1_pay7]
  simp only [iblk1_0, iblk1_1, iblk1_2, iblk1_3]
  simp only [Fin.sum_univ_eight]
  all_goals rfl

theorem new1_7 (c : Dev nD) (r : Fin 1024) (b : Fin 512) : (dat1 (V3 m ρ) c).arrAt 7 cfg1.N (J 1 r b) = G7 m c (J 1 r b) := by
  obtain ⟨t, a, rfl⟩ := split1 r
  refine (dat1 (V3 m ρ) c).arrAt_apply_of_mem 7 (G7 m c) (fun t hf => ?_) cfg1.N t _ t.isLt (flush1_7 t) (Finset.mem_map.mpr ⟨B a b, Finset.mem_univ _, emb1 t a b⟩)
  funext y
  obtain ⟨a, b, rfl⟩ := eq_B y
  blk_simp
  rw [after1_7]
  exact (out1_7 m ρ c t a b).trans (congrArg (G7 m c) (emb1 t a b)).symm

theorem old1_7 (c : Dev nD) (l : Fin 4) (hl : l ≠ 1) (r : Fin 1024) (b : Fin 512) :
    (dat1 (V3 m ρ) c).arrAt 7 cfg1.N (J l r b) = (dat0 (V1 m ρ) c).arrAt 7 cfg0.N (J l r b) := by
  refine ((dat1 (V3 m ρ) c).arrAt_apply_of_forall_not_mem 7 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 7)) _
    show W3 m ρ c (Proc.devRef .tc main_v3_3) = W2 m ρ c (Proc.devRef .tc main_v1_3)
    simp only [W3, hostOps1, List.flatten_cons, List.flatten_nil, List.append_nil, List.cons_append, List.nil_append,
      TRef.binary, TRef.nullary, TRef.unary, TRef.toBuf, TRef.ofBuf, cast_eq]
    after_results
    rfl

/-! ## The call of layer 2 -/

/-- The windows' block indices at point `t`. -/
theorem idx2 : ∀ t : Fin cfg2.N, win2_0.index t = ![0, t.val, 0] ∧ win2_1.index t = ![2, t.val, 0] ∧ win2_2.index t = ![2, t.val, 0] ∧ win2_3.index t = ![2, t.val, 0] ∧ win2_4.index t = ![2, t.val, 0] ∧ win2_5.index t = ![2, t.val, 0] ∧ win2_6.index t = ![2, t.val, 0] ∧ win2_7.index t = ![2, t.val, 0] :=
  (by decide +kernel : ∀ t : Fin grid2.N, _)

/-- Row `a` of the row block of point `t`. -/
def row2 (t : Fin cfg2.N) (a : Fin 512) : Fin 1024 := ⟨t.val * 512 + a.val, by have h1 : t.val < 2 := t.isLt; omega⟩

theorem iblk2_0 (c : Dev nD) (t : Fin cfg2.N) (d : Fin 8) (a : Fin 512) (b : Fin 512) :
    (iblk2 (V5 m ρ) c 0 t (ix3 (n0 := 8) (n1 := 512) (n2 := 512) d a b) : EReal) = m ((c : Thread nD τ).loc main_arg2) (ix3 (n0 := 8) (n1 := 1024) (n2 := 512) d (row2 t a) b) := by
  have h := W4_args m ρ c main_arg2 (by decide)
  blk_simp [iblk2, idx2 t]
  simp only [V5, W5, hostOps2, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg2)) (ext3 ?_ ?_ ?_)
  · blk_ext [idx2 t]
  · unfold row2; blk_ext [idx2 t]
  · blk_ext [idx2 t]

theorem iblk2_1 (c : Dev nD) (t : Fin cfg2.N) (a : Fin 512) (b : Fin 512) :
    (iblk2 (V5 m ρ) c 1 t (ix3 (n0 := 1) (n1 := 512) (n2 := 512) 0 a b) : EReal) = m ((c : Thread nD τ).loc main_arg4) (ix3 (n0 := 4) (n1 := 1024) (n2 := 512) 2 (row2 t a) b) := by
  refine (congrFun (congrArg _ (W5_args m ρ c main_arg4 (by decide))) _).trans ?_
  refine congrArg (m ((c : Thread nD τ).loc main_arg4)) (ext3 ?_ ?_ ?_)
  · first | rfl | exact congrArg (fun n => n * 1 + 0) (congrFun (idx2 t).2.1 0)
  · unfold row2; blk_ext [idx2 t]
  · blk_ext [idx2 t]

theorem iblk2_2 (c : Dev nD) (t : Fin cfg2.N) (a : Fin 512) (b : Fin 512) :
    (iblk2 (V5 m ρ) c 2 t (ix3 (n0 := 1) (n1 := 512) (n2 := 512) 0 a b) : EReal) = m ((c : Thread nD τ).loc main_arg5) (ix3 (n0 := 4) (n1 := 1024) (n2 := 512) 2 (row2 t a) b) := by
  refine (congrFun (congrArg _ (W5_args m ρ c main_arg5 (by decide))) _).trans ?_
  refine congrArg (m ((c : Thread nD τ).loc main_arg5)) (ext3 ?_ ?_ ?_)
  · first | rfl | exact congrArg (fun n => n * 1 + 0) (congrFun (idx2 t).2.2.1 0)
  · unfold row2; blk_ext [idx2 t]
  · blk_ext [idx2 t]

theorem iblk2_3 (c : Dev nD) (t : Fin cfg2.N) (a : Fin 512) (b : Fin 512) :
    (iblk2 (V5 m ρ) c 3 t (ix3 (n0 := 1) (n1 := 512) (n2 := 512) 0 a b) : EReal) = m ((c : Thread nD τ).loc main_arg6) (ix3 (n0 := 4) (n1 := 1024) (n2 := 512) 2 (row2 t a) b) := by
  refine (congrFun (congrArg _ (W5_args m ρ c main_arg6 (by decide))) _).trans ?_
  refine congrArg (m ((c : Thread nD τ).loc main_arg6)) (ext3 ?_ ?_ ?_)
  · first | rfl | exact congrArg (fun n => n * 1 + 0) (congrFun (idx2 t).2.2.2.1 0)
  · unfold row2; blk_ext [idx2 t]
  · blk_ext [idx2 t]

theorem emb2 (t : Fin cfg2.N) (a : Fin 512) (b : Fin 512) : ((View.whole main_v5_0).slice (win2_4.rect t)).emb (B a b) = J 2 (row2 t a) b := by
  unfold B J
  refine ext3 ?_ ?_ ?_
  · first | rfl | exact congrArg (fun n => n * 1 + 0) (congrFun (idx2 t).2.2.2.2.1 0)
  · unfold row2; blk_ext [idx2 t]
  · blk_ext [idx2 t]

theorem split2 (r : Fin 1024) : ∃ (t : Fin cfg2.N) (a : Fin 512), r = row2 t a :=
  ⟨⟨r.val / 512, by show r.val / 512 < 2; omega⟩, ⟨r.val % 512, by omega⟩, Fin.ext (by show r.val = r.val / 512 * 512 + r.val % 512; omega)⟩

theorem out2_4 (c : Dev nD) (t : Fin cfg2.N) (a : Fin 512) (b : Fin 512) : (outsAt2 (V5 m ρ) c t).1 (B a b) = G4 m c (J 2 (row2 t a) b) := by
  unfold outsAt2 G4 B J
  frame_out
  pointwise [k2_pay1, k2_pay2, k2_pay3, k2_pay4, k2_pay5, k2_pay6, k2_pay7]
  simp only [iblk2_0, iblk2_1, iblk2_2, iblk2_3]
  simp only [Fin.sum_univ_eight]
  all_goals rfl

theorem new2_4 (c : Dev nD) (r : Fin 1024) (b : Fin 512) : (dat2 (V5 m ρ) c).arrAt 4 cfg2.N (J 2 r b) = G4 m c (J 2 r b) := by
  obtain ⟨t, a, rfl⟩ := split2 r
  refine (dat2 (V5 m ρ) c).arrAt_apply_of_mem 4 (G4 m c) (fun t hf => ?_) cfg2.N t _ t.isLt (flush2_4 t) (Finset.mem_map.mpr ⟨B a b, Finset.mem_univ _, emb2 t a b⟩)
  funext y
  obtain ⟨a, b, rfl⟩ := eq_B y
  blk_simp
  rw [after2_4]
  exact (out2_4 m ρ c t a b).trans (congrArg (G4 m c) (emb2 t a b)).symm

theorem old2_4 (c : Dev nD) (l : Fin 4) (hl : l ≠ 2) (r : Fin 1024) (b : Fin 512) :
    (dat2 (V5 m ρ) c).arrAt 4 cfg2.N (J l r b) = (dat1 (V3 m ρ) c).arrAt 4 cfg1.N (J l r b) := by
  refine ((dat2 (V5 m ρ) c).arrAt_apply_of_forall_not_mem 4 cfg2.N _ fun t _ _ hi => ?_).trans ?_
  · obtain ⟨y, -, hy⟩ := Finset.mem_map.mp hi
    obtain ⟨a, b, rfl⟩ := eq_B y
    exact hl (congrFun ((emb2 t a b).symm.trans hy) 0).symm
  · rw [A_eq2]
    refine congrFun (Eq.trans ?_ (W4_arr m ρ c 4)) _
    show W5 m ρ c (Proc.devRef .tc main_v5_0) = W4 m ρ c (Proc.devRef .tc main_v3_0)
    simp only [W5, hostOps2, List.flatten_cons, List.flatten_nil, List.append_nil, List.cons_append, List.nil_append,
      TRef.binary, TRef.nullary, TRef.unary, TRef.toBuf, TRef.ofBuf, cast_eq]
    after_results
    rfl

theorem out2_5 (c : Dev nD) (t : Fin cfg2.N) (a : Fin 512) (b : Fin 512) : (outsAt2 (V5 m ρ) c t).2.1 (B a b) = G5 m c (J 2 (row2 t a) b) := by
  unfold outsAt2 G5 B J
  frame_out
  pointwise [k2_pay1, k2_pay2, k2_pay3, k2_pay4, k2_pay5, k2_pay6, k2_pay7]
  simp only [iblk2_0, iblk2_1, iblk2_2, iblk2_3]
  pointwise
  simp only [Fin.sum_univ_eight]
  all_goals rfl

theorem new2_5 (c : Dev nD) (r : Fin 1024) (b : Fin 512) : (dat2 (V5 m ρ) c).arrAt 5 cfg2.N (J 2 r b) = G5 m c (J 2 r b) := by
  obtain ⟨t, a, rfl⟩ := split2 r
  refine (dat2 (V5 m ρ) c).arrAt_apply_of_mem 5 (G5 m c) (fun t hf => ?_) cfg2.N t _ t.isLt (flush2_5 t) (Finset.mem_map.mpr ⟨B a b, Finset.mem_univ _, emb2 t a b⟩)
  funext y
  obtain ⟨a, b, rfl⟩ := eq_B y
  blk_simp
  rw [after2_5]
  exact (out2_5 m ρ c t a b).trans (congrArg (G5 m c) (emb2 t a b)).symm

theorem old2_5 (c : Dev nD) (l : Fin 4) (hl : l ≠ 2) (r : Fin 1024) (b : Fin 512) :
    (dat2 (V5 m ρ) c).arrAt 5 cfg2.N (J l r b) = (dat1 (V3 m ρ) c).arrAt 5 cfg1.N (J l r b) := by
  refine ((dat2 (V5 m ρ) c).arrAt_apply_of_forall_not_mem 5 cfg2.N _ fun t _ _ hi => ?_).trans ?_
  · obtain ⟨y, -, hy⟩ := Finset.mem_map.mp hi
    obtain ⟨a, b, rfl⟩ := eq_B y
    exact hl (congrFun ((emb2 t a b).symm.trans hy) 0).symm
  · rw [A_eq2]
    refine congrFun (Eq.trans ?_ (W4_arr m ρ c 5)) _
    show W5 m ρ c (Proc.devRef .tc main_v5_1) = W4 m ρ c (Proc.devRef .tc main_v3_1)
    simp only [W5, hostOps2, List.flatten_cons, List.flatten_nil, List.append_nil, List.cons_append, List.nil_append,
      TRef.binary, TRef.nullary, TRef.unary, TRef.toBuf, TRef.ofBuf, cast_eq]
    after_results
    rfl

theorem out2_6 (c : Dev nD) (t : Fin cfg2.N) (a : Fin 512) (b : Fin 512) : (outsAt2 (V5 m ρ) c t).2.2.1 (B a b) = G6 m c (J 2 (row2 t a) b) := by
  unfold outsAt2 G6 B J
  frame_out
  pointwise [k2_pay1, k2_pay2, k2_pay3, k2_pay4, k2_pay5, k2_pay6, k2_pay7]
  simp only [iblk2_0, iblk2_1, iblk2_2, iblk2_3]
  simp only [Fin.sum_univ_eight]
  all_goals rfl

theorem new2_6 (c : Dev nD) (r : Fin 1024) (b : Fin 512) : (dat2 (V5 m ρ) c).arrAt 6 cfg2.N (J 2 r b) = G6 m c (J 2 r b) := by
  obtain ⟨t, a, rfl⟩ := split2 r
  refine (dat2 (V5 m ρ) c).arrAt_apply_of_mem 6 (G6 m c) (fun t hf => ?_) cfg2.N t _ t.isLt (flush2_6 t) (Finset.mem_map.mpr ⟨B a b, Finset.mem_univ _, emb2 t a b⟩)
  funext y
  obtain ⟨a, b, rfl⟩ := eq_B y
  blk_simp
  rw [after2_6]
  exact (out2_6 m ρ c t a b).trans (congrArg (G6 m c) (emb2 t a b)).symm

theorem old2_6 (c : Dev nD) (l : Fin 4) (hl : l ≠ 2) (r : Fin 1024) (b : Fin 512) :
    (dat2 (V5 m ρ) c).arrAt 6 cfg2.N (J l r b) = (dat1 (V3 m ρ) c).arrAt 6 cfg1.N (J l r b) := by
  refine ((dat2 (V5 m ρ) c).arrAt_apply_of_forall_not_mem 6 cfg2.N _ fun t _ _ hi => ?_).trans ?_
  · obtain ⟨y, -, hy⟩ := Finset.mem_map.mp hi
    obtain ⟨a, b, rfl⟩ := eq_B y
    exact hl (congrFun ((emb2 t a b).symm.trans hy) 0).symm
  · rw [A_eq2]
    refine congrFun (Eq.trans ?_ (W4_arr m ρ c 6)) _
    show W5 m ρ c (Proc.devRef .tc main_v5_2) = W4 m ρ c (Proc.devRef .tc main_v3_2)
    simp only [W5, hostOps2, List.flatten_cons, List.flatten_nil, List.append_nil, List.cons_append, List.nil_append,
      TRef.binary, TRef.nullary, TRef.unary, TRef.toBuf, TRef.ofBuf, cast_eq]
    after_results
    rfl

theorem out2_7 (c : Dev nD) (t : Fin cfg2.N) (a : Fin 512) (b : Fin 512) : (outsAt2 (V5 m ρ) c t).2.2.2 (B a b) = G7 m c (J 2 (row2 t a) b) := by
  unfold outsAt2 G7 B J
  frame_out
  pointwise [k2_pay1, k2_pay2, k2_pay3, k2_pay4, k2_pay5, k2_pay6, k2_pay7]
  simp only [iblk2_0, iblk2_1, iblk2_2, iblk2_3]
  simp only [Fin.sum_univ_eight]
  all_goals rfl

theorem new2_7 (c : Dev nD) (r : Fin 1024) (b : Fin 512) : (dat2 (V5 m ρ) c).arrAt 7 cfg2.N (J 2 r b) = G7 m c (J 2 r b) := by
  obtain ⟨t, a, rfl⟩ := split2 r
  refine (dat2 (V5 m ρ) c).arrAt_apply_of_mem 7 (G7 m c) (fun t hf => ?_) cfg2.N t _ t.isLt (flush2_7 t) (Finset.mem_map.mpr ⟨B a b, Finset.mem_univ _, emb2 t a b⟩)
  funext y
  obtain ⟨a, b, rfl⟩ := eq_B y
  blk_simp
  rw [after2_7]
  exact (out2_7 m ρ c t a b).trans (congrArg (G7 m c) (emb2 t a b)).symm

theorem old2_7 (c : Dev nD) (l : Fin 4) (hl : l ≠ 2) (r : Fin 1024) (b : Fin 512) :
    (dat2 (V5 m ρ) c).arrAt 7 cfg2.N (J l r b) = (dat1 (V3 m ρ) c).arrAt 7 cfg1.N (J l r b) := by
  refine ((dat2 (V5 m ρ) c).arrAt_apply_of_forall_not_mem 7 cfg2.N _ fun t _ _ hi => ?_).trans ?_
  · obtain ⟨y, -, hy⟩ := Finset.mem_map.mp hi
    obtain ⟨a, b, rfl⟩ := eq_B y
    exact hl (congrFun ((emb2 t a b).symm.trans hy) 0).symm
  · rw [A_eq2]
    refine congrFun (Eq.trans ?_ (W4_arr m ρ c 7)) _
    show W5 m ρ c (Proc.devRef .tc main_v5_3) = W4 m ρ c (Proc.devRef .tc main_v3_3)
    simp only [W5, hostOps2, List.flatten_cons, List.flatten_nil, List.append_nil, List.cons_append, List.nil_append,
      TRef.binary, TRef.nullary, TRef.unary, TRef.toBuf, TRef.ofBuf, cast_eq]
    after_results
    rfl

/-! ## The call of layer 3 -/

/-- The windows' block indices at point `t`. -/
theorem idx3 : ∀ t : Fin cfg3.N, win3_0.index t = ![0, t.val, 0] ∧ win3_1.index t = ![3, t.val, 0] ∧ win3_2.index t = ![3, t.val, 0] ∧ win3_3.index t = ![3, t.val, 0] ∧ win3_4.index t = ![3, t.val, 0] ∧ win3_5.index t = ![3, t.val, 0] ∧ win3_6.index t = ![3, t.val, 0] ∧ win3_7.index t = ![3, t.val, 0] :=
  (by decide +kernel : ∀ t : Fin grid3.N, _)

/-- Row `a` of the row block of point `t`. -/
def row3 (t : Fin cfg3.N) (a : Fin 512) : Fin 1024 := ⟨t.val * 512 + a.val, by have h1 : t.val < 2 := t.isLt; omega⟩

theorem iblk3_0 (c : Dev nD) (t : Fin cfg3.N) (d : Fin 8) (a : Fin 512) (b : Fin 512) :
    (iblk3 (V7 m ρ) c 0 t (ix3 (n0 := 8) (n1 := 512) (n2 := 512) d a b) : EReal) = m ((c : Thread nD τ).loc main_arg3) (ix3 (n0 := 8) (n1 := 1024) (n2 := 512) d (row3 t a) b) := by
  have h := W6_args m ρ c main_arg3 (by decide)
  blk_simp [iblk3, idx3 t]
  simp only [V7, W7, hostOps3, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg3)) (ext3 ?_ ?_ ?_)
  · blk_ext [idx3 t]
  · unfold row3; blk_ext [idx3 t]
  · blk_ext [idx3 t]

theorem iblk3_1 (c : Dev nD) (t : Fin cfg3.N) (a : Fin 512) (b : Fin 512) :
    (iblk3 (V7 m ρ) c 1 t (ix3 (n0 := 1) (n1 := 512) (n2 := 512) 0 a b) : EReal) = m ((c : Thread nD τ).loc main_arg4) (ix3 (n0 := 4) (n1 := 1024) (n2 := 512) 3 (row3 t a) b) := by
  refine (congrFun (congrArg _ (W7_args m ρ c main_arg4 (by decide))) _).trans ?_
  refine congrArg (m ((c : Thread nD τ).loc main_arg4)) (ext3 ?_ ?_ ?_)
  · first | rfl | exact congrArg (fun n => n * 1 + 0) (congrFun (idx3 t).2.1 0)
  · unfold row3; blk_ext [idx3 t]
  · blk_ext [idx3 t]

theorem iblk3_2 (c : Dev nD) (t : Fin cfg3.N) (a : Fin 512) (b : Fin 512) :
    (iblk3 (V7 m ρ) c 2 t (ix3 (n0 := 1) (n1 := 512) (n2 := 512) 0 a b) : EReal) = m ((c : Thread nD τ).loc main_arg5) (ix3 (n0 := 4) (n1 := 1024) (n2 := 512) 3 (row3 t a) b) := by
  refine (congrFun (congrArg _ (W7_args m ρ c main_arg5 (by decide))) _).trans ?_
  refine congrArg (m ((c : Thread nD τ).loc main_arg5)) (ext3 ?_ ?_ ?_)
  · first | rfl | exact congrArg (fun n => n * 1 + 0) (congrFun (idx3 t).2.2.1 0)
  · unfold row3; blk_ext [idx3 t]
  · blk_ext [idx3 t]

theorem iblk3_3 (c : Dev nD) (t : Fin cfg3.N) (a : Fin 512) (b : Fin 512) :
    (iblk3 (V7 m ρ) c 3 t (ix3 (n0 := 1) (n1 := 512) (n2 := 512) 0 a b) : EReal) = m ((c : Thread nD τ).loc main_arg6) (ix3 (n0 := 4) (n1 := 1024) (n2 := 512) 3 (row3 t a) b) := by
  refine (congrFun (congrArg _ (W7_args m ρ c main_arg6 (by decide))) _).trans ?_
  refine congrArg (m ((c : Thread nD τ).loc main_arg6)) (ext3 ?_ ?_ ?_)
  · first | rfl | exact congrArg (fun n => n * 1 + 0) (congrFun (idx3 t).2.2.2.1 0)
  · unfold row3; blk_ext [idx3 t]
  · blk_ext [idx3 t]

theorem emb3 (t : Fin cfg3.N) (a : Fin 512) (b : Fin 512) : ((View.whole main_v7_0).slice (win3_4.rect t)).emb (B a b) = J 3 (row3 t a) b := by
  unfold B J
  refine ext3 ?_ ?_ ?_
  · first | rfl | exact congrArg (fun n => n * 1 + 0) (congrFun (idx3 t).2.2.2.2.1 0)
  · unfold row3; blk_ext [idx3 t]
  · blk_ext [idx3 t]

theorem split3 (r : Fin 1024) : ∃ (t : Fin cfg3.N) (a : Fin 512), r = row3 t a :=
  ⟨⟨r.val / 512, by show r.val / 512 < 2; omega⟩, ⟨r.val % 512, by omega⟩, Fin.ext (by show r.val = r.val / 512 * 512 + r.val % 512; omega)⟩

theorem out3_4 (c : Dev nD) (t : Fin cfg3.N) (a : Fin 512) (b : Fin 512) : (outsAt3 (V7 m ρ) c t).1 (B a b) = G4 m c (J 3 (row3 t a) b) := by
  unfold outsAt3 G4 B J
  frame_out
  pointwise [k3_pay1, k3_pay2, k3_pay3, k3_pay4, k3_pay5, k3_pay6, k3_pay7]
  simp only [iblk3_0, iblk3_1, iblk3_2, iblk3_3]
  simp only [Fin.sum_univ_eight]
  all_goals rfl

theorem new3_4 (c : Dev nD) (r : Fin 1024) (b : Fin 512) : (dat3 (V7 m ρ) c).arrAt 4 cfg3.N (J 3 r b) = G4 m c (J 3 r b) := by
  obtain ⟨t, a, rfl⟩ := split3 r
  refine (dat3 (V7 m ρ) c).arrAt_apply_of_mem 4 (G4 m c) (fun t hf => ?_) cfg3.N t _ t.isLt (flush3_4 t) (Finset.mem_map.mpr ⟨B a b, Finset.mem_univ _, emb3 t a b⟩)
  funext y
  obtain ⟨a, b, rfl⟩ := eq_B y
  blk_simp
  rw [after3_4]
  exact (out3_4 m ρ c t a b).trans (congrArg (G4 m c) (emb3 t a b)).symm

theorem old3_4 (c : Dev nD) (l : Fin 4) (hl : l ≠ 3) (r : Fin 1024) (b : Fin 512) :
    (dat3 (V7 m ρ) c).arrAt 4 cfg3.N (J l r b) = (dat2 (V5 m ρ) c).arrAt 4 cfg2.N (J l r b) := by
  refine ((dat3 (V7 m ρ) c).arrAt_apply_of_forall_not_mem 4 cfg3.N _ fun t _ _ hi => ?_).trans ?_
  · obtain ⟨y, -, hy⟩ := Finset.mem_map.mp hi
    obtain ⟨a, b, rfl⟩ := eq_B y
    exact hl (congrFun ((emb3 t a b).symm.trans hy) 0).symm
  · rw [A_eq3]
    refine congrFun (Eq.trans ?_ (W6_arr m ρ c 4)) _
    show W7 m ρ c (Proc.devRef .tc main_v7_0) = W6 m ρ c (Proc.devRef .tc main_v5_0)
    simp only [W7, hostOps3, List.flatten_cons, List.flatten_nil, List.append_nil, List.cons_append, List.nil_append,
      TRef.binary, TRef.nullary, TRef.unary, TRef.toBuf, TRef.ofBuf, cast_eq]
    after_results
    rfl

theorem out3_5 (c : Dev nD) (t : Fin cfg3.N) (a : Fin 512) (b : Fin 512) : (outsAt3 (V7 m ρ) c t).2.1 (B a b) = G5 m c (J 3 (row3 t a) b) := by
  unfold outsAt3 G5 B J
  frame_out
  pointwise [k3_pay1, k3_pay2, k3_pay3, k3_pay4, k3_pay5, k3_pay6, k3_pay7]
  simp only [iblk3_0, iblk3_1, iblk3_2, iblk3_3]
  pointwise
  simp only [Fin.sum_univ_eight]
  all_goals rfl

theorem new3_5 (c : Dev nD) (r : Fin 1024) (b : Fin 512) : (dat3 (V7 m ρ) c).arrAt 5 cfg3.N (J 3 r b) = G5 m c (J 3 r b) := by
  obtain ⟨t, a, rfl⟩ := split3 r
  refine (dat3 (V7 m ρ) c).arrAt_apply_of_mem 5 (G5 m c) (fun t hf => ?_) cfg3.N t _ t.isLt (flush3_5 t) (Finset.mem_map.mpr ⟨B a b, Finset.mem_univ _, emb3 t a b⟩)
  funext y
  obtain ⟨a, b, rfl⟩ := eq_B y
  blk_simp
  rw [after3_5]
  exact (out3_5 m ρ c t a b).trans (congrArg (G5 m c) (emb3 t a b)).symm

theorem old3_5 (c : Dev nD) (l : Fin 4) (hl : l ≠ 3) (r : Fin 1024) (b : Fin 512) :
    (dat3 (V7 m ρ) c).arrAt 5 cfg3.N (J l r b) = (dat2 (V5 m ρ) c).arrAt 5 cfg2.N (J l r b) := by
  refine ((dat3 (V7 m ρ) c).arrAt_apply_of_forall_not_mem 5 cfg3.N _ fun t _ _ hi => ?_).trans ?_
  · obtain ⟨y, -, hy⟩ := Finset.mem_map.mp hi
    obtain ⟨a, b, rfl⟩ := eq_B y
    exact hl (congrFun ((emb3 t a b).symm.trans hy) 0).symm
  · rw [A_eq3]
    refine congrFun (Eq.trans ?_ (W6_arr m ρ c 5)) _
    show W7 m ρ c (Proc.devRef .tc main_v7_1) = W6 m ρ c (Proc.devRef .tc main_v5_1)
    simp only [W7, hostOps3, List.flatten_cons, List.flatten_nil, List.append_nil, List.cons_append, List.nil_append,
      TRef.binary, TRef.nullary, TRef.unary, TRef.toBuf, TRef.ofBuf, cast_eq]
    after_results
    rfl

theorem out3_6 (c : Dev nD) (t : Fin cfg3.N) (a : Fin 512) (b : Fin 512) : (outsAt3 (V7 m ρ) c t).2.2.1 (B a b) = G6 m c (J 3 (row3 t a) b) := by
  unfold outsAt3 G6 B J
  frame_out
  pointwise [k3_pay1, k3_pay2, k3_pay3, k3_pay4, k3_pay5, k3_pay6, k3_pay7]
  simp only [iblk3_0, iblk3_1, iblk3_2, iblk3_3]
  simp only [Fin.sum_univ_eight]
  all_goals rfl

theorem new3_6 (c : Dev nD) (r : Fin 1024) (b : Fin 512) : (dat3 (V7 m ρ) c).arrAt 6 cfg3.N (J 3 r b) = G6 m c (J 3 r b) := by
  obtain ⟨t, a, rfl⟩ := split3 r
  refine (dat3 (V7 m ρ) c).arrAt_apply_of_mem 6 (G6 m c) (fun t hf => ?_) cfg3.N t _ t.isLt (flush3_6 t) (Finset.mem_map.mpr ⟨B a b, Finset.mem_univ _, emb3 t a b⟩)
  funext y
  obtain ⟨a, b, rfl⟩ := eq_B y
  blk_simp
  rw [after3_6]
  exact (out3_6 m ρ c t a b).trans (congrArg (G6 m c) (emb3 t a b)).symm

theorem old3_6 (c : Dev nD) (l : Fin 4) (hl : l ≠ 3) (r : Fin 1024) (b : Fin 512) :
    (dat3 (V7 m ρ) c).arrAt 6 cfg3.N (J l r b) = (dat2 (V5 m ρ) c).arrAt 6 cfg2.N (J l r b) := by
  refine ((dat3 (V7 m ρ) c).arrAt_apply_of_forall_not_mem 6 cfg3.N _ fun t _ _ hi => ?_).trans ?_
  · obtain ⟨y, -, hy⟩ := Finset.mem_map.mp hi
    obtain ⟨a, b, rfl⟩ := eq_B y
    exact hl (congrFun ((emb3 t a b).symm.trans hy) 0).symm
  · rw [A_eq3]
    refine congrFun (Eq.trans ?_ (W6_arr m ρ c 6)) _
    show W7 m ρ c (Proc.devRef .tc main_v7_2) = W6 m ρ c (Proc.devRef .tc main_v5_2)
    simp only [W7, hostOps3, List.flatten_cons, List.flatten_nil, List.append_nil, List.cons_append, List.nil_append,
      TRef.binary, TRef.nullary, TRef.unary, TRef.toBuf, TRef.ofBuf, cast_eq]
    after_results
    rfl

theorem out3_7 (c : Dev nD) (t : Fin cfg3.N) (a : Fin 512) (b : Fin 512) : (outsAt3 (V7 m ρ) c t).2.2.2 (B a b) = G7 m c (J 3 (row3 t a) b) := by
  unfold outsAt3 G7 B J
  frame_out
  pointwise [k3_pay1, k3_pay2, k3_pay3, k3_pay4, k3_pay5, k3_pay6, k3_pay7]
  simp only [iblk3_0, iblk3_1, iblk3_2, iblk3_3]
  simp only [Fin.sum_univ_eight]
  all_goals rfl

theorem new3_7 (c : Dev nD) (r : Fin 1024) (b : Fin 512) : (dat3 (V7 m ρ) c).arrAt 7 cfg3.N (J 3 r b) = G7 m c (J 3 r b) := by
  obtain ⟨t, a, rfl⟩ := split3 r
  refine (dat3 (V7 m ρ) c).arrAt_apply_of_mem 7 (G7 m c) (fun t hf => ?_) cfg3.N t _ t.isLt (flush3_7 t) (Finset.mem_map.mpr ⟨B a b, Finset.mem_univ _, emb3 t a b⟩)
  funext y
  obtain ⟨a, b, rfl⟩ := eq_B y
  blk_simp
  rw [after3_7]
  exact (out3_7 m ρ c t a b).trans (congrArg (G7 m c) (emb3 t a b)).symm

theorem old3_7 (c : Dev nD) (l : Fin 4) (hl : l ≠ 3) (r : Fin 1024) (b : Fin 512) :
    (dat3 (V7 m ρ) c).arrAt 7 cfg3.N (J l r b) = (dat2 (V5 m ρ) c).arrAt 7 cfg2.N (J l r b) := by
  refine ((dat3 (V7 m ρ) c).arrAt_apply_of_forall_not_mem 7 cfg3.N _ fun t _ _ hi => ?_).trans ?_
  · obtain ⟨y, -, hy⟩ := Finset.mem_map.mp hi
    obtain ⟨a, b, rfl⟩ := eq_B y
    exact hl (congrFun ((emb3 t a b).symm.trans hy) 0).symm
  · rw [A_eq3]
    refine congrFun (Eq.trans ?_ (W6_arr m ρ c 7)) _
    show W7 m ρ c (Proc.devRef .tc main_v7_3) = W6 m ρ c (Proc.devRef .tc main_v5_3)
    simp only [W7, hostOps3, List.flatten_cons, List.flatten_nil, List.append_nil, List.cons_append, List.nil_append,
      TRef.binary, TRef.nullary, TRef.unary, TRef.toBuf, TRef.ofBuf, cast_eq]
    after_results
    rfl

/-! ## The four arrays after the last call -/

theorem final4 (c : Dev nD) : W8 m ρ c (Proc.devRef .tc main_v7_0) = G4 m c := by
  refine (W8_arr m ρ c 4).trans (funext fun i => ?_)
  obtain ⟨l, r, b, rfl⟩ : ∃ (l : Fin 4) (r : Fin 1024) (b : Fin 512), i = J l r b := ⟨i 0, i 1, i 2, eq_ix3 i⟩
  fin_cases l
  · exact (old3_4 m ρ c 0 (by decide) r b).trans ((old2_4 m ρ c 0 (by decide) r b).trans ((old1_4 m ρ c 0 (by decide) r b).trans (new0_4 m ρ c r b)))
  · exact (old3_4 m ρ c 1 (by decide) r b).trans ((old2_4 m ρ c 1 (by decide) r b).trans (new1_4 m ρ c r b))
  · exact (old3_4 m ρ c 2 (by decide) r b).trans (new2_4 m ρ c r b)
  · exact new3_4 m ρ c r b

theorem final5 (c : Dev nD) : W8 m ρ c (Proc.devRef .tc main_v7_1) = G5 m c := by
  refine (W8_arr m ρ c 5).trans (funext fun i => ?_)
  obtain ⟨l, r, b, rfl⟩ : ∃ (l : Fin 4) (r : Fin 1024) (b : Fin 512), i = J l r b := ⟨i 0, i 1, i 2, eq_ix3 i⟩
  fin_cases l
  · exact (old3_5 m ρ c 0 (by decide) r b).trans ((old2_5 m ρ c 0 (by decide) r b).trans ((old1_5 m ρ c 0 (by decide) r b).trans (new0_5 m ρ c r b)))
  · exact (old3_5 m ρ c 1 (by decide) r b).trans ((old2_5 m ρ c 1 (by decide) r b).trans (new1_5 m ρ c r b))
  · exact (old3_5 m ρ c 2 (by decide) r b).trans (new2_5 m ρ c r b)
  · exact new3_5 m ρ c r b

theorem final6 (c : Dev nD) : W8 m ρ c (Proc.devRef .tc main_v7_2) = G6 m c := by
  refine (W8_arr m ρ c 6).trans (funext fun i => ?_)
  obtain ⟨l, r, b, rfl⟩ : ∃ (l : Fin 4) (r : Fin 1024) (b : Fin 512), i = J l r b := ⟨i 0, i 1, i 2, eq_ix3 i⟩
  fin_cases l
  · exact (old3_6 m ρ c 0 (by decide) r b).trans ((old2_6 m ρ c 0 (by decide) r b).trans ((old1_6 m ρ c 0 (by decide) r b).trans (new0_6 m ρ c r b)))
  · exact (old3_6 m ρ c 1 (by decide) r b).trans ((old2_6 m ρ c 1 (by decide) r b).trans (new1_6 m ρ c r b))
  · exact (old3_6 m ρ c 2 (by decide) r b).trans (new2_6 m ρ c r b)
  · exact new3_6 m ρ c r b

theorem final7 (c : Dev nD) : W8 m ρ c (Proc.devRef .tc main_v7_3) = G7 m c := by
  refine (W8_arr m ρ c 7).trans (funext fun i => ?_)
  obtain ⟨l, r, b, rfl⟩ : ∃ (l : Fin 4) (r : Fin 1024) (b : Fin 512), i = J l r b := ⟨i 0, i 1, i 2, eq_ix3 i⟩
  fin_cases l
  · exact (old3_7 m ρ c 0 (by decide) r b).trans ((old2_7 m ρ c 0 (by decide) r b).trans ((old1_7 m ρ c 0 (by decide) r b).trans (new0_7 m ρ c r b)))
  · exact (old3_7 m ρ c 1 (by decide) r b).trans ((old2_7 m ρ c 1 (by decide) r b).trans (new1_7 m ρ c r b))
  · exact (old3_7 m ρ c 2 (by decide) r b).trans (new2_7 m ρ c r b)
  · exact new3_7 m ρ c r b

section Run

open Idealize.SL.RA Idealize.SL.BI.BIBase Idealize.SL.BI.Laws Idealize.SL.ProofMode Idealize.ShloMosaic.Rounds Idealize.ShloMosaic.Tactic
open scoped Idealize.SL.BI
open Idealize.ShloMosaic.Pipeline (Cfg Window BodyObligation cellOf)

set_option backward.isDefEq.respectTransparency.types false in
/-- The run, its results named. -/
theorem run_values : θ_run defs (onTc (τ := τ) (main (F := Ideal))) ⟨m, fun _ => 0, ρ⟩ (fun r => ∀ c : Dev nD,
      r.2.mem ((c.tc : Thread nD τ).loc main_v7_0) = Cert.OptW1RefIdeal.Read.val_main_v8 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v7_1) = Cert.OptW1RefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v7_2) = Cert.OptW1RefIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c.tc : Thread nD τ).loc main_v7_3) = Cert.OptW1RefIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨(h c _ (mem_uc main_v7_0 (by decide))).trans (final4 m ρ c),
       (h c _ (mem_uc main_v7_1 (by decide))).trans (final5 m ρ c),
       (h c _ (mem_uc main_v7_2 (by decide))).trans (final6 m ρ c),
       (h c _ (mem_uc main_v7_3 (by decide))).trans (final7 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Run

end Cert.OptW1Ideal.Hand

end
-- ==== Proof.OptW2.lean ====
module

public import proofs.«01_k».proof.Proof.Gen.OptW2.Frame
public import proofs.«01_k».proof.Proof.Gen.OptW2Ideal.Frame
public import proofs.«01_k».proof.Proof.Gen.OptW2RefIdeal.Run
public import proofs.«01_k».proof.Proof.Gen.OptW2RefIdeal.Read
public import Idealize.ShloMosaic.Lib.Pipeline.ValueKit
public import Idealize.ShloMosaic.Lib.Pointwise
public import Idealize.ShloMosaic.Lib.Claim

/-! # One optimiser step of the weights of the second product of the multilayer perceptron

One call per layer, each writing its own rows of the same four arrays. After the last call row block `l` of each array holds what the
call of layer `l` wrote: its own blocks cover that row block, and no later call touches it. -/

@[expose] public section

set_option maxRecDepth 16384

noncomputable section

namespace Cert.OptW2Ideal.Hand

open Cert.OptW2Ideal Cert.OptW2Ideal.Gen
open Idealize.ShloMosaic Idealize.ShloMosaic.TcCoe Idealize.SL Idealize.SL.BI Idealize.SL.Sem Idealize.ShloMosaic.StableHlo
open Idealize.ShloMosaic.Pipeline (Dat)
open Cert.OptW2RefIdeal.Read

variable (m : (ℓ : Loc nD τ sig) → Buf (Elt Ideal) ℓ) (ρ : Dev nD → PrngReg)

/-- Two indices of three axes are equal when their coordinates are. -/
theorem ext3 {n : Fin 3 → ℕ} {x y : ∀ k, Fin (n k)} (h0 : (x 0).val = (y 0).val) (h1 : (x 1).val = (y 1).val) (h2 : (x 2).val = (y 2).val) : x = y :=
  funext (Fin.forall_fin_succ.mpr ⟨Fin.ext h0, Fin.forall_fin_two.mpr ⟨Fin.ext h1, Fin.ext h2⟩⟩)

/-- An index of an array, and one of a block. -/
abbrev J (l : Fin 4) (r : Fin 512) (b : Fin 1024) : S4x512x1024.Idx := ix3 (n0 := 4) (n1 := 512) (n2 := 1024) l r b
abbrev B (a : Fin 256) (b : Fin 1024) : S1x256x1024.Idx := ix3 (n0 := 1) (n1 := 256) (n2 := 1024) 0 a b

theorem eq_B (y : S1x256x1024.Idx) : ∃ (a : Fin 256) (b : Fin 1024), y = B a b :=
  ⟨y 1, y 2, (eq_ix3 y).trans (congrArg (fun l : Fin 1 => ix3 (n0 := 1) (n1 := 256) (n2 := 1024) l (y 1) (y 2)) (Subsingleton.elim _ _))⟩

/-- The gradient, as the reference has it. -/
abbrev G4 (c : Dev nD) : Vec Ideal S4x512x1024 .f32 := Cert.OptW2RefIdeal.Read.val_main_v8 (F := Ideal) (m ((c : Thread nD τ).loc main_arg0)) (m ((c : Thread nD τ).loc main_arg1)) (m ((c : Thread nD τ).loc main_arg2)) (m ((c : Thread nD τ).loc main_arg3))

/-- The update, as the reference has it. -/
abbrev G5 (c : Dev nD) : Vec Ideal S4x512x1024 .f32 := Cert.OptW2RefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The first moment, as the reference has it. -/
abbrev G6 (c : Dev nD) : Vec Ideal S4x512x1024 .f32 := Cert.OptW2RefIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg5))

/-- The second moment, as the reference has it. -/
abbrev G7 (c : Dev nD) : Vec Ideal S4x512x1024 .f32 := Cert.OptW2RefIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg6))

/-! ## The call of layer 0 -/

/-- The windows' block indices at point `t`. -/
theorem idx0 : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- Row `a` of the row block of point `t`. -/
def row0 (t : Fin cfg0.N) (a : Fin 256) : Fin 512 := ⟨t.val * 256 + a.val, by have h1 : t.val < 2 := t.isLt; omega⟩

theorem iblk0_0 (c : Dev nD) (t : Fin cfg0.N) (d : Fin 8) (a : Fin 256) (b : Fin 1024) :
    (iblk0 (V1 m ρ) c 0 t (ix3 (n0 := 8) (n1 := 256) (n2 := 1024) d a b) : EReal) = m ((c : Thread nD τ).loc main_arg0) (ix3 (n0 := 8) (n1 := 512) (n2 := 1024) d (row0 t a) b) := by
  have h := W0_args m ρ c main_arg0 (by decide)
  blk_simp [iblk0, idx0 t]
  simp only [V1, W1, hostOps0, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg0)) (ext3 ?_ ?_ ?_)
  · blk_ext [idx0 t]
  · unfold row0; blk_ext [idx0 t]
  · blk_ext [idx0 t]

theorem iblk0_1 (c : Dev nD) (t : Fin cfg0.N) (a : Fin 256) (b : Fin 1024) :
    (iblk0 (V1 m ρ) c 1 t (ix3 (n0 := 1) (n1 := 256) (n2 := 1024) 0 a b) : EReal) = m ((c : Thread nD τ).loc main_arg4) (ix3 (n0 := 4) (n1 := 512) (n2 := 1024) 0 (row0 t a) b) := by
  refine (congrFun (congrArg _ (W1_args m ρ c main_arg4 (by decide))) _).trans ?_
  refine congrArg (m ((c : Thread nD τ).loc main_arg4)) (ext3 ?_ ?_ ?_)
  · first | rfl | exact congrArg (fun n => n * 1 + 0) (congrFun (idx0 t).2.1 0)
  · unfold row0; blk_ext [idx0 t]
  · blk_ext [idx0 t]

theorem iblk0_2 (c : Dev nD) (t : Fin cfg0.N) (a : Fin 256) (b : Fin 1024) :
    (iblk0 (V1 m ρ) c 2 t (ix3 (n0 := 1) (n1 := 256) (n2 := 1024) 0 a b) : EReal) = m ((c : Thread nD τ).loc main_arg5) (ix3 (n0 := 4) (n1 := 512) (n2 := 1024) 0 (row0 t a) b) := by
  refine (congrFun (congrArg _ (W1_args m ρ c main_arg5 (by decide))) _).trans ?_
  refine congrArg (m ((c : Thread nD τ).loc main_arg5)) (ext3 ?_ ?_ ?_)
  · first | rfl | exact congrArg (fun n => n * 1 + 0) (congrFun (idx0 t).2.2.1 0)
  · unfold row0; blk_ext [idx0 t]
  · blk_ext [idx0 t]

theorem iblk0_3 (c : Dev nD) (t : Fin cfg0.N) (a : Fin 256) (b : Fin 1024) :
    (iblk0 (V1 m ρ) c 3 t (ix3 (n0 := 1) (n1 := 256) (n2 := 1024) 0 a b) : EReal) = m ((c : Thread nD τ).loc main_arg6) (ix3 (n0 := 4) (n1 := 512) (n2 := 1024) 0 (row0 t a) b) := by
  refine (congrFun (congrArg _ (W1_args m ρ c main_arg6 (by decide))) _).trans ?_
  refine congrArg (m ((c : Thread nD τ).loc main_arg6)) (ext3 ?_ ?_ ?_)
  · first | rfl | exact congrArg (fun n => n * 1 + 0) (congrFun (idx0 t).2.2.2.1 0)
  · unfold row0; blk_ext [idx0 t]
  · blk_ext [idx0 t]

theorem emb0 (t : Fin cfg0.N) (a : Fin 256) (b : Fin 1024) : ((View.whole main_v1_0).slice (win0_4.rect t)).emb (B a b) = J 0 (row0 t a) b := by
  unfold B J
  refine ext3 ?_ ?_ ?_
  · first | rfl | exact congrArg (fun n => n * 1 + 0) (congrFun (idx0 t).2.2.2.2.1 0)
  · unfold row0; blk_ext [idx0 t]
  · blk_ext [idx0 t]

theorem split0 (r : Fin 512) : ∃ (t : Fin cfg0.N) (a : Fin 256), r = row0 t a :=
  ⟨⟨r.val / 256, by show r.val / 256 < 2; omega⟩, ⟨r.val % 256, by omega⟩, Fin.ext (by show r.val = r.val / 256 * 256 + r.val % 256; omega)⟩

theorem out0_4 (c : Dev nD) (t : Fin cfg0.N) (a : Fin 256) (b : Fin 1024) : (outsAt0 (V1 m ρ) c t).1 (B a b) = G4 m c (J 0 (row0 t a) b) := by
  unfold outsAt0 G4 B J
  frame_out
  pointwise [k0_pay1, k0_pay2, k0_pay3, k0_pay4, k0_pay5, k0_pay6, k0_pay7]
  simp only [iblk0_0, iblk0_1, iblk0_2, iblk0_3]
  rw [← val_main_v8_eq]
  pointwise
  simp only [Fin.sum_univ_eight]
  all_goals rfl

theorem new0_4 (c : Dev nD) (r : Fin 512) (b : Fin 1024) : (dat0 (V1 m ρ) c).arrAt 4 cfg0.N (J 0 r b) = G4 m c (J 0 r b) := by
  obtain ⟨t, a, rfl⟩ := split0 r
  refine (dat0 (V1 m ρ) c).arrAt_apply_of_mem 4 (G4 m c) (fun t hf => ?_) cfg0.N t _ t.isLt (flush0_4 t) (Finset.mem_map.mpr ⟨B a b, Finset.mem_univ _, emb0 t a b⟩)
  funext y
  obtain ⟨a, b, rfl⟩ := eq_B y
  blk_simp
  rw [after0_4]
  exact (out0_4 m ρ c t a b).trans (congrArg (G4 m c) (emb0 t a b)).symm

attribute [local pointwise] val_main_v0 val_main_v1 val_main_v2 val_main_v3 val_main_v4 val_main_v5 val_main_v6 val_main_v7 val_main_v8 val_main_v9 val_main_cst val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28 val_main_v29 val_main_v30 val_main_v31 val_main_v32 val_main_cst_0 val_main_cst_1 val_main_cst_2 val_main_cst_3 val_main_cst_4 val_main_cst_5 val_main_cst_6 val_main_cst_7 val_main_cst_8 val_main_cst_9 val_main_cst_10 val_main_cst_11

theorem out0_5 (c : Dev nD) (t : Fin cfg0.N) (a : Fin 256) (b : Fin 1024) : (outsAt0 (V1 m ρ) c t).2.1 (B a b) = G5 m c (J 0 (row0 t a) b) := by
  unfold outsAt0 G5 B J
  frame_out
  pointwise [k0_pay1, k0_pay2, k0_pay3, k0_pay4, k0_pay5, k0_pay6, k0_pay7]
  simp only [iblk0_0, iblk0_1, iblk0_2, iblk0_3]
  pointwise
  simp only [Fin.sum_univ_eight]
  all_goals rfl

theorem new0_5 (c : Dev nD) (r : Fin 512) (b : Fin 1024) : (dat0 (V1 m ρ) c).arrAt 5 cfg0.N (J 0 r b) = G5 m c (J 0 r b) := by
  obtain ⟨t, a, rfl⟩ := split0 r
  refine (dat0 (V1 m ρ) c).arrAt_apply_of_mem 5 (G5 m c) (fun t hf => ?_) cfg0.N t _ t.isLt (flush0_5 t) (Finset.mem_map.mpr ⟨B a b, Finset.mem_univ _, emb0 t a b⟩)
  funext y
  obtain ⟨a, b, rfl⟩ := eq_B y
  blk_simp
  rw [after0_5]
  exact (out0_5 m ρ c t a b).trans (congrArg (G5 m c) (emb0 t a b)).symm

theorem out0_6 (c : Dev nD) (t : Fin cfg0.N) (a : Fin 256) (b : Fin 1024) : (outsAt0 (V1 m ρ) c t).2.2.1 (B a b) = G6 m c (J 0 (row0 t a) b) := by
  unfold outsAt0 G6 B J
  frame_out
  pointwise [k0_pay1, k0_pay2, k0_pay3, k0_pay4, k0_pay5, k0_pay6, k0_pay7]
  simp only [iblk0_0, iblk0_1, iblk0_2, iblk0_3]
  simp only [Fin.sum_univ_eight]
  all_goals rfl

theorem new0_6 (c : Dev nD) (r : Fin 512) (b : Fin 1024) : (dat0 (V1 m ρ) c).arrAt 6 cfg0.N (J 0 r b) = G6 m c (J 0 r b) := by
  obtain ⟨t, a, rfl⟩ := split0 r
  refine (dat0 (V1 m ρ) c).arrAt_apply_of_mem 6 (G6 m c) (fun t hf => ?_) cfg0.N t _ t.isLt (flush0_6 t) (Finset.mem_map.mpr ⟨B a b, Finset.mem_univ _, emb0 t a b⟩)
  funext y
  obtain ⟨a, b, rfl⟩ := eq_B y
  blk_simp
  rw [after0_6]
  exact (out0_6 m ρ c t a b).trans (congrArg (G6 m c) (emb0 t a b)).symm

theorem out0_7 (c : Dev nD) (t : Fin cfg0.N) (a : Fin 256) (b : Fin 1024) : (outsAt0 (V1 m ρ) c t).2.2.2 (B a b) = G7 m c (J 0 (row0 t a) b) := by
  unfold outsAt0 G7 B J
  frame_out
  pointwise [k0_pay1, k0_pay2, k0_pay3, k0_pay4, k0_pay5, k0_pay6, k0_pay7]
  simp only [iblk0_0, iblk0_1, iblk0_2, iblk0_3]
  simp only [Fin.sum_univ_eight]
  all_goals rfl

theorem new0_7 (c : Dev nD) (r : Fin 512) (b : Fin 1024) : (dat0 (V1 m ρ) c).arrAt 7 cfg0.N (J 0 r b) = G7 m c (J 0 r b) := by
  obtain ⟨t, a, rfl⟩ := split0 r
  refine (dat0 (V1 m ρ) c).arrAt_apply_of_mem 7 (G7 m c) (fun t hf => ?_) cfg0.N t _ t.isLt (flush0_7 t) (Finset.mem_map.mpr ⟨B a b, Finset.mem_univ _, emb0 t a b⟩)
  funext y
  obtain ⟨a, b, rfl⟩ := eq_B y
  blk_simp
  rw [after0_7]
  exact (out0_7 m ρ c t a b).trans (congrArg (G7 m c) (emb0 t a b)).symm

/-! ## The call of layer 1 -/

/-- The windows' block indices at point `t`. -/
theorem idx1 : ∀ t : Fin cfg1.N, win1_0.index t = ![0, t.val, 0] ∧ win1_1.index t = ![1, t.val, 0] ∧ win1_2.index t = ![1, t.val, 0] ∧ win1_3.index t = ![1, t.val, 0] ∧ win1_4.index t = ![1, t.val, 0] ∧ win1_5.index t = ![1, t.val, 0] ∧ win1_6.index t = ![1, t.val, 0] ∧ win1_7.index t = ![1, t.val, 0] :=
  (by decide +kernel : ∀ t : Fin grid1.N, _)

/-- Row `a` of the row block of point `t`. -/
def row1 (t : Fin cfg1.N) (a : Fin 256) : Fin 512 := ⟨t.val * 256 + a.val, by have h1 : t.val < 2 := t.isLt; omega⟩

theorem iblk1_0 (c : Dev nD) (t : Fin cfg1.N) (d : Fin 8) (a : Fin 256) (b : Fin 1024) :
    (iblk1 (V3 m ρ) c 0 t (ix3 (n0 := 8) (n1 := 256) (n2 := 1024) d a b) : EReal) = m ((c : Thread nD τ).loc main_arg1) (ix3 (n0 := 8) (n1 := 512) (n2 := 1024) d (row1 t a) b) := by
  have h := W2_args m ρ c main_arg1 (by decide)
  blk_simp [iblk1, idx1 t]
  simp only [V3, W3, hostOps1, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg1)) (ext3 ?_ ?_ ?_)
  · blk_ext [idx1 t]
  · unfold row1; blk_ext [idx1 t]
  · blk_ext [idx1 t]

theorem iblk1_1 (c : Dev nD) (t : Fin cfg1.N) (a : Fin 256) (b : Fin 1024) :
    (iblk1 (V3 m ρ) c 1 t (ix3 (n0 := 1) (n1 := 256) (n2 := 1024) 0 a b) : EReal) = m ((c : Thread nD τ).loc main_arg4) (ix3 (n0 := 4) (n1 := 512) (n2 := 1024) 1 (row1 t a) b) := by
  refine (congrFun (congrArg _ (W3_args m ρ c main_arg4 (by decide))) _).trans ?_
  refine congrArg (m ((c : Thread nD τ).loc main_arg4)) (ext3 ?_ ?_ ?_)
  · first | rfl | exact congrArg (fun n => n * 1 + 0) (congrFun (idx1 t).2.1 0)
  · unfold row1; blk_ext [idx1 t]
  · blk_ext [idx1 t]

theorem iblk1_2 (c : Dev nD) (t : Fin cfg1.N) (a : Fin 256) (b : Fin 1024) :
    (iblk1 (V3 m ρ) c 2 t (ix3 (n0 := 1) (n1 := 256) (n2 := 1024) 0 a b) : EReal) = m ((c : Thread nD τ).loc main_arg5) (ix3 (n0 := 4) (n1 := 512) (n2 := 1024) 1 (row1 t a) b) := by
  refine (congrFun (congrArg _ (W3_args m ρ c main_arg5 (by decide))) _).trans ?_
  refine congrArg (m ((c : Thread nD τ).loc main_arg5)) (ext3 ?_ ?_ ?_)
  · first | rfl | exact congrArg (fun n => n * 1 + 0) (congrFun (idx1 t).2.2.1 0)
  · unfold row1; blk_ext [idx1 t]
  · blk_ext [idx1 t]

theorem iblk1_3 (c : Dev nD) (t : Fin cfg1.N) (a : Fin 256) (b : Fin 1024) :
    (iblk1 (V3 m ρ) c 3 t (ix3 (n0 := 1) (n1 := 256) (n2 := 1024) 0 a b) : EReal) = m ((c : Thread nD τ).loc main_arg6) (ix3 (n0 := 4) (n1 := 512) (n2 := 1024) 1 (row1 t a) b) := by
  refine (congrFun (congrArg _ (W3_args m ρ c main_arg6 (by decide))) _).trans ?_
  refine congrArg (m ((c : Thread nD τ).loc main_arg6)) (ext3 ?_ ?_ ?_)
  · first | rfl | exact congrArg (fun n => n * 1 + 0) (congrFun (idx1 t).2.2.2.1 0)
  · unfold row1; blk_ext [idx1 t]
  · blk_ext [idx1 t]

theorem emb1 (t : Fin cfg1.N) (a : Fin 256) (b : Fin 1024) : ((View.whole main_v3_0).slice (win1_4.rect t)).emb (B a b) = J 1 (row1 t a) b := by
  unfold B J
  refine ext3 ?_ ?_ ?_
  · first | rfl | exact congrArg (fun n => n * 1 + 0) (congrFun (idx1 t).2.2.2.2.1 0)
  · unfold row1; blk_ext [idx1 t]
  · blk_ext [idx1 t]

theorem split1 (r : Fin 512) : ∃ (t : Fin cfg1.N) (a : Fin 256), r = row1 t a :=
  ⟨⟨r.val / 256, by show r.val / 256 < 2; omega⟩, ⟨r.val % 256, by omega⟩, Fin.ext (by show r.val = r.val / 256 * 256 + r.val % 256; omega)⟩

theorem out1_4 (c : Dev nD) (t : Fin cfg1.N) (a : Fin 256) (b : Fin 1024) : (outsAt1 (V3 m ρ) c t).1 (B a b) = G4 m c (J 1 (row1 t a) b) := by
  unfold outsAt1 G4 B J
  frame_out
  pointwise [k1_pay1, k1_pay2, k1_pay3, k1_pay4, k1_pay5, k1_pay6, k1_pay7]
  simp only [iblk1_0, iblk1_1, iblk1_2, iblk1_3]
  simp only [Fin.sum_univ_eight]
  all_goals rfl

theorem new1_4 (c : Dev nD) (r : Fin 512) (b : Fin 1024) : (dat1 (V3 m ρ) c).arrAt 4 cfg1.N (J 1 r b) = G4 m c (J 1 r b) := by
  obtain ⟨t, a, rfl⟩ := split1 r
  refine (dat1 (V3 m ρ) c).arrAt_apply_of_mem 4 (G4 m c) (fun t hf => ?_) cfg1.N t _ t.isLt (flush1_4 t) (Finset.mem_map.mpr ⟨B a b, Finset.mem_univ _, emb1 t a b⟩)
  funext y
  obtain ⟨a, b, rfl⟩ := eq_B y
  blk_simp
  rw [after1_4]
  exact (out1_4 m ρ c t a b).trans (congrArg (G4 m c) (emb1 t a b)).symm

theorem old1_4 (c : Dev nD) (l : Fin 4) (hl : l ≠ 1) (r : Fin 512) (b : Fin 1024) :
    (dat1 (V3 m ρ) c).arrAt 4 cfg1.N (J l r b) = (dat0 (V1 m ρ) c).arrAt 4 cfg0.N (J l r b) := by
  refine ((dat1 (V3 m ρ) c).arrAt_apply_of_forall_not_mem 4 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 4)) _
    show W3 m ρ c (Proc.devRef .tc main_v3_0) = W2 m ρ c (Proc.devRef .tc main_v1_0)
    simp only [W3, hostOps1, List.flatten_cons, List.flatten_nil, List.append_nil, List.cons_append, List.nil_append,
      TRef.binary, TRef.nullary, TRef.unary, TRef.toBuf, TRef.ofBuf, cast_eq]
    after_results
    rfl

theorem out1_5 (c : Dev nD) (t : Fin cfg1.N) (a : Fin 256) (b : Fin 1024) : (outsAt1 (V3 m ρ) c t).2.1 (B a b) = G5 m c (J 1 (row1 t a) b) := by
  unfold outsAt1 G5 B J
  frame_out
  pointwise [k1_pay1, k1_pay2, k1_pay3, k1_pay4, k1_pay5, k1_pay6, k1_pay7]
  simp only [iblk1_0, iblk1_1, iblk1_2, iblk1_3]
  pointwise
  simp only [Fin.sum_univ_eight]
  all_goals rfl

theorem new1_5 (c : Dev nD) (r : Fin 512) (b : Fin 1024) : (dat1 (V3 m ρ) c).arrAt 5 cfg1.N (J 1 r b) = G5 m c (J 1 r b) := by
  obtain ⟨t, a, rfl⟩ := split1 r
  refine (dat1 (V3 m ρ) c).arrAt_apply_of_mem 5 (G5 m c) (fun t hf => ?_) cfg1.N t _ t.isLt (flush1_5 t) (Finset.mem_map.mpr ⟨B a b, Finset.mem_univ _, emb1 t a b⟩)
  funext y
  obtain ⟨a, b, rfl⟩ := eq_B y
  blk_simp
  rw [after1_5]
  exact (out1_5 m ρ c t a b).trans (congrArg (G5 m c) (emb1 t a b)).symm

theorem old1_5 (c : Dev nD) (l : Fin 4) (hl : l ≠ 1) (r : Fin 512) (b : Fin 1024) :
    (dat1 (V3 m ρ) c).arrAt 5 cfg1.N (J l r b) = (dat0 (V1 m ρ) c).arrAt 5 cfg0.N (J l r b) := by
  refine ((dat1 (V3 m ρ) c).arrAt_apply_of_forall_not_mem 5 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 5)) _
    show W3 m ρ c (Proc.devRef .tc main_v3_1) = W2 m ρ c (Proc.devRef .tc main_v1_1)
    simp only [W3, hostOps1, List.flatten_cons, List.flatten_nil, List.append_nil, List.cons_append, List.nil_append,
      TRef.binary, TRef.nullary, TRef.unary, TRef.toBuf, TRef.ofBuf, cast_eq]
    after_results
    rfl

theorem out1_6 (c : Dev nD) (t : Fin cfg1.N) (a : Fin 256) (b : Fin 1024) : (outsAt1 (V3 m ρ) c t).2.2.1 (B a b) = G6 m c (J 1 (row1 t a) b) := by
  unfold outsAt1 G6 B J
  frame_out
  pointwise [k1_pay1, k1_pay2, k1_pay3, k1_pay4, k1_pay5, k1_pay6, k1_pay7]
  simp only [iblk1_0, iblk1_1, iblk1_2, iblk1_3]
  simp only [Fin.sum_univ_eight]
  all_goals rfl

theorem new1_6 (c : Dev nD) (r : Fin 512) (b : Fin 1024) : (dat1 (V3 m ρ) c).arrAt 6 cfg1.N (J 1 r b) = G6 m c (J 1 r b) := by
  obtain ⟨t, a, rfl⟩ := split1 r
  refine (dat1 (V3 m ρ) c).arrAt_apply_of_mem 6 (G6 m c) (fun t hf => ?_) cfg1.N t _ t.isLt (flush1_6 t) (Finset.mem_map.mpr ⟨B a b, Finset.mem_univ _, emb1 t a b⟩)
  funext y
  obtain ⟨a, b, rfl⟩ := eq_B y
  blk_simp
  rw [after1_6]
  exact (out1_6 m ρ c t a b).trans (congrArg (G6 m c) (emb1 t a b)).symm

theorem old1_6 (c : Dev nD) (l : Fin 4) (hl : l ≠ 1) (r : Fin 512) (b : Fin 1024) :
    (dat1 (V3 m ρ) c).arrAt 6 cfg1.N (J l r b) = (dat0 (V1 m ρ) c).arrAt 6 cfg0.N (J l r b) := by
  refine ((dat1 (V3 m ρ) c).arrAt_apply_of_forall_not_mem 6 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 6)) _
    show W3 m ρ c (Proc.devRef .tc main_v3_2) = W2 m ρ c (Proc.devRef .tc main_v1_2)
    simp only [W3, hostOps1, List.flatten_cons, List.flatten_nil, List.append_nil, List.cons_append, List.nil_append,
      TRef.binary, TRef.nullary, TRef.unary, TRef.toBuf, TRef.ofBuf, cast_eq]
    after_results
    rfl

theorem out1_7 (c : Dev nD) (t : Fin cfg1.N) (a : Fin 256) (b : Fin 1024) : (outsAt1 (V3 m ρ) c t).2.2.2 (B a b) = G7 m c (J 1 (row1 t a) b) := by
  unfold outsAt1 G7 B J
  frame_out
  pointwise [k1_pay1, k1_pay2, k1_pay3, k1_pay4, k1_pay5, k1_pay6, k1_pay7]
  simp only [iblk1_0, iblk1_1, iblk1_2, iblk1_3]
  simp only [Fin.sum_univ_eight]
  all_goals rfl

theorem new1_7 (c : Dev nD) (r : Fin 512) (b : Fin 1024) : (dat1 (V3 m ρ) c).arrAt 7 cfg1.N (J 1 r b) = G7 m c (J 1 r b) := by
  obtain ⟨t, a, rfl⟩ := split1 r
  refine (dat1 (V3 m ρ) c).arrAt_apply_of_mem 7 (G7 m c) (fun t hf => ?_) cfg1.N t _ t.isLt (flush1_7 t) (Finset.mem_map.mpr ⟨B a b, Finset.mem_univ _, emb1 t a b⟩)
  funext y
  obtain ⟨a, b, rfl⟩ := eq_B y
  blk_simp
  rw [after1_7]
  exact (out1_7 m ρ c t a b).trans (congrArg (G7 m c) (emb1 t a b)).symm

theorem old1_7 (c : Dev nD) (l : Fin 4) (hl : l ≠ 1) (r : Fin 512) (b : Fin 1024) :
    (dat1 (V3 m ρ) c).arrAt 7 cfg1.N (J l r b) = (dat0 (V1 m ρ) c).arrAt 7 cfg0.N (J l r b) := by
  refine ((dat1 (V3 m ρ) c).arrAt_apply_of_forall_not_mem 7 cfg1.N _ fun t _ _ hi => ?_).trans ?_
  · obtain ⟨y, -, hy⟩ := Finset.mem_map.mp hi
    obtain ⟨a, b, rfl⟩ := eq_B y
    exact hl (congrFun ((emb1 t a b).symm.trans hy) 0).symm
  · rw [A_eq1]
    refine congrFun (Eq.trans ?_ (W2_arr m ρ c 7)) _
    show W3 m ρ c (Proc.devRef .tc main_v3_3) = W2 m ρ c (Proc.devRef .tc main_v1_3)
    simp only [W3, hostOps1, List.flatten_cons, List.flatten_nil, List.append_nil, List.cons_append, List.nil_append,
      TRef.binary, TRef.nullary, TRef.unary, TRef.toBuf, TRef.ofBuf, cast_eq]
    after_results
    rfl

/-! ## The call of layer 2 -/

/-- The windows' block indices at point `t`. -/
theorem idx2 : ∀ t : Fin cfg2.N, win2_0.index t = ![0, t.val, 0] ∧ win2_1.index t = ![2, t.val, 0] ∧ win2_2.index t = ![2, t.val, 0] ∧ win2_3.index t = ![2, t.val, 0] ∧ win2_4.index t = ![2, t.val, 0] ∧ win2_5.index t = ![2, t.val, 0] ∧ win2_6.index t = ![2, t.val, 0] ∧ win2_7.index t = ![2, t.val, 0] :=
  (by decide +kernel : ∀ t : Fin grid2.N, _)

/-- Row `a` of the row block of point `t`. -/
def row2 (t : Fin cfg2.N) (a : Fin 256) : Fin 512 := ⟨t.val * 256 + a.val, by have h1 : t.val < 2 := t.isLt; omega⟩

theorem iblk2_0 (c : Dev nD) (t : Fin cfg2.N) (d : Fin 8) (a : Fin 256) (b : Fin 1024) :
    (iblk2 (V5 m ρ) c 0 t (ix3 (n0 := 8) (n1 := 256) (n2 := 1024) d a b) : EReal) = m ((c : Thread nD τ).loc main_arg2) (ix3 (n0 := 8) (n1 := 512) (n2 := 1024) d (row2 t a) b) := by
  have h := W4_args m ρ c main_arg2 (by decide)
  blk_simp [iblk2, idx2 t]
  simp only [V5, W5, hostOps2, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg2)) (ext3 ?_ ?_ ?_)
  · blk_ext [idx2 t]
  · unfold row2; blk_ext [idx2 t]
  · blk_ext [idx2 t]

theorem iblk2_1 (c : Dev nD) (t : Fin cfg2.N) (a : Fin 256) (b : Fin 1024) :
    (iblk2 (V5 m ρ) c 1 t (ix3 (n0 := 1) (n1 := 256) (n2 := 1024) 0 a b) : EReal) = m ((c : Thread nD τ).loc main_arg4) (ix3 (n0 := 4) (n1 := 512) (n2 := 1024) 2 (row2 t a) b) := by
  refine (congrFun (congrArg _ (W5_args m ρ c main_arg4 (by decide))) _).trans ?_
  refine congrArg (m ((c : Thread nD τ).loc main_arg4)) (ext3 ?_ ?_ ?_)
  · first | rfl | exact congrArg (fun n => n * 1 + 0) (congrFun (idx2 t).2.1 0)
  · unfold row2; blk_ext [idx2 t]
  · blk_ext [idx2 t]

theorem iblk2_2 (c : Dev nD) (t : Fin cfg2.N) (a : Fin 256) (b : Fin 1024) :
    (iblk2 (V5 m ρ) c 2 t (ix3 (n0 := 1) (n1 := 256) (n2 := 1024) 0 a b) : EReal) = m ((c : Thread nD τ).loc main_arg5) (ix3 (n0 := 4) (n1 := 512) (n2 := 1024) 2 (row2 t a) b) := by
  refine (congrFun (congrArg _ (W5_args m ρ c main_arg5 (by decide))) _).trans ?_
  refine congrArg (m ((c : Thread nD τ).loc main_arg5)) (ext3 ?_ ?_ ?_)
  · first | rfl | exact congrArg (fun n => n * 1 + 0) (congrFun (idx2 t).2.2.1 0)
  · unfold row2; blk_ext [idx2 t]
  · blk_ext [idx2 t]

theorem iblk2_3 (c : Dev nD) (t : Fin cfg2.N) (a : Fin 256) (b : Fin 1024) :
    (iblk2 (V5 m ρ) c 3 t (ix3 (n0 := 1) (n1 := 256) (n2 := 1024) 0 a b) : EReal) = m ((c : Thread nD τ).loc main_arg6) (ix3 (n0 := 4) (n1 := 512) (n2 := 1024) 2 (row2 t a) b) := by
  refine (congrFun (congrArg _ (W5_args m ρ c main_arg6 (by decide))) _).trans ?_
  refine congrArg (m ((c : Thread nD τ).loc main_arg6)) (ext3 ?_ ?_ ?_)
  · first | rfl | exact congrArg (fun n => n * 1 + 0) (congrFun (idx2 t).2.2.2.1 0)
  · unfold row2; blk_ext [idx2 t]
  · blk_ext [idx2 t]

theorem emb2 (t : Fin cfg2.N) (a : Fin 256) (b : Fin 1024) : ((View.whole main_v5_0).slice (win2_4.rect t)).emb (B a b) = J 2 (row2 t a) b := by
  unfold B J
  refine ext3 ?_ ?_ ?_
  · first | rfl | exact congrArg (fun n => n * 1 + 0) (congrFun (idx2 t).2.2.2.2.1 0)
  · unfold row2; blk_ext [idx2 t]
  · blk_ext [idx2 t]

theorem split2 (r : Fin 512) : ∃ (t : Fin cfg2.N) (a : Fin 256), r = row2 t a :=
  ⟨⟨r.val / 256, by show r.val / 256 < 2; omega⟩, ⟨r.val % 256, by omega⟩, Fin.ext (by show r.val = r.val / 256 * 256 + r.val % 256; omega)⟩

theorem out2_4 (c : Dev nD) (t : Fin cfg2.N) (a : Fin 256) (b : Fin 1024) : (outsAt2 (V5 m ρ) c t).1 (B a b) = G4 m c (J 2 (row2 t a) b) := by
  unfold outsAt2 G4 B J
  frame_out
  pointwise [k2_pay1, k2_pay2, k2_pay3, k2_pay4, k2_pay5, k2_pay6, k2_pay7]
  simp only [iblk2_0, iblk2_1, iblk2_2, iblk2_3]
  simp only [Fin.sum_univ_eight]
  all_goals rfl

theorem new2_4 (c : Dev nD) (r : Fin 512) (b : Fin 1024) : (dat2 (V5 m ρ) c).arrAt 4 cfg2.N (J 2 r b) = G4 m c (J 2 r b) := by
  obtain ⟨t, a, rfl⟩ := split2 r
  refine (dat2 (V5 m ρ) c).arrAt_apply_of_mem 4 (G4 m c) (fun t hf => ?_) cfg2.N t _ t.isLt (flush2_4 t) (Finset.mem_map.mpr ⟨B a b, Finset.mem_univ _, emb2 t a b⟩)
  funext y
  obtain ⟨a, b, rfl⟩ := eq_B y
  blk_simp
  rw [after2_4]
  exact (out2_4 m ρ c t a b).trans (congrArg (G4 m c) (emb2 t a b)).symm

theorem old2_4 (c : Dev nD) (l : Fin 4) (hl : l ≠ 2) (r : Fin 512) (b : Fin 1024) :
    (dat2 (V5 m ρ) c).arrAt 4 cfg2.N (J l r b) = (dat1 (V3 m ρ) c).arrAt 4 cfg1.N (J l r b) := by
  refine ((dat2 (V5 m ρ) c).arrAt_apply_of_forall_not_mem 4 cfg2.N _ fun t _ _ hi => ?_).trans ?_
  · obtain ⟨y, -, hy⟩ := Finset.mem_map.mp hi
    obtain ⟨a, b, rfl⟩ := eq_B y
    exact hl (congrFun ((emb2 t a b).symm.trans hy) 0).symm
  · rw [A_eq2]
    refine congrFun (Eq.trans ?_ (W4_arr m ρ c 4)) _
    show W5 m ρ c (Proc.devRef .tc main_v5_0) = W4 m ρ c (Proc.devRef .tc main_v3_0)
    simp only [W5, hostOps2, List.flatten_cons, List.flatten_nil, List.append_nil, List.cons_append, List.nil_append,
      TRef.binary, TRef.nullary, TRef.unary, TRef.toBuf, TRef.ofBuf, cast_eq]
    after_results
    rfl

theorem out2_5 (c : Dev nD) (t : Fin cfg2.N) (a : Fin 256) (b : Fin 1024) : (outsAt2 (V5 m ρ) c t).2.1 (B a b) = G5 m c (J 2 (row2 t a) b) := by
  unfold outsAt2 G5 B J
  frame_out
  pointwise [k2_pay1, k2_pay2, k2_pay3, k2_pay4, k2_pay5, k2_pay6, k2_pay7]
  simp only [iblk2_0, iblk2_1, iblk2_2, iblk2_3]
  pointwise
  simp only [Fin.sum_univ_eight]
  all_goals rfl

theorem new2_5 (c : Dev nD) (r : Fin 512) (b : Fin 1024) : (dat2 (V5 m ρ) c).arrAt 5 cfg2.N (J 2 r b) = G5 m c (J 2 r b) := by
  obtain ⟨t, a, rfl⟩ := split2 r
  refine (dat2 (V5 m ρ) c).arrAt_apply_of_mem 5 (G5 m c) (fun t hf => ?_) cfg2.N t _ t.isLt (flush2_5 t) (Finset.mem_map.mpr ⟨B a b, Finset.mem_univ _, emb2 t a b⟩)
  funext y
  obtain ⟨a, b, rfl⟩ := eq_B y
  blk_simp
  rw [after2_5]
  exact (out2_5 m ρ c t a b).trans (congrArg (G5 m c) (emb2 t a b)).symm

theorem old2_5 (c : Dev nD) (l : Fin 4) (hl : l ≠ 2) (r : Fin 512) (b : Fin 1024) :
    (dat2 (V5 m ρ) c).arrAt 5 cfg2.N (J l r b) = (dat1 (V3 m ρ) c).arrAt 5 cfg1.N (J l r b) := by
  refine ((dat2 (V5 m ρ) c).arrAt_apply_of_forall_not_mem 5 cfg2.N _ fun t _ _ hi => ?_).trans ?_
  · obtain ⟨y, -, hy⟩ := Finset.mem_map.mp hi
    obtain ⟨a, b, rfl⟩ := eq_B y
    exact hl (congrFun ((emb2 t a b).symm.trans hy) 0).symm
  · rw [A_eq2]
    refine congrFun (Eq.trans ?_ (W4_arr m ρ c 5)) _
    show W5 m ρ c (Proc.devRef .tc main_v5_1) = W4 m ρ c (Proc.devRef .tc main_v3_1)
    simp only [W5, hostOps2, List.flatten_cons, List.flatten_nil, List.append_nil, List.cons_append, List.nil_append,
      TRef.binary, TRef.nullary, TRef.unary, TRef.toBuf, TRef.ofBuf, cast_eq]
    after_results
    rfl

theorem out2_6 (c : Dev nD) (t : Fin cfg2.N) (a : Fin 256) (b : Fin 1024) : (outsAt2 (V5 m ρ) c t).2.2.1 (B a b) = G6 m c (J 2 (row2 t a) b) := by
  unfold outsAt2 G6 B J
  frame_out
  pointwise [k2_pay1, k2_pay2, k2_pay3, k2_pay4, k2_pay5, k2_pay6, k2_pay7]
  simp only [iblk2_0, iblk2_1, iblk2_2, iblk2_3]
  simp only [Fin.sum_univ_eight]
  all_goals rfl

theorem new2_6 (c : Dev nD) (r : Fin 512) (b : Fin 1024) : (dat2 (V5 m ρ) c).arrAt 6 cfg2.N (J 2 r b) = G6 m c (J 2 r b) := by
  obtain ⟨t, a, rfl⟩ := split2 r
  refine (dat2 (V5 m ρ) c).arrAt_apply_of_mem 6 (G6 m c) (fun t hf => ?_) cfg2.N t _ t.isLt (flush2_6 t) (Finset.mem_map.mpr ⟨B a b, Finset.mem_univ _, emb2 t a b⟩)
  funext y
  obtain ⟨a, b, rfl⟩ := eq_B y
  blk_simp
  rw [after2_6]
  exact (out2_6 m ρ c t a b).trans (congrArg (G6 m c) (emb2 t a b)).symm

theorem old2_6 (c : Dev nD) (l : Fin 4) (hl : l ≠ 2) (r : Fin 512) (b : Fin 1024) :
    (dat2 (V5 m ρ) c).arrAt 6 cfg2.N (J l r b) = (dat1 (V3 m ρ) c).arrAt 6 cfg1.N (J l r b) := by
  refine ((dat2 (V5 m ρ) c).arrAt_apply_of_forall_not_mem 6 cfg2.N _ fun t _ _ hi => ?_).trans ?_
  · obtain ⟨y, -, hy⟩ := Finset.mem_map.mp hi
    obtain ⟨a, b, rfl⟩ := eq_B y
    exact hl (congrFun ((emb2 t a b).symm.trans hy) 0).symm
  · rw [A_eq2]
    refine congrFun (Eq.trans ?_ (W4_arr m ρ c 6)) _
    show W5 m ρ c (Proc.devRef .tc main_v5_2) = W4 m ρ c (Proc.devRef .tc main_v3_2)
    simp only [W5, hostOps2, List.flatten_cons, List.flatten_nil, List.append_nil, List.cons_append, List.nil_append,
      TRef.binary, TRef.nullary, TRef.unary, TRef.toBuf, TRef.ofBuf, cast_eq]
    after_results
    rfl

theorem out2_7 (c : Dev nD) (t : Fin cfg2.N) (a : Fin 256) (b : Fin 1024) : (outsAt2 (V5 m ρ) c t).2.2.2 (B a b) = G7 m c (J 2 (row2 t a) b) := by
  unfold outsAt2 G7 B J
  frame_out
  pointwise [k2_pay1, k2_pay2, k2_pay3, k2_pay4, k2_pay5, k2_pay6, k2_pay7]
  simp only [iblk2_0, iblk2_1, iblk2_2, iblk2_3]
  simp only [Fin.sum_univ_eight]
  all_goals rfl

theorem new2_7 (c : Dev nD) (r : Fin 512) (b : Fin 1024) : (dat2 (V5 m ρ) c).arrAt 7 cfg2.N (J 2 r b) = G7 m c (J 2 r b) := by
  obtain ⟨t, a, rfl⟩ := split2 r
  refine (dat2 (V5 m ρ) c).arrAt_apply_of_mem 7 (G7 m c) (fun t hf => ?_) cfg2.N t _ t.isLt (flush2_7 t) (Finset.mem_map.mpr ⟨B a b, Finset.mem_univ _, emb2 t a b⟩)
  funext y
  obtain ⟨a, b, rfl⟩ := eq_B y
  blk_simp
  rw [after2_7]
  exact (out2_7 m ρ c t a b).trans (congrArg (G7 m c) (emb2 t a b)).symm

theorem old2_7 (c : Dev nD) (l : Fin 4) (hl : l ≠ 2) (r : Fin 512) (b : Fin 1024) :
    (dat2 (V5 m ρ) c).arrAt 7 cfg2.N (J l r b) = (dat1 (V3 m ρ) c).arrAt 7 cfg1.N (J l r b) := by
  refine ((dat2 (V5 m ρ) c).arrAt_apply_of_forall_not_mem 7 cfg2.N _ fun t _ _ hi => ?_).trans ?_
  · obtain ⟨y, -, hy⟩ := Finset.mem_map.mp hi
    obtain ⟨a, b, rfl⟩ := eq_B y
    exact hl (congrFun ((emb2 t a b).symm.trans hy) 0).symm
  · rw [A_eq2]
    refine congrFun (Eq.trans ?_ (W4_arr m ρ c 7)) _
    show W5 m ρ c (Proc.devRef .tc main_v5_3) = W4 m ρ c (Proc.devRef .tc main_v3_3)
    simp only [W5, hostOps2, List.flatten_cons, List.flatten_nil, List.append_nil, List.cons_append, List.nil_append,
      TRef.binary, TRef.nullary, TRef.unary, TRef.toBuf, TRef.ofBuf, cast_eq]
    after_results
    rfl

/-! ## The call of layer 3 -/

/-- The windows' block indices at point `t`. -/
theorem idx3 : ∀ t : Fin cfg3.N, win3_0.index t = ![0, t.val, 0] ∧ win3_1.index t = ![3, t.val, 0] ∧ win3_2.index t = ![3, t.val, 0] ∧ win3_3.index t = ![3, t.val, 0] ∧ win3_4.index t = ![3, t.val, 0] ∧ win3_5.index t = ![3, t.val, 0] ∧ win3_6.index t = ![3, t.val, 0] ∧ win3_7.index t = ![3, t.val, 0] :=
  (by decide +kernel : ∀ t : Fin grid3.N, _)

/-- Row `a` of the row block of point `t`. -/
def row3 (t : Fin cfg3.N) (a : Fin 256) : Fin 512 := ⟨t.val * 256 + a.val, by have h1 : t.val < 2 := t.isLt; omega⟩

theorem iblk3_0 (c : Dev nD) (t : Fin cfg3.N) (d : Fin 8) (a : Fin 256) (b : Fin 1024) :
    (iblk3 (V7 m ρ) c 0 t (ix3 (n0 := 8) (n1 := 256) (n2 := 1024) d a b) : EReal) = m ((c : Thread nD τ).loc main_arg3) (ix3 (n0 := 8) (n1 := 512) (n2 := 1024) d (row3 t a) b) := by
  have h := W6_args m ρ c main_arg3 (by decide)
  blk_simp [iblk3, idx3 t]
  simp only [V7, W7, hostOps3, List.flatten_cons, List.flatten_nil, List.append_nil, List.cons_append, List.nil_append,
    TRef.binary, TRef.nullary, TRef.unary, TRef.toBuf, TRef.ofBuf, cast_eq]
  after_results
  rw [h]
  refine congrArg (m ((c : Thread nD τ).loc main_arg3)) (ext3 ?_ ?_ ?_)
  · blk_ext [idx3 t]
  · unfold row3; blk_ext [idx3 t]
  · blk_ext [idx3 t]

theorem iblk3_1 (c : Dev nD) (t : Fin cfg3.N) (a : Fin 256) (b : Fin 1024) :
    (iblk3 (V7 m ρ) c 1 t (ix3 (n0 := 1) (n1 := 256) (n2 := 1024) 0 a b) : EReal) = m ((c : Thread nD τ).loc main_arg4) (ix3 (n0 := 4) (n1 := 512) (n2 := 1024) 3 (row3 t a) b) := by
  refine (congrFun (congrArg _ (W7_args m ρ c main_arg4 (by decide))) _).trans ?_
  refine congrArg (m ((c : Thread nD τ).loc main_arg4)) (ext3 ?_ ?_ ?_)
  · first | rfl | exact congrArg (fun n => n * 1 + 0) (congrFun (idx3 t).2.1 0)
  · unfold row3; blk_ext [idx3 t]
  · blk_ext [idx3 t]

theorem iblk3_2 (c : Dev nD) (t : Fin cfg3.N) (a : Fin 256) (b : Fin 1024) :
    (iblk3 (V7 m ρ) c 2 t (ix3 (n0 := 1) (n1 := 256) (n2 := 1024) 0 a b) : EReal) = m ((c : Thread nD τ).loc main_arg5) (ix3 (n0 := 4) (n1 := 512) (n2 := 1024) 3 (row3 t a) b) := by
  refine (congrFun (congrArg _ (W7_args m ρ c main_arg5 (by decide))) _).trans ?_
  refine congrArg (m ((c : Thread nD τ).loc main_arg5)) (ext3 ?_ ?_ ?_)
  · first | rfl | exact congrArg (fun n => n * 1 + 0) (congrFun (idx3 t).2.2.1 0)
  · unfold row3; blk_ext [idx3 t]
  · blk_ext [idx3 t]

theorem iblk3_3 (c : Dev nD) (t : Fin cfg3.N) (a : Fin 256) (b : Fin 1024) :
    (iblk3 (V7 m ρ) c 3 t (ix3 (n0 := 1) (n1 := 256) (n2 := 1024) 0 a b) : EReal) = m ((c : Thread nD τ).loc main_arg6) (ix3 (n0 := 4) (n1 := 512) (n2 := 1024) 3 (row3 t a) b) := by
  refine (congrFun (congrArg _ (W7_args m ρ c main_arg6 (by decide))) _).trans ?_
  refine congrArg (m ((c : Thread nD τ).loc main_arg6)) (ext3 ?_ ?_ ?_)
  · first | rfl | exact congrArg (fun n => n * 1 + 0) (congrFun (idx3 t).2.2.2.1 0)
  · unfold row3; blk_ext [idx3 t]
  · blk_ext [idx3 t]

theorem emb3 (t : Fin cfg3.N) (a : Fin 256) (b : Fin 1024) : ((View.whole main_v7_0).slice (win3_4.rect t)).emb (B a b) = J 3 (row3 t a) b := by
  unfold B J
  refine ext3 ?_ ?_ ?_
  · first | rfl | exact congrArg (fun n => n * 1 + 0) (congrFun (idx3 t).2.2.2.2.1 0)
  · unfold row3; blk_ext [idx3 t]
  · blk_ext [idx3 t]

theorem split3 (r : Fin 512) : ∃ (t : Fin cfg3.N) (a : Fin 256), r = row3 t a :=
  ⟨⟨r.val / 256, by show r.val / 256 < 2; omega⟩, ⟨r.val % 256, by omega⟩, Fin.ext (by show r.val = r.val / 256 * 256 + r.val % 256; omega)⟩

theorem out3_4 (c : Dev nD) (t : Fin cfg3.N) (a : Fin 256) (b : Fin 1024) : (outsAt3 (V7 m ρ) c t).1 (B a b) = G4 m c (J 3 (row3 t a) b) := by
  unfold outsAt3 G4 B J
  frame_out
  pointwise [k3_pay1, k3_pay2, k3_pay3, k3_pay4, k3_pay5, k3_pay6, k3_pay7]
  simp only [iblk3_0, iblk3_1, iblk3_2, iblk3_3]
  simp only [Fin.sum_univ_eight]
  all_goals rfl

theorem new3_4 (c : Dev nD) (r : Fin 512) (b : Fin 1024) : (dat3 (V7 m ρ) c).arrAt 4 cfg3.N (J 3 r b) = G4 m c (J 3 r b) := by
  obtain ⟨t, a, rfl⟩ := split3 r
  refine (dat3 (V7 m ρ) c).arrAt_apply_of_mem 4 (G4 m c) (fun t hf => ?_) cfg3.N t _ t.isLt (flush3_4 t) (Finset.mem_map.mpr ⟨B a b, Finset.mem_univ _, emb3 t a b⟩)
  funext y
  obtain ⟨a, b, rfl⟩ := eq_B y
  blk_simp
  rw [after3_4]
  exact (out3_4 m ρ c t a b).trans (congrArg (G4 m c) (emb3 t a b)).symm

theorem old3_4 (c : Dev nD) (l : Fin 4) (hl : l ≠ 3) (r : Fin 512) (b : Fin 1024) :
    (dat3 (V7 m ρ) c).arrAt 4 cfg3.N (J l r b) = (dat2 (V5 m ρ) c).arrAt 4 cfg2.N (J l r b) := by
  refine ((dat3 (V7 m ρ) c).arrAt_apply_of_forall_not_mem 4 cfg3.N _ fun t _ _ hi => ?_).trans ?_
  · obtain ⟨y, -, hy⟩ := Finset.mem_map.mp hi
    obtain ⟨a, b, rfl⟩ := eq_B y
    exact hl (congrFun ((emb3 t a b).symm.trans hy) 0).symm
  · rw [A_eq3]
    refine congrFun (Eq.trans ?_ (W6_arr m ρ c 4)) _
    show W7 m ρ c (Proc.devRef .tc main_v7_0) = W6 m ρ c (Proc.devRef .tc main_v5_0)
    simp only [W7, hostOps3, List.flatten_cons, List.flatten_nil, List.append_nil, List.cons_append, List.nil_append,
      TRef.binary, TRef.nullary, TRef.unary, TRef.toBuf, TRef.ofBuf, cast_eq]
    after_results
    rfl

theorem out3_5 (c : Dev nD) (t : Fin cfg3.N) (a : Fin 256) (b : Fin 1024) : (outsAt3 (V7 m ρ) c t).2.1 (B a b) = G5 m c (J 3 (row3 t a) b) := by
  unfold outsAt3 G5 B J
  frame_out
  pointwise [k3_pay1, k3_pay2, k3_pay3, k3_pay4, k3_pay5, k3_pay6, k3_pay7]
  simp only [iblk3_0, iblk3_1, iblk3_2, iblk3_3]
  pointwise
  simp only [Fin.sum_univ_eight]
  all_goals rfl

theorem new3_5 (c : Dev nD) (r : Fin 512) (b : Fin 1024) : (dat3 (V7 m ρ) c).arrAt 5 cfg3.N (J 3 r b) = G5 m c (J 3 r b) := by
  obtain ⟨t, a, rfl⟩ := split3 r
  refine (dat3 (V7 m ρ) c).arrAt_apply_of_mem 5 (G5 m c) (fun t hf => ?_) cfg3.N t _ t.isLt (flush3_5 t) (Finset.mem_map.mpr ⟨B a b, Finset.mem_univ _, emb3 t a b⟩)
  funext y
  obtain ⟨a, b, rfl⟩ := eq_B y
  blk_simp
  rw [after3_5]
  exact (out3_5 m ρ c t a b).trans (congrArg (G5 m c) (emb3 t a b)).symm

theorem old3_5 (c : Dev nD) (l : Fin 4) (hl : l ≠ 3) (r : Fin 512) (b : Fin 1024) :
    (dat3 (V7 m ρ) c).arrAt 5 cfg3.N (J l r b) = (dat2 (V5 m ρ) c).arrAt 5 cfg2.N (J l r b) := by
  refine ((dat3 (V7 m ρ) c).arrAt_apply_of_forall_not_mem 5 cfg3.N _ fun t _ _ hi => ?_).trans ?_
  · obtain ⟨y, -, hy⟩ := Finset.mem_map.mp hi
    obtain ⟨a, b, rfl⟩ := eq_B y
    exact hl (congrFun ((emb3 t a b).symm.trans hy) 0).symm
  · rw [A_eq3]
    refine congrFun (Eq.trans ?_ (W6_arr m ρ c 5)) _
    show W7 m ρ c (Proc.devRef .tc main_v7_1) = W6 m ρ c (Proc.devRef .tc main_v5_1)
    simp only [W7, hostOps3, List.flatten_cons, List.flatten_nil, List.append_nil, List.cons_append, List.nil_append,
      TRef.binary, TRef.nullary, TRef.unary, TRef.toBuf, TRef.ofBuf, cast_eq]
    after_results
    rfl

theorem out3_6 (c : Dev nD) (t : Fin cfg3.N) (a : Fin 256) (b : Fin 1024) : (outsAt3 (V7 m ρ) c t).2.2.1 (B a b) = G6 m c (J 3 (row3 t a) b) := by
  unfold outsAt3 G6 B J
  frame_out
  pointwise [k3_pay1, k3_pay2, k3_pay3, k3_pay4, k3_pay5, k3_pay6, k3_pay7]
  simp only [iblk3_0, iblk3_1, iblk3_2, iblk3_3]
  simp only [Fin.sum_univ_eight]
  all_goals rfl

theorem new3_6 (c : Dev nD) (r : Fin 512) (b : Fin 1024) : (dat3 (V7 m ρ) c).arrAt 6 cfg3.N (J 3 r b) = G6 m c (J 3 r b) := by
  obtain ⟨t, a, rfl⟩ := split3 r
  refine (dat3 (V7 m ρ) c).arrAt_apply_of_mem 6 (G6 m c) (fun t hf => ?_) cfg3.N t _ t.isLt (flush3_6 t) (Finset.mem_map.mpr ⟨B a b, Finset.mem_univ _, emb3 t a b⟩)
  funext y
  obtain ⟨a, b, rfl⟩ := eq_B y
  blk_simp
  rw [after3_6]
  exact (out3_6 m ρ c t a b).trans (congrArg (G6 m c) (emb3 t a b)).symm

theorem old3_6 (c : Dev nD) (l : Fin 4) (hl : l ≠ 3) (r : Fin 512) (b : Fin 1024) :
    (dat3 (V7 m ρ) c).arrAt 6 cfg3.N (J l r b) = (dat2 (V5 m ρ) c).arrAt 6 cfg2.N (J l r b) := by
  refine ((dat3 (V7 m ρ) c).arrAt_apply_of_forall_not_mem 6 cfg3.N _ fun t _ _ hi => ?_).trans ?_
  · obtain ⟨y, -, hy⟩ := Finset.mem_map.mp hi
    obtain ⟨a, b, rfl⟩ := eq_B y
    exact hl (congrFun ((emb3 t a b).symm.trans hy) 0).symm
  · rw [A_eq3]
    refine congrFun (Eq.trans ?_ (W6_arr m ρ c 6)) _
    show W7 m ρ c (Proc.devRef .tc main_v7_2) = W6 m ρ c (Proc.devRef .tc main_v5_2)
    simp only [W7, hostOps3, List.flatten_cons, List.flatten_nil, List.append_nil, List.cons_append, List.nil_append,
      TRef.binary, TRef.nullary, TRef.unary, TRef.toBuf, TRef.ofBuf, cast_eq]
    after_results
    rfl

theorem out3_7 (c : Dev nD) (t : Fin cfg3.N) (a : Fin 256) (b : Fin 1024) : (outsAt3 (V7 m ρ) c t).2.2.2 (B a b) = G7 m c (J 3 (row3 t a) b) := by
  unfold outsAt3 G7 B J
  frame_out
  pointwise [k3_pay1, k3_pay2, k3_pay3, k3_pay4, k3_pay5, k3_pay6, k3_pay7]
  simp only [iblk3_0, iblk3_1, iblk3_2, iblk3_3]
  simp only [Fin.sum_univ_eight]
  all_goals rfl

theorem new3_7 (c : Dev nD) (r : Fin 512) (b : Fin 1024) : (dat3 (V7 m ρ) c).arrAt 7 cfg3.N (J 3 r b) = G7 m c (J 3 r b) := by
  obtain ⟨t, a, rfl⟩ := split3 r
  refine (dat3 (V7 m ρ) c).arrAt_apply_of_mem 7 (G7 m c) (fun t hf => ?_) cfg3.N t _ t.isLt (flush3_7 t) (Finset.mem_map.mpr ⟨B a b, Finset.mem_univ _, emb3 t a b⟩)
  funext y
  obtain ⟨a, b, rfl⟩ := eq_B y
  blk_simp
  rw [after3_7]
  exact (out3_7 m ρ c t a b).trans (congrArg (G7 m c) (emb3 t a b)).symm

theorem old3_7 (c : Dev nD) (l : Fin 4) (hl : l ≠ 3) (r : Fin 512) (b : Fin 1024) :
    (dat3 (V7 m ρ) c).arrAt 7 cfg3.N (J l r b) = (dat2 (V5 m ρ) c).arrAt 7 cfg2.N (J l r b) := by
  refine ((dat3 (V7 m ρ) c).arrAt_apply_of_forall_not_mem 7 cfg3.N _ fun t _ _ hi => ?_).trans ?_
  · obtain ⟨y, -, hy⟩ := Finset.mem_map.mp hi
    obtain ⟨a, b, rfl⟩ := eq_B y
    exact hl (congrFun ((emb3 t a b).symm.trans hy) 0).symm
  · rw [A_eq3]
    refine congrFun (Eq.trans ?_ (W6_arr m ρ c 7)) _
    show W7 m ρ c (Proc.devRef .tc main_v7_3) = W6 m ρ c (Proc.devRef .tc main_v5_3)
    simp only [W7, hostOps3, List.flatten_cons, List.flatten_nil, List.append_nil, List.cons_append, List.nil_append,
      TRef.binary, TRef.nullary, TRef.unary, TRef.toBuf, TRef.ofBuf, cast_eq]
    after_results
    rfl

/-! ## The four arrays after the last call -/

theorem final4 (c : Dev nD) : W8 m ρ c (Proc.devRef .tc main_v7_0) = G4 m c := by
  refine (W8_arr m ρ c 4).trans (funext fun i => ?_)
  obtain ⟨l, r, b, rfl⟩ : ∃ (l : Fin 4) (r : Fin 512) (b : Fin 1024), i = J l r b := ⟨i 0, i 1, i 2, eq_ix3 i⟩
  fin_cases l
  · exact (old3_4 m ρ c 0 (by decide) r b).trans ((old2_4 m ρ c 0 (by decide) r b).trans ((old1_4 m ρ c 0 (by decide) r b).trans (new0_4 m ρ c r b)))
  · exact (old3_4 m ρ c 1 (by decide) r b).trans ((old2_4 m ρ c 1 (by decide) r b).trans (new1_4 m ρ c r b))
  · exact (old3_4 m ρ c 2 (by decide) r b).trans (new2_4 m ρ c r b)
  · exact new3_4 m ρ c r b

theorem final5 (c : Dev nD) : W8 m ρ c (Proc.devRef .tc main_v7_1) = G5 m c := by
  refine (W8_arr m ρ c 5).trans (funext fun i => ?_)
  obtain ⟨l, r, b, rfl⟩ : ∃ (l : Fin 4) (r : Fin 512) (b : Fin 1024), i = J l r b := ⟨i 0, i 1, i 2, eq_ix3 i⟩
  fin_cases l
  · exact (old3_5 m ρ c 0 (by decide) r b).trans ((old2_5 m ρ c 0 (by decide) r b).trans ((old1_5 m ρ c 0 (by decide) r b).trans (new0_5 m ρ c r b)))
  · exact (old3_5 m ρ c 1 (by decide) r b).trans ((old2_5 m ρ c 1 (by decide) r b).trans (new1_5 m ρ c r b))
  · exact (old3_5 m ρ c 2 (by decide) r b).trans (new2_5 m ρ c r b)
  · exact new3_5 m ρ c r b

theorem final6 (c : Dev nD) : W8 m ρ c (Proc.devRef .tc main_v7_2) = G6 m c := by
  refine (W8_arr m ρ c 6).trans (funext fun i => ?_)
  obtain ⟨l, r, b, rfl⟩ : ∃ (l : Fin 4) (r : Fin 512) (b : Fin 1024), i = J l r b := ⟨i 0, i 1, i 2, eq_ix3 i⟩
  fin_cases l
  · exact (old3_6 m ρ c 0 (by decide) r b).trans ((old2_6 m ρ c 0 (by decide) r b).trans ((old1_6 m ρ c 0 (by decide) r b).trans (new0_6 m ρ c r b)))
  · exact (old3_6 m ρ c 1 (by decide) r b).trans ((old2_6 m ρ c 1 (by decide) r b).trans (new1_6 m ρ c r b))
  · exact (old3_6 m ρ c 2 (by decide) r b).trans (new2_6 m ρ c r b)
  · exact new3_6 m ρ c r b

theorem final7 (c : Dev nD) : W8 m ρ c (Proc.devRef .tc main_v7_3) = G7 m c := by
  refine (W8_arr m ρ c 7).trans (funext fun i => ?_)
  obtain ⟨l, r, b, rfl⟩ : ∃ (l : Fin 4) (r : Fin 512) (b : Fin 1024), i = J l r b := ⟨i 0, i 1, i 2, eq_ix3 i⟩
  fin_cases l
  · exact (old3_7 m ρ c 0 (by decide) r b).trans ((old2_7 m ρ c 0 (by decide) r b).trans ((old1_7 m ρ c 0 (by decide) r b).trans (new0_7 m ρ c r b)))
  · exact (old3_7 m ρ c 1 (by decide) r b).trans ((old2_7 m ρ c 1 (by decide) r b).trans (new1_7 m ρ c r b))
  · exact (old3_7 m ρ c 2 (by decide) r b).trans (new2_7 m ρ c r b)
  · exact new3_7 m ρ c r b

section Run

open Idealize.SL.RA Idealize.SL.BI.BIBase Idealize.SL.BI.Laws Idealize.SL.ProofMode Idealize.ShloMosaic.Rounds Idealize.ShloMosaic.Tactic
open scoped Idealize.SL.BI
open Idealize.ShloMosaic.Pipeline (Cfg Window BodyObligation cellOf)

set_option backward.isDefEq.respectTransparency.types false in
/-- The run, its results named. -/
theorem run_values : θ_run defs (onTc (τ := τ) (main (F := Ideal))) ⟨m, fun _ => 0, ρ⟩ (fun r => ∀ c : Dev nD,
      r.2.mem ((c.tc : Thread nD τ).loc main_v7_0) = Cert.OptW2RefIdeal.Read.val_main_v8 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v7_1) = Cert.OptW2RefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v7_2) = Cert.OptW2RefIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c.tc : Thread nD τ).loc main_v7_3) = Cert.OptW2RefIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨(h c _ (mem_uc main_v7_0 (by decide))).trans (final4 m ρ c),
       (h c _ (mem_uc main_v7_1 (by decide))).trans (final5 m ρ c),
       (h c _ (mem_uc main_v7_2 (by decide))).trans (final6 m ρ c),
       (h c _ (mem_uc main_v7_3 (by decide))).trans (final7 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Run

end Cert.OptW2Ideal.Hand

end
-- ==== Proof.DAct.lean ====
module

public import proofs.«01_k».proof.Proof.Gen.DActIdeal.Value
public import proofs.«01_k».proof.Proof.Gen.DActRefIdeal.Run
public import proofs.«01_k».proof.Proof.Gen.DActRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DActIdeal.Hand

open Cert.DActIdeal Cert.DActIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The windows' block indices at point `t`. -/
theorem idx : ∀ t : Fin cfg0.N, win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, _)

/-- Where the activation is not positive its rectified value is 0, and so is the product: the kernel needs no branch. -/
theorem gate (s u a : EReal) : s * (u * max a 0) = if 0 < a then s * (u * max a 0) else 0 := by
  split_ifs with h
  · rfl
  · rw [max_eq_right (not_lt.mp h), mul_zero, mul_zero]

/-- The result array after the run. -/
theorem final (c : Dev nD) : (dats m 0 c).arrAt 3 cfg0.N =
    Cert.DActRefIdeal.Read.val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [← Cert.DActRefIdeal.Read.val_main_v12_eq]
  pointwise [k0_pay1]
  blk_simp [iblk, idx t]
  simp only [V, hostOps0, hostOps0_1, List.flatten_cons, List.flatten_nil, List.append_nil, List.cons_append, List.nil_append,
    TRef.binary, TRef.nullary, TRef.unary, TRef.toBuf, TRef.ofBuf, cast_eq]
  entry_read
  pointwise
  refine (gate _ _ _).trans ?_
  blk_point [iblk, idx t]

end Cert.DActIdeal.Hand

end
-- ==== Proof.DW2.lean ====
module

public import proofs.«01_k».proof.Proof.Gen.DW2Ideal.Value
public import proofs.«01_k».proof.Proof.Gen.DW2RefIdeal.Run
public import proofs.«01_k».proof.Proof.Gen.DW2RefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DW2Ideal.Hand

open Cert.DW2Ideal Cert.DW2Ideal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The windows' block indices at point `t`. -/
theorem idx : ∀ t : Fin cfg0.N, win0_0.index t = ![0, t.val] ∧ win0_1.index t = ![0, 0] ∧ win0_2.index t = ![t.val, 0] :=
  (by decide +kernel : ∀ t : Fin grid0.N, _)

/-- The staged activation: the host's `relu(a)²`, narrowed. -/
theorem V_act (c : Dev nD) : V m c main_v2 = (truncf .bf16
      (mulf (maximumf (m ((c : Thread nD τ).loc main_arg0)) (broadcastInDim S4160x4096 ![] bcast_S_S4160x4096 (constant S_ .f32 0x00000000#32)))
        (maximumf (m ((c : Thread nD τ).loc main_arg0)) (broadcastInDim S4160x4096 ![] bcast_S_S4160x4096 (constant S_ .f32 0x00000000#32))))
      bitsLt_bf16_f32 : FVec Ideal S4160x4096 .bf16) := by
  simp only [V, hostOps0, hostOps0_1, List.flatten_cons, List.flatten_nil, List.append_nil, List.cons_append, List.nil_append,
    TRef.binary, TRef.nullary, TRef.unary, TRef.toBuf, TRef.ofBuf, cast_eq]
  after_results

/-- The staged cotangent, narrowed. -/
theorem V_dh (c : Dev nD) : V m c main_v3 = (truncf .bf16 (m ((c : Thread nD τ).loc main_arg1)) bitsLt_bf16_f32 : FVec Ideal S4160x1024 .bf16) := by
  simp only [V, hostOps0, hostOps0_1, List.flatten_cons, List.flatten_nil, List.append_nil, List.cons_append, List.nil_append,
    TRef.binary, TRef.nullary, TRef.unary, TRef.toBuf, TRef.ofBuf, cast_eq]
  after_results

/-- The result array after the run. -/
theorem final (c : Dev nD) : (dats m 0 c).arrAt 2 cfg0.N =
    Cert.DW2RefIdeal.Read.val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [← Cert.DW2RefIdeal.Read.val_main_v6_eq]
  pointwise [k0_pay1]
  refine Fin.sum_fin_congr fun k => ?_
  rw [mul_comm]
  blk_simp [iblk, idx t]
  rw [V_act, V_dh]
  pointwise
  blk_point [iblk, idx t]

end Cert.DW2Ideal.Hand

end
-- ==== Proof.DW1.lean ====
module

public import proofs.«01_k».proof.Proof.Gen.DW1Ideal.Value
public import proofs.«01_k».proof.Proof.Gen.DW1RefIdeal.Run
public import proofs.«01_k».proof.Proof.Gen.DW1RefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DW1Ideal.Hand

open Cert.DW1Ideal Cert.DW1Ideal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The windows' block indices at point `t`. -/
theorem idx : ∀ t : Fin cfg0.N, win0_0.index t = ![0, 0] ∧ win0_1.index t = ![0, t.val] ∧ win0_2.index t = ![t.val, 0, 0] :=
  (by decide +kernel : ∀ t : Fin grid0.N, _)

/-- The result array after the run. -/
theorem final (c : Dev nD) : (dats m 0 c).arrAt 2 cfg0.N =
    Cert.DW1RefIdeal.Read.val_main_v19 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  rw [← Cert.DW1RefIdeal.Read.val_main_v19_eq]
  pointwise [k0_pay1]
  blk_simp [iblk, idx t]
  simp only [V, hostOps0, List.flatten_cons, List.flatten_nil, List.append_nil, List.cons_append, List.nil_append,
    TRef.binary, TRef.nullary, TRef.unary, TRef.toBuf, TRef.ofBuf, cast_eq]
  entry_read
  pointwise
  refine Fin.sum_fin_congr fun k => ?_
  rw [mul_comm]
  blk_point [iblk, idx t]

end Cert.DW1Ideal.Hand

end
-- ==== Proof.Down.lean ====
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DownIdeal.Hand

open Cert.DownIdeal Cert.DownIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The windows' block indices at point `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The grid has one axis: the point is its coordinate. -/
theorem coord : ∀ t : Fin cfg0.N, (grid0.coords t 0).val = t.val :=
  (by decide +kernel : ∀ t : Fin grid0.N, _)

/-- A select on a bit decided by `p`. -/
theorem select_of_ite {α : Type} {p : Prop} [Decidable p] {c : BitVec 1}
    (h : c = if p then 1#1 else 0#1) (a b : α) : Scalar.select c a b = if p then a else b := by
  subst h
  split_ifs <;> rfl

theorem V_h (c : Dev nD) : V m c main_v7 = (concatenate S4160x1024 0
    [⟨S48x1024, broadcastInDim S48x1024 ![] bcast_S_S48x1024 (constant S_ .f32 0x00000000#32)⟩,
      ⟨S4112x1024, m ((c : Thread nD τ).loc main_arg2)⟩]
    concatenates_S48x1024_S4112x1024_S4160x1024_d0 : FVec Ideal S4160x1024 .f32) := by
  simp only [V, hostOps0, hostOps0_1, List.flatten_cons, List.flatten_nil, List.append_nil, List.cons_append, List.nil_append,
    TRef.binary, TRef.nullary, TRef.unary, TRef.toBuf, TRef.ofBuf, cast_eq]
  after_results

theorem V_act (c : Dev nD) : V m c main_v4 = (truncf .bf16 (concatenate S4160x4096 0
    [⟨S48x4096, broadcastInDim S48x4096 ![] bcast_S_S48x4096 (constant S_ .f32 0x00000000#32)⟩,
      ⟨S4112x4096, mulf
        (maximumf (m ((c : Thread nD τ).loc main_arg0)) (broadcastInDim S4112x4096 ![] bcast_S_S4112x4096 (constant S_ .f32 0x00000000#32)))
        (maximumf (m ((c : Thread nD τ).loc main_arg0)) (broadcastInDim S4112x4096 ![] bcast_S_S4112x4096 (constant S_ .f32 0x00000000#32)))⟩]
    concatenates_S48x4096_S4112x4096_S4160x4096_d0) bitsLt_bf16_f32 : FVec Ideal S4160x4096 .bf16) := by
  simp only [V, hostOps0, hostOps0_1, List.flatten_cons, List.flatten_nil, List.append_nil, List.cons_append, List.nil_append,
    TRef.binary, TRef.nullary, TRef.unary, TRef.toBuf, TRef.ofBuf, cast_eq]
  after_results

theorem V_w (c : Dev nD) : V m c main_v5 = (truncf .bf16 (m ((c : Thread nD τ).loc main_arg1)) bitsLt_bf16_f32 : FVec Ideal S4096x1024 .bf16) := by
  simp only [V, hostOps0, hostOps0_1, List.flatten_cons, List.flatten_nil, List.append_nil, List.cons_append, List.nil_append,
    TRef.binary, TRef.nullary, TRef.unary, TRef.toBuf, TRef.ofBuf, cast_eq]
  after_results

/-- The row of the unpadded array. -/
def back (r : Fin 4160) : Fin 4112 := ⟨r.val - 48, by omega⟩

def sqRelu (x : EReal) : EReal := max x 0 * max x 0

/-- The host's padded arrays past the 48 rows of padding. -/
theorem V_h_apply (c : Dev nD) (i : S4160x1024.Idx) (h : 48 ≤ (i 0).val) : V m c main_v7 i =
    m ((c : Thread nD τ).loc main_arg2) (ix2 (back (i 0)) (i 1)) := by
  rw [V_h]
  pointwise
  rw [dif_neg (by omega)]
  rfl

theorem V_act_apply (c : Dev nD) (i : S4160x4096.Idx) (h : 48 ≤ (i 0).val) : (V m c main_v4 : FVec Ideal S4160x4096 .bf16) i =
    sqRelu (m ((c : Thread nD τ).loc main_arg0) (ix2 (back (i 0)) (i 1))) := by
  rw [V_act]
  pointwise
  rw [dif_neg (by omega)]
  rfl

/-- The result array after the run. -/
theorem final (c : Dev nD) : (dats m 0 c).arrAt 3 cfg0.N =
    Cert.DownRefIdeal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [← Cert.DownRefIdeal.Read.val_main_v5_eq]
  pointwise [k0_pay1]
  blk_simp [iblk, idx t]
  have ht : t.val < 10 := t.isLt
  have hy : (y 0).val < 416 := (y 0).isLt
  rw [coord t]
  refine (select_of_ite (WordCmp.cmpi_sge_mul_add_ofNat t.val 416 (y 0).val 48 (by omega) (by omega)) _ _).trans ?_
  by_cases h : 48 ≤ t.val * 416 + (y 0).val
  · rw [if_pos h, dif_neg (by omega)]
    have e0 : ∀ k, ((((win0_0.blk t).view.emb (ix2 (y 0) k)) : S4160x4096.Idx) 0).val = t.val * 416 + (y 0).val := fun k => by
      blk_point [idx t]
    have e2 : ((((win0_2.blk t).view.emb y) : S4160x1024.Idx) 0).val = t.val * 416 + (y 0).val := by
      blk_point [idx t]
    refine congrArg₂ (fun a b : EReal => a + b) ?_ (Fin.sum_fin_congr fun k => congrArg₂ (fun a b : EReal => a * b) ?_ ?_)
    · rw [V_h_apply m c _ (by rw [e2]; exact h)]
      unfold back
      blk_point [idx t]
    · refine (V_act_apply m c _ (by rw [e0]; exact h)).trans ?_
      refine congrArg sqRelu (a₂ := m ((c : Thread nD τ).loc main_arg0) (ix2 ⟨t.val * 416 + (y 0).val - 48, by omega⟩ k)) ?_
      unfold back
      blk_point [idx t]
    · rw [V_w]
      pointwise
      blk_point [idx t]
  · rw [if_neg h, dif_pos (by omega)]

end Cert.DownIdeal.Hand

end
-- ==== Proof.OutT.lean ====
module

public import proofs.«01_k».proof.Proof.Gen.OutTIdeal.Value
public import proofs.«01_k».proof.Proof.Gen.OutTRefIdeal.Run
public import proofs.«01_k».proof.Proof.Gen.OutTRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutTIdeal.Hand

open Cert.OutTIdeal Cert.OutTIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The windows' block indices at point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 cfg0.N =
    Cert.OutTRefIdeal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [← Cert.OutTRefIdeal.Read.val_main_v2_eq]
  pointwise [k0_pay1]
  refine Fin.sum_fin_congr fun k => ?_
  blk_simp [iblk, idx t]
  simp only [V, hostOps0, List.flatten_cons, List.flatten_nil, List.append_nil, List.cons_append, List.nil_append,
    TRef.binary, TRef.nullary, TRef.unary, TRef.toBuf, TRef.ofBuf, cast_eq]
  entry_read
  pointwise
  blk_point [iblk, idx t]

end Cert.OutTIdeal.Hand

end
-- ==== Proof.DWOut.lean ====
module

public import proofs.«01_k».proof.Proof.Gen.DWOutIdeal.Value
public import proofs.«01_k».proof.Proof.Gen.DWOutRefIdeal.Run
public import proofs.«01_k».proof.Proof.Gen.DWOutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DWOutIdeal.Hand

open Cert.DWOutIdeal Cert.DWOutIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The windows' block indices at point `t`. -/
theorem idx : ∀ t : Fin cfg0.N, win0_0.index t = ![0, t.val] ∧ win0_1.index t = ![0, 0] ∧ win0_2.index t = ![t.val, 0] :=
  (by decide +kernel : ∀ t : Fin grid0.N, _)

/-- The result array after the run. -/
theorem final (c : Dev nD) : (dats m 0 c).arrAt 2 cfg0.N =
    Cert.DWOutRefIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [← Cert.DWOutRefIdeal.Read.val_main_v4_eq]
  pointwise [k0_pay1]
  refine Fin.sum_fin_congr fun k => ?_
  rw [mul_comm]
  blk_simp [iblk, idx t]
  simp only [V, hostOps0, List.flatten_cons, List.flatten_nil, List.append_nil, List.cons_append, List.nil_append,
    TRef.binary, TRef.nullary, TRef.unary, TRef.toBuf, TRef.ofBuf, cast_eq]
  entry_read
  pointwise
  blk_point [iblk, idx t]

end Cert.DWOutIdeal.Hand

end
-- ==== Proof.EvDWIn.lean ====
module

public import proofs.«01_k».proof.Proof.Gen.EvDWInIdeal.Value
public import proofs.«01_k».proof.Proof.Gen.EvDWInRefIdeal.Run
public import proofs.«01_k».proof.Proof.Gen.EvDWInRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.EvDWInIdeal.Hand

open Cert.EvDWInIdeal Cert.EvDWInIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The windows' block indices at point `t`. -/
theorem idx : ∀ t : Fin cfg0.N, win0_0.index t = ![0, 0] ∧ win0_1.index t = ![0, t.val] ∧ win0_2.index t = ![0, t.val] :=
  (by decide +kernel : ∀ t : Fin grid0.N, _)

/-- The result array after the run. -/
theorem final (c : Dev nD) : (dats m 0 c).arrAt 2 cfg0.N =
    Cert.EvDWInRefIdeal.Read.val_main_v17 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  rw [← Cert.EvDWInRefIdeal.Read.val_main_v17_eq]
  pointwise [k0_pay1]
  blk_simp [iblk, idx t]
  simp only [V, hostOps0, List.flatten_cons, List.flatten_nil, List.append_nil, List.cons_append, List.nil_append,
    TRef.binary, TRef.nullary, TRef.unary, TRef.toBuf, TRef.ofBuf, cast_eq]
  entry_read
  pointwise
  refine Fin.sum_fin_congr fun k => ?_
  rw [mul_comm]
  blk_point [iblk, idx t]

end Cert.EvDWInIdeal.Hand

end
-- ==== Proof.OdDWIn.lean ====
module

public import proofs.«01_k».proof.Proof.Gen.OdDWInIdeal.Value
public import proofs.«01_k».proof.Proof.Gen.OdDWInRefIdeal.Run
public import proofs.«01_k».proof.Proof.Gen.OdDWInRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OdDWInIdeal.Hand

open Cert.OdDWInIdeal Cert.OdDWInIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The windows' block indices at point `t`. -/
theorem idx : ∀ t : Fin cfg0.N, win0_0.index t = ![0, 0] ∧ win0_1.index t = ![t.val / 2, 0, t.val % 2] ∧ win0_2.index t = ![t.val, 0, 0] :=
  (by decide +kernel : ∀ t : Fin grid0.N, _)

/-- The arguments, by elements. -/
def a0 (c : Dev nD) (x : Fin 4160) (b : Fin 1024) : EReal := m ((c : Thread nD τ).loc main_arg0) (ix2 x b)
def a1 (c : Dev nD) (b : Fin 1024) : EReal := m ((c : Thread nD τ).loc main_arg1) (ix1 b)
def a2 (c : Dev nD) (p : Fin 4) (x : Fin 4160) (b : Fin 1024) : EReal := m ((c : Thread nD τ).loc main_arg2) (ix3 p x b)

/-- The normalised input, by elements. -/
def hn (c : Dev nD) (x : Fin 4160) (b : Fin 1024) : EReal :=
  a0 m c x b * Ideal.rsqrt (Ideal.div (∑ k, a0 m c x k * a0 m c x k) (Ideal.ofBits FTy.f32 0x44800000#32) + Ideal.ofBits FTy.f32 0x358637BD#32) * a1 m c b

theorem V_hn (c : Dev nD) (x : Fin 4160) (b : Fin 1024) : V m c main_v13 (ix2 x b) = hn m c x b := by
  simp only [V, hostOps0, List.flatten_cons, List.flatten_nil, List.append_nil, List.cons_append, List.nil_append,
    TRef.binary, TRef.nullary, TRef.unary, TRef.toBuf, TRef.ofBuf, cast_eq]
  entry_read
  pointwise
  rfl

theorem V_du (c : Dev nD) (p : Fin 4) (x : Fin 4160) (b : Fin 1024) : V m c main_v14 (ix3 p x b) = a2 m c p x b := by
  simp only [V, hostOps0, List.flatten_cons, List.flatten_nil, List.append_nil, List.cons_append, List.nil_append,
    TRef.binary, TRef.nullary, TRef.unary, TRef.toBuf, TRef.ofBuf, cast_eq]
  entry_read
  pointwise
  rfl

theorem blk_hn (c : Dev nD) (t : Fin cfg0.N) (x : Fin 4160) (b : Fin 1024) : iblk m c 0 t (ix2 x b) = hn m c x b := by
  refine Eq.trans ?_ (V_hn m c x b)
  blk_point [iblk, idx t]

theorem blk_du (c : Dev nD) (t : Fin cfg0.N) (ht : t.val < 8) (x : Fin 4160) (b : Fin 512) :
    iblk m c 1 t (ix3 0 x b) = a2 m c ⟨t.val / 2, by omega⟩ x ⟨t.val % 2 * 512 + b.val, by omega⟩ := by
  refine Eq.trans ?_ (V_du m c _ x _)
  blk_point [iblk, idx t]

theorem ref (c : Dev nD) (p : Fin 8) (a : Fin 1024) (b : Fin 512) :
    (Cert.OdDWInRefIdeal.Read.val_main_v21 (F := Ideal) (m ((c : Thread nD τ).loc main_arg0)) (m ((c : Thread nD τ).loc main_arg1)) (m ((c : Thread nD τ).loc main_arg2)) (ix3 p a b) : EReal) =
      ∑ x : Fin 4160, a2 m c ⟨p.val / 2, by omega⟩ x ⟨p.val % 2 * 512 + b.val, by omega⟩ * hn m c x a := by
  rw [← Cert.OdDWInRefIdeal.Read.val_main_v21_eq]
  pointwise
  refine Fin.sum_fin_congr fun x => ?_
  refine congrArg₂ (fun p q : EReal => p * q) ?_ rfl
  unfold a2
  refine congrArg _ ?_
  have h1 : (p.val * 512 + b.val) / 1024 = p.val / 2 := by omega
  have h2 : (p.val * 512 + b.val) % 1024 = p.val % 2 * 512 + b.val := by omega
  simp only [h1, h2]

/-- The result array after the run. -/
theorem final (c : Dev nD) : (dats m 0 c).arrAt 2 cfg0.N =
    Cert.OdDWInRefIdeal.Read.val_main_v21 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  have ht : t.val < 8 := t.isLt
  have e : ((win0_2.blk t).view.emb y : S8x1024x512.Idx) = ix3 ⟨t.val, ht⟩ (y 1) (y 2) := by
    blk_ext [idx t]
  refine Eq.trans ?_ (congrArg _ e.symm)
  refine Eq.trans ?_ (ref m c ⟨t.val, ht⟩ (y 1) (y 2)).symm
  pointwise [k0_pay1]
  refine Fin.sum_fin_congr fun x => ?_
  refine (congrArg₂ (fun p q : EReal => p * q) (blk_hn m c t x (y 1)) (blk_du m c t ht x (y 2))).trans ?_
  exact mul_comm (_ : EReal) _

end Cert.OdDWInIdeal.Hand

end
-- ==== Proof.MixOut.lean ====
module

public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MixOutIdeal.Hand

open Cert.MixOutIdeal Cert.MixOutIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The windows' block indices at point `t`. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The grid has one axis: the point is its coordinate. -/
theorem coord : ∀ t : Fin cfg0.N, (grid0.coords t 0).val = t.val :=
  (by decide +kernel : ∀ t : Fin grid0.N, _)

/-- A select on a bit decided by `p`. -/
theorem select_of_ite {α : Type} {p : Prop} [Decidable p] {c : BitVec 1}
    (h : c = if p then 1#1 else 0#1) (a b : α) : Scalar.select c a b = if p then a else b := by
  subst h
  split_ifs <;> rfl

theorem V_h (c : Dev nD) : V m c main_v5 = (concatenate S4160x1024 0
    [⟨S48x1024, broadcastInDim S48x1024 ![] bcast_S_S48x1024 (constant S_ .f32 0x00000000#32)⟩,
      ⟨S4112x1024, m ((c : Thread nD τ).loc main_arg2)⟩]
    concatenates_S48x1024_S4112x1024_S4160x1024_d0 : FVec Ideal S4160x1024 .f32) := by
  simp only [V, hostOps0, List.flatten_cons, List.flatten_nil, List.append_nil, List.cons_append, List.nil_append,
    TRef.binary, TRef.nullary, TRef.unary, TRef.toBuf, TRef.ofBuf, cast_eq]
  after_results

theorem V_act (c : Dev nD) : V m c main_v2 = (truncf .bf16 (concatenate S4160x1024 0
    [⟨S48x1024, broadcastInDim S48x1024 ![] bcast_S_S48x1024 (constant S_ .f32 0x00000000#32)⟩,
      ⟨S4112x1024, m ((c : Thread nD τ).loc main_arg0)⟩]
    concatenates_S48x1024_S4112x1024_S4160x1024_d0) bitsLt_bf16_f32 : FVec Ideal S4160x1024 .bf16) := by
  simp only [V, hostOps0, List.flatten_cons, List.flatten_nil, List.append_nil, List.cons_append, List.nil_append,
    TRef.binary, TRef.nullary, TRef.unary, TRef.toBuf, TRef.ofBuf, cast_eq]
  after_results

theorem V_w (c : Dev nD) : V m c main_v3 = (truncf .bf16 (m ((c : Thread nD τ).loc main_arg1)) bitsLt_bf16_f32 : FVec Ideal S1024x1024 .bf16) := by
  simp only [V, hostOps0, List.flatten_cons, List.flatten_nil, List.append_nil, List.cons_append, List.nil_append,
    TRef.binary, TRef.nullary, TRef.unary, TRef.toBuf, TRef.ofBuf, cast_eq]
  after_results

/-- The row of the unpadded array. -/
def back (r : Fin 4160) : Fin 4112 := ⟨r.val - 48, by omega⟩

/-- The host's padded arrays past the 48 rows of padding. -/
theorem V_h_apply (c : Dev nD) (i : S4160x1024.Idx) (h : 48 ≤ (i 0).val) : V m c main_v5 i =
    m ((c : Thread nD τ).loc main_arg2) (ix2 (back (i 0)) (i 1)) := by
  rw [V_h]
  pointwise
  rw [dif_neg (by omega)]
  rfl

theorem V_act_apply (c : Dev nD) (i : S4160x1024.Idx) (h : 48 ≤ (i 0).val) : (V m c main_v2 : FVec Ideal S4160x1024 .bf16) i =
    m ((c : Thread nD τ).loc main_arg0) (ix2 (back (i 0)) (i 1)) := by
  rw [V_act]
  pointwise
  rw [dif_neg (by omega)]
  rfl

/-- The result array after the run. -/
theorem final (c : Dev nD) : (dats m 0 c).arrAt 3 cfg0.N =
    Cert.MixOutRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [← Cert.MixOutRefIdeal.Read.val_main_v3_eq]
  pointwise [k0_pay1]
  blk_simp [iblk, idx t]
  have ht : t.val < 4 := t.isLt
  have hy : (y 0).val < 1040 := (y 0).isLt
  rw [coord t]
  refine (select_of_ite (WordCmp.cmpi_sge_mul_add_ofNat t.val 1040 (y 0).val 48 (by omega) (by omega)) _ _).trans ?_
  by_cases h : 48 ≤ t.val * 1040 + (y 0).val
  · rw [if_pos h, dif_neg (by omega)]
    have e0 : ∀ k, ((((win0_0.blk t).view.emb (ix2 (y 0) k)) : S4160x1024.Idx) 0).val = t.val * 1040 + (y 0).val := fun k => by
      blk_point [idx t]
    have e2 : ((((win0_2.blk t).view.emb y) : S4160x1024.Idx) 0).val = t.val * 1040 + (y 0).val := by
      blk_point [idx t]
    refine congrArg₂ (fun a b : EReal => a + b) ?_ (Fin.sum_fin_congr fun k => congrArg₂ (fun a b : EReal => a * b) ?_ ?_)
    · rw [V_h_apply m c _ (by rw [e2]; exact h)]
      unfold back
      blk_point [idx t]
    · refine (V_act_apply m c _ (by rw [e0]; exact h)).trans ?_
      unfold back
      blk_point [idx t]
    · rw [V_w]
      pointwise
      blk_point [idx t]
  · rw [if_neg h, dif_pos (by omega)]

end Cert.MixOutIdeal.Hand

end
-- ==== Proof.DNorm.lean ====
module

public import proofs.«01_k».proof.Proof.Gen.DNormIdeal.Value
public import proofs.«01_k».proof.Proof.Gen.DNormRefIdeal.Run
public import proofs.«01_k».proof.Proof.Gen.DNormRefIdeal.Read
public import Idealize.ShloMosaic.Lib.Pipeline.ValueKit
public import Idealize.ShloMosaic.Lib.Pointwise
public import Idealize.ShloMosaic.Lib.Claim
public import proofs.«01_k».proof.Proof.NormLaw

@[expose] public section

set_option maxRecDepth 16384

noncomputable section

namespace Cert.DNormIdeal.Hand

open Cert.DNormIdeal Cert.DNormIdeal.Gen Cert.DNormRefIdeal.Read
open Idealize.ShloMosaic Idealize.ShloMosaic.TcCoe Idealize.SL.Sem Idealize.ShloMosaic.StableHlo
open Idealize.ShloMosaic.Pipeline (Dat)
open Cert.NormLaw (back rr dx dmr keep row_words)

variable (m : (ℓ : Loc nD τ sig) → Buf (Elt Ideal) ℓ)

/-- The windows' block indices at point `t`. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

/-- The grid has one axis: the point is its coordinate. -/
theorem coord : ∀ t : Fin cfg0.N, (grid0.coords t 0).val = t.val :=
  (by decide +kernel : ∀ t : Fin grid0.N, _)

/-- A select on a bit decided by `p`. -/
theorem select_of_ite {α : Type} {p : Prop} [Decidable p] {c : BitVec 1}
    (h : c = if p then 1#1 else 0#1) (a b : α) : Scalar.select c a b = if p then a else b := by
  subst h
  split_ifs <;> rfl

theorem V_da (c : Dev nD) : V m c main_v2 = (truncf .bf16 (concatenate S4160x4096 0
    [⟨S48x4096, broadcastInDim S48x4096 ![] bcast_S_S48x4096 (constant S_ .f32 0x00000000#32)⟩, ⟨S4112x4096, m ((c : Thread nD τ).loc main_arg0)⟩]
    concatenates_S48x4096_S4112x4096_S4160x4096_d0) bitsLt_bf16_f32 : FVec Ideal S4160x4096 .bf16) := by
  simp only [V, hostOps0, List.flatten_cons, List.flatten_nil, List.append_nil, List.cons_append, List.nil_append,
    TRef.binary, TRef.nullary, TRef.unary, TRef.toBuf, TRef.ofBuf, cast_eq]
  after_results

theorem V_w (c : Dev nD) : V m c main_v3 = (truncf .bf16 (m ((c : Thread nD τ).loc main_arg1)) bitsLt_bf16_f32 : FVec Ideal S1024x4096 .bf16) := by
  simp only [V, hostOps0, List.flatten_cons, List.flatten_nil, List.append_nil, List.cons_append, List.nil_append,
    TRef.binary, TRef.nullary, TRef.unary, TRef.toBuf, TRef.ofBuf, cast_eq]
  after_results

theorem V_h (c : Dev nD) : V m c main_v5 = ((concatenate S4160x1024 0
    [⟨S48x1024, broadcastInDim S48x1024 ![] bcast_S_S48x1024 (constant S_ .f32 0x00000000#32)⟩, ⟨S4112x1024, m ((c : Thread nD τ).loc main_arg2)⟩]
    concatenates_S48x1024_S4112x1024_S4160x1024_d0) : FVec Ideal S4160x1024 .f32) := by
  simp only [V, hostOps0, List.flatten_cons, List.flatten_nil, List.append_nil, List.cons_append, List.nil_append,
    TRef.binary, TRef.nullary, TRef.unary, TRef.toBuf, TRef.ofBuf, cast_eq]
  after_results

theorem V_g (c : Dev nD) : V m c main_v6 = (broadcastInDim S1x1024 ![1] bcast_S1024_S1x1024_1 (m ((c : Thread nD τ).loc main_arg3)) : FVec Ideal S1x1024 .f32) := by
  simp only [V, hostOps0, List.flatten_cons, List.flatten_nil, List.append_nil, List.cons_append, List.nil_append,
    TRef.binary, TRef.nullary, TRef.unary, TRef.toBuf, TRef.ofBuf, cast_eq]
  after_results

theorem V_dres (c : Dev nD) : V m c main_v8 = ((concatenate S4160x1024 0
    [⟨S48x1024, broadcastInDim S48x1024 ![] bcast_S_S48x1024 (constant S_ .f32 0x00000000#32)⟩, ⟨S4112x1024, m ((c : Thread nD τ).loc main_arg4)⟩]
    concatenates_S48x1024_S4112x1024_S4160x1024_d0) : FVec Ideal S4160x1024 .f32) := by
  simp only [V, hostOps0, List.flatten_cons, List.flatten_nil, List.append_nil, List.cons_append, List.nil_append,
    TRef.binary, TRef.nullary, TRef.unary, TRef.toBuf, TRef.ofBuf, cast_eq]
  after_results

/-- The arguments and the blocks, by elements. -/
def a0 (c : Dev nD) (i : Fin 4112) (k : Fin 4096) : EReal := m ((c : Thread nD τ).loc main_arg0) (ix2 i k)
def a1 (c : Dev nD) (a : Fin 1024) (k : Fin 4096) : EReal := m ((c : Thread nD τ).loc main_arg1) (ix2 a k)
def a2 (c : Dev nD) (i : Fin 4112) (b : Fin 1024) : EReal := m ((c : Thread nD τ).loc main_arg2) (ix2 i b)
def a3 (c : Dev nD) (b : Fin 1024) : EReal := m ((c : Thread nD τ).loc main_arg3) (ix1 b)
def a4 (c : Dev nD) (i : Fin 4112) (b : Fin 1024) : EReal := m ((c : Thread nD τ).loc main_arg4) (ix2 i b)
def b0 (c : Dev nD) (t : Fin cfg0.N) (r : Fin 416) (k : Fin 4096) : EReal := iblk m c 0 t (ix2 r k)
def b1 (c : Dev nD) (t : Fin cfg0.N) (a : Fin 1024) (k : Fin 4096) : EReal := iblk m c 1 t (ix2 a k)
def hrow (c : Dev nD) (t : Fin cfg0.N) (r : Fin 416) (b : Fin 1024) : EReal := iblk m c 2 t (ix2 r b)
def grow (c : Dev nD) (t : Fin cfg0.N) (b : Fin 1024) : EReal := iblk m c 3 t (ix2 0 b)
def drow (c : Dev nD) (t : Fin cfg0.N) (r : Fin 416) (b : Fin 1024) : EReal := iblk m c 4 t (ix2 r b)

/-- The host's padded arrays, by rows. -/
theorem V_da_apply (c : Dev nD) (i : S4160x4096.Idx) : (V m c main_v2 : FVec Ideal S4160x4096 .bf16) i =
    if 48 ≤ (i 0).val then a0 m c (back (i 0)) (i 1) else 0 := by
  unfold a0
  rw [V_da]
  pointwise
  by_cases h : 48 ≤ (i 0).val
  · rw [dif_neg (by omega), if_pos h]
    rfl
  · rw [dif_pos (by omega), if_neg h]

theorem V_h_apply (c : Dev nD) (i : S4160x1024.Idx) (h : 48 ≤ (i 0).val) : V m c main_v5 i = a2 m c (back (i 0)) (i 1) := by
  unfold a2
  rw [V_h]
  pointwise
  rw [dif_neg (by omega)]
  rfl

theorem V_dres_apply (c : Dev nD) (i : S4160x1024.Idx) (h : 48 ≤ (i 0).val) : V m c main_v8 i = a4 m c (back (i 0)) (i 1) := by
  unfold a4
  rw [V_dres]
  pointwise
  rw [dif_neg (by omega)]
  rfl

/-- Row `r` of block `t`, in the padded array. -/
def at_ (t : Fin cfg0.N) (r : Fin 416) : Fin 4160 := ⟨t.val * 416 + r.val, by have : t.val < 10 := t.isLt; omega⟩

/-- The incoming gradient's product with the weight, at row `r` of block `t`. -/
def s (c : Dev nD) (t : Fin cfg0.N) (r : Fin 416) (a : Fin 1024) : EReal := ∑ k, b0 m c t r k * b1 m c t a k

/-- The same over the arguments. -/
def S (c : Dev nD) (i : Fin 4112) (a : Fin 1024) : EReal := ∑ k, a0 m c i k * a1 m c a k

theorem s_eq (c : Dev nD) (t : Fin cfg0.N) (r : Fin 416) (a : Fin 1024) : s m c t r a = if 48 ≤ t.val * 416 + r.val then S m c (back (at_ t r)) a else 0 := by
  have hr : ∀ k, b0 m c t r k = (V m c main_v2 : FVec Ideal S4160x4096 .bf16) (ix2 (at_ t r) k) := fun k => by
    unfold at_ b0
    blk_point [iblk, idx t]
  have hw : ∀ k, b1 m c t a k = a1 m c a k := fun k => by
    unfold a1 b1
    blk_simp [iblk, idx t]
    rw [V_w]
    pointwise
    blk_point [iblk, idx t]
  unfold s
  by_cases h : 48 ≤ t.val * 416 + r.val
  · rw [if_pos h]
    unfold S
    refine Finset.sum_congr rfl fun k _ => ?_
    rw [hr, hw, V_da_apply, if_pos (by exact h)]
    rfl
  · rw [if_neg h]
    refine Finset.sum_eq_zero fun k _ => ?_
    rw [hr, V_da_apply, if_neg (by exact h), zero_mul]

theorem hrow_eq (c : Dev nD) (t : Fin cfg0.N) (r : Fin 416) (b : Fin 1024) (h : 48 ≤ t.val * 416 + r.val) :
    hrow m c t r b = a2 m c (back (at_ t r)) b := by
  have hr : hrow m c t r b = V m c main_v5 (ix2 (at_ t r) b) := by
    unfold at_ hrow
    blk_point [iblk, idx t]
  rw [hr, V_h_apply m c _ (by exact h)]
  rfl

theorem grow_eq (c : Dev nD) (t : Fin cfg0.N) (b : Fin 1024) : grow m c t b = a3 m c b := by
  unfold grow a3
  blk_simp [iblk, idx t]
  rw [V_g]
  pointwise
  blk_point [iblk, idx t]

theorem drow_eq (c : Dev nD) (t : Fin cfg0.N) (r : Fin 416) (b : Fin 1024) (h : 48 ≤ t.val * 416 + r.val) :
    drow m c t r b = a4 m c (back (at_ t r)) b := by
  have hr : drow m c t r b = V m c main_v8 (ix2 (at_ t r) b) := by
    unfold at_ drow
    blk_point [iblk, idx t]
  rw [hr, V_dres_apply m c _ (by exact h)]
  rfl

/-- The block of the first two results, by elements. -/
def blkDh (c : Dev nD) (t : Fin cfg0.N) (r : Fin 416) (a : Fin 1024) : EReal :=
  if 48 ≤ t.val * 416 + r.val then
    dx (hrow m c t r) (fun b => s m c t r b * grow m c t b) (drow m c t r a) a
  else 0

theorem points (c : Dev nD) (t : Fin cfg0.N) (y : S416x1024.Idx) : (outsAt0 m c t.val t.isLt).1 y = blkDh m c t (y 0) (y 1) ∧ (outsAt0 m c t.val t.isLt).2.1 y = blkDh m c t (y 0) (y 1) := by
  have ht : t.val < 10 := t.isLt
  by_cases h : t.val % 10 = 0
  on_goal 1 => rw [outsAt0_A m c t h]
  on_goal 2 => rw [outsAt0_B m c t h]
  all_goals refine ⟨?_, ?_⟩
  all_goals
    frame_out
    canon_tiles x hx
    · open_payloads
      pointwise
      rw [coord t]
      refine (select_of_ite (keep t.val 208 (x 0).val (by omega)) _ _).trans ?_
      unfold blkDh
      have e : y 0 = (⟨208 + (x 0).val, by omega⟩ : Fin 416) := Fin.ext (by simp only []; omega)
      rw [e]
      have e1 : y 1 = (x 1 : Fin 1024) := Fin.ext hx1
      rw [e1]
      unfold dx rr hrow s b0 b1 grow drow
      simp only [← Nat.add_assoc]
    · open_payloads
      pointwise
      rw [coord t]
      refine (select_of_ite (keep t.val 0 (x 0).val (by omega)) _ _).trans ?_
      unfold blkDh
      have e : y 0 = (⟨0 + (x 0).val, by omega⟩ : Fin 416) := Fin.ext (by simp only []; omega)
      rw [e]
      have e1 : y 1 = (x 1 : Fin 1024) := Fin.ext hx1
      rw [e1]
      unfold dx rr hrow s b0 b1 grow drow
      simp only [← Nat.add_assoc, Nat.add_zero, Nat.zero_add]

theorem point5 (c : Dev nD) (t : Fin cfg0.N) (y : S416x1024.Idx) : (outsAt0 m c t.val t.isLt).1 y = blkDh m c t (y 0) (y 1) := (points m c t y).1

theorem point6 (c : Dev nD) (t : Fin cfg0.N) (y : S416x1024.Idx) : (outsAt0 m c t.val t.isLt).2.1 y = blkDh m c t (y 0) (y 1) := (points m c t y).2

theorem refDh (c : Dev nD) (i : Fin 4112) (a : Fin 1024) : (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i a) : EReal) =
    ((a4 m c i a + (S m c i a * a3 m c a) * rr (a2 m c i)) + a2 m c i a * dmr (a2 m c i) (fun b => S m c i b * a3 m c b))
      + dmr (a2 m c i) (fun b => S m c i b * a3 m c b) * a2 m c i a := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_cst_8, val_main_cst_9]
  simp only [Fin.sum_univ_one]
  rfl

set_option maxHeartbeats 1000000 in
theorem refDg (c : Dev nD) (a : Fin 1024) : (val_main_v44 (F := Ideal) (m ((c : Thread nD τ).loc main_arg0)) (m ((c : Thread nD τ).loc main_arg1)) (m ((c : Thread nD τ).loc main_arg2)) (ix2 0 a) : EReal) =
    ∑ i : Fin 4112, (a2 m c i a * rr (a2 m c i)) * S m c i a := by
  rw [← val_main_v44_eq]
  pointwise
  refine (Fin.sum_univ_one _).trans ?_
  rfl

theorem dx_eq (c : Dev nD) (i : Fin 4112) (a : Fin 1024) : dx (a2 m c i) (fun b => S m c i b * a3 m c b) (a4 m c i a) a =
    ((a4 m c i a + (S m c i a * a3 m c a) * rr (a2 m c i)) + a2 m c i a * dmr (a2 m c i) (fun b => S m c i b * a3 m c b))
      + dmr (a2 m c i) (fun b => S m c i b * a3 m c b) * a2 m c i a :=
  row_words (a2 m c i) (fun b => S m c i b * a3 m c b) (a4 m c i a) a

theorem blkDh_eq (c : Dev nD) (t : Fin cfg0.N) (r : Fin 416) (a : Fin 1024) (h : 48 ≤ t.val * 416 + r.val) :
    blkDh m c t r a = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (back (at_ t r)) a) := by
  refine Eq.trans ?_ (refDh m c _ a).symm
  rw [← dx_eq]
  unfold blkDh
  rw [if_pos h, drow_eq m c t r a h]
  have e1 : hrow m c t r = a2 m c (back (at_ t r)) := funext fun b => hrow_eq m c t r b h
  have e2 : (fun b => s m c t r b * grow m c t b) = fun b => S m c (back (at_ t r)) b * a3 m c b := funext fun b => by
    rw [s_eq, if_pos h, grow_eq]
  rw [e1, e2]

theorem at5 (c : Dev nD) (t : Fin cfg0.N) (r : Fin 416) (a : Fin 1024) :
    (val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (at_ t r) a) : EReal) = blkDh m c t r a := by
  have ht : t.val < 10 := t.isLt
  pointwise [val_main_cst, val_main_cst_0, val_main_cst_1, val_main_cst_2, val_main_cst_3, val_main_cst_4, val_main_cst_5, val_main_cst_6, val_main_cst_7, val_main_cst_8, val_main_v39, val_main_v40, val_main_cst_9]
  by_cases h : 48 ≤ t.val * 416 + r.val
  · rw [blkDh_eq m c t r a h, dif_neg (by unfold at_; simp only []; omega)]
    rfl
  · unfold blkDh
    rw [if_neg h, dif_pos (by unfold at_; simp only []; omega)]

/-- Result array of window 5 after the run: the reference's. -/
theorem final5 (c : Dev nD) : (dats m 0 c).arrAt 5 (cfgs 0).N = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine (point5 m c t y).trans ?_
  have e : ((win0_5.blk t).view.emb y : S4160x1024.Idx) = ix2 (at_ t (y 0)) (y 1) := by
    unfold at_
    blk_ext [idx t]
  rw [e]
  exact (at5 m c t (y 0) (y 1)).symm

theorem at6 (c : Dev nD) (t : Fin cfg0.N) (r : Fin 416) (a : Fin 1024) :
    (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (at_ t r) a) : EReal) = blkDh m c t r a := by
  have ht : t.val < 10 := t.isLt
  pointwise [val_main_cst, val_main_cst_0, val_main_cst_1, val_main_cst_2, val_main_cst_3, val_main_cst_4, val_main_cst_5, val_main_cst_6, val_main_cst_7, val_main_cst_8, val_main_cst_9, val_main_v41, val_main_v42, val_main_v43]
  by_cases h : 48 ≤ t.val * 416 + r.val
  · rw [blkDh_eq m c t r a h, dif_neg (by unfold at_; simp only []; omega)]
    rfl
  · unfold blkDh
    rw [if_neg h, dif_pos (by unfold at_; simp only []; omega)]

/-- Result array of window 6 after the run: the reference's. -/
theorem final6 (c : Dev nD) : (dats m 0 c).arrAt 6 (cfgs 0).N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (point6 m c t y).trans ?_
  have e : ((win0_6.blk t).view.emb y : S4160x1024.Idx) = ix2 (at_ t (y 0)) (y 1) := by
    unfold at_
    blk_ext [idx t]
  rw [e]
  exact (at6 m c t (y 0) (y 1)).symm

/-- One row's addition to the third result. -/
def addend (c : Dev nD) (t : Fin cfg0.N) (a : Fin 1024) (r : Fin 416) : EReal := s m c t r a * (hrow m c t r a * rr (hrow m c t r))

/-- One point's addition: its rows, the two halves. -/
def part (c : Dev nD) (t : Fin cfg0.N) (a : Fin 1024) : EReal := ∑ r : Fin 416, addend m c t a r

theorem part_split (c : Dev nD) (t : Fin cfg0.N) (a : Fin 1024) : part m c t a =
    ∑ x : Fin 208, addend m c t a ⟨x.val, by omega⟩ + ∑ x : Fin 208, addend m c t a ⟨208 + x.val, by omega⟩ :=
  Fin.sum_univ_add (a := 208) (b := 208) (addend m c t a)

theorem stepA (c : Dev nD) (t : Fin cfg0.N) (h : t.val % 10 = 0) (j : S1x1024.Idx) : (outsAt0 m c t.val t.isLt).2.2 j = 0 + part m c t (j 1) := by
  rw [outsAt0_A m c t h]
  frame_out
  open_payloads
  pointwise
  exact (part_split m c t (j 1)).symm

theorem stepB (c : Dev nD) (t : Fin cfg0.N) (h : ¬ t.val % 10 = 0) (j : S1x1024.Idx) :
    (outsAt0 m c t.val t.isLt).2.2 j = (outsAt0 m c (t.val - 1) (lt_of_le_of_lt (Nat.sub_le _ _) t.isLt)).2.2 j + part m c t (j 1) := by
  rw [outsAt0_B m c t h]
  frame_out
  open_payloads
  pointwise
  exact (add_assoc (_ : EReal) _ _).trans (congrArg (fun q : EReal => _ + q) (part_split m c t (j 1)).symm)

/-- A padded row's addition. -/
def total (c : Dev nD) (a : Fin 1024) (l : Fin 4160) : EReal :=
  if 48 ≤ l.val then S m c (back l) a * (a2 m c (back l) a * rr (a2 m c (back l))) else 0

theorem addend_eq (c : Dev nD) (t : Fin cfg0.N) (a : Fin 1024) (r : Fin 416) : addend m c t a r = total m c a (at_ t r) := by
  unfold addend total
  rw [s_eq]
  by_cases h : 48 ≤ t.val * 416 + r.val
  · have e1 : hrow m c t r = a2 m c (back (at_ t r)) := funext fun b => hrow_eq m c t r b h
    rw [if_pos h, if_pos (by exact h), e1]
  · rw [if_neg h, if_neg (by exact h), zero_mul]

theorem sum_total (c : Dev nD) (a : Fin 1024) : ∑ l : Fin 4160, total m c a l = ∑ i : Fin 4112, (a2 m c i a * rr (a2 m c i)) * S m c i a := by
  refine (Fin.sum_univ_add (a := 48) (b := 4112) (total m c a)).trans ?_
  have e : ∑ i : Fin 48, total m c a (Fin.castAdd 4112 i) = 0 := Finset.sum_eq_zero fun i _ => by
    unfold total
    exact if_neg (by have := i.isLt; show ¬ 48 ≤ i.val; omega)
  rw [e, zero_add]
  refine Finset.sum_congr rfl fun i _ => ?_
  have hb : back (Fin.natAdd 48 i) = i := Fin.ext (by show 48 + i.val - 48 = i.val; omega)
  unfold total
  rw [if_pos (by show 48 ≤ 48 + i.val; omega), hb, mul_comm]

set_option maxHeartbeats 1000000 in
/-- The third result array after the run: the reference's. -/
theorem final7 (c : Dev nD) : (dats m 0 c).arrAt 7 (cfgs 0).N = val_main_v44 (F := Ideal) (m ((c : Thread nD τ).loc main_arg0)) (m ((c : Thread nD τ).loc main_arg1)) (m ((c : Thread nD τ).loc main_arg2)) := by
  refine (dats m 0 c).arrAt_eq_of_after_last 7 t0_9 (by decide +kernel) _ fun j => ?_
  blk_simp
  rw [after0_7, Pipeline.eq_sum_fin_of_reset_step_apply_last (fun n h => (outsAt0 m c n h).2.2) 10 (fun _ => 0) _
    (fun t h j => stepA m c t h j) (fun t h j => stepB m c t h j) (le_of_eq N_0) t0_9 rfl _, zero_add]
  have e : (j : S1x1024.Idx) = ix2 0 (j 1) := by
    refine funext fun a => ?_
    match a with
    | ⟨0, _⟩ => exact Fin.ext (by have : (j 0).val < 1 := (j 0).isLt; show (j 0).val = 0; omega)
    | ⟨1, _⟩ => rfl
  refine Eq.trans ?_ (congrArg _ e.symm)
  refine Eq.trans ?_ (refDg m c (j 1)).symm
  refine Eq.trans ?_ (sum_total m c (j 1))
  exact Fin.sum_mul_add_congr fun t k hl => addend_eq m c t (j 1) k
end Cert.DNormIdeal.Hand
-- ==== Proof.EvInT.lean ====
module

public import proofs.«01_k».proof.Proof.Gen.EvInTIdeal.Value
public import proofs.«01_k».proof.Proof.Gen.EvInTRefIdeal.Run
public import proofs.«01_k».proof.Proof.Gen.EvInTRefIdeal.Read
public import Idealize.ShloMosaic.Lib.Pipeline.ValueKit
public import Idealize.ShloMosaic.Lib.Pointwise
public import Idealize.ShloMosaic.Lib.Claim
public import proofs.«01_k».proof.Proof.NormLaw

@[expose] public section

set_option maxRecDepth 16384

noncomputable section

namespace Cert.EvInTIdeal.Hand

open Cert.EvInTIdeal Cert.EvInTIdeal.Gen Cert.EvInTRefIdeal.Read
open Idealize.ShloMosaic Idealize.ShloMosaic.TcCoe Idealize.SL.Sem Idealize.ShloMosaic.StableHlo
open Idealize.ShloMosaic.Pipeline (Dat)
open Cert.NormLaw (back rr dx dmr keep row_words)

variable (m : (ℓ : Loc nD τ sig) → Buf (Elt Ideal) ℓ)

/-- The windows' block indices at point `t`. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

/-- The grid has one axis: the point is its coordinate. -/
theorem coord : ∀ t : Fin cfg0.N, (grid0.coords t 0).val = t.val :=
  (by decide +kernel : ∀ t : Fin grid0.N, _)

/-- A select on a bit decided by `p`. -/
theorem select_of_ite {α : Type} {p : Prop} [Decidable p] {c : BitVec 1}
    (h : c = if p then 1#1 else 0#1) (a b : α) : Scalar.select c a b = if p then a else b := by
  subst h
  split_ifs <;> rfl

theorem V_da (c : Dev nD) : V m c main_v2 = (truncf .bf16 (concatenate S4160x1536 0
    [⟨S48x1536, broadcastInDim S48x1536 ![] bcast_S_S48x1536 (constant S_ .f32 0x00000000#32)⟩, ⟨S4112x1536, m ((c : Thread nD τ).loc main_arg0)⟩]
    concatenates_S48x1536_S4112x1536_S4160x1536_d0) bitsLt_bf16_f32 : FVec Ideal S4160x1536 .bf16) := by
  simp only [V, hostOps0, List.flatten_cons, List.flatten_nil, List.append_nil, List.cons_append, List.nil_append,
    TRef.binary, TRef.nullary, TRef.unary, TRef.toBuf, TRef.ofBuf, cast_eq]
  after_results

theorem V_w (c : Dev nD) : V m c main_v3 = (truncf .bf16 (m ((c : Thread nD τ).loc main_arg1)) bitsLt_bf16_f32 : FVec Ideal S1024x1536 .bf16) := by
  simp only [V, hostOps0, List.flatten_cons, List.flatten_nil, List.append_nil, List.cons_append, List.nil_append,
    TRef.binary, TRef.nullary, TRef.unary, TRef.toBuf, TRef.ofBuf, cast_eq]
  after_results

theorem V_h (c : Dev nD) : V m c main_v5 = ((concatenate S4160x1024 0
    [⟨S48x1024, broadcastInDim S48x1024 ![] bcast_S_S48x1024 (constant S_ .f32 0x00000000#32)⟩, ⟨S4112x1024, m ((c : Thread nD τ).loc main_arg2)⟩]
    concatenates_S48x1024_S4112x1024_S4160x1024_d0) : FVec Ideal S4160x1024 .f32) := by
  simp only [V, hostOps0, List.flatten_cons, List.flatten_nil, List.append_nil, List.cons_append, List.nil_append,
    TRef.binary, TRef.nullary, TRef.unary, TRef.toBuf, TRef.ofBuf, cast_eq]
  after_results

theorem V_g (c : Dev nD) : V m c main_v6 = (broadcastInDim S1x1024 ![1] bcast_S1024_S1x1024_1 (m ((c : Thread nD τ).loc main_arg3)) : FVec Ideal S1x1024 .f32) := by
  simp only [V, hostOps0, List.flatten_cons, List.flatten_nil, List.append_nil, List.cons_append, List.nil_append,
    TRef.binary, TRef.nullary, TRef.unary, TRef.toBuf, TRef.ofBuf, cast_eq]
  after_results

theorem V_dres (c : Dev nD) : V m c main_v8 = ((concatenate S4160x1024 0
    [⟨S48x1024, broadcastInDim S48x1024 ![] bcast_S_S48x1024 (constant S_ .f32 0x00000000#32)⟩, ⟨S4112x1024, m ((c : Thread nD τ).loc main_arg4)⟩]
    concatenates_S48x1024_S4112x1024_S4160x1024_d0) : FVec Ideal S4160x1024 .f32) := by
  simp only [V, hostOps0, List.flatten_cons, List.flatten_nil, List.append_nil, List.cons_append, List.nil_append,
    TRef.binary, TRef.nullary, TRef.unary, TRef.toBuf, TRef.ofBuf, cast_eq]
  after_results

/-- The arguments and the blocks, by elements. -/
def a0 (c : Dev nD) (i : Fin 4112) (k : Fin 1536) : EReal := m ((c : Thread nD τ).loc main_arg0) (ix2 i k)
def a1 (c : Dev nD) (a : Fin 1024) (k : Fin 1536) : EReal := m ((c : Thread nD τ).loc main_arg1) (ix2 a k)
def a2 (c : Dev nD) (i : Fin 4112) (b : Fin 1024) : EReal := m ((c : Thread nD τ).loc main_arg2) (ix2 i b)
def a3 (c : Dev nD) (b : Fin 1024) : EReal := m ((c : Thread nD τ).loc main_arg3) (ix1 b)
def a4 (c : Dev nD) (i : Fin 4112) (b : Fin 1024) : EReal := m ((c : Thread nD τ).loc main_arg4) (ix2 i b)
def b0 (c : Dev nD) (t : Fin cfg0.N) (r : Fin 416) (k : Fin 1536) : EReal := iblk m c 0 t (ix2 r k)
def b1 (c : Dev nD) (t : Fin cfg0.N) (a : Fin 1024) (k : Fin 1536) : EReal := iblk m c 1 t (ix2 a k)
def hrow (c : Dev nD) (t : Fin cfg0.N) (r : Fin 416) (b : Fin 1024) : EReal := iblk m c 2 t (ix2 r b)
def grow (c : Dev nD) (t : Fin cfg0.N) (b : Fin 1024) : EReal := iblk m c 3 t (ix2 0 b)
def drow (c : Dev nD) (t : Fin cfg0.N) (r : Fin 416) (b : Fin 1024) : EReal := iblk m c 4 t (ix2 r b)

/-- The host's padded arrays, by rows. -/
theorem V_da_apply (c : Dev nD) (i : S4160x1536.Idx) : (V m c main_v2 : FVec Ideal S4160x1536 .bf16) i =
    if 48 ≤ (i 0).val then a0 m c (back (i 0)) (i 1) else 0 := by
  unfold a0
  rw [V_da]
  pointwise
  by_cases h : 48 ≤ (i 0).val
  · rw [dif_neg (by omega), if_pos h]
    rfl
  · rw [dif_pos (by omega), if_neg h]

theorem V_h_apply (c : Dev nD) (i : S4160x1024.Idx) (h : 48 ≤ (i 0).val) : V m c main_v5 i = a2 m c (back (i 0)) (i 1) := by
  unfold a2
  rw [V_h]
  pointwise
  rw [dif_neg (by omega)]
  rfl

theorem V_dres_apply (c : Dev nD) (i : S4160x1024.Idx) (h : 48 ≤ (i 0).val) : V m c main_v8 i = a4 m c (back (i 0)) (i 1) := by
  unfold a4
  rw [V_dres]
  pointwise
  rw [dif_neg (by omega)]
  rfl

/-- Row `r` of block `t`, in the padded array. -/
def at_ (t : Fin cfg0.N) (r : Fin 416) : Fin 4160 := ⟨t.val * 416 + r.val, by have : t.val < 10 := t.isLt; omega⟩

/-- The incoming gradient's product with the weight, at row `r` of block `t`. -/
def s (c : Dev nD) (t : Fin cfg0.N) (r : Fin 416) (a : Fin 1024) : EReal := ∑ k, b0 m c t r k * b1 m c t a k

/-- The same over the arguments. -/
def S (c : Dev nD) (i : Fin 4112) (a : Fin 1024) : EReal := ∑ k, a0 m c i k * a1 m c a k

theorem s_eq (c : Dev nD) (t : Fin cfg0.N) (r : Fin 416) (a : Fin 1024) : s m c t r a = if 48 ≤ t.val * 416 + r.val then S m c (back (at_ t r)) a else 0 := by
  have hr : ∀ k, b0 m c t r k = (V m c main_v2 : FVec Ideal S4160x1536 .bf16) (ix2 (at_ t r) k) := fun k => by
    unfold at_ b0
    blk_point [iblk, idx t]
  have hw : ∀ k, b1 m c t a k = a1 m c a k := fun k => by
    unfold a1 b1
    blk_simp [iblk, idx t]
    rw [V_w]
    pointwise
    blk_point [iblk, idx t]
  unfold s
  by_cases h : 48 ≤ t.val * 416 + r.val
  · rw [if_pos h]
    unfold S
    refine Finset.sum_congr rfl fun k _ => ?_
    rw [hr, hw, V_da_apply, if_pos (by exact h)]
    rfl
  · rw [if_neg h]
    refine Finset.sum_eq_zero fun k _ => ?_
    rw [hr, V_da_apply, if_neg (by exact h), zero_mul]

theorem hrow_eq (c : Dev nD) (t : Fin cfg0.N) (r : Fin 416) (b : Fin 1024) (h : 48 ≤ t.val * 416 + r.val) :
    hrow m c t r b = a2 m c (back (at_ t r)) b := by
  have hr : hrow m c t r b = V m c main_v5 (ix2 (at_ t r) b) := by
    unfold at_ hrow
    blk_point [iblk, idx t]
  rw [hr, V_h_apply m c _ (by exact h)]
  rfl

theorem grow_eq (c : Dev nD) (t : Fin cfg0.N) (b : Fin 1024) : grow m c t b = a3 m c b := by
  unfold grow a3
  blk_simp [iblk, idx t]
  rw [V_g]
  pointwise
  blk_point [iblk, idx t]

theorem drow_eq (c : Dev nD) (t : Fin cfg0.N) (r : Fin 416) (b : Fin 1024) (h : 48 ≤ t.val * 416 + r.val) :
    drow m c t r b = a4 m c (back (at_ t r)) b := by
  have hr : drow m c t r b = V m c main_v8 (ix2 (at_ t r) b) := by
    unfold at_ drow
    blk_point [iblk, idx t]
  rw [hr, V_dres_apply m c _ (by exact h)]
  rfl

/-- The block of the first two results, by elements. -/
def blkDh (c : Dev nD) (t : Fin cfg0.N) (r : Fin 416) (a : Fin 1024) : EReal :=
  if 48 ≤ t.val * 416 + r.val then
    dx (hrow m c t r) (fun b => s m c t r b * grow m c t b) (drow m c t r a) a
  else 0

theorem points (c : Dev nD) (t : Fin cfg0.N) (y : S416x1024.Idx) : (outsAt0 m c t.val t.isLt).1 y = blkDh m c t (y 0) (y 1) ∧ (outsAt0 m c t.val t.isLt).2.1 y = blkDh m c t (y 0) (y 1) := by
  have ht : t.val < 10 := t.isLt
  by_cases h : t.val % 10 = 0
  on_goal 1 => rw [outsAt0_A m c t h]
  on_goal 2 => rw [outsAt0_B m c t h]
  all_goals refine ⟨?_, ?_⟩
  all_goals
    frame_out
    canon_tiles x hx
    · open_payloads
      pointwise
      rw [coord t]
      refine (select_of_ite (keep t.val 208 (x 0).val (by omega)) _ _).trans ?_
      unfold blkDh
      have e : y 0 = (⟨208 + (x 0).val, by omega⟩ : Fin 416) := Fin.ext (by simp only []; omega)
      rw [e]
      have e1 : y 1 = (x 1 : Fin 1024) := Fin.ext hx1
      rw [e1]
      unfold dx rr hrow s b0 b1 grow drow
      simp only [← Nat.add_assoc]
    · open_payloads
      pointwise
      rw [coord t]
      refine (select_of_ite (keep t.val 0 (x 0).val (by omega)) _ _).trans ?_
      unfold blkDh
      have e : y 0 = (⟨0 + (x 0).val, by omega⟩ : Fin 416) := Fin.ext (by simp only []; omega)
      rw [e]
      have e1 : y 1 = (x 1 : Fin 1024) := Fin.ext hx1
      rw [e1]
      unfold dx rr hrow s b0 b1 grow drow
      simp only [← Nat.add_assoc, Nat.add_zero, Nat.zero_add]

theorem point5 (c : Dev nD) (t : Fin cfg0.N) (y : S416x1024.Idx) : (outsAt0 m c t.val t.isLt).1 y = blkDh m c t (y 0) (y 1) := (points m c t y).1

theorem point6 (c : Dev nD) (t : Fin cfg0.N) (y : S416x1024.Idx) : (outsAt0 m c t.val t.isLt).2.1 y = blkDh m c t (y 0) (y 1) := (points m c t y).2

theorem refDh (c : Dev nD) (i : Fin 4112) (a : Fin 1024) : (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i a) : EReal) =
    ((a4 m c i a + (S m c i a * a3 m c a) * rr (a2 m c i)) + a2 m c i a * dmr (a2 m c i) (fun b => S m c i b * a3 m c b))
      + dmr (a2 m c i) (fun b => S m c i b * a3 m c b) * a2 m c i a := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_cst_8, val_main_cst_9]
  simp only [Fin.sum_univ_one]
  rfl

set_option maxHeartbeats 1000000 in
theorem refDg (c : Dev nD) (a : Fin 1024) : (val_main_v44 (F := Ideal) (m ((c : Thread nD τ).loc main_arg0)) (m ((c : Thread nD τ).loc main_arg1)) (m ((c : Thread nD τ).loc main_arg2)) (ix2 0 a) : EReal) =
    ∑ i : Fin 4112, (a2 m c i a * rr (a2 m c i)) * S m c i a := by
  rw [← val_main_v44_eq]
  pointwise
  refine (Fin.sum_univ_one _).trans ?_
  rfl

theorem dx_eq (c : Dev nD) (i : Fin 4112) (a : Fin 1024) : dx (a2 m c i) (fun b => S m c i b * a3 m c b) (a4 m c i a) a =
    ((a4 m c i a + (S m c i a * a3 m c a) * rr (a2 m c i)) + a2 m c i a * dmr (a2 m c i) (fun b => S m c i b * a3 m c b))
      + dmr (a2 m c i) (fun b => S m c i b * a3 m c b) * a2 m c i a :=
  row_words (a2 m c i) (fun b => S m c i b * a3 m c b) (a4 m c i a) a

theorem blkDh_eq (c : Dev nD) (t : Fin cfg0.N) (r : Fin 416) (a : Fin 1024) (h : 48 ≤ t.val * 416 + r.val) :
    blkDh m c t r a = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (back (at_ t r)) a) := by
  refine Eq.trans ?_ (refDh m c _ a).symm
  rw [← dx_eq]
  unfold blkDh
  rw [if_pos h, drow_eq m c t r a h]
  have e1 : hrow m c t r = a2 m c (back (at_ t r)) := funext fun b => hrow_eq m c t r b h
  have e2 : (fun b => s m c t r b * grow m c t b) = fun b => S m c (back (at_ t r)) b * a3 m c b := funext fun b => by
    rw [s_eq, if_pos h, grow_eq]
  rw [e1, e2]

theorem at5 (c : Dev nD) (t : Fin cfg0.N) (r : Fin 416) (a : Fin 1024) :
    (val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (at_ t r) a) : EReal) = blkDh m c t r a := by
  have ht : t.val < 10 := t.isLt
  pointwise [val_main_cst, val_main_cst_0, val_main_cst_1, val_main_cst_2, val_main_cst_3, val_main_cst_4, val_main_cst_5, val_main_cst_6, val_main_cst_7, val_main_cst_8, val_main_v39, val_main_v40, val_main_cst_9]
  by_cases h : 48 ≤ t.val * 416 + r.val
  · rw [blkDh_eq m c t r a h, dif_neg (by unfold at_; simp only []; omega)]
    rfl
  · unfold blkDh
    rw [if_neg h, dif_pos (by unfold at_; simp only []; omega)]

/-- Result array of window 5 after the run: the reference's. -/
theorem final5 (c : Dev nD) : (dats m 0 c).arrAt 5 (cfgs 0).N = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine (point5 m c t y).trans ?_
  have e : ((win0_5.blk t).view.emb y : S4160x1024.Idx) = ix2 (at_ t (y 0)) (y 1) := by
    unfold at_
    blk_ext [idx t]
  rw [e]
  exact (at5 m c t (y 0) (y 1)).symm

theorem at6 (c : Dev nD) (t : Fin cfg0.N) (r : Fin 416) (a : Fin 1024) :
    (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (at_ t r) a) : EReal) = blkDh m c t r a := by
  have ht : t.val < 10 := t.isLt
  pointwise [val_main_cst, val_main_cst_0, val_main_cst_1, val_main_cst_2, val_main_cst_3, val_main_cst_4, val_main_cst_5, val_main_cst_6, val_main_cst_7, val_main_cst_8, val_main_cst_9, val_main_v41, val_main_v42, val_main_v43]
  by_cases h : 48 ≤ t.val * 416 + r.val
  · rw [blkDh_eq m c t r a h, dif_neg (by unfold at_; simp only []; omega)]
    rfl
  · unfold blkDh
    rw [if_neg h, dif_pos (by unfold at_; simp only []; omega)]

/-- Result array of window 6 after the run: the reference's. -/
theorem final6 (c : Dev nD) : (dats m 0 c).arrAt 6 (cfgs 0).N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (point6 m c t y).trans ?_
  have e : ((win0_6.blk t).view.emb y : S4160x1024.Idx) = ix2 (at_ t (y 0)) (y 1) := by
    unfold at_
    blk_ext [idx t]
  rw [e]
  exact (at6 m c t (y 0) (y 1)).symm

/-- One row's addition to the third result. -/
def addend (c : Dev nD) (t : Fin cfg0.N) (a : Fin 1024) (r : Fin 416) : EReal := s m c t r a * (hrow m c t r a * rr (hrow m c t r))

/-- One point's addition: its rows, the two halves. -/
def part (c : Dev nD) (t : Fin cfg0.N) (a : Fin 1024) : EReal := ∑ r : Fin 416, addend m c t a r

theorem part_split (c : Dev nD) (t : Fin cfg0.N) (a : Fin 1024) : part m c t a =
    ∑ x : Fin 208, addend m c t a ⟨x.val, by omega⟩ + ∑ x : Fin 208, addend m c t a ⟨208 + x.val, by omega⟩ :=
  Fin.sum_univ_add (a := 208) (b := 208) (addend m c t a)

theorem stepA (c : Dev nD) (t : Fin cfg0.N) (h : t.val % 10 = 0) (j : S1x1024.Idx) : (outsAt0 m c t.val t.isLt).2.2 j = 0 + part m c t (j 1) := by
  rw [outsAt0_A m c t h]
  frame_out
  open_payloads
  pointwise
  exact (part_split m c t (j 1)).symm

theorem stepB (c : Dev nD) (t : Fin cfg0.N) (h : ¬ t.val % 10 = 0) (j : S1x1024.Idx) :
    (outsAt0 m c t.val t.isLt).2.2 j = (outsAt0 m c (t.val - 1) (lt_of_le_of_lt (Nat.sub_le _ _) t.isLt)).2.2 j + part m c t (j 1) := by
  rw [outsAt0_B m c t h]
  frame_out
  open_payloads
  pointwise
  exact (add_assoc (_ : EReal) _ _).trans (congrArg (fun q : EReal => _ + q) (part_split m c t (j 1)).symm)

/-- A padded row's addition. -/
def total (c : Dev nD) (a : Fin 1024) (l : Fin 4160) : EReal :=
  if 48 ≤ l.val then S m c (back l) a * (a2 m c (back l) a * rr (a2 m c (back l))) else 0

theorem addend_eq (c : Dev nD) (t : Fin cfg0.N) (a : Fin 1024) (r : Fin 416) : addend m c t a r = total m c a (at_ t r) := by
  unfold addend total
  rw [s_eq]
  by_cases h : 48 ≤ t.val * 416 + r.val
  · have e1 : hrow m c t r = a2 m c (back (at_ t r)) := funext fun b => hrow_eq m c t r b h
    rw [if_pos h, if_pos (by exact h), e1]
  · rw [if_neg h, if_neg (by exact h), zero_mul]

theorem sum_total (c : Dev nD) (a : Fin 1024) : ∑ l : Fin 4160, total m c a l = ∑ i : Fin 4112, (a2 m c i a * rr (a2 m c i)) * S m c i a := by
  refine (Fin.sum_univ_add (a := 48) (b := 4112) (total m c a)).trans ?_
  have e : ∑ i : Fin 48, total m c a (Fin.castAdd 4112 i) = 0 := Finset.sum_eq_zero fun i _ => by
    unfold total
    exact if_neg (by have := i.isLt; show ¬ 48 ≤ i.val; omega)
  rw [e, zero_add]
  refine Finset.sum_congr rfl fun i _ => ?_
  have hb : back (Fin.natAdd 48 i) = i := Fin.ext (by show 48 + i.val - 48 = i.val; omega)
  unfold total
  rw [if_pos (by show 48 ≤ 48 + i.val; omega), hb, mul_comm]

set_option maxHeartbeats 1000000 in
/-- The third result array after the run: the reference's. -/
theorem final7 (c : Dev nD) : (dats m 0 c).arrAt 7 (cfgs 0).N = val_main_v44 (F := Ideal) (m ((c : Thread nD τ).loc main_arg0)) (m ((c : Thread nD τ).loc main_arg1)) (m ((c : Thread nD τ).loc main_arg2)) := by
  refine (dats m 0 c).arrAt_eq_of_after_last 7 t0_9 (by decide +kernel) _ fun j => ?_
  blk_simp
  rw [after0_7, Pipeline.eq_sum_fin_of_reset_step_apply_last (fun n h => (outsAt0 m c n h).2.2) 10 (fun _ => 0) _
    (fun t h j => stepA m c t h j) (fun t h j => stepB m c t h j) (le_of_eq N_0) t0_9 rfl _, zero_add]
  have e : (j : S1x1024.Idx) = ix2 0 (j 1) := by
    refine funext fun a => ?_
    match a with
    | ⟨0, _⟩ => exact Fin.ext (by have : (j 0).val < 1 := (j 0).isLt; show (j 0).val = 0; omega)
    | ⟨1, _⟩ => rfl
  refine Eq.trans ?_ (congrArg _ e.symm)
  refine Eq.trans ?_ (refDg m c (j 1)).symm
  refine Eq.trans ?_ (sum_total m c (j 1))
  exact Fin.sum_mul_add_congr fun t k hl => addend_eq m c t (j 1) k
end Cert.EvInTIdeal.Hand
-- ==== Proof.OdInT.lean ====
module

public import proofs.«01_k».proof.Proof.Gen.OdInTIdeal.Value
public import proofs.«01_k».proof.Proof.Gen.OdInTRefIdeal.Run
public import proofs.«01_k».proof.Proof.Gen.OdInTRefIdeal.Read
public import Idealize.ShloMosaic.Lib.Pipeline.ValueKit
public import Idealize.ShloMosaic.Lib.Pointwise
public import Idealize.ShloMosaic.Lib.Claim
public import proofs.«01_k».proof.Proof.NormLaw

@[expose] public section

set_option maxRecDepth 16384

noncomputable section

namespace Cert.OdInTIdeal.Hand

open Cert.OdInTIdeal Cert.OdInTIdeal.Gen Cert.OdInTRefIdeal.Read
open Idealize.ShloMosaic Idealize.ShloMosaic.TcCoe Idealize.SL.Sem Idealize.ShloMosaic.StableHlo
open Idealize.ShloMosaic.Pipeline (Dat)
open Cert.NormLaw (back rr dx dmr keep row_words)

variable (m : (ℓ : Loc nD τ sig) → Buf (Elt Ideal) ℓ)

/-- The windows' block indices at point `t`. -/
theorem idx : ∀ t : Fin cfg0.N, win0_0.index t = ![0, t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

/-- The grid has one axis: the point is its coordinate. -/
theorem coord : ∀ t : Fin cfg0.N, (grid0.coords t 0).val = t.val :=
  (by decide +kernel : ∀ t : Fin grid0.N, _)

/-- A select on a bit decided by `p`. -/
theorem select_of_ite {α : Type} {p : Prop} [Decidable p] {c : BitVec 1}
    (h : c = if p then 1#1 else 0#1) (a b : α) : Scalar.select c a b = if p then a else b := by
  subst h
  split_ifs <;> rfl

theorem V_da (c : Dev nD) : V m c main_v2 = (truncf .bf16 (concatenate S4x4160x1024 1
    [⟨S4x48x1024, broadcastInDim S4x48x1024 ![] bcast_S_S4x48x1024 (constant S_ .f32 0x00000000#32)⟩, ⟨S4x4112x1024, m ((c : Thread nD τ).loc main_arg0)⟩]
    concatenates_S4x48x1024_S4x4112x1024_S4x4160x1024_d1) bitsLt_bf16_f32 : FVec Ideal S4x4160x1024 .bf16) := by
  simp only [V, hostOps0, List.flatten_cons, List.flatten_nil, List.append_nil, List.cons_append, List.nil_append,
    TRef.binary, TRef.nullary, TRef.unary, TRef.toBuf, TRef.ofBuf, cast_eq]
  after_results

theorem V_w (c : Dev nD) : V m c main_v3 = (truncf .bf16 (m ((c : Thread nD τ).loc main_arg1)) bitsLt_bf16_f32 : FVec Ideal S1024x4096 .bf16) := by
  simp only [V, hostOps0, List.flatten_cons, List.flatten_nil, List.append_nil, List.cons_append, List.nil_append,
    TRef.binary, TRef.nullary, TRef.unary, TRef.toBuf, TRef.ofBuf, cast_eq]
  after_results

theorem V_h (c : Dev nD) : V m c main_v5 = ((concatenate S4160x1024 0
    [⟨S48x1024, broadcastInDim S48x1024 ![] bcast_S_S48x1024 (constant S_ .f32 0x00000000#32)⟩, ⟨S4112x1024, m ((c : Thread nD τ).loc main_arg2)⟩]
    concatenates_S48x1024_S4112x1024_S4160x1024_d0) : FVec Ideal S4160x1024 .f32) := by
  simp only [V, hostOps0, List.flatten_cons, List.flatten_nil, List.append_nil, List.cons_append, List.nil_append,
    TRef.binary, TRef.nullary, TRef.unary, TRef.toBuf, TRef.ofBuf, cast_eq]
  after_results

theorem V_g (c : Dev nD) : V m c main_v6 = (broadcastInDim S1x1024 ![1] bcast_S1024_S1x1024_1 (m ((c : Thread nD τ).loc main_arg3)) : FVec Ideal S1x1024 .f32) := by
  simp only [V, hostOps0, List.flatten_cons, List.flatten_nil, List.append_nil, List.cons_append, List.nil_append,
    TRef.binary, TRef.nullary, TRef.unary, TRef.toBuf, TRef.ofBuf, cast_eq]
  after_results

theorem V_dres (c : Dev nD) : V m c main_v8 = ((concatenate S4160x1024 0
    [⟨S48x1024, broadcastInDim S48x1024 ![] bcast_S_S48x1024 (constant S_ .f32 0x00000000#32)⟩, ⟨S4112x1024, m ((c : Thread nD τ).loc main_arg4)⟩]
    concatenates_S48x1024_S4112x1024_S4160x1024_d0) : FVec Ideal S4160x1024 .f32) := by
  simp only [V, hostOps0, List.flatten_cons, List.flatten_nil, List.append_nil, List.cons_append, List.nil_append,
    TRef.binary, TRef.nullary, TRef.unary, TRef.toBuf, TRef.ofBuf, cast_eq]
  after_results

/-- The arguments and the blocks, by elements. -/
def a0 (c : Dev nD) (p : Fin 4) (i : Fin 4112) (k : Fin 1024) : EReal := m ((c : Thread nD τ).loc main_arg0) (ix3 p i k)
def a1 (c : Dev nD) (a : Fin 1024) (k : Fin 4096) : EReal := m ((c : Thread nD τ).loc main_arg1) (ix2 a k)
def a2 (c : Dev nD) (i : Fin 4112) (b : Fin 1024) : EReal := m ((c : Thread nD τ).loc main_arg2) (ix2 i b)
def a3 (c : Dev nD) (b : Fin 1024) : EReal := m ((c : Thread nD τ).loc main_arg3) (ix1 b)
def a4 (c : Dev nD) (i : Fin 4112) (b : Fin 1024) : EReal := m ((c : Thread nD τ).loc main_arg4) (ix2 i b)
def b0 (c : Dev nD) (t : Fin cfg0.N) (p : Fin 4) (r : Fin 416) (k : Fin 1024) : EReal := iblk m c 0 t (ix3 p r k)
def b1 (c : Dev nD) (t : Fin cfg0.N) (a : Fin 1024) (k : Fin 4096) : EReal := iblk m c 1 t (ix2 a k)
def hrow (c : Dev nD) (t : Fin cfg0.N) (r : Fin 416) (b : Fin 1024) : EReal := iblk m c 2 t (ix2 r b)
def grow (c : Dev nD) (t : Fin cfg0.N) (b : Fin 1024) : EReal := iblk m c 3 t (ix2 0 b)
def drow (c : Dev nD) (t : Fin cfg0.N) (r : Fin 416) (b : Fin 1024) : EReal := iblk m c 4 t (ix2 r b)

/-- The host's padded arrays, by rows. -/
theorem V_da_apply (c : Dev nD) (i : S4x4160x1024.Idx) : (V m c main_v2 : FVec Ideal S4x4160x1024 .bf16) i =
    if 48 ≤ (i 1).val then a0 m c (i 0) (back (i 1)) (i 2) else 0 := by
  unfold a0
  rw [V_da]
  pointwise
  by_cases h : 48 ≤ (i 1).val
  · rw [dif_neg (by omega), if_pos h]
    rfl
  · rw [dif_pos (by omega), if_neg h]

theorem V_h_apply (c : Dev nD) (i : S4160x1024.Idx) (h : 48 ≤ (i 0).val) : V m c main_v5 i = a2 m c (back (i 0)) (i 1) := by
  unfold a2
  rw [V_h]
  pointwise
  rw [dif_neg (by omega)]
  rfl

theorem V_dres_apply (c : Dev nD) (i : S4160x1024.Idx) (h : 48 ≤ (i 0).val) : V m c main_v8 i = a4 m c (back (i 0)) (i 1) := by
  unfold a4
  rw [V_dres]
  pointwise
  rw [dif_neg (by omega)]
  rfl

/-- Row `r` of block `t`, in the padded array. -/
def at_ (t : Fin cfg0.N) (r : Fin 416) : Fin 4160 := ⟨t.val * 416 + r.val, by have : t.val < 10 := t.isLt; omega⟩

/-- The incoming gradient's product with the weight, at row `r` of block `t`. -/
def s (c : Dev nD) (t : Fin cfg0.N) (r : Fin 416) (a : Fin 1024) : EReal := ∑ x : Fin 1024, b0 m c t 0 r x * b1 m c t a ⟨x.val, by omega⟩ + ∑ x : Fin 1024, b0 m c t 1 r x * b1 m c t a ⟨1024 + x.val, by omega⟩
    + ∑ x : Fin 1024, b0 m c t 2 r x * b1 m c t a ⟨2048 + x.val, by omega⟩ + ∑ x : Fin 1024, b0 m c t 3 r x * b1 m c t a ⟨3072 + x.val, by omega⟩

/-- The same over the arguments. -/
def S (c : Dev nD) (i : Fin 4112) (a : Fin 1024) : EReal := ∑ k : Fin 4096, a0 m c ⟨k.val / 1024, by omega⟩ i ⟨k.val % 1024, by omega⟩ * a1 m c a k

/-- A sum over the flattened axis is the sum over its four parts. -/
theorem four (f : Fin 4096 → EReal) : ∑ x : Fin 1024, f ⟨x.val, by omega⟩ + ∑ x : Fin 1024, f ⟨1024 + x.val, by omega⟩
    + ∑ x : Fin 1024, f ⟨2048 + x.val, by omega⟩ + ∑ x : Fin 1024, f ⟨3072 + x.val, by omega⟩ = ∑ k : Fin 4096, f k := by
  rw [Fin.sum_univ_add (a := 3072) (b := 1024) f,
    Fin.sum_univ_add (a := 2048) (b := 1024) (fun i : Fin 3072 => f (Fin.castAdd 1024 i)),
    Fin.sum_univ_add (a := 1024) (b := 1024) (fun i : Fin 2048 => f (Fin.castAdd 1024 (Fin.castAdd 1024 i)))]
  rfl

theorem b0_eq (c : Dev nD) (t : Fin cfg0.N) (p : Fin 4) (r : Fin 416) (k : Fin 1024) : b0 m c t p r k =
    if 48 ≤ t.val * 416 + r.val then a0 m c p (back (at_ t r)) k else 0 := by
  have e : b0 m c t p r k = (V m c main_v2 : FVec Ideal S4x4160x1024 .bf16) (ix3 p (at_ t r) k) := by
    unfold at_ b0
    blk_point [iblk, idx t]
  rw [e, V_da_apply]
  rfl

theorem b1_eq (c : Dev nD) (t : Fin cfg0.N) (a : Fin 1024) (k : Fin 4096) : b1 m c t a k = a1 m c a k := by
  unfold a1 b1
  blk_simp [iblk, idx t]
  rw [V_w]
  pointwise
  blk_point [iblk, idx t]

theorem s_eq (c : Dev nD) (t : Fin cfg0.N) (r : Fin 416) (a : Fin 1024) : s m c t r a = if 48 ≤ t.val * 416 + r.val then S m c (back (at_ t r)) a else 0 := by
  unfold s
  simp only [b0_eq, b1_eq]
  by_cases h : 48 ≤ t.val * 416 + r.val
  · simp only [if_pos h]
    unfold S
    rw [← four]
    refine congrArg₂ (fun p q : EReal => p + q) (congrArg₂ (fun p q : EReal => p + q) (congrArg₂ (fun p q : EReal => p + q) ?_ ?_) ?_) ?_ <;>
      · refine Finset.sum_congr rfl fun x _ => ?_
        congr 2 <;> refine Fin.ext ?_ <;> simp only [] <;> omega
  · simp only [if_neg h, zero_mul, Finset.sum_const_zero, add_zero]

theorem hrow_eq (c : Dev nD) (t : Fin cfg0.N) (r : Fin 416) (b : Fin 1024) (h : 48 ≤ t.val * 416 + r.val) :
    hrow m c t r b = a2 m c (back (at_ t r)) b := by
  have hr : hrow m c t r b = V m c main_v5 (ix2 (at_ t r) b) := by
    unfold at_ hrow
    blk_point [iblk, idx t]
  rw [hr, V_h_apply m c _ (by exact h)]
  rfl

theorem grow_eq (c : Dev nD) (t : Fin cfg0.N) (b : Fin 1024) : grow m c t b = a3 m c b := by
  unfold grow a3
  blk_simp [iblk, idx t]
  rw [V_g]
  pointwise
  blk_point [iblk, idx t]

theorem drow_eq (c : Dev nD) (t : Fin cfg0.N) (r : Fin 416) (b : Fin 1024) (h : 48 ≤ t.val * 416 + r.val) :
    drow m c t r b = a4 m c (back (at_ t r)) b := by
  have hr : drow m c t r b = V m c main_v8 (ix2 (at_ t r) b) := by
    unfold at_ drow
    blk_point [iblk, idx t]
  rw [hr, V_dres_apply m c _ (by exact h)]
  rfl

/-- The block of the first two results, by elements. -/
def blkDh (c : Dev nD) (t : Fin cfg0.N) (r : Fin 416) (a : Fin 1024) : EReal :=
  if 48 ≤ t.val * 416 + r.val then
    dx (hrow m c t r) (fun b => s m c t r b * grow m c t b) (drow m c t r a) a
  else 0

theorem points (c : Dev nD) (t : Fin cfg0.N) (y : S416x1024.Idx) : (outsAt0 m c t.val t.isLt).1 y = blkDh m c t (y 0) (y 1) ∧ (outsAt0 m c t.val t.isLt).2.1 y = blkDh m c t (y 0) (y 1) := by
  have ht : t.val < 10 := t.isLt
  by_cases h : t.val % 10 = 0
  on_goal 1 => rw [outsAt0_A m c t h]
  on_goal 2 => rw [outsAt0_B m c t h]
  all_goals refine ⟨?_, ?_⟩
  all_goals
    frame_out
    canon_tiles x hx
    · open_payloads
      pointwise
      rw [coord t]
      refine (select_of_ite (keep t.val 208 (x 0).val (by omega)) _ _).trans ?_
      unfold blkDh
      have e : y 0 = (⟨208 + (x 0).val, by omega⟩ : Fin 416) := Fin.ext (by simp only []; omega)
      rw [e]
      have e1 : y 1 = (x 1 : Fin 1024) := Fin.ext hx1
      rw [e1]
      unfold dx rr hrow s b0 b1 grow drow
      simp only [← Nat.add_assoc]
    · open_payloads
      pointwise
      rw [coord t]
      refine (select_of_ite (keep t.val 0 (x 0).val (by omega)) _ _).trans ?_
      unfold blkDh
      have e : y 0 = (⟨0 + (x 0).val, by omega⟩ : Fin 416) := Fin.ext (by simp only []; omega)
      rw [e]
      have e1 : y 1 = (x 1 : Fin 1024) := Fin.ext hx1
      rw [e1]
      unfold dx rr hrow s b0 b1 grow drow
      simp only [← Nat.add_assoc, Nat.add_zero, Nat.zero_add]

theorem point5 (c : Dev nD) (t : Fin cfg0.N) (y : S416x1024.Idx) : (outsAt0 m c t.val t.isLt).1 y = blkDh m c t (y 0) (y 1) := (points m c t y).1

theorem point6 (c : Dev nD) (t : Fin cfg0.N) (y : S416x1024.Idx) : (outsAt0 m c t.val t.isLt).2.1 y = blkDh m c t (y 0) (y 1) := (points m c t y).2

theorem refDh (c : Dev nD) (i : Fin 4112) (a : Fin 1024) : (val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i a) : EReal) =
    ((a4 m c i a + (S m c i a * a3 m c a) * rr (a2 m c i)) + a2 m c i a * dmr (a2 m c i) (fun b => S m c i b * a3 m c b))
      + dmr (a2 m c i) (fun b => S m c i b * a3 m c b) * a2 m c i a := by
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_v20, val_main_cst_3, val_main_v21, val_main_v22, val_main_v23, val_main_v24, val_main_cst_4, val_main_v25, val_main_v26, val_main_cst_5, val_main_v27, val_main_v28, val_main_v29, val_main_v30, val_main_v31, val_main_v32, val_main_cst_6, val_main_v33, val_main_v34, val_main_cst_7, val_main_v35, val_main_v36, val_main_v37, val_main_v38, val_main_v39, val_main_v40, val_main_cst_8, val_main_cst_9]
  simp only [Fin.sum_univ_one]
  rfl

set_option maxHeartbeats 1000000 in
theorem refDg (c : Dev nD) (a : Fin 1024) : (val_main_v46 (F := Ideal) (m ((c : Thread nD τ).loc main_arg0)) (m ((c : Thread nD τ).loc main_arg1)) (m ((c : Thread nD τ).loc main_arg2)) (ix2 0 a) : EReal) =
    ∑ i : Fin 4112, (a2 m c i a * rr (a2 m c i)) * S m c i a := by
  rw [← val_main_v46_eq]
  pointwise
  refine (Fin.sum_univ_one _).trans ?_
  rfl

theorem dx_eq (c : Dev nD) (i : Fin 4112) (a : Fin 1024) : dx (a2 m c i) (fun b => S m c i b * a3 m c b) (a4 m c i a) a =
    ((a4 m c i a + (S m c i a * a3 m c a) * rr (a2 m c i)) + a2 m c i a * dmr (a2 m c i) (fun b => S m c i b * a3 m c b))
      + dmr (a2 m c i) (fun b => S m c i b * a3 m c b) * a2 m c i a :=
  row_words (a2 m c i) (fun b => S m c i b * a3 m c b) (a4 m c i a) a

theorem blkDh_eq (c : Dev nD) (t : Fin cfg0.N) (r : Fin 416) (a : Fin 1024) (h : 48 ≤ t.val * 416 + r.val) :
    blkDh m c t r a = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (back (at_ t r)) a) := by
  refine Eq.trans ?_ (refDh m c _ a).symm
  rw [← dx_eq]
  unfold blkDh
  rw [if_pos h, drow_eq m c t r a h]
  have e1 : hrow m c t r = a2 m c (back (at_ t r)) := funext fun b => hrow_eq m c t r b h
  have e2 : (fun b => s m c t r b * grow m c t b) = fun b => S m c (back (at_ t r)) b * a3 m c b := funext fun b => by
    rw [s_eq, if_pos h, grow_eq]
  rw [e1, e2]

theorem at5 (c : Dev nD) (t : Fin cfg0.N) (r : Fin 416) (a : Fin 1024) :
    (val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (at_ t r) a) : EReal) = blkDh m c t r a := by
  have ht : t.val < 10 := t.isLt
  pointwise [val_main_cst, val_main_cst_0, val_main_cst_1, val_main_cst_2, val_main_cst_3, val_main_cst_4, val_main_cst_5, val_main_cst_6, val_main_cst_7, val_main_cst_8, val_main_v41, val_main_v42, val_main_cst_9]
  by_cases h : 48 ≤ t.val * 416 + r.val
  · rw [blkDh_eq m c t r a h, dif_neg (by unfold at_; simp only []; omega)]
    rfl
  · unfold blkDh
    rw [if_neg h, dif_pos (by unfold at_; simp only []; omega)]

/-- Result array of window 5 after the run: the reference's. -/
theorem final5 (c : Dev nD) : (dats m 0 c).arrAt 5 (cfgs 0).N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine (point5 m c t y).trans ?_
  have e : ((win0_5.blk t).view.emb y : S4160x1024.Idx) = ix2 (at_ t (y 0)) (y 1) := by
    unfold at_
    blk_ext [idx t]
  rw [e]
  exact (at5 m c t (y 0) (y 1)).symm

theorem at6 (c : Dev nD) (t : Fin cfg0.N) (r : Fin 416) (a : Fin 1024) :
    (val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (at_ t r) a) : EReal) = blkDh m c t r a := by
  have ht : t.val < 10 := t.isLt
  pointwise [val_main_cst, val_main_cst_0, val_main_cst_1, val_main_cst_2, val_main_cst_3, val_main_cst_4, val_main_cst_5, val_main_cst_6, val_main_cst_7, val_main_cst_8, val_main_cst_9, val_main_v43, val_main_v44, val_main_v45]
  by_cases h : 48 ≤ t.val * 416 + r.val
  · rw [blkDh_eq m c t r a h, dif_neg (by unfold at_; simp only []; omega)]
    rfl
  · unfold blkDh
    rw [if_neg h, dif_pos (by unfold at_; simp only []; omega)]

/-- Result array of window 6 after the run: the reference's. -/
theorem final6 (c : Dev nD) : (dats m 0 c).arrAt 6 (cfgs 0).N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (point6 m c t y).trans ?_
  have e : ((win0_6.blk t).view.emb y : S4160x1024.Idx) = ix2 (at_ t (y 0)) (y 1) := by
    unfold at_
    blk_ext [idx t]
  rw [e]
  exact (at6 m c t (y 0) (y 1)).symm

/-- One row's addition to the third result. -/
def addend (c : Dev nD) (t : Fin cfg0.N) (a : Fin 1024) (r : Fin 416) : EReal := s m c t r a * (hrow m c t r a * rr (hrow m c t r))

/-- One point's addition: its rows, the two halves. -/
def part (c : Dev nD) (t : Fin cfg0.N) (a : Fin 1024) : EReal := ∑ r : Fin 416, addend m c t a r

theorem part_split (c : Dev nD) (t : Fin cfg0.N) (a : Fin 1024) : part m c t a =
    ∑ x : Fin 208, addend m c t a ⟨x.val, by omega⟩ + ∑ x : Fin 208, addend m c t a ⟨208 + x.val, by omega⟩ :=
  Fin.sum_univ_add (a := 208) (b := 208) (addend m c t a)

theorem stepA (c : Dev nD) (t : Fin cfg0.N) (h : t.val % 10 = 0) (j : S1x1024.Idx) : (outsAt0 m c t.val t.isLt).2.2 j = 0 + part m c t (j 1) := by
  rw [outsAt0_A m c t h]
  frame_out
  open_payloads
  pointwise
  exact (part_split m c t (j 1)).symm

theorem stepB (c : Dev nD) (t : Fin cfg0.N) (h : ¬ t.val % 10 = 0) (j : S1x1024.Idx) :
    (outsAt0 m c t.val t.isLt).2.2 j = (outsAt0 m c (t.val - 1) (lt_of_le_of_lt (Nat.sub_le _ _) t.isLt)).2.2 j + part m c t (j 1) := by
  rw [outsAt0_B m c t h]
  frame_out
  open_payloads
  pointwise
  exact (add_assoc (_ : EReal) _ _).trans (congrArg (fun q : EReal => _ + q) (part_split m c t (j 1)).symm)

/-- A padded row's addition. -/
def total (c : Dev nD) (a : Fin 1024) (l : Fin 4160) : EReal :=
  if 48 ≤ l.val then S m c (back l) a * (a2 m c (back l) a * rr (a2 m c (back l))) else 0

theorem addend_eq (c : Dev nD) (t : Fin cfg0.N) (a : Fin 1024) (r : Fin 416) : addend m c t a r = total m c a (at_ t r) := by
  unfold addend total
  rw [s_eq]
  by_cases h : 48 ≤ t.val * 416 + r.val
  · have e1 : hrow m c t r = a2 m c (back (at_ t r)) := funext fun b => hrow_eq m c t r b h
    rw [if_pos h, if_pos (by exact h), e1]
  · rw [if_neg h, if_neg (by exact h), zero_mul]

theorem sum_total (c : Dev nD) (a : Fin 1024) : ∑ l : Fin 4160, total m c a l = ∑ i : Fin 4112, (a2 m c i a * rr (a2 m c i)) * S m c i a := by
  refine (Fin.sum_univ_add (a := 48) (b := 4112) (total m c a)).trans ?_
  have e : ∑ i : Fin 48, total m c a (Fin.castAdd 4112 i) = 0 := Finset.sum_eq_zero fun i _ => by
    unfold total
    exact if_neg (by have := i.isLt; show ¬ 48 ≤ i.val; omega)
  rw [e, zero_add]
  refine Finset.sum_congr rfl fun i _ => ?_
  have hb : back (Fin.natAdd 48 i) = i := Fin.ext (by show 48 + i.val - 48 = i.val; omega)
  unfold total
  rw [if_pos (by show 48 ≤ 48 + i.val; omega), hb, mul_comm]

set_option maxHeartbeats 1000000 in
/-- The third result array after the run: the reference's. -/
theorem final7 (c : Dev nD) : (dats m 0 c).arrAt 7 (cfgs 0).N = val_main_v46 (F := Ideal) (m ((c : Thread nD τ).loc main_arg0)) (m ((c : Thread nD τ).loc main_arg1)) (m ((c : Thread nD τ).loc main_arg2)) := by
  refine (dats m 0 c).arrAt_eq_of_after_last 7 t0_9 (by decide +kernel) _ fun j => ?_
  blk_simp
  rw [after0_7, Pipeline.eq_sum_fin_of_reset_step_apply_last (fun n h => (outsAt0 m c n h).2.2) 10 (fun _ => 0) _
    (fun t h j => stepA m c t h j) (fun t h j => stepB m c t h j) (le_of_eq N_0) t0_9 rfl _, zero_add]
  have e : (j : S1x1024.Idx) = ix2 0 (j 1) := by
    refine funext fun a => ?_
    match a with
    | ⟨0, _⟩ => exact Fin.ext (by have : (j 0).val < 1 := (j 0).isLt; show (j 0).val = 0; omega)
    | ⟨1, _⟩ => rfl
  refine Eq.trans ?_ (congrArg _ e.symm)
  refine Eq.trans ?_ (refDg m c (j 1)).symm
  refine Eq.trans ?_ (sum_total m c (j 1))
  exact Fin.sum_mul_add_congr fun t k hl => addend_eq m c t (j 1) k
end Cert.OdInTIdeal.Hand
-- ==== Proof.lean ====
module

public import proofs.«01_k».proof.Defs
public import proofs.«01_k».proof.Proof.Ideal
public import proofs.«01_k».proof.Proof.PoolRef
public import proofs.«01_k».proof.Proof.Up
public import proofs.«01_k».proof.Proof.EvIn
public import proofs.«01_k».proof.Proof.OdIn
public import proofs.«01_k».proof.Proof.OptOut
public import proofs.«01_k».proof.Proof.OptSmall
public import proofs.«01_k».proof.Proof.Loss
public import proofs.«01_k».proof.Proof.Lb
public import proofs.«01_k».proof.Proof.OptEvIn
public import proofs.«01_k».proof.Proof.OptOdIn
public import proofs.«01_k».proof.Proof.OptW1
public import proofs.«01_k».proof.Proof.OptW2
public import proofs.«01_k».proof.Proof.DAct
public import proofs.«01_k».proof.Proof.Gen.DAct.Frame
public import proofs.«01_k».proof.Proof.DW2
public import proofs.«01_k».proof.Proof.Gen.DW2.Frame
public import proofs.«01_k».proof.Proof.DW1
public import proofs.«01_k».proof.Proof.Gen.DW1.Frame
public import proofs.«01_k».proof.Proof.Down
public import proofs.«01_k».proof.Proof.Gen.Down.Frame
public import proofs.«01_k».proof.Proof.OutT
public import proofs.«01_k».proof.Proof.Gen.OutT.Frame
public import proofs.«01_k».proof.Proof.DWOut
public import proofs.«01_k».proof.Proof.Gen.DWOut.Frame
public import proofs.«01_k».proof.Proof.EvDWIn
public import proofs.«01_k».proof.Proof.Gen.EvDWIn.Frame
public import proofs.«01_k».proof.Proof.OdDWIn
public import proofs.«01_k».proof.Proof.Gen.OdDWIn.Frame
public import proofs.«01_k».proof.Proof.MixOut
public import proofs.«01_k».proof.Proof.Gen.MixOut.Frame
public import proofs.«01_k».proof.Proof.DNorm
public import proofs.«01_k».proof.Proof.Gen.DNorm.Frame
public import proofs.«01_k».proof.Proof.EvInT
public import proofs.«01_k».proof.Proof.Gen.EvInT.Frame
public import proofs.«01_k».proof.Proof.OdInT
public import proofs.«01_k».proof.Proof.Gen.OdInT.Frame
public import Idealize.ShloMosaic.Lib.Quiescent

@[expose] public section

noncomputable section

namespace Cert.Proof

open Idealize.ShloMosaic Idealize.ShloMosaic.TcCoe Idealize.SL.Sem

/-! ## The mixer's backward pass: both runs end, with the arguments as they were and no signal left over -/

theorem frame_Kernel : quiescent_Kernel (hKernel := Kernel.Gen.facts) := fun m ρ _ => Kernel.Hand.frame (F := Bits) m ρ

theorem frame_KernelIdeal : quiescent_KernelIdeal (hKernelIdeal := KernelIdeal.Gen.facts) := fun m ρ _ =>
  KernelIdeal.Hand.frame (F := Ideal) m ρ

/-! ## The mixer's backward pass: the pooled columns of the gradient of its input -/

theorem frame_PoolRefIdeal : quiescent_PoolRefIdeal (hPoolRefIdeal := PoolRefIdeal.Gen.facts) := fun m ρ _ =>
  (θ_run PoolRefIdeal.defs _ _).mono (fun r h => ⟨fun c => (h c).2, sem_eq_zero_of_no_sems (by decide) r.2⟩)
    (PoolRefIdeal.Hand.pooled_run m ρ)

theorem algebraic_Pool : algebraic_KernelIdeal_PoolRefIdeal_on_pooled_columns (hKernelIdeal := KernelIdeal.Gen.facts) (hPoolRefIdeal := PoolRefIdeal.Gen.facts)
    (hOn_pooled_columns := On_pooled_columns.Hand.facts) := by
  intro m ρ m' ρ' _ hagree
  refine ⟨fun c i => Kernel.Hand.pooledVal (m ((c.tc : Thread KernelIdeal.nD KernelIdeal.τ).loc KernelIdeal.main_arg0)) (m ((c.tc : Thread KernelIdeal.nD KernelIdeal.τ).loc KernelIdeal.main_arg6)) (m ((c.tc : Thread KernelIdeal.nD KernelIdeal.τ).loc KernelIdeal.main_arg8)) (i 0).val (i 1).val,
    fun _ _ => (0 : EReal), fun _ _ => (0 : EReal), fun _ _ => (0 : EReal), ?_, ?_⟩
  · refine (θ_run KernelIdeal.defs _ _).mono (fun r h c => ⟨fun i hi => ?_, fun i hi => absurd hi (On_pooled_columns.Hand.none1 _ _ _ _ _ _ _ _ _ i), fun i hi => absurd hi (On_pooled_columns.Hand.none2 _ _ _ _ _ _ _ _ _ i), fun i hi => absurd hi (On_pooled_columns.Hand.none3 _ _ _ _ _ _ _ _ _ i), (h c).2⟩) (KernelIdeal.Hand.pooled_run m ρ)
    have hs := On_pooled_columns.Hand.selected _ _ _ _ _ _ _ _ _ i hi
    exact (h c).1 i hs.1 hs.2
  · refine (θ_run PoolRefIdeal.defs _ _).mono (fun r h c => ⟨fun i hi => ?_, fun i hi => absurd hi (On_pooled_columns.Hand.none1 _ _ _ _ _ _ _ _ _ i), fun i hi => absurd hi (On_pooled_columns.Hand.none2 _ _ _ _ _ _ _ _ _ i), fun i hi => absurd hi (On_pooled_columns.Hand.none3 _ _ _ _ _ _ _ _ _ i), (h c).2⟩) (PoolRefIdeal.Hand.pooled_run m' ρ')
    have hs := On_pooled_columns.Hand.selected _ _ _ _ _ _ _ _ _ i hi
    have e := (h c).1 i hs.1 hs.2
    rw [(hagree c).1, (hagree c).2.2.2.2.2.2.1, (hagree c).2.2.2.2.2.2.2.2] at e
    exact e

/-! ## DAct -/

theorem frame_DActRefIdeal : quiescent_DActRefIdeal (hDActRefIdeal := DActRefIdeal.Gen.facts) := fun m ρ _ =>
  (θ_run DActRefIdeal.defs _ _).mono (fun r h => ⟨fun c => (h c).2, sem_eq_zero_of_no_sems (by decide) r.2⟩)
    (DActRefIdeal.Value.run (F := Ideal) m ρ)

theorem algebraic_DAct : algebraic_DActIdeal_DActRefIdeal (hDActIdeal := DActIdeal.Gen.facts) (hDActRefIdeal := DActRefIdeal.Gen.facts) := by
  intro m ρ m' ρ' _ hagree
  refine ⟨fun c => DActRefIdeal.Read.val_main_v12 (F := Ideal) (m ((c.tc : Thread DActIdeal.nD DActIdeal.τ).loc DActIdeal.main_arg0)) (m ((c.tc : Thread DActIdeal.nD DActIdeal.τ).loc DActIdeal.main_arg1)) (m ((c.tc : Thread DActIdeal.nD DActIdeal.τ).loc DActIdeal.main_arg2)), ?_, ?_⟩
  · exact (θ_run DActIdeal.defs _ _).mono (fun _ h c => ⟨(h c).1.trans (DActIdeal.Hand.final m c), (h c).2⟩)
      (DActIdeal.Value.run_blocks m ρ)
  refine (θ_run DActRefIdeal.defs _ _).mono (fun _ h c => ⟨(h c).1.trans ?_, (h c).2⟩) (DActRefIdeal.Value.run (F := Ideal) m' ρ')
  rw [(hagree c).1, (hagree c).2.1, (hagree c).2.2]
  exact DActRefIdeal.Read.val_main_v12_eq (F := Ideal) _ _ _

/-! ## DW2 -/

theorem frame_DW2RefIdeal : quiescent_DW2RefIdeal (hDW2RefIdeal := DW2RefIdeal.Gen.facts) := fun m ρ _ =>
  (θ_run DW2RefIdeal.defs _ _).mono (fun r h => ⟨fun c => (h c).2, sem_eq_zero_of_no_sems (by decide) r.2⟩)
    (DW2RefIdeal.Value.run (F := Ideal) m ρ)

theorem algebraic_DW2 : algebraic_DW2Ideal_DW2RefIdeal (hDW2Ideal := DW2Ideal.Gen.facts) (hDW2RefIdeal := DW2RefIdeal.Gen.facts) := by
  intro m ρ m' ρ' _ hagree
  refine ⟨fun c => DW2RefIdeal.Read.val_main_v6 (F := Ideal) (m ((c.tc : Thread DW2Ideal.nD DW2Ideal.τ).loc DW2Ideal.main_arg0)) (m ((c.tc : Thread DW2Ideal.nD DW2Ideal.τ).loc DW2Ideal.main_arg1)), ?_, ?_⟩
  · exact (θ_run DW2Ideal.defs _ _).mono (fun _ h c => ⟨(h c).1.trans (DW2Ideal.Hand.final m c), (h c).2⟩)
      (DW2Ideal.Value.run_blocks m ρ)
  refine (θ_run DW2RefIdeal.defs _ _).mono (fun _ h c => ⟨(h c).1.trans ?_, (h c).2⟩) (DW2RefIdeal.Value.run (F := Ideal) m' ρ')
  rw [(hagree c).1, (hagree c).2]
  exact DW2RefIdeal.Read.val_main_v6_eq (F := Ideal) _ _

/-! ## DW1 -/

theorem frame_DW1RefIdeal : quiescent_DW1RefIdeal (hDW1RefIdeal := DW1RefIdeal.Gen.facts) := fun m ρ _ =>
  (θ_run DW1RefIdeal.defs _ _).mono (fun r h => ⟨fun c => (h c).2, sem_eq_zero_of_no_sems (by decide) r.2⟩)
    (DW1RefIdeal.Value.run (F := Ideal) m ρ)

theorem algebraic_DW1 : algebraic_DW1Ideal_DW1RefIdeal (hDW1Ideal := DW1Ideal.Gen.facts) (hDW1RefIdeal := DW1RefIdeal.Gen.facts) := by
  intro m ρ m' ρ' _ hagree
  refine ⟨fun c => DW1RefIdeal.Read.val_main_v19 (F := Ideal) (m ((c.tc : Thread DW1Ideal.nD DW1Ideal.τ).loc DW1Ideal.main_arg0)) (m ((c.tc : Thread DW1Ideal.nD DW1Ideal.τ).loc DW1Ideal.main_arg1)) (m ((c.tc : Thread DW1Ideal.nD DW1Ideal.τ).loc DW1Ideal.main_arg2)), ?_, ?_⟩
  · exact (θ_run DW1Ideal.defs _ _).mono (fun _ h c => ⟨(h c).1.trans (DW1Ideal.Hand.final m c), (h c).2⟩)
      (DW1Ideal.Value.run_blocks m ρ)
  refine (θ_run DW1RefIdeal.defs _ _).mono (fun _ h c => ⟨(h c).1.trans ?_, (h c).2⟩) (DW1RefIdeal.Value.run (F := Ideal) m' ρ')
  rw [(hagree c).1, (hagree c).2.1, (hagree c).2.2]
  exact DW1RefIdeal.Read.val_main_v19_eq (F := Ideal) _ _ _

/-! ## Down -/

theorem frame_DownRefIdeal : quiescent_DownRefIdeal (hDownRefIdeal := DownRefIdeal.Gen.facts) := fun m ρ _ =>
  (θ_run DownRefIdeal.defs _ _).mono (fun r h => ⟨fun c => (h c).2, sem_eq_zero_of_no_sems (by decide) r.2⟩)
    (DownRefIdeal.Value.run (F := Ideal) m ρ)

theorem algebraic_Down : algebraic_DownIdeal_DownRefIdeal (hDownIdeal := DownIdeal.Gen.facts) (hDownRefIdeal := DownRefIdeal.Gen.facts) := by
  intro m ρ m' ρ' _ hagree
  refine ⟨fun c => DownRefIdeal.Read.val_main_v5 (F := Ideal) (m ((c.tc : Thread DownIdeal.nD DownIdeal.τ).loc DownIdeal.main_arg0)) (m ((c.tc : Thread DownIdeal.nD DownIdeal.τ).loc DownIdeal.main_arg1)) (m ((c.tc : Thread DownIdeal.nD DownIdeal.τ).loc DownIdeal.main_arg2)), ?_, ?_⟩
  · exact (θ_run DownIdeal.defs _ _).mono (fun _ h c => ⟨(h c).1.trans (DownIdeal.Hand.final m c), (h c).2⟩)
      (DownIdeal.Value.run_blocks m ρ)
  refine (θ_run DownRefIdeal.defs _ _).mono (fun _ h c => ⟨(h c).1.trans ?_, (h c).2⟩) (DownRefIdeal.Value.run (F := Ideal) m' ρ')
  rw [(hagree c).1, (hagree c).2.1, (hagree c).2.2]
  exact DownRefIdeal.Read.val_main_v5_eq (F := Ideal) _ _ _

/-! ## OutT -/

theorem frame_OutTRefIdeal : quiescent_OutTRefIdeal (hOutTRefIdeal := OutTRefIdeal.Gen.facts) := fun m ρ _ =>
  (θ_run OutTRefIdeal.defs _ _).mono (fun r h => ⟨fun c => (h c).2, sem_eq_zero_of_no_sems (by decide) r.2⟩)
    (OutTRefIdeal.Value.run (F := Ideal) m ρ)

theorem algebraic_OutT : algebraic_OutTIdeal_OutTRefIdeal (hOutTIdeal := OutTIdeal.Gen.facts) (hOutTRefIdeal := OutTRefIdeal.Gen.facts) := by
  intro m ρ m' ρ' _ hagree
  refine ⟨fun c => OutTRefIdeal.Read.val_main_v2 (F := Ideal) (m ((c.tc : Thread OutTIdeal.nD OutTIdeal.τ).loc OutTIdeal.main_arg0)) (m ((c.tc : Thread OutTIdeal.nD OutTIdeal.τ).loc OutTIdeal.main_arg1)), ?_, ?_⟩
  · exact (θ_run OutTIdeal.defs _ _).mono (fun _ h c => ⟨(h c).1.trans (OutTIdeal.Hand.final m c), (h c).2⟩)
      (OutTIdeal.Value.run_blocks m ρ)
  refine (θ_run OutTRefIdeal.defs _ _).mono (fun _ h c => ⟨(h c).1.trans ?_, (h c).2⟩) (OutTRefIdeal.Value.run (F := Ideal) m' ρ')
  rw [(hagree c).1, (hagree c).2]
  exact OutTRefIdeal.Read.val_main_v2_eq (F := Ideal) _ _

/-! ## DWOut -/

theorem frame_DWOutRefIdeal : quiescent_DWOutRefIdeal (hDWOutRefIdeal := DWOutRefIdeal.Gen.facts) := fun m ρ _ =>
  (θ_run DWOutRefIdeal.defs _ _).mono (fun r h => ⟨fun c => (h c).2, sem_eq_zero_of_no_sems (by decide) r.2⟩)
    (DWOutRefIdeal.Value.run (F := Ideal) m ρ)

theorem algebraic_DWOut : algebraic_DWOutIdeal_DWOutRefIdeal (hDWOutIdeal := DWOutIdeal.Gen.facts) (hDWOutRefIdeal := DWOutRefIdeal.Gen.facts) := by
  intro m ρ m' ρ' _ hagree
  refine ⟨fun c => DWOutRefIdeal.Read.val_main_v4 (F := Ideal) (m ((c.tc : Thread DWOutIdeal.nD DWOutIdeal.τ).loc DWOutIdeal.main_arg0)) (m ((c.tc : Thread DWOutIdeal.nD DWOutIdeal.τ).loc DWOutIdeal.main_arg1)), ?_, ?_⟩
  · exact (θ_run DWOutIdeal.defs _ _).mono (fun _ h c => ⟨(h c).1.trans (DWOutIdeal.Hand.final m c), (h c).2⟩)
      (DWOutIdeal.Value.run_blocks m ρ)
  refine (θ_run DWOutRefIdeal.defs _ _).mono (fun _ h c => ⟨(h c).1.trans ?_, (h c).2⟩) (DWOutRefIdeal.Value.run (F := Ideal) m' ρ')
  rw [(hagree c).1, (hagree c).2]
  exact DWOutRefIdeal.Read.val_main_v4_eq (F := Ideal) _ _

/-! ## EvDWIn -/

theorem frame_EvDWInRefIdeal : quiescent_EvDWInRefIdeal (hEvDWInRefIdeal := EvDWInRefIdeal.Gen.facts) := fun m ρ _ =>
  (θ_run EvDWInRefIdeal.defs _ _).mono (fun r h => ⟨fun c => (h c).2, sem_eq_zero_of_no_sems (by decide) r.2⟩)
    (EvDWInRefIdeal.Value.run (F := Ideal) m ρ)

theorem algebraic_EvDWIn : algebraic_EvDWInIdeal_EvDWInRefIdeal (hEvDWInIdeal := EvDWInIdeal.Gen.facts) (hEvDWInRefIdeal := EvDWInRefIdeal.Gen.facts) := by
  intro m ρ m' ρ' _ hagree
  refine ⟨fun c => EvDWInRefIdeal.Read.val_main_v17 (F := Ideal) (m ((c.tc : Thread EvDWInIdeal.nD EvDWInIdeal.τ).loc EvDWInIdeal.main_arg0)) (m ((c.tc : Thread EvDWInIdeal.nD EvDWInIdeal.τ).loc EvDWInIdeal.main_arg1)) (m ((c.tc : Thread EvDWInIdeal.nD EvDWInIdeal.τ).loc EvDWInIdeal.main_arg2)), ?_, ?_⟩
  · exact (θ_run EvDWInIdeal.defs _ _).mono (fun _ h c => ⟨(h c).1.trans (EvDWInIdeal.Hand.final m c), (h c).2⟩)
      (EvDWInIdeal.Value.run_blocks m ρ)
  refine (θ_run EvDWInRefIdeal.defs _ _).mono (fun _ h c => ⟨(h c).1.trans ?_, (h c).2⟩) (EvDWInRefIdeal.Value.run (F := Ideal) m' ρ')
  rw [(hagree c).1, (hagree c).2.1, (hagree c).2.2]
  exact EvDWInRefIdeal.Read.val_main_v17_eq (F := Ideal) _ _ _

/-! ## OdDWIn -/

theorem frame_OdDWInRefIdeal : quiescent_OdDWInRefIdeal (hOdDWInRefIdeal := OdDWInRefIdeal.Gen.facts) := fun m ρ _ =>
  (θ_run OdDWInRefIdeal.defs _ _).mono (fun r h => ⟨fun c => (h c).2, sem_eq_zero_of_no_sems (by decide) r.2⟩)
    (OdDWInRefIdeal.Value.run (F := Ideal) m ρ)

theorem algebraic_OdDWIn : algebraic_OdDWInIdeal_OdDWInRefIdeal (hOdDWInIdeal := OdDWInIdeal.Gen.facts) (hOdDWInRefIdeal := OdDWInRefIdeal.Gen.facts) := by
  intro m ρ m' ρ' _ hagree
  refine ⟨fun c => OdDWInRefIdeal.Read.val_main_v21 (F := Ideal) (m ((c.tc : Thread OdDWInIdeal.nD OdDWInIdeal.τ).loc OdDWInIdeal.main_arg0)) (m ((c.tc : Thread OdDWInIdeal.nD OdDWInIdeal.τ).loc OdDWInIdeal.main_arg1)) (m ((c.tc : Thread OdDWInIdeal.nD OdDWInIdeal.τ).loc OdDWInIdeal.main_arg2)), ?_, ?_⟩
  · exact (θ_run OdDWInIdeal.defs _ _).mono (fun _ h c => ⟨(h c).1.trans (OdDWInIdeal.Hand.final m c), (h c).2⟩)
      (OdDWInIdeal.Value.run_blocks m ρ)
  refine (θ_run OdDWInRefIdeal.defs _ _).mono (fun _ h c => ⟨(h c).1.trans ?_, (h c).2⟩) (OdDWInRefIdeal.Value.run (F := Ideal) m' ρ')
  rw [(hagree c).1, (hagree c).2.1, (hagree c).2.2]
  exact OdDWInRefIdeal.Read.val_main_v21_eq (F := Ideal) _ _ _

/-! ## MixOut -/

theorem frame_MixOutRefIdeal : quiescent_MixOutRefIdeal (hMixOutRefIdeal := MixOutRefIdeal.Gen.facts) := fun m ρ _ =>
  (θ_run MixOutRefIdeal.defs _ _).mono (fun r h => ⟨fun c => (h c).2, sem_eq_zero_of_no_sems (by decide) r.2⟩)
    (MixOutRefIdeal.Value.run (F := Ideal) m ρ)

theorem algebraic_MixOut : algebraic_MixOutIdeal_MixOutRefIdeal (hMixOutIdeal := MixOutIdeal.Gen.facts) (hMixOutRefIdeal := MixOutRefIdeal.Gen.facts) := by
  intro m ρ m' ρ' _ hagree
  refine ⟨fun c => MixOutRefIdeal.Read.val_main_v3 (F := Ideal) (m ((c.tc : Thread MixOutIdeal.nD MixOutIdeal.τ).loc MixOutIdeal.main_arg0)) (m ((c.tc : Thread MixOutIdeal.nD MixOutIdeal.τ).loc MixOutIdeal.main_arg1)) (m ((c.tc : Thread MixOutIdeal.nD MixOutIdeal.τ).loc MixOutIdeal.main_arg2)), ?_, ?_⟩
  · exact (θ_run MixOutIdeal.defs _ _).mono (fun _ h c => ⟨(h c).1.trans (MixOutIdeal.Hand.final m c), (h c).2⟩)
      (MixOutIdeal.Value.run_blocks m ρ)
  refine (θ_run MixOutRefIdeal.defs _ _).mono (fun _ h c => ⟨(h c).1.trans ?_, (h c).2⟩) (MixOutRefIdeal.Value.run (F := Ideal) m' ρ')
  rw [(hagree c).1, (hagree c).2.1, (hagree c).2.2]
  exact MixOutRefIdeal.Read.val_main_v3_eq (F := Ideal) _ _ _

/-! ## DNorm -/

theorem frame_DNormRefIdeal : quiescent_DNormRefIdeal (hDNormRefIdeal := DNormRefIdeal.Gen.facts) := fun m ρ _ =>
  (θ_run DNormRefIdeal.defs _ _).mono (fun r h => ⟨fun c => (h c).2.2.2, sem_eq_zero_of_no_sems (by decide) r.2⟩)
    (DNormRefIdeal.Value.run (F := Ideal) m ρ)

theorem algebraic_DNorm : algebraic_DNormIdeal_DNormRefIdeal (hDNormIdeal := DNormIdeal.Gen.facts) (hDNormRefIdeal := DNormRefIdeal.Gen.facts) := by
  intro m ρ m' ρ' _ hagree
  refine ⟨fun c => DNormRefIdeal.Read.val_main_v40 (F := Ideal) (m ((c.tc : Thread DNormIdeal.nD DNormIdeal.τ).loc DNormIdeal.main_arg0)) (m ((c.tc : Thread DNormIdeal.nD DNormIdeal.τ).loc DNormIdeal.main_arg1)) (m ((c.tc : Thread DNormIdeal.nD DNormIdeal.τ).loc DNormIdeal.main_arg2)) (m ((c.tc : Thread DNormIdeal.nD DNormIdeal.τ).loc DNormIdeal.main_arg3)) (m ((c.tc : Thread DNormIdeal.nD DNormIdeal.τ).loc DNormIdeal.main_arg4)), fun c => DNormRefIdeal.Read.val_main_v43 (F := Ideal) (m ((c.tc : Thread DNormIdeal.nD DNormIdeal.τ).loc DNormIdeal.main_arg0)) (m ((c.tc : Thread DNormIdeal.nD DNormIdeal.τ).loc DNormIdeal.main_arg1)) (m ((c.tc : Thread DNormIdeal.nD DNormIdeal.τ).loc DNormIdeal.main_arg2)) (m ((c.tc : Thread DNormIdeal.nD DNormIdeal.τ).loc DNormIdeal.main_arg3)) (m ((c.tc : Thread DNormIdeal.nD DNormIdeal.τ).loc DNormIdeal.main_arg4)), fun c => DNormRefIdeal.Read.val_main_v44 (F := Ideal) (m ((c.tc : Thread DNormIdeal.nD DNormIdeal.τ).loc DNormIdeal.main_arg0)) (m ((c.tc : Thread DNormIdeal.nD DNormIdeal.τ).loc DNormIdeal.main_arg1)) (m ((c.tc : Thread DNormIdeal.nD DNormIdeal.τ).loc DNormIdeal.main_arg2)), ?_, ?_⟩
  · exact (θ_run DNormIdeal.defs _ _).mono (fun _ h c => ⟨(h c).1.trans (DNormIdeal.Hand.final5 m c), (h c).2.1.trans (DNormIdeal.Hand.final6 m c), (h c).2.2.1.trans (DNormIdeal.Hand.final7 m c), (h c).2.2.2⟩)
      (DNormIdeal.Value.run_blocks m ρ)
  refine (θ_run DNormRefIdeal.defs _ _).mono (fun _ h c => ⟨(h c).1.trans ?_, (h c).2.1.trans ?_, (h c).2.2.1.trans ?_, (h c).2.2.2⟩) (DNormRefIdeal.Value.run (F := Ideal) m' ρ')
  · rw [DNormRefIdeal.Read.val_main_v40_eq, (hagree c).1, (hagree c).2.1, (hagree c).2.2.1, (hagree c).2.2.2.1, (hagree c).2.2.2.2]
  · rw [DNormRefIdeal.Read.val_main_v43_eq, (hagree c).1, (hagree c).2.1, (hagree c).2.2.1, (hagree c).2.2.2.1, (hagree c).2.2.2.2]
  · rw [(hagree c).1, (hagree c).2.1, (hagree c).2.2.1]
    exact DNormRefIdeal.Read.val_main_v44_eq (F := Ideal) _ _ _

/-! ## EvInT -/

theorem frame_EvInTRefIdeal : quiescent_EvInTRefIdeal (hEvInTRefIdeal := EvInTRefIdeal.Gen.facts) := fun m ρ _ =>
  (θ_run EvInTRefIdeal.defs _ _).mono (fun r h => ⟨fun c => (h c).2.2.2, sem_eq_zero_of_no_sems (by decide) r.2⟩)
    (EvInTRefIdeal.Value.run (F := Ideal) m ρ)

theorem algebraic_EvInT : algebraic_EvInTIdeal_EvInTRefIdeal (hEvInTIdeal := EvInTIdeal.Gen.facts) (hEvInTRefIdeal := EvInTRefIdeal.Gen.facts) := by
  intro m ρ m' ρ' _ hagree
  refine ⟨fun c => EvInTRefIdeal.Read.val_main_v40 (F := Ideal) (m ((c.tc : Thread EvInTIdeal.nD EvInTIdeal.τ).loc EvInTIdeal.main_arg0)) (m ((c.tc : Thread EvInTIdeal.nD EvInTIdeal.τ).loc EvInTIdeal.main_arg1)) (m ((c.tc : Thread EvInTIdeal.nD EvInTIdeal.τ).loc EvInTIdeal.main_arg2)) (m ((c.tc : Thread EvInTIdeal.nD EvInTIdeal.τ).loc EvInTIdeal.main_arg3)) (m ((c.tc : Thread EvInTIdeal.nD EvInTIdeal.τ).loc EvInTIdeal.main_arg4)), fun c => EvInTRefIdeal.Read.val_main_v43 (F := Ideal) (m ((c.tc : Thread EvInTIdeal.nD EvInTIdeal.τ).loc EvInTIdeal.main_arg0)) (m ((c.tc : Thread EvInTIdeal.nD EvInTIdeal.τ).loc EvInTIdeal.main_arg1)) (m ((c.tc : Thread EvInTIdeal.nD EvInTIdeal.τ).loc EvInTIdeal.main_arg2)) (m ((c.tc : Thread EvInTIdeal.nD EvInTIdeal.τ).loc EvInTIdeal.main_arg3)) (m ((c.tc : Thread EvInTIdeal.nD EvInTIdeal.τ).loc EvInTIdeal.main_arg4)), fun c => EvInTRefIdeal.Read.val_main_v44 (F := Ideal) (m ((c.tc : Thread EvInTIdeal.nD EvInTIdeal.τ).loc EvInTIdeal.main_arg0)) (m ((c.tc : Thread EvInTIdeal.nD EvInTIdeal.τ).loc EvInTIdeal.main_arg1)) (m ((c.tc : Thread EvInTIdeal.nD EvInTIdeal.τ).loc EvInTIdeal.main_arg2)), ?_, ?_⟩
  · exact (θ_run EvInTIdeal.defs _ _).mono (fun _ h c => ⟨(h c).1.trans (EvInTIdeal.Hand.final5 m c), (h c).2.1.trans (EvInTIdeal.Hand.final6 m c), (h c).2.2.1.trans (EvInTIdeal.Hand.final7 m c), (h c).2.2.2⟩)
      (EvInTIdeal.Value.run_blocks m ρ)
  refine (θ_run EvInTRefIdeal.defs _ _).mono (fun _ h c => ⟨(h c).1.trans ?_, (h c).2.1.trans ?_, (h c).2.2.1.trans ?_, (h c).2.2.2⟩) (EvInTRefIdeal.Value.run (F := Ideal) m' ρ')
  · rw [EvInTRefIdeal.Read.val_main_v40_eq, (hagree c).1, (hagree c).2.1, (hagree c).2.2.1, (hagree c).2.2.2.1, (hagree c).2.2.2.2]
  · rw [EvInTRefIdeal.Read.val_main_v43_eq, (hagree c).1, (hagree c).2.1, (hagree c).2.2.1, (hagree c).2.2.2.1, (hagree c).2.2.2.2]
  · rw [(hagree c).1, (hagree c).2.1, (hagree c).2.2.1]
    exact EvInTRefIdeal.Read.val_main_v44_eq (F := Ideal) _ _ _

/-! ## OdInT -/

theorem frame_OdInTRefIdeal : quiescent_OdInTRefIdeal (hOdInTRefIdeal := OdInTRefIdeal.Gen.facts) := fun m ρ _ =>
  (θ_run OdInTRefIdeal.defs _ _).mono (fun r h => ⟨fun c => (h c).2.2.2, sem_eq_zero_of_no_sems (by decide) r.2⟩)
    (OdInTRefIdeal.Value.run (F := Ideal) m ρ)

theorem algebraic_OdInT : algebraic_OdInTIdeal_OdInTRefIdeal (hOdInTIdeal := OdInTIdeal.Gen.facts) (hOdInTRefIdeal := OdInTRefIdeal.Gen.facts) := by
  intro m ρ m' ρ' _ hagree
  refine ⟨fun c => OdInTRefIdeal.Read.val_main_v42 (F := Ideal) (m ((c.tc : Thread OdInTIdeal.nD OdInTIdeal.τ).loc OdInTIdeal.main_arg0)) (m ((c.tc : Thread OdInTIdeal.nD OdInTIdeal.τ).loc OdInTIdeal.main_arg1)) (m ((c.tc : Thread OdInTIdeal.nD OdInTIdeal.τ).loc OdInTIdeal.main_arg2)) (m ((c.tc : Thread OdInTIdeal.nD OdInTIdeal.τ).loc OdInTIdeal.main_arg3)) (m ((c.tc : Thread OdInTIdeal.nD OdInTIdeal.τ).loc OdInTIdeal.main_arg4)), fun c => OdInTRefIdeal.Read.val_main_v45 (F := Ideal) (m ((c.tc : Thread OdInTIdeal.nD OdInTIdeal.τ).loc OdInTIdeal.main_arg0)) (m ((c.tc : Thread OdInTIdeal.nD OdInTIdeal.τ).loc OdInTIdeal.main_arg1)) (m ((c.tc : Thread OdInTIdeal.nD OdInTIdeal.τ).loc OdInTIdeal.main_arg2)) (m ((c.tc : Thread OdInTIdeal.nD OdInTIdeal.τ).loc OdInTIdeal.main_arg3)) (m ((c.tc : Thread OdInTIdeal.nD OdInTIdeal.τ).loc OdInTIdeal.main_arg4)), fun c => OdInTRefIdeal.Read.val_main_v46 (F := Ideal) (m ((c.tc : Thread OdInTIdeal.nD OdInTIdeal.τ).loc OdInTIdeal.main_arg0)) (m ((c.tc : Thread OdInTIdeal.nD OdInTIdeal.τ).loc OdInTIdeal.main_arg1)) (m ((c.tc : Thread OdInTIdeal.nD OdInTIdeal.τ).loc OdInTIdeal.main_arg2)), ?_, ?_⟩
  · exact (θ_run OdInTIdeal.defs _ _).mono (fun _ h c => ⟨(h c).1.trans (OdInTIdeal.Hand.final5 m c), (h c).2.1.trans (OdInTIdeal.Hand.final6 m c), (h c).2.2.1.trans (OdInTIdeal.Hand.final7 m c), (h c).2.2.2⟩)
      (OdInTIdeal.Value.run_blocks m ρ)
  refine (θ_run OdInTRefIdeal.defs _ _).mono (fun _ h c => ⟨(h c).1.trans ?_, (h c).2.1.trans ?_, (h c).2.2.1.trans ?_, (h c).2.2.2⟩) (OdInTRefIdeal.Value.run (F := Ideal) m' ρ')
  · rw [OdInTRefIdeal.Read.val_main_v42_eq, (hagree c).1, (hagree c).2.1, (hagree c).2.2.1, (hagree c).2.2.2.1, (hagree c).2.2.2.2]
  · rw [OdInTRefIdeal.Read.val_main_v45_eq, (hagree c).1, (hagree c).2.1, (hagree c).2.2.1, (hagree c).2.2.2.1, (hagree c).2.2.2.2]
  · rw [(hagree c).1, (hagree c).2.1, (hagree c).2.2.1]
    exact OdInTRefIdeal.Read.val_main_v46_eq (F := Ideal) _ _ _

/-! ## The first product of the feed-forward layer -/

theorem frame_Up : quiescent_Up (hUp := Up.Gen.facts) := fun m ρ _ => Up.Hand.frame (F := Bits) m ρ

theorem frame_UpIdeal : quiescent_UpIdeal (hUpIdeal := UpIdeal.Gen.facts) := fun m ρ _ => UpIdeal.Hand.frame (F := Ideal) m ρ

theorem frame_UpRefIdeal : quiescent_UpRefIdeal (hUpRefIdeal := UpRefIdeal.Gen.facts) := fun m ρ _ =>
  (θ_run UpRefIdeal.defs _ _).mono (fun r h => ⟨fun c => (h c).2.2.2, sem_eq_zero_of_no_sems (by decide) r.2⟩)
    (UpRefIdeal.Value.run (F := Ideal) m ρ)

theorem algebraic_Up : algebraic_UpIdeal_UpRefIdeal (hUpIdeal := UpIdeal.Gen.facts) (hUpRefIdeal := UpRefIdeal.Gen.facts) := by
  intro m ρ m' ρ' _ hagree
  refine ⟨fun c => UpRefIdeal.Read.val_main_v15 (F := Ideal) (m ((c.tc : Thread UpIdeal.nD UpIdeal.τ).loc UpIdeal.main_arg0)) (m ((c.tc : Thread UpIdeal.nD UpIdeal.τ).loc UpIdeal.main_arg1)), fun c => UpRefIdeal.Read.val_main_v16 (F := Ideal) (m ((c.tc : Thread UpIdeal.nD UpIdeal.τ).loc UpIdeal.main_arg0)) (m ((c.tc : Thread UpIdeal.nD UpIdeal.τ).loc UpIdeal.main_arg1)) (m ((c.tc : Thread UpIdeal.nD UpIdeal.τ).loc UpIdeal.main_arg2)), fun c => UpRefIdeal.Read.val_main_v18 (F := Ideal) (m ((c.tc : Thread UpIdeal.nD UpIdeal.τ).loc UpIdeal.main_arg0)) (m ((c.tc : Thread UpIdeal.nD UpIdeal.τ).loc UpIdeal.main_arg1)) (m ((c.tc : Thread UpIdeal.nD UpIdeal.τ).loc UpIdeal.main_arg2)), UpIdeal.Hand.run_values m ρ, ?_⟩
  refine (θ_run UpRefIdeal.defs _ _).mono (fun _ h c => ⟨(h c).1.trans ?_, (h c).2.1.trans ?_, (h c).2.2.1.trans ?_, (h c).2.2.2⟩) (UpRefIdeal.Value.run (F := Ideal) m' ρ')
  · rw [(hagree c).1, (hagree c).2.1]
    exact UpRefIdeal.Read.val_main_v15_eq (F := Ideal) _ _
  · rw [(hagree c).1, (hagree c).2.1, (hagree c).2.2]
    exact UpRefIdeal.Read.val_main_v16_eq (F := Ideal) _ _ _
  · rw [(hagree c).1, (hagree c).2.1, (hagree c).2.2]
    exact UpRefIdeal.Read.val_main_v18_eq (F := Ideal) _ _ _

/-! ## The input product of an even layer -/

theorem frame_EvIn : quiescent_EvIn (hEvIn := EvIn.Gen.facts) := fun m ρ _ => EvIn.Hand.frame (F := Bits) m ρ

theorem frame_EvInIdeal : quiescent_EvInIdeal (hEvInIdeal := EvInIdeal.Gen.facts) := fun m ρ _ => EvInIdeal.Hand.frame (F := Ideal) m ρ

theorem frame_EvInRefIdeal : quiescent_EvInRefIdeal (hEvInRefIdeal := EvInRefIdeal.Gen.facts) := fun m ρ _ =>
  (θ_run EvInRefIdeal.defs _ _).mono (fun r h => ⟨fun c => (h c).2.2, sem_eq_zero_of_no_sems (by decide) r.2⟩)
    (EvInRefIdeal.Value.run (F := Ideal) m ρ)

theorem algebraic_EvIn : algebraic_EvInIdeal_EvInRefIdeal (hEvInIdeal := EvInIdeal.Gen.facts) (hEvInRefIdeal := EvInRefIdeal.Gen.facts) := by
  intro m ρ m' ρ' _ hagree
  refine ⟨fun c => EvInRefIdeal.Read.val_main_v13 (F := Ideal) (m ((c.tc : Thread EvInIdeal.nD EvInIdeal.τ).loc EvInIdeal.main_arg0)) (m ((c.tc : Thread EvInIdeal.nD EvInIdeal.τ).loc EvInIdeal.main_arg1)), fun c => EvInRefIdeal.Read.val_main_v14 (F := Ideal) (m ((c.tc : Thread EvInIdeal.nD EvInIdeal.τ).loc EvInIdeal.main_arg0)) (m ((c.tc : Thread EvInIdeal.nD EvInIdeal.τ).loc EvInIdeal.main_arg1)) (m ((c.tc : Thread EvInIdeal.nD EvInIdeal.τ).loc EvInIdeal.main_arg2)), EvInIdeal.Hand.run_values m ρ, ?_⟩
  refine (θ_run EvInRefIdeal.defs _ _).mono (fun _ h c => ⟨(h c).1.trans ?_, (h c).2.1.trans ?_, (h c).2.2⟩) (EvInRefIdeal.Value.run (F := Ideal) m' ρ')
  · rw [(hagree c).1, (hagree c).2.1]
    exact EvInRefIdeal.Read.val_main_v13_eq (F := Ideal) _ _
  · rw [(hagree c).1, (hagree c).2.1, (hagree c).2.2]
    exact EvInRefIdeal.Read.val_main_v14_eq (F := Ideal) _ _ _

/-! ## The input product of an odd layer -/

theorem frame_OdIn : quiescent_OdIn (hOdIn := OdIn.Gen.facts) := fun m ρ _ => OdIn.Hand.frame (F := Bits) m ρ

theorem frame_OdInIdeal : quiescent_OdInIdeal (hOdInIdeal := OdInIdeal.Gen.facts) := fun m ρ _ => OdInIdeal.Hand.frame (F := Ideal) m ρ

theorem frame_OdInRefIdeal : quiescent_OdInRefIdeal (hOdInRefIdeal := OdInRefIdeal.Gen.facts) := fun m ρ _ =>
  (θ_run OdInRefIdeal.defs _ _).mono (fun r h => ⟨fun c => (h c).2.2, sem_eq_zero_of_no_sems (by decide) r.2⟩)
    (OdInRefIdeal.Value.run (F := Ideal) m ρ)

theorem algebraic_OdIn : algebraic_OdInIdeal_OdInRefIdeal (hOdInIdeal := OdInIdeal.Gen.facts) (hOdInRefIdeal := OdInRefIdeal.Gen.facts) := by
  intro m ρ m' ρ' _ hagree
  refine ⟨fun c => OdInRefIdeal.Read.val_main_v13 (F := Ideal) (m ((c.tc : Thread OdInIdeal.nD OdInIdeal.τ).loc OdInIdeal.main_arg0)) (m ((c.tc : Thread OdInIdeal.nD OdInIdeal.τ).loc OdInIdeal.main_arg1)), fun c => OdInRefIdeal.Read.val_main_v14 (F := Ideal) (m ((c.tc : Thread OdInIdeal.nD OdInIdeal.τ).loc OdInIdeal.main_arg0)) (m ((c.tc : Thread OdInIdeal.nD OdInIdeal.τ).loc OdInIdeal.main_arg1)) (m ((c.tc : Thread OdInIdeal.nD OdInIdeal.τ).loc OdInIdeal.main_arg2)), OdInIdeal.Hand.run_values m ρ, ?_⟩
  refine (θ_run OdInRefIdeal.defs _ _).mono (fun _ h c => ⟨(h c).1.trans ?_, (h c).2.1.trans ?_, (h c).2.2⟩) (OdInRefIdeal.Value.run (F := Ideal) m' ρ')
  · rw [(hagree c).1, (hagree c).2.1]
    exact OdInRefIdeal.Read.val_main_v13_eq (F := Ideal) _ _
  · rw [(hagree c).1, (hagree c).2.1, (hagree c).2.2]
    exact OdInRefIdeal.Read.val_main_v14_eq (F := Ideal) _ _ _

/-! ## The optimiser's step of the output projections -/

theorem frame_OptOut : quiescent_OptOut (hOptOut := OptOut.Gen.facts) := fun m ρ _ => OptOut.Gen.frame (F := Bits) m ρ

theorem frame_OptOutIdeal : quiescent_OptOutIdeal (hOptOutIdeal := OptOutIdeal.Gen.facts) := fun m ρ _ => OptOutIdeal.Gen.frame (F := Ideal) m ρ

theorem frame_OptOutRefIdeal : quiescent_OptOutRefIdeal (hOptOutRefIdeal := OptOutRefIdeal.Gen.facts) := fun m ρ _ =>
  (θ_run OptOutRefIdeal.defs _ _).mono (fun r h => ⟨fun c => (h c).2.2.2.2, sem_eq_zero_of_no_sems (by decide) r.2⟩)
    (OptOutRefIdeal.Value.run (F := Ideal) m ρ)

theorem algebraic_OptOut : algebraic_OptOutIdeal_OptOutRefIdeal (hOptOutIdeal := OptOutIdeal.Gen.facts) (hOptOutRefIdeal := OptOutRefIdeal.Gen.facts) := by
  intro m ρ m' ρ' _ hagree
  refine ⟨OptOutIdeal.Hand.G4 m, OptOutIdeal.Hand.G5 m, OptOutIdeal.Hand.G6 m, OptOutIdeal.Hand.G7 m, OptOutIdeal.Hand.run_values m ρ, ?_⟩
  refine (θ_run OptOutRefIdeal.defs _ _).mono (fun _ h c => ⟨(h c).1.trans ?_, (h c).2.1.trans ?_, (h c).2.2.1.trans ?_, (h c).2.2.2.1.trans ?_, (h c).2.2.2.2⟩) (OptOutRefIdeal.Value.run (F := Ideal) m' ρ')
  · unfold OptOutIdeal.Hand.G4
    rw [(hagree c).1, (hagree c).2.1]
    exact OptOutRefIdeal.Read.val_main_v4_eq (F := Ideal) _ _
  · unfold OptOutIdeal.Hand.G5
    rw [(hagree c).1, (hagree c).2.1, (hagree c).2.2.1, (hagree c).2.2.2.1, (hagree c).2.2.2.2.1]
    exact OptOutRefIdeal.Read.val_main_v28_eq (F := Ideal) _ _ _ _ _
  · unfold OptOutIdeal.Hand.G6
    rw [(hagree c).1, (hagree c).2.1, (hagree c).2.2.2.1]
    exact OptOutRefIdeal.Read.val_main_v9_eq (F := Ideal) _ _ _
  · unfold OptOutIdeal.Hand.G7
    rw [(hagree c).1, (hagree c).2.1, (hagree c).2.2.2.2.1]
    exact OptOutRefIdeal.Read.val_main_v15_eq (F := Ideal) _ _ _

/-! ## The optimiser's step of the input projections, even layers -/

theorem frame_OptEvIn : quiescent_OptEvIn (hOptEvIn := OptEvIn.Gen.facts) := fun m ρ _ => OptEvIn.Gen.frame (F := Bits) m ρ

theorem frame_OptEvInIdeal : quiescent_OptEvInIdeal (hOptEvInIdeal := OptEvInIdeal.Gen.facts) := fun m ρ _ => OptEvInIdeal.Gen.frame (F := Ideal) m ρ

theorem frame_OptEvInRefIdeal : quiescent_OptEvInRefIdeal (hOptEvInRefIdeal := OptEvInRefIdeal.Gen.facts) := fun m ρ _ =>
  (θ_run OptEvInRefIdeal.defs _ _).mono (fun r h => ⟨fun c => (h c).2.2.2.2, sem_eq_zero_of_no_sems (by decide) r.2⟩)
    (OptEvInRefIdeal.Value.run (F := Ideal) m ρ)

theorem algebraic_OptEvIn : algebraic_OptEvInIdeal_OptEvInRefIdeal (hOptEvInIdeal := OptEvInIdeal.Gen.facts) (hOptEvInRefIdeal := OptEvInRefIdeal.Gen.facts) := by
  intro m ρ m' ρ' _ hagree
  refine ⟨OptEvInIdeal.Hand.G4 m, OptEvInIdeal.Hand.G5 m, OptEvInIdeal.Hand.G6 m, OptEvInIdeal.Hand.G7 m, OptEvInIdeal.Hand.run_values m ρ, ?_⟩
  refine (θ_run OptEvInRefIdeal.defs _ _).mono (fun _ h c => ⟨(h c).1.trans ?_, (h c).2.1.trans ?_, (h c).2.2.1.trans ?_, (h c).2.2.2.1.trans ?_, (h c).2.2.2.2⟩) (OptEvInRefIdeal.Value.run (F := Ideal) m' ρ')
  · unfold OptEvInIdeal.Hand.G4
    rw [(hagree c).1, (hagree c).2.1]
    exact OptEvInRefIdeal.Read.val_main_v4_eq (F := Ideal) _ _
  · unfold OptEvInIdeal.Hand.G5
    rw [(hagree c).1, (hagree c).2.1, (hagree c).2.2.1, (hagree c).2.2.2.1, (hagree c).2.2.2.2.1]
    exact OptEvInRefIdeal.Read.val_main_v28_eq (F := Ideal) _ _ _ _ _
  · unfold OptEvInIdeal.Hand.G6
    rw [(hagree c).1, (hagree c).2.1, (hagree c).2.2.2.1]
    exact OptEvInRefIdeal.Read.val_main_v9_eq (F := Ideal) _ _ _
  · unfold OptEvInIdeal.Hand.G7
    rw [(hagree c).1, (hagree c).2.1, (hagree c).2.2.2.2.1]
    exact OptEvInRefIdeal.Read.val_main_v15_eq (F := Ideal) _ _ _

/-! ## The optimiser's step of the input projections, odd layers -/

theorem frame_OptOdIn : quiescent_OptOdIn (hOptOdIn := OptOdIn.Gen.facts) := fun m ρ _ => OptOdIn.Gen.frame (F := Bits) m ρ

theorem frame_OptOdInIdeal : quiescent_OptOdInIdeal (hOptOdInIdeal := OptOdInIdeal.Gen.facts) := fun m ρ _ => OptOdInIdeal.Gen.frame (F := Ideal) m ρ

theorem frame_OptOdInRefIdeal : quiescent_OptOdInRefIdeal (hOptOdInRefIdeal := OptOdInRefIdeal.Gen.facts) := fun m ρ _ =>
  (θ_run OptOdInRefIdeal.defs _ _).mono (fun r h => ⟨fun c => (h c).2.2.2.2, sem_eq_zero_of_no_sems (by decide) r.2⟩)
    (OptOdInRefIdeal.Value.run (F := Ideal) m ρ)

theorem algebraic_OptOdIn : algebraic_OptOdInIdeal_OptOdInRefIdeal (hOptOdInIdeal := OptOdInIdeal.Gen.facts) (hOptOdInRefIdeal := OptOdInRefIdeal.Gen.facts) := by
  intro m ρ m' ρ' _ hagree
  refine ⟨OptOdInIdeal.Hand.G4 m, OptOdInIdeal.Hand.G5 m, OptOdInIdeal.Hand.G6 m, OptOdInIdeal.Hand.G7 m, OptOdInIdeal.Hand.run_values m ρ, ?_⟩
  refine (θ_run OptOdInRefIdeal.defs _ _).mono (fun _ h c => ⟨(h c).1.trans ?_, (h c).2.1.trans ?_, (h c).2.2.1.trans ?_, (h c).2.2.2.1.trans ?_, (h c).2.2.2.2⟩) (OptOdInRefIdeal.Value.run (F := Ideal) m' ρ')
  · unfold OptOdInIdeal.Hand.G4
    rw [(hagree c).1, (hagree c).2.1]
    exact OptOdInRefIdeal.Read.val_main_v4_eq (F := Ideal) _ _
  · unfold OptOdInIdeal.Hand.G5
    rw [(hagree c).1, (hagree c).2.1, (hagree c).2.2.1, (hagree c).2.2.2.1, (hagree c).2.2.2.2.1]
    exact OptOdInRefIdeal.Read.val_main_v28_eq (F := Ideal) _ _ _ _ _
  · unfold OptOdInIdeal.Hand.G6
    rw [(hagree c).1, (hagree c).2.1, (hagree c).2.2.2.1]
    exact OptOdInRefIdeal.Read.val_main_v9_eq (F := Ideal) _ _ _
  · unfold OptOdInIdeal.Hand.G7
    rw [(hagree c).1, (hagree c).2.1, (hagree c).2.2.2.2.1]
    exact OptOdInRefIdeal.Read.val_main_v15_eq (F := Ideal) _ _ _

/-! ## The optimiser's step of the first feed-forward weights -/

theorem frame_OptW1 : quiescent_OptW1 (hOptW1 := OptW1.Gen.facts) := fun m ρ _ => OptW1.Gen.frame (F := Bits) m ρ

theorem frame_OptW1Ideal : quiescent_OptW1Ideal (hOptW1Ideal := OptW1Ideal.Gen.facts) := fun m ρ _ => OptW1Ideal.Gen.frame (F := Ideal) m ρ

theorem frame_OptW1RefIdeal : quiescent_OptW1RefIdeal (hOptW1RefIdeal := OptW1RefIdeal.Gen.facts) := fun m ρ _ =>
  (θ_run OptW1RefIdeal.defs _ _).mono (fun r h => ⟨fun c => (h c).2.2.2.2, sem_eq_zero_of_no_sems (by decide) r.2⟩)
    (OptW1RefIdeal.Value.run (F := Ideal) m ρ)

theorem algebraic_OptW1 : algebraic_OptW1Ideal_OptW1RefIdeal (hOptW1Ideal := OptW1Ideal.Gen.facts) (hOptW1RefIdeal := OptW1RefIdeal.Gen.facts) := by
  intro m ρ m' ρ' _ hagree
  refine ⟨OptW1Ideal.Hand.G4 m, OptW1Ideal.Hand.G5 m, OptW1Ideal.Hand.G6 m, OptW1Ideal.Hand.G7 m, OptW1Ideal.Hand.run_values m ρ, ?_⟩
  refine (θ_run OptW1RefIdeal.defs _ _).mono (fun _ h c => ⟨(h c).1.trans ?_, (h c).2.1.trans ?_, (h c).2.2.1.trans ?_, (h c).2.2.2.1.trans ?_, (h c).2.2.2.2⟩) (OptW1RefIdeal.Value.run (F := Ideal) m' ρ')
  · unfold OptW1Ideal.Hand.G4
    rw [(hagree c).1, (hagree c).2.1, (hagree c).2.2.1, (hagree c).2.2.2.1]
    exact OptW1RefIdeal.Read.val_main_v8_eq (F := Ideal) _ _ _ _
  · refine (OptW1RefIdeal.Read.val_main_v32_eq (F := Ideal) m' c).trans ?_
    unfold OptW1Ideal.Hand.G5
    rw [(hagree c).1, (hagree c).2.1, (hagree c).2.2.1, (hagree c).2.2.2.1, (hagree c).2.2.2.2.1, (hagree c).2.2.2.2.2.1, (hagree c).2.2.2.2.2.2.1]
  · unfold OptW1Ideal.Hand.G6
    rw [(hagree c).1, (hagree c).2.1, (hagree c).2.2.1, (hagree c).2.2.2.1, (hagree c).2.2.2.2.2.1]
    exact OptW1RefIdeal.Read.val_main_v13_eq (F := Ideal) _ _ _ _ _
  · unfold OptW1Ideal.Hand.G7
    rw [(hagree c).1, (hagree c).2.1, (hagree c).2.2.1, (hagree c).2.2.2.1, (hagree c).2.2.2.2.2.2.1]
    exact OptW1RefIdeal.Read.val_main_v19_eq (F := Ideal) _ _ _ _ _

/-! ## The optimiser's step of the second feed-forward weights -/

theorem frame_OptW2 : quiescent_OptW2 (hOptW2 := OptW2.Gen.facts) := fun m ρ _ => OptW2.Gen.frame (F := Bits) m ρ

theorem frame_OptW2Ideal : quiescent_OptW2Ideal (hOptW2Ideal := OptW2Ideal.Gen.facts) := fun m ρ _ => OptW2Ideal.Gen.frame (F := Ideal) m ρ

theorem frame_OptW2RefIdeal : quiescent_OptW2RefIdeal (hOptW2RefIdeal := OptW2RefIdeal.Gen.facts) := fun m ρ _ =>
  (θ_run OptW2RefIdeal.defs _ _).mono (fun r h => ⟨fun c => (h c).2.2.2.2, sem_eq_zero_of_no_sems (by decide) r.2⟩)
    (OptW2RefIdeal.Value.run (F := Ideal) m ρ)

theorem algebraic_OptW2 : algebraic_OptW2Ideal_OptW2RefIdeal (hOptW2Ideal := OptW2Ideal.Gen.facts) (hOptW2RefIdeal := OptW2RefIdeal.Gen.facts) := by
  intro m ρ m' ρ' _ hagree
  refine ⟨OptW2Ideal.Hand.G4 m, OptW2Ideal.Hand.G5 m, OptW2Ideal.Hand.G6 m, OptW2Ideal.Hand.G7 m, OptW2Ideal.Hand.run_values m ρ, ?_⟩
  refine (θ_run OptW2RefIdeal.defs _ _).mono (fun _ h c => ⟨(h c).1.trans ?_, (h c).2.1.trans ?_, (h c).2.2.1.trans ?_, (h c).2.2.2.1.trans ?_, (h c).2.2.2.2⟩) (OptW2RefIdeal.Value.run (F := Ideal) m' ρ')
  · unfold OptW2Ideal.Hand.G4
    rw [(hagree c).1, (hagree c).2.1, (hagree c).2.2.1, (hagree c).2.2.2.1]
    exact OptW2RefIdeal.Read.val_main_v8_eq (F := Ideal) _ _ _ _
  · refine (OptW2RefIdeal.Read.val_main_v32_eq (F := Ideal) m' c).trans ?_
    unfold OptW2Ideal.Hand.G5
    rw [(hagree c).1, (hagree c).2.1, (hagree c).2.2.1, (hagree c).2.2.2.1, (hagree c).2.2.2.2.1, (hagree c).2.2.2.2.2.1, (hagree c).2.2.2.2.2.2.1]
  · unfold OptW2Ideal.Hand.G6
    rw [(hagree c).1, (hagree c).2.1, (hagree c).2.2.1, (hagree c).2.2.2.1, (hagree c).2.2.2.2.2.1]
    exact OptW2RefIdeal.Read.val_main_v13_eq (F := Ideal) _ _ _ _ _
  · unfold OptW2Ideal.Hand.G7
    rw [(hagree c).1, (hagree c).2.1, (hagree c).2.2.1, (hagree c).2.2.2.1, (hagree c).2.2.2.2.2.2.1]
    exact OptW2RefIdeal.Read.val_main_v19_eq (F := Ideal) _ _ _ _ _

/-! ## The optimiser's step of the small parameters -/

theorem frame_OptSmallRefIdeal : quiescent_OptSmallRefIdeal (hOptSmallRefIdeal := OptSmallRefIdeal.Gen.facts) := fun m ρ _ =>
  (θ_run OptSmallRefIdeal.defs _ _).mono (fun r h => ⟨fun c => (h c).2.2.2.2, sem_eq_zero_of_no_sems (by decide) r.2⟩)
    (OptSmallRefIdeal.Value.run (F := Ideal) m ρ)

theorem algebraic_OptSmall : algebraic_OptSmallIdeal_OptSmallRefIdeal (hOptSmallIdeal := OptSmallIdeal.Gen.facts) (hOptSmallRefIdeal := OptSmallRefIdeal.Gen.facts) := by
  intro m ρ m' ρ' _ hagree
  refine ⟨OptSmallIdeal.Hand.G4 m, OptSmallIdeal.Hand.G5 m, OptSmallIdeal.Hand.G6 m, OptSmallIdeal.Hand.G7 m, ?_, ?_⟩
  · exact (θ_run OptSmallIdeal.defs _ _).mono (fun _ h c => ⟨(h c).1.trans (OptSmallIdeal.Hand.final4 m c), (h c).2.1.trans (OptSmallIdeal.Hand.final5 m c), (h c).2.2.1.trans (OptSmallIdeal.Hand.final6 m c), (h c).2.2.2.1.trans (OptSmallIdeal.Hand.final7 m c), (h c).2.2.2.2⟩)
      (OptSmallIdeal.Value.run_blocks m ρ)
  refine (θ_run OptSmallRefIdeal.defs _ _).mono (fun _ h c => ⟨(h c).1.trans ?_, (h c).2.1.trans ?_, (h c).2.2.1.trans ?_, (h c).2.2.2.1.trans ?_, (h c).2.2.2.2⟩) (OptSmallRefIdeal.Value.run (F := Ideal) m' ρ')
  · unfold OptSmallIdeal.Hand.G4
    rw [(hagree c).1]
    exact OptSmallRefIdeal.Read.val_main_v1_eq (F := Ideal) _
  · unfold OptSmallIdeal.Hand.G5
    rw [(hagree c).1, (hagree c).2.1, (hagree c).2.2.1, (hagree c).2.2.2.1]
    exact OptSmallRefIdeal.Read.val_main_v25_eq (F := Ideal) _ _ _ _
  · unfold OptSmallIdeal.Hand.G6
    rw [(hagree c).1, (hagree c).2.2.1]
    exact OptSmallRefIdeal.Read.val_main_v6_eq (F := Ideal) _ _
  · unfold OptSmallIdeal.Hand.G7
    rw [(hagree c).1, (hagree c).2.2.2.1]
    exact OptSmallRefIdeal.Read.val_main_v12_eq (F := Ideal) _ _

/-! ## Loss -/

theorem frame_LossRefIdeal : quiescent_LossRefIdeal (hLossRefIdeal := LossRefIdeal.Gen.facts) := fun m ρ _ =>
  (θ_run LossRefIdeal.defs _ _).mono (fun r h => ⟨fun c => (h c).2.2.2.2, sem_eq_zero_of_no_sems (by decide) r.2⟩)
    (LossRefIdeal.Value.run (F := Ideal) m ρ)

open LossIdeal.Hand LossRefIdeal.Read in
theorem algebraic_Loss : algebraic_LossIdeal_LossRefIdeal (hLossIdeal := LossIdeal.Gen.facts) (hLossRefIdeal := LossRefIdeal.Gen.facts) := by
  intro m ρ m' ρ' _ hagree
  refine ⟨G3 m, G4 m, G5 m, G6 m, ?_, ?_⟩
  · exact (θ_run LossIdeal.defs _ _).mono (fun _ h c => ⟨(h c).1.trans (final3 m c), (h c).2.1.trans (final4 m c), (h c).2.2.1.trans (final5 m c), (h c).2.2.2.1.trans (final6 m c), (h c).2.2.2.2⟩)
      (LossIdeal.Value.run_blocks m ρ)
  refine (θ_run LossRefIdeal.defs _ _).mono (fun _ h c => ⟨(h c).1.trans ?_, (h c).2.1.trans ?_, (h c).2.2.1.trans ?_, (h c).2.2.2.1.trans ?_, (h c).2.2.2.2⟩) (LossRefIdeal.Value.run (F := Ideal) m' ρ')
  · unfold G3
    rw [(hagree c).1, (hagree c).2.1, (hagree c).2.2]
    exact val_main_v53_eq (F := Ideal) _ _ _
  · unfold G4
    rw [val_main_v55_eq, (hagree c).1, (hagree c).2.1, (hagree c).2.2]
  · unfold G5
    rw [val_main_v58_eq, (hagree c).1, (hagree c).2.1, (hagree c).2.2]
  · unfold G6
    rw [(hagree c).1, (hagree c).2.1, (hagree c).2.2]
    exact val_main_v59_eq (F := Ideal) _ _ _

/-! ## Lower bounds -/

theorem frame_LbFwdRefIdeal : quiescent_LbFwdRefIdeal (hLbFwdRefIdeal := LbFwdRefIdeal.Gen.facts) := fun m ρ _ =>
  (θ_run LbFwdRefIdeal.defs _ _).mono (fun r h => ⟨fun c => (h c).2, sem_eq_zero_of_no_sems (by decide) r.2⟩)
    (LbFwdRefIdeal.Value.run (F := Ideal) m ρ)

theorem frame_LbBwdRefIdeal : quiescent_LbBwdRefIdeal (hLbBwdRefIdeal := LbBwdRefIdeal.Gen.facts) := fun m ρ _ =>
  (θ_run LbBwdRefIdeal.defs _ _).mono (fun r h => ⟨fun c => (h c).2, sem_eq_zero_of_no_sems (by decide) r.2⟩)
    (LbBwdRefIdeal.Value.run (F := Ideal) m ρ)

theorem algebraic_LbFwd : algebraic_LbFwdIdeal_LbFwdRefIdeal (hLbFwdIdeal := LbFwdIdeal.Gen.facts) (hLbFwdRefIdeal := LbFwdRefIdeal.Gen.facts) := by
  intro m ρ m' ρ' _ hagree
  refine ⟨_, LbFwdIdeal.Value.run m ρ, ?_⟩
  refine (θ_run LbFwdRefIdeal.defs _ _).mono (fun _ h c => ⟨(h c).1.trans ?_, (h c).2⟩) (LbFwdRefIdeal.Value.run (F := Ideal) m' ρ')
  rw [hagree c]
  exact (LbFwdRefIdeal.Read.val_main_v20_eq (F := Ideal) _).trans (Lb.fwd_eq _)

theorem algebraic_LbBwd : algebraic_LbBwdIdeal_LbBwdRefIdeal (hLbBwdIdeal := LbBwdIdeal.Gen.facts) (hLbBwdRefIdeal := LbBwdRefIdeal.Gen.facts) := by
  intro m ρ m' ρ' _ hagree
  refine ⟨_, LbBwdIdeal.Value.run m ρ, ?_⟩
  refine (θ_run LbBwdRefIdeal.defs _ _).mono (fun _ h c => ⟨(h c).1.trans ?_, (h c).2⟩) (LbBwdRefIdeal.Value.run (F := Ideal) m' ρ')
  rw [(hagree c).1, (hagree c).2]
  exact (LbBwdRefIdeal.Read.val_main_v26_eq (F := Ideal) _ _).trans (Lb.bwd_eq _ _)

theorem claim : Claim :=
  ⟨Kernel.Gen.facts,
    KernelIdeal.Gen.facts,
    PoolRefIdeal.Gen.facts,
    DAct.Gen.facts,
    DActIdeal.Gen.facts,
    DActRefIdeal.Gen.facts,
    DW2.Gen.facts,
    DW2Ideal.Gen.facts,
    DW2RefIdeal.Gen.facts,
    DW1.Gen.facts,
    DW1Ideal.Gen.facts,
    DW1RefIdeal.Gen.facts,
    Down.Gen.facts,
    DownIdeal.Gen.facts,
    DownRefIdeal.Gen.facts,
    OutT.Gen.facts,
    OutTIdeal.Gen.facts,
    OutTRefIdeal.Gen.facts,
    DWOut.Gen.facts,
    DWOutIdeal.Gen.facts,
    DWOutRefIdeal.Gen.facts,
    EvDWIn.Gen.facts,
    EvDWInIdeal.Gen.facts,
    EvDWInRefIdeal.Gen.facts,
    OdDWIn.Gen.facts,
    OdDWInIdeal.Gen.facts,
    OdDWInRefIdeal.Gen.facts,
    MixOut.Gen.facts,
    MixOutIdeal.Gen.facts,
    MixOutRefIdeal.Gen.facts,
    DNorm.Gen.facts,
    DNormIdeal.Gen.facts,
    DNormRefIdeal.Gen.facts,
    EvInT.Gen.facts,
    EvInTIdeal.Gen.facts,
    EvInTRefIdeal.Gen.facts,
    OdInT.Gen.facts,
    OdInTIdeal.Gen.facts,
    OdInTRefIdeal.Gen.facts,
    Up.Gen.facts,
    UpIdeal.Gen.facts,
    UpRefIdeal.Gen.facts,
    EvIn.Gen.facts,
    EvInIdeal.Gen.facts,
    EvInRefIdeal.Gen.facts,
    OdIn.Gen.facts,
    OdInIdeal.Gen.facts,
    OdInRefIdeal.Gen.facts,
    OptOut.Gen.facts,
    OptOutIdeal.Gen.facts,
    OptOutRefIdeal.Gen.facts,
    OptEvIn.Gen.facts,
    OptEvInIdeal.Gen.facts,
    OptEvInRefIdeal.Gen.facts,
    OptOdIn.Gen.facts,
    OptOdInIdeal.Gen.facts,
    OptOdInRefIdeal.Gen.facts,
    OptW1.Gen.facts,
    OptW1Ideal.Gen.facts,
    OptW1RefIdeal.Gen.facts,
    OptW2.Gen.facts,
    OptW2Ideal.Gen.facts,
    OptW2RefIdeal.Gen.facts,
    OptSmall.Gen.facts,
    OptSmallIdeal.Gen.facts,
    OptSmallRefIdeal.Gen.facts,
    Loss.Gen.facts,
    LossIdeal.Gen.facts,
    LossRefIdeal.Gen.facts,
    LbFwd.Gen.facts,
    LbFwdIdeal.Gen.facts,
    LbFwdRefIdeal.Gen.facts,
    LbBwd.Gen.facts,
    LbBwdIdeal.Gen.facts,
    LbBwdRefIdeal.Gen.facts,
    On_pooled_columns.Hand.facts,
    frame_Kernel,
    frame_KernelIdeal,
    frame_PoolRefIdeal,
    fun m ρ _ => DAct.Gen.frame m ρ,
    fun m ρ _ => DActIdeal.Gen.frame m ρ,
    frame_DActRefIdeal,
    fun m ρ _ => DW2.Gen.frame m ρ,
    fun m ρ _ => DW2Ideal.Gen.frame m ρ,
    frame_DW2RefIdeal,
    fun m ρ _ => DW1.Gen.frame m ρ,
    fun m ρ _ => DW1Ideal.Gen.frame m ρ,
    frame_DW1RefIdeal,
    fun m ρ _ => Down.Gen.frame m ρ,
    fun m ρ _ => DownIdeal.Gen.frame m ρ,
    frame_DownRefIdeal,
    fun m ρ _ => OutT.Gen.frame m ρ,
    fun m ρ _ => OutTIdeal.Gen.frame m ρ,
    frame_OutTRefIdeal,
    fun m ρ _ => DWOut.Gen.frame m ρ,
    fun m ρ _ => DWOutIdeal.Gen.frame m ρ,
    frame_DWOutRefIdeal,
    fun m ρ _ => EvDWIn.Gen.frame m ρ,
    fun m ρ _ => EvDWInIdeal.Gen.frame m ρ,
    frame_EvDWInRefIdeal,
    fun m ρ _ => OdDWIn.Gen.frame m ρ,
    fun m ρ _ => OdDWInIdeal.Gen.frame m ρ,
    frame_OdDWInRefIdeal,
    fun m ρ _ => MixOut.Gen.frame m ρ,
    fun m ρ _ => MixOutIdeal.Gen.frame m ρ,
    frame_MixOutRefIdeal,
    fun m ρ _ => DNorm.Gen.frame m ρ,
    fun m ρ _ => DNormIdeal.Gen.frame m ρ,
    frame_DNormRefIdeal,
    fun m ρ _ => EvInT.Gen.frame m ρ,
    fun m ρ _ => EvInTIdeal.Gen.frame m ρ,
    frame_EvInTRefIdeal,
    fun m ρ _ => OdInT.Gen.frame m ρ,
    fun m ρ _ => OdInTIdeal.Gen.frame m ρ,
    frame_OdInTRefIdeal,
    frame_Up,
    frame_UpIdeal,
    frame_UpRefIdeal,
    frame_EvIn,
    frame_EvInIdeal,
    frame_EvInRefIdeal,
    frame_OdIn,
    frame_OdInIdeal,
    frame_OdInRefIdeal,
    frame_OptOut,
    frame_OptOutIdeal,
    frame_OptOutRefIdeal,
    frame_OptEvIn,
    frame_OptEvInIdeal,
    frame_OptEvInRefIdeal,
    frame_OptOdIn,
    frame_OptOdInIdeal,
    frame_OptOdInRefIdeal,
    frame_OptW1,
    frame_OptW1Ideal,
    frame_OptW1RefIdeal,
    frame_OptW2,
    frame_OptW2Ideal,
    frame_OptW2RefIdeal,
    fun m ρ _ => OptSmall.Gen.frame m ρ,
    fun m ρ _ => OptSmallIdeal.Gen.frame m ρ,
    frame_OptSmallRefIdeal,
    fun m ρ _ => Loss.Gen.frame m ρ,
    fun m ρ _ => LossIdeal.Gen.frame m ρ,
    frame_LossRefIdeal,
    fun m ρ _ => LbFwd.Gen.frame m ρ,
    fun m ρ _ => LbFwdIdeal.Gen.frame m ρ,
    frame_LbFwdRefIdeal,
    fun m ρ _ => LbBwd.Gen.frame m ρ,
    fun m ρ _ => LbBwdIdeal.Gen.frame m ρ,
    frame_LbBwdRefIdeal,
    trivial,
    algebraic_Pool,
    trivial,
    algebraic_DAct,
    trivial,
    algebraic_DW2,
    trivial,
    algebraic_DW1,
    trivial,
    algebraic_Down,
    trivial,
    algebraic_OutT,
    trivial,
    algebraic_DWOut,
    trivial,
    algebraic_EvDWIn,
    trivial,
    algebraic_OdDWIn,
    trivial,
    algebraic_MixOut,
    trivial,
    algebraic_DNorm,
    trivial,
    algebraic_EvInT,
    trivial,
    algebraic_OdInT,
    trivial,
    algebraic_Up,
    trivial,
    algebraic_EvIn,
    trivial,
    algebraic_OdIn,
    trivial,
    algebraic_OptOut,
    trivial,
    algebraic_OptEvIn,
    trivial,
    algebraic_OptOdIn,
    trivial,
    algebraic_OptW1,
    trivial,
    algebraic_OptW2,
    trivial,
    algebraic_OptSmall,
    trivial,
    algebraic_Loss,
    trivial,
    algebraic_LbFwd,
    trivial,
    algebraic_LbBwd⟩

end Cert.Proof

end
